-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_pre_conv [hPre_pre_conv : Cert.Pre_pre_conv.Facts] (m : (ℓ : Loc Cert.ConvIdeal.nD Cert.ConvIdeal.τ Cert.ConvIdeal.sig) → Buf (Elt Ideal) ℓ) : Prop :=
  ∀ c : Dev Cert.ConvIdeal.nD,
    (Cert.Pre_pre_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5)) (m ((c.tc : Thread Cert.ConvIdeal.nD Cert.ConvIdeal.τ).loc Cert.ConvIdeal.main_arg6))).1 = (fun _ => 1#1)
    ∧ (Cert.Pre_pre_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5)) (m ((c.tc : Thread Cert.ConvIdeal.nD Cert.ConvIdeal.τ).loc Cert.ConvIdeal.main_arg6))).2.1 = (fun _ => 1#1)
    ∧ (Cert.Pre_pre_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5)) (m ((c.tc : Thread Cert.ConvIdeal.nD Cert.ConvIdeal.τ).loc Cert.ConvIdeal.main_arg6))).2.2 = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_pre_conv [hPre_pre_conv : Cert.Pre_pre_conv.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_pre_conv.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5)) (m ((c.tc : Thread Cert.ConvRefIdeal.nD Cert.ConvRefIdeal.τ).loc Cert.ConvRefIdeal.main_arg6))).1 = (fun _ => 1#1)
    ∧ (Cert.Pre_pre_conv.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5)) (m ((c.tc : Thread Cert.ConvRefIdeal.nD Cert.ConvRefIdeal.τ).loc Cert.ConvRefIdeal.main_arg6))).2.1 = (fun _ => 1#1)
    ∧ (Cert.Pre_pre_conv.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5)) (m ((c.tc : Thread Cert.ConvRefIdeal.nD Cert.ConvRefIdeal.τ).loc Cert.ConvRefIdeal.main_arg6))).2.2 = (fun _ => 1#1)

def Pre_NormQ (m : (ℓ : Loc Cert.NormQ.nD Cert.NormQ.τ Cert.NormQ.sig) → Buf (Elt Bits) ℓ) : Prop :=
  True

def Pre_NormQIdeal (m : (ℓ : Loc Cert.NormQIdeal.nD Cert.NormQIdeal.τ Cert.NormQIdeal.sig) → Buf (Elt Ideal) ℓ) : Prop :=
  True

def Pre_NormQIdeal_pre_norm_q [hPre_pre_norm_q : Cert.Pre_pre_norm_q.Facts] (m : (ℓ : Loc Cert.NormQIdeal.nD Cert.NormQIdeal.τ Cert.NormQIdeal.sig) → Buf (Elt Ideal) ℓ) : Prop :=
  ∀ c : Dev Cert.NormQIdeal.nD,
    (Cert.Pre_pre_norm_q.fn (F := Ideal) (m ((c.tc : Thread Cert.NormQIdeal.nD Cert.NormQIdeal.τ).loc Cert.NormQIdeal.main_arg0)) (m ((c.tc : Thread Cert.NormQIdeal.nD Cert.NormQIdeal.τ).loc Cert.NormQIdeal.main_arg1)) (m ((c.tc : Thread Cert.NormQIdeal.nD Cert.NormQIdeal.τ).loc Cert.NormQIdeal.main_arg2)) (m ((c.tc : Thread Cert.NormQIdeal.nD Cert.NormQIdeal.τ).loc Cert.NormQIdeal.main_arg3)) (m ((c.tc : Thread Cert.NormQIdeal.nD Cert.NormQIdeal.τ).loc Cert.NormQIdeal.main_arg4))).1 = (fun _ => 1#1)
    ∧ (Cert.Pre_pre_norm_q.fn (F := Ideal) (m ((c.tc : Thread Cert.NormQIdeal.nD Cert.NormQIdeal.τ).loc Cert.NormQIdeal.main_arg0)) (m ((c.tc : Thread Cert.NormQIdeal.nD Cert.NormQIdeal.τ).loc Cert.NormQIdeal.main_arg1)) (m ((c.tc : Thread Cert.NormQIdeal.nD Cert.NormQIdeal.τ).loc Cert.NormQIdeal.main_arg2)) (m ((c.tc : Thread Cert.NormQIdeal.nD Cert.NormQIdeal.τ).loc Cert.NormQIdeal.main_arg3)) (m ((c.tc : Thread Cert.NormQIdeal.nD Cert.NormQIdeal.τ).loc Cert.NormQIdeal.main_arg4))).2.1 = (fun _ => 1#1)
    ∧ (Cert.Pre_pre_norm_q.fn (F := Ideal) (m ((c.tc : Thread Cert.NormQIdeal.nD Cert.NormQIdeal.τ).loc Cert.NormQIdeal.main_arg0)) (m ((c.tc : Thread Cert.NormQIdeal.nD Cert.NormQIdeal.τ).loc Cert.NormQIdeal.main_arg1)) (m ((c.tc : Thread Cert.NormQIdeal.nD Cert.NormQIdeal.τ).loc Cert.NormQIdeal.main_arg2)) (m ((c.tc : Thread Cert.NormQIdeal.nD Cert.NormQIdeal.τ).loc Cert.NormQIdeal.main_arg3)) (m ((c.tc : Thread Cert.NormQIdeal.nD Cert.NormQIdeal.τ).loc Cert.NormQIdeal.main_arg4))).2.2.1 = (fun _ => 1#1)
    ∧ (Cert.Pre_pre_norm_q.fn (F := Ideal) (m ((c.tc : Thread Cert.NormQIdeal.nD Cert.NormQIdeal.τ).loc Cert.NormQIdeal.main_arg0)) (m ((c.tc : Thread Cert.NormQIdeal.nD Cert.NormQIdeal.τ).loc Cert.NormQIdeal.main_arg1)) (m ((c.tc : Thread Cert.NormQIdeal.nD Cert.NormQIdeal.τ).loc Cert.NormQIdeal.main_arg2)) (m ((c.tc : Thread Cert.NormQIdeal.nD Cert.NormQIdeal.τ).loc Cert.NormQIdeal.main_arg3)) (m ((c.tc : Thread Cert.NormQIdeal.nD Cert.NormQIdeal.τ).loc Cert.NormQIdeal.main_arg4))).2.2.2 = (fun _ => 1#1)

def Pre_NormQRefIdeal (m : (ℓ : Loc Cert.NormQRefIdeal.nD Cert.NormQRefIdeal.τ Cert.NormQRefIdeal.sig) → Buf (Elt Ideal) ℓ) : Prop :=
  True

def Pre_NormQRefIdeal_pre_norm_q [hPre_pre_norm_q : Cert.Pre_pre_norm_q.Facts] (m : (ℓ : Loc Cert.NormQRefIdeal.nD Cert.NormQRefIdeal.τ Cert.NormQRefIdeal.sig) → Buf (Elt Ideal) ℓ) : Prop :=
  ∀ c : Dev Cert.NormQRefIdeal.nD,
    (Cert.Pre_pre_norm_q.fn (F := Ideal) (m ((c.tc : Thread Cert.NormQRefIdeal.nD Cert.NormQRefIdeal.τ).loc Cert.NormQRefIdeal.main_arg0)) (m ((c.tc : Thread Cert.NormQRefIdeal.nD Cert.NormQRefIdeal.τ).loc Cert.NormQRefIdeal.main_arg1)) (m ((c.tc : Thread Cert.NormQRefIdeal.nD Cert.NormQRefIdeal.τ).loc Cert.NormQRefIdeal.main_arg2)) (m ((c.tc : Thread Cert.NormQRefIdeal.nD Cert.NormQRefIdeal.τ).loc Cert.NormQRefIdeal.main_arg3)) (m ((c.tc : Thread Cert.NormQRefIdeal.nD Cert.NormQRefIdeal.τ).loc Cert.NormQRefIdeal.main_arg4))).1 = (fun _ => 1#1)
    ∧ (Cert.Pre_pre_norm_q.fn (F := Ideal) (m ((c.tc : Thread Cert.NormQRefIdeal.nD Cert.NormQRefIdeal.τ).loc Cert.NormQRefIdeal.main_arg0)) (m ((c.tc : Thread Cert.NormQRefIdeal.nD Cert.NormQRefIdeal.τ).loc Cert.NormQRefIdeal.main_arg1)) (m ((c.tc : Thread Cert.NormQRefIdeal.nD Cert.NormQRefIdeal.τ).loc Cert.NormQRefIdeal.main_arg2)) (m ((c.tc : Thread Cert.NormQRefIdeal.nD Cert.NormQRefIdeal.τ).loc Cert.NormQRefIdeal.main_arg3)) (m ((c.tc : Thread Cert.NormQRefIdeal.nD Cert.NormQRefIdeal.τ).loc Cert.NormQRefIdeal.main_arg4))).2.1 = (fun _ => 1#1)
    ∧ (Cert.Pre_pre_norm_q.fn (F := Ideal) (m ((c.tc : Thread Cert.NormQRefIdeal.nD Cert.NormQRefIdeal.τ).loc Cert.NormQRefIdeal.main_arg0)) (m ((c.tc : Thread Cert.NormQRefIdeal.nD Cert.NormQRefIdeal.τ).loc Cert.NormQRefIdeal.main_arg1)) (m ((c.tc : Thread Cert.NormQRefIdeal.nD Cert.NormQRefIdeal.τ).loc Cert.NormQRefIdeal.main_arg2)) (m ((c.tc : Thread Cert.NormQRefIdeal.nD Cert.NormQRefIdeal.τ).loc Cert.NormQRefIdeal.main_arg3)) (m ((c.tc : Thread Cert.NormQRefIdeal.nD Cert.NormQRefIdeal.τ).loc Cert.NormQRefIdeal.main_arg4))).2.2.1 = (fun _ => 1#1)
    ∧ (Cert.Pre_pre_norm_q.fn (F := Ideal) (m ((c.tc : Thread Cert.NormQRefIdeal.nD Cert.NormQRefIdeal.τ).loc Cert.NormQRefIdeal.main_arg0)) (m ((c.tc : Thread Cert.NormQRefIdeal.nD Cert.NormQRefIdeal.τ).loc Cert.NormQRefIdeal.main_arg1)) (m ((c.tc : Thread Cert.NormQRefIdeal.nD Cert.NormQRefIdeal.τ).loc Cert.NormQRefIdeal.main_arg2)) (m ((c.tc : Thread Cert.NormQRefIdeal.nD Cert.NormQRefIdeal.τ).loc Cert.NormQRefIdeal.main_arg3)) (m ((c.tc : Thread Cert.NormQRefIdeal.nD Cert.NormQRefIdeal.τ).loc Cert.NormQRefIdeal.main_arg4))).2.2.2 = (fun _ => 1#1)

def Pre_NormKv (m : (ℓ : Loc Cert.NormKv.nD Cert.NormKv.τ Cert.NormKv.sig) → Buf (Elt Bits) ℓ) : Prop :=
  True

def Pre_NormKvIdeal (m : (ℓ : Loc Cert.NormKvIdeal.nD Cert.NormKvIdeal.τ Cert.NormKvIdeal.sig) → Buf (Elt Ideal) ℓ) : Prop :=
  True

def Pre_NormKvIdeal_pre_norm_kv [hPre_pre_norm_kv : Cert.Pre_pre_norm_kv.Facts] (m : (ℓ : Loc Cert.NormKvIdeal.nD Cert.NormKvIdeal.τ Cert.NormKvIdeal.sig) → Buf (Elt Ideal) ℓ) : Prop :=
  ∀ c : Dev Cert.NormKvIdeal.nD,
    (Cert.Pre_pre_norm_kv.fn (F := Ideal) (m ((c.tc : Thread Cert.NormKvIdeal.nD Cert.NormKvIdeal.τ).loc Cert.NormKvIdeal.main_arg0)) (m ((c.tc : Thread Cert.NormKvIdeal.nD Cert.NormKvIdeal.τ).loc Cert.NormKvIdeal.main_arg1)) (m ((c.tc : Thread Cert.NormKvIdeal.nD Cert.NormKvIdeal.τ).loc Cert.NormKvIdeal.main_arg2)) (m ((c.tc : Thread Cert.NormKvIdeal.nD Cert.NormKvIdeal.τ).loc Cert.NormKvIdeal.main_arg3)) (m ((c.tc : Thread Cert.NormKvIdeal.nD Cert.NormKvIdeal.τ).loc Cert.NormKvIdeal.main_arg4))).1 = (fun _ => 1#1)
    ∧ (Cert.Pre_pre_norm_kv.fn (F := Ideal) (m ((c.tc : Thread Cert.NormKvIdeal.nD Cert.NormKvIdeal.τ).loc Cert.NormKvIdeal.main_arg0)) (m ((c.tc : Thread Cert.NormKvIdeal.nD Cert.NormKvIdeal.τ).loc Cert.NormKvIdeal.main_arg1)) (m ((c.tc : Thread Cert.NormKvIdeal.nD Cert.NormKvIdeal.τ).loc Cert.NormKvIdeal.main_arg2)) (m ((c.tc : Thread Cert.NormKvIdeal.nD Cert.NormKvIdeal.τ).loc Cert.NormKvIdeal.main_arg3)) (m ((c.tc : Thread Cert.NormKvIdeal.nD Cert.NormKvIdeal.τ).loc Cert.NormKvIdeal.main_arg4))).2.1 = (fun _ => 1#1)
    ∧ (Cert.Pre_pre_norm_kv.fn (F := Ideal) (m ((c.tc : Thread Cert.NormKvIdeal.nD Cert.NormKvIdeal.τ).loc Cert.NormKvIdeal.main_arg0)) (m ((c.tc : Thread Cert.NormKvIdeal.nD Cert.NormKvIdeal.τ).loc Cert.NormKvIdeal.main_arg1)) (m ((c.tc : Thread Cert.NormKvIdeal.nD Cert.NormKvIdeal.τ).loc Cert.NormKvIdeal.main_arg2)) (m ((c.tc : Thread Cert.NormKvIdeal.nD Cert.NormKvIdeal.τ).loc Cert.NormKvIdeal.main_arg3)) (m ((c.tc : Thread Cert.NormKvIdeal.nD Cert.NormKvIdeal.τ).loc Cert.NormKvIdeal.main_arg4))).2.2.1 = (fun _ => 1#1)
    ∧ (Cert.Pre_pre_norm_kv.fn (F := Ideal) (m ((c.tc : Thread Cert.NormKvIdeal.nD Cert.NormKvIdeal.τ).loc Cert.NormKvIdeal.main_arg0)) (m ((c.tc : Thread Cert.NormKvIdeal.nD Cert.NormKvIdeal.τ).loc Cert.NormKvIdeal.main_arg1)) (m ((c.tc : Thread Cert.NormKvIdeal.nD Cert.NormKvIdeal.τ).loc Cert.NormKvIdeal.main_arg2)) (m ((c.tc : Thread Cert.NormKvIdeal.nD Cert.NormKvIdeal.τ).loc Cert.NormKvIdeal.main_arg3)) (m ((c.tc : Thread Cert.NormKvIdeal.nD Cert.NormKvIdeal.τ).loc Cert.NormKvIdeal.main_arg4))).2.2.2 = (fun _ => 1#1)

def Pre_NormKvRefIdeal (m : (ℓ : Loc Cert.NormKvRefIdeal.nD Cert.NormKvRefIdeal.τ Cert.NormKvRefIdeal.sig) → Buf (Elt Ideal) ℓ) : Prop :=
  True

def Pre_NormKvRefIdeal_pre_norm_kv [hPre_pre_norm_kv : Cert.Pre_pre_norm_kv.Facts] (m : (ℓ : Loc Cert.NormKvRefIdeal.nD Cert.NormKvRefIdeal.τ Cert.NormKvRefIdeal.sig) → Buf (Elt Ideal) ℓ) : Prop :=
  ∀ c : Dev Cert.NormKvRefIdeal.nD,
    (Cert.Pre_pre_norm_kv.fn (F := Ideal) (m ((c.tc : Thread Cert.NormKvRefIdeal.nD Cert.NormKvRefIdeal.τ).loc Cert.NormKvRefIdeal.main_arg0)) (m ((c.tc : Thread Cert.NormKvRefIdeal.nD Cert.NormKvRefIdeal.τ).loc Cert.NormKvRefIdeal.main_arg1)) (m ((c.tc : Thread Cert.NormKvRefIdeal.nD Cert.NormKvRefIdeal.τ).loc Cert.NormKvRefIdeal.main_arg2)) (m ((c.tc : Thread Cert.NormKvRefIdeal.nD Cert.NormKvRefIdeal.τ).loc Cert.NormKvRefIdeal.main_arg3)) (m ((c.tc : Thread Cert.NormKvRefIdeal.nD Cert.NormKvRefIdeal.τ).loc Cert.NormKvRefIdeal.main_arg4))).1 = (fun _ => 1#1)
    ∧ (Cert.Pre_pre_norm_kv.fn (F := Ideal) (m ((c.tc : Thread Cert.NormKvRefIdeal.nD Cert.NormKvRefIdeal.τ).loc Cert.NormKvRefIdeal.main_arg0)) (m ((c.tc : Thread Cert.NormKvRefIdeal.nD Cert.NormKvRefIdeal.τ).loc Cert.NormKvRefIdeal.main_arg1)) (m ((c.tc : Thread Cert.NormKvRefIdeal.nD Cert.NormKvRefIdeal.τ).loc Cert.NormKvRefIdeal.main_arg2)) (m ((c.tc : Thread Cert.NormKvRefIdeal.nD Cert.NormKvRefIdeal.τ).loc Cert.NormKvRefIdeal.main_arg3)) (m ((c.tc : Thread Cert.NormKvRefIdeal.nD Cert.NormKvRefIdeal.τ).loc Cert.NormKvRefIdeal.main_arg4))).2.1 = (fun _ => 1#1)
    ∧ (Cert.Pre_pre_norm_kv.fn (F := Ideal) (m ((c.tc : Thread Cert.NormKvRefIdeal.nD Cert.NormKvRefIdeal.τ).loc Cert.NormKvRefIdeal.main_arg0)) (m ((c.tc : Thread Cert.NormKvRefIdeal.nD Cert.NormKvRefIdeal.τ).loc Cert.NormKvRefIdeal.main_arg1)) (m ((c.tc : Thread Cert.NormKvRefIdeal.nD Cert.NormKvRefIdeal.τ).loc Cert.NormKvRefIdeal.main_arg2)) (m ((c.tc : Thread Cert.NormKvRefIdeal.nD Cert.NormKvRefIdeal.τ).loc Cert.NormKvRefIdeal.main_arg3)) (m ((c.tc : Thread Cert.NormKvRefIdeal.nD Cert.NormKvRefIdeal.τ).loc Cert.NormKvRefIdeal.main_arg4))).2.2.1 = (fun _ => 1#1)
    ∧ (Cert.Pre_pre_norm_kv.fn (F := Ideal) (m ((c.tc : Thread Cert.NormKvRefIdeal.nD Cert.NormKvRefIdeal.τ).loc Cert.NormKvRefIdeal.main_arg0)) (m ((c.tc : Thread Cert.NormKvRefIdeal.nD Cert.NormKvRefIdeal.τ).loc Cert.NormKvRefIdeal.main_arg1)) (m ((c.tc : Thread Cert.NormKvRefIdeal.nD Cert.NormKvRefIdeal.τ).loc Cert.NormKvRefIdeal.main_arg2)) (m ((c.tc : Thread Cert.NormKvRefIdeal.nD Cert.NormKvRefIdeal.τ).loc Cert.NormKvRefIdeal.main_arg3)) (m ((c.tc : Thread Cert.NormKvRefIdeal.nD Cert.NormKvRefIdeal.τ).loc Cert.NormKvRefIdeal.main_arg4))).2.2.2 = (fun _ => 1#1)

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInIdeal_pre_norm_in [hPre_pre_norm_in : Cert.Pre_pre_norm_in.Facts] (m : (ℓ : Loc Cert.NormInIdeal.nD Cert.NormInIdeal.τ Cert.NormInIdeal.sig) → Buf (Elt Ideal) ℓ) : Prop :=
  ∀ c : Dev Cert.NormInIdeal.nD,
    (Cert.Pre_pre_norm_in.fn (F := Ideal) (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3)) (m ((c.tc : Thread Cert.NormInIdeal.nD Cert.NormInIdeal.τ).loc Cert.NormInIdeal.main_arg4))).1 = (fun _ => 1#1)
    ∧ (Cert.Pre_pre_norm_in.fn (F := Ideal) (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3)) (m ((c.tc : Thread Cert.NormInIdeal.nD Cert.NormInIdeal.τ).loc Cert.NormInIdeal.main_arg4))).2.1 = (fun _ => 1#1)
    ∧ (Cert.Pre_pre_norm_in.fn (F := Ideal) (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3)) (m ((c.tc : Thread Cert.NormInIdeal.nD Cert.NormInIdeal.τ).loc Cert.NormInIdeal.main_arg4))).2.2.1 = (fun _ => 1#1)
    ∧ (Cert.Pre_pre_norm_in.fn (F := Ideal) (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3)) (m ((c.tc : Thread Cert.NormInIdeal.nD Cert.NormInIdeal.τ).loc Cert.NormInIdeal.main_arg4))).2.2.2 = (fun _ => 1#1)

def Pre_NormInRefIdeal (m : (ℓ : Loc Cert.NormInRefIdeal.nD Cert.NormInRefIdeal.τ Cert.NormInRefIdeal.sig) → Buf (Elt Ideal) ℓ) : Prop :=
  True

def Pre_NormInRefIdeal_pre_norm_in [hPre_pre_norm_in : Cert.Pre_pre_norm_in.Facts] (m : (ℓ : Loc Cert.NormInRefIdeal.nD Cert.NormInRefIdeal.τ Cert.NormInRefIdeal.sig) → Buf (Elt Ideal) ℓ) : Prop :=
  ∀ c : Dev Cert.NormInRefIdeal.nD,
    (Cert.Pre_pre_norm_in.fn (F := Ideal) (m ((c.tc : Thread Cert.NormInRefIdeal.nD Cert.NormInRefIdeal.τ).loc Cert.NormInRefIdeal.main_arg0)) (m ((c.tc : Thread Cert.NormInRefIdeal.nD Cert.NormInRefIdeal.τ).loc Cert.NormInRefIdeal.main_arg1)) (m ((c.tc : Thread Cert.NormInRefIdeal.nD Cert.NormInRefIdeal.τ).loc Cert.NormInRefIdeal.main_arg2)) (m ((c.tc : Thread Cert.NormInRefIdeal.nD Cert.NormInRefIdeal.τ).loc Cert.NormInRefIdeal.main_arg3)) (m ((c.tc : Thread Cert.NormInRefIdeal.nD Cert.NormInRefIdeal.τ).loc Cert.NormInRefIdeal.main_arg4))).1 = (fun _ => 1#1)
    ∧ (Cert.Pre_pre_norm_in.fn (F := Ideal) (m ((c.tc : Thread Cert.NormInRefIdeal.nD Cert.NormInRefIdeal.τ).loc Cert.NormInRefIdeal.main_arg0)) (m ((c.tc : Thread Cert.NormInRefIdeal.nD Cert.NormInRefIdeal.τ).loc Cert.NormInRefIdeal.main_arg1)) (m ((c.tc : Thread Cert.NormInRefIdeal.nD Cert.NormInRefIdeal.τ).loc Cert.NormInRefIdeal.main_arg2)) (m ((c.tc : Thread Cert.NormInRefIdeal.nD Cert.NormInRefIdeal.τ).loc Cert.NormInRefIdeal.main_arg3)) (m ((c.tc : Thread Cert.NormInRefIdeal.nD Cert.NormInRefIdeal.τ).loc Cert.NormInRefIdeal.main_arg4))).2.1 = (fun _ => 1#1)
    ∧ (Cert.Pre_pre_norm_in.fn (F := Ideal) (m ((c.tc : Thread Cert.NormInRefIdeal.nD Cert.NormInRefIdeal.τ).loc Cert.NormInRefIdeal.main_arg0)) (m ((c.tc : Thread Cert.NormInRefIdeal.nD Cert.NormInRefIdeal.τ).loc Cert.NormInRefIdeal.main_arg1)) (m ((c.tc : Thread Cert.NormInRefIdeal.nD Cert.NormInRefIdeal.τ).loc Cert.NormInRefIdeal.main_arg2)) (m ((c.tc : Thread Cert.NormInRefIdeal.nD Cert.NormInRefIdeal.τ).loc Cert.NormInRefIdeal.main_arg3)) (m ((c.tc : Thread Cert.NormInRefIdeal.nD Cert.NormInRefIdeal.τ).loc Cert.NormInRefIdeal.main_arg4))).2.2.1 = (fun _ => 1#1)
    ∧ (Cert.Pre_pre_norm_in.fn (F := Ideal) (m ((c.tc : Thread Cert.NormInRefIdeal.nD Cert.NormInRefIdeal.τ).loc Cert.NormInRefIdeal.main_arg0)) (m ((c.tc : Thread Cert.NormInRefIdeal.nD Cert.NormInRefIdeal.τ).loc Cert.NormInRefIdeal.main_arg1)) (m ((c.tc : Thread Cert.NormInRefIdeal.nD Cert.NormInRefIdeal.τ).loc Cert.NormInRefIdeal.main_arg2)) (m ((c.tc : Thread Cert.NormInRefIdeal.nD Cert.NormInRefIdeal.τ).loc Cert.NormInRefIdeal.main_arg3)) (m ((c.tc : Thread Cert.NormInRefIdeal.nD Cert.NormInRefIdeal.τ).loc Cert.NormInRefIdeal.main_arg4))).2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_pre_attn_fwd [hPre_pre_attn_fwd : Cert.Pre_pre_attn_fwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_pre_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4)) (m ((c.tc : Thread Cert.AttnFwdIdeal.nD Cert.AttnFwdIdeal.τ).loc Cert.AttnFwdIdeal.main_arg5)) (m ((c.tc : Thread Cert.AttnFwdIdeal.nD Cert.AttnFwdIdeal.τ).loc Cert.AttnFwdIdeal.main_arg6)) (m ((c.tc : Thread Cert.AttnFwdIdeal.nD Cert.AttnFwdIdeal.τ).loc Cert.AttnFwdIdeal.main_arg7))).1 = (fun _ => 1#1)
    ∧ (Cert.Pre_pre_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4)) (m ((c.tc : Thread Cert.AttnFwdIdeal.nD Cert.AttnFwdIdeal.τ).loc Cert.AttnFwdIdeal.main_arg5)) (m ((c.tc : Thread Cert.AttnFwdIdeal.nD Cert.AttnFwdIdeal.τ).loc Cert.AttnFwdIdeal.main_arg6)) (m ((c.tc : Thread Cert.AttnFwdIdeal.nD Cert.AttnFwdIdeal.τ).loc Cert.AttnFwdIdeal.main_arg7))).2.1 = (fun _ => 1#1)
    ∧ (Cert.Pre_pre_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4)) (m ((c.tc : Thread Cert.AttnFwdIdeal.nD Cert.AttnFwdIdeal.τ).loc Cert.AttnFwdIdeal.main_arg5)) (m ((c.tc : Thread Cert.AttnFwdIdeal.nD Cert.AttnFwdIdeal.τ).loc Cert.AttnFwdIdeal.main_arg6)) (m ((c.tc : Thread Cert.AttnFwdIdeal.nD Cert.AttnFwdIdeal.τ).loc Cert.AttnFwdIdeal.main_arg7))).2.2.1 = (fun _ => 1#1)
    ∧ (Cert.Pre_pre_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4)) (m ((c.tc : Thread Cert.AttnFwdIdeal.nD Cert.AttnFwdIdeal.τ).loc Cert.AttnFwdIdeal.main_arg5)) (m ((c.tc : Thread Cert.AttnFwdIdeal.nD Cert.AttnFwdIdeal.τ).loc Cert.AttnFwdIdeal.main_arg6)) (m ((c.tc : Thread Cert.AttnFwdIdeal.nD Cert.AttnFwdIdeal.τ).loc Cert.AttnFwdIdeal.main_arg7))).2.2.2.1 = (fun _ => 1#1)
    ∧ (Cert.Pre_pre_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4)) (m ((c.tc : Thread Cert.AttnFwdIdeal.nD Cert.AttnFwdIdeal.τ).loc Cert.AttnFwdIdeal.main_arg5)) (m ((c.tc : Thread Cert.AttnFwdIdeal.nD Cert.AttnFwdIdeal.τ).loc Cert.AttnFwdIdeal.main_arg6)) (m ((c.tc : Thread Cert.AttnFwdIdeal.nD Cert.AttnFwdIdeal.τ).loc Cert.AttnFwdIdeal.main_arg7))).2.2.2.2.1 = (fun _ => 1#1)
    ∧ (Cert.Pre_pre_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4)) (m ((c.tc : Thread Cert.AttnFwdIdeal.nD Cert.AttnFwdIdeal.τ).loc Cert.AttnFwdIdeal.main_arg5)) (m ((c.tc : Thread Cert.AttnFwdIdeal.nD Cert.AttnFwdIdeal.τ).loc Cert.AttnFwdIdeal.main_arg6)) (m ((c.tc : Thread Cert.AttnFwdIdeal.nD Cert.AttnFwdIdeal.τ).loc Cert.AttnFwdIdeal.main_arg7))).2.2.2.2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_pre_attn_fwd [hPre_pre_attn_fwd : Cert.Pre_pre_attn_fwd.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_pre_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4)) (m ((c.tc : Thread Cert.AttnFwdRefIdeal.nD Cert.AttnFwdRefIdeal.τ).loc Cert.AttnFwdRefIdeal.main_arg5)) (m ((c.tc : Thread Cert.AttnFwdRefIdeal.nD Cert.AttnFwdRefIdeal.τ).loc Cert.AttnFwdRefIdeal.main_arg6)) (m ((c.tc : Thread Cert.AttnFwdRefIdeal.nD Cert.AttnFwdRefIdeal.τ).loc Cert.AttnFwdRefIdeal.main_arg7))).1 = (fun _ => 1#1)
    ∧ (Cert.Pre_pre_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4)) (m ((c.tc : Thread Cert.AttnFwdRefIdeal.nD Cert.AttnFwdRefIdeal.τ).loc Cert.AttnFwdRefIdeal.main_arg5)) (m ((c.tc : Thread Cert.AttnFwdRefIdeal.nD Cert.AttnFwdRefIdeal.τ).loc Cert.AttnFwdRefIdeal.main_arg6)) (m ((c.tc : Thread Cert.AttnFwdRefIdeal.nD Cert.AttnFwdRefIdeal.τ).loc Cert.AttnFwdRefIdeal.main_arg7))).2.1 = (fun _ => 1#1)
    ∧ (Cert.Pre_pre_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4)) (m ((c.tc : Thread Cert.AttnFwdRefIdeal.nD Cert.AttnFwdRefIdeal.τ).loc Cert.AttnFwdRefIdeal.main_arg5)) (m ((c.tc : Thread Cert.AttnFwdRefIdeal.nD Cert.AttnFwdRefIdeal.τ).loc Cert.AttnFwdRefIdeal.main_arg6)) (m ((c.tc : Thread Cert.AttnFwdRefIdeal.nD Cert.AttnFwdRefIdeal.τ).loc Cert.AttnFwdRefIdeal.main_arg7))).2.2.1 = (fun _ => 1#1)
    ∧ (Cert.Pre_pre_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4)) (m ((c.tc : Thread Cert.AttnFwdRefIdeal.nD Cert.AttnFwdRefIdeal.τ).loc Cert.AttnFwdRefIdeal.main_arg5)) (m ((c.tc : Thread Cert.AttnFwdRefIdeal.nD Cert.AttnFwdRefIdeal.τ).loc Cert.AttnFwdRefIdeal.main_arg6)) (m ((c.tc : Thread Cert.AttnFwdRefIdeal.nD Cert.AttnFwdRefIdeal.τ).loc Cert.AttnFwdRefIdeal.main_arg7))).2.2.2.1 = (fun _ => 1#1)
    ∧ (Cert.Pre_pre_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4)) (m ((c.tc : Thread Cert.AttnFwdRefIdeal.nD Cert.AttnFwdRefIdeal.τ).loc Cert.AttnFwdRefIdeal.main_arg5)) (m ((c.tc : Thread Cert.AttnFwdRefIdeal.nD Cert.AttnFwdRefIdeal.τ).loc Cert.AttnFwdRefIdeal.main_arg6)) (m ((c.tc : Thread Cert.AttnFwdRefIdeal.nD Cert.AttnFwdRefIdeal.τ).loc Cert.AttnFwdRefIdeal.main_arg7))).2.2.2.2.1 = (fun _ => 1#1)
    ∧ (Cert.Pre_pre_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4)) (m ((c.tc : Thread Cert.AttnFwdRefIdeal.nD Cert.AttnFwdRefIdeal.τ).loc Cert.AttnFwdRefIdeal.main_arg5)) (m ((c.tc : Thread Cert.AttnFwdRefIdeal.nD Cert.AttnFwdRefIdeal.τ).loc Cert.AttnFwdRefIdeal.main_arg6)) (m ((c.tc : Thread Cert.AttnFwdRefIdeal.nD Cert.AttnFwdRefIdeal.τ).loc Cert.AttnFwdRefIdeal.main_arg7))).2.2.2.2.2 = (fun _ => 1#1)

def Pre_SsdFwd (m : (ℓ : Loc Cert.SsdFwd.nD Cert.SsdFwd.τ Cert.SsdFwd.sig) → Buf (Elt Bits) ℓ) : Prop :=
  True

def Pre_SsdFwdIdeal (m : (ℓ : Loc Cert.SsdFwdIdeal.nD Cert.SsdFwdIdeal.τ Cert.SsdFwdIdeal.sig) → Buf (Elt Ideal) ℓ) : Prop :=
  True

def Pre_SsdFwdIdeal_pre_ssd_fwd [hPre_pre_ssd_fwd : Cert.Pre_pre_ssd_fwd.Facts] (m : (ℓ : Loc Cert.SsdFwdIdeal.nD Cert.SsdFwdIdeal.τ Cert.SsdFwdIdeal.sig) → Buf (Elt Ideal) ℓ) : Prop :=
  ∀ c : Dev Cert.SsdFwdIdeal.nD,
    (Cert.Pre_pre_ssd_fwd.fn (F := Ideal) (m ((c.tc : Thread Cert.SsdFwdIdeal.nD Cert.SsdFwdIdeal.τ).loc Cert.SsdFwdIdeal.main_arg0)) (m ((c.tc : Thread Cert.SsdFwdIdeal.nD Cert.SsdFwdIdeal.τ).loc Cert.SsdFwdIdeal.main_arg1)) (m ((c.tc : Thread Cert.SsdFwdIdeal.nD Cert.SsdFwdIdeal.τ).loc Cert.SsdFwdIdeal.main_arg2)) (m ((c.tc : Thread Cert.SsdFwdIdeal.nD Cert.SsdFwdIdeal.τ).loc Cert.SsdFwdIdeal.main_arg3)) (m ((c.tc : Thread Cert.SsdFwdIdeal.nD Cert.SsdFwdIdeal.τ).loc Cert.SsdFwdIdeal.main_arg4))).1 = (fun _ => 1#1)
    ∧ (Cert.Pre_pre_ssd_fwd.fn (F := Ideal) (m ((c.tc : Thread Cert.SsdFwdIdeal.nD Cert.SsdFwdIdeal.τ).loc Cert.SsdFwdIdeal.main_arg0)) (m ((c.tc : Thread Cert.SsdFwdIdeal.nD Cert.SsdFwdIdeal.τ).loc Cert.SsdFwdIdeal.main_arg1)) (m ((c.tc : Thread Cert.SsdFwdIdeal.nD Cert.SsdFwdIdeal.τ).loc Cert.SsdFwdIdeal.main_arg2)) (m ((c.tc : Thread Cert.SsdFwdIdeal.nD Cert.SsdFwdIdeal.τ).loc Cert.SsdFwdIdeal.main_arg3)) (m ((c.tc : Thread Cert.SsdFwdIdeal.nD Cert.SsdFwdIdeal.τ).loc Cert.SsdFwdIdeal.main_arg4))).2.1 = (fun _ => 1#1)
    ∧ (Cert.Pre_pre_ssd_fwd.fn (F := Ideal) (m ((c.tc : Thread Cert.SsdFwdIdeal.nD Cert.SsdFwdIdeal.τ).loc Cert.SsdFwdIdeal.main_arg0)) (m ((c.tc : Thread Cert.SsdFwdIdeal.nD Cert.SsdFwdIdeal.τ).loc Cert.SsdFwdIdeal.main_arg1)) (m ((c.tc : Thread Cert.SsdFwdIdeal.nD Cert.SsdFwdIdeal.τ).loc Cert.SsdFwdIdeal.main_arg2)) (m ((c.tc : Thread Cert.SsdFwdIdeal.nD Cert.SsdFwdIdeal.τ).loc Cert.SsdFwdIdeal.main_arg3)) (m ((c.tc : Thread Cert.SsdFwdIdeal.nD Cert.SsdFwdIdeal.τ).loc Cert.SsdFwdIdeal.main_arg4))).2.2 = (fun _ => 1#1)

def Pre_SsdFwdRefIdeal (m : (ℓ : Loc Cert.SsdFwdRefIdeal.nD Cert.SsdFwdRefIdeal.τ Cert.SsdFwdRefIdeal.sig) → Buf (Elt Ideal) ℓ) : Prop :=
  True

def Pre_SsdFwdRefIdeal_pre_ssd_fwd [hPre_pre_ssd_fwd : Cert.Pre_pre_ssd_fwd.Facts] (m : (ℓ : Loc Cert.SsdFwdRefIdeal.nD Cert.SsdFwdRefIdeal.τ Cert.SsdFwdRefIdeal.sig) → Buf (Elt Ideal) ℓ) : Prop :=
  ∀ c : Dev Cert.SsdFwdRefIdeal.nD,
    (Cert.Pre_pre_ssd_fwd.fn (F := Ideal) (m ((c.tc : Thread Cert.SsdFwdRefIdeal.nD Cert.SsdFwdRefIdeal.τ).loc Cert.SsdFwdRefIdeal.main_arg0)) (m ((c.tc : Thread Cert.SsdFwdRefIdeal.nD Cert.SsdFwdRefIdeal.τ).loc Cert.SsdFwdRefIdeal.main_arg1)) (m ((c.tc : Thread Cert.SsdFwdRefIdeal.nD Cert.SsdFwdRefIdeal.τ).loc Cert.SsdFwdRefIdeal.main_arg2)) (m ((c.tc : Thread Cert.SsdFwdRefIdeal.nD Cert.SsdFwdRefIdeal.τ).loc Cert.SsdFwdRefIdeal.main_arg3)) (m ((c.tc : Thread Cert.SsdFwdRefIdeal.nD Cert.SsdFwdRefIdeal.τ).loc Cert.SsdFwdRefIdeal.main_arg4))).1 = (fun _ => 1#1)
    ∧ (Cert.Pre_pre_ssd_fwd.fn (F := Ideal) (m ((c.tc : Thread Cert.SsdFwdRefIdeal.nD Cert.SsdFwdRefIdeal.τ).loc Cert.SsdFwdRefIdeal.main_arg0)) (m ((c.tc : Thread Cert.SsdFwdRefIdeal.nD Cert.SsdFwdRefIdeal.τ).loc Cert.SsdFwdRefIdeal.main_arg1)) (m ((c.tc : Thread Cert.SsdFwdRefIdeal.nD Cert.SsdFwdRefIdeal.τ).loc Cert.SsdFwdRefIdeal.main_arg2)) (m ((c.tc : Thread Cert.SsdFwdRefIdeal.nD Cert.SsdFwdRefIdeal.τ).loc Cert.SsdFwdRefIdeal.main_arg3)) (m ((c.tc : Thread Cert.SsdFwdRefIdeal.nD Cert.SsdFwdRefIdeal.τ).loc Cert.SsdFwdRefIdeal.main_arg4))).2.1 = (fun _ => 1#1)
    ∧ (Cert.Pre_pre_ssd_fwd.fn (F := Ideal) (m ((c.tc : Thread Cert.SsdFwdRefIdeal.nD Cert.SsdFwdRefIdeal.τ).loc Cert.SsdFwdRefIdeal.main_arg0)) (m ((c.tc : Thread Cert.SsdFwdRefIdeal.nD Cert.SsdFwdRefIdeal.τ).loc Cert.SsdFwdRefIdeal.main_arg1)) (m ((c.tc : Thread Cert.SsdFwdRefIdeal.nD Cert.SsdFwdRefIdeal.τ).loc Cert.SsdFwdRefIdeal.main_arg2)) (m ((c.tc : Thread Cert.SsdFwdRefIdeal.nD Cert.SsdFwdRefIdeal.τ).loc Cert.SsdFwdRefIdeal.main_arg3)) (m ((c.tc : Thread Cert.SsdFwdRefIdeal.nD Cert.SsdFwdRefIdeal.τ).loc Cert.SsdFwdRefIdeal.main_arg4))).2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_NormFwdQ (m : (ℓ : Loc Cert.NormFwdQ.nD Cert.NormFwdQ.τ Cert.NormFwdQ.sig) → Buf (Elt Bits) ℓ) : Prop :=
  True

def Pre_NormFwdQIdeal (m : (ℓ : Loc Cert.NormFwdQIdeal.nD Cert.NormFwdQIdeal.τ Cert.NormFwdQIdeal.sig) → Buf (Elt Ideal) ℓ) : Prop :=
  True

def Pre_NormFwdQRefIdeal (m : (ℓ : Loc Cert.NormFwdQRefIdeal.nD Cert.NormFwdQRefIdeal.τ Cert.NormFwdQRefIdeal.sig) → Buf (Elt Ideal) ℓ) : Prop :=
  True

def Pre_NormFwdKv (m : (ℓ : Loc Cert.NormFwdKv.nD Cert.NormFwdKv.τ Cert.NormFwdKv.sig) → Buf (Elt Bits) ℓ) : Prop :=
  True

def Pre_NormFwdKvIdeal (m : (ℓ : Loc Cert.NormFwdKvIdeal.nD Cert.NormFwdKvIdeal.τ Cert.NormFwdKvIdeal.sig) → Buf (Elt Ideal) ℓ) : Prop :=
  True

def Pre_NormFwdKvRefIdeal (m : (ℓ : Loc Cert.NormFwdKvRefIdeal.nD Cert.NormFwdKvRefIdeal.τ Cert.NormFwdKvRefIdeal.sig) → Buf (Elt Ideal) ℓ) : Prop :=
  True

def Pre_NormFwdIn (m : (ℓ : Loc Cert.NormFwdIn.nD Cert.NormFwdIn.τ Cert.NormFwdIn.sig) → Buf (Elt Bits) ℓ) : Prop :=
  True

def Pre_NormFwdInIdeal (m : (ℓ : Loc Cert.NormFwdInIdeal.nD Cert.NormFwdInIdeal.τ Cert.NormFwdInIdeal.sig) → Buf (Elt Ideal) ℓ) : Prop :=
  True

def Pre_NormFwdInRefIdeal (m : (ℓ : Loc Cert.NormFwdInRefIdeal.nD Cert.NormFwdInRefIdeal.τ Cert.NormFwdInRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_WgradB (m : (ℓ : Loc Cert.WgradB.nD Cert.WgradB.τ Cert.WgradB.sig) → Buf (Elt Bits) ℓ) : Prop :=
  True

def Pre_WgradBIdeal (m : (ℓ : Loc Cert.WgradBIdeal.nD Cert.WgradBIdeal.τ Cert.WgradBIdeal.sig) → Buf (Elt Ideal) ℓ) : Prop :=
  True

def Pre_WgradBRefIdeal (m : (ℓ : Loc Cert.WgradBRefIdeal.nD Cert.WgradBRefIdeal.τ Cert.WgradBRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvIdeal_pre_pre_conv [hConvIdeal : Cert.ConvIdeal.Facts] [hPre_pre_conv : Cert.Pre_pre_conv.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_pre_conv m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6))
      ∧ r.2.sem = fun _ => 0)

def quiescent_ConvRefIdeal_pre_pre_conv [hConvRefIdeal : Cert.ConvRefIdeal.Facts] [hPre_pre_conv : Cert.Pre_pre_conv.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_pre_conv m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6))
      ∧ r.2.sem = fun _ => 0)

def quiescent_NormQ [hNormQ : Cert.NormQ.Facts] : Prop :=
  ∀ (m : (ℓ : Loc Cert.NormQ.nD Cert.NormQ.τ Cert.NormQ.sig) → Buf (Elt Bits) ℓ) (g : Dev Cert.NormQ.nD → PrngReg), Pre_NormQ m →
    θ_run (Cert.NormQ.defs (F := Bits)) (onTc (τ := Cert.NormQ.τ) (Cert.NormQ.main (F := Bits))) ⟨m, fun _ => 0, g⟩ (fun r => (∀ c : Dev Cert.NormQ.nD,
      r.2.mem ((c.tc : Thread Cert.NormQ.nD Cert.NormQ.τ).loc Cert.NormQ.main_arg0) = m ((c.tc : Thread Cert.NormQ.nD Cert.NormQ.τ).loc Cert.NormQ.main_arg0)
      ∧ r.2.mem ((c.tc : Thread Cert.NormQ.nD Cert.NormQ.τ).loc Cert.NormQ.main_arg1) = m ((c.tc : Thread Cert.NormQ.nD Cert.NormQ.τ).loc Cert.NormQ.main_arg1)
      ∧ r.2.mem ((c.tc : Thread Cert.NormQ.nD Cert.NormQ.τ).loc Cert.NormQ.main_arg2) = m ((c.tc : Thread Cert.NormQ.nD Cert.NormQ.τ).loc Cert.NormQ.main_arg2)
      ∧ r.2.mem ((c.tc : Thread Cert.NormQ.nD Cert.NormQ.τ).loc Cert.NormQ.main_arg3) = m ((c.tc : Thread Cert.NormQ.nD Cert.NormQ.τ).loc Cert.NormQ.main_arg3)
      ∧ r.2.mem ((c.tc : Thread Cert.NormQ.nD Cert.NormQ.τ).loc Cert.NormQ.main_arg4) = m ((c.tc : Thread Cert.NormQ.nD Cert.NormQ.τ).loc Cert.NormQ.main_arg4))
      ∧ r.2.sem = fun _ => 0)

def quiescent_NormQIdeal [hNormQIdeal : Cert.NormQIdeal.Facts] : Prop :=
  ∀ (m : (ℓ : Loc Cert.NormQIdeal.nD Cert.NormQIdeal.τ Cert.NormQIdeal.sig) → Buf (Elt Ideal) ℓ) (g : Dev Cert.NormQIdeal.nD → PrngReg), Pre_NormQIdeal m →
    θ_run (Cert.NormQIdeal.defs (F := Ideal)) (onTc (τ := Cert.NormQIdeal.τ) (Cert.NormQIdeal.main (F := Ideal))) ⟨m, fun _ => 0, g⟩ (fun r => (∀ c : Dev Cert.NormQIdeal.nD,
      r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
      ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1)
      ∧ r.2.mem ((c.tc : Thread Cert.NormQIdeal.nD Cert.NormQIdeal.τ).loc Cert.NormQIdeal.main_arg2) = m ((c.tc : Thread Cert.NormQIdeal.nD Cert.NormQIdeal.τ).loc Cert.NormQIdeal.main_arg2)
      ∧ r.2.mem ((c.tc : Thread Cert.NormQIdeal.nD Cert.NormQIdeal.τ).loc Cert.NormQIdeal.main_arg3) = m ((c.tc : Thread Cert.NormQIdeal.nD Cert.NormQIdeal.τ).loc Cert.NormQIdeal.main_arg3)
      ∧ r.2.mem ((c.tc : Thread Cert.NormQIdeal.nD Cert.NormQIdeal.τ).loc Cert.NormQIdeal.main_arg4) = m ((c.tc : Thread Cert.NormQIdeal.nD Cert.NormQIdeal.τ).loc Cert.NormQIdeal.main_arg4))
      ∧ r.2.sem = fun _ => 0)

def quiescent_NormQIdeal_pre_pre_norm_q [hNormQIdeal : Cert.NormQIdeal.Facts] [hPre_pre_norm_q : Cert.Pre_pre_norm_q.Facts] : Prop :=
  ∀ (m : (ℓ : Loc Cert.NormQIdeal.nD Cert.NormQIdeal.τ Cert.NormQIdeal.sig) → Buf (Elt Ideal) ℓ) (g : Dev Cert.NormQIdeal.nD → PrngReg), Pre_NormQIdeal_pre_norm_q m →
    θ_run (Cert.NormQIdeal.defs (F := Ideal)) (onTc (τ := Cert.NormQIdeal.τ) (Cert.NormQIdeal.main (F := Ideal))) ⟨m, fun _ => 0, g⟩ (fun r => (∀ c : Dev Cert.NormQIdeal.nD,
      r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
      ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1)
      ∧ r.2.mem ((c.tc : Thread Cert.NormQIdeal.nD Cert.NormQIdeal.τ).loc Cert.NormQIdeal.main_arg2) = m ((c.tc : Thread Cert.NormQIdeal.nD Cert.NormQIdeal.τ).loc Cert.NormQIdeal.main_arg2)
      ∧ r.2.mem ((c.tc : Thread Cert.NormQIdeal.nD Cert.NormQIdeal.τ).loc Cert.NormQIdeal.main_arg3) = m ((c.tc : Thread Cert.NormQIdeal.nD Cert.NormQIdeal.τ).loc Cert.NormQIdeal.main_arg3)
      ∧ r.2.mem ((c.tc : Thread Cert.NormQIdeal.nD Cert.NormQIdeal.τ).loc Cert.NormQIdeal.main_arg4) = m ((c.tc : Thread Cert.NormQIdeal.nD Cert.NormQIdeal.τ).loc Cert.NormQIdeal.main_arg4))
      ∧ r.2.sem = fun _ => 0)

def quiescent_NormQRefIdeal [hNormQRefIdeal : Cert.NormQRefIdeal.Facts] : Prop :=
  ∀ (m : (ℓ : Loc Cert.NormQRefIdeal.nD Cert.NormQRefIdeal.τ Cert.NormQRefIdeal.sig) → Buf (Elt Ideal) ℓ) (g : Dev Cert.NormQRefIdeal.nD → PrngReg), Pre_NormQRefIdeal m →
    θ_run (Cert.NormQRefIdeal.defs (F := Ideal)) (onTc (τ := Cert.NormQRefIdeal.τ) (Cert.NormQRefIdeal.main (F := Ideal))) ⟨m, fun _ => 0, g⟩ (fun r => (∀ c : Dev Cert.NormQRefIdeal.nD,
      r.2.mem ((c.tc : Thread Cert.NormQRefIdeal.nD Cert.NormQRefIdeal.τ).loc Cert.NormQRefIdeal.main_arg0) = m ((c.tc : Thread Cert.NormQRefIdeal.nD Cert.NormQRefIdeal.τ).loc Cert.NormQRefIdeal.main_arg0)
      ∧ r.2.mem ((c.tc : Thread Cert.NormQRefIdeal.nD Cert.NormQRefIdeal.τ).loc Cert.NormQRefIdeal.main_arg1) = m ((c.tc : Thread Cert.NormQRefIdeal.nD Cert.NormQRefIdeal.τ).loc Cert.NormQRefIdeal.main_arg1)
      ∧ r.2.mem ((c.tc : Thread Cert.NormQRefIdeal.nD Cert.NormQRefIdeal.τ).loc Cert.NormQRefIdeal.main_arg2) = m ((c.tc : Thread Cert.NormQRefIdeal.nD Cert.NormQRefIdeal.τ).loc Cert.NormQRefIdeal.main_arg2)
      ∧ r.2.mem ((c.tc : Thread Cert.NormQRefIdeal.nD Cert.NormQRefIdeal.τ).loc Cert.NormQRefIdeal.main_arg3) = m ((c.tc : Thread Cert.NormQRefIdeal.nD Cert.NormQRefIdeal.τ).loc Cert.NormQRefIdeal.main_arg3)
      ∧ r.2.mem ((c.tc : Thread Cert.NormQRefIdeal.nD Cert.NormQRefIdeal.τ).loc Cert.NormQRefIdeal.main_arg4) = m ((c.tc : Thread Cert.NormQRefIdeal.nD Cert.NormQRefIdeal.τ).loc Cert.NormQRefIdeal.main_arg4))
      ∧ r.2.sem = fun _ => 0)

def quiescent_NormQRefIdeal_pre_pre_norm_q [hNormQRefIdeal : Cert.NormQRefIdeal.Facts] [hPre_pre_norm_q : Cert.Pre_pre_norm_q.Facts] : Prop :=
  ∀ (m : (ℓ : Loc Cert.NormQRefIdeal.nD Cert.NormQRefIdeal.τ Cert.NormQRefIdeal.sig) → Buf (Elt Ideal) ℓ) (g : Dev Cert.NormQRefIdeal.nD → PrngReg), Pre_NormQRefIdeal_pre_norm_q m →
    θ_run (Cert.NormQRefIdeal.defs (F := Ideal)) (onTc (τ := Cert.NormQRefIdeal.τ) (Cert.NormQRefIdeal.main (F := Ideal))) ⟨m, fun _ => 0, g⟩ (fun r => (∀ c : Dev Cert.NormQRefIdeal.nD,
      r.2.mem ((c.tc : Thread Cert.NormQRefIdeal.nD Cert.NormQRefIdeal.τ).loc Cert.NormQRefIdeal.main_arg0) = m ((c.tc : Thread Cert.NormQRefIdeal.nD Cert.NormQRefIdeal.τ).loc Cert.NormQRefIdeal.main_arg0)
      ∧ r.2.mem ((c.tc : Thread Cert.NormQRefIdeal.nD Cert.NormQRefIdeal.τ).loc Cert.NormQRefIdeal.main_arg1) = m ((c.tc : Thread Cert.NormQRefIdeal.nD Cert.NormQRefIdeal.τ).loc Cert.NormQRefIdeal.main_arg1)
      ∧ r.2.mem ((c.tc : Thread Cert.NormQRefIdeal.nD Cert.NormQRefIdeal.τ).loc Cert.NormQRefIdeal.main_arg2) = m ((c.tc : Thread Cert.NormQRefIdeal.nD Cert.NormQRefIdeal.τ).loc Cert.NormQRefIdeal.main_arg2)
      ∧ r.2.mem ((c.tc : Thread Cert.NormQRefIdeal.nD Cert.NormQRefIdeal.τ).loc Cert.NormQRefIdeal.main_arg3) = m ((c.tc : Thread Cert.NormQRefIdeal.nD Cert.NormQRefIdeal.τ).loc Cert.NormQRefIdeal.main_arg3)
      ∧ r.2.mem ((c.tc : Thread Cert.NormQRefIdeal.nD Cert.NormQRefIdeal.τ).loc Cert.NormQRefIdeal.main_arg4) = m ((c.tc : Thread Cert.NormQRefIdeal.nD Cert.NormQRefIdeal.τ).loc Cert.NormQRefIdeal.main_arg4))
      ∧ r.2.sem = fun _ => 0)

def quiescent_NormKv [hNormKv : Cert.NormKv.Facts] : Prop :=
  ∀ (m : (ℓ : Loc Cert.NormKv.nD Cert.NormKv.τ Cert.NormKv.sig) → Buf (Elt Bits) ℓ) (g : Dev Cert.NormKv.nD → PrngReg), Pre_NormKv m →
    θ_run (Cert.NormKv.defs (F := Bits)) (onTc (τ := Cert.NormKv.τ) (Cert.NormKv.main (F := Bits))) ⟨m, fun _ => 0, g⟩ (fun r => (∀ c : Dev Cert.NormKv.nD,
      r.2.mem ((c.tc : Thread Cert.NormKv.nD Cert.NormKv.τ).loc Cert.NormKv.main_arg0) = m ((c.tc : Thread Cert.NormKv.nD Cert.NormKv.τ).loc Cert.NormKv.main_arg0)
      ∧ r.2.mem ((c.tc : Thread Cert.NormKv.nD Cert.NormKv.τ).loc Cert.NormKv.main_arg1) = m ((c.tc : Thread Cert.NormKv.nD Cert.NormKv.τ).loc Cert.NormKv.main_arg1)
      ∧ r.2.mem ((c.tc : Thread Cert.NormKv.nD Cert.NormKv.τ).loc Cert.NormKv.main_arg2) = m ((c.tc : Thread Cert.NormKv.nD Cert.NormKv.τ).loc Cert.NormKv.main_arg2)
      ∧ r.2.mem ((c.tc : Thread Cert.NormKv.nD Cert.NormKv.τ).loc Cert.NormKv.main_arg3) = m ((c.tc : Thread Cert.NormKv.nD Cert.NormKv.τ).loc Cert.NormKv.main_arg3)
      ∧ r.2.mem ((c.tc : Thread Cert.NormKv.nD Cert.NormKv.τ).loc Cert.NormKv.main_arg4) = m ((c.tc : Thread Cert.NormKv.nD Cert.NormKv.τ).loc Cert.NormKv.main_arg4))
      ∧ r.2.sem = fun _ => 0)

def quiescent_NormKvIdeal [hNormKvIdeal : Cert.NormKvIdeal.Facts] : Prop :=
  ∀ (m : (ℓ : Loc Cert.NormKvIdeal.nD Cert.NormKvIdeal.τ Cert.NormKvIdeal.sig) → Buf (Elt Ideal) ℓ) (g : Dev Cert.NormKvIdeal.nD → PrngReg), Pre_NormKvIdeal m →
    θ_run (Cert.NormKvIdeal.defs (F := Ideal)) (onTc (τ := Cert.NormKvIdeal.τ) (Cert.NormKvIdeal.main (F := Ideal))) ⟨m, fun _ => 0, g⟩ (fun r => (∀ c : Dev Cert.NormKvIdeal.nD,
      r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
      ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1)
      ∧ r.2.mem ((c.tc : Thread Cert.NormKvIdeal.nD Cert.NormKvIdeal.τ).loc Cert.NormKvIdeal.main_arg2) = m ((c.tc : Thread Cert.NormKvIdeal.nD Cert.NormKvIdeal.τ).loc Cert.NormKvIdeal.main_arg2)
      ∧ r.2.mem ((c.tc : Thread Cert.NormKvIdeal.nD Cert.NormKvIdeal.τ).loc Cert.NormKvIdeal.main_arg3) = m ((c.tc : Thread Cert.NormKvIdeal.nD Cert.NormKvIdeal.τ).loc Cert.NormKvIdeal.main_arg3)
      ∧ r.2.mem ((c.tc : Thread Cert.NormKvIdeal.nD Cert.NormKvIdeal.τ).loc Cert.NormKvIdeal.main_arg4) = m ((c.tc : Thread Cert.NormKvIdeal.nD Cert.NormKvIdeal.τ).loc Cert.NormKvIdeal.main_arg4))
      ∧ r.2.sem = fun _ => 0)

def quiescent_NormKvIdeal_pre_pre_norm_kv [hNormKvIdeal : Cert.NormKvIdeal.Facts] [hPre_pre_norm_kv : Cert.Pre_pre_norm_kv.Facts] : Prop :=
  ∀ (m : (ℓ : Loc Cert.NormKvIdeal.nD Cert.NormKvIdeal.τ Cert.NormKvIdeal.sig) → Buf (Elt Ideal) ℓ) (g : Dev Cert.NormKvIdeal.nD → PrngReg), Pre_NormKvIdeal_pre_norm_kv m →
    θ_run (Cert.NormKvIdeal.defs (F := Ideal)) (onTc (τ := Cert.NormKvIdeal.τ) (Cert.NormKvIdeal.main (F := Ideal))) ⟨m, fun _ => 0, g⟩ (fun r => (∀ c : Dev Cert.NormKvIdeal.nD,
      r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
      ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1)
      ∧ r.2.mem ((c.tc : Thread Cert.NormKvIdeal.nD Cert.NormKvIdeal.τ).loc Cert.NormKvIdeal.main_arg2) = m ((c.tc : Thread Cert.NormKvIdeal.nD Cert.NormKvIdeal.τ).loc Cert.NormKvIdeal.main_arg2)
      ∧ r.2.mem ((c.tc : Thread Cert.NormKvIdeal.nD Cert.NormKvIdeal.τ).loc Cert.NormKvIdeal.main_arg3) = m ((c.tc : Thread Cert.NormKvIdeal.nD Cert.NormKvIdeal.τ).loc Cert.NormKvIdeal.main_arg3)
      ∧ r.2.mem ((c.tc : Thread Cert.NormKvIdeal.nD Cert.NormKvIdeal.τ).loc Cert.NormKvIdeal.main_arg4) = m ((c.tc : Thread Cert.NormKvIdeal.nD Cert.NormKvIdeal.τ).loc Cert.NormKvIdeal.main_arg4))
      ∧ r.2.sem = fun _ => 0)

def quiescent_NormKvRefIdeal [hNormKvRefIdeal : Cert.NormKvRefIdeal.Facts] : Prop :=
  ∀ (m : (ℓ : Loc Cert.NormKvRefIdeal.nD Cert.NormKvRefIdeal.τ Cert.NormKvRefIdeal.sig) → Buf (Elt Ideal) ℓ) (g : Dev Cert.NormKvRefIdeal.nD → PrngReg), Pre_NormKvRefIdeal m →
    θ_run (Cert.NormKvRefIdeal.defs (F := Ideal)) (onTc (τ := Cert.NormKvRefIdeal.τ) (Cert.NormKvRefIdeal.main (F := Ideal))) ⟨m, fun _ => 0, g⟩ (fun r => (∀ c : Dev Cert.NormKvRefIdeal.nD,
      r.2.mem ((c.tc : Thread Cert.NormKvRefIdeal.nD Cert.NormKvRefIdeal.τ).loc Cert.NormKvRefIdeal.main_arg0) = m ((c.tc : Thread Cert.NormKvRefIdeal.nD Cert.NormKvRefIdeal.τ).loc Cert.NormKvRefIdeal.main_arg0)
      ∧ r.2.mem ((c.tc : Thread Cert.NormKvRefIdeal.nD Cert.NormKvRefIdeal.τ).loc Cert.NormKvRefIdeal.main_arg1) = m ((c.tc : Thread Cert.NormKvRefIdeal.nD Cert.NormKvRefIdeal.τ).loc Cert.NormKvRefIdeal.main_arg1)
      ∧ r.2.mem ((c.tc : Thread Cert.NormKvRefIdeal.nD Cert.NormKvRefIdeal.τ).loc Cert.NormKvRefIdeal.main_arg2) = m ((c.tc : Thread Cert.NormKvRefIdeal.nD Cert.NormKvRefIdeal.τ).loc Cert.NormKvRefIdeal.main_arg2)
      ∧ r.2.mem ((c.tc : Thread Cert.NormKvRefIdeal.nD Cert.NormKvRefIdeal.τ).loc Cert.NormKvRefIdeal.main_arg3) = m ((c.tc : Thread Cert.NormKvRefIdeal.nD Cert.NormKvRefIdeal.τ).loc Cert.NormKvRefIdeal.main_arg3)
      ∧ r.2.mem ((c.tc : Thread Cert.NormKvRefIdeal.nD Cert.NormKvRefIdeal.τ).loc Cert.NormKvRefIdeal.main_arg4) = m ((c.tc : Thread Cert.NormKvRefIdeal.nD Cert.NormKvRefIdeal.τ).loc Cert.NormKvRefIdeal.main_arg4))
      ∧ r.2.sem = fun _ => 0)

def quiescent_NormKvRefIdeal_pre_pre_norm_kv [hNormKvRefIdeal : Cert.NormKvRefIdeal.Facts] [hPre_pre_norm_kv : Cert.Pre_pre_norm_kv.Facts] : Prop :=
  ∀ (m : (ℓ : Loc Cert.NormKvRefIdeal.nD Cert.NormKvRefIdeal.τ Cert.NormKvRefIdeal.sig) → Buf (Elt Ideal) ℓ) (g : Dev Cert.NormKvRefIdeal.nD → PrngReg), Pre_NormKvRefIdeal_pre_norm_kv m →
    θ_run (Cert.NormKvRefIdeal.defs (F := Ideal)) (onTc (τ := Cert.NormKvRefIdeal.τ) (Cert.NormKvRefIdeal.main (F := Ideal))) ⟨m, fun _ => 0, g⟩ (fun r => (∀ c : Dev Cert.NormKvRefIdeal.nD,
      r.2.mem ((c.tc : Thread Cert.NormKvRefIdeal.nD Cert.NormKvRefIdeal.τ).loc Cert.NormKvRefIdeal.main_arg0) = m ((c.tc : Thread Cert.NormKvRefIdeal.nD Cert.NormKvRefIdeal.τ).loc Cert.NormKvRefIdeal.main_arg0)
      ∧ r.2.mem ((c.tc : Thread Cert.NormKvRefIdeal.nD Cert.NormKvRefIdeal.τ).loc Cert.NormKvRefIdeal.main_arg1) = m ((c.tc : Thread Cert.NormKvRefIdeal.nD Cert.NormKvRefIdeal.τ).loc Cert.NormKvRefIdeal.main_arg1)
      ∧ r.2.mem ((c.tc : Thread Cert.NormKvRefIdeal.nD Cert.NormKvRefIdeal.τ).loc Cert.NormKvRefIdeal.main_arg2) = m ((c.tc : Thread Cert.NormKvRefIdeal.nD Cert.NormKvRefIdeal.τ).loc Cert.NormKvRefIdeal.main_arg2)
      ∧ r.2.mem ((c.tc : Thread Cert.NormKvRefIdeal.nD Cert.NormKvRefIdeal.τ).loc Cert.NormKvRefIdeal.main_arg3) = m ((c.tc : Thread Cert.NormKvRefIdeal.nD Cert.NormKvRefIdeal.τ).loc Cert.NormKvRefIdeal.main_arg3)
      ∧ r.2.mem ((c.tc : Thread Cert.NormKvRefIdeal.nD Cert.NormKvRefIdeal.τ).loc Cert.NormKvRefIdeal.main_arg4) = m ((c.tc : Thread Cert.NormKvRefIdeal.nD Cert.NormKvRefIdeal.τ).loc Cert.NormKvRefIdeal.main_arg4))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3)
      ∧ r.2.mem ((c.tc : Thread Cert.NormIn.nD Cert.NormIn.τ).loc Cert.NormIn.main_arg4) = m ((c.tc : Thread Cert.NormIn.nD Cert.NormIn.τ).loc Cert.NormIn.main_arg4))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ r.2.sem = fun _ => 0)

def quiescent_NormInIdeal_pre_pre_norm_in [hNormInIdeal : Cert.NormInIdeal.Facts] [hPre_pre_norm_in : Cert.Pre_pre_norm_in.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal_pre_norm_in m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3)
      ∧ r.2.mem ((c.tc : Thread Cert.NormInRefIdeal.nD Cert.NormInRefIdeal.τ).loc Cert.NormInRefIdeal.main_arg4) = m ((c.tc : Thread Cert.NormInRefIdeal.nD Cert.NormInRefIdeal.τ).loc Cert.NormInRefIdeal.main_arg4))
      ∧ r.2.sem = fun _ => 0)

def quiescent_NormInRefIdeal_pre_pre_norm_in [hNormInRefIdeal : Cert.NormInRefIdeal.Facts] [hPre_pre_norm_in : Cert.Pre_pre_norm_in.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal_pre_norm_in m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3)
      ∧ r.2.mem ((c.tc : Thread Cert.NormInRefIdeal.nD Cert.NormInRefIdeal.τ).loc Cert.NormInRefIdeal.main_arg4) = m ((c.tc : Thread Cert.NormInRefIdeal.nD Cert.NormInRefIdeal.τ).loc Cert.NormInRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3)
      ∧ r.2.mem ((c.tc : Thread Cert.AttnFwd.nD Cert.AttnFwd.τ).loc Cert.AttnFwd.main_arg4) = m ((c.tc : Thread Cert.AttnFwd.nD Cert.AttnFwd.τ).loc Cert.AttnFwd.main_arg4)
      ∧ r.2.mem ((c.tc : Thread Cert.AttnFwd.nD Cert.AttnFwd.τ).loc Cert.AttnFwd.main_arg5) = m ((c.tc : Thread Cert.AttnFwd.nD Cert.AttnFwd.τ).loc Cert.AttnFwd.main_arg5)
      ∧ r.2.mem ((c.tc : Thread Cert.AttnFwd.nD Cert.AttnFwd.τ).loc Cert.AttnFwd.main_arg6) = m ((c.tc : Thread Cert.AttnFwd.nD Cert.AttnFwd.τ).loc Cert.AttnFwd.main_arg6)
      ∧ r.2.mem ((c.tc : Thread Cert.AttnFwd.nD Cert.AttnFwd.τ).loc Cert.AttnFwd.main_arg7) = m ((c.tc : Thread Cert.AttnFwd.nD Cert.AttnFwd.τ).loc Cert.AttnFwd.main_arg7))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4)
      ∧ r.2.mem ((c.tc : Thread Cert.AttnFwdIdeal.nD Cert.AttnFwdIdeal.τ).loc Cert.AttnFwdIdeal.main_arg5) = m ((c.tc : Thread Cert.AttnFwdIdeal.nD Cert.AttnFwdIdeal.τ).loc Cert.AttnFwdIdeal.main_arg5)
      ∧ r.2.mem ((c.tc : Thread Cert.AttnFwdIdeal.nD Cert.AttnFwdIdeal.τ).loc Cert.AttnFwdIdeal.main_arg6) = m ((c.tc : Thread Cert.AttnFwdIdeal.nD Cert.AttnFwdIdeal.τ).loc Cert.AttnFwdIdeal.main_arg6)
      ∧ r.2.mem ((c.tc : Thread Cert.AttnFwdIdeal.nD Cert.AttnFwdIdeal.τ).loc Cert.AttnFwdIdeal.main_arg7) = m ((c.tc : Thread Cert.AttnFwdIdeal.nD Cert.AttnFwdIdeal.τ).loc Cert.AttnFwdIdeal.main_arg7))
      ∧ r.2.sem = fun _ => 0)

def quiescent_AttnFwdIdeal_pre_pre_attn_fwd [hAttnFwdIdeal : Cert.AttnFwdIdeal.Facts] [hPre_pre_attn_fwd : Cert.Pre_pre_attn_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_pre_attn_fwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4)
      ∧ r.2.mem ((c.tc : Thread Cert.AttnFwdIdeal.nD Cert.AttnFwdIdeal.τ).loc Cert.AttnFwdIdeal.main_arg5) = m ((c.tc : Thread Cert.AttnFwdIdeal.nD Cert.AttnFwdIdeal.τ).loc Cert.AttnFwdIdeal.main_arg5)
      ∧ r.2.mem ((c.tc : Thread Cert.AttnFwdIdeal.nD Cert.AttnFwdIdeal.τ).loc Cert.AttnFwdIdeal.main_arg6) = m ((c.tc : Thread Cert.AttnFwdIdeal.nD Cert.AttnFwdIdeal.τ).loc Cert.AttnFwdIdeal.main_arg6)
      ∧ r.2.mem ((c.tc : Thread Cert.AttnFwdIdeal.nD Cert.AttnFwdIdeal.τ).loc Cert.AttnFwdIdeal.main_arg7) = m ((c.tc : Thread Cert.AttnFwdIdeal.nD Cert.AttnFwdIdeal.τ).loc Cert.AttnFwdIdeal.main_arg7))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4)
      ∧ r.2.mem ((c.tc : Thread Cert.AttnFwdRefIdeal.nD Cert.AttnFwdRefIdeal.τ).loc Cert.AttnFwdRefIdeal.main_arg5) = m ((c.tc : Thread Cert.AttnFwdRefIdeal.nD Cert.AttnFwdRefIdeal.τ).loc Cert.AttnFwdRefIdeal.main_arg5)
      ∧ r.2.mem ((c.tc : Thread Cert.AttnFwdRefIdeal.nD Cert.AttnFwdRefIdeal.τ).loc Cert.AttnFwdRefIdeal.main_arg6) = m ((c.tc : Thread Cert.AttnFwdRefIdeal.nD Cert.AttnFwdRefIdeal.τ).loc Cert.AttnFwdRefIdeal.main_arg6)
      ∧ r.2.mem ((c.tc : Thread Cert.AttnFwdRefIdeal.nD Cert.AttnFwdRefIdeal.τ).loc Cert.AttnFwdRefIdeal.main_arg7) = m ((c.tc : Thread Cert.AttnFwdRefIdeal.nD Cert.AttnFwdRefIdeal.τ).loc Cert.AttnFwdRefIdeal.main_arg7))
      ∧ r.2.sem = fun _ => 0)

def quiescent_AttnFwdRefIdeal_pre_pre_attn_fwd [hAttnFwdRefIdeal : Cert.AttnFwdRefIdeal.Facts] [hPre_pre_attn_fwd : Cert.Pre_pre_attn_fwd.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_pre_attn_fwd m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4)
      ∧ r.2.mem ((c.tc : Thread Cert.AttnFwdRefIdeal.nD Cert.AttnFwdRefIdeal.τ).loc Cert.AttnFwdRefIdeal.main_arg5) = m ((c.tc : Thread Cert.AttnFwdRefIdeal.nD Cert.AttnFwdRefIdeal.τ).loc Cert.AttnFwdRefIdeal.main_arg5)
      ∧ r.2.mem ((c.tc : Thread Cert.AttnFwdRefIdeal.nD Cert.AttnFwdRefIdeal.τ).loc Cert.AttnFwdRefIdeal.main_arg6) = m ((c.tc : Thread Cert.AttnFwdRefIdeal.nD Cert.AttnFwdRefIdeal.τ).loc Cert.AttnFwdRefIdeal.main_arg6)
      ∧ r.2.mem ((c.tc : Thread Cert.AttnFwdRefIdeal.nD Cert.AttnFwdRefIdeal.τ).loc Cert.AttnFwdRefIdeal.main_arg7) = m ((c.tc : Thread Cert.AttnFwdRefIdeal.nD Cert.AttnFwdRefIdeal.τ).loc Cert.AttnFwdRefIdeal.main_arg7))
      ∧ r.2.sem = fun _ => 0)

def quiescent_SsdFwd [hSsdFwd : Cert.SsdFwd.Facts] : Prop :=
  ∀ (m : (ℓ : Loc Cert.SsdFwd.nD Cert.SsdFwd.τ Cert.SsdFwd.sig) → Buf (Elt Bits) ℓ) (g : Dev Cert.SsdFwd.nD → PrngReg), Pre_SsdFwd m →
    θ_run (Cert.SsdFwd.defs (F := Bits)) (onTc (τ := Cert.SsdFwd.τ) (Cert.SsdFwd.main (F := Bits))) ⟨m, fun _ => 0, g⟩ (fun r => (∀ c : Dev Cert.SsdFwd.nD,
      r.2.mem ((c.tc : Thread Cert.SsdFwd.nD Cert.SsdFwd.τ).loc Cert.SsdFwd.main_arg0) = m ((c.tc : Thread Cert.SsdFwd.nD Cert.SsdFwd.τ).loc Cert.SsdFwd.main_arg0)
      ∧ r.2.mem ((c.tc : Thread Cert.SsdFwd.nD Cert.SsdFwd.τ).loc Cert.SsdFwd.main_arg1) = m ((c.tc : Thread Cert.SsdFwd.nD Cert.SsdFwd.τ).loc Cert.SsdFwd.main_arg1)
      ∧ r.2.mem ((c.tc : Thread Cert.SsdFwd.nD Cert.SsdFwd.τ).loc Cert.SsdFwd.main_arg2) = m ((c.tc : Thread Cert.SsdFwd.nD Cert.SsdFwd.τ).loc Cert.SsdFwd.main_arg2)
      ∧ r.2.mem ((c.tc : Thread Cert.SsdFwd.nD Cert.SsdFwd.τ).loc Cert.SsdFwd.main_arg3) = m ((c.tc : Thread Cert.SsdFwd.nD Cert.SsdFwd.τ).loc Cert.SsdFwd.main_arg3)
      ∧ r.2.mem ((c.tc : Thread Cert.SsdFwd.nD Cert.SsdFwd.τ).loc Cert.SsdFwd.main_arg4) = m ((c.tc : Thread Cert.SsdFwd.nD Cert.SsdFwd.τ).loc Cert.SsdFwd.main_arg4))
      ∧ r.2.sem = fun _ => 0)

def quiescent_SsdFwdIdeal [hSsdFwdIdeal : Cert.SsdFwdIdeal.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg), Pre_SsdFwdIdeal m →
    θ_run (Cert.SsdFwdIdeal.defs (F := Ideal)) (onTc (τ := Cert.SsdFwdIdeal.τ) (Cert.SsdFwdIdeal.main (F := Ideal))) ⟨m, fun _ => 0, g⟩ (fun r => (∀ c : Dev Cert.SsdFwdIdeal.nD,
      r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
      ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
      ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
      ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
      ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4))
      ∧ r.2.sem = fun _ => 0)

def quiescent_SsdFwdIdeal_pre_pre_ssd_fwd [hSsdFwdIdeal : Cert.SsdFwdIdeal.Facts] [hPre_pre_ssd_fwd : Cert.Pre_pre_ssd_fwd.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg), Pre_SsdFwdIdeal_pre_ssd_fwd m →
    θ_run (Cert.SsdFwdIdeal.defs (F := Ideal)) (onTc (τ := Cert.SsdFwdIdeal.τ) (Cert.SsdFwdIdeal.main (F := Ideal))) ⟨m, fun _ => 0, g⟩ (fun r => (∀ c : Dev Cert.SsdFwdIdeal.nD,
      r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
      ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
      ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
      ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
      ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4))
      ∧ r.2.sem = fun _ => 0)

def quiescent_SsdFwdRefIdeal [hSsdFwdRefIdeal : Cert.SsdFwdRefIdeal.Facts] : Prop :=
  ∀ (m : (ℓ : Loc Cert.SsdFwdRefIdeal.nD Cert.SsdFwdRefIdeal.τ Cert.SsdFwdRefIdeal.sig) → Buf (Elt Ideal) ℓ) (g : Dev Cert.SsdFwdRefIdeal.nD → PrngReg), Pre_SsdFwdRefIdeal m →
    θ_run (Cert.SsdFwdRefIdeal.defs (F := Ideal)) (onTc (τ := Cert.SsdFwdRefIdeal.τ) (Cert.SsdFwdRefIdeal.main (F := Ideal))) ⟨m, fun _ => 0, g⟩ (fun r => (∀ c : Dev Cert.SsdFwdRefIdeal.nD,
      r.2.mem ((c.tc : Thread Cert.SsdFwdRefIdeal.nD Cert.SsdFwdRefIdeal.τ).loc Cert.SsdFwdRefIdeal.main_arg0) = m ((c.tc : Thread Cert.SsdFwdRefIdeal.nD Cert.SsdFwdRefIdeal.τ).loc Cert.SsdFwdRefIdeal.main_arg0)
      ∧ r.2.mem ((c.tc : Thread Cert.SsdFwdRefIdeal.nD Cert.SsdFwdRefIdeal.τ).loc Cert.SsdFwdRefIdeal.main_arg1) = m ((c.tc : Thread Cert.SsdFwdRefIdeal.nD Cert.SsdFwdRefIdeal.τ).loc Cert.SsdFwdRefIdeal.main_arg1)
      ∧ r.2.mem ((c.tc : Thread Cert.SsdFwdRefIdeal.nD Cert.SsdFwdRefIdeal.τ).loc Cert.SsdFwdRefIdeal.main_arg2) = m ((c.tc : Thread Cert.SsdFwdRefIdeal.nD Cert.SsdFwdRefIdeal.τ).loc Cert.SsdFwdRefIdeal.main_arg2)
      ∧ r.2.mem ((c.tc : Thread Cert.SsdFwdRefIdeal.nD Cert.SsdFwdRefIdeal.τ).loc Cert.SsdFwdRefIdeal.main_arg3) = m ((c.tc : Thread Cert.SsdFwdRefIdeal.nD Cert.SsdFwdRefIdeal.τ).loc Cert.SsdFwdRefIdeal.main_arg3)
      ∧ r.2.mem ((c.tc : Thread Cert.SsdFwdRefIdeal.nD Cert.SsdFwdRefIdeal.τ).loc Cert.SsdFwdRefIdeal.main_arg4) = m ((c.tc : Thread Cert.SsdFwdRefIdeal.nD Cert.SsdFwdRefIdeal.τ).loc Cert.SsdFwdRefIdeal.main_arg4))
      ∧ r.2.sem = fun _ => 0)

def quiescent_SsdFwdRefIdeal_pre_pre_ssd_fwd [hSsdFwdRefIdeal : Cert.SsdFwdRefIdeal.Facts] [hPre_pre_ssd_fwd : Cert.Pre_pre_ssd_fwd.Facts] : Prop :=
  ∀ (m : (ℓ : Loc Cert.SsdFwdRefIdeal.nD Cert.SsdFwdRefIdeal.τ Cert.SsdFwdRefIdeal.sig) → Buf (Elt Ideal) ℓ) (g : Dev Cert.SsdFwdRefIdeal.nD → PrngReg), Pre_SsdFwdRefIdeal_pre_ssd_fwd m →
    θ_run (Cert.SsdFwdRefIdeal.defs (F := Ideal)) (onTc (τ := Cert.SsdFwdRefIdeal.τ) (Cert.SsdFwdRefIdeal.main (F := Ideal))) ⟨m, fun _ => 0, g⟩ (fun r => (∀ c : Dev Cert.SsdFwdRefIdeal.nD,
      r.2.mem ((c.tc : Thread Cert.SsdFwdRefIdeal.nD Cert.SsdFwdRefIdeal.τ).loc Cert.SsdFwdRefIdeal.main_arg0) = m ((c.tc : Thread Cert.SsdFwdRefIdeal.nD Cert.SsdFwdRefIdeal.τ).loc Cert.SsdFwdRefIdeal.main_arg0)
      ∧ r.2.mem ((c.tc : Thread Cert.SsdFwdRefIdeal.nD Cert.SsdFwdRefIdeal.τ).loc Cert.SsdFwdRefIdeal.main_arg1) = m ((c.tc : Thread Cert.SsdFwdRefIdeal.nD Cert.SsdFwdRefIdeal.τ).loc Cert.SsdFwdRefIdeal.main_arg1)
      ∧ r.2.mem ((c.tc : Thread Cert.SsdFwdRefIdeal.nD Cert.SsdFwdRefIdeal.τ).loc Cert.SsdFwdRefIdeal.main_arg2) = m ((c.tc : Thread Cert.SsdFwdRefIdeal.nD Cert.SsdFwdRefIdeal.τ).loc Cert.SsdFwdRefIdeal.main_arg2)
      ∧ r.2.mem ((c.tc : Thread Cert.SsdFwdRefIdeal.nD Cert.SsdFwdRefIdeal.τ).loc Cert.SsdFwdRefIdeal.main_arg3) = m ((c.tc : Thread Cert.SsdFwdRefIdeal.nD Cert.SsdFwdRefIdeal.τ).loc Cert.SsdFwdRefIdeal.main_arg3)
      ∧ r.2.mem ((c.tc : Thread Cert.SsdFwdRefIdeal.nD Cert.SsdFwdRefIdeal.τ).loc Cert.SsdFwdRefIdeal.main_arg4) = m ((c.tc : Thread Cert.SsdFwdRefIdeal.nD Cert.SsdFwdRefIdeal.τ).loc Cert.SsdFwdRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3)
      ∧ r.2.mem ((c.tc : Thread Cert.GateFwdRefIdeal.nD Cert.GateFwdRefIdeal.τ).loc Cert.GateFwdRefIdeal.main_arg4) = m ((c.tc : Thread Cert.GateFwdRefIdeal.nD Cert.GateFwdRefIdeal.τ).loc Cert.GateFwdRefIdeal.main_arg4))
      ∧ r.2.sem = fun _ => 0)

def quiescent_NormFwdQ [hNormFwdQ : Cert.NormFwdQ.Facts] : Prop :=
  ∀ (m : (ℓ : Loc Cert.NormFwdQ.nD Cert.NormFwdQ.τ Cert.NormFwdQ.sig) → Buf (Elt Bits) ℓ) (g : Dev Cert.NormFwdQ.nD → PrngReg), Pre_NormFwdQ m →
    θ_run (Cert.NormFwdQ.defs (F := Bits)) (onTc (τ := Cert.NormFwdQ.τ) (Cert.NormFwdQ.main (F := Bits))) ⟨m, fun _ => 0, g⟩ (fun r => (∀ c : Dev Cert.NormFwdQ.nD,
      r.2.mem ((c.tc : Thread Cert.NormFwdQ.nD Cert.NormFwdQ.τ).loc Cert.NormFwdQ.main_arg0) = m ((c.tc : Thread Cert.NormFwdQ.nD Cert.NormFwdQ.τ).loc Cert.NormFwdQ.main_arg0)
      ∧ r.2.mem ((c.tc : Thread Cert.NormFwdQ.nD Cert.NormFwdQ.τ).loc Cert.NormFwdQ.main_arg1) = m ((c.tc : Thread Cert.NormFwdQ.nD Cert.NormFwdQ.τ).loc Cert.NormFwdQ.main_arg1)
      ∧ r.2.mem ((c.tc : Thread Cert.NormFwdQ.nD Cert.NormFwdQ.τ).loc Cert.NormFwdQ.main_arg2) = m ((c.tc : Thread Cert.NormFwdQ.nD Cert.NormFwdQ.τ).loc Cert.NormFwdQ.main_arg2))
      ∧ r.2.sem = fun _ => 0)

def quiescent_NormFwdQIdeal [hNormFwdQIdeal : Cert.NormFwdQIdeal.Facts] : Prop :=
  ∀ (m : (ℓ : Loc Cert.NormFwdQIdeal.nD Cert.NormFwdQIdeal.τ Cert.NormFwdQIdeal.sig) → Buf (Elt Ideal) ℓ) (g : Dev Cert.NormFwdQIdeal.nD → PrngReg), Pre_NormFwdQIdeal m →
    θ_run (Cert.NormFwdQIdeal.defs (F := Ideal)) (onTc (τ := Cert.NormFwdQIdeal.τ) (Cert.NormFwdQIdeal.main (F := Ideal))) ⟨m, fun _ => 0, g⟩ (fun r => (∀ c : Dev Cert.NormFwdQIdeal.nD,
      r.2.mem ((c.tc : Thread Cert.NormFwdQIdeal.nD Cert.NormFwdQIdeal.τ).loc Cert.NormFwdQIdeal.main_arg0) = m ((c.tc : Thread Cert.NormFwdQIdeal.nD Cert.NormFwdQIdeal.τ).loc Cert.NormFwdQIdeal.main_arg0)
      ∧ r.2.mem ((c.tc : Thread Cert.NormFwdQIdeal.nD Cert.NormFwdQIdeal.τ).loc Cert.NormFwdQIdeal.main_arg1) = m ((c.tc : Thread Cert.NormFwdQIdeal.nD Cert.NormFwdQIdeal.τ).loc Cert.NormFwdQIdeal.main_arg1)
      ∧ r.2.mem ((c.tc : Thread Cert.NormFwdQIdeal.nD Cert.NormFwdQIdeal.τ).loc Cert.NormFwdQIdeal.main_arg2) = m ((c.tc : Thread Cert.NormFwdQIdeal.nD Cert.NormFwdQIdeal.τ).loc Cert.NormFwdQIdeal.main_arg2))
      ∧ r.2.sem = fun _ => 0)

def quiescent_NormFwdQRefIdeal [hNormFwdQRefIdeal : Cert.NormFwdQRefIdeal.Facts] : Prop :=
  ∀ (m : (ℓ : Loc Cert.NormFwdQRefIdeal.nD Cert.NormFwdQRefIdeal.τ Cert.NormFwdQRefIdeal.sig) → Buf (Elt Ideal) ℓ) (g : Dev Cert.NormFwdQRefIdeal.nD → PrngReg), Pre_NormFwdQRefIdeal m →
    θ_run (Cert.NormFwdQRefIdeal.defs (F := Ideal)) (onTc (τ := Cert.NormFwdQRefIdeal.τ) (Cert.NormFwdQRefIdeal.main (F := Ideal))) ⟨m, fun _ => 0, g⟩ (fun r => (∀ c : Dev Cert.NormFwdQRefIdeal.nD,
      r.2.mem ((c.tc : Thread Cert.NormFwdQRefIdeal.nD Cert.NormFwdQRefIdeal.τ).loc Cert.NormFwdQRefIdeal.main_arg0) = m ((c.tc : Thread Cert.NormFwdQRefIdeal.nD Cert.NormFwdQRefIdeal.τ).loc Cert.NormFwdQRefIdeal.main_arg0)
      ∧ r.2.mem ((c.tc : Thread Cert.NormFwdQRefIdeal.nD Cert.NormFwdQRefIdeal.τ).loc Cert.NormFwdQRefIdeal.main_arg1) = m ((c.tc : Thread Cert.NormFwdQRefIdeal.nD Cert.NormFwdQRefIdeal.τ).loc Cert.NormFwdQRefIdeal.main_arg1)
      ∧ r.2.mem ((c.tc : Thread Cert.NormFwdQRefIdeal.nD Cert.NormFwdQRefIdeal.τ).loc Cert.NormFwdQRefIdeal.main_arg2) = m ((c.tc : Thread Cert.NormFwdQRefIdeal.nD Cert.NormFwdQRefIdeal.τ).loc Cert.NormFwdQRefIdeal.main_arg2))
      ∧ r.2.sem = fun _ => 0)

def quiescent_NormFwdKv [hNormFwdKv : Cert.NormFwdKv.Facts] : Prop :=
  ∀ (m : (ℓ : Loc Cert.NormFwdKv.nD Cert.NormFwdKv.τ Cert.NormFwdKv.sig) → Buf (Elt Bits) ℓ) (g : Dev Cert.NormFwdKv.nD → PrngReg), Pre_NormFwdKv m →
    θ_run (Cert.NormFwdKv.defs (F := Bits)) (onTc (τ := Cert.NormFwdKv.τ) (Cert.NormFwdKv.main (F := Bits))) ⟨m, fun _ => 0, g⟩ (fun r => (∀ c : Dev Cert.NormFwdKv.nD,
      r.2.mem ((c.tc : Thread Cert.NormFwdKv.nD Cert.NormFwdKv.τ).loc Cert.NormFwdKv.main_arg0) = m ((c.tc : Thread Cert.NormFwdKv.nD Cert.NormFwdKv.τ).loc Cert.NormFwdKv.main_arg0)
      ∧ r.2.mem ((c.tc : Thread Cert.NormFwdKv.nD Cert.NormFwdKv.τ).loc Cert.NormFwdKv.main_arg1) = m ((c.tc : Thread Cert.NormFwdKv.nD Cert.NormFwdKv.τ).loc Cert.NormFwdKv.main_arg1)
      ∧ r.2.mem ((c.tc : Thread Cert.NormFwdKv.nD Cert.NormFwdKv.τ).loc Cert.NormFwdKv.main_arg2) = m ((c.tc : Thread Cert.NormFwdKv.nD Cert.NormFwdKv.τ).loc Cert.NormFwdKv.main_arg2))
      ∧ r.2.sem = fun _ => 0)

def quiescent_NormFwdKvIdeal [hNormFwdKvIdeal : Cert.NormFwdKvIdeal.Facts] : Prop :=
  ∀ (m : (ℓ : Loc Cert.NormFwdKvIdeal.nD Cert.NormFwdKvIdeal.τ Cert.NormFwdKvIdeal.sig) → Buf (Elt Ideal) ℓ) (g : Dev Cert.NormFwdKvIdeal.nD → PrngReg), Pre_NormFwdKvIdeal m →
    θ_run (Cert.NormFwdKvIdeal.defs (F := Ideal)) (onTc (τ := Cert.NormFwdKvIdeal.τ) (Cert.NormFwdKvIdeal.main (F := Ideal))) ⟨m, fun _ => 0, g⟩ (fun r => (∀ c : Dev Cert.NormFwdKvIdeal.nD,
      r.2.mem ((c.tc : Thread Cert.NormFwdKvIdeal.nD Cert.NormFwdKvIdeal.τ).loc Cert.NormFwdKvIdeal.main_arg0) = m ((c.tc : Thread Cert.NormFwdKvIdeal.nD Cert.NormFwdKvIdeal.τ).loc Cert.NormFwdKvIdeal.main_arg0)
      ∧ r.2.mem ((c.tc : Thread Cert.NormFwdKvIdeal.nD Cert.NormFwdKvIdeal.τ).loc Cert.NormFwdKvIdeal.main_arg1) = m ((c.tc : Thread Cert.NormFwdKvIdeal.nD Cert.NormFwdKvIdeal.τ).loc Cert.NormFwdKvIdeal.main_arg1)
      ∧ r.2.mem ((c.tc : Thread Cert.NormFwdKvIdeal.nD Cert.NormFwdKvIdeal.τ).loc Cert.NormFwdKvIdeal.main_arg2) = m ((c.tc : Thread Cert.NormFwdKvIdeal.nD Cert.NormFwdKvIdeal.τ).loc Cert.NormFwdKvIdeal.main_arg2))
      ∧ r.2.sem = fun _ => 0)

def quiescent_NormFwdKvRefIdeal [hNormFwdKvRefIdeal : Cert.NormFwdKvRefIdeal.Facts] : Prop :=
  ∀ (m : (ℓ : Loc Cert.NormFwdKvRefIdeal.nD Cert.NormFwdKvRefIdeal.τ Cert.NormFwdKvRefIdeal.sig) → Buf (Elt Ideal) ℓ) (g : Dev Cert.NormFwdKvRefIdeal.nD → PrngReg), Pre_NormFwdKvRefIdeal m →
    θ_run (Cert.NormFwdKvRefIdeal.defs (F := Ideal)) (onTc (τ := Cert.NormFwdKvRefIdeal.τ) (Cert.NormFwdKvRefIdeal.main (F := Ideal))) ⟨m, fun _ => 0, g⟩ (fun r => (∀ c : Dev Cert.NormFwdKvRefIdeal.nD,
      r.2.mem ((c.tc : Thread Cert.NormFwdKvRefIdeal.nD Cert.NormFwdKvRefIdeal.τ).loc Cert.NormFwdKvRefIdeal.main_arg0) = m ((c.tc : Thread Cert.NormFwdKvRefIdeal.nD Cert.NormFwdKvRefIdeal.τ).loc Cert.NormFwdKvRefIdeal.main_arg0)
      ∧ r.2.mem ((c.tc : Thread Cert.NormFwdKvRefIdeal.nD Cert.NormFwdKvRefIdeal.τ).loc Cert.NormFwdKvRefIdeal.main_arg1) = m ((c.tc : Thread Cert.NormFwdKvRefIdeal.nD Cert.NormFwdKvRefIdeal.τ).loc Cert.NormFwdKvRefIdeal.main_arg1)
      ∧ r.2.mem ((c.tc : Thread Cert.NormFwdKvRefIdeal.nD Cert.NormFwdKvRefIdeal.τ).loc Cert.NormFwdKvRefIdeal.main_arg2) = m ((c.tc : Thread Cert.NormFwdKvRefIdeal.nD Cert.NormFwdKvRefIdeal.τ).loc Cert.NormFwdKvRefIdeal.main_arg2))
      ∧ r.2.sem = fun _ => 0)

def quiescent_NormFwdIn [hNormFwdIn : Cert.NormFwdIn.Facts] : Prop :=
  ∀ (m : (ℓ : Loc Cert.NormFwdIn.nD Cert.NormFwdIn.τ Cert.NormFwdIn.sig) → Buf (Elt Bits) ℓ) (g : Dev Cert.NormFwdIn.nD → PrngReg), Pre_NormFwdIn m →
    θ_run (Cert.NormFwdIn.defs (F := Bits)) (onTc (τ := Cert.NormFwdIn.τ) (Cert.NormFwdIn.main (F := Bits))) ⟨m, fun _ => 0, g⟩ (fun r => (∀ c : Dev Cert.NormFwdIn.nD,
      r.2.mem ((c.tc : Thread Cert.NormFwdIn.nD Cert.NormFwdIn.τ).loc Cert.NormFwdIn.main_arg0) = m ((c.tc : Thread Cert.NormFwdIn.nD Cert.NormFwdIn.τ).loc Cert.NormFwdIn.main_arg0)
      ∧ r.2.mem ((c.tc : Thread Cert.NormFwdIn.nD Cert.NormFwdIn.τ).loc Cert.NormFwdIn.main_arg1) = m ((c.tc : Thread Cert.NormFwdIn.nD Cert.NormFwdIn.τ).loc Cert.NormFwdIn.main_arg1)
      ∧ r.2.mem ((c.tc : Thread Cert.NormFwdIn.nD Cert.NormFwdIn.τ).loc Cert.NormFwdIn.main_arg2) = m ((c.tc : Thread Cert.NormFwdIn.nD Cert.NormFwdIn.τ).loc Cert.NormFwdIn.main_arg2))
      ∧ r.2.sem = fun _ => 0)

def quiescent_NormFwdInIdeal [hNormFwdInIdeal : Cert.NormFwdInIdeal.Facts] : Prop :=
  ∀ (m : (ℓ : Loc Cert.NormFwdInIdeal.nD Cert.NormFwdInIdeal.τ Cert.NormFwdInIdeal.sig) → Buf (Elt Ideal) ℓ) (g : Dev Cert.NormFwdInIdeal.nD → PrngReg), Pre_NormFwdInIdeal m →
    θ_run (Cert.NormFwdInIdeal.defs (F := Ideal)) (onTc (τ := Cert.NormFwdInIdeal.τ) (Cert.NormFwdInIdeal.main (F := Ideal))) ⟨m, fun _ => 0, g⟩ (fun r => (∀ c : Dev Cert.NormFwdInIdeal.nD,
      r.2.mem ((c.tc : Thread Cert.NormFwdInIdeal.nD Cert.NormFwdInIdeal.τ).loc Cert.NormFwdInIdeal.main_arg0) = m ((c.tc : Thread Cert.NormFwdInIdeal.nD Cert.NormFwdInIdeal.τ).loc Cert.NormFwdInIdeal.main_arg0)
      ∧ r.2.mem ((c.tc : Thread Cert.NormFwdInIdeal.nD Cert.NormFwdInIdeal.τ).loc Cert.NormFwdInIdeal.main_arg1) = m ((c.tc : Thread Cert.NormFwdInIdeal.nD Cert.NormFwdInIdeal.τ).loc Cert.NormFwdInIdeal.main_arg1)
      ∧ r.2.mem ((c.tc : Thread Cert.NormFwdInIdeal.nD Cert.NormFwdInIdeal.τ).loc Cert.NormFwdInIdeal.main_arg2) = m ((c.tc : Thread Cert.NormFwdInIdeal.nD Cert.NormFwdInIdeal.τ).loc Cert.NormFwdInIdeal.main_arg2))
      ∧ r.2.sem = fun _ => 0)

def quiescent_NormFwdInRefIdeal [hNormFwdInRefIdeal : Cert.NormFwdInRefIdeal.Facts] : Prop :=
  ∀ (m : (ℓ : Loc Cert.NormFwdInRefIdeal.nD Cert.NormFwdInRefIdeal.τ Cert.NormFwdInRefIdeal.sig) → Buf (Elt Ideal) ℓ) (g : Dev Cert.NormFwdInRefIdeal.nD → PrngReg), Pre_NormFwdInRefIdeal m →
    θ_run (Cert.NormFwdInRefIdeal.defs (F := Ideal)) (onTc (τ := Cert.NormFwdInRefIdeal.τ) (Cert.NormFwdInRefIdeal.main (F := Ideal))) ⟨m, fun _ => 0, g⟩ (fun r => (∀ c : Dev Cert.NormFwdInRefIdeal.nD,
      r.2.mem ((c.tc : Thread Cert.NormFwdInRefIdeal.nD Cert.NormFwdInRefIdeal.τ).loc Cert.NormFwdInRefIdeal.main_arg0) = m ((c.tc : Thread Cert.NormFwdInRefIdeal.nD Cert.NormFwdInRefIdeal.τ).loc Cert.NormFwdInRefIdeal.main_arg0)
      ∧ r.2.mem ((c.tc : Thread Cert.NormFwdInRefIdeal.nD Cert.NormFwdInRefIdeal.τ).loc Cert.NormFwdInRefIdeal.main_arg1) = m ((c.tc : Thread Cert.NormFwdInRefIdeal.nD Cert.NormFwdInRefIdeal.τ).loc Cert.NormFwdInRefIdeal.main_arg1)
      ∧ r.2.mem ((c.tc : Thread Cert.NormFwdInRefIdeal.nD Cert.NormFwdInRefIdeal.τ).loc Cert.NormFwdInRefIdeal.main_arg2) = m ((c.tc : Thread Cert.NormFwdInRefIdeal.nD Cert.NormFwdInRefIdeal.τ).loc Cert.NormFwdInRefIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_WgradB [hWgradB : Cert.WgradB.Facts] : Prop :=
  ∀ (m : (ℓ : Loc Cert.WgradB.nD Cert.WgradB.τ Cert.WgradB.sig) → Buf (Elt Bits) ℓ) (g : Dev Cert.WgradB.nD → PrngReg), Pre_WgradB m →
    θ_run (Cert.WgradB.defs (F := Bits)) (onTc (τ := Cert.WgradB.τ) (Cert.WgradB.main (F := Bits))) ⟨m, fun _ => 0, g⟩ (fun r => (∀ c : Dev Cert.WgradB.nD,
      r.2.mem ((c.tc : Thread Cert.WgradB.nD Cert.WgradB.τ).loc Cert.WgradB.main_arg0) = m ((c.tc : Thread Cert.WgradB.nD Cert.WgradB.τ).loc Cert.WgradB.main_arg0)
      ∧ r.2.mem ((c.tc : Thread Cert.WgradB.nD Cert.WgradB.τ).loc Cert.WgradB.main_arg1) = m ((c.tc : Thread Cert.WgradB.nD Cert.WgradB.τ).loc Cert.WgradB.main_arg1))
      ∧ r.2.sem = fun _ => 0)

def quiescent_WgradBIdeal [hWgradBIdeal : Cert.WgradBIdeal.Facts] : Prop :=
  ∀ (m : (ℓ : Loc Cert.WgradBIdeal.nD Cert.WgradBIdeal.τ Cert.WgradBIdeal.sig) → Buf (Elt Ideal) ℓ) (g : Dev Cert.WgradBIdeal.nD → PrngReg), Pre_WgradBIdeal m →
    θ_run (Cert.WgradBIdeal.defs (F := Ideal)) (onTc (τ := Cert.WgradBIdeal.τ) (Cert.WgradBIdeal.main (F := Ideal))) ⟨m, fun _ => 0, g⟩ (fun r => (∀ c : Dev Cert.WgradBIdeal.nD,
      r.2.mem ((c.tc : Thread Cert.WgradBIdeal.nD Cert.WgradBIdeal.τ).loc Cert.WgradBIdeal.main_arg0) = m ((c.tc : Thread Cert.WgradBIdeal.nD Cert.WgradBIdeal.τ).loc Cert.WgradBIdeal.main_arg0)
      ∧ r.2.mem ((c.tc : Thread Cert.WgradBIdeal.nD Cert.WgradBIdeal.τ).loc Cert.WgradBIdeal.main_arg1) = m ((c.tc : Thread Cert.WgradBIdeal.nD Cert.WgradBIdeal.τ).loc Cert.WgradBIdeal.main_arg1))
      ∧ r.2.sem = fun _ => 0)

def quiescent_WgradBRefIdeal [hWgradBRefIdeal : Cert.WgradBRefIdeal.Facts] : Prop :=
  ∀ (m : (ℓ : Loc Cert.WgradBRefIdeal.nD Cert.WgradBRefIdeal.τ Cert.WgradBRefIdeal.sig) → Buf (Elt Ideal) ℓ) (g : Dev Cert.WgradBRefIdeal.nD → PrngReg), Pre_WgradBRefIdeal m →
    θ_run (Cert.WgradBRefIdeal.defs (F := Ideal)) (onTc (τ := Cert.WgradBRefIdeal.τ) (Cert.WgradBRefIdeal.main (F := Ideal))) ⟨m, fun _ => 0, g⟩ (fun r => (∀ c : Dev Cert.WgradBRefIdeal.nD,
      r.2.mem ((c.tc : Thread Cert.WgradBRefIdeal.nD Cert.WgradBRefIdeal.τ).loc Cert.WgradBRefIdeal.main_arg0) = m ((c.tc : Thread Cert.WgradBRefIdeal.nD Cert.WgradBRefIdeal.τ).loc Cert.WgradBRefIdeal.main_arg0)
      ∧ r.2.mem ((c.tc : Thread Cert.WgradBRefIdeal.nD Cert.WgradBRefIdeal.τ).loc Cert.WgradBRefIdeal.main_arg1) = m ((c.tc : Thread Cert.WgradBRefIdeal.nD Cert.WgradBRefIdeal.τ).loc Cert.WgradBRefIdeal.main_arg1))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v9) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Conv_ConvIdeal : Prop :=
  True

def algebraic_ConvIdeal_ConvRefIdeal_pre_pre_conv [hConvIdeal : Cert.ConvIdeal.Facts] [hConvRefIdeal : Cert.ConvRefIdeal.Facts] [hPre_pre_conv : Cert.Pre_pre_conv.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_pre_conv m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)) (v2 : (c : Dev Cert.ConvIdeal.nD) → Buf (Elt Ideal) ((c.tc : Thread Cert.ConvIdeal.nD Cert.ConvIdeal.τ).loc Cert.ConvIdeal.main_v2_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_v2_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v106) = v0 c
          ∧ r.2.mem ((c.tc : Thread Cert.ConvRefIdeal.nD Cert.ConvRefIdeal.τ).loc Cert.ConvRefIdeal.main_v108) = v1 c
          ∧ r.2.mem ((c.tc : Thread Cert.ConvRefIdeal.nD Cert.ConvRefIdeal.τ).loc Cert.ConvRefIdeal.main_v100) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6))

def preserves_NormQ_NormQIdeal : Prop :=
  True

def algebraic_NormQIdeal_NormQRefIdeal_pre_pre_norm_q [hNormQIdeal : Cert.NormQIdeal.Facts] [hNormQRefIdeal : Cert.NormQRefIdeal.Facts] [hPre_pre_norm_q : Cert.Pre_pre_norm_q.Facts] : Prop :=
  ∀ (m : (ℓ : Loc Cert.NormQIdeal.nD Cert.NormQIdeal.τ Cert.NormQIdeal.sig) → Buf (Elt Ideal) ℓ) (g : Dev Cert.NormQIdeal.nD → PrngReg)
    (m' : (ℓ : Loc Cert.NormQRefIdeal.nD Cert.NormQRefIdeal.τ Cert.NormQRefIdeal.sig) → Buf (Elt Ideal) ℓ) (g' : Dev Cert.NormQRefIdeal.nD → PrngReg), Pre_NormQIdeal_pre_norm_q m →
    (∀ c : Dev Cert.NormQIdeal.nD,
      m' ((c.tc : Thread Cert.NormQRefIdeal.nD Cert.NormQRefIdeal.τ).loc Cert.NormQRefIdeal.main_arg0) = m ((c.tc : Thread Cert.NormQIdeal.nD Cert.NormQIdeal.τ).loc Cert.NormQIdeal.main_arg0)
      ∧ m' ((c.tc : Thread Cert.NormQRefIdeal.nD Cert.NormQRefIdeal.τ).loc Cert.NormQRefIdeal.main_arg1) = m ((c.tc : Thread Cert.NormQIdeal.nD Cert.NormQIdeal.τ).loc Cert.NormQIdeal.main_arg1)
      ∧ m' ((c.tc : Thread Cert.NormQRefIdeal.nD Cert.NormQRefIdeal.τ).loc Cert.NormQRefIdeal.main_arg2) = m ((c.tc : Thread Cert.NormQIdeal.nD Cert.NormQIdeal.τ).loc Cert.NormQIdeal.main_arg2)
      ∧ m' ((c.tc : Thread Cert.NormQRefIdeal.nD Cert.NormQRefIdeal.τ).loc Cert.NormQRefIdeal.main_arg3) = m ((c.tc : Thread Cert.NormQIdeal.nD Cert.NormQIdeal.τ).loc Cert.NormQIdeal.main_arg3)
      ∧ m' ((c.tc : Thread Cert.NormQRefIdeal.nD Cert.NormQRefIdeal.τ).loc Cert.NormQRefIdeal.main_arg4) = m ((c.tc : Thread Cert.NormQIdeal.nD Cert.NormQIdeal.τ).loc Cert.NormQIdeal.main_arg4)) →
    ∃ (v0 : (c : Dev Cert.NormQIdeal.nD) → Buf (Elt Ideal) ((c.tc : Thread Cert.NormQIdeal.nD Cert.NormQIdeal.τ).loc Cert.NormQIdeal.main_v4_0)) (v1 : (c : Dev Cert.NormQIdeal.nD) → Buf (Elt Ideal) ((c.tc : Thread Cert.NormQIdeal.nD Cert.NormQIdeal.τ).loc Cert.NormQIdeal.main_v4_1)) (v2 : (c : Dev Cert.NormQIdeal.nD) → Buf (Elt Ideal) ((c.tc : Thread Cert.NormQIdeal.nD Cert.NormQIdeal.τ).loc Cert.NormQIdeal.main_v4_2)),
      θ_run (Cert.NormQIdeal.defs (F := Ideal)) (onTc (τ := Cert.NormQIdeal.τ) (Cert.NormQIdeal.main (F := Ideal))) ⟨m, fun _ => 0, g⟩ (fun r => ∀ c : Dev Cert.NormQIdeal.nD,
          r.2.mem ((c.tc : Thread Cert.NormQIdeal.nD Cert.NormQIdeal.τ).loc Cert.NormQIdeal.main_v4_0) = v0 c
          ∧ r.2.mem ((c.tc : Thread Cert.NormQIdeal.nD Cert.NormQIdeal.τ).loc Cert.NormQIdeal.main_v4_1) = v1 c
          ∧ r.2.mem ((c.tc : Thread Cert.NormQIdeal.nD Cert.NormQIdeal.τ).loc Cert.NormQIdeal.main_v4_2) = v2 c
          ∧ r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
          ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1)
          ∧ r.2.mem ((c.tc : Thread Cert.NormQIdeal.nD Cert.NormQIdeal.τ).loc Cert.NormQIdeal.main_arg2) = m ((c.tc : Thread Cert.NormQIdeal.nD Cert.NormQIdeal.τ).loc Cert.NormQIdeal.main_arg2)
          ∧ r.2.mem ((c.tc : Thread Cert.NormQIdeal.nD Cert.NormQIdeal.τ).loc Cert.NormQIdeal.main_arg3) = m ((c.tc : Thread Cert.NormQIdeal.nD Cert.NormQIdeal.τ).loc Cert.NormQIdeal.main_arg3)
          ∧ r.2.mem ((c.tc : Thread Cert.NormQIdeal.nD Cert.NormQIdeal.τ).loc Cert.NormQIdeal.main_arg4) = m ((c.tc : Thread Cert.NormQIdeal.nD Cert.NormQIdeal.τ).loc Cert.NormQIdeal.main_arg4))
      ∧ θ_run (Cert.NormQRefIdeal.defs (F := Ideal)) (onTc (τ := Cert.NormQRefIdeal.τ) (Cert.NormQRefIdeal.main (F := Ideal))) ⟨m', fun _ => 0, g'⟩ (fun r => ∀ c : Dev Cert.NormQRefIdeal.nD,
          r.2.mem ((c.tc : Thread Cert.NormQRefIdeal.nD Cert.NormQRefIdeal.τ).loc Cert.NormQRefIdeal.main_v40) = v0 c
          ∧ r.2.mem ((c.tc : Thread Cert.NormQRefIdeal.nD Cert.NormQRefIdeal.τ).loc Cert.NormQRefIdeal.main_v54) = v1 c
          ∧ r.2.mem ((c.tc : Thread Cert.NormQRefIdeal.nD Cert.NormQRefIdeal.τ).loc Cert.NormQRefIdeal.main_v55) = v2 c
          ∧ r.2.mem ((c.tc : Thread Cert.NormQRefIdeal.nD Cert.NormQRefIdeal.τ).loc Cert.NormQRefIdeal.main_arg0) = m' ((c.tc : Thread Cert.NormQRefIdeal.nD Cert.NormQRefIdeal.τ).loc Cert.NormQRefIdeal.main_arg0)
          ∧ r.2.mem ((c.tc : Thread Cert.NormQRefIdeal.nD Cert.NormQRefIdeal.τ).loc Cert.NormQRefIdeal.main_arg1) = m' ((c.tc : Thread Cert.NormQRefIdeal.nD Cert.NormQRefIdeal.τ).loc Cert.NormQRefIdeal.main_arg1)
          ∧ r.2.mem ((c.tc : Thread Cert.NormQRefIdeal.nD Cert.NormQRefIdeal.τ).loc Cert.NormQRefIdeal.main_arg2) = m' ((c.tc : Thread Cert.NormQRefIdeal.nD Cert.NormQRefIdeal.τ).loc Cert.NormQRefIdeal.main_arg2)
          ∧ r.2.mem ((c.tc : Thread Cert.NormQRefIdeal.nD Cert.NormQRefIdeal.τ).loc Cert.NormQRefIdeal.main_arg3) = m' ((c.tc : Thread Cert.NormQRefIdeal.nD Cert.NormQRefIdeal.τ).loc Cert.NormQRefIdeal.main_arg3)
          ∧ r.2.mem ((c.tc : Thread Cert.NormQRefIdeal.nD Cert.NormQRefIdeal.τ).loc Cert.NormQRefIdeal.main_arg4) = m' ((c.tc : Thread Cert.NormQRefIdeal.nD Cert.NormQRefIdeal.τ).loc Cert.NormQRefIdeal.main_arg4))

def preserves_NormKv_NormKvIdeal : Prop :=
  True

def algebraic_NormKvIdeal_NormKvRefIdeal_pre_pre_norm_kv [hNormKvIdeal : Cert.NormKvIdeal.Facts] [hNormKvRefIdeal : Cert.NormKvRefIdeal.Facts] [hPre_pre_norm_kv : Cert.Pre_pre_norm_kv.Facts] : Prop :=
  ∀ (m : (ℓ : Loc Cert.NormKvIdeal.nD Cert.NormKvIdeal.τ Cert.NormKvIdeal.sig) → Buf (Elt Ideal) ℓ) (g : Dev Cert.NormKvIdeal.nD → PrngReg)
    (m' : (ℓ : Loc Cert.NormKvRefIdeal.nD Cert.NormKvRefIdeal.τ Cert.NormKvRefIdeal.sig) → Buf (Elt Ideal) ℓ) (g' : Dev Cert.NormKvRefIdeal.nD → PrngReg), Pre_NormKvIdeal_pre_norm_kv m →
    (∀ c : Dev Cert.NormKvIdeal.nD,
      m' ((c.tc : Thread Cert.NormKvRefIdeal.nD Cert.NormKvRefIdeal.τ).loc Cert.NormKvRefIdeal.main_arg0) = m ((c.tc : Thread Cert.NormKvIdeal.nD Cert.NormKvIdeal.τ).loc Cert.NormKvIdeal.main_arg0)
      ∧ m' ((c.tc : Thread Cert.NormKvRefIdeal.nD Cert.NormKvRefIdeal.τ).loc Cert.NormKvRefIdeal.main_arg1) = m ((c.tc : Thread Cert.NormKvIdeal.nD Cert.NormKvIdeal.τ).loc Cert.NormKvIdeal.main_arg1)
      ∧ m' ((c.tc : Thread Cert.NormKvRefIdeal.nD Cert.NormKvRefIdeal.τ).loc Cert.NormKvRefIdeal.main_arg2) = m ((c.tc : Thread Cert.NormKvIdeal.nD Cert.NormKvIdeal.τ).loc Cert.NormKvIdeal.main_arg2)
      ∧ m' ((c.tc : Thread Cert.NormKvRefIdeal.nD Cert.NormKvRefIdeal.τ).loc Cert.NormKvRefIdeal.main_arg3) = m ((c.tc : Thread Cert.NormKvIdeal.nD Cert.NormKvIdeal.τ).loc Cert.NormKvIdeal.main_arg3)
      ∧ m' ((c.tc : Thread Cert.NormKvRefIdeal.nD Cert.NormKvRefIdeal.τ).loc Cert.NormKvRefIdeal.main_arg4) = m ((c.tc : Thread Cert.NormKvIdeal.nD Cert.NormKvIdeal.τ).loc Cert.NormKvIdeal.main_arg4)) →
    ∃ (v0 : (c : Dev Cert.NormKvIdeal.nD) → Buf (Elt Ideal) ((c.tc : Thread Cert.NormKvIdeal.nD Cert.NormKvIdeal.τ).loc Cert.NormKvIdeal.main_v10_0)) (v1 : (c : Dev Cert.NormKvIdeal.nD) → Buf (Elt Ideal) ((c.tc : Thread Cert.NormKvIdeal.nD Cert.NormKvIdeal.τ).loc Cert.NormKvIdeal.main_v10_1)) (v2 : (c : Dev Cert.NormKvIdeal.nD) → Buf (Elt Ideal) ((c.tc : Thread Cert.NormKvIdeal.nD Cert.NormKvIdeal.τ).loc Cert.NormKvIdeal.main_v10_2)),
      θ_run (Cert.NormKvIdeal.defs (F := Ideal)) (onTc (τ := Cert.NormKvIdeal.τ) (Cert.NormKvIdeal.main (F := Ideal))) ⟨m, fun _ => 0, g⟩ (fun r => ∀ c : Dev Cert.NormKvIdeal.nD,
          r.2.mem ((c.tc : Thread Cert.NormKvIdeal.nD Cert.NormKvIdeal.τ).loc Cert.NormKvIdeal.main_v10_0) = v0 c
          ∧ r.2.mem ((c.tc : Thread Cert.NormKvIdeal.nD Cert.NormKvIdeal.τ).loc Cert.NormKvIdeal.main_v10_1) = v1 c
          ∧ r.2.mem ((c.tc : Thread Cert.NormKvIdeal.nD Cert.NormKvIdeal.τ).loc Cert.NormKvIdeal.main_v10_2) = v2 c
          ∧ r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
          ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1)
          ∧ r.2.mem ((c.tc : Thread Cert.NormKvIdeal.nD Cert.NormKvIdeal.τ).loc Cert.NormKvIdeal.main_arg2) = m ((c.tc : Thread Cert.NormKvIdeal.nD Cert.NormKvIdeal.τ).loc Cert.NormKvIdeal.main_arg2)
          ∧ r.2.mem ((c.tc : Thread Cert.NormKvIdeal.nD Cert.NormKvIdeal.τ).loc Cert.NormKvIdeal.main_arg3) = m ((c.tc : Thread Cert.NormKvIdeal.nD Cert.NormKvIdeal.τ).loc Cert.NormKvIdeal.main_arg3)
          ∧ r.2.mem ((c.tc : Thread Cert.NormKvIdeal.nD Cert.NormKvIdeal.τ).loc Cert.NormKvIdeal.main_arg4) = m ((c.tc : Thread Cert.NormKvIdeal.nD Cert.NormKvIdeal.τ).loc Cert.NormKvIdeal.main_arg4))
      ∧ θ_run (Cert.NormKvRefIdeal.defs (F := Ideal)) (onTc (τ := Cert.NormKvRefIdeal.τ) (Cert.NormKvRefIdeal.main (F := Ideal))) ⟨m', fun _ => 0, g'⟩ (fun r => ∀ c : Dev Cert.NormKvRefIdeal.nD,
          r.2.mem ((c.tc : Thread Cert.NormKvRefIdeal.nD Cert.NormKvRefIdeal.τ).loc Cert.NormKvRefIdeal.main_v40) = v0 c
          ∧ r.2.mem ((c.tc : Thread Cert.NormKvRefIdeal.nD Cert.NormKvRefIdeal.τ).loc Cert.NormKvRefIdeal.main_v54) = v1 c
          ∧ r.2.mem ((c.tc : Thread Cert.NormKvRefIdeal.nD Cert.NormKvRefIdeal.τ).loc Cert.NormKvRefIdeal.main_v55) = v2 c
          ∧ r.2.mem ((c.tc : Thread Cert.NormKvRefIdeal.nD Cert.NormKvRefIdeal.τ).loc Cert.NormKvRefIdeal.main_arg0) = m' ((c.tc : Thread Cert.NormKvRefIdeal.nD Cert.NormKvRefIdeal.τ).loc Cert.NormKvRefIdeal.main_arg0)
          ∧ r.2.mem ((c.tc : Thread Cert.NormKvRefIdeal.nD Cert.NormKvRefIdeal.τ).loc Cert.NormKvRefIdeal.main_arg1) = m' ((c.tc : Thread Cert.NormKvRefIdeal.nD Cert.NormKvRefIdeal.τ).loc Cert.NormKvRefIdeal.main_arg1)
          ∧ r.2.mem ((c.tc : Thread Cert.NormKvRefIdeal.nD Cert.NormKvRefIdeal.τ).loc Cert.NormKvRefIdeal.main_arg2) = m' ((c.tc : Thread Cert.NormKvRefIdeal.nD Cert.NormKvRefIdeal.τ).loc Cert.NormKvRefIdeal.main_arg2)
          ∧ r.2.mem ((c.tc : Thread Cert.NormKvRefIdeal.nD Cert.NormKvRefIdeal.τ).loc Cert.NormKvRefIdeal.main_arg3) = m' ((c.tc : Thread Cert.NormKvRefIdeal.nD Cert.NormKvRefIdeal.τ).loc Cert.NormKvRefIdeal.main_arg3)
          ∧ r.2.mem ((c.tc : Thread Cert.NormKvRefIdeal.nD Cert.NormKvRefIdeal.τ).loc Cert.NormKvRefIdeal.main_arg4) = m' ((c.tc : Thread Cert.NormKvRefIdeal.nD Cert.NormKvRefIdeal.τ).loc Cert.NormKvRefIdeal.main_arg4))

def preserves_NormIn_NormInIdeal : Prop :=
  True

def algebraic_NormInIdeal_NormInRefIdeal_pre_pre_norm_in [hNormInIdeal : Cert.NormInIdeal.Facts] [hNormInRefIdeal : Cert.NormInRefIdeal.Facts] [hPre_pre_norm_in : Cert.Pre_pre_norm_in.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal_pre_norm_in m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)
      ∧ m' ((c.tc : Thread Cert.NormInRefIdeal.nD Cert.NormInRefIdeal.τ).loc Cert.NormInRefIdeal.main_arg3) = m ((c.tc : Thread Cert.NormInIdeal.nD Cert.NormInIdeal.τ).loc Cert.NormInIdeal.main_arg3)
      ∧ m' ((c.tc : Thread Cert.NormInRefIdeal.nD Cert.NormInRefIdeal.τ).loc Cert.NormInRefIdeal.main_arg4) = m ((c.tc : Thread Cert.NormInIdeal.nD Cert.NormInIdeal.τ).loc Cert.NormInIdeal.main_arg4)) →
    ∃ (v0 : (c : Dev Cert.NormInIdeal.nD) → Buf (Elt Ideal) ((c.tc : Thread Cert.NormInIdeal.nD Cert.NormInIdeal.τ).loc Cert.NormInIdeal.main_v16_0)) (v1 : (c : Dev Cert.NormInIdeal.nD) → Buf (Elt Ideal) ((c.tc : Thread Cert.NormInIdeal.nD Cert.NormInIdeal.τ).loc Cert.NormInIdeal.main_v16_1)) (v2 : (c : Dev Cert.NormInIdeal.nD) → Buf (Elt Ideal) ((c.tc : Thread Cert.NormInIdeal.nD Cert.NormInIdeal.τ).loc Cert.NormInIdeal.main_v16_2)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v16_0) = v0 c
          ∧ r.2.mem ((c.tc : Thread Cert.NormInIdeal.nD Cert.NormInIdeal.τ).loc Cert.NormInIdeal.main_v16_1) = v1 c
          ∧ r.2.mem ((c.tc : Thread Cert.NormInIdeal.nD Cert.NormInIdeal.τ).loc Cert.NormInIdeal.main_v16_2) = v2 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
          ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v40) = v0 c
          ∧ r.2.mem ((c.tc : Thread Cert.NormInRefIdeal.nD Cert.NormInRefIdeal.τ).loc Cert.NormInRefIdeal.main_v54) = v1 c
          ∧ r.2.mem ((c.tc : Thread Cert.NormInRefIdeal.nD Cert.NormInRefIdeal.τ).loc Cert.NormInRefIdeal.main_v55) = v2 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2)
          ∧ r.2.mem ((c.tc : Thread Cert.NormInRefIdeal.nD Cert.NormInRefIdeal.τ).loc Cert.NormInRefIdeal.main_arg3) = m' ((c.tc : Thread Cert.NormInRefIdeal.nD Cert.NormInRefIdeal.τ).loc Cert.NormInRefIdeal.main_arg3)
          ∧ r.2.mem ((c.tc : Thread Cert.NormInRefIdeal.nD Cert.NormInRefIdeal.τ).loc Cert.NormInRefIdeal.main_arg4) = m' ((c.tc : Thread Cert.NormInRefIdeal.nD Cert.NormInRefIdeal.τ).loc Cert.NormInRefIdeal.main_arg4))

def preserves_AttnFwd_AttnFwdIdeal : Prop :=
  IdealRules.named_const.Statement Cert.AttnFwdIdeal.κ "mask" .f32 0xF149F2CA#32 ⊥

def algebraic_AttnFwdIdeal_AttnFwdRefIdeal_pre_pre_attn_fwd [hAttnFwdIdeal : Cert.AttnFwdIdeal.Facts] [hAttnFwdRefIdeal : Cert.AttnFwdRefIdeal.Facts] [hPre_pre_attn_fwd : Cert.Pre_pre_attn_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_pre_attn_fwd m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)
      ∧ m' ((c.tc : Thread Cert.AttnFwdRefIdeal.nD Cert.AttnFwdRefIdeal.τ).loc Cert.AttnFwdRefIdeal.main_arg4) = m ((c.tc : Thread Cert.AttnFwdIdeal.nD Cert.AttnFwdIdeal.τ).loc Cert.AttnFwdIdeal.main_arg4)
      ∧ m' ((c.tc : Thread Cert.AttnFwdRefIdeal.nD Cert.AttnFwdRefIdeal.τ).loc Cert.AttnFwdRefIdeal.main_arg5) = m ((c.tc : Thread Cert.AttnFwdIdeal.nD Cert.AttnFwdIdeal.τ).loc Cert.AttnFwdIdeal.main_arg5)
      ∧ m' ((c.tc : Thread Cert.AttnFwdRefIdeal.nD Cert.AttnFwdRefIdeal.τ).loc Cert.AttnFwdRefIdeal.main_arg6) = m ((c.tc : Thread Cert.AttnFwdIdeal.nD Cert.AttnFwdIdeal.τ).loc Cert.AttnFwdIdeal.main_arg6)
      ∧ m' ((c.tc : Thread Cert.AttnFwdRefIdeal.nD Cert.AttnFwdRefIdeal.τ).loc Cert.AttnFwdRefIdeal.main_arg7) = m ((c.tc : Thread Cert.AttnFwdIdeal.nD Cert.AttnFwdIdeal.τ).loc Cert.AttnFwdIdeal.main_arg7)) →
    ∃ (v0 : (c : Dev Cert.AttnFwdIdeal.nD) → Buf (Elt Ideal) ((c.tc : Thread Cert.AttnFwdIdeal.nD Cert.AttnFwdIdeal.τ).loc Cert.AttnFwdIdeal.main_v11)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v11) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
          ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4)
          ∧ r.2.mem ((c.tc : Thread Cert.AttnFwdIdeal.nD Cert.AttnFwdIdeal.τ).loc Cert.AttnFwdIdeal.main_arg5) = m ((c.tc : Thread Cert.AttnFwdIdeal.nD Cert.AttnFwdIdeal.τ).loc Cert.AttnFwdIdeal.main_arg5)
          ∧ r.2.mem ((c.tc : Thread Cert.AttnFwdIdeal.nD Cert.AttnFwdIdeal.τ).loc Cert.AttnFwdIdeal.main_arg6) = m ((c.tc : Thread Cert.AttnFwdIdeal.nD Cert.AttnFwdIdeal.τ).loc Cert.AttnFwdIdeal.main_arg6)
          ∧ r.2.mem ((c.tc : Thread Cert.AttnFwdIdeal.nD Cert.AttnFwdIdeal.τ).loc Cert.AttnFwdIdeal.main_arg7) = m ((c.tc : Thread Cert.AttnFwdIdeal.nD Cert.AttnFwdIdeal.τ).loc Cert.AttnFwdIdeal.main_arg7))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v103) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3)
          ∧ r.2.mem ((c.tc : Thread Cert.AttnFwdRefIdeal.nD Cert.AttnFwdRefIdeal.τ).loc Cert.AttnFwdRefIdeal.main_arg4) = m' ((c.tc : Thread Cert.AttnFwdRefIdeal.nD Cert.AttnFwdRefIdeal.τ).loc Cert.AttnFwdRefIdeal.main_arg4)
          ∧ r.2.mem ((c.tc : Thread Cert.AttnFwdRefIdeal.nD Cert.AttnFwdRefIdeal.τ).loc Cert.AttnFwdRefIdeal.main_arg5) = m' ((c.tc : Thread Cert.AttnFwdRefIdeal.nD Cert.AttnFwdRefIdeal.τ).loc Cert.AttnFwdRefIdeal.main_arg5)
          ∧ r.2.mem ((c.tc : Thread Cert.AttnFwdRefIdeal.nD Cert.AttnFwdRefIdeal.τ).loc Cert.AttnFwdRefIdeal.main_arg6) = m' ((c.tc : Thread Cert.AttnFwdRefIdeal.nD Cert.AttnFwdRefIdeal.τ).loc Cert.AttnFwdRefIdeal.main_arg6)
          ∧ r.2.mem ((c.tc : Thread Cert.AttnFwdRefIdeal.nD Cert.AttnFwdRefIdeal.τ).loc Cert.AttnFwdRefIdeal.main_arg7) = m' ((c.tc : Thread Cert.AttnFwdRefIdeal.nD Cert.AttnFwdRefIdeal.τ).loc Cert.AttnFwdRefIdeal.main_arg7))

def preserves_SsdFwd_SsdFwdIdeal : Prop :=
  IdealRules.named_const.Statement Cert.SsdFwdIdeal.κ "mask" .f32 0xF149F2CA#32 ⊥

def algebraic_SsdFwdIdeal_SsdFwdRefIdeal_pre_pre_ssd_fwd [hSsdFwdIdeal : Cert.SsdFwdIdeal.Facts] [hSsdFwdRefIdeal : Cert.SsdFwdRefIdeal.Facts] [hPre_pre_ssd_fwd : Cert.Pre_pre_ssd_fwd.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg)
    (m' : (ℓ : Loc Cert.SsdFwdRefIdeal.nD Cert.SsdFwdRefIdeal.τ Cert.SsdFwdRefIdeal.sig) → Buf (Elt Ideal) ℓ) (g' : Dev Cert.SsdFwdRefIdeal.nD → PrngReg), Pre_SsdFwdIdeal_pre_ssd_fwd m →
    (∀ c : Dev Cert.SsdFwdIdeal.nD,
      m' ((c.tc : Thread Cert.SsdFwdRefIdeal.nD Cert.SsdFwdRefIdeal.τ).loc Cert.SsdFwdRefIdeal.main_arg0) = m ((c.tc : Thread Cert.SsdFwdIdeal.nD Cert.SsdFwdIdeal.τ).loc Cert.SsdFwdIdeal.main_arg0)
      ∧ m' ((c.tc : Thread Cert.SsdFwdRefIdeal.nD Cert.SsdFwdRefIdeal.τ).loc Cert.SsdFwdRefIdeal.main_arg1) = m ((c.tc : Thread Cert.SsdFwdIdeal.nD Cert.SsdFwdIdeal.τ).loc Cert.SsdFwdIdeal.main_arg1)
      ∧ m' ((c.tc : Thread Cert.SsdFwdRefIdeal.nD Cert.SsdFwdRefIdeal.τ).loc Cert.SsdFwdRefIdeal.main_arg2) = m ((c.tc : Thread Cert.SsdFwdIdeal.nD Cert.SsdFwdIdeal.τ).loc Cert.SsdFwdIdeal.main_arg2)
      ∧ m' ((c.tc : Thread Cert.SsdFwdRefIdeal.nD Cert.SsdFwdRefIdeal.τ).loc Cert.SsdFwdRefIdeal.main_arg3) = m ((c.tc : Thread Cert.SsdFwdIdeal.nD Cert.SsdFwdIdeal.τ).loc Cert.SsdFwdIdeal.main_arg3)
      ∧ m' ((c.tc : Thread Cert.SsdFwdRefIdeal.nD Cert.SsdFwdRefIdeal.τ).loc Cert.SsdFwdRefIdeal.main_arg4) = m ((c.tc : Thread Cert.SsdFwdIdeal.nD Cert.SsdFwdIdeal.τ).loc Cert.SsdFwdIdeal.main_arg4)) →
    ∃ (v0 : (c : Dev Cert.SsdFwdIdeal.nD) → Buf (Elt Ideal) ((c.tc : Thread Cert.SsdFwdIdeal.nD Cert.SsdFwdIdeal.τ).loc Cert.SsdFwdIdeal.main_v15_0)) (v1 : (c : Dev Cert.SsdFwdIdeal.nD) → Buf (Elt Ideal) ((c.tc : Thread Cert.SsdFwdIdeal.nD Cert.SsdFwdIdeal.τ).loc Cert.SsdFwdIdeal.main_v15_1)),
      θ_run (Cert.SsdFwdIdeal.defs (F := Ideal)) (onTc (τ := Cert.SsdFwdIdeal.τ) (Cert.SsdFwdIdeal.main (F := Ideal))) ⟨m, fun _ => 0, g⟩ (fun r => ∀ c : Dev Cert.SsdFwdIdeal.nD,
          r.2.mem ((c.tc : Thread Cert.SsdFwdIdeal.nD Cert.SsdFwdIdeal.τ).loc Cert.SsdFwdIdeal.main_v15_0) = v0 c
          ∧ r.2.mem ((c.tc : Thread Cert.SsdFwdIdeal.nD Cert.SsdFwdIdeal.τ).loc Cert.SsdFwdIdeal.main_v15_1) = v1 c
          ∧ r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
          ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
          ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
          ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
          ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4))
      ∧ θ_run (Cert.SsdFwdRefIdeal.defs (F := Ideal)) (onTc (τ := Cert.SsdFwdRefIdeal.τ) (Cert.SsdFwdRefIdeal.main (F := Ideal))) ⟨m', fun _ => 0, g'⟩ (fun r => ∀ c : Dev Cert.SsdFwdRefIdeal.nD,
          r.2.mem ((c.tc : Thread Cert.SsdFwdRefIdeal.nD Cert.SsdFwdRefIdeal.τ).loc Cert.SsdFwdRefIdeal.main_v41) = v0 c
          ∧ r.2.mem ((c.tc : Thread Cert.SsdFwdRefIdeal.nD Cert.SsdFwdRefIdeal.τ).loc Cert.SsdFwdRefIdeal.main_v42) = v1 c
          ∧ r.2.mem ((c.tc : Thread Cert.SsdFwdRefIdeal.nD Cert.SsdFwdRefIdeal.τ).loc Cert.SsdFwdRefIdeal.main_arg0) = m' ((c.tc : Thread Cert.SsdFwdRefIdeal.nD Cert.SsdFwdRefIdeal.τ).loc Cert.SsdFwdRefIdeal.main_arg0)
          ∧ r.2.mem ((c.tc : Thread Cert.SsdFwdRefIdeal.nD Cert.SsdFwdRefIdeal.τ).loc Cert.SsdFwdRefIdeal.main_arg1) = m' ((c.tc : Thread Cert.SsdFwdRefIdeal.nD Cert.SsdFwdRefIdeal.τ).loc Cert.SsdFwdRefIdeal.main_arg1)
          ∧ r.2.mem ((c.tc : Thread Cert.SsdFwdRefIdeal.nD Cert.SsdFwdRefIdeal.τ).loc Cert.SsdFwdRefIdeal.main_arg2) = m' ((c.tc : Thread Cert.SsdFwdRefIdeal.nD Cert.SsdFwdRefIdeal.τ).loc Cert.SsdFwdRefIdeal.main_arg2)
          ∧ r.2.mem ((c.tc : Thread Cert.SsdFwdRefIdeal.nD Cert.SsdFwdRefIdeal.τ).loc Cert.SsdFwdRefIdeal.main_arg3) = m' ((c.tc : Thread Cert.SsdFwdRefIdeal.nD Cert.SsdFwdRefIdeal.τ).loc Cert.SsdFwdRefIdeal.main_arg3)
          ∧ r.2.mem ((c.tc : Thread Cert.SsdFwdRefIdeal.nD Cert.SsdFwdRefIdeal.τ).loc Cert.SsdFwdRefIdeal.main_arg4) = m' ((c.tc : Thread Cert.SsdFwdRefIdeal.nD Cert.SsdFwdRefIdeal.τ).loc Cert.SsdFwdRefIdeal.main_arg4))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v3_0)) (v1 : (c : Dev Cert.GateIdeal.nD) → Buf (Elt Ideal) ((c.tc : Thread Cert.GateIdeal.nD Cert.GateIdeal.τ).loc Cert.GateIdeal.main_v3_1)) (v2 : (c : Dev Cert.GateIdeal.nD) → Buf (Elt Ideal) ((c.tc : Thread Cert.GateIdeal.nD Cert.GateIdeal.τ).loc Cert.GateIdeal.main_v3_2)) (v3 : (c : Dev Cert.GateIdeal.nD) → Buf (Elt Ideal) ((c.tc : Thread Cert.GateIdeal.nD Cert.GateIdeal.τ).loc Cert.GateIdeal.main_v3_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3_0) = v0 c
          ∧ r.2.mem ((c.tc : Thread Cert.GateIdeal.nD Cert.GateIdeal.τ).loc Cert.GateIdeal.main_v3_1) = v1 c
          ∧ r.2.mem ((c.tc : Thread Cert.GateIdeal.nD Cert.GateIdeal.τ).loc Cert.GateIdeal.main_v3_2) = v2 c
          ∧ r.2.mem ((c.tc : Thread Cert.GateIdeal.nD Cert.GateIdeal.τ).loc Cert.GateIdeal.main_v3_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v50) = v0 c
          ∧ r.2.mem ((c.tc : Thread Cert.GateRefIdeal.nD Cert.GateRefIdeal.τ).loc Cert.GateRefIdeal.main_v48) = v1 c
          ∧ r.2.mem ((c.tc : Thread Cert.GateRefIdeal.nD Cert.GateRefIdeal.τ).loc Cert.GateRefIdeal.main_v51) = v2 c
          ∧ r.2.mem ((c.tc : Thread Cert.GateRefIdeal.nD Cert.GateRefIdeal.τ).loc Cert.GateRefIdeal.main_v52) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)
      ∧ m' ((c.tc : Thread Cert.GateFwdRefIdeal.nD Cert.GateFwdRefIdeal.τ).loc Cert.GateFwdRefIdeal.main_arg4) = m ((c.tc : Thread Cert.GateFwdIdeal.nD Cert.GateFwdIdeal.τ).loc Cert.GateFwdIdeal.main_arg4)) →
    ∃ (v0 : (c : Dev Cert.GateFwdIdeal.nD) → Buf (Elt Ideal) ((c.tc : Thread Cert.GateFwdIdeal.nD Cert.GateFwdIdeal.τ).loc Cert.GateFwdIdeal.main_v2)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v2) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v20) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3)
          ∧ r.2.mem ((c.tc : Thread Cert.GateFwdRefIdeal.nD Cert.GateFwdRefIdeal.τ).loc Cert.GateFwdRefIdeal.main_arg4) = m' ((c.tc : Thread Cert.GateFwdRefIdeal.nD Cert.GateFwdRefIdeal.τ).loc Cert.GateFwdRefIdeal.main_arg4))

def preserves_NormFwdQ_NormFwdQIdeal : Prop :=
  True

def algebraic_NormFwdQIdeal_NormFwdQRefIdeal [hNormFwdQIdeal : Cert.NormFwdQIdeal.Facts] [hNormFwdQRefIdeal : Cert.NormFwdQRefIdeal.Facts] : Prop :=
  ∀ (m : (ℓ : Loc Cert.NormFwdQIdeal.nD Cert.NormFwdQIdeal.τ Cert.NormFwdQIdeal.sig) → Buf (Elt Ideal) ℓ) (g : Dev Cert.NormFwdQIdeal.nD → PrngReg)
    (m' : (ℓ : Loc Cert.NormFwdQRefIdeal.nD Cert.NormFwdQRefIdeal.τ Cert.NormFwdQRefIdeal.sig) → Buf (Elt Ideal) ℓ) (g' : Dev Cert.NormFwdQRefIdeal.nD → PrngReg), Pre_NormFwdQIdeal m →
    (∀ c : Dev Cert.NormFwdQIdeal.nD,
      m' ((c.tc : Thread Cert.NormFwdQRefIdeal.nD Cert.NormFwdQRefIdeal.τ).loc Cert.NormFwdQRefIdeal.main_arg0) = m ((c.tc : Thread Cert.NormFwdQIdeal.nD Cert.NormFwdQIdeal.τ).loc Cert.NormFwdQIdeal.main_arg0)
      ∧ m' ((c.tc : Thread Cert.NormFwdQRefIdeal.nD Cert.NormFwdQRefIdeal.τ).loc Cert.NormFwdQRefIdeal.main_arg1) = m ((c.tc : Thread Cert.NormFwdQIdeal.nD Cert.NormFwdQIdeal.τ).loc Cert.NormFwdQIdeal.main_arg1)
      ∧ m' ((c.tc : Thread Cert.NormFwdQRefIdeal.nD Cert.NormFwdQRefIdeal.τ).loc Cert.NormFwdQRefIdeal.main_arg2) = m ((c.tc : Thread Cert.NormFwdQIdeal.nD Cert.NormFwdQIdeal.τ).loc Cert.NormFwdQIdeal.main_arg2)) →
    ∃ (v0 : (c : Dev Cert.NormFwdQIdeal.nD) → Buf (Elt Ideal) ((c.tc : Thread Cert.NormFwdQIdeal.nD Cert.NormFwdQIdeal.τ).loc Cert.NormFwdQIdeal.main_v2)),
      θ_run (Cert.NormFwdQIdeal.defs (F := Ideal)) (onTc (τ := Cert.NormFwdQIdeal.τ) (Cert.NormFwdQIdeal.main (F := Ideal))) ⟨m, fun _ => 0, g⟩ (fun r => ∀ c : Dev Cert.NormFwdQIdeal.nD,
          r.2.mem ((c.tc : Thread Cert.NormFwdQIdeal.nD Cert.NormFwdQIdeal.τ).loc Cert.NormFwdQIdeal.main_v2) = v0 c
          ∧ r.2.mem ((c.tc : Thread Cert.NormFwdQIdeal.nD Cert.NormFwdQIdeal.τ).loc Cert.NormFwdQIdeal.main_arg0) = m ((c.tc : Thread Cert.NormFwdQIdeal.nD Cert.NormFwdQIdeal.τ).loc Cert.NormFwdQIdeal.main_arg0)
          ∧ r.2.mem ((c.tc : Thread Cert.NormFwdQIdeal.nD Cert.NormFwdQIdeal.τ).loc Cert.NormFwdQIdeal.main_arg1) = m ((c.tc : Thread Cert.NormFwdQIdeal.nD Cert.NormFwdQIdeal.τ).loc Cert.NormFwdQIdeal.main_arg1)
          ∧ r.2.mem ((c.tc : Thread Cert.NormFwdQIdeal.nD Cert.NormFwdQIdeal.τ).loc Cert.NormFwdQIdeal.main_arg2) = m ((c.tc : Thread Cert.NormFwdQIdeal.nD Cert.NormFwdQIdeal.τ).loc Cert.NormFwdQIdeal.main_arg2))
      ∧ θ_run (Cert.NormFwdQRefIdeal.defs (F := Ideal)) (onTc (τ := Cert.NormFwdQRefIdeal.τ) (Cert.NormFwdQRefIdeal.main (F := Ideal))) ⟨m', fun _ => 0, g'⟩ (fun r => ∀ c : Dev Cert.NormFwdQRefIdeal.nD,
          r.2.mem ((c.tc : Thread Cert.NormFwdQRefIdeal.nD Cert.NormFwdQRefIdeal.τ).loc Cert.NormFwdQRefIdeal.main_v13) = v0 c
          ∧ r.2.mem ((c.tc : Thread Cert.NormFwdQRefIdeal.nD Cert.NormFwdQRefIdeal.τ).loc Cert.NormFwdQRefIdeal.main_arg0) = m' ((c.tc : Thread Cert.NormFwdQRefIdeal.nD Cert.NormFwdQRefIdeal.τ).loc Cert.NormFwdQRefIdeal.main_arg0)
          ∧ r.2.mem ((c.tc : Thread Cert.NormFwdQRefIdeal.nD Cert.NormFwdQRefIdeal.τ).loc Cert.NormFwdQRefIdeal.main_arg1) = m' ((c.tc : Thread Cert.NormFwdQRefIdeal.nD Cert.NormFwdQRefIdeal.τ).loc Cert.NormFwdQRefIdeal.main_arg1)
          ∧ r.2.mem ((c.tc : Thread Cert.NormFwdQRefIdeal.nD Cert.NormFwdQRefIdeal.τ).loc Cert.NormFwdQRefIdeal.main_arg2) = m' ((c.tc : Thread Cert.NormFwdQRefIdeal.nD Cert.NormFwdQRefIdeal.τ).loc Cert.NormFwdQRefIdeal.main_arg2))

def preserves_NormFwdKv_NormFwdKvIdeal : Prop :=
  True

def algebraic_NormFwdKvIdeal_NormFwdKvRefIdeal [hNormFwdKvIdeal : Cert.NormFwdKvIdeal.Facts] [hNormFwdKvRefIdeal : Cert.NormFwdKvRefIdeal.Facts] : Prop :=
  ∀ (m : (ℓ : Loc Cert.NormFwdKvIdeal.nD Cert.NormFwdKvIdeal.τ Cert.NormFwdKvIdeal.sig) → Buf (Elt Ideal) ℓ) (g : Dev Cert.NormFwdKvIdeal.nD → PrngReg)
    (m' : (ℓ : Loc Cert.NormFwdKvRefIdeal.nD Cert.NormFwdKvRefIdeal.τ Cert.NormFwdKvRefIdeal.sig) → Buf (Elt Ideal) ℓ) (g' : Dev Cert.NormFwdKvRefIdeal.nD → PrngReg), Pre_NormFwdKvIdeal m →
    (∀ c : Dev Cert.NormFwdKvIdeal.nD,
      m' ((c.tc : Thread Cert.NormFwdKvRefIdeal.nD Cert.NormFwdKvRefIdeal.τ).loc Cert.NormFwdKvRefIdeal.main_arg0) = m ((c.tc : Thread Cert.NormFwdKvIdeal.nD Cert.NormFwdKvIdeal.τ).loc Cert.NormFwdKvIdeal.main_arg0)
      ∧ m' ((c.tc : Thread Cert.NormFwdKvRefIdeal.nD Cert.NormFwdKvRefIdeal.τ).loc Cert.NormFwdKvRefIdeal.main_arg1) = m ((c.tc : Thread Cert.NormFwdKvIdeal.nD Cert.NormFwdKvIdeal.τ).loc Cert.NormFwdKvIdeal.main_arg1)
      ∧ m' ((c.tc : Thread Cert.NormFwdKvRefIdeal.nD Cert.NormFwdKvRefIdeal.τ).loc Cert.NormFwdKvRefIdeal.main_arg2) = m ((c.tc : Thread Cert.NormFwdKvIdeal.nD Cert.NormFwdKvIdeal.τ).loc Cert.NormFwdKvIdeal.main_arg2)) →
    ∃ (v0 : (c : Dev Cert.NormFwdKvIdeal.nD) → Buf (Elt Ideal) ((c.tc : Thread Cert.NormFwdKvIdeal.nD Cert.NormFwdKvIdeal.τ).loc Cert.NormFwdKvIdeal.main_v5)),
      θ_run (Cert.NormFwdKvIdeal.defs (F := Ideal)) (onTc (τ := Cert.NormFwdKvIdeal.τ) (Cert.NormFwdKvIdeal.main (F := Ideal))) ⟨m, fun _ => 0, g⟩ (fun r => ∀ c : Dev Cert.NormFwdKvIdeal.nD,
          r.2.mem ((c.tc : Thread Cert.NormFwdKvIdeal.nD Cert.NormFwdKvIdeal.τ).loc Cert.NormFwdKvIdeal.main_v5) = v0 c
          ∧ r.2.mem ((c.tc : Thread Cert.NormFwdKvIdeal.nD Cert.NormFwdKvIdeal.τ).loc Cert.NormFwdKvIdeal.main_arg0) = m ((c.tc : Thread Cert.NormFwdKvIdeal.nD Cert.NormFwdKvIdeal.τ).loc Cert.NormFwdKvIdeal.main_arg0)
          ∧ r.2.mem ((c.tc : Thread Cert.NormFwdKvIdeal.nD Cert.NormFwdKvIdeal.τ).loc Cert.NormFwdKvIdeal.main_arg1) = m ((c.tc : Thread Cert.NormFwdKvIdeal.nD Cert.NormFwdKvIdeal.τ).loc Cert.NormFwdKvIdeal.main_arg1)
          ∧ r.2.mem ((c.tc : Thread Cert.NormFwdKvIdeal.nD Cert.NormFwdKvIdeal.τ).loc Cert.NormFwdKvIdeal.main_arg2) = m ((c.tc : Thread Cert.NormFwdKvIdeal.nD Cert.NormFwdKvIdeal.τ).loc Cert.NormFwdKvIdeal.main_arg2))
      ∧ θ_run (Cert.NormFwdKvRefIdeal.defs (F := Ideal)) (onTc (τ := Cert.NormFwdKvRefIdeal.τ) (Cert.NormFwdKvRefIdeal.main (F := Ideal))) ⟨m', fun _ => 0, g'⟩ (fun r => ∀ c : Dev Cert.NormFwdKvRefIdeal.nD,
          r.2.mem ((c.tc : Thread Cert.NormFwdKvRefIdeal.nD Cert.NormFwdKvRefIdeal.τ).loc Cert.NormFwdKvRefIdeal.main_v16) = v0 c
          ∧ r.2.mem ((c.tc : Thread Cert.NormFwdKvRefIdeal.nD Cert.NormFwdKvRefIdeal.τ).loc Cert.NormFwdKvRefIdeal.main_arg0) = m' ((c.tc : Thread Cert.NormFwdKvRefIdeal.nD Cert.NormFwdKvRefIdeal.τ).loc Cert.NormFwdKvRefIdeal.main_arg0)
          ∧ r.2.mem ((c.tc : Thread Cert.NormFwdKvRefIdeal.nD Cert.NormFwdKvRefIdeal.τ).loc Cert.NormFwdKvRefIdeal.main_arg1) = m' ((c.tc : Thread Cert.NormFwdKvRefIdeal.nD Cert.NormFwdKvRefIdeal.τ).loc Cert.NormFwdKvRefIdeal.main_arg1)
          ∧ r.2.mem ((c.tc : Thread Cert.NormFwdKvRefIdeal.nD Cert.NormFwdKvRefIdeal.τ).loc Cert.NormFwdKvRefIdeal.main_arg2) = m' ((c.tc : Thread Cert.NormFwdKvRefIdeal.nD Cert.NormFwdKvRefIdeal.τ).loc Cert.NormFwdKvRefIdeal.main_arg2))

def preserves_NormFwdIn_NormFwdInIdeal : Prop :=
  True

def algebraic_NormFwdInIdeal_NormFwdInRefIdeal [hNormFwdInIdeal : Cert.NormFwdInIdeal.Facts] [hNormFwdInRefIdeal : Cert.NormFwdInRefIdeal.Facts] : Prop :=
  ∀ (m : (ℓ : Loc Cert.NormFwdInIdeal.nD Cert.NormFwdInIdeal.τ Cert.NormFwdInIdeal.sig) → Buf (Elt Ideal) ℓ) (g : Dev Cert.NormFwdInIdeal.nD → PrngReg)
    (m' : (ℓ : Loc Cert.NormFwdInRefIdeal.nD Cert.NormFwdInRefIdeal.τ Cert.NormFwdInRefIdeal.sig) → Buf (Elt Ideal) ℓ) (g' : Dev Cert.NormFwdInRefIdeal.nD → PrngReg), Pre_NormFwdInIdeal m →
    (∀ c : Dev Cert.NormFwdInIdeal.nD,
      m' ((c.tc : Thread Cert.NormFwdInRefIdeal.nD Cert.NormFwdInRefIdeal.τ).loc Cert.NormFwdInRefIdeal.main_arg0) = m ((c.tc : Thread Cert.NormFwdInIdeal.nD Cert.NormFwdInIdeal.τ).loc Cert.NormFwdInIdeal.main_arg0)
      ∧ m' ((c.tc : Thread Cert.NormFwdInRefIdeal.nD Cert.NormFwdInRefIdeal.τ).loc Cert.NormFwdInRefIdeal.main_arg1) = m ((c.tc : Thread Cert.NormFwdInIdeal.nD Cert.NormFwdInIdeal.τ).loc Cert.NormFwdInIdeal.main_arg1)
      ∧ m' ((c.tc : Thread Cert.NormFwdInRefIdeal.nD Cert.NormFwdInRefIdeal.τ).loc Cert.NormFwdInRefIdeal.main_arg2) = m ((c.tc : Thread Cert.NormFwdInIdeal.nD Cert.NormFwdInIdeal.τ).loc Cert.NormFwdInIdeal.main_arg2)) →
    ∃ (v0 : (c : Dev Cert.NormFwdInIdeal.nD) → Buf (Elt Ideal) ((c.tc : Thread Cert.NormFwdInIdeal.nD Cert.NormFwdInIdeal.τ).loc Cert.NormFwdInIdeal.main_v8)),
      θ_run (Cert.NormFwdInIdeal.defs (F := Ideal)) (onTc (τ := Cert.NormFwdInIdeal.τ) (Cert.NormFwdInIdeal.main (F := Ideal))) ⟨m, fun _ => 0, g⟩ (fun r => ∀ c : Dev Cert.NormFwdInIdeal.nD,
          r.2.mem ((c.tc : Thread Cert.NormFwdInIdeal.nD Cert.NormFwdInIdeal.τ).loc Cert.NormFwdInIdeal.main_v8) = v0 c
          ∧ r.2.mem ((c.tc : Thread Cert.NormFwdInIdeal.nD Cert.NormFwdInIdeal.τ).loc Cert.NormFwdInIdeal.main_arg0) = m ((c.tc : Thread Cert.NormFwdInIdeal.nD Cert.NormFwdInIdeal.τ).loc Cert.NormFwdInIdeal.main_arg0)
          ∧ r.2.mem ((c.tc : Thread Cert.NormFwdInIdeal.nD Cert.NormFwdInIdeal.τ).loc Cert.NormFwdInIdeal.main_arg1) = m ((c.tc : Thread Cert.NormFwdInIdeal.nD Cert.NormFwdInIdeal.τ).loc Cert.NormFwdInIdeal.main_arg1)
          ∧ r.2.mem ((c.tc : Thread Cert.NormFwdInIdeal.nD Cert.NormFwdInIdeal.τ).loc Cert.NormFwdInIdeal.main_arg2) = m ((c.tc : Thread Cert.NormFwdInIdeal.nD Cert.NormFwdInIdeal.τ).loc Cert.NormFwdInIdeal.main_arg2))
      ∧ θ_run (Cert.NormFwdInRefIdeal.defs (F := Ideal)) (onTc (τ := Cert.NormFwdInRefIdeal.τ) (Cert.NormFwdInRefIdeal.main (F := Ideal))) ⟨m', fun _ => 0, g'⟩ (fun r => ∀ c : Dev Cert.NormFwdInRefIdeal.nD,
          r.2.mem ((c.tc : Thread Cert.NormFwdInRefIdeal.nD Cert.NormFwdInRefIdeal.τ).loc Cert.NormFwdInRefIdeal.main_v19) = v0 c
          ∧ r.2.mem ((c.tc : Thread Cert.NormFwdInRefIdeal.nD Cert.NormFwdInRefIdeal.τ).loc Cert.NormFwdInRefIdeal.main_arg0) = m' ((c.tc : Thread Cert.NormFwdInRefIdeal.nD Cert.NormFwdInRefIdeal.τ).loc Cert.NormFwdInRefIdeal.main_arg0)
          ∧ r.2.mem ((c.tc : Thread Cert.NormFwdInRefIdeal.nD Cert.NormFwdInRefIdeal.τ).loc Cert.NormFwdInRefIdeal.main_arg1) = m' ((c.tc : Thread Cert.NormFwdInRefIdeal.nD Cert.NormFwdInRefIdeal.τ).loc Cert.NormFwdInRefIdeal.main_arg1)
          ∧ r.2.mem ((c.tc : Thread Cert.NormFwdInRefIdeal.nD Cert.NormFwdInRefIdeal.τ).loc Cert.NormFwdInRefIdeal.main_arg2) = m' ((c.tc : Thread Cert.NormFwdInRefIdeal.nD Cert.NormFwdInRefIdeal.τ).loc Cert.NormFwdInRefIdeal.main_arg2))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v12_0)) (v1 : (c : Dev Cert.FfnFwdIdeal.nD) → Buf (Elt Ideal) ((c.tc : Thread Cert.FfnFwdIdeal.nD Cert.FfnFwdIdeal.τ).loc Cert.FfnFwdIdeal.main_v12_1)) (v2 : (c : Dev Cert.FfnFwdIdeal.nD) → Buf (Elt Ideal) ((c.tc : Thread Cert.FfnFwdIdeal.nD Cert.FfnFwdIdeal.τ).loc Cert.FfnFwdIdeal.main_v12_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v12_0) = v0 c
          ∧ r.2.mem ((c.tc : Thread Cert.FfnFwdIdeal.nD Cert.FfnFwdIdeal.τ).loc Cert.FfnFwdIdeal.main_v12_1) = v1 c
          ∧ r.2.mem ((c.tc : Thread Cert.FfnFwdIdeal.nD Cert.FfnFwdIdeal.τ).loc Cert.FfnFwdIdeal.main_v12_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v20) = v0 c
          ∧ r.2.mem ((c.tc : Thread Cert.FfnFwdRefIdeal.nD Cert.FfnFwdRefIdeal.τ).loc Cert.FfnFwdRefIdeal.main_v23) = v1 c
          ∧ r.2.mem ((c.tc : Thread Cert.FfnFwdRefIdeal.nD Cert.FfnFwdRefIdeal.τ).loc Cert.FfnFwdRefIdeal.main_v26) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v2)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v2) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v42) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v2)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v2) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v3) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_WgradB_WgradBIdeal : Prop :=
  True

def algebraic_WgradBIdeal_WgradBRefIdeal [hWgradBIdeal : Cert.WgradBIdeal.Facts] [hWgradBRefIdeal : Cert.WgradBRefIdeal.Facts] : Prop :=
  ∀ (m : (ℓ : Loc Cert.WgradBIdeal.nD Cert.WgradBIdeal.τ Cert.WgradBIdeal.sig) → Buf (Elt Ideal) ℓ) (g : Dev Cert.WgradBIdeal.nD → PrngReg)
    (m' : (ℓ : Loc Cert.WgradBRefIdeal.nD Cert.WgradBRefIdeal.τ Cert.WgradBRefIdeal.sig) → Buf (Elt Ideal) ℓ) (g' : Dev Cert.WgradBRefIdeal.nD → PrngReg), Pre_WgradBIdeal m →
    (∀ c : Dev Cert.WgradBIdeal.nD,
      m' ((c.tc : Thread Cert.WgradBRefIdeal.nD Cert.WgradBRefIdeal.τ).loc Cert.WgradBRefIdeal.main_arg0) = m ((c.tc : Thread Cert.WgradBIdeal.nD Cert.WgradBIdeal.τ).loc Cert.WgradBIdeal.main_arg0)
      ∧ m' ((c.tc : Thread Cert.WgradBRefIdeal.nD Cert.WgradBRefIdeal.τ).loc Cert.WgradBRefIdeal.main_arg1) = m ((c.tc : Thread Cert.WgradBIdeal.nD Cert.WgradBIdeal.τ).loc Cert.WgradBIdeal.main_arg1)) →
    ∃ (v0 : (c : Dev Cert.WgradBIdeal.nD) → Buf (Elt Ideal) ((c.tc : Thread Cert.WgradBIdeal.nD Cert.WgradBIdeal.τ).loc Cert.WgradBIdeal.main_v5)),
      θ_run (Cert.WgradBIdeal.defs (F := Ideal)) (onTc (τ := Cert.WgradBIdeal.τ) (Cert.WgradBIdeal.main (F := Ideal))) ⟨m, fun _ => 0, g⟩ (fun r => ∀ c : Dev Cert.WgradBIdeal.nD,
          r.2.mem ((c.tc : Thread Cert.WgradBIdeal.nD Cert.WgradBIdeal.τ).loc Cert.WgradBIdeal.main_v5) = v0 c
          ∧ r.2.mem ((c.tc : Thread Cert.WgradBIdeal.nD Cert.WgradBIdeal.τ).loc Cert.WgradBIdeal.main_arg0) = m ((c.tc : Thread Cert.WgradBIdeal.nD Cert.WgradBIdeal.τ).loc Cert.WgradBIdeal.main_arg0)
          ∧ r.2.mem ((c.tc : Thread Cert.WgradBIdeal.nD Cert.WgradBIdeal.τ).loc Cert.WgradBIdeal.main_arg1) = m ((c.tc : Thread Cert.WgradBIdeal.nD Cert.WgradBIdeal.τ).loc Cert.WgradBIdeal.main_arg1))
      ∧ θ_run (Cert.WgradBRefIdeal.defs (F := Ideal)) (onTc (τ := Cert.WgradBRefIdeal.τ) (Cert.WgradBRefIdeal.main (F := Ideal))) ⟨m', fun _ => 0, g'⟩ (fun r => ∀ c : Dev Cert.WgradBRefIdeal.nD,
          r.2.mem ((c.tc : Thread Cert.WgradBRefIdeal.nD Cert.WgradBRefIdeal.τ).loc Cert.WgradBRefIdeal.main_v5) = v0 c
          ∧ r.2.mem ((c.tc : Thread Cert.WgradBRefIdeal.nD Cert.WgradBRefIdeal.τ).loc Cert.WgradBRefIdeal.main_arg0) = m' ((c.tc : Thread Cert.WgradBRefIdeal.nD Cert.WgradBRefIdeal.τ).loc Cert.WgradBRefIdeal.main_arg0)
          ∧ r.2.mem ((c.tc : Thread Cert.WgradBRefIdeal.nD Cert.WgradBRefIdeal.τ).loc Cert.WgradBRefIdeal.main_arg1) = m' ((c.tc : Thread Cert.WgradBRefIdeal.nD Cert.WgradBRefIdeal.τ).loc Cert.WgradBRefIdeal.main_arg1))

def Claim : Prop :=
  ∃ (hLoss : Cert.Loss.Facts) (hLossIdeal : Cert.LossIdeal.Facts) (hLossRefIdeal : Cert.LossRefIdeal.Facts) (hConv : Cert.Conv.Facts) (hConvIdeal : Cert.ConvIdeal.Facts) (hConvRefIdeal : Cert.ConvRefIdeal.Facts) (hNormQ : Cert.NormQ.Facts) (hNormQIdeal : Cert.NormQIdeal.Facts) (hNormQRefIdeal : Cert.NormQRefIdeal.Facts) (hNormKv : Cert.NormKv.Facts) (hNormKvIdeal : Cert.NormKvIdeal.Facts) (hNormKvRefIdeal : Cert.NormKvRefIdeal.Facts) (hNormIn : Cert.NormIn.Facts) (hNormInIdeal : Cert.NormInIdeal.Facts) (hNormInRefIdeal : Cert.NormInRefIdeal.Facts) (hAttnFwd : Cert.AttnFwd.Facts) (hAttnFwdIdeal : Cert.AttnFwdIdeal.Facts) (hAttnFwdRefIdeal : Cert.AttnFwdRefIdeal.Facts) (hSsdFwd : Cert.SsdFwd.Facts) (hSsdFwdIdeal : Cert.SsdFwdIdeal.Facts) (hSsdFwdRefIdeal : Cert.SsdFwdRefIdeal.Facts) (hGate : Cert.Gate.Facts) (hGateIdeal : Cert.GateIdeal.Facts) (hGateRefIdeal : Cert.GateRefIdeal.Facts) (hGateFwd : Cert.GateFwd.Facts) (hGateFwdIdeal : Cert.GateFwdIdeal.Facts) (hGateFwdRefIdeal : Cert.GateFwdRefIdeal.Facts) (hNormFwdQ : Cert.NormFwdQ.Facts) (hNormFwdQIdeal : Cert.NormFwdQIdeal.Facts) (hNormFwdQRefIdeal : Cert.NormFwdQRefIdeal.Facts) (hNormFwdKv : Cert.NormFwdKv.Facts) (hNormFwdKvIdeal : Cert.NormFwdKvIdeal.Facts) (hNormFwdKvRefIdeal : Cert.NormFwdKvRefIdeal.Facts) (hNormFwdIn : Cert.NormFwdIn.Facts) (hNormFwdInIdeal : Cert.NormFwdInIdeal.Facts) (hNormFwdInRefIdeal : Cert.NormFwdInRefIdeal.Facts) (hFfnFwd : Cert.FfnFwd.Facts) (hFfnFwdIdeal : Cert.FfnFwdIdeal.Facts) (hFfnFwdRefIdeal : Cert.FfnFwdRefIdeal.Facts) (hConvFwd : Cert.ConvFwd.Facts) (hConvFwdIdeal : Cert.ConvFwdIdeal.Facts) (hConvFwdRefIdeal : Cert.ConvFwdRefIdeal.Facts) (hWgrad : Cert.Wgrad.Facts) (hWgradIdeal : Cert.WgradIdeal.Facts) (hWgradRefIdeal : Cert.WgradRefIdeal.Facts) (hAdamw : Cert.Adamw.Facts) (hAdamwIdeal : Cert.AdamwIdeal.Facts) (hAdamwRefIdeal : Cert.AdamwRefIdeal.Facts) (hWgradB : Cert.WgradB.Facts) (hWgradBIdeal : Cert.WgradBIdeal.Facts) (hWgradBRefIdeal : Cert.WgradBRefIdeal.Facts) (hPre_pre_conv : Cert.Pre_pre_conv.Facts) (hPre_pre_norm_q : Cert.Pre_pre_norm_q.Facts) (hPre_pre_norm_kv : Cert.Pre_pre_norm_kv.Facts) (hPre_pre_norm_in : Cert.Pre_pre_norm_in.Facts) (hPre_pre_attn_fwd : Cert.Pre_pre_attn_fwd.Facts) (hPre_pre_ssd_fwd : Cert.Pre_pre_ssd_fwd.Facts),
    quiescent_Loss (hLoss := hLoss)
    ∧ quiescent_LossIdeal (hLossIdeal := hLossIdeal)
    ∧ quiescent_LossRefIdeal (hLossRefIdeal := hLossRefIdeal)
    ∧ quiescent_Conv (hConv := hConv)
    ∧ quiescent_ConvIdeal (hConvIdeal := hConvIdeal)
    ∧ quiescent_ConvIdeal_pre_pre_conv (hConvIdeal := hConvIdeal) (hPre_pre_conv := hPre_pre_conv)
    ∧ quiescent_ConvRefIdeal (hConvRefIdeal := hConvRefIdeal)
    ∧ quiescent_ConvRefIdeal_pre_pre_conv (hConvRefIdeal := hConvRefIdeal) (hPre_pre_conv := hPre_pre_conv)
    ∧ quiescent_NormQ (hNormQ := hNormQ)
    ∧ quiescent_NormQIdeal (hNormQIdeal := hNormQIdeal)
    ∧ quiescent_NormQIdeal_pre_pre_norm_q (hNormQIdeal := hNormQIdeal) (hPre_pre_norm_q := hPre_pre_norm_q)
    ∧ quiescent_NormQRefIdeal (hNormQRefIdeal := hNormQRefIdeal)
    ∧ quiescent_NormQRefIdeal_pre_pre_norm_q (hNormQRefIdeal := hNormQRefIdeal) (hPre_pre_norm_q := hPre_pre_norm_q)
    ∧ quiescent_NormKv (hNormKv := hNormKv)
    ∧ quiescent_NormKvIdeal (hNormKvIdeal := hNormKvIdeal)
    ∧ quiescent_NormKvIdeal_pre_pre_norm_kv (hNormKvIdeal := hNormKvIdeal) (hPre_pre_norm_kv := hPre_pre_norm_kv)
    ∧ quiescent_NormKvRefIdeal (hNormKvRefIdeal := hNormKvRefIdeal)
    ∧ quiescent_NormKvRefIdeal_pre_pre_norm_kv (hNormKvRefIdeal := hNormKvRefIdeal) (hPre_pre_norm_kv := hPre_pre_norm_kv)
    ∧ quiescent_NormIn (hNormIn := hNormIn)
    ∧ quiescent_NormInIdeal (hNormInIdeal := hNormInIdeal)
    ∧ quiescent_NormInIdeal_pre_pre_norm_in (hNormInIdeal := hNormInIdeal) (hPre_pre_norm_in := hPre_pre_norm_in)
    ∧ quiescent_NormInRefIdeal (hNormInRefIdeal := hNormInRefIdeal)
    ∧ quiescent_NormInRefIdeal_pre_pre_norm_in (hNormInRefIdeal := hNormInRefIdeal) (hPre_pre_norm_in := hPre_pre_norm_in)
    ∧ quiescent_AttnFwd (hAttnFwd := hAttnFwd)
    ∧ quiescent_AttnFwdIdeal (hAttnFwdIdeal := hAttnFwdIdeal)
    ∧ quiescent_AttnFwdIdeal_pre_pre_attn_fwd (hAttnFwdIdeal := hAttnFwdIdeal) (hPre_pre_attn_fwd := hPre_pre_attn_fwd)
    ∧ quiescent_AttnFwdRefIdeal (hAttnFwdRefIdeal := hAttnFwdRefIdeal)
    ∧ quiescent_AttnFwdRefIdeal_pre_pre_attn_fwd (hAttnFwdRefIdeal := hAttnFwdRefIdeal) (hPre_pre_attn_fwd := hPre_pre_attn_fwd)
    ∧ quiescent_SsdFwd (hSsdFwd := hSsdFwd)
    ∧ quiescent_SsdFwdIdeal (hSsdFwdIdeal := hSsdFwdIdeal)
    ∧ quiescent_SsdFwdIdeal_pre_pre_ssd_fwd (hSsdFwdIdeal := hSsdFwdIdeal) (hPre_pre_ssd_fwd := hPre_pre_ssd_fwd)
    ∧ quiescent_SsdFwdRefIdeal (hSsdFwdRefIdeal := hSsdFwdRefIdeal)
    ∧ quiescent_SsdFwdRefIdeal_pre_pre_ssd_fwd (hSsdFwdRefIdeal := hSsdFwdRefIdeal) (hPre_pre_ssd_fwd := hPre_pre_ssd_fwd)
    ∧ quiescent_Gate (hGate := hGate)
    ∧ quiescent_GateIdeal (hGateIdeal := hGateIdeal)
    ∧ quiescent_GateRefIdeal (hGateRefIdeal := hGateRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_NormFwdQ (hNormFwdQ := hNormFwdQ)
    ∧ quiescent_NormFwdQIdeal (hNormFwdQIdeal := hNormFwdQIdeal)
    ∧ quiescent_NormFwdQRefIdeal (hNormFwdQRefIdeal := hNormFwdQRefIdeal)
    ∧ quiescent_NormFwdKv (hNormFwdKv := hNormFwdKv)
    ∧ quiescent_NormFwdKvIdeal (hNormFwdKvIdeal := hNormFwdKvIdeal)
    ∧ quiescent_NormFwdKvRefIdeal (hNormFwdKvRefIdeal := hNormFwdKvRefIdeal)
    ∧ quiescent_NormFwdIn (hNormFwdIn := hNormFwdIn)
    ∧ quiescent_NormFwdInIdeal (hNormFwdInIdeal := hNormFwdInIdeal)
    ∧ quiescent_NormFwdInRefIdeal (hNormFwdInRefIdeal := hNormFwdInRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_WgradB (hWgradB := hWgradB)
    ∧ quiescent_WgradBIdeal (hWgradBIdeal := hWgradBIdeal)
    ∧ quiescent_WgradBRefIdeal (hWgradBRefIdeal := hWgradBRefIdeal)
    ∧ preserves_Loss_LossIdeal
    ∧ algebraic_LossIdeal_LossRefIdeal (hLossIdeal := hLossIdeal) (hLossRefIdeal := hLossRefIdeal)
    ∧ preserves_Conv_ConvIdeal
    ∧ algebraic_ConvIdeal_ConvRefIdeal_pre_pre_conv (hConvIdeal := hConvIdeal) (hConvRefIdeal := hConvRefIdeal) (hPre_pre_conv := hPre_pre_conv)
    ∧ preserves_NormQ_NormQIdeal
    ∧ algebraic_NormQIdeal_NormQRefIdeal_pre_pre_norm_q (hNormQIdeal := hNormQIdeal) (hNormQRefIdeal := hNormQRefIdeal) (hPre_pre_norm_q := hPre_pre_norm_q)
    ∧ preserves_NormKv_NormKvIdeal
    ∧ algebraic_NormKvIdeal_NormKvRefIdeal_pre_pre_norm_kv (hNormKvIdeal := hNormKvIdeal) (hNormKvRefIdeal := hNormKvRefIdeal) (hPre_pre_norm_kv := hPre_pre_norm_kv)
    ∧ preserves_NormIn_NormInIdeal
    ∧ algebraic_NormInIdeal_NormInRefIdeal_pre_pre_norm_in (hNormInIdeal := hNormInIdeal) (hNormInRefIdeal := hNormInRefIdeal) (hPre_pre_norm_in := hPre_pre_norm_in)
    ∧ preserves_AttnFwd_AttnFwdIdeal
    ∧ algebraic_AttnFwdIdeal_AttnFwdRefIdeal_pre_pre_attn_fwd (hAttnFwdIdeal := hAttnFwdIdeal) (hAttnFwdRefIdeal := hAttnFwdRefIdeal) (hPre_pre_attn_fwd := hPre_pre_attn_fwd)
    ∧ preserves_SsdFwd_SsdFwdIdeal
    ∧ algebraic_SsdFwdIdeal_SsdFwdRefIdeal_pre_pre_ssd_fwd (hSsdFwdIdeal := hSsdFwdIdeal) (hSsdFwdRefIdeal := hSsdFwdRefIdeal) (hPre_pre_ssd_fwd := hPre_pre_ssd_fwd)
    ∧ preserves_Gate_GateIdeal
    ∧ algebraic_GateIdeal_GateRefIdeal (hGateIdeal := hGateIdeal) (hGateRefIdeal := hGateRefIdeal)
    ∧ preserves_GateFwd_GateFwdIdeal
    ∧ algebraic_GateFwdIdeal_GateFwdRefIdeal (hGateFwdIdeal := hGateFwdIdeal) (hGateFwdRefIdeal := hGateFwdRefIdeal)
    ∧ preserves_NormFwdQ_NormFwdQIdeal
    ∧ algebraic_NormFwdQIdeal_NormFwdQRefIdeal (hNormFwdQIdeal := hNormFwdQIdeal) (hNormFwdQRefIdeal := hNormFwdQRefIdeal)
    ∧ preserves_NormFwdKv_NormFwdKvIdeal
    ∧ algebraic_NormFwdKvIdeal_NormFwdKvRefIdeal (hNormFwdKvIdeal := hNormFwdKvIdeal) (hNormFwdKvRefIdeal := hNormFwdKvRefIdeal)
    ∧ preserves_NormFwdIn_NormFwdInIdeal
    ∧ algebraic_NormFwdInIdeal_NormFwdInRefIdeal (hNormFwdInIdeal := hNormFwdInIdeal) (hNormFwdInRefIdeal := hNormFwdInRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_Wgrad_WgradIdeal
    ∧ algebraic_WgradIdeal_WgradRefIdeal (hWgradIdeal := hWgradIdeal) (hWgradRefIdeal := hWgradRefIdeal)
    ∧ preserves_Adamw_AdamwIdeal
    ∧ algebraic_AdamwIdeal_AdamwRefIdeal (hAdamwIdeal := hAdamwIdeal) (hAdamwRefIdeal := hAdamwRefIdeal)
    ∧ preserves_WgradB_WgradBIdeal
    ∧ algebraic_WgradBIdeal_WgradBRefIdeal (hWgradBIdeal := hWgradBIdeal) (hWgradBRefIdeal := hWgradBRefIdeal)
-- ==== Pre_pre_attn_fwd.lean ====
abbrev S8192x1024 : Shape := ⟨2, ![8192, 1024]⟩
abbrev S8192x256 : Shape := ⟨2, ![8192, 256]⟩
abbrev S16x128x256 : Shape := ⟨3, ![16, 128, 256]⟩
abbrev S16 : Shape := ⟨1, ![16]⟩
abbrev S64 : Shape := ⟨1, ![64]⟩
abbrev S1024x1024 : Shape := ⟨2, ![1024, 1024]⟩
abbrev S8192x128 : Shape := ⟨2, ![8192, 128]⟩
abbrev S_ : Shape := ⟨0, ![]⟩

class Facts : Prop where
  slices_S8192x256_S8192x128_0_0 : S8192x256.Slices ![0, 0] S8192x128
  bcast_S_S8192x1024 : S_.BroadcastsInDim S8192x1024 (![] : Fin 0 → Fin S8192x1024.rank)
  bcast_S_S8192x128 : S_.BroadcastsInDim S8192x128 (![] : Fin 0 → Fin S8192x128.rank)
  bcast_S_S16x128x256 : S_.BroadcastsInDim S16x128x256 (![] : Fin 0 → Fin S16x128x256.rank)
  bcast_S_S16 : S_.BroadcastsInDim S16 (![] : Fin 0 → Fin S16.rank)
  bcast_S_S64 : S_.BroadcastsInDim S64 (![] : Fin 0 → Fin S64.rank)

variable [Facts]

def fn_part1 {F : FTy → Type} [FloatOps F] (main_v3 : IVec S8192x1024 1) (main_v6 : IVec S8192x128 1) (main_v9 : IVec S16x128x256 1) (main_v12 : IVec S16 1) (main_v15 : IVec S64 1) (main_v16 : FVec F S64 .f32) (main_v17 : FVec F S64 .f32) : IVec S8192x1024 1 × IVec S8192x128 1 × IVec S16x128x256 1 × IVec S16 1 × IVec S64 1 × IVec S64 1 :=
  let main_v18 : IVec S64 1 := cmpf .olt main_v16 main_v17
  (main_v3, main_v6, main_v9, main_v12, main_v15, main_v18)

def fn {F : FTy → Type} [FloatOps F] (main_arg0 : FVec F S8192x1024 .f32) (main_arg1 : FVec F S8192x1024 .f32) (main_arg2 : FVec F S8192x256 .f32) (main_arg3 : FVec F S16x128x256 .f32) (main_arg4 : FVec F S16 .f32) (main_arg5 : FVec F S64 .f32) (main_arg6 : FVec F S64 .f32) (main_arg7 : FVec F S1024x1024 .f32) : IVec S8192x1024 1 × IVec S8192x128 1 × IVec S16x128x256 1 × IVec S16 1 × IVec S64 1 × IVec S64 1 :=
  let main_v0 : FVec F S8192x128 .f32 := (extractStridedSlice S8192x128 ![0, 0] · slices_S8192x256_S8192x128_0_0) main_arg2
  let main_v1 : FVec F S8192x1024 .f32 := Host.absf main_arg1
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x128 .f32 := Host.absf main_v0
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_v7 : FVec F S16x128x256 .f32 := Host.absf main_arg3
  let main_cst_1 : FVec F S_ .f32 := constant S_ .f32 0x7F800000#32
  let main_v8 : FVec F S16x128x256 .f32 := broadcastInDim S16x128x256 ![] bcast_S_S16x128x256 main_cst_1
  let main_v9 : IVec S16x128x256 1 := cmpf .olt main_v7 main_v8
  let main_v10 : FVec F S16 .f32 := Host.absf main_arg4
  let main_cst_2 : FVec F S_ .f32 := constant S_ .f32 0x7F800000#32
  let main_v11 : FVec F S16 .f32 := broadcastInDim S16 ![] bcast_S_S16 main_cst_2
  let main_v12 : IVec S16 1 := cmpf .olt main_v10 main_v11
  let main_v13 : FVec F S64 .f32 := Host.absf main_arg5
  let main_cst_3 : FVec F S_ .f32 := constant S_ .f32 0x7F800000#32
  let main_v14 : FVec F S64 .f32 := broadcastInDim S64 ![] bcast_S_S64 main_cst_3
  let main_v15 : IVec S64 1 := cmpf .olt main_v13 main_v14
  let main_v16 : FVec F S64 .f32 := Host.absf main_arg6
  let main_cst_4 : FVec F S_ .f32 := constant S_ .f32 0x7F800000#32
  let main_v17 : FVec F S64 .f32 := broadcastInDim S64 ![] bcast_S_S64 main_cst_4
  fn_part1 (F := F) main_v3 main_v6 main_v9 main_v12 main_v15 main_v16 main_v17
-- ==== Pre_pre_conv.lean ====
abbrev S8192x5632 : Shape := ⟨2, ![8192, 5632]⟩
abbrev S8192x2048 : Shape := ⟨2, ![8192, 2048]⟩
abbrev S8192x512 : Shape := ⟨2, ![8192, 512]⟩
abbrev S1x4x3072 : Shape := ⟨3, ![1, 4, 3072]⟩
abbrev S1x3072 : Shape := ⟨2, ![1, 3072]⟩
abbrev S_ : Shape := ⟨0, ![]⟩

class Facts : Prop where
  bcast_S_S8192x2048 : S_.BroadcastsInDim S8192x2048 (![] : Fin 0 → Fin S8192x2048.rank)
  bcast_S_S8192x512 : S_.BroadcastsInDim S8192x512 (![] : Fin 0 → Fin S8192x512.rank)

variable [Facts]

def fn {F : FTy → Type} [FloatOps F] (main_arg0 : FVec F S8192x5632 .bf16) (main_arg1 : FVec F S8192x5632 .f32) (main_arg2 : FVec F S8192x2048 .f32) (main_arg3 : FVec F S8192x512 .f32) (main_arg4 : FVec F S8192x512 .f32) (main_arg5 : FVec F S1x4x3072 .f32) (main_arg6 : FVec F S1x3072 .f32) : IVec S8192x2048 1 × IVec S8192x512 1 × IVec S8192x512 1 :=
  let main_v0 : FVec F S8192x2048 .f32 := Host.absf main_arg2
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x512 .f32 := Host.absf main_arg3
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg4
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  (main_v2, main_v5, main_v8)
-- ==== Pre_pre_norm_in.lean ====
abbrev S8192x1024 : Shape := ⟨2, ![8192, 1024]⟩
abbrev S1024 : Shape := ⟨1, ![1024]⟩
abbrev S1024x5152 : Shape := ⟨2, ![1024, 5152]⟩
abbrev S8192x5152 : Shape := ⟨2, ![8192, 5152]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5152 : S_.BroadcastsInDim S1024x5152 (![] : Fin 0 → Fin S1024x5152.rank)
  bcast_S_S8192x5152 : S_.BroadcastsInDim S8192x5152 (![] : Fin 0 → Fin S8192x5152.rank)

variable [Facts]

def fn {F : FTy → Type} [FloatOps F] (main_arg0 : FVec F S8192x1024 .f32) (main_arg1 : FVec F S1024 .f32) (main_arg2 : FVec F S1024x5152 .f32) (main_arg3 : FVec F S8192x5152 .f32) (main_arg4 : FVec F S8192x1024 .f32) : IVec S8192x1024 1 × IVec S1024 1 × IVec S1024x5152 1 × IVec S8192x5152 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5152 .f32 := Host.absf main_arg2
  let main_cst_1 : FVec F S_ .f32 := constant S_ .f32 0x7F800000#32
  let main_v7 : FVec F S1024x5152 .f32 := broadcastInDim S1024x5152 ![] bcast_S_S1024x5152 main_cst_1
  let main_v8 : IVec S1024x5152 1 := cmpf .olt main_v6 main_v7
  let main_v9 : FVec F S8192x5152 .f32 := Host.absf main_arg3
  let main_cst_2 : FVec F S_ .f32 := constant S_ .f32 0x7F800000#32
  let main_v10 : FVec F S8192x5152 .f32 := broadcastInDim S8192x5152 ![] bcast_S_S8192x5152 main_cst_2
  let main_v11 : IVec S8192x5152 1 := cmpf .olt main_v9 main_v10
  (main_v2, main_v5, main_v8, main_v11)
-- ==== Pre_pre_norm_kv.lean ====
abbrev S8192x1024 : Shape := ⟨2, ![8192, 1024]⟩
abbrev S1024 : Shape := ⟨1, ![1024]⟩
abbrev S1024x256 : Shape := ⟨2, ![1024, 256]⟩
abbrev S8192x256 : Shape := ⟨2, ![8192, 256]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x256 : S_.BroadcastsInDim S1024x256 (![] : Fin 0 → Fin S1024x256.rank)
  bcast_S_S8192x256 : S_.BroadcastsInDim S8192x256 (![] : Fin 0 → Fin S8192x256.rank)

variable [Facts]

def fn {F : FTy → Type} [FloatOps F] (main_arg0 : FVec F S8192x1024 .f32) (main_arg1 : FVec F S1024 .f32) (main_arg2 : FVec F S1024x256 .f32) (main_arg3 : FVec F S8192x256 .f32) (main_arg4 : FVec F S8192x1024 .f32) : IVec S8192x1024 1 × IVec S1024 1 × IVec S1024x256 1 × IVec S8192x256 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x256 .f32 := Host.absf main_arg2
  let main_cst_1 : FVec F S_ .f32 := constant S_ .f32 0x7F800000#32
  let main_v7 : FVec F S1024x256 .f32 := broadcastInDim S1024x256 ![] bcast_S_S1024x256 main_cst_1
  let main_v8 : IVec S1024x256 1 := cmpf .olt main_v6 main_v7
  let main_v9 : FVec F S8192x256 .f32 := Host.absf main_arg3
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  (main_v2, main_v5, main_v8, main_v11)
-- ==== Pre_pre_norm_q.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S1024 .f32) (main_arg2 : FVec F S1024x1024 .f32) (main_arg3 : FVec F S8192x1024 .f32) (main_arg4 : FVec F S8192x1024 .f32) : IVec S8192x1024 1 × IVec S1024 1 × IVec S1024x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_pre_ssd_fwd.lean ====
abbrev S8192x3072 : Shape := ⟨2, ![8192, 3072]⟩
abbrev S8192x32 : Shape := ⟨2, ![8192, 32]⟩
abbrev S32 : Shape := ⟨1, ![32]⟩
abbrev S_ : Shape := ⟨0, ![]⟩

class Facts : Prop where
  bcast_S_S8192x32 : S_.BroadcastsInDim S8192x32 (![] : Fin 0 → Fin S8192x32.rank)
  bcast_S_S32 : S_.BroadcastsInDim S32 (![] : Fin 0 → Fin S32.rank)

variable [Facts]

def fn {F : FTy → Type} [FloatOps F] (main_arg0 : FVec F S8192x3072 .f32) (main_arg1 : FVec F S8192x32 .f32) (main_arg2 : FVec F S32 .f32) (main_arg3 : FVec F S32 .f32) (main_arg4 : FVec F S32 .f32) : IVec S8192x32 1 × IVec S32 1 × IVec S32 1 :=
  let main_v0 : FVec F S8192x32 .f32 := Host.absf main_arg1
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_v3 : FVec F S32 .f32 := Host.absf main_arg2
  let main_cst_0 : FVec F S_ .f32 := constant S_ .f32 0x7F800000#32
  let main_v4 : FVec F S32 .f32 := broadcastInDim S32 ![] bcast_S_S32 main_cst_0
  let main_v5 : IVec S32 1 := cmpf .olt main_v3 main_v4
  let main_v6 : FVec F S32 .f32 := Host.absf main_arg3
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  (main_v2, main_v5, main_v8)
-- ==== Loss.lean ====
abbrev S8192x1024 : Shape := ⟨2, ![8192, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S8192x1024 : Shape := ⟨2, ![8192, 1024]⟩
abbrev S_ : Shape := ⟨0, ![]⟩
abbrev S8192 : Shape := ⟨1, ![8192]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1024, .f32⟩
  | .hbm, ⟨25, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Conv.lean ====
abbrev S8192x5632 : Shape := ⟨2, ![8192, 5632]⟩
abbrev S8192x2048 : Shape := ⟨2, ![8192, 2048]⟩
abbrev S8192x512 : Shape := ⟨2, ![8192, 512]⟩
abbrev S1x4x3072 : Shape := ⟨3, ![1, 4, 3072]⟩
abbrev S1x3072 : Shape := ⟨2, ![1, 3072]⟩
abbrev S4x3072 : Shape := ⟨2, ![4, 3072]⟩
abbrev S_ : Shape := ⟨0, ![]⟩
abbrev S8x3072 : Shape := ⟨2, ![8, 3072]⟩
abbrev S1024x512 : Shape := ⟨2, ![1024, 512]⟩
abbrev S8x512 : Shape := ⟨2, ![8, 512]⟩
abbrev S1x512 : Shape := ⟨2, ![1, 512]⟩
abbrev S1032x512 : Shape := ⟨2, ![1032, 512]⟩
abbrev S64x512 : Shape := ⟨2, ![64, 512]⟩
abbrev S512 : Shape := ⟨1, ![512]⟩

abbrev nBuf : Space → Nat
  | .hbm => 14
  | .vmem => 22
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .f32⟩
  | .hbm, ⟨2, _⟩ => ⟨S8192x2048, .f32⟩
  | .hbm, ⟨3, _⟩ => ⟨S8192x512, .f32⟩
  | .hbm, ⟨4, _⟩ => ⟨S8192x512, .f32⟩
  | .hbm, ⟨5, _⟩ => ⟨S1x4x3072, .f32⟩
  | .hbm, ⟨6, _⟩ => ⟨S1x3072, .f32⟩
  | .hbm, ⟨7, _⟩ => ⟨S4x3072, .f32⟩
  | .hbm, ⟨8, _⟩ => ⟨S_, .i32⟩
  | .hbm, ⟨9, _⟩ => ⟨S_, .f32⟩
  | .hbm, ⟨10, _⟩ => ⟨S8x3072, .f32⟩
  | .hbm, ⟨11, _⟩ => ⟨S8192x5632, .bf16⟩
  | .hbm, ⟨12, _⟩ => ⟨S8x3072, .f32⟩
  | .hbm, ⟨13, _⟩ => ⟨S1x3072, .f32⟩
  | .local _ .vmem, ⟨0, _⟩ => ⟨S1024x512, .f32⟩
  | .local _ .vmem, ⟨1, _⟩ => ⟨S1024x512, .f32⟩
  | .local _ .vmem, ⟨2, _⟩ => ⟨S8x512, .f32⟩
  | .local _ .vmem, ⟨3, _⟩ => ⟨S8x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S8x512, .f32⟩
  | .local _ .vmem, ⟨11, _⟩ => ⟨S8x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S8x512, .f32⟩
  | .local _ .vmem, ⟨17, _⟩ => ⟨S8x512, .f32⟩
  | .local _ .vmem, ⟨18, _⟩ => ⟨S1x512, .f32⟩
  | .local _ .vmem, ⟨19, _⟩ => ⟨S1x512, .f32⟩
  | .local _ .vmem, ⟨20, _⟩ => ⟨S1032x512, .f32⟩
  | .local _ .vmem, ⟨21, _⟩ => ⟨S1032x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![6, 8], ![false, false]⟩

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c4_i32 : BitVec 32 := 4#32
  let v1 : BitVec 32 := Scalar.addi c4_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c128_i32 : BitVec 32 := 128#32
  let v1 : BitVec 32 := Scalar.muli v0 c128_i32
  let c1_i32 : BitVec 32 := 1#32
  let v2 : BitVec 32 := Scalar.subi v1 c1_i32
  let c0_i32 : BitVec 32 := 0#32
  let v3 : BitVec 32 := Scalar.maxsi v2 c0_i32
  let c4_i32 : BitVec 32 := 4#32
  let v4 : BitVec 32 := Scalar.addi c4_i32 arg0
  let c0_i32_0 : BitVec 32 := 0#32
  ![v3.toNat, v4.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c3_i32 : BitVec 32 := 3#32
  let v1 : BitVec 32 := Scalar.minsi arg0 c3_i32
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c4_i32 : BitVec 32 := 4#32
  let v1 : BitVec 32 := Scalar.addi c4_i32 arg0
  let c0_i32 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConvRefIdeal.lean ====
abbrev S8192x5632 : Shape := ⟨2, ![8192, 5632]⟩
abbrev S8192x2048 : Shape := ⟨2, ![8192, 2048]⟩
abbrev S8192x512 : Shape := ⟨2, ![8192, 512]⟩
abbrev S1x4x3072 : Shape := ⟨3, ![1, 4, 3072]⟩
abbrev S1x3072 : Shape := ⟨2, ![1, 3072]⟩
abbrev S8192x3072 : Shape := ⟨2, ![8192, 3072]⟩
abbrev S_ : Shape := ⟨0, ![]⟩
abbrev S3x3072 : Shape := ⟨2, ![3, 3072]⟩
abbrev S8195x3072 : Shape := ⟨2, ![8195, 3072]⟩
abbrev S3072 : Shape := ⟨1, ![3072]⟩
abbrev S1x1x3072 : Shape := ⟨3, ![1, 1, 3072]⟩
abbrev S4x3072 : Shape := ⟨2, ![4, 3072]⟩
abbrev S8x3072 : Shape := ⟨2, ![8, 3072]⟩

abbrev nBuf : Space → Nat
  | .hbm => 142
  | .vmem => 0
  | .smem => 0
  | _ => 0

abbrev hbmTy0_0 (i : Nat) : BufTy := match i % 128 with
  | 0 => ⟨S8192x5632, .bf16⟩
  | 1 => ⟨S8192x5632, .f32⟩
  | 2 => ⟨S8192x2048, .f32⟩
  | 3 => ⟨S8192x512, .f32⟩
  | 4 => ⟨S8192x512, .f32⟩
  | 5 => ⟨S1x4x3072, .f32⟩
  | 6 => ⟨S1x3072, .f32⟩
  | 7 => ⟨S8192x3072, .f32⟩
  | 8 => ⟨S_, .f32⟩
  | 9 => ⟨S3x3072, .f32⟩
  | 10 => ⟨S8195x3072, .f32⟩
  | 11 => ⟨S_, .f32⟩
  | 12 => ⟨S3x3072, .f32⟩
  | 13 => ⟨S3072, .f32⟩
  | 14 => ⟨S1x1x3072, .f32⟩
  | 15 => ⟨S3072, .f32⟩
  | 16 => ⟨S8192x3072, .f32⟩
  | 17 => ⟨S1x3072, .f32⟩
  | 18 => ⟨S8192x3072, .f32⟩
  | 19 => ⟨S8192x3072, .f32⟩
  | 20 => ⟨S_, .f32⟩
  | 21 => ⟨S8192x3072, .f32⟩
  | 22 => ⟨S8192x3072, .f32⟩
  | 23 => ⟨S1x1x3072, .f32⟩
  | 24 => ⟨S3072, .f32⟩
  | 25 => ⟨S8192x3072, .f32⟩
  | 26 => ⟨S1x3072, .f32⟩
  | 27 => ⟨S8192x3072, .f32⟩
  | 28 => ⟨S8192x3072, .f32⟩
  | 29 => ⟨S8192x3072, .f32⟩
  | 30 => ⟨S1x1x3072, .f32⟩
  | 31 => ⟨S3072, .f32⟩
  | 32 => ⟨S8192x3072, .f32⟩
  | 33 => ⟨S1x3072, .f32⟩
  | 34 => ⟨S8192x3072, .f32⟩
  | 35 => ⟨S8192x3072, .f32⟩
  | 36 => ⟨S8192x3072, .f32⟩
  | 37 => ⟨S1x1x3072, .f32⟩
  | 38 => ⟨S3072, .f32⟩
  | 39 => ⟨S8192x3072, .f32⟩
  | 40 => ⟨S1x3072, .f32⟩
  | 41 => ⟨S8192x3072, .f32⟩
  | 42 => ⟨S8192x3072, .f32⟩
  | 43 => ⟨S8192x3072, .f32⟩
  | 44 => ⟨S1x3072, .f32⟩
  | 45 => ⟨S8192x3072, .f32⟩
  | 46 => ⟨S8192x3072, .f32⟩
  | 47 => ⟨S8192x3072, .f32⟩
  | 48 => ⟨S8192x3072, .f32⟩
  | 49 => ⟨S_, .f32⟩
  | 50 => ⟨S8192x3072, .f32⟩
  | 51 => ⟨S8192x3072, .f32⟩
  | 52 => ⟨S_, .f32⟩
  | 53 => ⟨S8192x3072, .f32⟩
  | 54 => ⟨S8192x3072, .f32⟩
  | 55 => ⟨S_, .f32⟩
  | 56 => ⟨S8192x3072, .f32⟩
  | 57 => ⟨S8192x3072, .f32⟩
  | 58 => ⟨S8192x3072, .f32⟩
  | 59 => ⟨S8192x3072, .f32⟩
  | 60 => ⟨S8192x2048, .f32⟩
  | 61 => ⟨S8192x512, .f32⟩
  | 62 => ⟨S8192x512, .f32⟩
  | 63 => ⟨S8192x3072, .f32⟩
  | 64 => ⟨S8192x3072, .f32⟩
  | 65 => ⟨S8192x3072, .f32⟩
  | 66 => ⟨S8192x3072, .f32⟩
  | 67 => ⟨S8192x3072, .f32⟩
  | 68 => ⟨S_, .f32⟩
  | 69 => ⟨S3072, .f32⟩
  | 70 => ⟨S1x3072, .f32⟩
  | 71 => ⟨S_, .f32⟩
  | 72 => ⟨S3072, .f32⟩
  | 73 => ⟨S8192x3072, .f32⟩
  | 74 => ⟨S8192x3072, .f32⟩
  | 75 => ⟨S8192x3072, .f32⟩
  | 76 => ⟨S_, .f32⟩
  | 77 => ⟨S3072, .f32⟩
  | 78 => ⟨S1x3072, .f32⟩
  | 79 => ⟨S_, .f32⟩
  | 80 => ⟨S3072, .f32⟩
  | 81 => ⟨S_, .f32⟩
  | 82 => ⟨S8195x3072, .f32⟩
  | 83 => ⟨S1x1x3072, .f32⟩
  | 84 => ⟨S_, .f32⟩
  | 85 => ⟨S1x4x3072, .f32⟩
  | 86 => ⟨S8192x3072, .f32⟩
  | 87 => ⟨S8192x3072, .f32⟩
  | 88 => ⟨S8192x3072, .f32⟩
  | 89 => ⟨S_, .f32⟩
  | 90 => ⟨S3072, .f32⟩
  | 91 => ⟨S1x3072, .f32⟩
  | 92 => ⟨S_, .f32⟩
  | 93 => ⟨S3072, .f32⟩
  | 94 => ⟨S_, .f32⟩
  | 95 => ⟨S8195x3072, .f32⟩
  | 96 => ⟨S8195x3072, .f32⟩
  | 97 => ⟨S1x1x3072, .f32⟩
  | 98 => ⟨S_, .f32⟩
  | 99 => ⟨S1x4x3072, .f32⟩
  | 100 => ⟨S1x4x3072, .f32⟩
  | 101 => ⟨S8192x3072, .f32⟩
  | 102 => ⟨S8192x3072, .f32⟩
  | 103 => ⟨S8192x3072, .f32⟩
  | 104 => ⟨S_, .f32⟩
  | 105 => ⟨S3072, .f32⟩
  | 106 => ⟨S1x3072, .f32⟩
  | 107 => ⟨S_, .f32⟩
  | 108 => ⟨S3072, .f32⟩
  | 109 => ⟨S_, .f32⟩
  | 110 => ⟨S8195x3072, .f32⟩
  | 111 => ⟨S8195x3072, .f32⟩
  | 112 => ⟨S1x1x3072, .f32⟩
  | 113 => ⟨S_, .f32⟩
  | 114 => ⟨S1x4x3072, .f32⟩
  | 115 => ⟨S1x4x3072, .f32⟩
  | 116 => ⟨S8192x3072, .f32⟩
  | 117 => ⟨S8192x3072, .f32⟩
  | 118 => ⟨S8192x3072, .f32⟩
  | 119 => ⟨S_, .f32⟩
  | 120 => ⟨S3072, .f32⟩
  | 121 => ⟨S1x3072, .f32⟩
  | 122 => ⟨S_, .f32⟩
  | 123 => ⟨S3072, .f32⟩
  | 124 => ⟨S_, .f32⟩
  | 125 => ⟨S8195x3072, .f32⟩
  | 126 => ⟨S8195x3072, .f32⟩
  | 127 => ⟨S1x1x3072, .f32⟩
  | _ => ⟨S8192x5632, .bf16⟩

abbrev hbmTy0_1 (i : Nat) : BufTy := match i % 128 with
  | 0 => ⟨S_, .f32⟩
  | 1 => ⟨S1x4x3072, .f32⟩
  | 2 => ⟨S1x4x3072, .f32⟩
  | 3 => ⟨S1x3072, .f32⟩
  | 4 => ⟨S3x3072, .f32⟩
  | 5 => ⟨S8192x3072, .f32⟩
  | 6 => ⟨S8192x2048, .bf16⟩
  | 7 => ⟨S8192x3072, .bf16⟩
  | 8 => ⟨S8192x512, .bf16⟩
  | 9 => ⟨S8192x5632, .bf16⟩
  | 10 => ⟨S4x3072, .f32⟩
  | 11 => ⟨S_, .i32⟩
  | 12 => ⟨S_, .f32⟩
  | 13 => ⟨S8x3072, .f32⟩
  | _ => ⟨S8192x5632, .bf16⟩

abbrev hbmTy (i : Nat) : BufTy := match i / 128 with
  | 0 => hbmTy0_0 i
  | 1 => hbmTy0_1 i
  | _ => ⟨S8192x5632, .bf16⟩

abbrev bufTy : (tb : Table) → Fin (tcTables nBuf tb) → BufTy
  | .hbm, ⟨i, _⟩ => hbmTy i
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_2 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_5 : Ref sig .tc := ⟨.hbm, 68, rfl⟩
abbrev main_v55 : Ref sig .tc := ⟨.hbm, 69, rfl⟩
abbrev main_v56 : Ref sig .tc := ⟨.hbm, 70, rfl⟩
abbrev main_cst_6 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_7 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_cst_10 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_11 : Ref sig .tc := ⟨.hbm, 89, rfl⟩
abbrev main_v70 : Ref sig .tc := ⟨.hbm, 90, rfl⟩
abbrev main_v71 : Ref sig .tc := ⟨.hbm, 91, rfl⟩
abbrev main_cst_12 : Ref sig .tc := ⟨.hbm, 92, rfl⟩
abbrev main_v72 : Ref sig .tc := ⟨.hbm, 93, rfl⟩
abbrev main_cst_13 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_14 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_15 : Ref sig .tc := ⟨.hbm, 104, rfl⟩
abbrev main_v81 : Ref sig .tc := ⟨.hbm, 105, rfl⟩
abbrev main_v82 : Ref sig .tc := ⟨.hbm, 106, rfl⟩
abbrev main_cst_16 : Ref sig .tc := ⟨.hbm, 107, rfl⟩
abbrev main_v83 : Ref sig .tc := ⟨.hbm, 108, rfl⟩
abbrev main_cst_17 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_18 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_19 : Ref sig .tc := ⟨.hbm, 119, rfl⟩
abbrev main_v92 : Ref sig .tc := ⟨.hbm, 120, rfl⟩
abbrev main_v93 : Ref sig .tc := ⟨.hbm, 121, rfl⟩
abbrev main_cst_20 : Ref sig .tc := ⟨.hbm, 122, rfl⟩
abbrev main_v94 : Ref sig .tc := ⟨.hbm, 123, rfl⟩
abbrev main_cst_21 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_22 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_c : Ref sig .tc := ⟨.hbm, 139, rfl⟩
abbrev main_call0_v0 : Ref sig .tc := ⟨.hbm, 140, rfl⟩
abbrev main_v108 : Ref sig .tc := ⟨.hbm, 141, rfl⟩

abbrev nD : Nat := 1
abbrev τ : Topo := Topo.v7x

variable {F : FTy → Type} [FloatOps F]
-- ==== NormQ.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1024x1024, .bf16⟩
  | .hbm, ⟨7, _⟩ => ⟨S8192x1024, .bf16⟩
  | .hbm, ⟨8, _⟩ => ⟨S_, .f32⟩
  | .hbm, ⟨9, _⟩ => ⟨S8x128, .f32⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_11 : BitVec 32 := 0#32
  let v18 : BitVec 1 := Scalar.cmpi .eq arg1 c0_i32_11
  let v19 : BitVec 32 := Scalar.extui v18
  let c0_i32_12 : BitVec 32 := 0#32
  let v20 : BitVec 1 := Scalar.cmpi .ne v19 c0_i32_12
  v20

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== NormQRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1024x1024, .f32⟩
  | .hbm, ⟨27, _⟩ => ⟨S1024x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S8192x1024, .bf16⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== NormKv.lean ====
abbrev S8192x1024 : Shape := ⟨2, ![8192, 1024]⟩
abbrev S1024 : Shape := ⟨1, ![1024]⟩
abbrev S1024x256 : Shape := ⟨2, ![1024, 256]⟩
abbrev S8192x256 : Shape := ⟨2, ![8192, 256]⟩
abbrev S1x1024 : Shape := ⟨2, ![1, 1024]⟩
abbrev S1024x4x1x64 : Shape := ⟨4, ![1024, 4, 1, 64]⟩
abbrev S1024x4x2x64 : Shape := ⟨4, ![1024, 4, 2, 64]⟩
abbrev S1024x512 : Shape := ⟨2, ![1024, 512]⟩
abbrev S8192x4x1x64 : Shape := ⟨4, ![8192, 4, 1, 64]⟩
abbrev S8192x4x2x64 : Shape := ⟨4, ![8192, 4, 2, 64]⟩
abbrev S8192x512 : Shape := ⟨2, ![8192, 512]⟩
abbrev S_ : Shape := ⟨0, ![]⟩
abbrev S8x128 : Shape := ⟨2, ![8, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 19
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x256, .f32⟩
  | .hbm, ⟨3, _⟩ => ⟨S8192x256, .f32⟩
  | .hbm, ⟨4, _⟩ => ⟨S8192x1024, .f32⟩
  | .hbm, ⟨5, _⟩ => ⟨S1x1024, .f32⟩
  | .hbm, ⟨6, _⟩ => ⟨S1024x4x1x64, .f32⟩
  | .hbm, ⟨7, _⟩ => ⟨S1024x4x2x64, .f32⟩
  | .hbm, ⟨8, _⟩ => ⟨S1024x512, .f32⟩
  | .hbm, ⟨9, _⟩ => ⟨S1024x512, .bf16⟩
  | .hbm, ⟨10, _⟩ => ⟨S8192x4x1x64, .f32⟩
  | .hbm, ⟨11, _⟩ => ⟨S8192x4x2x64, .f32⟩
  | .hbm, ⟨12, _⟩ => ⟨S8192x512, .f32⟩
  | .hbm, ⟨13, _⟩ => ⟨S8192x512, .bf16⟩
  | .hbm, ⟨14, _⟩ => ⟨S_, .f32⟩
  | .hbm, ⟨15, _⟩ => ⟨S8x128, .f32⟩
  | .hbm, ⟨16, _⟩ => ⟨S8192x1024, .f32⟩
  | .hbm, ⟨17, _⟩ => ⟨S8192x1024, .bf16⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_11 : BitVec 32 := 0#32
  let v18 : BitVec 1 := Scalar.cmpi .eq arg1 c0_i32_11
  let v19 : BitVec 32 := Scalar.extui v18
  let c0_i32_12 : BitVec 32 := 0#32
  let v20 : BitVec 1 := Scalar.cmpi .ne v19 c0_i32_12
  v20

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== NormKvRefIdeal.lean ====
abbrev S8192x1024 : Shape := ⟨2, ![8192, 1024]⟩
abbrev S1024 : Shape := ⟨1, ![1024]⟩
abbrev S1024x256 : Shape := ⟨2, ![1024, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S256x1024 : Shape := ⟨2, ![256, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x256, .f32⟩
  | .hbm, ⟨3, _⟩ => ⟨S8192x256, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x256, .f32⟩
  | .hbm, ⟨26, _⟩ => ⟨S256x1024, .f32⟩
  | .hbm, ⟨27, _⟩ => ⟨S1024x256, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S8192x1024, .bf16⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== NormIn.lean ====
abbrev S8192x1024 : Shape := ⟨2, ![8192, 1024]⟩
abbrev S1024 : Shape := ⟨1, ![1024]⟩
abbrev S1024x5152 : Shape := ⟨2, ![1024, 5152]⟩
abbrev S8192x5152 : Shape := ⟨2, ![8192, 5152]⟩
abbrev S1x1024 : Shape := ⟨2, ![1, 1024]⟩
abbrev S1024x32 : Shape := ⟨2, ![1024, 32]⟩
abbrev S1024x4x8 : Shape := ⟨3, ![1024, 4, 8]⟩
abbrev S_ : Shape := ⟨0, ![]⟩
abbrev S1024x4x128 : Shape := ⟨3, ![1024, 4, 128]⟩
abbrev S1024x5120 : Shape := ⟨2, ![1024, 5120]⟩
abbrev S1024x512 : Shape := ⟨2, ![1024, 512]⟩
abbrev S1024x5632 : Shape := ⟨2, ![1024, 5632]⟩
abbrev S8192x32 : Shape := ⟨2, ![8192, 32]⟩
abbrev S8192x4x8 : Shape := ⟨3, ![8192, 4, 8]⟩
abbrev S8192x4x128 : Shape := ⟨3, ![8192, 4, 128]⟩
abbrev S8192x5120 : Shape := ⟨2, ![8192, 5120]⟩
abbrev S8192x512 : Shape := ⟨2, ![8192, 512]⟩
abbrev S8192x5632 : Shape := ⟨2, ![8192, 5632]⟩
abbrev S8x128 : Shape := ⟨2, ![8, 128]⟩
abbrev S512x1024 : Shape := ⟨2, ![512, 1024]⟩
abbrev S1024x1408 : Shape := ⟨2, ![1024, 1408]⟩
abbrev S512x1408 : Shape := ⟨2, ![512, 1408]⟩
abbrev S512 : Shape := ⟨1, ![512]⟩
abbrev S512x1 : Shape := ⟨2, ![512, 1]⟩

abbrev nBuf : Space → Nat
  | .hbm => 29
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5152, .f32⟩
  | .hbm, ⟨3, _⟩ => ⟨S8192x5152, .f32⟩
  | .hbm, ⟨4, _⟩ => ⟨S8192x1024, .f32⟩
  | .hbm, ⟨5, _⟩ => ⟨S1x1024, .f32⟩
  | .hbm, ⟨6, _⟩ => ⟨S1024x32, .f32⟩
  | .hbm, ⟨7, _⟩ => ⟨S1024x4x8, .f32⟩
  | .hbm, ⟨8, _⟩ => ⟨S_, .i32⟩
  | .hbm, ⟨9, _⟩ => ⟨S_, .f32⟩
  | .hbm, ⟨10, _⟩ => ⟨S1024x4x128, .f32⟩
  | .hbm, ⟨11, _⟩ => ⟨S1024x5120, .f32⟩
  | .hbm, ⟨12, _⟩ => ⟨S1024x512, .f32⟩
  | .hbm, ⟨13, _⟩ => ⟨S1024x5632, .f32⟩
  | .hbm, ⟨14, _⟩ => ⟨S1024x5632, .bf16⟩
  | .hbm, ⟨15, _⟩ => ⟨S8192x32, .f32⟩
  | .hbm, ⟨16, _⟩ => ⟨S8192x4x8, .f32⟩
  | .hbm, ⟨17, _⟩ => ⟨S_, .i32⟩
  | .hbm, ⟨18, _⟩ => ⟨S_, .f32⟩
  | .hbm, ⟨19, _⟩ => ⟨S8192x4x128, .f32⟩
  | .hbm, ⟨20, _⟩ => ⟨S8192x5120, .f32⟩
  | .hbm, ⟨21, _⟩ => ⟨S8192x512, .f32⟩
  | .hbm, ⟨22, _⟩ => ⟨S8192x5632, .f32⟩
  | .hbm, ⟨23, _⟩ => ⟨S8192x5632, .bf16⟩
  | .hbm, ⟨24, _⟩ => ⟨S_, .f32⟩
  | .hbm, ⟨25, _⟩ => ⟨S8x128, .f32⟩
  | .hbm, ⟨26, _⟩ => ⟨S8192x1024, .f32⟩
  | .hbm, ⟨27, _⟩ => ⟨S8192x1024, .bf16⟩
  | .hbm, ⟨28, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== NormInRefIdeal.lean ====
abbrev S8192x1024 : Shape := ⟨2, ![8192, 1024]⟩
abbrev S1024 : Shape := ⟨1, ![1024]⟩
abbrev S1024x5152 : Shape := ⟨2, ![1024, 5152]⟩
abbrev S8192x5152 : Shape := ⟨2, ![8192, 5152]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S5152x1024 : Shape := ⟨2, ![5152, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5152, .f32⟩
  | .hbm, ⟨3, _⟩ => ⟨S8192x5152, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5152, .f32⟩
  | .hbm, ⟨26, _⟩ => ⟨S5152x1024, .f32⟩
  | .hbm, ⟨27, _⟩ => ⟨S1024x5152, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S8192x1024, .bf16⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== AttnFwd.lean ====
abbrev S8192x1024 : Shape := ⟨2, ![8192, 1024]⟩
abbrev S8192x256 : Shape := ⟨2, ![8192, 256]⟩
abbrev S16x128x256 : Shape := ⟨3, ![16, 128, 256]⟩
abbrev S16 : Shape := ⟨1, ![16]⟩
abbrev S64 : Shape := ⟨1, ![64]⟩
abbrev S1024x1024 : Shape := ⟨2, ![1024, 1024]⟩
abbrev S8192x4x1x64 : Shape := ⟨4, ![8192, 4, 1, 64]⟩
abbrev S8192x4x2x64 : Shape := ⟨4, ![8192, 4, 2, 64]⟩
abbrev S8192x512 : Shape := ⟨2, ![8192, 512]⟩
abbrev S2048x256 : Shape := ⟨2, ![2048, 256]⟩
abbrev S1x16 : Shape := ⟨2, ![1, 16]⟩
abbrev S_ : Shape := ⟨0, ![]⟩
abbrev S1x128 : Shape := ⟨2, ![1, 128]⟩
abbrev S128 : Shape := ⟨1, ![128]⟩
abbrev S128x1024 : Shape := ⟨2, ![128, 1024]⟩
abbrev S128x512 : Shape := ⟨2, ![128, 512]⟩
abbrev S128x128 : Shape := ⟨2, ![128, 128]⟩
abbrev S1024x256 : Shape := ⟨2, ![1024, 256]⟩
abbrev S256x512 : Shape := ⟨2, ![256, 512]⟩
abbrev S256x128 : Shape := ⟨2, ![256, 128]⟩
abbrev S1x1 : Shape := ⟨2, ![1, 1]⟩
abbrev S128x1 : Shape := ⟨2, ![128, 1]⟩
abbrev S1024x1 : Shape := ⟨2, ![1024, 1]⟩
abbrev S1024x128 : Shape := ⟨2, ![1024, 128]⟩
abbrev S1024 : Shape := ⟨1, ![1024]⟩

abbrev nBuf : Space → Nat
  | .hbm => 22
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S16x128x256, .f32⟩
  | .hbm, ⟨4, _⟩ => ⟨S16, .f32⟩
  | .hbm, ⟨5, _⟩ => ⟨S64, .f32⟩
  | .hbm, ⟨6, _⟩ => ⟨S64, .f32⟩
  | .hbm, ⟨7, _⟩ => ⟨S1024x1024, .f32⟩
  | .hbm, ⟨8, _⟩ => ⟨S8192x4x1x64, .f32⟩
  | .hbm, ⟨9, _⟩ => ⟨S8192x4x2x64, .f32⟩
  | .hbm, ⟨10, _⟩ => ⟨S8192x512, .f32⟩
  | .hbm, ⟨11, _⟩ => ⟨S2048x256, .f32⟩
  | .hbm, ⟨12, _⟩ => ⟨S1x16, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S1024x1024, .bf16⟩
  | .hbm, ⟨21, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S2048x256, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1024x1024, .bf16⟩
  | .local _ .vmem, ⟨13, _⟩ => ⟨S128x1024, .f32⟩
  | .local _ .vmem, ⟨14, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S8192x1024 : Shape := ⟨2, ![8192, 1024]⟩
abbrev S8192x256 : Shape := ⟨2, ![8192, 256]⟩
abbrev S16x128x256 : Shape := ⟨3, ![16, 128, 256]⟩
abbrev S16 : Shape := ⟨1, ![16]⟩
abbrev S64 : Shape := ⟨1, ![64]⟩
abbrev S1024x1024 : Shape := ⟨2, ![1024, 1024]⟩
abbrev S8192x16x64 : Shape := ⟨3, ![8192, 16, 64]⟩
abbrev S_ : Shape := ⟨0, ![]⟩
abbrev S8192x16 : Shape := ⟨2, ![8192, 16]⟩
abbrev S8192x16x1 : Shape := ⟨3, ![8192, 16, 1]⟩
abbrev S1x1x64 : Shape := ⟨3, ![1, 1, 64]⟩
abbrev S64x128x2x8x64 : Shape := ⟨5, ![64, 128, 2, 8, 64]⟩
abbrev S8192x128 : Shape := ⟨2, ![8192, 128]⟩
abbrev S8192x2x64 : Shape := ⟨3, ![8192, 2, 64]⟩
abbrev S8192x2 : Shape := ⟨2, ![8192, 2]⟩
abbrev S8192x2x1 : Shape := ⟨3, ![8192, 2, 1]⟩
abbrev S256 : Shape := ⟨1, ![256]⟩
abbrev S1x256 : Shape := ⟨2, ![1, 256]⟩
abbrev S128 : Shape := ⟨1, ![128]⟩
abbrev S128x1 : Shape := ⟨2, ![128, 1]⟩
abbrev S128x256 : Shape := ⟨2, ![128, 256]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S2x8 : Shape := ⟨2, ![2, 8]⟩
abbrev S1x2x8x1x1 : Shape := ⟨5, ![1, 2, 8, 1, 1]⟩
abbrev S128x2x64 : Shape := ⟨3, ![128, 2, 64]⟩
abbrev S8064x2x64 : Shape := ⟨3, ![8064, 2, 64]⟩
abbrev S64x128x2x64 : Shape := ⟨4, ![64, 128, 2, 64]⟩
abbrev S64x256x2x64 : Shape := ⟨4, ![64, 256, 2, 64]⟩
abbrev S64x2x256x128x8 : Shape := ⟨5, ![64, 2, 256, 128, 8]⟩
abbrev S64x2x8x128x256 : Shape := ⟨5, ![64, 2, 8, 128, 256]⟩
abbrev S2x8x128x256 : Shape := ⟨4, ![2, 8, 128, 256]⟩
abbrev S1x2x8x128x256 : Shape := ⟨5, ![1, 2, 8, 128, 256]⟩
abbrev S64x1x1x128x256 : Shape := ⟨5, ![64, 1, 1, 128, 256]⟩
abbrev S64x2x8x128 : Shape := ⟨4, ![64, 2, 8, 128]⟩
abbrev S64x2x8x128x1 : Shape := ⟨5, ![64, 2, 8, 128, 1]⟩
abbrev S64x2x64x8x128 : Shape := ⟨5, ![64, 2, 64, 8, 128]⟩

abbrev nBuf : Space → Nat
  | .hbm => 132
  | .vmem => 0
  | .smem => 0
  | _ => 0

abbrev hbmTy0_0 (i : Nat) : BufTy := match i % 128 with
  | 0 => ⟨S8192x1024, .f32⟩
  | 1 => ⟨S8192x1024, .f32⟩
  | 2 => ⟨S8192x256, .f32⟩
  | 3 => ⟨S16x128x256, .f32⟩
  | 4 => ⟨S16, .f32⟩
  | 5 => ⟨S64, .f32⟩
  | 6 => ⟨S64, .f32⟩
  | 7 => ⟨S1024x1024, .f32⟩
  | 8 => ⟨S8192x16x64, .f32⟩
  | 9 => ⟨S8192x16x64, .f32⟩
  | 10 => ⟨S_, .f32⟩
  | 11 => ⟨S8192x16, .f32⟩
  | 12 => ⟨S8192x16x1, .f32⟩
  | 13 => ⟨S_, .f32⟩
  | 14 => ⟨S8192x16x1, .f32⟩
  | 15 => ⟨S8192x16x1, .f32⟩
  | 16 => ⟨S_, .f32⟩
  | 17 => ⟨S8192x16x1, .f32⟩
  | 18 => ⟨S8192x16x1, .f32⟩
  | 19 => ⟨S8192x16x1, .f32⟩
  | 20 => ⟨S8192x16x64, .f32⟩
  | 21 => ⟨S8192x16x64, .f32⟩
  | 22 => ⟨S1x1x64, .f32⟩
  | 23 => ⟨S8192x16x64, .f32⟩
  | 24 => ⟨S8192x16x64, .f32⟩
  | 25 => ⟨S64x128x2x8x64, .f32⟩
  | 26 => ⟨S8192x128, .f32⟩
  | 27 => ⟨S8192x2x64, .f32⟩
  | 28 => ⟨S8192x2x64, .f32⟩
  | 29 => ⟨S_, .f32⟩
  | 30 => ⟨S8192x2, .f32⟩
  | 31 => ⟨S8192x2x1, .f32⟩
  | 32 => ⟨S_, .f32⟩
  | 33 => ⟨S8192x2x1, .f32⟩
  | 34 => ⟨S8192x2x1, .f32⟩
  | 35 => ⟨S_, .f32⟩
  | 36 => ⟨S8192x2x1, .f32⟩
  | 37 => ⟨S8192x2x1, .f32⟩
  | 38 => ⟨S8192x2x1, .f32⟩
  | 39 => ⟨S8192x2x64, .f32⟩
  | 40 => ⟨S8192x2x64, .f32⟩
  | 41 => ⟨S1x1x64, .f32⟩
  | 42 => ⟨S8192x2x64, .f32⟩
  | 43 => ⟨S8192x2x64, .f32⟩
  | 44 => ⟨S8192x128, .f32⟩
  | 45 => ⟨S8192x2x64, .f32⟩
  | 46 => ⟨S256, .i32⟩
  | 47 => ⟨S1x256, .i32⟩
  | 48 => ⟨S128, .i32⟩
  | 49 => ⟨S128x1, .i32⟩
  | 50 => ⟨S_, .i32⟩
  | 51 => ⟨S128x1, .i32⟩
  | 52 => ⟨S128x1, .i32⟩
  | 53 => ⟨S128x256, .i32⟩
  | 54 => ⟨S128x256, .i32⟩
  | 55 => ⟨S128x256, .i32⟩
  | 56 => ⟨S_, .i32⟩
  | 57 => ⟨S128x256, .i32⟩
  | 58 => ⟨S128x256, .i1⟩
  | 59 => ⟨S_, .i32⟩
  | 60 => ⟨S128x256, .i32⟩
  | 61 => ⟨S128x256, .i1⟩
  | 62 => ⟨S128x256, .i1⟩
  | 63 => ⟨S64, .i32⟩
  | 64 => ⟨S64x1x1, .i32⟩
  | 65 => ⟨S_, .i32⟩
  | 66 => ⟨S64x1x1, .i32⟩
  | 67 => ⟨S64x1x1, .i1⟩
  | 68 => ⟨S_, .i32⟩
  | 69 => ⟨S1x256, .i32⟩
  | 70 => ⟨S1x256, .i1⟩
  | 71 => ⟨S1x1x256, .i1⟩
  | 72 => ⟨S64x1x256, .i1⟩
  | 73 => ⟨S64x1x256, .i1⟩
  | 74 => ⟨S64x1x256, .i1⟩
  | 75 => ⟨S1x128x256, .i1⟩
  | 76 => ⟨S64x128x256, .i1⟩
  | 77 => ⟨S64x128x256, .i1⟩
  | 78 => ⟨S64x128x256, .i1⟩
  | 79 => ⟨S2x8, .f32⟩
  | 80 => ⟨S1x2x8x1x1, .f32⟩
  | 81 => ⟨S_, .f32⟩
  | 82 => ⟨S128x2x64, .f32⟩
  | 83 => ⟨S8064x2x64, .f32⟩
  | 84 => ⟨S8192x2x64, .f32⟩
  | 85 => ⟨S64x128x2x64, .f32⟩
  | 86 => ⟨S64x128x2x64, .f32⟩
  | 87 => ⟨S64x256x2x64, .f32⟩
  | 88 => ⟨S64x2x256x128x8, .f32⟩
  | 89 => ⟨S64x2x8x128x256, .f32⟩
  | 90 => ⟨S_, .f32⟩
  | 91 => ⟨S64x2x8x128x256, .f32⟩
  | 92 => ⟨S64x2x8x128x256, .f32⟩
  | 93 => ⟨S2x8x128x256, .f32⟩
  | 94 => ⟨S1x2x8x128x256, .f32⟩
  | 95 => ⟨S64x2x8x128x256, .f32⟩
  | 96 => ⟨S64x2x8x128x256, .f32⟩
  | 97 => ⟨S64x1x1x128x256, .i1⟩
  | 98 => ⟨S_, .f32⟩
  | 99 => ⟨S_, .f32⟩
  | 100 => ⟨S64x2x8x128x256, .i1⟩
  | 101 => ⟨S64x2x8x128x256, .f32⟩
  | 102 => ⟨S64x2x8x128x256, .f32⟩
  | 103 => ⟨S_, .f32⟩
  | 104 => ⟨S64x2x8x128, .f32⟩
  | 105 => ⟨S64x2x8x128x1, .f32⟩
  | 106 => ⟨S64x2x8x128x1, .f32⟩
  | 107 => ⟨S64x2x8x128x1, .f32⟩
  | 108 => ⟨S64x2x8x128x256, .f32⟩
  | 109 => ⟨S64x2x8x128x256, .f32⟩
  | 110 => ⟨S64x2x8x128x256, .f32⟩
  | 111 => ⟨S_, .f32⟩
  | 112 => ⟨S64x2x8x128, .f32⟩
  | 113 => ⟨S64x2x8x128x1, .f32⟩
  | 114 => ⟨S64x2x8x128x1, .f32⟩
  | 115 => ⟨S64x2x8x128x1, .f32⟩
  | 116 => ⟨S64x2x8x128x1, .f32⟩
  | 117 => ⟨S64x2x8x128x1, .f32⟩
  | 118 => ⟨S64x2x8x128x256, .f32⟩
  | 119 => ⟨S64x2x8x128x256, .f32⟩
  | 120 => ⟨S_, .f32⟩
  | 121 => ⟨S128x2x64, .f32⟩
  | 122 => ⟨S8064x2x64, .f32⟩
  | 123 => ⟨S8192x2x64, .f32⟩
  | 124 => ⟨S64x128x2x64, .f32⟩
  | 125 => ⟨S64x128x2x64, .f32⟩
  | 126 => ⟨S64x256x2x64, .f32⟩
  | 127 => ⟨S64x2x64x8x128, .f32⟩
  | _ => ⟨S8192x1024, .f32⟩

abbrev hbmTy0_1 (i : Nat) : BufTy := match i % 128 with
  | 0 => ⟨S64x128x2x8x64, .f32⟩
  | 1 => ⟨S8192x1024, .f32⟩
  | 2 => ⟨S8192x1024, .f32⟩
  | 3 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_5 : Ref sig .tc := ⟨.hbm, 56, rfl⟩
abbrev main_v41 : Ref sig .tc := ⟨.hbm, 57, rfl⟩
abbrev main_v42 : Ref sig .tc := ⟨.hbm, 58, rfl⟩
abbrev main_c_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_7 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_9 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_10 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_11 : Ref sig .tc := ⟨.hbm, 98, rfl⟩
abbrev main_call0_v0 : Ref sig .tc := ⟨.hbm, 99, rfl⟩
abbrev main_call0_v1 : Ref sig .tc := ⟨.hbm, 100, rfl⟩
abbrev main_call0_v2 : Ref sig .tc := ⟨.hbm, 101, rfl⟩
abbrev main_v77 : Ref sig .tc := ⟨.hbm, 102, rfl⟩
abbrev main_cst_12 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_13 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_14 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩

abbrev nD : Nat := 1
abbrev τ : Topo := Topo.v7x

variable {F : FTy → Type} [FloatOps F]
-- ==== SsdFwd.lean ====
abbrev S8192x3072 : Shape := ⟨2, ![8192, 3072]⟩
abbrev S8192x32 : Shape := ⟨2, ![8192, 32]⟩
abbrev S32 : Shape := ⟨1, ![32]⟩
abbrev S8192x4x8 : Shape := ⟨3, ![8192, 4, 8]⟩
abbrev S_ : Shape := ⟨0, ![]⟩
abbrev S8192x4x128 : Shape := ⟨3, ![8192, 4, 128]⟩
abbrev S8192x512 : Shape := ⟨2, ![8192, 512]⟩
abbrev S1x32 : Shape := ⟨2, ![1, 32]⟩
abbrev S1x4x8 : Shape := ⟨3, ![1, 4, 8]⟩
abbrev S1x4x128 : Shape := ⟨3, ![1, 4, 128]⟩
abbrev S1x512 : Shape := ⟨2, ![1, 512]⟩
abbrev S8192x2048 : Shape := ⟨2, ![8192, 2048]⟩
abbrev S32x4x512x128 : Shape := ⟨4, ![32, 4, 512, 128]⟩
abbrev S256x2048 : Shape := ⟨2, ![256, 2048]⟩
abbrev S256x512 : Shape := ⟨2, ![256, 512]⟩
abbrev S1x4x512x128 : Shape := ⟨4, ![1, 4, 512, 128]⟩
abbrev S4x512x128 : Shape := ⟨3, ![4, 512, 128]⟩
abbrev S1x512x128 : Shape := ⟨3, ![1, 512, 128]⟩
abbrev S512x128 : Shape := ⟨2, ![512, 128]⟩
abbrev S1x1x512x128 : Shape := ⟨4, ![1, 1, 512, 128]⟩
abbrev S256x128 : Shape := ⟨2, ![256, 128]⟩
abbrev S1x128 : Shape := ⟨2, ![1, 128]⟩
abbrev S256x256 : Shape := ⟨2, ![256, 256]⟩
abbrev S128x256 : Shape := ⟨2, ![128, 256]⟩
abbrev S128x1 : Shape := ⟨2, ![128, 1]⟩
abbrev S128x128 : Shape := ⟨2, ![128, 128]⟩
abbrev S256x1 : Shape := ⟨2, ![256, 1]⟩
abbrev S1x256 : Shape := ⟨2, ![1, 256]⟩
abbrev S1x1 : Shape := ⟨2, ![1, 1]⟩

abbrev nBuf : Space → Nat
  | .hbm => 30
  | .vmem => 16
  | .smem => 0
  | _ => 0

abbrev bufTy : (tb : Table) → Fin (tcTables nBuf tb) → BufTy
  | .hbm, ⟨0, _⟩ => ⟨S8192x3072, .f32⟩
  | .hbm, ⟨1, _⟩ => ⟨S8192x32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S8192x4x8, .f32⟩
  | .hbm, ⟨6, _⟩ => ⟨S_, .i32⟩
  | .hbm, ⟨7, _⟩ => ⟨S_, .f32⟩
  | .hbm, ⟨8, _⟩ => ⟨S8192x4x128, .f32⟩
  | .hbm, ⟨9, _⟩ => ⟨S8192x512, .f32⟩
  | .hbm, ⟨10, _⟩ => ⟨S1x32, .f32⟩
  | .hbm, ⟨11, _⟩ => ⟨S1x4x8, .f32⟩
  | .hbm, ⟨12, _⟩ => ⟨S_, .i32⟩
  | .hbm, ⟨13, _⟩ => ⟨S_, .f32⟩
  | .hbm, ⟨14, _⟩ => ⟨S1x4x128, .f32⟩
  | .hbm, ⟨15, _⟩ => ⟨S1x512, .f32⟩
  | .hbm, ⟨16, _⟩ => ⟨S1x32, .f32⟩
  | .hbm, ⟨17, _⟩ => ⟨S1x4x8, .f32⟩
  | .hbm, ⟨18, _⟩ => ⟨S_, .i32⟩
  | .hbm, ⟨19, _⟩ => ⟨S_, .f32⟩
  | .hbm, ⟨20, _⟩ => ⟨S1x4x128, .f32⟩
  | .hbm, ⟨21, _⟩ => ⟨S1x512, .f32⟩
  | .hbm, ⟨22, _⟩ => ⟨S1x32, .f32⟩
  | .hbm, ⟨23, _⟩ => ⟨S1x4x8, .f32⟩
  | .hbm, ⟨24, _⟩ => ⟨S_, .i32⟩
  | .hbm, ⟨25, _⟩ => ⟨S_, .f32⟩
  | .hbm, ⟨26, _⟩ => ⟨S1x4x128, .f32⟩
  | .hbm, ⟨27, _⟩ => ⟨S1x512, .f32⟩
  | .hbm, ⟨28, _⟩ => ⟨S8192x2048, .f32⟩
  | .hbm, ⟨29, _⟩ => ⟨S32x4x512x128, .f32⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S256x2048, .f32⟩
  | .local _ .vmem, ⟨12, _⟩ => ⟨S256x2048, .f32⟩
  | .local _ .vmem, ⟨13, _⟩ => ⟨S1x4x512x128, .f32⟩
  | .local _ .vmem, ⟨14, _⟩ => ⟨S1x4x512x128, .f32⟩
  | .local _ .vmem, ⟨15, _⟩ => ⟨S4x512x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call2_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_call3_v0 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SsdFwdIdeal.lean ====
variable {F : FTy → Type} [FloatOps F] [Named F]
def κ : String → Option EReal := fun
  | "mask" => some ⊥
  | _ => none
-- ==== SsdFwdRefIdeal.lean ====
abbrev S8192x3072 : Shape := ⟨2, ![8192, 3072]⟩
abbrev S8192x32 : Shape := ⟨2, ![8192, 32]⟩
abbrev S32 : Shape := ⟨1, ![32]⟩
abbrev S8192x2048 : Shape := ⟨2, ![8192, 2048]⟩
abbrev S8192x512 : Shape := ⟨2, ![8192, 512]⟩
abbrev S1x32 : Shape := ⟨2, ![1, 32]⟩
abbrev S_ : Shape := ⟨0, ![]⟩
abbrev S4x8 : Shape := ⟨2, ![4, 8]⟩
abbrev S256x256 : Shape := ⟨2, ![256, 256]⟩
abbrev S256x256x1x1 : Shape := ⟨4, ![256, 256, 1, 1]⟩
abbrev S8192x4x8x64 : Shape := ⟨4, ![8192, 4, 8, 64]⟩
abbrev S32x256x4x8x64 : Shape := ⟨5, ![32, 256, 4, 8, 64]⟩
abbrev S8192x4x8 : Shape := ⟨3, ![8192, 4, 8]⟩
abbrev S32x256x4x8 : Shape := ⟨4, ![32, 256, 4, 8]⟩
abbrev S8192x4x128 : Shape := ⟨3, ![8192, 4, 128]⟩
abbrev S32x256x4x128 : Shape := ⟨4, ![32, 256, 4, 128]⟩
abbrev S4x8x64x128 : Shape := ⟨4, ![4, 8, 64, 128]⟩
abbrev S32x4x8x64x128 : Shape := ⟨5, ![32, 4, 8, 64, 128]⟩
abbrev S1x256x4x8x64 : Shape := ⟨5, ![1, 256, 4, 8, 64]⟩
abbrev S256x4x8x64 : Shape := ⟨4, ![256, 4, 8, 64]⟩
abbrev S1x256x4x8 : Shape := ⟨4, ![1, 256, 4, 8]⟩
abbrev S256x4x8 : Shape := ⟨3, ![256, 4, 8]⟩
abbrev S1x256x4x128 : Shape := ⟨4, ![1, 256, 4, 128]⟩
abbrev S256x4x128 : Shape := ⟨3, ![256, 4, 128]⟩
abbrev S1x4x8 : Shape := ⟨3, ![1, 4, 8]⟩
abbrev S256x1x4x8 : Shape := ⟨4, ![256, 1, 4, 8]⟩
abbrev S256x256x4x8 : Shape := ⟨4, ![256, 256, 4, 8]⟩
abbrev S4x256x256 : Shape := ⟨3, ![4, 256, 256]⟩
abbrev S256x256x4 : Shape := ⟨3, ![256, 256, 4]⟩
abbrev S256x256x4x1 : Shape := ⟨4, ![256, 256, 4, 1]⟩
abbrev S4x8x64x256 : Shape := ⟨4, ![4, 8, 64, 256]⟩
abbrev S256x4x8x1 : Shape := ⟨4, ![256, 4, 8, 1]⟩
abbrev S4x8x1x1 : Shape := ⟨4, ![4, 8, 1, 1]⟩
abbrev S1x4x8x64x128 : Shape := ⟨5, ![1, 4, 8, 64, 128]⟩
abbrev S32x1 : Shape := ⟨2, ![32, 1]⟩
abbrev S8192x32x64 : Shape := ⟨3, ![8192, 32, 64]⟩
abbrev S1x32x1 : Shape := ⟨3, ![1, 32, 1]⟩
abbrev S32x4x512x128 : Shape := ⟨4, ![32, 4, 512, 128]⟩

abbrev nBuf : Space → Nat
  | .hbm => 158
  | .vmem => 0
  | .smem => 0
  | _ => 0

abbrev hbmTy0_0 (i : Nat) : BufTy := match i % 128 with
  | 0 => ⟨S8192x3072, .f32⟩
  | 1 => ⟨S8192x32, .f32⟩
  | 2 => ⟨S32, .f32⟩
  | 3 => ⟨S32, .f32⟩
  | 4 => ⟨S32, .f32⟩
  | 5 => ⟨S8192x2048, .f32⟩
  | 6 => ⟨S8192x512, .f32⟩
  | 7 => ⟨S8192x512, .f32⟩
  | 8 => ⟨S1x32, .f32⟩
  | 9 => ⟨S8192x32, .f32⟩
  | 10 => ⟨S8192x32, .f32⟩
  | 11 => ⟨S_, .f32⟩
  | 12 => ⟨S8192x32, .f32⟩
  | 13 => ⟨S8192x32, .f32⟩
  | 14 => ⟨S1x32, .f32⟩
  | 15 => ⟨S8192x32, .f32⟩
  | 16 => ⟨S8192x32, .f32⟩
  | 17 => ⟨S8192x32, .f32⟩
  | 18 => ⟨S8192x32, .f32⟩
  | 19 => ⟨S8192x32, .f32⟩
  | 20 => ⟨S8192x32, .f32⟩
  | 21 => ⟨S8192x32, .f32⟩
  | 22 => ⟨S32, .f32⟩
  | 23 => ⟨S4x8, .f32⟩
  | 24 => ⟨S4x8, .f32⟩
  | 25 => ⟨S_, .i1⟩
  | 26 => ⟨S256x256, .i1⟩
  | 27 => ⟨S256x256, .i32⟩
  | 28 => ⟨S_, .i32⟩
  | 29 => ⟨S256x256, .i32⟩
  | 30 => ⟨S256x256, .i32⟩
  | 31 => ⟨S256x256, .i32⟩
  | 32 => ⟨S256x256, .i1⟩
  | 33 => ⟨S_, .i1⟩
  | 34 => ⟨S256x256, .i1⟩
  | 35 => ⟨S256x256, .i1⟩
  | 36 => ⟨S256x256x1x1, .i1⟩
  | 37 => ⟨S8192x4x8x64, .f32⟩
  | 38 => ⟨S32x256x4x8x64, .f32⟩
  | 39 => ⟨S8192x4x8, .f32⟩
  | 40 => ⟨S32x256x4x8, .f32⟩
  | 41 => ⟨S8192x4x128, .f32⟩
  | 42 => ⟨S32x256x4x128, .f32⟩
  | 43 => ⟨S8192x4x128, .f32⟩
  | 44 => ⟨S32x256x4x128, .f32⟩
  | 45 => ⟨S_, .f32⟩
  | 46 => ⟨S4x8x64x128, .f32⟩
  | 47 => ⟨S_, .f32⟩
  | 48 => ⟨S32x256x4x8x64, .f32⟩
  | 49 => ⟨S_, .f32⟩
  | 50 => ⟨S32x4x8x64x128, .f32⟩
  | 51 => ⟨S_, .i32⟩
  | 52 => ⟨S32x256x4x8x64, .f32⟩
  | 53 => ⟨S32x256x4x8, .f32⟩
  | 54 => ⟨S32x256x4x128, .f32⟩
  | 55 => ⟨S32x256x4x128, .f32⟩
  | 56 => ⟨S4x8, .f32⟩
  | 57 => ⟨S256x256x1x1, .i1⟩
  | 58 => ⟨S_, .i32⟩
  | 59 => ⟨S4x8x64x128, .f32⟩
  | 60 => ⟨S32x256x4x8x64, .f32⟩
  | 61 => ⟨S32x4x8x64x128, .f32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S1x256x4x8x64, .f32⟩
  | 69 => ⟨S256x4x8x64, .f32⟩
  | 70 => ⟨S_, .i32⟩
  | 71 => ⟨S_, .i32⟩
  | 72 => ⟨S_, .i32⟩
  | 73 => ⟨S1x256x4x8, .f32⟩
  | 74 => ⟨S256x4x8, .f32⟩
  | 75 => ⟨S_, .i32⟩
  | 76 => ⟨S_, .i32⟩
  | 77 => ⟨S_, .i32⟩
  | 78 => ⟨S1x256x4x128, .f32⟩
  | 79 => ⟨S256x4x128, .f32⟩
  | 80 => ⟨S_, .i32⟩
  | 81 => ⟨S_, .i32⟩
  | 82 => ⟨S_, .i32⟩
  | 83 => ⟨S1x256x4x128, .f32⟩
  | 84 => ⟨S256x4x128, .f32⟩
  | 85 => ⟨S1x4x8, .f32⟩
  | 86 => ⟨S256x4x8, .f32⟩
  | 87 => ⟨S256x4x8, .f32⟩
  | 88 => ⟨S_, .f32⟩
  | 89 => ⟨S_, .f32⟩
  | 90 => ⟨S256x4x8, .f32⟩
  | 91 => ⟨S256x1x4x8, .f32⟩
  | 92 => ⟨S1x256x4x8, .f32⟩
  | 93 => ⟨S256x256x4x8, .f32⟩
  | 94 => ⟨S256x256x4x8, .f32⟩
  | 95 => ⟨S256x256x4x8, .f32⟩
  | 96 => ⟨S_, .f32⟩
  | 97 => ⟨S_, .f32⟩
  | 98 => ⟨S256x256x4x8, .i1⟩
  | 99 => ⟨S256x256x4x8, .f32⟩
  | 100 => ⟨S256x256x4x8, .f32⟩
  | 101 => ⟨S256x256x4x8, .f32⟩
  | 102 => ⟨S4x256x256, .f32⟩
  | 103 => ⟨S256x256x4, .f32⟩
  | 104 => ⟨S256x256x4x1, .f32⟩
  | 105 => ⟨S256x256x4x8, .f32⟩
  | 106 => ⟨S256x256x4x8, .f32⟩
  | 107 => ⟨S1x256x4x8, .f32⟩
  | 108 => ⟨S256x256x4x8, .f32⟩
  | 109 => ⟨S256x256x4x8, .f32⟩
  | 110 => ⟨S4x8x64x256, .f32⟩
  | 111 => ⟨S256x4x8x64, .f32⟩
  | 112 => ⟨S4x8x64x256, .f32⟩
  | 113 => ⟨S256x4x8x64, .f32⟩
  | 114 => ⟨S256x4x8, .f32⟩
  | 115 => ⟨S256x4x8x1, .f32⟩
  | 116 => ⟨S256x4x8x64, .f32⟩
  | 117 => ⟨S256x4x8x64, .f32⟩
  | 118 => ⟨S1x4x8, .f32⟩
  | 119 => ⟨S256x4x8, .f32⟩
  | 120 => ⟨S256x4x8, .f32⟩
  | 121 => ⟨S256x4x8, .f32⟩
  | 122 => ⟨S256x4x8, .f32⟩
  | 123 => ⟨S1x4x8, .f32⟩
  | 124 => ⟨S4x8, .f32⟩
  | 125 => ⟨S4x8, .f32⟩
  | 126 => ⟨S4x8x1x1, .f32⟩
  | 127 => ⟨S4x8x64x128, .f32⟩
  | _ => ⟨S8192x3072, .f32⟩

abbrev hbmTy0_1 (i : Nat) : BufTy := match i % 128 with
  | 0 => ⟨S4x8x64x128, .f32⟩
  | 1 => ⟨S256x4x8x1, .f32⟩
  | 2 => ⟨S256x4x8x64, .f32⟩
  | 3 => ⟨S256x4x8x64, .f32⟩
  | 4 => ⟨S4x8x64x128, .f32⟩
  | 5 => ⟨S4x8x64x128, .f32⟩
  | 6 => ⟨S256x4x8x64, .f32⟩
  | 7 => ⟨S1x256x4x8x64, .f32⟩
  | 8 => ⟨S_, .i32⟩
  | 9 => ⟨S_, .i32⟩
  | 10 => ⟨S_, .i32⟩
  | 11 => ⟨S_, .i32⟩
  | 12 => ⟨S32x256x4x8x64, .f32⟩
  | 13 => ⟨S1x4x8x64x128, .f32⟩
  | 14 => ⟨S_, .i32⟩
  | 15 => ⟨S_, .i32⟩
  | 16 => ⟨S_, .i32⟩
  | 17 => ⟨S_, .i32⟩
  | 18 => ⟨S32x4x8x64x128, .f32⟩
  | 19 => ⟨S_, .i32⟩
  | 20 => ⟨S_, .i32⟩
  | 21 => ⟨S8192x2048, .f32⟩
  | 22 => ⟨S32x1, .f32⟩
  | 23 => ⟨S8192x32x64, .f32⟩
  | 24 => ⟨S1x32x1, .f32⟩
  | 25 => ⟨S8192x32x64, .f32⟩
  | 26 => ⟨S8192x32x64, .f32⟩
  | 27 => ⟨S8192x2048, .f32⟩
  | 28 => ⟨S8192x2048, .f32⟩
  | 29 => ⟨S32x4x512x128, .f32⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_0 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_0 : Ref sig .tc := ⟨.hbm, 45, rfl⟩
abbrev main_v30 : Ref sig .tc := ⟨.hbm, 46, rfl⟩
abbrev main_cst_1 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_c_3 : Ref sig .tc := ⟨.hbm, 51, rfl⟩
abbrev main_v33_0 : Ref sig .tc := ⟨.hbm, 52, rfl⟩
abbrev main_v33_1 : Ref sig .tc := ⟨.hbm, 53, rfl⟩
abbrev main_v33_2 : Ref sig .tc := ⟨.hbm, 54, rfl⟩
abbrev main_v33_3 : Ref sig .tc := ⟨.hbm, 55, rfl⟩
abbrev main_v33_4 : Ref sig .tc := ⟨.hbm, 56, rfl⟩
abbrev main_v33_5 : Ref sig .tc := ⟨.hbm, 57, rfl⟩
abbrev main_v33_6 : Ref sig .tc := ⟨.hbm, 58, rfl⟩
abbrev main_v33_7 : Ref sig .tc := ⟨.hbm, 59, rfl⟩
abbrev main_v33_8 : Ref sig .tc := ⟨.hbm, 60, rfl⟩
abbrev main_v33_9 : Ref sig .tc := ⟨.hbm, 61, rfl⟩
abbrev main_while0c_c_13 : Ref sig .tc := ⟨.hbm, 62, rfl⟩
abbrev main_while0c_v43 : Ref sig .tc := ⟨.hbm, 63, rfl⟩
abbrev main_while0b_call1_c : Ref sig .tc := ⟨.hbm, 64, rfl⟩
abbrev main_while0b_call1_c_0 : Ref sig .tc := ⟨.hbm, 65, rfl⟩
abbrev main_while0b_call1_c_1 : Ref sig .tc := ⟨.hbm, 66, rfl⟩
abbrev main_while0b_call1_c_2 : Ref sig .tc := ⟨.hbm, 67, rfl⟩
abbrev main_while0b_call1_v0 : Ref sig .tc := ⟨.hbm, 68, rfl⟩
abbrev main_while0b_v43 : Ref sig .tc := ⟨.hbm, 69, rfl⟩
abbrev main_while0b_call2_c : Ref sig .tc := ⟨.hbm, 70, rfl⟩
abbrev main_while0b_call2_c_0 : Ref sig .tc := ⟨.hbm, 71, rfl⟩
abbrev main_while0b_call2_c_1 : Ref sig .tc := ⟨.hbm, 72, rfl⟩
abbrev main_while0b_call2_v0 : Ref sig .tc := ⟨.hbm, 73, rfl⟩
abbrev main_while0b_v44 : Ref sig .tc := ⟨.hbm, 74, rfl⟩
abbrev main_while0b_call3_c : Ref sig .tc := ⟨.hbm, 75, rfl⟩
abbrev main_while0b_call3_c_0 : Ref sig .tc := ⟨.hbm, 76, rfl⟩
abbrev main_while0b_call3_c_1 : Ref sig .tc := ⟨.hbm, 77, rfl⟩
abbrev main_while0b_call3_v0 : Ref sig .tc := ⟨.hbm, 78, rfl⟩
abbrev main_while0b_v45 : Ref sig .tc := ⟨.hbm, 79, rfl⟩
abbrev main_while0b_call4_c : Ref sig .tc := ⟨.hbm, 80, rfl⟩
abbrev main_while0b_call4_c_0 : Ref sig .tc := ⟨.hbm, 81, rfl⟩
abbrev main_while0b_call4_c_1 : Ref sig .tc := ⟨.hbm, 82, rfl⟩
abbrev main_while0b_call4_v0 : Ref sig .tc := ⟨.hbm, 83, rfl⟩
abbrev main_while0b_v46 : Ref sig .tc := ⟨.hbm, 84, rfl⟩
abbrev main_while0b_v47 : Ref sig .tc := ⟨.hbm, 85, rfl⟩
abbrev main_while0b_v48 : Ref sig .tc := ⟨.hbm, 86, rfl⟩
abbrev main_while0b_v49 : Ref sig .tc := ⟨.hbm, 87, rfl⟩
abbrev main_while0b_call5_call0_cst : Ref sig .tc := ⟨.hbm, 88, rfl⟩
abbrev main_while0b_call5_call0_v0 : Ref sig .tc := ⟨.hbm, 89, rfl⟩
abbrev main_while0b_v50 : Ref sig .tc := ⟨.hbm, 90, rfl⟩
abbrev main_while0b_v51 : Ref sig .tc := ⟨.hbm, 91, rfl⟩
abbrev main_while0b_v52 : Ref sig .tc := ⟨.hbm, 92, rfl⟩
abbrev main_while0b_v53 : Ref sig .tc := ⟨.hbm, 93, rfl⟩
abbrev main_while0b_v54 : Ref sig .tc := ⟨.hbm, 94, rfl⟩
abbrev main_while0b_v55 : Ref sig .tc := ⟨.hbm, 95, rfl⟩
abbrev main_while0b_cst_13 : Ref sig .tc := ⟨.hbm, 96, rfl⟩
abbrev main_while0b_call6_v0 : Ref sig .tc := ⟨.hbm, 97, rfl⟩
abbrev main_while0b_call6_v1 : Ref sig .tc := ⟨.hbm, 98, rfl⟩
abbrev main_while0b_call6_v2 : Ref sig .tc := ⟨.hbm, 99, rfl⟩
abbrev main_while0b_v56 : Ref sig .tc := ⟨.hbm, 100, rfl⟩
abbrev main_while0b_v57 : Ref sig .tc := ⟨.hbm, 101, rfl⟩
abbrev main_while0b_v58 : Ref sig .tc := ⟨.hbm, 102, rfl⟩
abbrev main_while0b_v59 : Ref sig .tc := ⟨.hbm, 103, rfl⟩
abbrev main_while0b_v60 : Ref sig .tc := ⟨.hbm, 104, rfl⟩
abbrev main_while0b_v61 : Ref sig .tc := ⟨.hbm, 105, rfl⟩
abbrev main_while0b_v62 : Ref sig .tc := ⟨.hbm, 106, rfl⟩
abbrev main_while0b_v63 : Ref sig .tc := ⟨.hbm, 107, rfl⟩
abbrev main_while0b_v64 : Ref sig .tc := ⟨.hbm, 108, rfl⟩
abbrev main_while0b_v65 : Ref sig .tc := ⟨.hbm, 109, rfl⟩
abbrev main_while0b_v66 : Ref sig .tc := ⟨.hbm, 110, rfl⟩
abbrev main_while0b_v67 : Ref sig .tc := ⟨.hbm, 111, rfl⟩
abbrev main_while0b_v68 : Ref sig .tc := ⟨.hbm, 112, rfl⟩
abbrev main_while0b_v69 : Ref sig .tc := ⟨.hbm, 113, rfl⟩
abbrev main_while0b_v70 : Ref sig .tc := ⟨.hbm, 114, rfl⟩
abbrev main_while0b_v71 : Ref sig .tc := ⟨.hbm, 115, rfl⟩
abbrev main_while0b_v72 : Ref sig .tc := ⟨.hbm, 116, rfl⟩
abbrev main_while0b_v73 : Ref sig .tc := ⟨.hbm, 117, rfl⟩
abbrev main_while0b_v74 : Ref sig .tc := ⟨.hbm, 118, rfl⟩
abbrev main_while0b_v75 : Ref sig .tc := ⟨.hbm, 119, rfl⟩
abbrev main_while0b_v76 : Ref sig .tc := ⟨.hbm, 120, rfl⟩
abbrev main_while0b_v77 : Ref sig .tc := ⟨.hbm, 121, rfl⟩
abbrev main_while0b_v78 : Ref sig .tc := ⟨.hbm, 122, rfl⟩
abbrev main_while0b_v79 : Ref sig .tc := ⟨.hbm, 123, rfl⟩
abbrev main_while0b_v80 : Ref sig .tc := ⟨.hbm, 124, rfl⟩
abbrev main_while0b_v81 : Ref sig .tc := ⟨.hbm, 125, rfl⟩
abbrev main_while0b_v82 : Ref sig .tc := ⟨.hbm, 126, rfl⟩
abbrev main_while0b_v83 : Ref sig .tc := ⟨.hbm, 127, rfl⟩
abbrev main_while0b_v84 : Ref sig .tc := ⟨.hbm, 128, rfl⟩
abbrev main_while0b_v85 : Ref sig .tc := ⟨.hbm, 129, rfl⟩
abbrev main_while0b_v86 : Ref sig .tc := ⟨.hbm, 130, rfl⟩
abbrev main_while0b_v87 : Ref sig .tc := ⟨.hbm, 131, rfl⟩
abbrev main_while0b_v88 : Ref sig .tc := ⟨.hbm, 132, rfl⟩
abbrev main_while0b_v89 : Ref sig .tc := ⟨.hbm, 133, rfl⟩
abbrev main_while0b_v90 : Ref sig .tc := ⟨.hbm, 134, rfl⟩
abbrev main_while0b_call7_v0 : Ref sig .tc := ⟨.hbm, 135, rfl⟩
abbrev main_while0b_call7_c : Ref sig .tc := ⟨.hbm, 136, rfl⟩
abbrev main_while0b_call7_c_0 : Ref sig .tc := ⟨.hbm, 137, rfl⟩
abbrev main_while0b_call7_c_1 : Ref sig .tc := ⟨.hbm, 138, rfl⟩
abbrev main_while0b_call7_c_2 : Ref sig .tc := ⟨.hbm, 139, rfl⟩
abbrev main_while0b_v91 : Ref sig .tc := ⟨.hbm, 140, rfl⟩
abbrev main_while0b_call8_v0 : Ref sig .tc := ⟨.hbm, 141, rfl⟩
abbrev main_while0b_call8_c : Ref sig .tc := ⟨.hbm, 142, rfl⟩
abbrev main_while0b_call8_c_0 : Ref sig .tc := ⟨.hbm, 143, rfl⟩
abbrev main_while0b_call8_c_1 : Ref sig .tc := ⟨.hbm, 144, rfl⟩
abbrev main_while0b_call8_c_2 : Ref sig .tc := ⟨.hbm, 145, rfl⟩
abbrev main_while0b_v92 : Ref sig .tc := ⟨.hbm, 146, rfl⟩
abbrev main_while0b_c_14 : Ref sig .tc := ⟨.hbm, 147, rfl⟩
abbrev main_while0b_v93 : Ref sig .tc := ⟨.hbm, 148, rfl⟩
abbrev main_v34 : Ref sig .tc := ⟨.hbm, 149, rfl⟩
abbrev main_v35 : Ref sig .tc := ⟨.hbm, 150, rfl⟩
abbrev main_v36 : Ref sig .tc := ⟨.hbm, 151, rfl⟩
abbrev main_v37 : Ref sig .tc := ⟨.hbm, 152, rfl⟩
abbrev main_v38 : Ref sig .tc := ⟨.hbm, 153, rfl⟩
abbrev main_v39 : Ref sig .tc := ⟨.hbm, 154, rfl⟩
abbrev main_v40 : Ref sig .tc := ⟨.hbm, 155, rfl⟩
abbrev main_v41 : Ref sig .tc := ⟨.hbm, 156, rfl⟩
abbrev main_v42 : Ref sig .tc := ⟨.hbm, 157, rfl⟩

abbrev nD : Nat := 1
abbrev τ : Topo := Topo.v7x

variable {F : FTy → Type} [FloatOps F]

abbrev main_while0_count : Scf.Loop 32 := ⟨0#32, 32#32, 1#32⟩
-- ==== Gate.lean ====
abbrev S8192x1024 : Shape := ⟨2, ![8192, 1024]⟩
abbrev S8192x2048 : Shape := ⟨2, ![8192, 2048]⟩
abbrev S8192x5632 : Shape := ⟨2, ![8192, 5632]⟩
abbrev S2048 : Shape := ⟨1, ![2048]⟩
abbrev S2048x1024 : Shape := ⟨2, ![2048, 1024]⟩
abbrev S1x2048 : Shape := ⟨2, ![1, 2048]⟩
abbrev S_ : Shape := ⟨0, ![]⟩
abbrev S8x128 : Shape := ⟨2, ![8, 128]⟩
abbrev S256x1024 : Shape := ⟨2, ![256, 1024]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S256x1536 : Shape := ⟨2, ![256, 1536]⟩

abbrev nBuf : Space → Nat
  | .hbm => 13
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x5632, .f32⟩
  | .hbm, ⟨3, _⟩ => ⟨S2048, .f32⟩
  | .hbm, ⟨4, _⟩ => ⟨S2048x1024, .f32⟩
  | .hbm, ⟨5, _⟩ => ⟨S1x2048, .f32⟩
  | .hbm, ⟨6, _⟩ => ⟨S2048x1024, .bf16⟩
  | .hbm, ⟨7, _⟩ => ⟨S_, .f32⟩
  | .hbm, ⟨8, _⟩ => ⟨S8x128, .f32⟩
  | .hbm, ⟨9, _⟩ => ⟨S8192x2048, .bf16⟩
  | .hbm, ⟨10, _⟩ => ⟨S8192x2048, .f32⟩
  | .hbm, ⟨11, _⟩ => ⟨S8192x2048, .bf16⟩
  | .hbm, ⟨12, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S2048x1024, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GateRefIdeal.lean ====
abbrev S8192x1024 : Shape := ⟨2, ![8192, 1024]⟩
abbrev S8192x2048 : Shape := ⟨2, ![8192, 2048]⟩
abbrev S8192x5632 : Shape := ⟨2, ![8192, 5632]⟩
abbrev S2048 : Shape := ⟨1, ![2048]⟩
abbrev S2048x1024 : Shape := ⟨2, ![2048, 1024]⟩
abbrev S_ : Shape := ⟨0, ![]⟩
abbrev S8192x4x512 : Shape := ⟨3, ![8192, 4, 512]⟩
abbrev S8192x4 : Shape := ⟨2, ![8192, 4]⟩
abbrev S8192x4x1 : Shape := ⟨3, ![8192, 4, 1]⟩
abbrev S4x512 : Shape := ⟨2, ![4, 512]⟩
abbrev S1x4x512 : Shape := ⟨3, ![1, 4, 512]⟩
abbrev S1x2048 : Shape := ⟨2, ![1, 2048]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x5632, .f32⟩
  | .hbm, ⟨3, _⟩ => ⟨S2048, .f32⟩
  | .hbm, ⟨4, _⟩ => ⟨S2048x1024, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x4x512, .f32⟩
  | .hbm, ⟨21, _⟩ => ⟨S8192x4x512, .f32⟩
  | .hbm, ⟨22, _⟩ => ⟨S_, .f32⟩
  | .hbm, ⟨23, _⟩ => ⟨S8192x4, .f32⟩
  | .hbm, ⟨24, _⟩ => ⟨S8192x4x1, .f32⟩
  | .hbm, ⟨25, _⟩ => ⟨S_, .f32⟩
  | .hbm, ⟨26, _⟩ => ⟨S8192x4x1, .f32⟩
  | .hbm, ⟨27, _⟩ => ⟨S8192x4x1, .f32⟩
  | .hbm, ⟨28, _⟩ => ⟨S_, .f32⟩
  | .hbm, ⟨29, _⟩ => ⟨S8192x4x1, .f32⟩
  | .hbm, ⟨30, _⟩ => ⟨S8192x4x1, .f32⟩
  | .hbm, ⟨31, _⟩ => ⟨S8192x4x1, .f32⟩
  | .hbm, ⟨32, _⟩ => ⟨S8192x4x1, .f32⟩
  | .hbm, ⟨33, _⟩ => ⟨S_, .f32⟩
  | .hbm, ⟨34, _⟩ => ⟨S8192x4x1, .f32⟩
  | .hbm, ⟨35, _⟩ => ⟨S8192x4x1, .f32⟩
  | .hbm, ⟨36, _⟩ => ⟨S8192x4x512, .f32⟩
  | .hbm, ⟨37, _⟩ => ⟨S8192x4x512, .f32⟩
  | .hbm, ⟨38, _⟩ => ⟨S4x512, .f32⟩
  | .hbm, ⟨39, _⟩ => ⟨S1x4x512, .f32⟩
  | .hbm, ⟨40, _⟩ => ⟨S8192x4x512, .f32⟩
  | .hbm, ⟨41, _⟩ => ⟨S8192x4x512, .f32⟩
  | .hbm, ⟨42, _⟩ => ⟨S8192x2048, .f32⟩
  | .hbm, ⟨43, _⟩ => ⟨S8192x1024, .f32⟩
  | .hbm, ⟨44, _⟩ => ⟨S8192x2048, .f32⟩
  | .hbm, ⟨45, _⟩ => ⟨S8192x4x512, .f32⟩
  | .hbm, ⟨46, _⟩ => ⟨S8192x4x512, .f32⟩
  | .hbm, ⟨47, _⟩ => ⟨S_, .f32⟩
  | .hbm, ⟨48, _⟩ => ⟨S4x512, .f32⟩
  | .hbm, ⟨49, _⟩ => ⟨S1x4x512, .f32⟩
  | .hbm, ⟨50, _⟩ => ⟨S8192x4x512, .f32⟩
  | .hbm, ⟨51, _⟩ => ⟨S8192x4x512, .f32⟩
  | .hbm, ⟨52, _⟩ => ⟨S_, .f32⟩
  | .hbm, ⟨53, _⟩ => ⟨S4x512, .f32⟩
  | .hbm, ⟨54, _⟩ => ⟨S2048, .f32⟩
  | .hbm, ⟨55, _⟩ => ⟨S8192x4x512, .f32⟩
  | .hbm, ⟨56, _⟩ => ⟨S_, .f32⟩
  | .hbm, ⟨57, _⟩ => ⟨S8192x4, .f32⟩
  | .hbm, ⟨58, _⟩ => ⟨S8192x4x1, .f32⟩
  | .hbm, ⟨59, _⟩ => ⟨S8192x4x512, .f32⟩
  | .hbm, ⟨60, _⟩ => ⟨S8192x4x512, .f32⟩
  | .hbm, ⟨61, _⟩ => ⟨S8192x4x1, .f32⟩
  | .hbm, ⟨62, _⟩ => ⟨S_, .f32⟩
  | .hbm, ⟨63, _⟩ => ⟨S8192x4x1, .f32⟩
  | .hbm, ⟨64, _⟩ => ⟨S8192x4x1, .f32⟩
  | .hbm, ⟨65, _⟩ => ⟨S_, .f32⟩
  | .hbm, ⟨66, _⟩ => ⟨S8192x4, .f32⟩
  | .hbm, ⟨67, _⟩ => ⟨S8192x4x512, .f32⟩
  | .hbm, ⟨68, _⟩ => ⟨S8192x4x512, .f32⟩
  | .hbm, ⟨69, _⟩ => ⟨S8192x4x512, .f32⟩
  | .hbm, ⟨70, _⟩ => ⟨S8192x4x512, .f32⟩
  | .hbm, ⟨71, _⟩ => ⟨S8192x4x512, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .bf16⟩
  | .hbm, ⟨80, _⟩ => ⟨S8192x2048, .bf16⟩
  | .hbm, ⟨81, _⟩ => ⟨S1x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]
-- ==== GateFwd.lean ====
abbrev S8192x1024 : Shape := ⟨2, ![8192, 1024]⟩
abbrev S8192x2048 : Shape := ⟨2, ![8192, 2048]⟩
abbrev S8192x5632 : Shape := ⟨2, ![8192, 5632]⟩
abbrev S2048 : Shape := ⟨1, ![2048]⟩
abbrev S2048x1024 : Shape := ⟨2, ![2048, 1024]⟩
abbrev S1x2048 : Shape := ⟨2, ![1, 2048]⟩
abbrev S256x1024 : Shape := ⟨2, ![256, 1024]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x5632, .f32⟩
  | .hbm, ⟨3, _⟩ => ⟨S2048, .f32⟩
  | .hbm, ⟨4, _⟩ => ⟨S2048x1024, .f32⟩
  | .hbm, ⟨5, _⟩ => ⟨S1x2048, .f32⟩
  | .hbm, ⟨6, _⟩ => ⟨S2048x1024, .bf16⟩
  | .hbm, ⟨7, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S2048x1024, .bf16⟩
  | .local _ .vmem, ⟨8, _⟩ => ⟨S256x1024, .f32⟩
  | .local _ .vmem, ⟨9, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateFwdRefIdeal.lean ====
abbrev S8192x1024 : Shape := ⟨2, ![8192, 1024]⟩
abbrev S8192x2048 : Shape := ⟨2, ![8192, 2048]⟩
abbrev S8192x5632 : Shape := ⟨2, ![8192, 5632]⟩
abbrev S2048 : Shape := ⟨1, ![2048]⟩
abbrev S2048x1024 : Shape := ⟨2, ![2048, 1024]⟩
abbrev S_ : Shape := ⟨0, ![]⟩
abbrev S8192x4x512 : Shape := ⟨3, ![8192, 4, 512]⟩
abbrev S8192x4 : Shape := ⟨2, ![8192, 4]⟩
abbrev S8192x4x1 : Shape := ⟨3, ![8192, 4, 1]⟩
abbrev S4x512 : Shape := ⟨2, ![4, 512]⟩
abbrev S1x4x512 : Shape := ⟨3, ![1, 4, 512]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x5632, .f32⟩
  | .hbm, ⟨3, _⟩ => ⟨S2048, .f32⟩
  | .hbm, ⟨4, _⟩ => ⟨S2048x1024, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x4x512, .f32⟩
  | .hbm, ⟨17, _⟩ => ⟨S8192x4x512, .f32⟩
  | .hbm, ⟨18, _⟩ => ⟨S_, .f32⟩
  | .hbm, ⟨19, _⟩ => ⟨S8192x4, .f32⟩
  | .hbm, ⟨20, _⟩ => ⟨S8192x4x1, .f32⟩
  | .hbm, ⟨21, _⟩ => ⟨S_, .f32⟩
  | .hbm, ⟨22, _⟩ => ⟨S8192x4x1, .f32⟩
  | .hbm, ⟨23, _⟩ => ⟨S8192x4x1, .f32⟩
  | .hbm, ⟨24, _⟩ => ⟨S_, .f32⟩
  | .hbm, ⟨25, _⟩ => ⟨S8192x4x1, .f32⟩
  | .hbm, ⟨26, _⟩ => ⟨S8192x4x1, .f32⟩
  | .hbm, ⟨27, _⟩ => ⟨S8192x4x1, .f32⟩
  | .hbm, ⟨28, _⟩ => ⟨S8192x4x512, .f32⟩
  | .hbm, ⟨29, _⟩ => ⟨S8192x4x512, .f32⟩
  | .hbm, ⟨30, _⟩ => ⟨S4x512, .f32⟩
  | .hbm, ⟨31, _⟩ => ⟨S1x4x512, .f32⟩
  | .hbm, ⟨32, _⟩ => ⟨S8192x4x512, .f32⟩
  | .hbm, ⟨33, _⟩ => ⟨S8192x4x512, .f32⟩
  | .hbm, ⟨34, _⟩ => ⟨S8192x2048, .f32⟩
  | .hbm, ⟨35, _⟩ => ⟨S8192x1024, .f32⟩
  | .hbm, ⟨36, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== NormFwdQ.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NormFwdQRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== NormFwdKv.lean ====
abbrev S8192x1024 : Shape := ⟨2, ![8192, 1024]⟩
abbrev S1024 : Shape := ⟨1, ![1024]⟩
abbrev S1024x256 : Shape := ⟨2, ![1024, 256]⟩
abbrev S1x1024 : Shape := ⟨2, ![1, 1024]⟩
abbrev S1024x4x1x64 : Shape := ⟨4, ![1024, 4, 1, 64]⟩
abbrev S1024x4x2x64 : Shape := ⟨4, ![1024, 4, 2, 64]⟩
abbrev S1024x512 : Shape := ⟨2, ![1024, 512]⟩
abbrev S8192x512 : Shape := ⟨2, ![8192, 512]⟩
abbrev S1024x1024 : Shape := ⟨2, ![1024, 1024]⟩
abbrev S1024x1 : Shape := ⟨2, ![1024, 1]⟩

abbrev nBuf : Space → Nat
  | .hbm => 9
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x256, .f32⟩
  | .hbm, ⟨3, _⟩ => ⟨S1x1024, .f32⟩
  | .hbm, ⟨4, _⟩ => ⟨S1024x4x1x64, .f32⟩
  | .hbm, ⟨5, _⟩ => ⟨S1024x4x2x64, .f32⟩
  | .hbm, ⟨6, _⟩ => ⟨S1024x512, .f32⟩
  | .hbm, ⟨7, _⟩ => ⟨S1024x512, .bf16⟩
  | .hbm, ⟨8, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NormFwdKvRefIdeal.lean ====
abbrev S8192x1024 : Shape := ⟨2, ![8192, 1024]⟩
abbrev S1024 : Shape := ⟨1, ![1024]⟩
abbrev S1024x256 : Shape := ⟨2, ![1024, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x256 : Shape := ⟨2, ![8192, 256]⟩
abbrev S8192x4x1x64 : Shape := ⟨4, ![8192, 4, 1, 64]⟩
abbrev S8192x4x2x64 : Shape := ⟨4, ![8192, 4, 2, 64]⟩
abbrev S8192x512 : Shape := ⟨2, ![8192, 512]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x256, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x256, .f32⟩
  | .hbm, ⟨20, _⟩ => ⟨S8192x4x1x64, .f32⟩
  | .hbm, ⟨21, _⟩ => ⟨S8192x4x2x64, .f32⟩
  | .hbm, ⟨22, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== NormFwdIn.lean ====
abbrev S8192x1024 : Shape := ⟨2, ![8192, 1024]⟩
abbrev S1024 : Shape := ⟨1, ![1024]⟩
abbrev S1024x5152 : Shape := ⟨2, ![1024, 5152]⟩
abbrev S1024x32 : Shape := ⟨2, ![1024, 32]⟩
abbrev S1024x4x8 : Shape := ⟨3, ![1024, 4, 8]⟩
abbrev S_ : Shape := ⟨0, ![]⟩
abbrev S1024x4x128 : Shape := ⟨3, ![1024, 4, 128]⟩
abbrev S1x1024 : Shape := ⟨2, ![1, 1024]⟩
abbrev S1024x5120 : Shape := ⟨2, ![1024, 5120]⟩
abbrev S1024x512 : Shape := ⟨2, ![1024, 512]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩
abbrev S1024x1 : Shape := ⟨2, ![1024, 1]⟩

abbrev nBuf : Space → Nat
  | .hbm => 14
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5152, .f32⟩
  | .hbm, ⟨3, _⟩ => ⟨S1024x32, .f32⟩
  | .hbm, ⟨4, _⟩ => ⟨S1024x4x8, .f32⟩
  | .hbm, ⟨5, _⟩ => ⟨S_, .i32⟩
  | .hbm, ⟨6, _⟩ => ⟨S_, .f32⟩
  | .hbm, ⟨7, _⟩ => ⟨S1024x4x128, .f32⟩
  | .hbm, ⟨8, _⟩ => ⟨S1x1024, .f32⟩
  | .hbm, ⟨9, _⟩ => ⟨S1024x5120, .f32⟩
  | .hbm, ⟨10, _⟩ => ⟨S1024x512, .f32⟩
  | .hbm, ⟨11, _⟩ => ⟨S1024x5632, .f32⟩
  | .hbm, ⟨12, _⟩ => ⟨S1024x5632, .bf16⟩
  | .hbm, ⟨13, _⟩ => ⟨S8192x5632, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .f32⟩
  | .local _ .vmem, ⟨6, _⟩ => ⟨S1024x1408, .f32⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NormFwdInRefIdeal.lean ====
abbrev S8192x1024 : Shape := ⟨2, ![8192, 1024]⟩
abbrev S1024 : Shape := ⟨1, ![1024]⟩
abbrev S1024x5152 : Shape := ⟨2, ![1024, 5152]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5152 : Shape := ⟨2, ![8192, 5152]⟩
abbrev S8192x32 : Shape := ⟨2, ![8192, 32]⟩
abbrev S8192x4x8 : Shape := ⟨3, ![8192, 4, 8]⟩
abbrev S8192x4x128 : Shape := ⟨3, ![8192, 4, 128]⟩
abbrev S8192x5120 : Shape := ⟨2, ![8192, 5120]⟩
abbrev S8192x512 : Shape := ⟨2, ![8192, 512]⟩
abbrev S8192x5632 : Shape := ⟨2, ![8192, 5632]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5152, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x5152, .f32⟩
  | .hbm, ⟨20, _⟩ => ⟨S8192x32, .f32⟩
  | .hbm, ⟨21, _⟩ => ⟨S8192x4x8, .f32⟩
  | .hbm, ⟨22, _⟩ => ⟨S_, .i32⟩
  | .hbm, ⟨23, _⟩ => ⟨S_, .f32⟩
  | .hbm, ⟨24, _⟩ => ⟨S8192x4x128, .f32⟩
  | .hbm, ⟨25, _⟩ => ⟨S8192x5120, .f32⟩
  | .hbm, ⟨26, _⟩ => ⟨S8192x512, .f32⟩
  | .hbm, ⟨27, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== FfnFwd.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x4x704 : Shape := ⟨3, ![1024, 4, 704]⟩
abbrev S4x1024x704 : Shape := ⟨3, ![4, 1024, 704]⟩
abbrev S4x1x1024x704 : Shape := ⟨4, ![4, 1, 1024, 704]⟩
abbrev S4x1x704x1024 : Shape := ⟨4, ![4, 1, 704, 1024]⟩
abbrev S_ : Shape := ⟨0, ![]⟩
abbrev S8x128 : Shape := ⟨2, ![8, 128]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1x704x1024 : Shape := ⟨4, ![1, 1, 704, 1024]⟩
abbrev S1x1024x704 : Shape := ⟨3, ![1, 1024, 704]⟩
abbrev S1024x1 : Shape := ⟨2, ![1024, 1]⟩
abbrev S1024x704 : Shape := ⟨2, ![1024, 704]⟩
abbrev S704x1024 : Shape := ⟨2, ![704, 1024]⟩

abbrev nBuf : Space → Nat
  | .hbm => 21
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x4x704, .bf16⟩
  | .hbm, ⟨8, _⟩ => ⟨S4x1024x704, .bf16⟩
  | .hbm, ⟨9, _⟩ => ⟨S4x1x1024x704, .bf16⟩
  | .hbm, ⟨10, _⟩ => ⟨S1024x2816, .bf16⟩
  | .hbm, ⟨11, _⟩ => ⟨S1024x4x704, .bf16⟩
  | .hbm, ⟨12, _⟩ => ⟨S4x1024x704, .bf16⟩
  | .hbm, ⟨13, _⟩ => ⟨S4x1x1024x704, .bf16⟩
  | .hbm, ⟨14, _⟩ => ⟨S2816x1024, .bf16⟩
  | .hbm, ⟨15, _⟩ => ⟨S4x1x704x1024, .bf16⟩
  | .hbm, ⟨16, _⟩ => ⟨S_, .f32⟩
  | .hbm, ⟨17, _⟩ => ⟨S8x128, .f32⟩
  | .hbm, ⟨18, _⟩ => ⟨S8192x1024, .f32⟩
  | .hbm, ⟨19, _⟩ => ⟨S4x8192x704, .bf16⟩
  | .hbm, ⟨20, _⟩ => ⟨S4x8192x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1024x1024, .bf16⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_29 : BitVec 32 := 0#32
  let v38 : BitVec 1 := Scalar.cmpi .ne v37 c0_i32_29
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnFwdRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x4x704, .f32⟩
  | .hbm, ⟨39, _⟩ => ⟨S4x8192x704, .f32⟩
  | .hbm, ⟨40, _⟩ => ⟨S4x8192x704, .bf16⟩
  | .hbm, ⟨41, _⟩ => ⟨S8192x4x704, .f32⟩
  | .hbm, ⟨42, _⟩ => ⟨S4x8192x704, .f32⟩
  | .hbm, ⟨43, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== ConvFwd.lean ====
abbrev S8192x5632 : Shape := ⟨2, ![8192, 5632]⟩
abbrev S1x4x3072 : Shape := ⟨3, ![1, 4, 3072]⟩
abbrev S1x3072 : Shape := ⟨2, ![1, 3072]⟩
abbrev S4x3072 : Shape := ⟨2, ![4, 3072]⟩
abbrev S_ : Shape := ⟨0, ![]⟩
abbrev S8x3072 : Shape := ⟨2, ![8, 3072]⟩
abbrev S8192x3072 : Shape := ⟨2, ![8192, 3072]⟩
abbrev S1024x512 : Shape := ⟨2, ![1024, 512]⟩
abbrev S8x512 : Shape := ⟨2, ![8, 512]⟩
abbrev S1x512 : Shape := ⟨2, ![1, 512]⟩
abbrev S1032x512 : Shape := ⟨2, ![1032, 512]⟩
abbrev S64x512 : Shape := ⟨2, ![64, 512]⟩

abbrev nBuf : Space → Nat
  | .hbm => 8
  | .vmem => 9
  | .smem => 0
  | _ => 0

abbrev bufTy : (tb : Table) → Fin (tcTables nBuf tb) → BufTy
  | .hbm, ⟨0, _⟩ => ⟨S8192x5632, .f32⟩
  | .hbm, ⟨1, _⟩ => ⟨S1x4x3072, .f32⟩
  | .hbm, ⟨2, _⟩ => ⟨S1x3072, .f32⟩
  | .hbm, ⟨3, _⟩ => ⟨S4x3072, .f32⟩
  | .hbm, ⟨4, _⟩ => ⟨S_, .i32⟩
  | .hbm, ⟨5, _⟩ => ⟨S_, .f32⟩
  | .hbm, ⟨6, _⟩ => ⟨S8x3072, .f32⟩
  | .hbm, ⟨7, _⟩ => ⟨S8192x3072, .f32⟩
  | .local _ .vmem, ⟨0, _⟩ => ⟨S1024x512, .f32⟩
  | .local _ .vmem, ⟨1, _⟩ => ⟨S1024x512, .f32⟩
  | .local _ .vmem, ⟨2, _⟩ => ⟨S8x512, .f32⟩
  | .local _ .vmem, ⟨3, _⟩ => ⟨S8x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1032x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvFwdRefIdeal.lean ====
abbrev S8192x5632 : Shape := ⟨2, ![8192, 5632]⟩
abbrev S1x4x3072 : Shape := ⟨3, ![1, 4, 3072]⟩
abbrev S1x3072 : Shape := ⟨2, ![1, 3072]⟩
abbrev S8192x3072 : Shape := ⟨2, ![8192, 3072]⟩
abbrev S_ : Shape := ⟨0, ![]⟩
abbrev S3x3072 : Shape := ⟨2, ![3, 3072]⟩
abbrev S8195x3072 : Shape := ⟨2, ![8195, 3072]⟩
abbrev S3072 : Shape := ⟨1, ![3072]⟩
abbrev S1x1x3072 : Shape := ⟨3, ![1, 1, 3072]⟩

abbrev nBuf : Space → Nat
  | .hbm => 50
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1x4x3072, .f32⟩
  | .hbm, ⟨2, _⟩ => ⟨S1x3072, .f32⟩
  | .hbm, ⟨3, _⟩ => ⟨S8192x3072, .f32⟩
  | .hbm, ⟨4, _⟩ => ⟨S_, .f32⟩
  | .hbm, ⟨5, _⟩ => ⟨S3x3072, .f32⟩
  | .hbm, ⟨6, _⟩ => ⟨S8195x3072, .f32⟩
  | .hbm, ⟨7, _⟩ => ⟨S3072, .f32⟩
  | .hbm, ⟨8, _⟩ => ⟨S1x1x3072, .f32⟩
  | .hbm, ⟨9, _⟩ => ⟨S3072, .f32⟩
  | .hbm, ⟨10, _⟩ => ⟨S8192x3072, .f32⟩
  | .hbm, ⟨11, _⟩ => ⟨S1x3072, .f32⟩
  | .hbm, ⟨12, _⟩ => ⟨S8192x3072, .f32⟩
  | .hbm, ⟨13, _⟩ => ⟨S8192x3072, .f32⟩
  | .hbm, ⟨14, _⟩ => ⟨S_, .f32⟩
  | .hbm, ⟨15, _⟩ => ⟨S8192x3072, .f32⟩
  | .hbm, ⟨16, _⟩ => ⟨S8192x3072, .f32⟩
  | .hbm, ⟨17, _⟩ => ⟨S1x1x3072, .f32⟩
  | .hbm, ⟨18, _⟩ => ⟨S3072, .f32⟩
  | .hbm, ⟨19, _⟩ => ⟨S8192x3072, .f32⟩
  | .hbm, ⟨20, _⟩ => ⟨S1x3072, .f32⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S1x1x3072, .f32⟩
  | .hbm, ⟨25, _⟩ => ⟨S3072, .f32⟩
  | .hbm, ⟨26, _⟩ => ⟨S8192x3072, .f32⟩
  | .hbm, ⟨27, _⟩ => ⟨S1x3072, .f32⟩
  | .hbm, ⟨28, _⟩ => ⟨S8192x3072, .f32⟩
  | .hbm, ⟨29, _⟩ => ⟨S8192x3072, .f32⟩
  | .hbm, ⟨30, _⟩ => ⟨S8192x3072, .f32⟩
  | .hbm, ⟨31, _⟩ => ⟨S1x1x3072, .f32⟩
  | .hbm, ⟨32, _⟩ => ⟨S3072, .f32⟩
  | .hbm, ⟨33, _⟩ => ⟨S8192x3072, .f32⟩
  | .hbm, ⟨34, _⟩ => ⟨S1x3072, .f32⟩
  | .hbm, ⟨35, _⟩ => ⟨S8192x3072, .f32⟩
  | .hbm, ⟨36, _⟩ => ⟨S8192x3072, .f32⟩
  | .hbm, ⟨37, _⟩ => ⟨S8192x3072, .f32⟩
  | .hbm, ⟨38, _⟩ => ⟨S1x3072, .f32⟩
  | .hbm, ⟨39, _⟩ => ⟨S8192x3072, .f32⟩
  | .hbm, ⟨40, _⟩ => ⟨S8192x3072, .f32⟩
  | .hbm, ⟨41, _⟩ => ⟨S8192x3072, .f32⟩
  | .hbm, ⟨42, _⟩ => ⟨S8192x3072, .f32⟩
  | .hbm, ⟨43, _⟩ => ⟨S_, .f32⟩
  | .hbm, ⟨44, _⟩ => ⟨S8192x3072, .f32⟩
  | .hbm, ⟨45, _⟩ => ⟨S8192x3072, .f32⟩
  | .hbm, ⟨46, _⟩ => ⟨S_, .f32⟩
  | .hbm, ⟨47, _⟩ => ⟨S8192x3072, .f32⟩
  | .hbm, ⟨48, _⟩ => ⟨S8192x3072, .f32⟩
  | .hbm, ⟨49, _⟩ => ⟨S8192x3072, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩

abbrev nD : Nat := 1
abbrev τ : Topo := Topo.v7x

variable {F : FTy → Type} [FloatOps F]
-- ==== Wgrad.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x5632, .bf16⟩
  | .hbm, ⟨4, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Adamw.lean ====
abbrev S4096x704 : Shape := ⟨2, ![4096, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwRefIdeal.lean ====
abbrev S4096x704 : Shape := ⟨2, ![4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== WgradB.lean ====
abbrev S8192x1024 : Shape := ⟨2, ![8192, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S_ : Shape := ⟨0, ![]⟩
abbrev S8x128 : Shape := ⟨2, ![8, 128]⟩
abbrev S4x1024x704 : Shape := ⟨3, ![4, 1024, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x704 : Shape := ⟨2, ![2048, 704]⟩

abbrev nBuf : Space → Nat
  | .hbm => 9
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .bf16⟩
  | .hbm, ⟨3, _⟩ => ⟨S8192x4x704, .bf16⟩
  | .hbm, ⟨4, _⟩ => ⟨S4x8192x704, .bf16⟩
  | .hbm, ⟨5, _⟩ => ⟨S8192x1024, .bf16⟩
  | .hbm, ⟨6, _⟩ => ⟨S_, .f32⟩
  | .hbm, ⟨7, _⟩ => ⟨S8x128, .f32⟩
  | .hbm, ⟨8, _⟩ => ⟨S4x1024x704, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .f32⟩
  | .local _ .vmem, ⟨5, _⟩ => ⟨S1x1024x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradBRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S1024x4x704, .f32⟩
  | .hbm, ⟨8, _⟩ => ⟨S4x1024x704, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Util.lean ====
module

public import Idealize.ShloMosaic.Lib.Pointwise
public import Idealize.ShloMosaic.Lib.Tactic

@[expose] public section

noncomputable section

namespace Cert.Util

open Idealize.ShloMosaic

/-! ## Bit patterns as real numbers -/

/-- The pattern of one half. -/
theorem bits_half : Ideal.ofBits .f32 0x3F000000#32 = ((1 / 2 : ℝ) : EReal) := by
  simp [Ideal.ofBits, Ideal.ieee]; rw [← EReal.coe_mul]; norm_num

/-- The pattern of two. -/
theorem bits_two : Ideal.ofBits .f32 0x40000000#32 = ((2 : ℝ) : EReal) := by
  simp [Ideal.ofBits, Ideal.ieee]; rw [← EReal.coe_mul]; norm_num
/-- The pattern of 1024. -/
theorem bits_1024 : Ideal.ofBits .f32 0x44800000#32 = ((1024 : ℝ) : EReal) := by
  simp [Ideal.ofBits, Ideal.ieee]; rw [← EReal.coe_mul]; norm_num
/-- The pattern of 1/1024. -/
theorem bits_inv1024 : Ideal.ofBits .f32 0x3A800000#32 = ((1 / 1024 : ℝ) : EReal) := by
  simp [Ideal.ofBits, Ideal.ieee]; rw [← EReal.coe_mul]; norm_num

/-! ## Extended reals -/

/-- Division by a nonzero real is multiplication by its inverse. -/
theorem div_coe (x : EReal) {r : ℝ} (hr : r ≠ 0) : Ideal.div x (r : EReal) = x * ((r⁻¹ : ℝ) : EReal) := by
  unfold Ideal.div
  rw [if_neg (by exact_mod_cast hr), EReal.coe_inv]

/-- The quotient of two reals, the divisor not zero. -/
theorem coe_div_coe (a : ℝ) {r : ℝ} (hr : r ≠ 0) : Ideal.div (a : EReal) (r : EReal) = ((a / r : ℝ) : EReal) := by
  rw [div_coe _ hr, ← EReal.coe_mul, div_eq_mul_inv]

/-- A square is not negative, at the infinities too. -/
theorem mul_self_nonneg (x : EReal) : 0 ≤ x * x := by
  rcases le_total 0 x with h | h
  · exact mul_nonneg h h
  · exact EReal.mul_nonneg_iff.mpr (Or.inr ⟨h, h⟩)

/-- A nonnegative real factor moves into a sum of terms that are not infinite below. -/
theorem coe_mul_sum {ι : Type*} (s : Finset ι) (f : ι → EReal) {r : ℝ} (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

end Cert.Util

end
-- ==== Proof.LossValue.lean ====
module

public import proofs.«01_k».proof.Proof.Gen.LossIdeal.Value
public import proofs.«01_k».proof.Defs
public import proofs.«01_k».proof.Proof.Gen.LossRefIdeal.Read
public import proofs.«01_k».proof.Proof.Util
public import Idealize.ShloMosaic.Lib.Claim

@[expose] public section

set_option maxRecDepth 16384

noncomputable section

namespace Cert.LossIdeal.Hand

open Cert.LossIdeal Cert.LossIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The zero offsets of a rank-2 access. -/
theorem hz : (![0, 0] : Fin 2 → Nat) = fun _ => 0 := funext fun a => by fin_cases a <;> rfl

/-- At the first row tile the running loss is the tile's loss added to zero. -/
theorem out_A_2 (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1 .f32) (h3 : a3.IsWhole)
    (a4 : Memref sig .tc .vmem S512x1024 .f32) (h4 : a4.IsWhole) (hc : cond0_0 i) (x y : Vec F S512x1024 .f32) :
    out0_A_2 c i a1 h1 a2 h2 a3 h3 a4 h4 hc x y = k0_pay3 x y (k0_pay1 (F := F)) := by
  unfold out0_A_2
  rw [View.read_writes_eq_canon _ _ _ (cover0_A_2 c i a1 h1 a2 h2 a3 h3 a4 h4 hc x y)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S512x1024) hz]

/-- At a later row tile it is the tile's loss added to the running loss. -/
theorem out_B_2 (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1 .f32) (h3 : a3.IsWhole)
    (a4 : Memref sig .tc .vmem S512x1024 .f32) (h4 : a4.IsWhole) (hc : ¬cond0_0 i) (x y : Vec F S512x1024 .f32)
    (xo : Vec F S1x1 .f32) :
    out0_B_2 c i a1 h1 a2 h2 a3 h3 a4 h4 hc x y xo = k0_pay3 x y xo := by
  unfold out0_B_2
  rw [View.read_writes_eq_canon _ _ _ (cover0_B_2 c i a1 h1 a2 h2 a3 h3 a4 h4 hc x y xo)]
  unfold kernelRun0_B
  dsimp only
  rw [View.canon_unit_zero hz]
  simp only [View.readAt_eq_ld, h1.read_unread, h2.read_unread, h3.read_unread, View.ld_unit_zero (S := S512x1024) hz,
    View.ld_unit_zero (S := S1x1) hz]

/-- The gradient of a tile, at the first point. -/
theorem out_A_3 (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1 .f32) (h3 : a3.IsWhole)
    (a4 : Memref sig .tc .vmem S512x1024 .f32) (h4 : a4.IsWhole) (hc : cond0_0 i) (x y : Vec F S512x1024 .f32) :
    out0_A_3 c i a1 h1 a2 h2 a3 h3 a4 h4 hc x y = k0_pay4 x y := by
  unfold out0_A_3
  rw [View.read_writes_eq_canon _ _ _ (cover0_A_3 c i a1 h1 a2 h2 a3 h3 a4 h4 hc x y)]
  unfold kernelRun0_A
  dsimp only
  rw [View.canon_unit_zero hz]
  simp only [View.readAt_eq_ld, h1.read_unread, h2.read_unread, View.ld_unit_zero (S := S512x1024) hz]

/-- The gradient of a tile, at a later point. -/
theorem out_B_3 (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1 .f32) (h3 : a3.IsWhole)
    (a4 : Memref sig .tc .vmem S512x1024 .f32) (h4 : a4.IsWhole) (hc : ¬cond0_0 i) (x y : Vec F S512x1024 .f32)
    (xo : Vec F S1x1 .f32) :
    out0_B_3 c i a1 h1 a2 h2 a3 h3 a4 h4 hc x y xo = k0_pay4 x y := by
  unfold out0_B_3
  rw [View.read_writes_eq_canon _ _ _ (cover0_B_3 c i a1 h1 a2 h2 a3 h3 a4 h4 hc x y xo)]
  unfold kernelRun0_B
  dsimp only
  rw [View.canon_unit_zero hz]
  simp only [View.readAt_eq_ld, h1.read_unread, h2.read_unread, View.ld_unit_zero (S := S512x1024) hz]

/-- The grid's points are its row tiles: every window's block index at point `t` is `(t, 0)`. -/
theorem idx_t (t : Fin cfg0.N) : (win0_0.index t 0 = t.val ∧ win0_0.index t 1 = 0)
    ∧ (win0_1.index t 0 = t.val ∧ win0_1.index t 1 = 0)
    ∧ (win0_2.index t 0 = 0 ∧ win0_2.index t 1 = 0) ∧ (win0_3.index t 0 = t.val ∧ win0_3.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = 0 ∧ win0_2.index t 1 = 0) ∧ (win0_3.index t 0 = t.val ∧ win0_3.index t 1 = 0)) t

/-- Row `r` of tile `t`. -/
abbrev row (t : Fin cfg0.N) (r : Fin 512) : Fin 8192 := ⟨512 * t.val + r.val, by have : cfg0.N = 16 := N_0; omega⟩

/-- The tile of `y` at point `t`. -/
theorem iblk0_apply (c : Dev nD) (t : Fin cfg0.N) (r : Fin 512) (l : Fin 1024) :
    (iblk m c 0 t : Vec F S512x1024 .f32) (ix2 r l) = m ((c : Thread nD τ).loc main_arg0) (ix2 (row t r) l) := by
  unfold iblk
  rw [View.read_apply]
  show V m c main_arg0 _ = m (c.tc.loc main_arg0) _
  unfold V
  congr 1
  obtain ⟨⟨h0, h1⟩, -⟩ := idx_t t
  funext a
  apply Fin.ext
  match a with
  | ⟨0, _⟩ => show win0_0.index t 0 * 512 + 1 * r.val = 512 * t.val + r.val; rw [h0]; omega
  | ⟨1, _⟩ => show win0_0.index t 1 * 1024 + 1 * l.val = l.val; rw [h1]; omega

/-- The tile of the target at point `t`. -/
theorem iblk1_apply (c : Dev nD) (t : Fin cfg0.N) (r : Fin 512) (l : Fin 1024) :
    (iblk m c 1 t : Vec F S512x1024 .f32) (ix2 r l) = m ((c : Thread nD τ).loc main_arg1) (ix2 (row t r) l) := by
  unfold iblk
  rw [View.read_apply]
  show V m c main_arg1 _ = m (c.tc.loc main_arg1) _
  unfold V
  congr 1
  obtain ⟨-, ⟨h0, h1⟩, -⟩ := idx_t t
  funext a
  apply Fin.ext
  match a with
  | ⟨0, _⟩ => show win0_1.index t 0 * 512 + 1 * r.val = 512 * t.val + r.val; rw [h0]; omega
  | ⟨1, _⟩ => show win0_1.index t 1 * 1024 + 1 * l.val = l.val; rw [h1]; omega

/-! ## At the extended reals -/

open Cert.Util

/-- The sum over the first `n` tiles of half the mean square error of each row. -/
def lossTo (y z : Vec Ideal S8192x1024 .f32) (n : ℕ) : EReal :=
  ∑ s ∈ Finset.range n, if h : s < 16 then ((1 / 2 : ℝ) : EReal) * ∑ r : Fin 512, Ideal.div
    (∑ l : Fin 1024, (y (ix2 ⟨512 * s + r.val, by omega⟩ l) - z (ix2 ⟨512 * s + r.val, by omega⟩ l))
      * (y (ix2 ⟨512 * s + r.val, by omega⟩ l) - z (ix2 ⟨512 * s + r.val, by omega⟩ l))) ((1024 : ℝ) : EReal) else 0

/-- One tile's loss, added to what the output holds. -/
theorem pay3_apply (x y : Vec Ideal S512x1024 .f32) (a : Vec Ideal S1x1 .f32) :
    k0_pay3 x y a (ix2 0 0) = a (ix2 0 0) + ((1 / 2 : ℝ) : EReal) * ∑ r : Fin 512, Ideal.div
      (∑ l : Fin 1024, (x (ix2 r l) - y (ix2 r l)) * (x (ix2 r l) - y (ix2 r l))) ((1024 : ℝ) : EReal) := by
  pointwise [k0_pay3, k0_pay2]
  rw [bits_half, bits_1024]

/-- The loss starts at zero. -/
theorem pay1_apply : (k0_pay1 (F := Ideal)) (ix2 0 0) = (0 : EReal) := by
  pointwise [k0_pay1]

variable (μ : (ℓ : Loc nD τ sig) → Buf (Elt Ideal) ℓ)

/-- After point `n` the loss's buffer holds the sum over the tiles so far. -/
theorem outsAt_loss (c : Dev nD) : ∀ (n : ℕ) (h : n < cfg0.N), (outsAt0 μ c n h).1 (ix2 0 0)
    = lossTo (μ ((c : Thread nD τ).loc main_arg0)) (μ ((c : Thread nD τ).loc main_arg1)) (n + 1)
  | 0, h => by
    rw [show outsAt0 μ c 0 h = _ from outsAt0_A μ c ⟨0, h⟩ rfl]
    dsimp only
    rw [out_A_2, pay3_apply, lossTo, Finset.sum_range_one, dif_pos (by omega)]
    simp only [iblk0_apply, iblk1_apply]
    rw [pay1_apply, zero_add]
  | n + 1, h => by
    have hN : cfg0.N = 16 := N_0
    rw [show outsAt0 μ c (n + 1) h = _ from outsAt0_B μ c ⟨n + 1, h⟩ (by dsimp only; omega)]
    dsimp only
    rw [out_B_2, pay3_apply, lossTo, Finset.sum_range_succ, dif_pos (by omega)]
    simp only [iblk0_apply, iblk1_apply]
    congr 1
    exact outsAt_loss c n (by omega)

/-- The loss array. -/
abbrev lossArr (c : Dev nD) : Buf (Elt Ideal) ((c : Thread nD τ).loc main_v0_0) := fun _ =>
  lossTo (μ ((c : Thread nD τ).loc main_arg0)) (μ ((c : Thread nD τ).loc main_arg1)) 16

/-- The gradient: the error over 1024. -/
def dyOf (y z : Vec Ideal S8192x1024 .f32) : Vec Ideal S8192x1024 .f32 := fun i => (y i - z i) * ((1 / 1024 : ℝ) : EReal)

/-- The gradient array. -/
abbrev dyArr (c : Dev nD) : Buf (Elt Ideal) ((c : Thread nD τ).loc main_v0_1) :=
  dyOf (μ ((c : Thread nD τ).loc main_arg0)) (μ ((c : Thread nD τ).loc main_arg1))

/-- The last point. -/
abbrev tLast : Fin cfg0.N := ⟨15, by decide⟩

/-- The point of row `i`'s tile. -/
abbrev tOf (i : Fin 8192) : Fin cfg0.N := ⟨i.val / 512, by have : cfg0.N = 16 := N_0; omega⟩

/-- The loss's array ends at the sum over the sixteen tiles. -/
theorem final_loss (c : Dev nD) : (dats μ 0 c).arrAt 2 cfg0.N = lossArr μ c := by
  have hN : cfg0.N = 16 := N_0
  refine (dats μ 0 c).arrAt_eq_of_cover 2 (lossArr μ c) (fun t hf => ?_) fun i =>
    ⟨tLast, (flush0_2 _).mpr rfl, ?_⟩
  · have ht : t.val = 15 := by have := (flush0_2 t).mp hf; have := t.isLt; omega
    rw [Value.flushed2]
    funext j
    have hj : j = ix2 (0 : Fin 1) (0 : Fin 1) := by
      refine Shape.idx_ext₂ ?_ ?_ <;> [have := (j 0).isLt; have := (j 1).isLt] <;> exact Nat.lt_one_iff.mp this
    subst hj
    rw [View.read_apply]
    refine (outsAt_loss μ c t.val t.isLt).trans ?_
    rw [ht]
    rfl
  · show i ∈ ((View.whole main_v0_0).slice (win0_2.rect tLast)).set
    rw [View.set_slice_whole, Rect.mem_set_unit]
    obtain ⟨-, -, ⟨h0, h1⟩, -⟩ := idx_t tLast
    intro a
    have l0 : (i 0 : Nat) < 1 := (i 0).isLt
    have l1 : (i 1 : Nat) < 1 := (i 1).isLt
    match a with
    | ⟨0, _⟩ => show win0_2.index tLast 0 * 1 ≤ (i 0 : Nat) ∧ (i 0 : Nat) < win0_2.index tLast 0 * 1 + 1
                rw [h0]; omega
    | ⟨1, _⟩ => show win0_2.index tLast 1 * 1 ≤ (i 1 : Nat) ∧ (i 1 : Nat) < win0_2.index tLast 1 * 1 + 1
                rw [h1]; omega

/-- What the gradient's buffer holds after any point. -/
theorem outsAt_dy (c : Dev nD) (t : Fin cfg0.N) :
    (outsAt0 μ c t.val t.isLt).2 = k0_pay4 (iblk μ c 0 t) (iblk μ c 1 t) := by
  by_cases h : t.val % 16 = 0
  · rw [outsAt0_A μ c t h]; dsimp only; rw [out_A_3]
  · rw [outsAt0_B μ c t h]; dsimp only; rw [out_B_3]

/-- The gradient's array ends at the error over 1024. -/
theorem final_dy (c : Dev nD) : (dats μ 0 c).arrAt 3 cfg0.N = dyArr μ c := by
  have hN : cfg0.N = 16 := N_0
  refine (dats μ 0 c).arrAt_eq_of_cover 3 (dyArr μ c) (fun t _ => ?_) fun i => ?_
  · rw [Value.flushed3, outsAt_dy]
    obtain ⟨-, -, -, ⟨h0, h1⟩⟩ := idx_t t
    funext j
    rw [View.read_apply]
    obtain ⟨r, l, rfl⟩ : ∃ (r : Fin 512) (l : Fin 1024), j = ix2 r l := ⟨j 0, j 1, eq_ix2 j⟩
    have he : ((cfg0.win 3).blk t).view.emb (ix2 r l) = (ix2 (row t r) l : S8192x1024.Idx) := by
      funext a
      apply Fin.ext
      match a with
      | ⟨0, _⟩ => show win0_3.index t 0 * 512 + 1 * r.val = 512 * t.val + r.val; rw [h0]; omega
      | ⟨1, _⟩ => show win0_3.index t 1 * 1024 + 1 * l.val = l.val; rw [h1]; omega
    rw [he]
    show k0_pay4 (iblk μ c 0 t) (iblk μ c 1 t) (ix2 r l) = dyArr μ c (ix2 (row t r) l)
    pointwise [k0_pay4, k0_pay2]
    rw [bits_inv1024, iblk0_apply, iblk1_apply]
    rfl
  · have l0 : (i 0 : Nat) < 8192 := (i 0).isLt
    have l1 : (i 1 : Nat) < 1024 := (i 1).isLt
    refine ⟨tOf (i 0), flush0_3 _, ?_⟩
    show i ∈ ((View.whole main_v0_1).slice (win0_3.rect (tOf (i 0)))).set
    rw [View.set_slice_whole, Rect.mem_set_unit]
    obtain ⟨-, -, -, ⟨h0, h1⟩⟩ := idx_t (tOf (i 0))
    intro a
    match a with
    | ⟨0, _⟩ => show win0_3.index (tOf (i 0)) 0 * 512 ≤ (i 0 : Nat)
                  ∧ (i 0 : Nat) < win0_3.index (tOf (i 0)) 0 * 512 + 512
                rw [h0]; dsimp only; omega
    | ⟨1, _⟩ => show win0_3.index (tOf (i 0)) 1 * 1024 ≤ (i 1 : Nat)
                  ∧ (i 1 : Nat) < win0_3.index (tOf (i 0)) 1 * 1024 + 1024
                rw [h1]; omega

/-! ## The reference -/

open Cert.LossRefIdeal.Read in
/-- The reference's loss is the sum of the sixteen tiles' losses: half of a sum of terms that are not negative is the
    sum of the halves. -/
theorem ref_loss (y z : Vec Ideal S8192x1024 .f32) (j : S1x1.Idx) :
    val_main_v9 (F := Ideal) y z j = lossTo y z 16 := by
  have hj : j = ix2 (0 : Fin 1) (0 : Fin 1) := by
    refine Shape.idx_ext₂ ?_ ?_ <;> [have := (j 0).isLt; have := (j 1).isLt] <;> exact Nat.lt_one_iff.mp this
  subst hj
  pointwise [val_main_v9, val_main_v8, val_main_v7, val_main_v6, val_main_v5, val_main_v4, val_main_v1, val_main_v0,
    val_main_cst_0, val_main_cst_1, val_main_cst_2, val_main_cst_3]
  rw [bits_half, bits_1024, Fin.sum_univ_tiles 16 512 (by norm_num), coe_mul_sum _ _ (by norm_num), lossTo,
    Finset.sum_range]
  refine Finset.sum_congr rfl fun s _ => ?_
  rw [dif_pos s.isLt]
  simp only [Nat.mul_comm 512]

open Cert.LossRefIdeal.Read in
/-- The reference's gradient is the error over 1024. -/
theorem ref_dy (y z : Vec Ideal S8192x1024 .f32) (j : S8192x1024.Idx) :
    val_main_v15 (F := Ideal) y z j = dyOf y z j := by
  idx_vars j
  unfold dyOf
  pointwise [val_main_v15, val_main_v14, val_main_v13, val_main_v12, val_main_v11, val_main_v10, val_main_v3,
    val_main_v2, val_main_v0, val_main_cst, val_main_cst_4, val_main_cst_5, val_main_cst_6]
  rw [bits_half, bits_1024, bits_two, coe_div_coe _ (by norm_num), ← mul_assoc, ← EReal.coe_mul, mul_comm]
  norm_num

/-- The reference's frame: its run read at the arguments; it has no semaphore. -/
theorem frame_ref : Cert.quiescent_LossRefIdeal (hLossRefIdeal := Cert.LossRefIdeal.Gen.facts) := fun m ρ _ =>
  (θ_run Cert.LossRefIdeal.defs _ _).mono (fun r h => ⟨fun c => (h c).2.2, sem_eq_zero_of_no_sems (by decide) r.2⟩)
    (Cert.LossRefIdeal.Value.run (F := Ideal) m ρ)

/-- The loss and its gradient: the kernel's arrays are the reference's. -/
theorem algebraic : Cert.algebraic_LossIdeal_LossRefIdeal (hLossIdeal := Cert.LossIdeal.Gen.facts)
    (hLossRefIdeal := Cert.LossRefIdeal.Gen.facts) := by
  intro m g m' g' _ hm
  refine ⟨lossArr m, dyArr m, ?_, ?_⟩
  · refine (θ_run _ _ _).mono (fun r h c => ?_) (Cert.LossIdeal.Value.run_blocks m g)
    obtain ⟨h0, h1, h2, h3⟩ := h c
    exact ⟨h0.trans (final_loss m c), h1.trans (final_dy m c), h2, h3⟩
  · refine (θ_run _ _ _).mono (fun r h c => ?_) (Cert.LossRefIdeal.Value.run m' g')
    obtain ⟨h0, h1, h2, h3⟩ := h c
    refine ⟨h0.trans ?_, h1.trans ?_, h2, h3⟩
    · rw [Cert.LossRefIdeal.Read.val_main_v9_eq, (hm c).1, (hm c).2]
      funext j; exact ref_loss _ _ j
    · rw [Cert.LossRefIdeal.Read.val_main_v15_eq, (hm c).1, (hm c).2]
      funext j; exact ref_dy _ _ j

end Cert.LossIdeal.Hand

end
-- ==== Proof.ConvRun.lean ====
module

public import proofs.«01_k».proof.Proof.Gen.ConvIdeal.Value

/-! The convolution's backward kernel works through a block of 1024 rows in 16 chunks of 64. Here
its stores are stated once for all chunks: the pre-activation's gradient `gC`, the running sums of
the weights' and the bias's gradients, and the chunks of the input's gradient. -/

@[expose] public section
set_option maxRecDepth 16384
noncomputable section
namespace Cert.ConvIdeal.Hand
open Cert.ConvIdeal Cert.ConvIdeal.Gen Idealize.ShloMosaic Idealize.ShloMosaic.TcCoe Idealize.SL.Sem
variable {F : FTy → Type} [FloatOps F]

/-- A window of 64 rows of a buffer of `n` rows, by its first row. -/
abbrev Win (F : FTy → Type) (n : Nat) := (o : Nat) → o + 64 ≤ n → Vec F S64x512 .f32

theorem inbW {n : Nat} {S : Shape} (hS : S = ⟨2, ![n, 512]⟩) (o : Nat) (h : o + 64 ≤ n) :
    ∀ a, (![o, 0] : Fin 2 → Nat) a + S64x512.size a ≤ (⟨2, ![n, 512]⟩ : Shape).size a := by
  intro a
  match a with
  | ⟨0, _⟩ => exact h
  | ⟨1, _⟩ => exact Nat.le_refl 512

/-- The pre-activation's gradient on chunk `k`: `W` are the rows of the input with the eight rows
before it, `D0`, `D1`, `D2` the rows of the three cotangents. -/
def gC (a0 : BitVec 32) (w : FVec F S8x512 .f32) (b : Vec F S1x512 .f32) (W : Win F 1032) (D0 D1 D2 : Win F 1024)
    (k : Nat) (h : k < 16) : FVec F S64x512 .f32 :=
  k0_pay12 a0 w b (W (5 + 64 * k) (by omega)) (W (6 + 64 * k) (by omega)) (W (7 + 64 * k) (by omega))
    (W (8 + 64 * k) (by omega)) (D0 (64 * k) (by omega)) (D1 (64 * k) (by omega)) (D2 (64 * k) (by omega))

abbrev rE (o : Nat) (h : o + 64 ≤ 1032) : Rect S1032x512 := Rect.unit ![o, 0] S64x512.size (inbW (S := S1032x512) rfl o h)
abbrev rB (o : Nat) (h : o + 64 ≤ 1024) : Rect S1024x512 := Rect.unit ![o, 0] S64x512.size (inbW (S := S1024x512) rfl o h)

/-- The first `n` chunks as they stand in the scratch, last store first. -/
def gPieces (g : (k : Nat) → k < 16 → FVec F S64x512 .f32) : (n : Nat) → n ≤ 16 → List (View.Piece (Elt F) S1032x512 .f32)
  | 0, _ => []
  | n + 1, h => ⟨rE (64 * n) (by omega), shapeCast S64x512 (g n (by omega)) shapeCasts_S64x512_S64x512⟩ :: gPieces g n (by omega)

/-- The running sum of the bias's gradient after `n` chunks. -/
def bAcc (g : (k : Nat) → k < 16 → FVec F S64x512 .f32) : (n : Nat) → n ≤ 16 → FVec F S1x512 .f32
  | 0, _ => k0_pay11
  | n + 1, h => k0_pay14 (bAcc g n (by omega)) (g n (by omega))

/-- The running sum of one tap's gradient after `n` chunks; the tap reads the input from row `5 + j`. -/
def wAcc (g : (k : Nat) → k < 16 → FVec F S64x512 .f32) (W : Win F 1032) (j : Nat) (hj : j < 4) :
    (n : Nat) → n ≤ 16 → FVec F S1x512 .f32
  | 0, _ => k0_pay7
  | n + 1, h => k0_pay15 (wAcc g W j hj n (by omega)) (W (5 + j + 64 * n) (by omega)) (g n (by omega))

/-- One chunk of the input's gradient from the four shifted windows of `gy`. -/
def oC (w : FVec F S8x512 .f32) (G0 G1 G2 G3 : Vec F S64x512 .f32) : FVec F S64x512 .bf16 :=
  k0_pay158 (k0_pay156 w G0 G1 G2) (k0_pay157 w) G3

/-- The first `n` chunks of the input's gradient, last store first; `G` are the windows of `gy`, `Gt` those
of the last chunk that reach past row 1024. -/
def oPieces (w : FVec F S8x512 .f32) (G : Win F 1024) (Gt : (o : Nat) → o + 64 ≤ 1032 → Vec F S64x512 .f32) :
    (n : Nat) → n ≤ 16 → List (View.Piece (Elt F) S1024x512 .bf16)
  | 0, _ => []
  | n + 1, h => ⟨rB (64 * n) (by omega), oC w
      (if hn : 64 * n + 3 + 64 ≤ 1024 then G (64 * n + 3) hn else Gt (64 * n + 3) (by omega))
      (if hn : 64 * n + 2 + 64 ≤ 1024 then G (64 * n + 2) hn else Gt (64 * n + 2) (by omega))
      (if hn : 64 * n + 1 + 64 ≤ 1024 then G (64 * n + 1) hn else Gt (64 * n + 1) (by omega))
      (G (64 * n) (by omega))⟩ :: oPieces w G Gt n (by omega)

/-- The rows the chunks read of the input with the eight rows before it. -/
abbrev extL (i : grid0.Coords) (arg3 : Memref sig .tc .vmem S1024x512 .f32) (harg3 : arg3.IsWhole) (arg4 : Memref sig .tc .vmem S8x512 .f32) (harg4 : arg4.IsWhole)
    (x0 : Vec F S1024x512 .f32) (x1 : Vec F S8x512 .f32) : List (View.Piece (Elt F) S1032x512 .f32) :=
  [⟨Rect.unit ![8, 0] S1024x512.size inb_S1032x512_S1024x512_8_0,
      k0_pay5 (View.readAt (Elt F) arg3.view (Rect.unit ![0, 0] S1024x512.size inb_S1024x512_S1024x512_0_0).toLoadRect (harg3.unread x0))⟩,
    ⟨Rect.unit ![0, 0] S8x512.size inb_S1032x512_S8x512_0_0,
      k0_pay4 i (View.readAt (Elt F) arg4.view (Rect.unit ![0, 0] S8x512.size inb_S8x512_S8x512_0_0).toLoadRect (harg4.unread x1))⟩]

abbrev winE (v : View sig .tc .vmem S1032x512 .f32) (L : List (View.Piece (Elt F) S1032x512 .f32)) : Win F 1032 :=
  fun o h => v.readCov L (rE o h).toLoadRect
abbrev winG (v : View sig .tc .vmem S1032x512 .f32) (L : List (View.Piece (Elt F) S1032x512 .f32)) : Win F 1024 :=
  fun o h => v.readCov L (rE o (by omega)).toLoadRect
abbrev winD (a : Memref sig .tc .vmem S1024x512 .f32) (ha : a.IsWhole) (x : Vec F S1024x512 .f32) : Win F 1024 :=
  fun o h => View.readAt (Elt F) a.view (rB o h).toLoadRect (ha.unread x)

section
variable (i : grid0.Coords) (arg3 : Memref sig .tc .vmem S1024x512 .f32) (harg3 : arg3.IsWhole) (arg4 : Memref sig .tc .vmem S8x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S8x512 .f32) (harg8 : arg8.IsWhole) (arg9 : Memref sig .tc .vmem S1x512 .f32) (harg9 : arg9.IsWhole) (arg13 : Memref sig .tc .vmem S1032x512 .f32)
    (x0 : Vec F S1024x512 .f32) (x1 : Vec F S8x512 .f32) (x2 : Vec F S1024x512 .f32) (x3 : Vec F S1024x512 .f32) (x4 : Vec F S1024x512 .f32) (x5 : Vec F S8x512 .f32) (x6 : Vec F S1x512 .f32)
abbrev wV : FVec F S8x512 .f32 :=
  k0_pay6 (View.readAt (Elt F) arg8.view (Rect.unit ![0, 0] S8x512.size inb_S8x512_S8x512_0_0).toLoadRect (harg8.unread x5))
abbrev bV : Vec F S1x512 .f32 :=
  View.readAt (Elt F) arg9.view (Rect.unit ![0, 0] S1x512.size inb_S1x512_S1x512_0_0).toLoadRect (harg9.unread x6)
/-- The chunks' gradients at a grid point, from the point's input blocks. -/
abbrev gP : (k : Nat) → k < 16 → FVec F S64x512 .f32 :=
  gC (BitVec.ofNat 32 (i 0).val) (wV arg8 harg8 x5) (bV arg9 harg9 x6) (winE arg13.view (extL i arg3 harg3 arg4 harg4 x0 x1))
    (winD arg5 harg5 x2) (winD arg6 harg6 x3) (winD arg7 harg7 x4)
end

abbrev rR (j : Nat) (h : j < 4) : Rect S8x512 := Rect.unit ![j, 0] S1x512.size (fun a => by
  match a with
  | ⟨0, _⟩ => exact (show j + 1 ≤ 8 by omega)
  | ⟨1, _⟩ => exact Nat.le_refl 512)

/-- The first `n` rows of the weights' gradient over a zeroed block. -/
def dwPieces (acc : (j : Nat) → j < 4 → FVec F S1x512 .f32) (v : View sig .tc .vmem S8x512 .f32) :
    (n : Nat) → n ≤ 4 → List (View.Piece (Elt F) S8x512 .f32)
  | 0, _ => [⟨Rect.unit ![0, 0] S8x512.size inb_S8x512_S8x512_0_0, k0_pay2⟩]
  | n + 1, h => ⟨rR n (by omega), k0_pay187 (acc n (by omega)) (v.readCov (dwPieces acc v n (by omega)) (rR n (by omega)).toLoadRect)⟩ ::
      dwPieces acc v n (by omega)

/-- The first `n` rows of the weights' gradient over what the block held, `x`. -/
def dwAdd (acc : (j : Nat) → j < 4 → FVec F S1x512 .f32) (a : Memref sig .tc .vmem S8x512 .f32) (ha : a.IsWhole) (x : Vec F S8x512 .f32) :
    (n : Nat) → n ≤ 4 → List (View.Piece (Elt F) S8x512 .f32)
  | 0, _ => []
  | n + 1, h => ⟨rR n (by omega), k0_pay187 (acc n (by omega)) (View.readAt (Elt F) a.view (rR n (by omega)).toLoadRect (ha.unread x))⟩ ::
      dwAdd acc a ha x n (by omega)

section
variable (c : Dev nD) (i : grid0.Coords) (arg3 : Memref sig .tc .vmem S1024x512 .f32) (harg3 : arg3.IsWhole) (arg4 : Memref sig .tc .vmem S8x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S8x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S8x512 .f32) (harg11 : arg11.IsWhole) (arg12 : Memref sig .tc .vmem S1x512 .f32) (harg12 : arg12.IsWhole) (arg13 : Memref sig .tc .vmem S1032x512 .f32) (harg13 : arg13.IsWhole) (arg14 : Memref sig .tc .vmem S1032x512 .f32) (harg14 : arg14.IsWhole)
  (x0 : Vec F S1024x512 .f32) (x1 : Vec F S8x512 .f32) (x2 x3 x4 : Vec F S1024x512 .f32) (x5 : Vec F S8x512 .f32) (x6 : Vec F S1x512 .f32)
  (xo8 : Vec F S8x512 .f32) (xo9 : Vec F S1x512 .f32) (xs1 : Vec F S1032x512 .f32)

/-- A later time block's rows of the input's gradient. -/
theorem runB7 (hc0 : ¬cond0_0 i) :
    out0_B_7 c i arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xs1 = VO0_7.read (Elt F) (VO0_7.writes (Elt F) VO0_7.junk (oPieces (wV arg8 harg8 x5) (winG arg14.view (gPieces (gP i arg3 harg3 arg4 harg4 arg5 harg5 arg6 harg6 arg7 harg7 arg8 harg8 arg9 harg9 arg13 x0 x1 x2 x3 x4 x5 x6) 16 (Nat.le_refl 16)))
      (fun o h => View.readAt (Elt F) arg14.view (rE o h).toLoadRect (arg14.view.writes (Elt F) (harg14.unread xs1) (gPieces (gP i arg3 harg3 arg4 harg4 arg5 harg5 arg6 harg6 arg7 harg7 arg8 harg8 arg9 harg9 arg13 x0 x1 x2 x3 x4 x5 x6) 16 (Nat.le_refl 16)))) 16 (Nat.le_refl 16))) := by
  unfold out0_B_7 kernelRun0_B
  rfl

/-- The first time block's rows of the input's gradient. -/
theorem runA7 (hc0 : cond0_0 i) :
    out0_A_7 c i arg3 harg3 arg4 harg4 arg5 harg5 arg6 harg6 arg7 harg7 arg8 harg8 arg9 harg9 arg10 harg10 arg11 harg11 arg12 harg12 arg13 harg13 arg14 harg14 hc0 x0 x1 x2 x3 x4 x5 x6 = VO0_7.read (Elt F) (VO0_7.writes (Elt F) VO0_7.junk (oPieces (wV arg8 harg8 x5) (winG arg14.view (gPieces (gP i arg3 harg3 arg4 harg4 arg5 harg5 arg6 harg6 arg7 harg7 arg8 harg8 arg9 harg9 arg13 x0 x1 x2 x3 x4 x5 x6) 16 (Nat.le_refl 16) ++ [⟨Rect.unit ![1024, 0] S8x512.size inb_S1032x512_S8x512_1024_0, k0_pay1⟩]))
      (winE arg14.view (gPieces (gP i arg3 harg3 arg4 harg4 arg5 harg5 arg6 harg6 arg7 harg7 arg8 harg8 arg9 harg9 arg13 x0 x1 x2 x3 x4 x5 x6) 16 (Nat.le_refl 16) ++ [⟨Rect.unit ![1024, 0] S8x512.size inb_S1032x512_S8x512_1024_0, k0_pay1⟩])) 16 (Nat.le_refl 16))) := by
  unfold out0_A_7 kernelRun0_A
  rfl

/-- A later time block adds to the weights' gradient. -/
theorem runB8 (hc0 : ¬cond0_0 i) :
    out0_B_8 c i arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xs1 = arg11.view.read (Elt F) (arg11.view.writes (Elt F) (harg11.unread xo8) (dwAdd (fun j hj => wAcc (gP i arg3 harg3 arg4 harg4 arg5 harg5 arg6 harg6 arg7 harg7 arg8 harg8 arg9 harg9 arg13 x0 x1 x2 x3 x4 x5 x6) (winE arg13.view (extL i arg3 harg3 arg4 harg4 x0 x1)) j hj 16 (Nat.le_refl 16)) arg11 harg11 xo8 4 (Nat.le_refl 4))) := by
  unfold out0_B_8 kernelRun0_B
  rfl

/-- The first time block starts the weights' gradient from zero. -/
theorem runA8 (hc0 : cond0_0 i) :
    out0_A_8 c i arg3 harg3 arg4 harg4 arg5 harg5 arg6 harg6 arg7 harg7 arg8 harg8 arg9 harg9 arg10 harg10 arg11 harg11 arg12 harg12 arg13 harg13 arg14 harg14 hc0 x0 x1 x2 x3 x4 x5 x6 = VO0_8.read (Elt F) (VO0_8.writes (Elt F) VO0_8.junk (dwPieces (fun j hj => wAcc (gP i arg3 harg3 arg4 harg4 arg5 harg5 arg6 harg6 arg7 harg7 arg8 harg8 arg9 harg9 arg13 x0 x1 x2 x3 x4 x5 x6) (winE arg13.view (extL i arg3 harg3 arg4 harg4 x0 x1)) j hj 16 (Nat.le_refl 16)) arg11.view 4 (Nat.le_refl 4))) := by
  unfold out0_A_8 kernelRun0_A
  rfl

/-- A later time block adds to the bias's gradient. -/
theorem runB9 (hc0 : ¬cond0_0 i) :
    out0_B_9 c i arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xs1 = VO0_9.read (Elt F) (VO0_9.writes (Elt F) VO0_9.junk ([⟨Rect.unit ![0, 0] S1x512.size inb_S1x512_S1x512_0_0, k0_pay191 (bAcc (gP i arg3 harg3 arg4 harg4 arg5 harg5 arg6 harg6 arg7 harg7 arg8 harg8 arg9 harg9 arg13 x0 x1 x2 x3 x4 x5 x6) 16 (Nat.le_refl 16)) (View.readAt (Elt F) arg12.view (Rect.unit ![0, 0] S1x512.size inb_S1x512_S1x512_0_0).toLoadRect (harg12.unread xo9))⟩])) := by
  unfold out0_B_9 kernelRun0_B
  rfl

/-- The first time block starts the bias's gradient from zero. -/
theorem runA9 (hc0 : cond0_0 i) :
    out0_A_9 c i arg3 harg3 arg4 harg4 arg5 harg5 arg6 harg6 arg7 harg7 arg8 harg8 arg9 harg9 arg10 harg10 arg11 harg11 arg12 harg12 arg13 harg13 arg14 harg14 hc0 x0 x1 x2 x3 x4 x5 x6 = VO0_9.read (Elt F) (VO0_9.writes (Elt F) VO0_9.junk ([⟨Rect.unit ![0, 0] S1x512.size inb_S1x512_S1x512_0_0, k0_pay191 (bAcc (gP i arg3 harg3 arg4 harg4 arg5 harg5 arg6 harg6 arg7 harg7 arg8 harg8 arg9 harg9 arg13 x0 x1 x2 x3 x4 x5 x6) 16 (Nat.le_refl 16)) (arg12.view.readCov [⟨Rect.unit ![0, 0] S1x512.size inb_S1x512_S1x512_0_0, k0_pay3⟩] (Rect.unit ![0, 0] S1x512.size inb_S1x512_S1x512_0_0).toLoadRect)⟩, ⟨Rect.unit ![0, 0] S1x512.size inb_S1x512_S1x512_0_0, k0_pay3⟩])) := by
  unfold out0_A_9 kernelRun0_A
  rfl

/-- What a later time block leaves in the scratch of the pre-activation's gradient. -/
theorem runBs (hc0 : ¬cond0_0 i) :
    sout0_B_1 c i arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xs1 = VS0_1.read (Elt F) (VS0_1.writes (Elt F) VS0_1.junk (⟨Rect.unit ![1024, 0] S8x512.size inb_S1032x512_S8x512_1024_0, k0_pay186 (arg14.view.readCov (gPieces (gP i arg3 harg3 arg4 harg4 arg5 harg5 arg6 harg6 arg7 harg7 arg8 harg8 arg9 harg9 arg13 x0 x1 x2 x3 x4 x5 x6) 16 (Nat.le_refl 16)) (Rect.unit (s := S1032x512) ![0, 0] S8x512.size inb_S1032x512_S8x512_0_0).toLoadRect)⟩ :: gPieces (gP i arg3 harg3 arg4 harg4 arg5 harg5 arg6 harg6 arg7 harg7 arg8 harg8 arg9 harg9 arg13 x0 x1 x2 x3 x4 x5 x6) 16 (Nat.le_refl 16))) := by
  unfold sout0_B_1 kernelRun0_B
  rfl

/-- What the first time block leaves in the scratch of the pre-activation's gradient. -/
theorem runAs (hc0 : cond0_0 i) :
    sout0_A_1 c i arg3 harg3 arg4 harg4 arg5 harg5 arg6 harg6 arg7 harg7 arg8 harg8 arg9 harg9 arg10 harg10 arg11 harg11 arg12 harg12 arg13 harg13 arg14 harg14 hc0 x0 x1 x2 x3 x4 x5 x6 = VS0_1.read (Elt F) (VS0_1.writes (Elt F) VS0_1.junk (⟨Rect.unit ![1024, 0] S8x512.size inb_S1032x512_S8x512_1024_0, k0_pay186 (arg14.view.readCov ((gPieces (gP i arg3 harg3 arg4 harg4 arg5 harg5 arg6 harg6 arg7 harg7 arg8 harg8 arg9 harg9 arg13 x0 x1 x2 x3 x4 x5 x6) 16 (Nat.le_refl 16) ++ [⟨Rect.unit ![1024, 0] S8x512.size inb_S1032x512_S8x512_1024_0, k0_pay1⟩])) (Rect.unit (s := S1032x512) ![0, 0] S8x512.size inb_S1032x512_S8x512_0_0).toLoadRect)⟩ :: (gPieces (gP i arg3 harg3 arg4 harg4 arg5 harg5 arg6 harg6 arg7 harg7 arg8 harg8 arg9 harg9 arg13 x0 x1 x2 x3 x4 x5 x6) 16 (Nat.le_refl 16) ++ [⟨Rect.unit ![1024, 0] S8x512.size inb_S1032x512_S8x512_1024_0, k0_pay1⟩]))) := by
  unfold sout0_A_1 kernelRun0_A
  rfl

end
end Cert.ConvIdeal.Hand
end
-- ==== Proof.Rows.lean ====
module

public import Idealize.ShloMosaic.Lib.Pipeline.FrameBody
public import Idealize.ShloMosaic.Lib.Pipeline.ValueKit.Tiles
public import Idealize.ShloMosaic.Lib.Pipeline.ValueKit.Geometry
public import Idealize.ShloMosaic.Lib.Pointwise

/-! Stores and loads of whole rows of a buffer with two dimensions, read at an index. -/

@[expose] public section
noncomputable section
namespace Cert.Rows
open Idealize.ShloMosaic

variable {sig : RefSig} {κ : Kind} {sp : Space} {e : EltTy} {Val : EltTy → Type} {N n C : Nat}

/-- A store of `n` whole rows from row `o`, over any contents, at row `r`: the stored row inside, the earlier
contents outside. -/
theorem read_cons (v : View sig κ sp ⟨2, ![N, C]⟩ e) (f : v.ty.Contents Val) (o : Nat)
    (inb : ∀ a, (![o, 0] : Fin 2 → Nat) a + (![n, C] : Fin 2 → Nat) a ≤ (⟨2, ![N, C]⟩ : Shape).size a)
    (w : (⟨2, ![n, C]⟩ : Shape).Idx → Val e) (L : List (View.Piece Val ⟨2, ![N, C]⟩ e)) (r : Fin N) (l : Fin C) :
    v.read Val (v.writes Val f (⟨Rect.unit ![o, 0] ![n, C] inb, w⟩ :: L)) (ix2 r l) =
      if h : o ≤ r.val ∧ r.val < o + n then w (ix2 ⟨r.val - o, by omega⟩ l) else v.read Val (v.writes Val f L) (ix2 r l) := by
  split
  · next h =>
    have hx : (Rect.unit (s := ⟨2, ![N, C]⟩) ![o, 0] ![n, C] inb).emb (ix2 (⟨r.val - o, by omega⟩ : Fin n) l) = ix2 r l := by
      funext a
      apply Fin.ext
      match a with
      | ⟨0, _⟩ => exact (ValueKit.rect_emb_unit_val _ _ inb _ 0).trans (by show o + (r.val - o) = r.val; omega)
      | ⟨1, _⟩ => exact (ValueKit.rect_emb_unit_val _ _ inb _ 1).trans (by show 0 + l.val = l.val; omega)
    rw [← hx]
    exact View.read_writes_cons_emb v f (Rect.unit (s := ⟨2, ![N, C]⟩) ![o, 0] ![n, C] inb) w L _
  · next h =>
    rw [View.writes_cons]
    refine View.read_slice_write_of_not_mem _ _ _ _ ?_
    rw [Rect.map_emb_univ, Rect.mem_set_unit]
    intro ha
    have h0 := ha 0
    exact h ⟨h0.1, h0.2⟩

/-- A load of `n` whole rows from row `o`, at its row `r`. -/
theorem readAt_rows (v : View sig κ sp ⟨2, ![N, C]⟩ e) (f : v.ty.Contents Val) (o : Nat)
    (inb : ∀ a, (![o, 0] : Fin 2 → Nat) a + (![n, C] : Fin 2 → Nat) a ≤ (⟨2, ![N, C]⟩ : Shape).size a)
    (r : Fin n) (l : Fin C) (h : o + r.val < N) :
    v.readAt Val (Rect.unit (s := ⟨2, ![N, C]⟩) ![o, 0] ![n, C] inb).toLoadRect f (ix2 r l) = v.read Val f (ix2 ⟨o + r.val, h⟩ l) := by
  have hx : (Rect.unit (s := ⟨2, ![N, C]⟩) ![o, 0] ![n, C] inb).emb (ix2 r l) = ix2 ⟨o + r.val, h⟩ l := by
    funext a
    apply Fin.ext
    match a with
    | ⟨0, _⟩ => exact ValueKit.rect_emb_unit_val _ _ inb _ 0
    | ⟨1, _⟩ => exact (ValueKit.rect_emb_unit_val _ _ inb _ 1).trans (by show 0 + l.val = l.val; omega)
  show v.read Val f ((Rect.unit (s := ⟨2, ![N, C]⟩) ![o, 0] ![n, C] inb).emb (ix2 r l)) = _
  rw [hx]

end Cert.Rows
end
-- ==== Proof.ConvPt.lean ====
module

public import proofs.«01_k».proof.Proof.ConvRun
public import proofs.«01_k».proof.Proof.Rows

/-! One grid point of the convolution's backward kernel, read at an index over the extended reals. -/

@[expose] public section
set_option maxRecDepth 16384
noncomputable section
namespace Cert.ConvIdeal.Hand
open Cert.ConvIdeal Cert.ConvIdeal.Gen Idealize.ShloMosaic Idealize.ShloMosaic.TcCoe Idealize.SL.Sem

/-- The kernel's sigmoid. -/
def sg (y : EReal) : EReal := Ideal.div 1 (1 + Ideal.exp (0 - y))
/-- The kernel's gradient of `silu` at `y` under the cotangent `d`. -/
def grad (d y : EReal) : EReal := d * (sg y * (1 + y * (1 - sg y)))
/-- The pre-activation from the bias, the four taps and the four rows they read. -/
def pre4 (b w0 w1 w2 w3 e0 e1 e2 e3 : EReal) : EReal := b + w0 * e0 + w1 * e1 + w2 * e2 + w3 * e3
/-- The cotangent a column block reads. -/
def selD (a0 : BitVec 32) (d0 d1 d2 : EReal) : EReal :=
  Scalar.select (Scalar.cmpi CmpIPredicate.slt a0 4#32) d0 (Scalar.select (Scalar.cmpi CmpIPredicate.eq a0 4#32) d1 d2)

theorem gC_at (a0 : BitVec 32) (w : FVec Ideal S8x512 .f32) (b : Vec Ideal S1x512 .f32) (W : Win Ideal 1032) (D0 D1 D2 : Win Ideal 1024)
    (k : Nat) (h : k < 16) (r : Fin 64) (l : Fin 512) : gC a0 w b W D0 D1 D2 k h (ix2 r l) =
      grad (selD a0 (D0 (64 * k) (by omega) (ix2 r l)) (D1 (64 * k) (by omega) (ix2 r l)) (D2 (64 * k) (by omega) (ix2 r l)))
        (pre4 (b (ix2 0 l)) (w (ix2 0 l)) (w (ix2 1 l)) (w (ix2 2 l)) (w (ix2 3 l)) (W (5 + 64 * k) (by omega) (ix2 r l))
          (W (6 + 64 * k) (by omega) (ix2 r l)) (W (7 + 64 * k) (by omega) (ix2 r l)) (W (8 + 64 * k) (by omega) (ix2 r l))) := by
  unfold gC
  pointwise [k0_pay12]
  rfl

theorem oC_at (w : FVec Ideal S8x512 .f32) (g g1 g2 g3 : Vec Ideal S64x512 .f32) (r : Fin 64) (l : Fin 512) :
    oC w g g1 g2 g3 (ix2 r l) =
      w (ix2 0 l) * g (ix2 r l) + w (ix2 1 l) * g1 (ix2 r l) + w (ix2 2 l) * g2 (ix2 r l) + w (ix2 3 l) * g3 (ix2 r l) := by
  unfold oC
  pointwise [k0_pay156, k0_pay157, k0_pay158]

theorem bAcc_at (g : (k : Nat) → k < 16 → FVec Ideal S64x512 .f32) (l : Fin 512) : ∀ (n : Nat) (h : n ≤ 16),
    bAcc g n h (ix2 0 l) = ∑ k : Fin n, ∑ r : Fin 64, g k.val (by omega) (ix2 r l)
  | 0, _ => by unfold bAcc; pointwise [k0_pay11]; simp
  | n + 1, h => by
    unfold bAcc
    pointwise [k0_pay14]
    rw [bAcc_at g l n (by omega), Fin.sum_univ_castSucc (n := n)]
    rfl

theorem wAcc_at (g : (k : Nat) → k < 16 → FVec Ideal S64x512 .f32) (W : Win Ideal 1032) (j : Nat) (hj : j < 4) (l : Fin 512) : ∀ (n : Nat) (h : n ≤ 16),
    wAcc g W j hj n h (ix2 0 l) = ∑ k : Fin n, ∑ r : Fin 64, g k.val (by omega) (ix2 r l) * W (5 + j + 64 * k.val) (by omega) (ix2 r l)
  | 0, _ => by unfold wAcc; pointwise [k0_pay7]; simp
  | n + 1, h => by
    unfold wAcc
    pointwise [k0_pay15]
    rw [wAcc_at g W j hj l n (by omega), Fin.sum_univ_castSucc (n := n)]
    rfl

section
variable {F : FTy → Type} [FloatOps F]

/-- The stored chunks over any contents: below row `64 n` the chunk's row, above the earlier contents. -/
theorem gPieces_at (v : View sig .tc .vmem S1032x512 .f32) (f : v.ty.Contents (Elt F)) (g : (k : Nat) → k < 16 → FVec F S64x512 .f32)
    (G : Fin 1024 → Fin 512 → F .f32)
    (hG : ∀ (k : Nat) (h : k < 16) (r : Fin 64) (l : Fin 512), g k h (ix2 r l) = G ⟨64 * k + r.val, by omega⟩ l)
    (r : Fin 1032) (l : Fin 512) : ∀ (n : Nat) (h : n ≤ 16),
    v.read (Elt F) (v.writes (Elt F) f (gPieces g n h)) (ix2 r l) =
      if hr : r.val < 64 * n then G ⟨r.val, by omega⟩ l else v.read (Elt F) f (ix2 r l)
  | 0, _ => by unfold gPieces; rw [dif_neg (by omega)]; rfl
  | n + 1, h => by
    unfold gPieces
    refine (Rows.read_cons v f (64 * n) _ _ _ r l).trans ?_
    by_cases hr : 64 * n ≤ r.val ∧ r.val < 64 * n + 64
    · rw [dif_pos hr, dif_pos (by omega)]
      rw [shapeCast_self, hG n (by omega) ⟨r.val - 64 * n, by omega⟩ l]
      congr 1; apply Fin.ext; show 64 * n + (r.val - 64 * n) = r.val; omega
    · rw [dif_neg hr, gPieces_at v f g G hG r l n (by omega)]
      by_cases h2 : r.val < 64 * n
      · rw [dif_pos h2, dif_pos (by omega)]
      · rw [dif_neg h2, dif_neg (by omega)]

end

/-- The rows a block's convolution reads: eight rows before the block (zero before the first), then the block. -/
def ext (i : grid0.Coords) (x0 : Vec Ideal S1024x512 .f32) (x1 : Vec Ideal S8x512 .f32) (r : Fin 1032) (l : Fin 512) : EReal :=
  if h : r.val < 8 then
    Scalar.select (Scalar.cmpi CmpIPredicate.sgt (Scalar.subi (7#32) (BitVec.ofNat 32 (i 1).val)) 0#32) (x1 (ix2 ⟨r.val, h⟩ l)) 0
  else x0 (ix2 ⟨r.val - 8, by omega⟩ l)

/-- The pre-activation's gradient on a block's rows. -/
def gRow (i : grid0.Coords) (x0 : Vec Ideal S1024x512 .f32) (x1 : Vec Ideal S8x512 .f32) (x2 x3 x4 : Vec Ideal S1024x512 .f32)
    (x5 : Vec Ideal S8x512 .f32) (x6 : Vec Ideal S1x512 .f32) (r : Fin 1024) (l : Fin 512) : EReal :=
  grad (selD (BitVec.ofNat 32 (i 0).val) (x2 (ix2 r l)) (x3 (ix2 r l)) (x4 (ix2 r l)))
    (pre4 (x6 (ix2 0 l)) (x5 (ix2 0 l)) (x5 (ix2 1 l)) (x5 (ix2 2 l)) (x5 (ix2 3 l))
      (ext i x0 x1 ⟨5 + r.val, by omega⟩ l) (ext i x0 x1 ⟨6 + r.val, by omega⟩ l)
      (ext i x0 x1 ⟨7 + r.val, by omega⟩ l) (ext i x0 x1 ⟨8 + r.val, by omega⟩ l))

/-- The gradient's rows followed by eight rows of the block after. -/
def gyRow (G : Fin 1024 → Fin 512 → EReal) (T : Vec Ideal S1032x512 .f32) (r : Fin 1032) (l : Fin 512) : EReal :=
  if h : r.val < 1024 then G ⟨r.val, h⟩ l else T (ix2 r l)

/-- A block's rows of the input's gradient. -/
def oRow (w : Vec Ideal S8x512 .f32) (Y : Fin 1032 → Fin 512 → EReal) (r : Fin 1024) (l : Fin 512) : EReal :=
  w (ix2 0 l) * Y ⟨r.val + 3, by omega⟩ l + w (ix2 1 l) * Y ⟨r.val + 2, by omega⟩ l + w (ix2 2 l) * Y ⟨r.val + 1, by omega⟩ l
    + w (ix2 3 l) * Y ⟨r.val, by omega⟩ l

/-- A tap's gradient over a block's rows. -/
def wSum (G : Fin 1024 → Fin 512 → EReal) (E : Fin 1032 → Fin 512 → EReal) (j : Nat) (hj : j < 4) (l : Fin 512) : EReal :=
  ∑ r : Fin 1024, G r l * E ⟨5 + j + r.val, by omega⟩ l

section
variable (c : Dev nD) (i : grid0.Coords) (arg3 : Memref sig .tc .vmem S1024x512 .f32) (harg3 : arg3.IsWhole) (arg4 : Memref sig .tc .vmem S8x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S8x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S8x512 .f32) (harg11 : arg11.IsWhole) (arg12 : Memref sig .tc .vmem S1x512 .f32) (harg12 : arg12.IsWhole) (arg13 : Memref sig .tc .vmem S1032x512 .f32) (harg13 : arg13.IsWhole) (arg14 : Memref sig .tc .vmem S1032x512 .f32) (harg14 : arg14.IsWhole)
    (x0 : Vec Ideal S1024x512 .f32) (x1 : Vec Ideal S8x512 .f32) (x2 : Vec Ideal S1024x512 .f32) (x3 : Vec Ideal S1024x512 .f32) (x4 : Vec Ideal S1024x512 .f32) (x5 : Vec Ideal S8x512 .f32) (x6 : Vec Ideal S1x512 .f32)

theorem winE_at (o : Nat) (h : o + 64 ≤ 1032) (r : Fin 64) (l : Fin 512) :
    winE arg13.view (extL i arg3 harg3 arg4 harg4 x0 x1) o h (ix2 r l) = ext i x0 x1 ⟨o + r.val, by omega⟩ l := by
  refine (Rows.readAt_rows arg13.view _ o _ r l (by omega)).trans ?_
  refine (Rows.read_cons arg13.view _ 8 _ _ _ _ l).trans ?_
  unfold ext
  by_cases h8 : o + r.val < 8
  · rw [dif_neg (by show ¬(8 ≤ o + r.val ∧ _); omega), dif_pos h8]
    refine (Rows.read_cons arg13.view _ 0 _ _ _ _ l).trans ?_
    rw [dif_pos (by show 0 ≤ o + r.val ∧ o + r.val < 0 + 8; omega)]
    pointwise [k0_pay4]
    rw [Rows.readAt_rows arg4.view _ 0 _ _ l (by show 0 + (o + r.val - 0) < 8; omega), harg4.read_unread]
    congr 3; congr 1; exact Nat.zero_add _
  · rw [dif_pos (by show 8 ≤ o + r.val ∧ o + r.val < 8 + 1024; omega), dif_neg h8]
    pointwise [k0_pay5]
    rw [Rows.readAt_rows arg3.view _ 0 _ _ l (by show 0 + (o + r.val - 8) < 1024; omega), harg3.read_unread]
    congr 2; apply Fin.ext; show 0 + (o + r.val - 8) = o + r.val - 8; omega

theorem winD_at (a : Memref sig .tc .vmem S1024x512 .f32) (ha : a.IsWhole) (x : Vec Ideal S1024x512 .f32) (o : Nat) (h : o + 64 ≤ 1024)
    (r : Fin 64) (l : Fin 512) : winD a ha x o h (ix2 r l) = x (ix2 ⟨o + r.val, by omega⟩ l) := by
  refine (Rows.readAt_rows a.view _ o _ r l (by omega)).trans ?_
  rw [ha.read_unread]

theorem wV_at (r : Fin 8) (l : Fin 512) : wV arg8 harg8 x5 (ix2 r l) = x5 (ix2 r l) := by
  unfold wV k0_pay6
  dsimp only
  rw [shapeCast_self, Rows.readAt_rows arg8.view _ 0 _ r l (by omega), harg8.read_unread]
  congr 2; apply Fin.ext; show 0 + r.val = r.val; omega

theorem bV_at (l : Fin 512) : bV arg9 harg9 x6 (ix2 0 l) = x6 (ix2 0 l) := by
  unfold bV
  rw [Rows.readAt_rows arg9.view _ 0 _ 0 l (by decide), harg9.read_unread]
  rfl

theorem gP_at (k : Nat) (h : k < 16) (r : Fin 64) (l : Fin 512) :
    gP i arg3 harg3 arg4 harg4 arg5 harg5 arg6 harg6 arg7 harg7 arg8 harg8 arg9 harg9 arg13 x0 x1 x2 x3 x4 x5 x6 k h (ix2 r l) = gRow i x0 x1 x2 x3 x4 x5 x6 ⟨64 * k + r.val, by omega⟩ l := by
  unfold gP
  rw [gC_at]
  simp only [winE_at, winD_at, wV_at, bV_at]
  unfold gRow
  simp only [← Nat.add_assoc]

/-- The taps' sums over a block. -/
theorem wAcc_sum (j : Nat) (hj : j < 4) (l : Fin 512) :
    wAcc (gP i arg3 harg3 arg4 harg4 arg5 harg5 arg6 harg6 arg7 harg7 arg8 harg8 arg9 harg9 arg13 x0 x1 x2 x3 x4 x5 x6) (winE arg13.view (extL i arg3 harg3 arg4 harg4 x0 x1)) j hj 16 (Nat.le_refl 16) (ix2 0 l) =
      wSum (gRow i x0 x1 x2 x3 x4 x5 x6) (ext i x0 x1) j hj l := by
  rw [wAcc_at]
  unfold wSum
  rw [Fin.sum_univ_tiles 16 64 rfl]
  refine Finset.sum_congr rfl fun k _ => Finset.sum_congr rfl fun r _ => ?_
  rw [gP_at, winE_at]
  congr 2 <;> (try apply Fin.ext) <;> simp only [] <;> omega

theorem bAcc_sum (l : Fin 512) :
    bAcc (gP i arg3 harg3 arg4 harg4 arg5 harg5 arg6 harg6 arg7 harg7 arg8 harg8 arg9 harg9 arg13 x0 x1 x2 x3 x4 x5 x6) 16 (Nat.le_refl 16) (ix2 0 l) = ∑ r : Fin 1024, gRow i x0 x1 x2 x3 x4 x5 x6 r l := by
  rw [bAcc_at, Fin.sum_univ_tiles 16 64 rfl]
  refine Finset.sum_congr rfl fun k _ => Finset.sum_congr rfl fun r _ => ?_
  rw [gP_at]
  congr 2; omega
end
end Cert.ConvIdeal.Hand
end
-- ==== Proof.ConvOut.lean ====
module

public import proofs.«01_k».proof.Proof.ConvPt

/-! What one grid point of the convolution's backward kernel leaves in its outputs and its scratch. -/

@[expose] public section
set_option maxRecDepth 16384
noncomputable section
namespace Cert.ConvIdeal.Hand
open Cert.ConvIdeal Cert.ConvIdeal.Gen Idealize.ShloMosaic Idealize.ShloMosaic.TcCoe Idealize.SL.Sem

theorem oPieces_at (v : View sig .tc .vmem S1024x512 .bf16) (f : v.ty.Contents (Elt Ideal)) (w : FVec Ideal S8x512 .f32) (x5 : Vec Ideal S8x512 .f32)
    (hw : ∀ (r : Fin 8) (l : Fin 512), w (ix2 r l) = x5 (ix2 r l)) (Gw : Win Ideal 1024) (Gt : Win Ideal 1032)
    (Y : Fin 1032 → Fin 512 → EReal) (hG : ∀ (o : Nat) (h : o + 64 ≤ 1024) (r : Fin 64) (l : Fin 512), Gw o h (ix2 r l) = Y ⟨o + r.val, by omega⟩ l)
    (hGt : ∀ (o : Nat) (h : o + 64 ≤ 1032) (r : Fin 64) (l : Fin 512), Gt o h (ix2 r l) = Y ⟨o + r.val, by omega⟩ l)
    (r : Fin 1024) (l : Fin 512) : ∀ (n : Nat) (h : n ≤ 16),
    v.read (Elt Ideal) (v.writes (Elt Ideal) f (oPieces w Gw Gt n h)) (ix2 r l) =
      if r.val < 64 * n then oRow x5 Y r l else v.read (Elt Ideal) f (ix2 r l)
  | 0, _ => by unfold oPieces; rw [if_neg (by omega)]; rfl
  | n + 1, h => by
    unfold oPieces
    refine (Rows.read_cons v f (64 * n) _ _ _ r l).trans ?_
    by_cases hr : 64 * n ≤ r.val ∧ r.val < 64 * n + 64
    · rw [dif_pos hr, if_pos (by omega), oC_at]
      have pick : ∀ (o : Nat) (ho : o + 64 ≤ 1032) (q : Fin 64),
          (if hn : o + 64 ≤ 1024 then Gw o hn else Gt o ho) (ix2 q l) = Y ⟨o + q.val, by omega⟩ l := by
        intro o ho q
        split
        · exact hG o _ q l
        · exact hGt o _ q l
      refine (congrArg₂ (· + ·) (congrArg₂ (· + ·) (congrArg₂ (· + ·)
        (congrArg₂ (· * ·) (hw 0 l) (pick (64 * n + 3) (by omega) _)) (congrArg₂ (· * ·) (hw 1 l) (pick (64 * n + 2) (by omega) _)))
        (congrArg₂ (· * ·) (hw 2 l) (pick (64 * n + 1) (by omega) _))) (congrArg₂ (· * ·) (hw 3 l) (hG (64 * n) (by omega) _ l))).trans ?_
      have e : ∀ j : Nat, 64 * n + j + (r.val - 64 * n) = r.val + j := fun j => by omega
      have e0 : 64 * n + (r.val - 64 * n) = r.val := by omega
      unfold oRow
      simp only [e, e0]
    · rw [dif_neg hr, oPieces_at v f w x5 hw Gw Gt Y hG hGt r l n (by omega)]
      by_cases h2 : r.val < 64 * n
      · rw [if_pos h2, if_pos (by omega)]
      · rw [if_neg h2, if_neg (by omega)]

theorem pay187_at (a b : FVec Ideal S1x512 .f32) (l : Fin 512) : k0_pay187 a b (ix2 0 l) = b (ix2 0 l) + a (ix2 0 l) := by
  pointwise [k0_pay187]

theorem pay191_at (a b : FVec Ideal S1x512 .f32) (l : Fin 512) : k0_pay191 a b (ix2 0 l) = b (ix2 0 l) + a (ix2 0 l) := by
  pointwise [k0_pay191]

theorem row0 {r : Fin 1} : r = 0 := Subsingleton.elim _ _

/-- Rows added to what a block held. -/
theorem dwAdd_at (acc : (j : Nat) → j < 4 → FVec Ideal S1x512 .f32) (a : Memref sig .tc .vmem S8x512 .f32) (ha : a.IsWhole) (x : Vec Ideal S8x512 .f32)
    (r : Fin 8) (l : Fin 512) : ∀ (n : Nat) (h : n ≤ 4),
    a.view.read (Elt Ideal) (a.view.writes (Elt Ideal) (ha.unread x) (dwAdd acc a ha x n h)) (ix2 r l) =
      if hr : r.val < n then x (ix2 r l) + acc r.val (by omega) (ix2 0 l) else x (ix2 r l)
  | 0, _ => by unfold dwAdd; rw [dif_neg (by omega), View.writes_nil, ha.read_unread]
  | n + 1, h => by
    unfold dwAdd
    refine (Rows.read_cons a.view _ n _ _ _ r l).trans ?_
    by_cases hr : n ≤ r.val ∧ r.val < n + 1
    · obtain rfl : n = r.val := by omega
      rw [dif_pos hr, dif_pos (by omega), row0 (r := ⟨r.val - r.val, _⟩), pay187_at,
        Rows.readAt_rows a.view _ r.val _ 0 l (by show r.val + 0 < 8; omega), ha.read_unread]
      rfl
    · rw [dif_neg hr, dwAdd_at acc a ha x r l n (by omega)]
      by_cases h2 : r.val < n
      · rw [dif_pos h2, dif_pos (by omega)]
      · rw [dif_neg h2, dif_neg (by omega)]

/-- Rows added to a zeroed block. -/
theorem dwPieces_at (acc : (j : Nat) → j < 4 → FVec Ideal S1x512 .f32) (v v' : View sig .tc .vmem S8x512 .f32) (f : v'.ty.Contents (Elt Ideal))
    (l : Fin 512) : ∀ (n : Nat) (h : n ≤ 4) (r : Fin 8),
    v'.read (Elt Ideal) (v'.writes (Elt Ideal) f (dwPieces acc v n h)) (ix2 r l) =
      if hr : r.val < n then 0 + acc r.val (by omega) (ix2 0 l) else 0
  | 0, _, r => by
    unfold dwPieces
    rw [dif_neg (by omega)]
    refine (Rows.read_cons v' f 0 _ _ _ r l).trans ?_
    rw [dif_pos (by omega)]
    pointwise [k0_pay2]
  | n + 1, h, r => by
    unfold dwPieces
    refine (Rows.read_cons v' _ n _ _ _ r l).trans ?_
    by_cases hr : n ≤ r.val ∧ r.val < n + 1
    · obtain rfl : n = r.val := by omega
      rw [dif_pos hr, dif_pos (by omega), row0 (r := ⟨r.val - r.val, _⟩), pay187_at]
      congr 1
      unfold View.readCov
      rw [Rows.readAt_rows v _ r.val _ 0 l (by show r.val + 0 < 8; omega)]
      refine (dwPieces_at acc v v _ l r.val (by omega) _).trans ?_
      rw [dif_neg (by show ¬ r.val + 0 < r.val; omega)]
    · rw [dif_neg hr, dwPieces_at acc v v' f l n (by omega) r]
      by_cases h2 : r.val < n
      · rw [dif_pos h2, dif_pos (by omega)]
      · rw [dif_neg h2, dif_neg (by omega)]

section
variable (i : grid0.Coords) (arg3 : Memref sig .tc .vmem S1024x512 .f32) (harg3 : arg3.IsWhole) (arg4 : Memref sig .tc .vmem S8x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S8x512 .f32) (harg8 : arg8.IsWhole) (arg9 : Memref sig .tc .vmem S1x512 .f32) (harg9 : arg9.IsWhole) (arg13 : Memref sig .tc .vmem S1032x512 .f32)
    (x0 : Vec Ideal S1024x512 .f32) (x1 : Vec Ideal S8x512 .f32) (x2 : Vec Ideal S1024x512 .f32) (x3 : Vec Ideal S1024x512 .f32) (x4 : Vec Ideal S1024x512 .f32) (x5 : Vec Ideal S8x512 .f32) (x6 : Vec Ideal S1x512 .f32)

/-- The scratch of the pre-activation's gradient after the chunks, over contents `f`. -/
theorem gy_over (v : View sig .tc .vmem S1032x512 .f32) (f : v.ty.Contents (Elt Ideal)) (r : Fin 1032) (l : Fin 512) :
    v.read (Elt Ideal) (v.writes (Elt Ideal) f (gPieces (gP i arg3 harg3 arg4 harg4 arg5 harg5 arg6 harg6 arg7 harg7 arg8 harg8 arg9 harg9 arg13 x0 x1 x2 x3 x4 x5 x6) 16 (Nat.le_refl 16))) (ix2 r l) =
      gyRow (gRow i x0 x1 x2 x3 x4 x5 x6) (v.read (Elt Ideal) f) r l := by
  rw [gPieces_at v f _ (gRow i x0 x1 x2 x3 x4 x5 x6) (gP_at i arg3 harg3 arg4 harg4 arg5 harg5 arg6 harg6 arg7 harg7 arg8 harg8 arg9 harg9 arg13 x0 x1 x2 x3 x4 x5 x6) r l 16 (Nat.le_refl 16)]
  rfl

/-- The same over the zeroed rows of the first time block. -/
theorem gy_zero (v : View sig .tc .vmem S1032x512 .f32) (f : v.ty.Contents (Elt Ideal)) (r : Fin 1032) (l : Fin 512) :
    v.read (Elt Ideal) (v.writes (Elt Ideal) f ((gPieces (gP i arg3 harg3 arg4 harg4 arg5 harg5 arg6 harg6 arg7 harg7 arg8 harg8 arg9 harg9 arg13 x0 x1 x2 x3 x4 x5 x6) 16 (Nat.le_refl 16)) ++ [⟨Rect.unit ![1024, 0] S8x512.size inb_S1032x512_S8x512_1024_0, k0_pay1 (F := Ideal)⟩])) (ix2 r l) =
      gyRow (gRow i x0 x1 x2 x3 x4 x5 x6) (fun _ => 0) r l := by
  rw [View.writes_append, gy_over]
  unfold gyRow
  split
  · rfl
  · next h =>
    refine (Rows.read_cons v f 1024 _ _ _ r l).trans ?_
    rw [dif_pos (by omega)]
    pointwise [k0_pay1]
end

section
variable (c : Dev nD) (i : grid0.Coords) (arg3 : Memref sig .tc .vmem S1024x512 .f32) (harg3 : arg3.IsWhole) (arg4 : Memref sig .tc .vmem S8x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S8x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S8x512 .f32) (harg11 : arg11.IsWhole) (arg12 : Memref sig .tc .vmem S1x512 .f32) (harg12 : arg12.IsWhole) (arg13 : Memref sig .tc .vmem S1032x512 .f32) (harg13 : arg13.IsWhole) (arg14 : Memref sig .tc .vmem S1032x512 .f32) (harg14 : arg14.IsWhole)
  (x0 : Vec Ideal S1024x512 .f32) (x1 : Vec Ideal S8x512 .f32) (x2 x3 x4 : Vec Ideal S1024x512 .f32) (x5 : Vec Ideal S8x512 .f32) (x6 : Vec Ideal S1x512 .f32)
  (xo8 : Vec Ideal S8x512 .f32) (xo9 : Vec Ideal S1x512 .f32) (xs1 : Vec Ideal S1032x512 .f32)

/-- The first time block's rows of the input's gradient. -/
theorem outA7 (hc0 : cond0_0 i)
    (r : Fin 1024) (l : Fin 512) :
    out0_A_7 c i arg3 harg3 arg4 harg4 arg5 harg5 arg6 harg6 arg7 harg7 arg8 harg8 arg9 harg9 arg10 harg10 arg11 harg11 arg12 harg12 arg13 harg13 arg14 harg14 hc0 x0 x1 x2 x3 x4 x5 x6 (ix2 r l) =
      oRow x5 (gyRow (gRow i x0 x1 x2 x3 x4 x5 x6) fun _ => 0) r l := by
  rw [runA7]
  refine (oPieces_at VO0_7 _ _ x5 (wV_at arg8 harg8 x5) _ _ (gyRow (gRow i x0 x1 x2 x3 x4 x5 x6) fun _ => 0) (fun o h r l => ?_) (fun o h r l => ?_) r l 16 (Nat.le_refl 16)).trans (if_pos r.isLt)
  · exact (Rows.readAt_rows arg14.view _ o _ r l (by omega)).trans (gy_zero i arg3 harg3 arg4 harg4 arg5 harg5 arg6 harg6 arg7 harg7 arg8 harg8 arg9 harg9 arg13 x0 x1 x2 x3 x4 x5 x6 _ _ _ l)
  · exact (Rows.readAt_rows arg14.view _ o _ r l (by omega)).trans (gy_zero i arg3 harg3 arg4 harg4 arg5 harg5 arg6 harg6 arg7 harg7 arg8 harg8 arg9 harg9 arg13 x0 x1 x2 x3 x4 x5 x6 _ _ _ l)

/-- A later time block's rows of the input's gradient. -/
theorem outB7 (hc0 : ¬cond0_0 i)
    (r : Fin 1024) (l : Fin 512) :
    out0_B_7 c i arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xs1 (ix2 r l) =
      oRow x5 (gyRow (gRow i x0 x1 x2 x3 x4 x5 x6) xs1) r l := by
  rw [runB7]
  refine (oPieces_at VO0_7 _ _ x5 (wV_at arg8 harg8 x5) _ _ (gyRow (gRow i x0 x1 x2 x3 x4 x5 x6) xs1) (fun o h r l => ?_) (fun o h r l => ?_) r l 16 (Nat.le_refl 16)).trans (if_pos r.isLt)
  · refine ((Rows.readAt_rows arg14.view _ o _ r l (by omega)).trans (gy_over i arg3 harg3 arg4 harg4 arg5 harg5 arg6 harg6 arg7 harg7 arg8 harg8 arg9 harg9 arg13 x0 x1 x2 x3 x4 x5 x6 _ _ _ l)).trans ?_
    unfold gyRow
    rw [dif_pos (by show o + r.val < 1024; omega), dif_pos (by show o + r.val < 1024; omega)]
  · refine ((Rows.readAt_rows arg14.view _ o _ r l (by omega)).trans (gy_over i arg3 harg3 arg4 harg4 arg5 harg5 arg6 harg6 arg7 harg7 arg8 harg8 arg9 harg9 arg13 x0 x1 x2 x3 x4 x5 x6 _ _ _ l)).trans ?_
    rw [harg14.read_unread]

/-- The first time block starts the weights' gradient. -/
theorem outA8 (hc0 : cond0_0 i)
    (r : Fin 8) (l : Fin 512) :
    out0_A_8 c i arg3 harg3 arg4 harg4 arg5 harg5 arg6 harg6 arg7 harg7 arg8 harg8 arg9 harg9 arg10 harg10 arg11 harg11 arg12 harg12 arg13 harg13 arg14 harg14 hc0 x0 x1 x2 x3 x4 x5 x6 (ix2 r l) =
      if hr : r.val < 4 then 0 + wSum (gRow i x0 x1 x2 x3 x4 x5 x6) (ext i x0 x1) r.val hr l else 0 := by
  rw [runA8, dwPieces_at]
  simp only [wAcc_sum]

/-- A later time block adds to the weights' gradient. -/
theorem outB8 (hc0 : ¬cond0_0 i)
    (r : Fin 8) (l : Fin 512) :
    out0_B_8 c i arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xs1 (ix2 r l) =
      if hr : r.val < 4 then xo8 (ix2 r l) + wSum (gRow i x0 x1 x2 x3 x4 x5 x6) (ext i x0 x1) r.val hr l else xo8 (ix2 r l) := by
  rw [runB8, dwAdd_at]
  simp only [wAcc_sum]

/-- The first time block starts the bias's gradient. -/
theorem outA9 (hc0 : cond0_0 i)
    (l : Fin 512) :
    out0_A_9 c i arg3 harg3 arg4 harg4 arg5 harg5 arg6 harg6 arg7 harg7 arg8 harg8 arg9 harg9 arg10 harg10 arg11 harg11 arg12 harg12 arg13 harg13 arg14 harg14 hc0 x0 x1 x2 x3 x4 x5 x6 (ix2 0 l) =
      0 + ∑ r : Fin 1024, (gRow i x0 x1 x2 x3 x4 x5 x6) r l := by
  rw [runA9]
  refine (Rows.read_cons VO0_9 _ 0 _ _ _ 0 l).trans ?_
  rw [dif_pos (by decide)]
  refine (pay191_at _ _ l).trans ?_
  rw [bAcc_sum]
  congr 1
  unfold View.readCov
  refine (Rows.readAt_rows arg12.view _ 0 _ 0 l (by decide)).trans ?_
  refine (Rows.read_cons arg12.view _ 0 _ _ _ _ l).trans ?_
  rw [dif_pos (by decide)]
  pointwise [k0_pay3]

/-- A later time block adds to the bias's gradient. -/
theorem outB9 (hc0 : ¬cond0_0 i)
    (l : Fin 512) :
    out0_B_9 c i arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xs1 (ix2 0 l) =
      xo9 (ix2 0 l) + ∑ r : Fin 1024, (gRow i x0 x1 x2 x3 x4 x5 x6) r l := by
  rw [runB9]
  refine (Rows.read_cons VO0_9 _ 0 _ _ _ 0 l).trans ?_
  rw [dif_pos (by decide)]
  refine (pay191_at _ _ l).trans ?_
  rw [bAcc_sum]
  congr 1
  refine (Rows.readAt_rows arg12.view _ 0 _ 0 l (by decide)).trans ?_
  rw [harg12.read_unread]
  rfl

/-- The rows a point hands on: the first eight of its block. -/
theorem soutA (hc0 : cond0_0 i)
    (r : Fin 1032) (hr : 1024 ≤ r.val) (l : Fin 512) :
    sout0_A_1 c i arg3 harg3 arg4 harg4 arg5 harg5 arg6 harg6 arg7 harg7 arg8 harg8 arg9 harg9 arg10 harg10 arg11 harg11 arg12 harg12 arg13 harg13 arg14 harg14 hc0 x0 x1 x2 x3 x4 x5 x6 (ix2 r l) =
      (gRow i x0 x1 x2 x3 x4 x5 x6) ⟨r.val - 1024, by omega⟩ l := by
  rw [runAs]
  refine (Rows.read_cons VS0_1 _ 1024 _ _ _ r l).trans ?_
  rw [dif_pos (by omega)]
  pointwise [k0_pay186]
  unfold View.readCov
  refine (Rows.readAt_rows arg14.view _ 0 _ _ l (by show 0 + (r.val - 1024) < 1032; omega)).trans ?_
  refine (gy_zero i arg3 harg3 arg4 harg4 arg5 harg5 arg6 harg6 arg7 harg7 arg8 harg8 arg9 harg9 arg13 x0 x1 x2 x3 x4 x5 x6 _ _ _ l).trans ?_
  unfold gyRow
  rw [dif_pos (by show 0 + (r.val - 1024) < 1024; omega)]
  congr 1; apply Fin.ext; show 0 + (r.val - 1024) = r.val - 1024; omega

/-- The rows a point hands on: the first eight of its block. -/
theorem soutB (hc0 : ¬cond0_0 i)
    (r : Fin 1032) (hr : 1024 ≤ r.val) (l : Fin 512) :
    sout0_B_1 c i arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xs1 (ix2 r l) =
      (gRow i x0 x1 x2 x3 x4 x5 x6) ⟨r.val - 1024, by omega⟩ l := by
  rw [runBs]
  refine (Rows.read_cons VS0_1 _ 1024 _ _ _ r l).trans ?_
  rw [dif_pos (by omega)]
  pointwise [k0_pay186]
  unfold View.readCov
  refine (Rows.readAt_rows arg14.view _ 0 _ _ l (by show 0 + (r.val - 1024) < 1032; omega)).trans ?_
  refine (gy_over i arg3 harg3 arg4 harg4 arg5 harg5 arg6 harg6 arg7 harg7 arg8 harg8 arg9 harg9 arg13 x0 x1 x2 x3 x4 x5 x6 _ _ _ l).trans ?_
  unfold gyRow
  rw [dif_pos (by show 0 + (r.val - 1024) < 1024; omega)]
  congr 1; apply Fin.ext; show 0 + (r.val - 1024) = r.val - 1024; omega

end
end Cert.ConvIdeal.Hand
end
-- ==== Proof.ConvBlocks.lean ====
module

public import proofs.«01_k».proof.Proof.ConvOut

/-! The convolution's backward kernel over the whole arrays: what each grid point reads, and the mathematics it computes. -/

@[expose] public section
set_option maxRecDepth 16384
noncomputable section
namespace Cert.ConvIdeal.Hand
open Cert.ConvIdeal Cert.ConvIdeal.Gen Idealize.ShloMosaic Idealize.ShloMosaic.TcCoe Idealize.SL.Sem

/-! ## The gradient, over the whole arrays -/

section
variable (X : Vec Ideal S8192x5632 .f32) (D0 : Vec Ideal S8192x2048 .f32) (D1 D2 : Vec Ideal S8192x512 .f32)
  (W : Vec Ideal S1x4x3072 .f32) (b : Vec Ideal S1x3072 .f32)

/-- The convolution's input with three rows of zeros before it. -/
def xAt (T : ℕ) (c : Fin 3072) : EReal :=
  if h : 3 ≤ T ∧ T < 8195 then X (ix2 ⟨T - 3, by omega⟩ ⟨2048 + c.val, by omega⟩) else 0
/-- The cotangent: three arrays side by side. -/
def dAt (T : Fin 8192) (c : Fin 3072) : EReal :=
  if h : c.val < 2048 then D0 (ix2 T ⟨c.val, h⟩)
  else if h1 : c.val < 2560 then D1 (ix2 T ⟨c.val - 2048, by omega⟩) else D2 (ix2 T ⟨c.val - 2560, by omega⟩)
/-- The pre-activation. -/
def yAt (T : Fin 8192) (c : Fin 3072) : EReal :=
  pre4 (b (ix2 0 c)) (W (ix3 0 0 c)) (W (ix3 0 1 c)) (W (ix3 0 2 c)) (W (ix3 0 3 c))
    (xAt X T.val c) (xAt X (1 + T.val) c) (xAt X (2 + T.val) c) (xAt X (3 + T.val) c)
/-- The pre-activation's gradient. -/
def gAt (T : Fin 8192) (c : Fin 3072) : EReal := grad (dAt D0 D1 D2 T c) (yAt X W b T c)
/-- The same, zero from the last row on. -/
def gZ (T : ℕ) (c : Fin 3072) : EReal := if h : T < 8192 then gAt X D0 D1 D2 W b ⟨T, h⟩ c else 0
/-- The input's gradient. -/
def dxAt (T : Fin 8192) (c : Fin 3072) : EReal :=
  W (ix3 0 0 c) * gZ X D0 D1 D2 W b (T.val + 3) c + W (ix3 0 1 c) * gZ X D0 D1 D2 W b (T.val + 2) c
    + W (ix3 0 2 c) * gZ X D0 D1 D2 W b (T.val + 1) c + W (ix3 0 3 c) * gZ X D0 D1 D2 W b T.val c
/-- The array the kernel writes the input's gradient into: its middle columns are the gradient, the others stay. -/
def dzAt (A : Vec Ideal S8192x5632 .bf16) (T : Fin 8192) (k : Fin 5632) : EReal :=
  if h : 2048 ≤ k.val ∧ k.val < 5120 then dxAt X D0 D1 D2 W b T ⟨k.val - 2048, by omega⟩ else A (ix2 T k)
/-- The taps' gradient, and zero in the rows that pad it to eight. -/
def dwAt (j : Fin 8) (c : Fin 3072) : EReal :=
  if j.val < 4 then ∑ T : Fin 8192, gAt X D0 D1 D2 W b T c * xAt X (j.val + T.val) c else 0
/-- The bias's gradient. -/
def dbAt (c : Fin 3072) : EReal := ∑ T : Fin 8192, gAt X D0 D1 D2 W b T c
end

/-! ## What each point reads -/

section
variable {F : FTy → Type} [FloatOps F]
variable (m : (ℓ : Loc nD τ sig) → Buf (Elt F) ℓ)

/-- The taps, padded to eight rows before the kernel runs. -/
theorem V_v1 (c : Dev nD) : V m c main_v1 = pad S8x3072 ![0, 0] ![4, 0] ![0, 0]
    (shapeCast S4x3072 (m ((c : Thread nD τ).loc main_arg5)) shapeCasts_S1x4x3072_S4x3072) (sitofp .f32 (constantI S_ 32 0#32))
    pads_S4x3072_S8x3072_040_000 h_S_ := by
  rfl
/-- The first result's array starts as the array it is written into. -/
theorem V_v2_0 (c : Dev nD) : V m c main_v2_0 = m ((c : Thread nD τ).loc main_arg0) := by
  rfl

/-- The grid: column blocks outside, time blocks inside. -/
theorem coords_t (t : Fin cfg0.N) : (grid0.coords t 0).val = t.val / 8 ∧ (grid0.coords t 1).val = t.val % 8 :=
  (by decide +kernel : ∀ t : Fin grid0.N, (grid0.coords t 0).val = t.val / 8 ∧ (grid0.coords t 1).val = t.val % 8) t

theorem idx0 (t : Fin cfg0.N) : win0_0.index t 0 = 7 - t.val % 8 ∧ win0_0.index t 1 = 4 + t.val / 8 :=
  (by decide +kernel : ∀ t : Fin grid0.N, win0_0.index t 0 = 7 - t.val % 8 ∧ win0_0.index t 1 = 4 + t.val / 8) t
theorem idx1 (t : Fin cfg0.N) : win0_1.index t 0 = (7 - t.val % 8) * 128 - 1 ∧ win0_1.index t 1 = 4 + t.val / 8 :=
  (by decide +kernel : ∀ t : Fin grid0.N, win0_1.index t 0 = (7 - t.val % 8) * 128 - 1 ∧ win0_1.index t 1 = 4 + t.val / 8) t
theorem idx2 (t : Fin cfg0.N) : win0_2.index t 0 = 7 - t.val % 8 ∧ win0_2.index t 1 = min (t.val / 8) 3 :=
  (by decide +kernel : ∀ t : Fin grid0.N, win0_2.index t 0 = 7 - t.val % 8 ∧ win0_2.index t 1 = min (t.val / 8) 3) t
theorem idx3 (t : Fin cfg0.N) : win0_3.index t 0 = 7 - t.val % 8 ∧ win0_3.index t 1 = 0 :=
  (by decide +kernel : ∀ t : Fin grid0.N, win0_3.index t 0 = 7 - t.val % 8 ∧ win0_3.index t 1 = 0) t
theorem idx4 (t : Fin cfg0.N) : win0_4.index t 0 = 7 - t.val % 8 ∧ win0_4.index t 1 = 0 :=
  (by decide +kernel : ∀ t : Fin grid0.N, win0_4.index t 0 = 7 - t.val % 8 ∧ win0_4.index t 1 = 0) t
theorem idx5 (t : Fin cfg0.N) : win0_5.index t 0 = 0 ∧ win0_5.index t 1 = t.val / 8 :=
  (by decide +kernel : ∀ t : Fin grid0.N, win0_5.index t 0 = 0 ∧ win0_5.index t 1 = t.val / 8) t
theorem idx6 (t : Fin cfg0.N) : win0_6.index t 0 = 0 ∧ win0_6.index t 1 = t.val / 8 :=
  (by decide +kernel : ∀ t : Fin grid0.N, win0_6.index t 0 = 0 ∧ win0_6.index t 1 = t.val / 8) t
theorem idx7 (t : Fin cfg0.N) : win0_7.index t 0 = 7 - t.val % 8 ∧ win0_7.index t 1 = 4 + t.val / 8 :=
  (by decide +kernel : ∀ t : Fin grid0.N, win0_7.index t 0 = 7 - t.val % 8 ∧ win0_7.index t 1 = 4 + t.val / 8) t
theorem idx8 (t : Fin cfg0.N) : win0_8.index t 0 = 0 ∧ win0_8.index t 1 = t.val / 8 :=
  (by decide +kernel : ∀ t : Fin grid0.N, win0_8.index t 0 = 0 ∧ win0_8.index t 1 = t.val / 8) t
theorem idx9 (t : Fin cfg0.N) : win0_9.index t 0 = 0 ∧ win0_9.index t 1 = t.val / 8 :=
  (by decide +kernel : ∀ t : Fin grid0.N, win0_9.index t 0 = 0 ∧ win0_9.index t 1 = t.val / 8) t

theorem lt48 (t : Fin cfg0.N) : t.val < 48 := lt_of_lt_of_eq t.isLt N_0

/-- The first row of a point's time block. -/
abbrev base (t : Fin cfg0.N) : ℕ := 1024 * (7 - t.val % 8)
/-- A point's row `r` of the arrays. -/
abbrev row (t : Fin cfg0.N) (r : Fin 1024) : Fin 8192 := ⟨base t + r.val, by have := lt48 t; dsimp only [base]; omega⟩
/-- A point's column `l` of the convolution. -/
abbrev col (t : Fin cfg0.N) (l : Fin 512) : Fin 3072 := ⟨512 * (t.val / 8) + l.val, by have := lt48 t; omega⟩

theorem iblk0_apply (c : Dev nD) (t : Fin cfg0.N) (r : Fin 1024) (l : Fin 512) :
    (iblk m c 0 t : Vec F S1024x512 .f32) (ix2 r l) =
      m ((c : Thread nD τ).loc main_arg1) (ix2 (row t r) ⟨2048 + (col t l).val, by have := (col t l).isLt; omega⟩) := by
  unfold iblk
  rw [View.read_apply]
  show V m c main_arg1 _ = m (c.tc.loc main_arg1) _
  rw [V_main_arg1]
  congr 1
  obtain ⟨h0, h1⟩ := idx0 t
  funext a
  apply Fin.ext
  match a with
  | ⟨0, _⟩ => show win0_0.index t 0 * 1024 + 1 * r.val = 1024 * (7 - t.val % 8) + r.val; rw [h0]; omega
  | ⟨1, _⟩ => show win0_0.index t 1 * 512 + 1 * l.val = 2048 + (512 * (t.val / 8) + l.val); rw [h1]; omega

theorem iblk1_apply (c : Dev nD) (t : Fin cfg0.N) (h : t.val % 8 < 7) (r : Fin 8) (l : Fin 512) :
    (iblk m c 1 t : Vec F S8x512 .f32) (ix2 r l) =
      m ((c : Thread nD τ).loc main_arg1) (ix2 ⟨base t - 8 + r.val, by have := lt48 t; dsimp only [base]; omega⟩ ⟨2048 + (col t l).val, by have := (col t l).isLt; omega⟩) := by
  unfold iblk
  rw [View.read_apply]
  show V m c main_arg1 _ = m (c.tc.loc main_arg1) _
  rw [V_main_arg1]
  congr 1
  obtain ⟨h0, h1⟩ := idx1 t
  funext a
  apply Fin.ext
  match a with
  | ⟨0, _⟩ => show win0_1.index t 0 * 8 + 1 * r.val = 1024 * (7 - t.val % 8) - 8 + r.val; rw [h0]; omega
  | ⟨1, _⟩ => show win0_1.index t 1 * 512 + 1 * l.val = 2048 + (512 * (t.val / 8) + l.val); rw [h1]; omega

theorem iblk2_apply (c : Dev nD) (t : Fin cfg0.N) (h : t.val / 8 < 4) (r : Fin 1024) (l : Fin 512) :
    (iblk m c 2 t : Vec F S1024x512 .f32) (ix2 r l) =
      m ((c : Thread nD τ).loc main_arg2) (ix2 (row t r) ⟨(col t l).val, by dsimp only [col]; omega⟩) := by
  unfold iblk
  rw [View.read_apply]
  show V m c main_arg2 _ = m (c.tc.loc main_arg2) _
  rw [V_main_arg2]
  congr 1
  obtain ⟨h0, h1⟩ := idx2 t
  funext a
  apply Fin.ext
  match a with
  | ⟨0, _⟩ => show win0_2.index t 0 * 1024 + 1 * r.val = 1024 * (7 - t.val % 8) + r.val; rw [h0]; omega
  | ⟨1, _⟩ => show win0_2.index t 1 * 512 + 1 * l.val = 512 * (t.val / 8) + l.val; rw [h1]; omega

theorem iblk3_apply (c : Dev nD) (t : Fin cfg0.N) (r : Fin 1024) (l : Fin 512) :
    (iblk m c 3 t : Vec F S1024x512 .f32) (ix2 r l) = m ((c : Thread nD τ).loc main_arg3) (ix2 (row t r) l) := by
  unfold iblk
  rw [View.read_apply]
  show V m c main_arg3 _ = m (c.tc.loc main_arg3) _
  rw [V_main_arg3]
  congr 1
  obtain ⟨h0, h1⟩ := idx3 t
  funext a
  apply Fin.ext
  match a with
  | ⟨0, _⟩ => show win0_3.index t 0 * 1024 + 1 * r.val = 1024 * (7 - t.val % 8) + r.val; rw [h0]; omega
  | ⟨1, _⟩ => show win0_3.index t 1 * 512 + 1 * l.val = l.val; rw [h1]; omega

theorem iblk4_apply (c : Dev nD) (t : Fin cfg0.N) (r : Fin 1024) (l : Fin 512) :
    (iblk m c 4 t : Vec F S1024x512 .f32) (ix2 r l) = m ((c : Thread nD τ).loc main_arg4) (ix2 (row t r) l) := by
  unfold iblk
  rw [View.read_apply]
  show V m c main_arg4 _ = m (c.tc.loc main_arg4) _
  rw [V_main_arg4]
  congr 1
  obtain ⟨h0, h1⟩ := idx4 t
  funext a
  apply Fin.ext
  match a with
  | ⟨0, _⟩ => show win0_4.index t 0 * 1024 + 1 * r.val = 1024 * (7 - t.val % 8) + r.val; rw [h0]; omega
  | ⟨1, _⟩ => show win0_4.index t 1 * 512 + 1 * l.val = l.val; rw [h1]; omega

theorem iblk6_apply (c : Dev nD) (t : Fin cfg0.N) (l : Fin 512) :
    (iblk m c 6 t : Vec F S1x512 .f32) (ix2 0 l) = m ((c : Thread nD τ).loc main_arg6) (ix2 0 (col t l)) := by
  unfold iblk
  rw [View.read_apply]
  show V m c main_arg6 _ = m (c.tc.loc main_arg6) _
  rw [V_main_arg6]
  congr 1
  obtain ⟨h0, h1⟩ := idx6 t
  funext a
  apply Fin.ext
  match a with
  | ⟨0, _⟩ => show win0_6.index t 0 * 1 + 1 * 0 = 0; rw [h0]
  | ⟨1, _⟩ => show win0_6.index t 1 * 512 + 1 * l.val = 512 * (t.val / 8) + l.val; rw [h1]; omega

/-- A row of the padded taps. -/
theorem w8_at (W : Vec F S1x4x3072 .f32) (z : Vec F S_ .f32) (j : Fin 4) (k : Fin 3072) :
    pad S8x3072 ![0, 0] ![4, 0] ![0, 0] (shapeCast S4x3072 W shapeCasts_S1x4x3072_S4x3072) z pads_S4x3072_S8x3072_040_000 h_S_
      (ix2 ⟨j.val, by omega⟩ k) = W (ix3 0 j k) := by
  pointwise []

theorem iblk5_apply (c : Dev nD) (t : Fin cfg0.N) (j : Fin 4) (l : Fin 512) :
    (iblk m c 5 t : Vec F S8x512 .f32) (ix2 ⟨j.val, by omega⟩ l) = m ((c : Thread nD τ).loc main_arg5) (ix3 0 j (col t l)) := by
  unfold iblk
  rw [View.read_apply]
  show V m c main_v1 _ = m (c.tc.loc main_arg5) _
  rw [V_v1, ← w8_at (m (c.tc.loc main_arg5)) (sitofp .f32 (constantI S_ 32 0#32))]
  congr 1
  obtain ⟨h0, h1⟩ := idx5 t
  funext a
  apply Fin.ext
  match a with
  | ⟨0, _⟩ => show win0_5.index t 0 * 8 + 1 * j.val = j.val; rw [h0]; omega
  | ⟨1, _⟩ => show win0_5.index t 1 * 512 + 1 * l.val = 512 * (t.val / 8) + l.val; rw [h1]; omega

end

section
variable (μ : (ℓ : Loc nD τ sig) → Buf (Elt Ideal) ℓ) (c : Dev nD)

/-- The convolution's input among the arguments, padded. -/
abbrev xM : ℕ → Fin 3072 → EReal := xAt (μ ((c : Thread nD τ).loc main_arg1))
/-- The pre-activation's gradient from the arguments. -/
abbrev gM : Fin 8192 → Fin 3072 → EReal := gAt (μ ((c : Thread nD τ).loc main_arg1)) (μ ((c : Thread nD τ).loc main_arg2))
  (μ ((c : Thread nD τ).loc main_arg3)) (μ ((c : Thread nD τ).loc main_arg4)) (μ ((c : Thread nD τ).loc main_arg5)) (μ ((c : Thread nD τ).loc main_arg6))

/-- Eight rows before a block: the block's column of the input, zero before the first row. -/
theorem ext_eq (t : Fin cfg0.N) (k : ℕ) (hk : 5 + k < 1032) (l : Fin 512) :
    ext (grid0.coords t) (iblk μ c 0 t) (iblk μ c 1 t) ⟨5 + k, hk⟩ l = xM μ c (base t + k) (col t l) := by
  have ht := lt48 t
  unfold ext xM xAt
  by_cases h8 : 5 + k < 8
  · rw [dif_pos h8, (coords_t t).2]
    by_cases h7 : t.val % 8 < 7
    · rw [show Scalar.cmpi CmpIPredicate.sgt (Scalar.subi (7#32) (BitVec.ofNat 32 (t.val % 8))) 0#32 = 1#1 from
        (by decide : ∀ n : Fin 7, Scalar.cmpi CmpIPredicate.sgt (Scalar.subi (7#32) (BitVec.ofNat 32 n.val)) 0#32 = 1#1) ⟨t.val % 8, h7⟩]
      rw [dif_pos (by dsimp only [base]; omega)]
      refine (iblk1_apply μ c t h7 ⟨5 + k, h8⟩ l).trans ?_
      congr 2
      apply Fin.ext; dsimp only [base]; omega
    · rw [show t.val % 8 = 7 by omega, dif_neg (by dsimp only [base]; omega)]
      rfl
  · rw [dif_neg h8, dif_pos (by dsimp only [base]; omega)]
    refine (iblk0_apply μ c t ⟨5 + k - 8, by omega⟩ l).trans ?_
    congr 2
    apply Fin.ext; dsimp only [row, base]; omega

/-- The cotangent that a point's column block reads. -/
theorem selD_eq (t : Fin cfg0.N) (r : Fin 1024) (l : Fin 512) :
    selD (BitVec.ofNat 32 (grid0.coords t 0).val) ((iblk μ c 2 t : Vec Ideal S1024x512 .f32) (ix2 r l)) ((iblk μ c 3 t : Vec Ideal S1024x512 .f32) (ix2 r l)) ((iblk μ c 4 t : Vec Ideal S1024x512 .f32) (ix2 r l)) =
      dAt (μ ((c : Thread nD τ).loc main_arg2)) (μ ((c : Thread nD τ).loc main_arg3)) (μ ((c : Thread nD τ).loc main_arg4)) (row t r) (col t l) := by
  have ht := lt48 t
  unfold selD dAt
  rw [(coords_t t).1]
  by_cases h4 : t.val / 8 < 4
  · rw [show Scalar.cmpi CmpIPredicate.slt (BitVec.ofNat 32 (t.val / 8)) 4#32 = 1#1 from
      (by decide : ∀ n : Fin 4, Scalar.cmpi CmpIPredicate.slt (BitVec.ofNat 32 n.val) 4#32 = 1#1) ⟨t.val / 8, h4⟩]
    rw [dif_pos (by dsimp only [col]; omega)]
    exact iblk2_apply μ c t h4 r l
  · rw [dif_neg (by dsimp only [col]; omega)]
    by_cases h5 : t.val / 8 = 4
    · rw [dif_pos (by dsimp only [col]; omega), show BitVec.ofNat 32 (t.val / 8) = 4#32 by rw [h5]]
      refine (iblk3_apply μ c t r l).trans ?_
      congr 2
      apply Fin.ext; dsimp only [col]; omega
    · rw [dif_neg (by dsimp only [col]; omega), show BitVec.ofNat 32 (t.val / 8) = 5#32 by rw [show t.val / 8 = 5 by omega]]
      refine (iblk4_apply μ c t r l).trans ?_
      congr 2
      apply Fin.ext; dsimp only [col]; omega

/-- A point's gradient rows are the whole gradient's. -/
theorem gRow_eq (t : Fin cfg0.N) (r : Fin 1024) (l : Fin 512) :
    gRow (grid0.coords t) (iblk μ c 0 t) (iblk μ c 1 t) (iblk μ c 2 t) (iblk μ c 3 t) (iblk μ c 4 t) (iblk μ c 5 t) (iblk μ c 6 t) r l =
      gM μ c (row t r) (col t l) := by
  unfold gRow gM gAt yAt
  rw [selD_eq, iblk6_apply]
  have w (j : Fin 4) := iblk5_apply μ c t j l
  have w0 : (iblk μ c 5 t : Vec Ideal S8x512 .f32) (ix2 0 l) = _ := w 0
  have w1 : (iblk μ c 5 t : Vec Ideal S8x512 .f32) (ix2 1 l) = _ := w 1
  have w2 : (iblk μ c 5 t : Vec Ideal S8x512 .f32) (ix2 2 l) = _ := w 2
  have w3 : (iblk μ c 5 t : Vec Ideal S8x512 .f32) (ix2 3 l) = _ := w 3
  rw [w0, w1, w2, w3]
  have e (k : ℕ) (hk : k < 4) (h : 5 + k + r.val < 1032) : ext (grid0.coords t) (iblk μ c 0 t) (iblk μ c 1 t) ⟨5 + k + r.val, h⟩ l =
      xM μ c (k + (row t r).val) (col t l) := by
    have := ext_eq μ c t (k + r.val) (by omega) l
    rw [show k + (row t r).val = base t + (k + r.val) by dsimp only [row]; omega, ← this]
    congr 1; apply Fin.ext; dsimp only; omega
  have e0 := e 0 (by omega) (by omega)
  rw [Nat.zero_add] at e0
  congr 2
  · exact e 1 (by omega) (by omega)
  · exact e 2 (by omega) (by omega)
  · exact e 3 (by omega) (by omega)

end

end Cert.ConvIdeal.Hand
end
-- ==== Proof.ConvValue.lean ====
module

public import proofs.«01_k».proof.Proof.ConvBlocks
public import proofs.«01_k».proof.Proof.Gen.ConvIdeal.Value
public import Idealize.ShloMosaic.Lib.Claim

/-! The convolution's backward kernel: the arrays its run leaves. -/

@[expose] public section
set_option maxRecDepth 16384
noncomputable section
namespace Cert.ConvIdeal.Hand
open Cert.ConvIdeal Cert.ConvIdeal.Gen Idealize.ShloMosaic Idealize.ShloMosaic.TcCoe Idealize.SL.Sem
open Idealize.ShloMosaic.Pipeline (Dat)

variable (μ : (ℓ : Loc nD τ sig) → Buf (Elt Ideal) ℓ) (c : Dev nD)

/-- The gradient of the pre-activation from the arguments, zero from the last row on. -/
abbrev zM : ℕ → Fin 3072 → EReal := gZ (μ ((c : Thread nD τ).loc main_arg1)) (μ ((c : Thread nD τ).loc main_arg2))
  (μ ((c : Thread nD τ).loc main_arg3)) (μ ((c : Thread nD τ).loc main_arg4)) (μ ((c : Thread nD τ).loc main_arg5)) (μ ((c : Thread nD τ).loc main_arg6))

/-- The rows a point keeps for the point after are the first of its gradient. -/
theorem tail_at (t : Fin cfg0.N) (r : Fin 1032) (hr : 1024 ≤ r.val) (l : Fin 512) :
    (outsAt0 μ c t.val t.isLt).2.2.2 (ix2 r l) = gM μ c (row t ⟨r.val - 1024, by omega⟩) (col t l) := by
  rw [← gRow_eq]
  by_cases h : t.val % 8 = 0
  · rw [outsAt0_A μ c t h]; dsimp only; rw [soutA (hr := hr)]
  · rw [outsAt0_B μ c t h]; dsimp only; rw [soutB (hr := hr)]

/-- The point before one that is not a column block's first. -/
abbrev pred (t : Fin cfg0.N) : Fin cfg0.N := ⟨t.val - 1, Nat.lt_of_le_of_lt (Nat.sub_le _ _) t.isLt⟩

theorem base_pred (t : Fin cfg0.N) (h : ¬t.val % 8 = 0) : base (pred t) = base t + 1024 := by
  have := lt48 t; dsimp only [base, pred]; omega
theorem col_pred (t : Fin cfg0.N) (h : ¬t.val % 8 = 0) (l : Fin 512) : col (pred t) l = col t l := by
  have := lt48 t; apply Fin.ext; dsimp only [col, pred]; omega

/-- A point's rows of the gradient and the eight after them, when the rows kept are those of the block after. -/
theorem gy_eq (t : Fin cfg0.N) (T : Vec Ideal S1032x512 .f32) (l : Fin 512)
    (hT : ∀ r : Fin 1032, 1024 ≤ r.val → T (ix2 r l) = zM μ c (base t + r.val) (col t l)) (r : Fin 1032) :
    gyRow (gRow (grid0.coords t) (iblk μ c 0 t) (iblk μ c 1 t) (iblk μ c 2 t) (iblk μ c 3 t) (iblk μ c 4 t) (iblk μ c 5 t) (iblk μ c 6 t)) T r l =
      zM μ c (base t + r.val) (col t l) := by
  unfold gyRow
  by_cases h : r.val < 1024
  · rw [dif_pos h, gRow_eq]
    unfold zM gZ
    rw [dif_pos (by dsimp only [base]; omega)]
  · rw [dif_neg h]; exact hT r (by omega)

/-- A point's rows of the input's gradient, when the rows kept are those of the block after. -/
theorem oRow_eq (t : Fin cfg0.N) (Y : Fin 1032 → Fin 512 → EReal) (l : Fin 512)
    (hY : ∀ r : Fin 1032, Y r l = zM μ c (base t + r.val) (col t l)) (r : Fin 1024) :
    oRow (iblk μ c 5 t) Y r l = dxAt (μ ((c : Thread nD τ).loc main_arg1)) (μ ((c : Thread nD τ).loc main_arg2))
      (μ ((c : Thread nD τ).loc main_arg3)) (μ ((c : Thread nD τ).loc main_arg4)) (μ ((c : Thread nD τ).loc main_arg5)) (μ ((c : Thread nD τ).loc main_arg6))
      (row t r) (col t l) := by
  have w (j : Fin 4) := iblk5_apply μ c t j l
  have w0 : (iblk μ c 5 t : Vec Ideal S8x512 .f32) (ix2 0 l) = _ := w 0
  have w1 : (iblk μ c 5 t : Vec Ideal S8x512 .f32) (ix2 1 l) = _ := w 1
  have w2 : (iblk μ c 5 t : Vec Ideal S8x512 .f32) (ix2 2 l) = _ := w 2
  have w3 : (iblk μ c 5 t : Vec Ideal S8x512 .f32) (ix2 3 l) = _ := w 3
  unfold oRow dxAt
  rw [w0, w1, w2, w3, hY, hY, hY, hY]
  rfl

/-- What a point leaves for the input's gradient. -/
theorem out7_at (t : Fin cfg0.N) (r : Fin 1024) (l : Fin 512) :
    (outsAt0 μ c t.val t.isLt).1 (ix2 r l) = dxAt (μ ((c : Thread nD τ).loc main_arg1)) (μ ((c : Thread nD τ).loc main_arg2))
      (μ ((c : Thread nD τ).loc main_arg3)) (μ ((c : Thread nD τ).loc main_arg4)) (μ ((c : Thread nD τ).loc main_arg5)) (μ ((c : Thread nD τ).loc main_arg6))
      (row t r) (col t l) := by
  have ht := lt48 t
  by_cases h : t.val % 8 = 0
  · rw [outsAt0_A μ c t h]; dsimp only; rw [outA7]
    refine oRow_eq μ c t _ l (gy_eq μ c t _ l fun r hr => ?_) r
    unfold zM gZ
    rw [dif_neg (by dsimp only [base]; omega)]
  · rw [outsAt0_B μ c t h]; dsimp only; rw [outB7]
    refine oRow_eq μ c t _ l (gy_eq μ c t _ l fun r hr => ?_) r
    refine (tail_at μ c (pred t) r hr l).trans ?_
    rw [col_pred t h]
    unfold zM gZ
    rw [dif_pos (by dsimp only [base]; omega)]
    congr 1
    apply Fin.ext
    show base (pred t) + (r.val - 1024) = base t + r.val
    rw [base_pred t h]; omega

/-- Row `r` of the `s`-th time block from the end. -/
abbrev rowB (s : ℕ) (r : Fin 1024) : Fin 8192 := ⟨1024 * (7 - s) + r.val, by omega⟩
/-- The `s`-th block's part of a tap's gradient. -/
def wBlk (j : ℕ) (s : ℕ) (k : Fin 3072) : EReal := ∑ r : Fin 1024, gM μ c (rowB s r) k * xM μ c (j + (rowB s r).val) k
/-- The `s`-th block's part of the bias's gradient. -/
def bBlk (s : ℕ) (k : Fin 3072) : EReal := ∑ r : Fin 1024, gM μ c (rowB s r) k

theorem wSum_eq (t : Fin cfg0.N) (j : ℕ) (hj : j < 4) (l : Fin 512) :
    wSum (gRow (grid0.coords t) (iblk μ c 0 t) (iblk μ c 1 t) (iblk μ c 2 t) (iblk μ c 3 t) (iblk μ c 4 t) (iblk μ c 5 t) (iblk μ c 6 t))
      (ext (grid0.coords t) (iblk μ c 0 t) (iblk μ c 1 t)) j hj l = wBlk μ c j (t.val % 8) (col t l) := by
  unfold wSum wBlk
  refine Finset.sum_congr rfl fun r _ => ?_
  rw [gRow_eq]
  congr 1
  have := ext_eq μ c t (j + r.val) (by omega) l
  rw [show j + (rowB (t.val % 8) r).val = base t + (j + r.val) by dsimp only [rowB, base]; omega, ← this]
  congr 1; apply Fin.ext; dsimp only; omega

theorem bSum_eq (t : Fin cfg0.N) (l : Fin 512) :
    ∑ r : Fin 1024, gRow (grid0.coords t) (iblk μ c 0 t) (iblk μ c 1 t) (iblk μ c 2 t) (iblk μ c 3 t) (iblk μ c 4 t) (iblk μ c 5 t) (iblk μ c 6 t) r l
      = bBlk μ c (t.val % 8) (col t l) :=
  Finset.sum_congr rfl fun r _ => gRow_eq μ c t r l

/-- After a point the taps' block holds the sum over the time blocks so far. -/
theorem out8_at : ∀ (n : ℕ) (h : n < cfg0.N) (j : Fin 8) (l : Fin 512), (outsAt0 μ c n h).2.1 (ix2 j l) =
    if j.val < 4 then ∑ s ∈ Finset.range (n % 8 + 1), wBlk μ c j.val s (col ⟨n, h⟩ l) else 0 := by
  intro n
  induction n with
  | zero =>
    intro h j l
    rw [show outsAt0 μ c 0 h = _ from outsAt0_A μ c ⟨0, h⟩ rfl]
    dsimp only
    rw [outA8]
    by_cases hj : j.val < 4
    · rw [dif_pos hj, if_pos hj, wSum_eq, zero_add, Finset.sum_range_one]; rfl
    · rw [dif_neg hj, if_neg hj]
  | succ n ih =>
    intro h j l
    by_cases h0 : (n + 1) % 8 = 0
    · rw [show outsAt0 μ c (n + 1) h = _ from outsAt0_A μ c ⟨n + 1, h⟩ h0]
      dsimp only
      rw [outA8]
      by_cases hj : j.val < 4
      · rw [dif_pos hj, if_pos hj, wSum_eq, zero_add, h0, Finset.sum_range_one]
      · rw [dif_neg hj, if_neg hj]
    · rw [show outsAt0 μ c (n + 1) h = _ from outsAt0_B μ c ⟨n + 1, h⟩ h0]
      dsimp only
      rw [outB8]
      have hp := (ih (Nat.lt_of_succ_lt h) j l)
      by_cases hj : j.val < 4
      · rw [dif_pos hj, if_pos hj, wSum_eq, Finset.sum_range_succ]
        rw [if_pos hj] at hp
        refine congrArg (· + _) (hp.trans ?_)
        rw [show n % 8 + 1 = (n + 1) % 8 by omega, show (⟨n, Nat.lt_of_succ_lt h⟩ : Fin cfg0.N) = pred ⟨n + 1, h⟩ from rfl, col_pred _ h0]
      · rw [dif_neg hj, if_neg hj]
        rw [if_neg hj] at hp
        exact hp

/-- After a point the bias's block holds the sum over the time blocks so far. -/
theorem out9_at : ∀ (n : ℕ) (h : n < cfg0.N) (l : Fin 512), (outsAt0 μ c n h).2.2.1 (ix2 0 l) =
    ∑ s ∈ Finset.range (n % 8 + 1), bBlk μ c s (col ⟨n, h⟩ l) := by
  intro n
  induction n with
  | zero =>
    intro h l
    rw [show outsAt0 μ c 0 h = _ from outsAt0_A μ c ⟨0, h⟩ rfl]
    dsimp only
    rw [outA9, bSum_eq, zero_add, Finset.sum_range_one]
    rfl
  | succ n ih =>
    intro h l
    by_cases h0 : (n + 1) % 8 = 0
    · rw [show outsAt0 μ c (n + 1) h = _ from outsAt0_A μ c ⟨n + 1, h⟩ h0]
      dsimp only
      rw [outA9, bSum_eq, zero_add, h0, Finset.sum_range_one]
    · rw [show outsAt0 μ c (n + 1) h = _ from outsAt0_B μ c ⟨n + 1, h⟩ h0]
      dsimp only
      rw [outB9, bSum_eq, Finset.sum_range_succ]
      refine congrArg (· + _) ((ih (Nat.lt_of_succ_lt h) l).trans ?_)
      rw [show n % 8 + 1 = (n + 1) % 8 by omega, show (⟨n, Nat.lt_of_succ_lt h⟩ : Fin cfg0.N) = pred ⟨n + 1, h⟩ from rfl, col_pred _ h0]

/-! ## The final arrays -/

/-- A sum over the time blocks from the last to the first is the sum over all rows. -/
theorem sum_blocks (f : Fin 8192 → EReal) : ∑ s ∈ Finset.range 8, ∑ r : Fin 1024, f (rowB s r) = ∑ T : Fin 8192, f T := by
  rw [Fin.sum_univ_tiles 8 1024 (by norm_num), ← Finset.sum_range_reflect, Finset.sum_range]
  refine Finset.sum_congr rfl fun s _ => Finset.sum_congr rfl fun r _ => congrArg f (Fin.ext ?_)
  show 1024 * (7 - (8 - 1 - s.val)) + r.val = _
  have := s.isLt
  dsimp only
  omega

/-- The taps' gradient array. -/
abbrev dwArr : Buf (Elt Ideal) ((c : Thread nD τ).loc main_v2_1) := fun i : S8x3072.Idx =>
  dwAt (μ ((c : Thread nD τ).loc main_arg1)) (μ ((c : Thread nD τ).loc main_arg2)) (μ ((c : Thread nD τ).loc main_arg3))
    (μ ((c : Thread nD τ).loc main_arg4)) (μ ((c : Thread nD τ).loc main_arg5)) (μ ((c : Thread nD τ).loc main_arg6)) (i 0) (i 1)
/-- The bias's gradient array. -/
abbrev dbArr : Buf (Elt Ideal) ((c : Thread nD τ).loc main_v2_2) := fun i : S1x3072.Idx =>
  dbAt (μ ((c : Thread nD τ).loc main_arg1)) (μ ((c : Thread nD τ).loc main_arg2)) (μ ((c : Thread nD τ).loc main_arg3))
    (μ ((c : Thread nD τ).loc main_arg4)) (μ ((c : Thread nD τ).loc main_arg5)) (μ ((c : Thread nD τ).loc main_arg6)) (i 1)
/-- The array whose middle columns are the input's gradient. -/
abbrev dzArr : Buf (Elt Ideal) ((c : Thread nD τ).loc main_v2_0) := fun i : S8192x5632.Idx =>
  dzAt (μ ((c : Thread nD τ).loc main_arg1)) (μ ((c : Thread nD τ).loc main_arg2)) (μ ((c : Thread nD τ).loc main_arg3))
    (μ ((c : Thread nD τ).loc main_arg4)) (μ ((c : Thread nD τ).loc main_arg5)) (μ ((c : Thread nD τ).loc main_arg6))
    (μ ((c : Thread nD τ).loc main_arg0)) (i 0) (i 1)

/-- The last point of a column's block. -/
abbrev tEnd (k : ℕ) (h : k < 3072) : Fin cfg0.N := ⟨8 * (k / 512) + 7, by have : cfg0.N = 48 := N_0; omega⟩

theorem final_dw : (dats μ 0 c).arrAt 8 cfg0.N = dwArr μ c := by
  refine (dats μ 0 c).arrAt_eq_of_cover 8 (dwArr μ c) (fun t hf => ?_) fun i => ?_
  · have ht : t.val % 8 = 7 := by have := (flush0_8 t).mp hf; omega
    rw [Value.flushed8]
    obtain ⟨h0, h1⟩ := idx8 t
    funext j
    rw [View.read_apply]
    obtain ⟨r, l, rfl⟩ : ∃ (r : Fin 8) (l : Fin 512), j = ix2 r l := ⟨j 0, j 1, eq_ix2 j⟩
    have he : ((cfg0.win 8).blk t).view.emb (ix2 r l) = (ix2 r (col t l) : S8x3072.Idx) := by
      funext a
      apply Fin.ext
      match a with
      | ⟨0, _⟩ => show win0_8.index t 0 * 8 + 1 * r.val = r.val; rw [h0]; omega
      | ⟨1, _⟩ => show win0_8.index t 1 * 512 + 1 * l.val = 512 * (t.val / 8) + l.val; rw [h1]; omega
    rw [he]
    refine (out8_at μ c t.val t.isLt r l).trans ?_
    rw [ht]
    show _ = dwAt _ _ _ _ _ _ r (col t l)
    unfold dwAt
    by_cases hr : r.val < 4
    · rw [if_pos hr, if_pos hr]
      exact sum_blocks fun T => gM μ c T (col t l) * xM μ c (r.val + T.val) (col t l)
    · rw [if_neg hr, if_neg hr]
  · have l0 : (i 0 : Nat) < 8 := (i 0).isLt
    have l1 : (i 1 : Nat) < 3072 := (i 1).isLt
    refine ⟨tEnd (i 1) l1, (flush0_8 _).mpr ?_, ?_⟩
    · dsimp only [tEnd]; omega
    show i ∈ ((View.whole main_v2_1).slice (win0_8.rect (tEnd (i 1) l1))).set
    rw [View.set_slice_whole, Rect.mem_set_unit]
    obtain ⟨h0, h1⟩ := idx8 (tEnd (i 1) l1)
    intro a
    match a with
    | ⟨0, _⟩ => show win0_8.index (tEnd (i 1) l1) 0 * 8 ≤ (i 0 : Nat) ∧ (i 0 : Nat) < win0_8.index (tEnd (i 1) l1) 0 * 8 + 8
                rw [h0]; omega
    | ⟨1, _⟩ => show win0_8.index (tEnd (i 1) l1) 1 * 512 ≤ (i 1 : Nat) ∧ (i 1 : Nat) < win0_8.index (tEnd (i 1) l1) 1 * 512 + 512
                rw [h1]; dsimp only [tEnd]; omega

theorem final_db : (dats μ 0 c).arrAt 9 cfg0.N = dbArr μ c := by
  refine (dats μ 0 c).arrAt_eq_of_cover 9 (dbArr μ c) (fun t hf => ?_) fun i => ?_
  · have ht : t.val % 8 = 7 := by have := (flush0_9 t).mp hf; omega
    rw [Value.flushed9]
    obtain ⟨h0, h1⟩ := idx9 t
    funext j
    rw [View.read_apply]
    obtain ⟨r, l, rfl⟩ : ∃ (r : Fin 1) (l : Fin 512), j = ix2 r l := ⟨j 0, j 1, eq_ix2 j⟩
    obtain rfl : r = 0 := Subsingleton.elim _ _
    have he : ((cfg0.win 9).blk t).view.emb (ix2 0 l) = (ix2 0 (col t l) : S1x3072.Idx) := by
      funext a
      apply Fin.ext
      match a with
      | ⟨0, _⟩ => show win0_9.index t 0 * 1 + 1 * 0 = 0; rw [h0]
      | ⟨1, _⟩ => show win0_9.index t 1 * 512 + 1 * l.val = 512 * (t.val / 8) + l.val; rw [h1]; omega
    rw [he]
    refine (out9_at μ c t.val t.isLt l).trans ?_
    rw [ht]
    exact sum_blocks fun T => gM μ c T (col t l)
  · have l0 : (i 0 : Nat) < 1 := (i 0).isLt
    have l1 : (i 1 : Nat) < 3072 := (i 1).isLt
    refine ⟨tEnd (i 1) l1, (flush0_9 _).mpr ?_, ?_⟩
    · dsimp only [tEnd]; omega
    show i ∈ ((View.whole main_v2_2).slice (win0_9.rect (tEnd (i 1) l1))).set
    rw [View.set_slice_whole, Rect.mem_set_unit]
    obtain ⟨h0, h1⟩ := idx9 (tEnd (i 1) l1)
    intro a
    match a with
    | ⟨0, _⟩ => show win0_9.index (tEnd (i 1) l1) 0 * 1 ≤ (i 0 : Nat) ∧ (i 0 : Nat) < win0_9.index (tEnd (i 1) l1) 0 * 1 + 1
                rw [h0]; omega
    | ⟨1, _⟩ => show win0_9.index (tEnd (i 1) l1) 1 * 512 ≤ (i 1 : Nat) ∧ (i 1 : Nat) < win0_9.index (tEnd (i 1) l1) 1 * 512 + 512
                rw [h1]; dsimp only [tEnd]; omega

theorem emb7 (t : Fin cfg0.N) (r : Fin 1024) (l : Fin 512) : ((cfg0.win 7).blk t).view.emb (ix2 r l) =
    (ix2 (row t r) ⟨2048 + (col t l).val, by have := (col t l).isLt; omega⟩ : S8192x5632.Idx) := by
  obtain ⟨h0, h1⟩ := idx7 t
  funext a
  apply Fin.ext
  match a with
  | ⟨0, _⟩ => show win0_7.index t 0 * 1024 + 1 * r.val = 1024 * (7 - t.val % 8) + r.val; rw [h0]; omega
  | ⟨1, _⟩ => show win0_7.index t 1 * 512 + 1 * l.val = 2048 + (512 * (t.val / 8) + l.val); rw [h1]; omega

/-- The point that writes a row and column of the input's gradient. -/
abbrev tAt (T k : ℕ) (hT : T < 8192) (hk : k < 3072) : Fin cfg0.N :=
  ⟨8 * (k / 512) + (7 - T / 1024), by have : cfg0.N = 48 := N_0; omega⟩

theorem final_dz : (dats μ 0 c).arrAt 7 cfg0.N = dzArr μ c := by
  funext i
  obtain ⟨T, k, rfl⟩ : ∃ (T : Fin 8192) (k : Fin 5632), i = ix2 T k := ⟨i 0, i 1, eq_ix2 i⟩
  by_cases h : 2048 ≤ k.val ∧ k.val < 5120
  · have hb := Value.blocks7 μ c (tAt T.val (k.val - 2048) T.isLt (by omega)) (flush0_7 _)
    have hb := congrFun hb (ix2 ⟨T.val % 1024, by omega⟩ ⟨k.val % 512, by omega⟩)
    rw [View.read_apply, emb7, Value.flushed7] at hb
    have e0 : row (tAt T.val (k.val - 2048) T.isLt (by omega)) ⟨T.val % 1024, by omega⟩ = T := by
      apply Fin.ext; dsimp only [row, base, tAt]; omega
    have e1 : (col (tAt T.val (k.val - 2048) T.isLt (by omega)) ⟨k.val % 512, by omega⟩).val = k.val - 2048 := by
      dsimp only [col, tAt]; omega
    have e2 : (ix2 (row (tAt T.val (k.val - 2048) T.isLt (by omega)) ⟨T.val % 1024, by omega⟩)
      ⟨2048 + (col (tAt T.val (k.val - 2048) T.isLt (by omega)) ⟨k.val % 512, by omega⟩).val, by omega⟩ : S8192x5632.Idx) = ix2 T k := by
      rw [e0]; congr 1; apply Fin.ext; dsimp only; omega
    rw [e2] at hb
    refine hb.trans ((out7_at μ c _ _ _).trans ?_)
    rw [e0]
    show _ = dzAt _ _ _ _ _ _ _ T k
    unfold dzAt
    rw [dif_pos h]
    congr 1
    exact Fin.ext e1
  · refine (Value.entry7 μ c (ix2 T k) fun t _ hm => h ?_).trans ?_
    · have hm' : (ix2 T k : S8192x5632.Idx) ∈ ((View.whole main_v2_0).slice (win0_7.rect t)).set := hm
      rw [View.set_slice_whole, Rect.mem_set_unit] at hm'
      obtain ⟨-, h1⟩ := idx7 t
      have h2 : win0_7.index t 1 * 512 ≤ k.val ∧ k.val < win0_7.index t 1 * 512 + 512 := hm' 1
      have := lt48 t
      rw [h1] at h2
      omega
    · show V μ c main_v2_0 (ix2 T k) = dzAt _ _ _ _ _ _ _ T k
      unfold dzAt
      rw [dif_neg h, V_v2_0]

end Cert.ConvIdeal.Hand
end
-- ==== Proof.Silu.lean ====
module

public import proofs.«01_k».proof.Proof.Util

/-! The logistic function and `silu`'s gradient over the extended reals. -/

@[expose] public section
noncomputable section
namespace Cert.Util
open Idealize.ShloMosaic

/-- The logistic function as both programs write it. -/
def sig (y : EReal) : EReal := Ideal.div 1 (1 + Ideal.exp (-y))

theorem sig_coe (y : ℝ) : sig (y : EReal) = ((1 / (1 + Real.exp (-y)) : ℝ) : EReal) := by
  unfold sig
  rw [← EReal.coe_neg]
  show Ideal.div 1 (1 + ((Real.exp (-y) : ℝ) : EReal)) = _
  rw [← EReal.coe_one, ← EReal.coe_add, coe_div_coe]
  exact (by positivity : (0 : ℝ) < 1 + Real.exp (-y)).ne'

theorem sig_top : sig ⊤ = 1 := by
  unfold sig
  rw [EReal.neg_top]
  show Ideal.div 1 (1 + 0) = _
  rw [add_zero, ← EReal.coe_one, coe_div_coe _ one_ne_zero, div_one]

theorem sig_bot : sig ⊥ = 0 := by
  unfold sig
  rw [EReal.neg_bot]
  show Ideal.div 1 (1 + ⊤) = _
  rw [show (1 : EReal) + ⊤ = ⊤ from EReal.add_top_of_ne_bot (by decide)]
  unfold Ideal.div
  rw [if_neg EReal.top_ne_zero, EReal.inv_top, mul_zero]

/-- `silu`'s gradient by the product rule and as the kernel factors it: equal for a finite cotangent, at any argument. -/
theorem silu_grad (d : ℝ) (y : EReal) : (d : EReal) * sig y + y * d * (sig y * (1 - sig y)) = d * (sig y * (1 + y * (1 - sig y))) := by
  induction y with
  | coe y =>
    rw [sig_coe]
    norm_cast
    ring
  | top =>
    rw [sig_top, show (1 : EReal) - 1 = 0 by rw [← EReal.coe_one, ← EReal.coe_sub, sub_self]; rfl]
    simp
  | bot =>
    rw [sig_bot]
    simp

/-- What is finite is a real. -/
theorem real_of_abs_lt_top {x : EReal} (h : max x (-x) < ⊤) : ∃ r : ℝ, x = (r : EReal) := by
  induction x with
  | coe r => exact ⟨r, rfl⟩
  | top => simp at h
  | bot => simp at h

/-- What the test for finite entries passes is a real. -/
theorem real_of_finite {x : EReal} (e : Ideal.cmp .olt (max x (-x)) (Ideal.ofBits .f32 0x7F800000#32) = 1#1) : ∃ r : ℝ, x = (r : EReal) := by
  refine real_of_abs_lt_top ?_
  by_contra h
  have t : Ideal.ofBits .f32 0x7F800000#32 = ⊤ := by simp [Ideal.ofBits, Ideal.ieee]
  have f : Ideal.cmp .olt (max x (-x)) ⊤ = BitVec.ofBool (decide (max x (-x) < ⊤)) := rfl
  rw [t, f, decide_eq_false h] at e
  exact absurd e (by decide)

/-- A sum of four, from the other end. -/
theorem add4_rev (a b c d : EReal) : a + b + c + d = d + c + b + a := by ac_rfl

end Cert.Util
end
-- ==== Proof.ConvRef.lean ====
module

public import proofs.«01_k».proof.Proof.ConvValue
public import proofs.«01_k».proof.Defs
public import proofs.«01_k».proof.Proof.Gen.ConvRefIdeal.Read
public import proofs.«01_k».proof.Proof.Silu

/-! The convolution's backward kernel computes the reference's gradient. -/

@[expose] public section
set_option maxRecDepth 16384
noncomputable section

namespace Cert.ConvIdeal.Hand

/-! ## The reference, read at an index -/

section
open Cert.ConvRefIdeal Cert.ConvRefIdeal.Gen Cert.ConvRefIdeal.Read Idealize.ShloMosaic Idealize.ShloMosaic.TcCoe Idealize.SL.Sem Cert.Util

variable (A : Vec Ideal S8192x5632 .bf16) (X : Vec Ideal S8192x5632 .f32) (D0 : Vec Ideal S8192x2048 .f32) (D1 D2 : Vec Ideal S8192x512 .f32)
  (W : Vec Ideal S1x4x3072 .f32) (b : Vec Ideal S1x3072 .f32)

theorem ref_x (T : Fin 8195) (k : Fin 3072) : val_main_v2 X (ix2 T k) = xAt X T.val k := by
  pointwise [val_main_v2, val_main_v1, val_main_v0, val_main_cst]
  unfold xAt
  by_cases h : T.val < 3
  · rw [dif_pos h, dif_neg (by omega)]
  · rw [dif_neg h, dif_pos (by omega)]

theorem ref_d (T : Fin 8192) (k : Fin 3072) : val_main_v50 D0 D1 D2 (ix2 T k) = dAt D0 D1 D2 T k := by
  pointwise [val_main_v50]
  unfold dAt
  by_cases h : k.val < 2048
  · rw [dif_pos h, dif_pos h]
  · rw [dif_neg h, dif_neg h]
    by_cases h1 : k.val < 2560
    · rw [dif_pos (by omega), dif_pos h1]
    · rw [dif_neg (by omega), dif_neg h1]
      congr 2

theorem ref_y (T : Fin 8192) (k : Fin 3072) : val_main_v36 X W b (ix2 T k) = yAt X W b T k := by
  pointwise [val_main_v36, val_main_v35, val_main_v34, val_main_v33, val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_v14, val_main_v13, val_main_v12, val_main_v11,
    val_main_v10, val_main_v9, val_main_v8, val_main_v7, val_main_v6, val_main_v5, val_main_v4, val_main_cst_1]
  unfold yAt pre4
  simp only [ref_x, add_assoc]

/-- The gradient of the pre-activation: the reference's product rule is the kernel's factored form, for a finite cotangent. -/
theorem ref_g (hd : ∀ T k, ∃ r : ℝ, dAt D0 D1 D2 T k = (r : EReal)) (T : Fin 8192) (k : Fin 3072) :
    val_main_v54 X D0 D1 D2 W b (ix2 T k) = gAt X D0 D1 D2 W b T k := by
  pointwise [val_main_v54, val_main_v53, val_main_v52, val_main_v51, val_main_v45, val_main_v44, val_main_v43, val_main_cst_4, val_main_v42, val_main_v41,
    val_main_cst_3, val_main_v40, val_main_v39, val_main_v38, val_main_v37, val_main_cst_2]
  unfold gAt grad sg
  rw [ref_y, ref_d, zero_sub]
  obtain ⟨r, hr⟩ := hd T k
  rw [hr]
  exact silu_grad r _

variable (hd : ∀ T k, ∃ r : ℝ, dAt D0 D1 D2 T k = (r : EReal))
include hd

theorem ref_db (k : Fin 3072) : val_main_v100 X D0 D1 D2 W b (ix2 0 k) = dbAt X D0 D1 D2 W b k := by
  pointwise [val_main_v100, val_main_v57, val_main_v56, val_main_v55, val_main_cst_5, val_main_cst_6]
  simp only [ref_g X D0 D1 D2 W b hd, Finset.univ_unique, Finset.sum_singleton]
  rfl

theorem ref_w0 (k : Fin 3072) : val_main_v94 X D0 D1 D2 W b (ix1 k) = ∑ T : Fin 8192, gAt X D0 D1 D2 W b T k * xAt X (0 + T.val) k := by
  pointwise [val_main_v94, val_main_v93, val_main_v92, val_main_v91, val_main_v7, val_main_cst_19, val_main_cst_20]
  simp only [ref_g X D0 D1 D2 W b hd, ref_x, Finset.univ_unique, Finset.sum_singleton]

theorem ref_w1 (k : Fin 3072) : val_main_v83 X D0 D1 D2 W b (ix1 k) = ∑ T : Fin 8192, gAt X D0 D1 D2 W b T k * xAt X (1 + T.val) k := by
  pointwise [val_main_v83, val_main_v82, val_main_v81, val_main_v80, val_main_v15, val_main_cst_15, val_main_cst_16]
  simp only [ref_g X D0 D1 D2 W b hd, ref_x, Finset.univ_unique, Finset.sum_singleton]

theorem ref_w2 (k : Fin 3072) : val_main_v72 X D0 D1 D2 W b (ix1 k) = ∑ T : Fin 8192, gAt X D0 D1 D2 W b T k * xAt X (2 + T.val) k := by
  pointwise [val_main_v72, val_main_v71, val_main_v70, val_main_v69, val_main_v22, val_main_cst_11, val_main_cst_12]
  simp only [ref_g X D0 D1 D2 W b hd, ref_x, Finset.univ_unique, Finset.sum_singleton]

theorem ref_w3 (k : Fin 3072) : val_main_v63 X D0 D1 D2 W b (ix1 k) = ∑ T : Fin 8192, gAt X D0 D1 D2 W b T k * xAt X (3 + T.val) k := by
  pointwise [val_main_v63, val_main_v62, val_main_v61, val_main_v60, val_main_v29, val_main_cst_7, val_main_cst_8]
  simp only [ref_g X D0 D1 D2 W b hd, ref_x, Finset.univ_unique, Finset.sum_singleton]

theorem ref_t0 (T : Fin 8192) (k : Fin 3072) (h : 3 + T.val < 8195) : val_main_v95 X D0 D1 D2 W b (ix2 ⟨3 + T.val, h⟩ k) =
    W (ix3 0 0 k) * gZ X D0 D1 D2 W b (T.val + 3) k := by
  pointwise [val_main_v95, val_main_v90, val_main_v89, val_main_v8, val_main_v6, val_main_v5, val_main_cst_21]
  simp only [ref_g X D0 D1 D2 W b hd]
  unfold gZ
  by_cases h : T.val + 3 < 8192
  · rw [dif_pos (by omega), dif_pos h]
    congr 2; apply Fin.ext; dsimp only; omega
  · rw [dif_neg (by omega), dif_neg h, mul_zero]

theorem ref_t1 (T : Fin 8192) (k : Fin 3072) (h : 3 + T.val < 8195) : val_main_v84 X D0 D1 D2 W b (ix2 ⟨3 + T.val, h⟩ k) =
    W (ix3 0 1 k) * gZ X D0 D1 D2 W b (T.val + 2) k := by
  pointwise [val_main_v84, val_main_v79, val_main_v78, val_main_v16, val_main_v14, val_main_v13, val_main_cst_17]
  simp only [ref_g X D0 D1 D2 W b hd]
  unfold gZ
  by_cases h : T.val + 2 < 8192
  · rw [dif_pos (by omega), dif_pos h]
    congr 2; apply Fin.ext; dsimp only; omega
  · rw [dif_neg (by omega), dif_neg h, mul_zero]

theorem ref_t2 (T : Fin 8192) (k : Fin 3072) (h : 3 + T.val < 8195) : val_main_v73 X D0 D1 D2 W b (ix2 ⟨3 + T.val, h⟩ k) =
    W (ix3 0 2 k) * gZ X D0 D1 D2 W b (T.val + 1) k := by
  pointwise [val_main_v73, val_main_v68, val_main_v67, val_main_v23, val_main_v21, val_main_v20, val_main_cst_13]
  simp only [ref_g X D0 D1 D2 W b hd]
  unfold gZ
  by_cases h : T.val + 1 < 8192
  · rw [dif_pos (by omega), dif_pos h]
    congr 2; apply Fin.ext; dsimp only; omega
  · rw [dif_neg (by omega), dif_neg h, mul_zero]

theorem ref_t3 (T : Fin 8192) (k : Fin 3072) (h : 3 + T.val < 8195) : val_main_v64 X D0 D1 D2 W b (ix2 ⟨3 + T.val, h⟩ k) =
    W (ix3 0 3 k) * gZ X D0 D1 D2 W b (T.val + 0) k := by
  pointwise [val_main_v64, val_main_v59, val_main_v58, val_main_v30, val_main_v28, val_main_v27, val_main_cst_9]
  simp only [ref_g X D0 D1 D2 W b hd]
  unfold gZ
  rw [dif_pos (by omega)]

theorem ref_dz (T : Fin 8192) (k : Fin 5632) : val_main_v106 A X D0 D1 D2 W b (ix2 T k) = dzAt X D0 D1 D2 W b A T k := by
  pointwise [val_main_v106, val_main_v105, val_main_v104, val_main_v103, val_main_v102, val_main_v96, val_main_v85, val_main_v74]
  simp only [ref_t0 X D0 D1 D2 W b hd, ref_t1 X D0 D1 D2 W b hd, ref_t2 X D0 D1 D2 W b hd, ref_t3 X D0 D1 D2 W b hd]
  unfold dzAt
  by_cases h : k.val < 2048
  · rw [dif_pos h, dif_neg (by omega)]
  · rw [dif_neg h]
    by_cases h1 : k.val < 5120
    · rw [dif_pos (by omega), dif_pos (by omega)]
      unfold dxAt
      exact add4_rev _ _ _ _
    · rw [dif_neg (by omega), dif_neg (by omega)]
      have e : (⟨5120 + (k.val - 2048 - 3072), by omega⟩ : Fin 5632) = k := Fin.ext (by dsimp only; omega)
      rw [e]

theorem ref_dw (j : Fin 8) (k : Fin 3072) : val_main_v108 X D0 D1 D2 W b (ix2 j k) = dwAt X D0 D1 D2 W b j k := by
  pointwise [val_main_v108, val_main_v107, val_main_v99, val_main_v98, val_main_v97, val_main_v88, val_main_v87, val_main_v86, val_main_v77, val_main_v76,
    val_main_v75, val_main_v66, val_main_v65, val_main_cst_22, val_main_cst_18, val_main_cst_14, val_main_cst_10, val_main_call0_v0, val_main_c]
  rw [ref_w0 X D0 D1 D2 W b hd, ref_w1 X D0 D1 D2 W b hd, ref_w2 X D0 D1 D2 W b hd, ref_w3 X D0 D1 D2 W b hd]
  unfold dwAt
  by_cases h : j.val < 4
  · rw [dif_pos h, if_pos h]
    match j, h with
    | ⟨0, _⟩, _ => simp
    | ⟨1, _⟩, _ => simp
    | ⟨2, _⟩, _ => simp
    | ⟨3, _⟩, _ => simp
  · rw [dif_neg h, if_neg h]
    show ((((0#32 : BitVec 32).toInt : ℝ)) : EReal) = 0
    simp
end

/-! ## The claims -/

section
open Cert.Util Cert.ConvIdeal Cert.ConvIdeal.Gen Idealize.ShloMosaic Idealize.ShloMosaic.TcCoe Idealize.SL.Sem

/-- The side conditions of the precondition. -/
theorem pre_facts : Cert.Pre_pre_conv.Facts := ⟨by decide, by decide⟩

/-- Under the precondition every entry of the cotangent is a real. -/
theorem real_d (m : (ℓ : Loc nD τ sig) → Buf (Elt Ideal) ℓ) (h : Cert.Pre_ConvIdeal_pre_conv (hPre_pre_conv := pre_facts) m) (c : Dev nD) (T : Fin 8192) (k : Fin 3072) :
    ∃ r : ℝ, dAt (m ((c : Thread nD τ).loc main_arg2)) (m ((c : Thread nD τ).loc main_arg3)) (m ((c : Thread nD τ).loc main_arg4)) T k = (r : EReal) := by
  obtain ⟨h0, h1, h2⟩ := h c
  unfold dAt
  split
  · exact real_of_finite (congrFun h0 (ix2 T _))
  · split
    · exact real_of_finite (congrFun h1 (ix2 T _))
    · exact real_of_finite (congrFun h2 (ix2 T _))

/-- The reference's frame: its run read at the arguments; it has no semaphore. -/
theorem frame_ref : Cert.quiescent_ConvRefIdeal (hConvRefIdeal := Cert.ConvRefIdeal.Gen.facts) := fun m ρ _ =>
  (θ_run Cert.ConvRefIdeal.defs _ _).mono (fun r h => ⟨fun c => (h c).2.2.2, sem_eq_zero_of_no_sems (by decide) r.2⟩)
    (Cert.ConvRefIdeal.Value.run (F := Ideal) m ρ)

/-- The convolution's backward pass: the kernel's arrays are the reference's. -/
theorem algebraic : Cert.algebraic_ConvIdeal_ConvRefIdeal_pre_pre_conv (hConvIdeal := Cert.ConvIdeal.Gen.facts)
    (hConvRefIdeal := Cert.ConvRefIdeal.Gen.facts) (hPre_pre_conv := pre_facts) := by
  intro m g m' g' hpre hm
  refine ⟨dzArr m, dwArr m, dbArr m, ?_, ?_⟩
  · refine (θ_run _ _ _).mono (fun r h c => ?_) (Cert.ConvIdeal.Value.run_blocks m g)
    obtain ⟨h0, h1, h2, h3⟩ := h c
    exact ⟨h0.trans (final_dz m c), h1.trans (final_dw m c), h2.trans (final_db m c), h3⟩
  · refine (θ_run _ _ _).mono (fun r h c => ?_) (Cert.ConvRefIdeal.Value.run m' g')
    obtain ⟨h0, h1, h2, h3⟩ := h c
    obtain ⟨a0, a1, a2, a3, a4, a5, a6⟩ := hm c
    refine ⟨h0.trans ?_, h1.trans ?_, h2.trans ?_, h3⟩
    · rw [Cert.ConvRefIdeal.Read.val_main_v106_eq, a0, a1, a2, a3, a4, a5, a6]
      funext j
      refine (congrArg _ (eq_ix2 j)).trans (ref_dz _ _ _ _ _ _ _ (real_d m hpre c) (j 0) (j 1))
    · rw [Cert.ConvRefIdeal.Read.val_main_v108_eq, a1, a2, a3, a4, a5, a6]
      funext j
      refine (congrArg _ (eq_ix2 j)).trans (ref_dw _ _ _ _ _ _ (real_d m hpre c) (j 0) (j 1))
    · rw [Cert.ConvRefIdeal.Read.val_main_v100_eq, a1, a2, a3, a4, a5, a6]
      funext j
      obtain ⟨r, l, rfl⟩ : ∃ (r : Fin 1) (l : Fin 3072), j = ix2 r l := ⟨j 0, j 1, eq_ix2 j⟩
      obtain rfl : r = 0 := Subsingleton.elim _ _
      exact ref_db _ _ _ _ _ _ (real_d m hpre c) l
end

end Cert.ConvIdeal.Hand
end
-- ==== Proof.NormMath.lean ====
module

public import proofs.«01_k».proof.Proof.Util

/-! The gradient through a root-mean-square norm of one row, in the two ways it is computed. -/

@[expose] public section
set_option maxRecDepth 16384
noncomputable section
namespace Cert.Norm
open Idealize.ShloMosaic Cert.Util

/-- The pattern of the norm's ε is a positive real. -/
theorem bits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee]
/-- The pattern of minus one half. -/
theorem bits_neg_half : Ideal.ofBits .f32 0xBF000000#32 = ((-(1 / 2) : ℝ) : EReal) := by
  simp [Ideal.ofBits, Ideal.ieee]
  rw [← EReal.coe_mul]
  norm_num

/-- The mean square of a row, and ε. -/
def msq (h : Fin 1024 → EReal) : EReal :=
  Ideal.div (∑ x, h x * h x) (Ideal.ofBits .f32 0x44800000#32) + Ideal.ofBits .f32 0x358637BD#32
/-- The reciprocal of a row's root mean square. -/
def rsq (h : Fin 1024 → EReal) : EReal := Ideal.rsqrt (msq h)

/-- The row's gradient as the kernel computes it: the residual's gradient, and the norm's in one product. -/
def dhRow (h g u dres : Fin 1024 → EReal) (l : Fin 1024) : EReal :=
  dres l + rsq h * (u l * g l - h l * rsq h * Ideal.div (∑ x, u x * g x * (h x * rsq h)) (Ideal.ofBits .f32 0x44800000#32))
/-- The mean square's gradient by the chain rule. -/
def dms (h g u : Fin 1024 → EReal) : EReal :=
  Ideal.div ((∑ x, h x * (u x * g x)) * (Ideal.ofBits .f32 0xBF000000#32 * Ideal.div (rsq h) (msq h))) (Ideal.ofBits .f32 0x44800000#32)
/-- The row's gradient by the chain rule. -/
def dhRef (h g u dres : Fin 1024 → EReal) (l : Fin 1024) : EReal :=
  dres l + u l * g l * rsq h + h l * dms h g u + dms h g u * h l

/-- A sum of reals is a real. -/
theorem coe_sum {n : ℕ} (f : Fin n → ℝ) : ((∑ x, f x : ℝ) : EReal) = ∑ x, (f x : EReal) := by
  induction n with
  | zero => simp
  | succ n ih => rw [Fin.sum_univ_succ, Fin.sum_univ_succ, EReal.coe_add, ih]

/-- A product's entry is a real when all the factors are. -/
theorem real_dot {n : ℕ} (a b : Fin n → EReal) (ha : ∀ k, ∃ r : ℝ, a k = r) (hb : ∀ k, ∃ r : ℝ, b k = r) :
    ∃ r : ℝ, ∑ k, a k * b k = r := by
  choose p hp using ha
  choose q hq using hb
  refine ⟨∑ k, p k * q k, ?_⟩
  rw [coe_sum]
  refine Finset.sum_congr rfl fun k _ => ?_
  rw [hp, hq, EReal.coe_mul]

/-- The mean square of a real row is a positive real. -/
theorem msq_real (h : Fin 1024 → EReal) (hh : ∀ k, ∃ r : ℝ, h k = r) : ∃ m : ℝ, 0 < m ∧ msq h = m := by
  choose p hp using hh
  obtain ⟨e, he, hb⟩ := bits_eps
  refine ⟨(∑ x, p x * p x) / 1024 + e, ?_, ?_⟩
  · have : 0 ≤ ∑ x, p x * p x := Finset.sum_nonneg fun x _ => _root_.mul_self_nonneg (p x)
    positivity
  · unfold msq
    simp only [bits_1024, hb, hp, ← EReal.coe_mul, ← coe_sum]
    rw [coe_div_coe _ (by norm_num), ← EReal.coe_add]

/-- The reciprocal root of a positive real. -/
theorem rsqrt_coe {m : ℝ} (hm : 0 < m) : Ideal.rsqrt (m : EReal) = (((√m)⁻¹ : ℝ) : EReal) := by
  show (if m < 0 then (⊥ : EReal) else if m = 0 then ⊤ else ((√m)⁻¹ : ℝ)) = _
  rw [if_neg (not_lt.mpr hm.le), if_neg hm.ne']

/-- The two ways agree on real rows. -/
theorem dhRow_eq (h g u dres : Fin 1024 → EReal) (hh : ∀ k, ∃ r : ℝ, h k = r) (hg : ∀ k, ∃ r : ℝ, g k = r)
    (hu : ∀ k, ∃ r : ℝ, u k = r) (l : Fin 1024) : dhRow h g u dres l = dhRef h g u dres l := by
  obtain ⟨m, hm, em⟩ := msq_real h hh
  choose p hp using hh
  choose q hq using hg
  choose v hv using hu
  have hs : (√m)⁻¹ * (√m)⁻¹ = 1 / m := by
    rw [← mul_inv, Real.mul_self_sqrt hm.le, one_div]
  unfold dhRow dhRef dms rsq
  rw [em, rsqrt_coe hm, bits_1024, bits_neg_half, coe_div_coe _ hm.ne']
  generalize (√m)⁻¹ = s at hs ⊢
  simp only [hp, hq, hv, ← EReal.coe_mul, ← coe_sum]
  rw [coe_div_coe _ (by norm_num), coe_div_coe _ (by norm_num)]
  simp only [← EReal.coe_mul, ← EReal.coe_sub]
  rw [add_assoc, add_assoc, ← EReal.coe_add, ← EReal.coe_add]
  congr 2
  have e : ∑ x, v x * q x * (p x * s) = s * ∑ x, p x * (v x * q x) := by
    rw [Finset.mul_sum]
    exact Finset.sum_congr rfl fun x _ => by ring
  rw [e]
  generalize ∑ x, p x * (v x * q x) = D
  have : s / m = s * (s * s) := by rw [hs]; ring
  rw [this]
  ring

/-! ## Heads that stand twice -/

/-- The column that a column of the doubled array repeats: each head's 64 columns stand there twice. -/
abbrev headCol (k : Fin 512) : Fin 256 := ⟨k.val / 128 * 64 + k.val % 64, by omega⟩

/-- A sum over the doubled columns is twice the sum over the columns. -/
theorem sum_headCol (f : Fin 256 → EReal) : ∑ k : Fin 512, f (headCol k) = ∑ k, f k + ∑ k, f k := by
  rw [Fin.sum_univ_tiles 4 128 (by norm_num), Fin.sum_univ_tiles 4 64 (by norm_num) f, ← Finset.sum_add_distrib]
  refine Finset.sum_congr rfl fun a _ => ?_
  rw [Fin.sum_univ_tiles 2 64 (by norm_num), Fin.sum_univ_two]
  congr 1 <;> refine Finset.sum_congr rfl fun b _ => congrArg f (Fin.ext ?_) <;> dsimp <;> omega

/-- Half of twice a value is the value, at the infinities too. -/
theorem half_add_self (x : EReal) : (x + x) * Ideal.ofBits .f32 0x3F000000#32 = x := by
  rw [bits_half]
  induction x using EReal.rec with
  | bot => rw [EReal.bot_add, EReal.bot_mul_coe_of_pos (by norm_num)]
  | top => rw [EReal.top_add_top, EReal.top_mul_coe_of_pos (by norm_num)]
  | coe r => rw [← EReal.coe_add, ← EReal.coe_mul]; congr 1; ring

/-! ## Columns set apart with zeros -/

/-- A row of 5120 columns and 32 more, in four groups of eight, each set in 128 columns whose others are zero. -/
def spread (a : Fin 5152 → EReal) (k : Fin 5632) : EReal :=
  if h : k.val < 5120 then a ⟨k.val, by omega⟩
  else if h1 : (k.val - 5120) % 128 < 8 then a ⟨5120 + ((k.val - 5120) / 128 * 8 + (k.val - 5120) % 128), by omega⟩ else 0

/-- A sum over a range is the sum over its first part and the sum over the rest. -/
theorem sum_split {n m N : ℕ} (h : n + m = N) (f : Fin N → EReal) :
    ∑ k, f k = ∑ i : Fin n, f ⟨i.val, by omega⟩ + ∑ i : Fin m, f ⟨n + i.val, by omega⟩ := by
  subst h
  exact Fin.sum_univ_add f

theorem spread_lt (a : Fin 5152 → EReal) (k : ℕ) (hk : k < 5632) (h : k < 5120) : spread a ⟨k, hk⟩ = a ⟨k, by omega⟩ := by
  unfold spread
  rw [dif_pos h]
theorem spread_head (a : Fin 5152 → EReal) (g : Fin 4) (i : Fin 8) (k : ℕ) (hk : k < 5632) (h : k = 5120 + (g.val * 128 + i.val)) :
    spread a ⟨k, hk⟩ = a ⟨5120 + (g.val * 8 + i.val), by omega⟩ := by
  subst h
  unfold spread
  rw [dif_neg (by dsimp only; omega), dif_pos (by dsimp only; omega)]
  refine congrArg a (Fin.ext ?_)
  dsimp only
  omega
theorem spread_gap (a : Fin 5152 → EReal) (g : Fin 4) (i : Fin 120) (k : ℕ) (hk : k < 5632) (h : k = 5120 + (g.val * 128 + (8 + i.val))) :
    spread a ⟨k, hk⟩ = 0 := by
  subst h
  unfold spread
  rw [dif_neg (by dsimp only; omega), dif_neg (by dsimp only; omega)]

/-- The product of two rows set apart is the product of the rows. -/
theorem sum_spread (a b : Fin 5152 → EReal) : ∑ k, spread a k * spread b k = ∑ k, a k * b k := by
  rw [sum_split (n := 5120) (m := 512) rfl, sum_split (n := 5120) (m := 32) rfl (fun k => a k * b k)]
  refine congrArg₂ (· + ·) ?_ ?_
  · refine Finset.sum_congr rfl fun k _ => ?_
    rw [spread_lt _ _ _ k.isLt, spread_lt _ _ _ k.isLt]
  · rw [Fin.sum_univ_tiles 4 128 (by norm_num), Fin.sum_univ_tiles (N := 32) 4 8 (by norm_num)]
    refine Finset.sum_congr rfl fun g _ => ?_
    rw [sum_split (n := 8) (m := 120) rfl]
    refine (congrArg₂ (· + ·) (Finset.sum_congr rfl fun i _ => ?_) (Finset.sum_eq_zero fun i _ => ?_)).trans (add_zero _)
    · have e : 5120 + (g.val * 128 + i.val) < 5632 := by omega
      rw [spread_head a g i _ _ rfl, spread_head b g i _ _ rfl]
    · rw [spread_gap a g i _ _ rfl, zero_mul]

/-- A row normed and scaled. -/
def normRow (h g : Fin 1024 → EReal) (l : Fin 1024) : EReal := h l * rsq h * g l
/-- The columns of a product set apart are the products with the columns set apart. -/
theorem spread_dot (u : Fin 1024 → EReal) (w : Fin 1024 → Fin 5152 → EReal) (k : Fin 5632) :
    spread (fun x => ∑ l, u l * w l x) k = ∑ l, u l * spread (w l) k := by
  unfold spread
  split
  · rfl
  · split
    · rfl
    · simp

end Cert.Norm
end
-- ==== Proof.NormQValue.lean ====
module

public import proofs.«01_k».proof.Proof.Gen.NormQIdeal.Value
public import proofs.«01_k».proof.Proof.NormMath
public import Idealize.ShloMosaic.Lib.Claim

/-! The norm's backward kernel on the query product: what a grid point computes, and the arrays its run leaves. -/

@[expose] public section
set_option maxRecDepth 16384
noncomputable section
namespace Cert.NormQIdeal.Hand
open Cert.NormQIdeal Cert.NormQIdeal.Gen Idealize.ShloMosaic Idealize.ShloMosaic.TcCoe Idealize.SL.Sem Cert.Util Cert.Norm
open Idealize.ShloMosaic.Pipeline (Dat)

theorem hz : (![0, 0] : Fin 2 → Nat) = fun _ => 0 := funext fun a => by fin_cases a <;> rfl

/-! ## What a point computes -/

/-- A point's rows of the cotangent of the norm's output. -/
def uRow (x2 : Vec Ideal S1024x1024 .bf16) (x3 : Vec Ideal S512x1024 .bf16) (r : Fin 512) (l : Fin 1024) : EReal :=
  ∑ k : Fin 1024, x3 (ix2 r k) * x2 (ix2 l k)
/-- A point's part of the scale's gradient. -/
def gRows (x0 : Vec Ideal S512x1024 .f32) (x2 : Vec Ideal S1024x1024 .bf16) (x3 : Vec Ideal S512x1024 .bf16) (l : Fin 1024) : EReal :=
  ∑ x : Fin 512, uRow x2 x3 x l * (x0 (ix2 x l) * rsq (fun y => x0 (ix2 x y)))

section
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S512x1024 .f32) (harg6 : arg6.IsWhole) (arg8 : Memref sig .tc .vmem S512x1024 .f32) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S512x1024 .f32) (harg11 : arg11.IsWhole)
  (x0 : Vec Ideal S512x1024 .f32) (x1 : Vec Ideal S1x1024 .f32) (x2 : Vec Ideal S1024x1024 .bf16) (x3 : Vec Ideal S512x1024 .bf16) (x4 : Vec Ideal S512x1024 .f32) (xo7 : Vec Ideal S1x1024 .f32)

theorem outA5 (hc0 : cond0_0 i) (hc1 : cond0_1 i) (hc2 : cond0_2 i)
    (r : Fin 512) (l : Fin 1024) :
    out0_A_5 c i arg2 harg2 arg3 harg3 arg4 harg4 arg5 harg5 arg6 harg6 arg8 harg8 arg9 harg9 arg10 harg10 arg11 harg11 hc0 hc1 hc2 x0 x1 x2 x3 x4 (ix2 r l) =
      dhRow (fun x => x0 (ix2 r x)) (fun x => x1 (ix2 0 x)) (uRow x2 x3 r) (fun x => x4 (ix2 r x)) l := by
  unfold out0_A_5
  rw [View.read_writes_eq_canon _ _ _ (fun y => cover0_A_5 (y := y) ..)]
  unfold kernelRun0_A
  dsimp only
  sl_unfold_words
  simp only [View.canon_cons_unit_zero (S := S512x1024) hz, View.canon_unit_zero (S := S512x1024) hz]
  simp only [View.readAt_eq_ld, Memref.IsWhole.read_unread, View.readCov_cons_toLoadRect,
    View.ld_unit_zero (S := S512x1024) hz, View.ld_unit_zero (S := S1x1024) hz, View.ld_unit_zero (S := S1024x1024) hz]
  pointwise [k0_pay4, k0_pay12, k0_pay11, k0_pay3, k0_pay1, k0_pay9, k0_pay7, k0_pay6, k0_pay5]
  rfl

theorem outA6 (hc0 : cond0_0 i) (hc1 : cond0_1 i) (hc2 : cond0_2 i)
    (r : Fin 512) (l : Fin 1024) :
    out0_A_6 c i arg2 harg2 arg3 harg3 arg4 harg4 arg5 harg5 arg6 harg6 arg8 harg8 arg9 harg9 arg10 harg10 arg11 harg11 hc0 hc1 hc2 x0 x1 x2 x3 x4 (ix2 r l) =
      x0 (ix2 r l) * rsq (fun x => x0 (ix2 r x)) * x1 (ix2 0 l) := by
  unfold out0_A_6
  rw [View.read_writes_eq_canon _ _ _ (fun y => cover0_A_6 (y := y) ..)]
  unfold kernelRun0_A
  dsimp only
  sl_unfold_words
  simp only [View.canon_cons_unit_zero (S := S512x1024) hz, View.canon_unit_zero (S := S512x1024) hz]
  simp only [View.readAt_eq_ld, Memref.IsWhole.read_unread, View.readCov_cons_toLoadRect,
    View.ld_unit_zero (S := S512x1024) hz, View.ld_unit_zero (S := S1x1024) hz, View.ld_unit_zero (S := S1024x1024) hz]
  pointwise [k0_pay8, k0_pay7, k0_pay6, k0_pay5]
  rfl

theorem outA7 (hc0 : cond0_0 i) (hc1 : cond0_1 i) (hc2 : cond0_2 i)
    (r : Fin 1) (l : Fin 1024) :
    out0_A_7 c i arg2 harg2 arg3 harg3 arg4 harg4 arg5 harg5 arg6 harg6 arg8 harg8 arg9 harg9 arg10 harg10 arg11 harg11 hc0 hc1 hc2 x0 x1 x2 x3 x4 (ix2 r l) =
      0 + gRows x0 x2 x3 l := by
  unfold out0_A_7
  rw [View.read_writes_eq_canon _ _ _ (fun y => cover0_A_7 (y := y) ..)]
  unfold kernelRun0_A
  dsimp only
  sl_unfold_words
  simp only [View.canon_cons_unit_zero (S := S1x1024) hz, View.canon_unit_zero (S := S1x1024) hz]
  simp only [View.readAt_eq_ld, Memref.IsWhole.read_unread, View.readCov_cons_toLoadRect,
    View.ld_unit_zero (S := S512x1024) hz, View.ld_unit_zero (S := S1x1024) hz, View.ld_unit_zero (S := S1024x1024) hz]
  pointwise [k0_pay10, k0_pay3, k0_pay1, k0_pay9, k0_pay6, k0_pay5, k0_pay2]
  rfl

theorem outB5 (hc0 : cond0_0 i) (hc1 : ¬cond0_1 i) (hc2 : cond0_2 i)
    (r : Fin 512) (l : Fin 1024) :
    out0_B_5 c i arg2 harg2 arg3 harg3 arg4 harg4 arg5 harg5 arg6 harg6 arg8 harg8 arg9 harg9 arg10 harg10 arg11 harg11 hc0 hc1 hc2 x0 x1 x2 x3 x4 xo7 (ix2 r l) =
      dhRow (fun x => x0 (ix2 r x)) (fun x => x1 (ix2 0 x)) (uRow x2 x3 r) (fun x => x4 (ix2 r x)) l := by
  unfold out0_B_5
  rw [View.read_writes_eq_canon _ _ _ (fun y => cover0_B_5 (y := y) ..)]
  unfold kernelRun0_B
  dsimp only
  sl_unfold_words
  simp only [View.canon_cons_unit_zero (S := S512x1024) hz, View.canon_unit_zero (S := S512x1024) hz]
  simp only [View.readAt_eq_ld, Memref.IsWhole.read_unread, View.readCov_cons_toLoadRect,
    View.ld_unit_zero (S := S512x1024) hz, View.ld_unit_zero (S := S1x1024) hz, View.ld_unit_zero (S := S1024x1024) hz]
  pointwise [k0_pay4, k0_pay12, k0_pay11, k0_pay3, k0_pay1, k0_pay9, k0_pay7, k0_pay6, k0_pay5]
  rfl

theorem outB6 (hc0 : cond0_0 i) (hc1 : ¬cond0_1 i) (hc2 : cond0_2 i)
    (r : Fin 512) (l : Fin 1024) :
    out0_B_6 c i arg2 harg2 arg3 harg3 arg4 harg4 arg5 harg5 arg6 harg6 arg8 harg8 arg9 harg9 arg10 harg10 arg11 harg11 hc0 hc1 hc2 x0 x1 x2 x3 x4 xo7 (ix2 r l) =
      x0 (ix2 r l) * rsq (fun x => x0 (ix2 r x)) * x1 (ix2 0 l) := by
  unfold out0_B_6
  rw [View.read_writes_eq_canon _ _ _ (fun y => cover0_B_6 (y := y) ..)]
  unfold kernelRun0_B
  dsimp only
  sl_unfold_words
  simp only [View.canon_cons_unit_zero (S := S512x1024) hz, View.canon_unit_zero (S := S512x1024) hz]
  simp only [View.readAt_eq_ld, Memref.IsWhole.read_unread, View.readCov_cons_toLoadRect,
    View.ld_unit_zero (S := S512x1024) hz, View.ld_unit_zero (S := S1x1024) hz, View.ld_unit_zero (S := S1024x1024) hz]
  pointwise [k0_pay8, k0_pay7, k0_pay6, k0_pay5]
  rfl

theorem outB7 (hc0 : cond0_0 i) (hc1 : ¬cond0_1 i) (hc2 : cond0_2 i)
    (r : Fin 1) (l : Fin 1024) :
    out0_B_7 c i arg2 harg2 arg3 harg3 arg4 harg4 arg5 harg5 arg6 harg6 arg8 harg8 arg9 harg9 arg10 harg10 arg11 harg11 hc0 hc1 hc2 x0 x1 x2 x3 x4 xo7 (ix2 r l) =
      xo7 (ix2 r l) + gRows x0 x2 x3 l := by
  unfold out0_B_7
  rw [View.read_writes_eq_canon _ _ _ (fun y => cover0_B_7 (y := y) ..)]
  unfold kernelRun0_B
  dsimp only
  sl_unfold_words
  simp only [View.canon_cons_unit_zero (S := S1x1024) hz, View.canon_unit_zero (S := S1x1024) hz]
  simp only [View.readAt_eq_ld, Memref.IsWhole.read_unread, View.readCov_cons_toLoadRect,
    View.ld_unit_zero (S := S512x1024) hz, View.ld_unit_zero (S := S1x1024) hz, View.ld_unit_zero (S := S1024x1024) hz]
  pointwise [k0_pay10, k0_pay3, k0_pay1, k0_pay9, k0_pay6, k0_pay5, k0_pay2]
  rfl
end

/-! ## What each point reads -/

theorem V_v0 (μ : (ℓ : Loc nD τ sig) → Buf (Elt Ideal) ℓ) (c : Dev nD) : V μ c main_v0 =
    shapeCast S1x1024 (μ ((c : Thread nD τ).loc main_arg1)) shapeCasts_S1024_S1x1024 := by
  rfl
theorem V_v1 (μ : (ℓ : Loc nD τ sig) → Buf (Elt Ideal) ℓ) (c : Dev nD) : V μ c main_v1 = μ ((c : Thread nD τ).loc main_arg2) := by
  rfl
theorem V_v2 (μ : (ℓ : Loc nD τ sig) → Buf (Elt Ideal) ℓ) (c : Dev nD) : V μ c main_v2 = μ ((c : Thread nD τ).loc main_arg3) := by
  rfl

theorem lt16 (t : Fin cfg0.N) : t.val < 16 := lt_of_lt_of_eq t.isLt N_0
/-- A point's row `r` of the arrays. -/
abbrev row (t : Fin cfg0.N) (r : Fin 512) : Fin 8192 := ⟨512 * t.val + r.val, by have := lt16 t; omega⟩
theorem idx0 (t : Fin cfg0.N) : win0_0.index t 0 = t.val ∧ win0_0.index t 1 = 0 :=
  (by decide +kernel : ∀ t : Fin grid0.N, win0_0.index t 0 = t.val ∧ win0_0.index t 1 = 0) t
theorem idx3 (t : Fin cfg0.N) : win0_3.index t 0 = t.val ∧ win0_3.index t 1 = 0 :=
  (by decide +kernel : ∀ t : Fin grid0.N, win0_3.index t 0 = t.val ∧ win0_3.index t 1 = 0) t
theorem idx4 (t : Fin cfg0.N) : win0_4.index t 0 = t.val ∧ win0_4.index t 1 = 0 :=
  (by decide +kernel : ∀ t : Fin grid0.N, win0_4.index t 0 = t.val ∧ win0_4.index t 1 = 0) t
theorem idx5 (t : Fin cfg0.N) : win0_5.index t 0 = t.val ∧ win0_5.index t 1 = 0 :=
  (by decide +kernel : ∀ t : Fin grid0.N, win0_5.index t 0 = t.val ∧ win0_5.index t 1 = 0) t
theorem idx6 (t : Fin cfg0.N) : win0_6.index t 0 = t.val ∧ win0_6.index t 1 = 0 :=
  (by decide +kernel : ∀ t : Fin grid0.N, win0_6.index t 0 = t.val ∧ win0_6.index t 1 = 0) t
theorem idx1 (t : Fin cfg0.N) : win0_1.index t 0 = 0 ∧ win0_1.index t 1 = 0 :=
  (by decide +kernel : ∀ t : Fin grid0.N, win0_1.index t 0 = 0 ∧ win0_1.index t 1 = 0) t
theorem idx2 (t : Fin cfg0.N) : win0_2.index t 0 = 0 ∧ win0_2.index t 1 = 0 :=
  (by decide +kernel : ∀ t : Fin grid0.N, win0_2.index t 0 = 0 ∧ win0_2.index t 1 = 0) t
theorem idx7 (t : Fin cfg0.N) : win0_7.index t 0 = 0 ∧ win0_7.index t 1 = 0 :=
  (by decide +kernel : ∀ t : Fin grid0.N, win0_7.index t 0 = 0 ∧ win0_7.index t 1 = 0) t

section
variable (μ : (ℓ : Loc nD τ sig) → Buf (Elt Ideal) ℓ) (c : Dev nD) (t : Fin cfg0.N)
theorem iblk0_apply (r : Fin 512) (l : Fin 1024) :
    (iblk μ c 0 t : Vec Ideal S512x1024 .f32) (ix2 r l) = μ ((c : Thread nD τ).loc main_arg0) (ix2 (row t r) l) := by
  unfold iblk
  rw [View.read_apply]
  show V μ c main_arg0 _ = _
  rw [V_main_arg0]
  congr 1
  obtain ⟨h0, h1⟩ := idx0 t
  funext a
  apply Fin.ext
  match a with
  | ⟨0, _⟩ => show win0_0.index t 0 * 512 + 1 * r.val = 512 * t.val + r.val; rw [h0]; omega
  | ⟨1, _⟩ => show win0_0.index t 1 * 1024 + 1 * l.val = l.val; rw [h1]; omega
theorem iblk3_apply (r : Fin 512) (l : Fin 1024) :
    (iblk μ c 3 t : Vec Ideal S512x1024 .bf16) (ix2 r l) = μ ((c : Thread nD τ).loc main_arg3) (ix2 (row t r) l) := by
  unfold iblk
  rw [View.read_apply]
  show V μ c main_v2 _ = _
  rw [V_v2]
  congr 1
  obtain ⟨h0, h1⟩ := idx3 t
  funext a
  apply Fin.ext
  match a with
  | ⟨0, _⟩ => show win0_3.index t 0 * 512 + 1 * r.val = 512 * t.val + r.val; rw [h0]; omega
  | ⟨1, _⟩ => show win0_3.index t 1 * 1024 + 1 * l.val = l.val; rw [h1]; omega
theorem iblk4_apply (r : Fin 512) (l : Fin 1024) :
    (iblk μ c 4 t : Vec Ideal S512x1024 .f32) (ix2 r l) = μ ((c : Thread nD τ).loc main_arg4) (ix2 (row t r) l) := by
  unfold iblk
  rw [View.read_apply]
  show V μ c main_arg4 _ = _
  rw [V_main_arg4]
  congr 1
  obtain ⟨h0, h1⟩ := idx4 t
  funext a
  apply Fin.ext
  match a with
  | ⟨0, _⟩ => show win0_4.index t 0 * 512 + 1 * r.val = 512 * t.val + r.val; rw [h0]; omega
  | ⟨1, _⟩ => show win0_4.index t 1 * 1024 + 1 * l.val = l.val; rw [h1]; omega
theorem iblk1_apply (l : Fin 1024) :
    (iblk μ c 1 t : Vec Ideal S1x1024 .f32) (ix2 0 l) = μ ((c : Thread nD τ).loc main_arg1) (ix1 l) := by
  unfold iblk
  rw [View.read_apply]
  show V μ c main_v0 _ = _
  rw [V_v0]
  have e : ((cfg0.win 1).blk t).view.emb (ix2 0 l) = (ix2 0 l : S1x1024.Idx) := by
    obtain ⟨h0, h1⟩ := idx1 t
    funext a
    apply Fin.ext
    match a with
    | ⟨0, _⟩ => show win0_1.index t 0 * 1 + 1 * 0 = 0; rw [h0]
    | ⟨1, _⟩ => show win0_1.index t 1 * 1024 + 1 * l.val = l.val; rw [h1]; omega
  refine (congrArg _ e).trans ?_
  pointwise []
theorem iblk2_apply (r l : Fin 1024) :
    (iblk μ c 2 t : Vec Ideal S1024x1024 .bf16) (ix2 r l) = μ ((c : Thread nD τ).loc main_arg2) (ix2 r l) := by
  unfold iblk
  rw [View.read_apply]
  show V μ c main_v1 _ = _
  rw [V_v1]
  congr 1
  obtain ⟨h0, h1⟩ := idx2 t
  funext a
  apply Fin.ext
  match a with
  | ⟨0, _⟩ => show win0_2.index t 0 * 1024 + 1 * r.val = r.val; rw [h0]; omega
  | ⟨1, _⟩ => show win0_2.index t 1 * 1024 + 1 * l.val = l.val; rw [h1]; omega

/-! ## The results, over the whole arrays -/

/-- Row `T` of the input. -/
abbrev hM (T : Fin 8192) (x : Fin 1024) : EReal := μ ((c : Thread nD τ).loc main_arg0) (ix2 T x)
/-- The norm's scale. -/
abbrev gM (x : Fin 1024) : EReal := μ ((c : Thread nD τ).loc main_arg1) (ix1 x)
/-- The product's cotangent. -/
abbrev dM (T : Fin 8192) (x : Fin 1024) : EReal := μ ((c : Thread nD τ).loc main_arg3) (ix2 T x)
/-- The product's weights. -/
abbrev wM (x k : Fin 1024) : EReal := μ ((c : Thread nD τ).loc main_arg2) (ix2 x k)
/-- The cotangent of the norm's output: the product's cotangent times the transposed weights. -/
def uM (T : Fin 8192) (x : Fin 1024) : EReal := ∑ k : Fin 1024, dM μ c T k * wM μ c x k
/-- The residual's cotangent. -/
abbrev rM (T : Fin 8192) (x : Fin 1024) : EReal := μ ((c : Thread nD τ).loc main_arg4) (ix2 T x)
/-- The norm's output. -/
def nM (T : Fin 8192) (l : Fin 1024) : EReal := hM μ c T l * rsq (hM μ c T) * gM μ c l
/-- The input's gradient. -/
def dhM (T : Fin 8192) (l : Fin 1024) : EReal := dhRow (hM μ c T) (gM μ c) (uM μ c T) (rM μ c T) l
/-- One row's part of the scale's gradient. -/
def gPart (l : Fin 1024) (T : Fin 8192) : EReal := uM μ c T l * (hM μ c T l * rsq (hM μ c T))

/-- The scale's gradient. -/
def dgM (l : Fin 1024) : EReal := ∑ T, gPart μ c l T

theorem uRow_eq (r : Fin 512) : uRow (iblk μ c 2 t) (iblk μ c 3 t) r = uM μ c (row t r) := by
  funext l
  unfold uRow uM
  refine Finset.sum_congr rfl fun k _ => ?_
  rw [iblk2_apply, iblk3_apply]
theorem h_eq (r : Fin 512) : (fun x => (iblk μ c 0 t : Vec Ideal S512x1024 .f32) (ix2 r x)) = hM μ c (row t r) :=
  funext fun x => iblk0_apply μ c t r x
theorem g_eq : (fun x => (iblk μ c 1 t : Vec Ideal S1x1024 .f32) (ix2 0 x)) = gM μ c :=
  funext fun x => iblk1_apply μ c t x
theorem r_eq (r : Fin 512) : (fun x => (iblk μ c 4 t : Vec Ideal S512x1024 .f32) (ix2 r x)) = rM μ c (row t r) :=
  funext fun x => iblk4_apply μ c t r x

/-- What a point leaves for the input's gradient. -/
theorem out5_at (r : Fin 512) (l : Fin 1024) : (outsAt0 μ c t.val t.isLt).1 (ix2 r l) = dhM μ c (row t r) l := by
  unfold dhM
  rw [← h_eq, ← g_eq μ c t, ← uRow_eq, ← r_eq]
  by_cases h : t.val % 16 = 0
  · rw [outsAt0_A μ c t h]; dsimp only; rw [outA5]
  · rw [outsAt0_B μ c t h]; dsimp only; rw [outB5]
/-- What a point leaves for the norm's output. -/
theorem out6_at (r : Fin 512) (l : Fin 1024) : (outsAt0 μ c t.val t.isLt).2.1 (ix2 r l) = nM μ c (row t r) l := by
  unfold nM
  rw [← h_eq, ← g_eq μ c t]
  by_cases h : t.val % 16 = 0
  · rw [outsAt0_A μ c t h]; dsimp only; rw [outA6]
  · rw [outsAt0_B μ c t h]; dsimp only; rw [outB6]
end

section
variable (μ : (ℓ : Loc nD τ sig) → Buf (Elt Ideal) ℓ) (c : Dev nD)

/-- Row `r` of the `s`-th block. -/
abbrev rowB (s : ℕ) (r : Fin 512) : Fin 8192 := ⟨(512 * s + r.val) % 8192, Nat.mod_lt _ (by norm_num)⟩
theorem part_eq (t : Fin cfg0.N) (l : Fin 1024) :
    gRows (iblk μ c 0 t) (iblk μ c 2 t) (iblk μ c 3 t) l = ∑ r : Fin 512, gPart μ c l (rowB t.val r) := by
  unfold gRows
  refine Finset.sum_congr rfl fun r _ => ?_
  rw [uRow_eq, h_eq, iblk0_apply]
  have e : row t r = rowB t.val r := by
    have := lt16 t
    exact Fin.ext (Nat.mod_eq_of_lt (by omega)).symm
  rw [e]; rfl
/-- After a point the scale's block holds the sum over the rows so far. -/
theorem out7_at : ∀ (n : ℕ) (h : n < cfg0.N) (l : Fin 1024), (outsAt0 μ c n h).2.2 (ix2 0 l) =
    ∑ s ∈ Finset.range (n + 1), ∑ r : Fin 512, gPart μ c l (rowB s r) := by
  intro n
  induction n with
  | zero =>
    intro h l
    rw [show outsAt0 μ c 0 h = _ from outsAt0_A μ c ⟨0, h⟩ rfl]
    dsimp only
    rw [outA7, part_eq, zero_add, Finset.sum_range_one]
  | succ n ih =>
    intro h l
    have hN : cfg0.N = 16 := N_0
    rw [show outsAt0 μ c (n + 1) h = _ from outsAt0_B μ c ⟨n + 1, h⟩ (by dsimp only; omega)]
    dsimp only
    rw [outB7, part_eq, Finset.sum_range_succ]
    exact congrArg (· + _) (ih (Nat.lt_of_succ_lt h) l)

/-! ## The final arrays -/

/-- The input's gradient array. -/
abbrev dhArr : Buf (Elt Ideal) ((c : Thread nD τ).loc main_v4_0) := fun i : S8192x1024.Idx => dhM μ c (i 0) (i 1)
/-- The norm's output array. -/
abbrev nArr : Buf (Elt Ideal) ((c : Thread nD τ).loc main_v4_1) := fun i : S8192x1024.Idx => nM μ c (i 0) (i 1)
/-- The scale's gradient array. -/
abbrev dgArr : Buf (Elt Ideal) ((c : Thread nD τ).loc main_v4_2) := fun i : S1x1024.Idx => dgM μ c (i 1)

theorem final_dh : (dats μ 0 c).arrAt 5 cfg0.N = dhArr μ c := by
  refine (dats μ 0 c).arrAt_eq_of_cover 5 (dhArr μ c) (fun t _ => ?_) fun i => ?_
  · rw [Value.flushed5]
    obtain ⟨h0, h1⟩ := idx5 t
    funext j
    rw [View.read_apply]
    obtain ⟨r, l, rfl⟩ : ∃ (r : Fin 512) (l : Fin 1024), j = ix2 r l := ⟨j 0, j 1, eq_ix2 j⟩
    have he : ((cfg0.win 5).blk t).view.emb (ix2 r l) = (ix2 (row t r) l : S8192x1024.Idx) := by
      funext a
      apply Fin.ext
      match a with
      | ⟨0, _⟩ => show win0_5.index t 0 * 512 + 1 * r.val = 512 * t.val + r.val; rw [h0]; omega
      | ⟨1, _⟩ => show win0_5.index t 1 * 1024 + 1 * l.val = l.val; rw [h1]; omega
    rw [he]
    exact out5_at μ c t r l
  · have l0 : (i 0 : Nat) < 8192 := (i 0).isLt
    have l1 : (i 1 : Nat) < 1024 := (i 1).isLt
    have hN : cfg0.N = 16 := N_0
    let t : Fin cfg0.N := ⟨(i 0 : Nat) / 512, by omega⟩
    refine ⟨t, flush0_5 t, ?_⟩
    show i ∈ ((View.whole main_v4_0).slice (win0_5.rect t)).set
    rw [View.set_slice_whole, Rect.mem_set_unit]
    obtain ⟨h0, h1⟩ := idx5 t
    intro a
    match a with
    | ⟨0, _⟩ => show win0_5.index t 0 * 512 ≤ (i 0 : Nat) ∧ (i 0 : Nat) < win0_5.index t 0 * 512 + 512
                rw [h0]; dsimp only [t]; omega
    | ⟨1, _⟩ => show win0_5.index t 1 * 1024 ≤ (i 1 : Nat) ∧ (i 1 : Nat) < win0_5.index t 1 * 1024 + 1024
                rw [h1]; omega

theorem final_n : (dats μ 0 c).arrAt 6 cfg0.N = nArr μ c := by
  refine (dats μ 0 c).arrAt_eq_of_cover 6 (nArr μ c) (fun t _ => ?_) fun i => ?_
  · rw [Value.flushed6]
    obtain ⟨h0, h1⟩ := idx6 t
    funext j
    rw [View.read_apply]
    obtain ⟨r, l, rfl⟩ : ∃ (r : Fin 512) (l : Fin 1024), j = ix2 r l := ⟨j 0, j 1, eq_ix2 j⟩
    have he : ((cfg0.win 6).blk t).view.emb (ix2 r l) = (ix2 (row t r) l : S8192x1024.Idx) := by
      funext a
      apply Fin.ext
      match a with
      | ⟨0, _⟩ => show win0_6.index t 0 * 512 + 1 * r.val = 512 * t.val + r.val; rw [h0]; omega
      | ⟨1, _⟩ => show win0_6.index t 1 * 1024 + 1 * l.val = l.val; rw [h1]; omega
    rw [he]
    exact out6_at μ c t r l
  · have l0 : (i 0 : Nat) < 8192 := (i 0).isLt
    have l1 : (i 1 : Nat) < 1024 := (i 1).isLt
    have hN : cfg0.N = 16 := N_0
    let t : Fin cfg0.N := ⟨(i 0 : Nat) / 512, by omega⟩
    refine ⟨t, flush0_6 t, ?_⟩
    show i ∈ ((View.whole main_v4_1).slice (win0_6.rect t)).set
    rw [View.set_slice_whole, Rect.mem_set_unit]
    obtain ⟨h0, h1⟩ := idx6 t
    intro a
    match a with
    | ⟨0, _⟩ => show win0_6.index t 0 * 512 ≤ (i 0 : Nat) ∧ (i 0 : Nat) < win0_6.index t 0 * 512 + 512
                rw [h0]; dsimp only [t]; omega
    | ⟨1, _⟩ => show win0_6.index t 1 * 1024 ≤ (i 1 : Nat) ∧ (i 1 : Nat) < win0_6.index t 1 * 1024 + 1024
                rw [h1]; omega

/-- The sum over the blocks is the sum over all rows. -/
theorem sum_blocks (f : Fin 8192 → EReal) : ∑ s ∈ Finset.range 16, ∑ r : Fin 512, f (rowB s r) = ∑ T : Fin 8192, f T := by
  rw [Fin.sum_univ_tiles 16 512 (by norm_num), Finset.sum_range]
  refine Finset.sum_congr rfl fun s _ => Finset.sum_congr rfl fun r _ => congrArg f (Fin.ext ?_)
  show (512 * s.val + r.val) % 8192 = _
  have := s.isLt
  dsimp only
  omega
theorem final_dg : (dats μ 0 c).arrAt 7 cfg0.N = dgArr μ c := by
  have hN : cfg0.N = 16 := N_0
  refine (dats μ 0 c).arrAt_eq_of_cover 7 (dgArr μ c) (fun t hf => ?_) fun i => ?_
  · have ht : t.val = 15 := by have := (flush0_7 t).mp hf; have := lt16 t; omega
    rw [Value.flushed7]
    obtain ⟨h0, h1⟩ := idx7 t
    funext j
    rw [View.read_apply]
    obtain ⟨r, l, rfl⟩ : ∃ (r : Fin 1) (l : Fin 1024), j = ix2 r l := ⟨j 0, j 1, eq_ix2 j⟩
    obtain rfl : r = 0 := Subsingleton.elim _ _
    have he : ((cfg0.win 7).blk t).view.emb (ix2 0 l) = (ix2 0 l : S1x1024.Idx) := by
      funext a
      apply Fin.ext
      match a with
      | ⟨0, _⟩ => show win0_7.index t 0 * 1 + 1 * 0 = 0; rw [h0]
      | ⟨1, _⟩ => show win0_7.index t 1 * 1024 + 1 * l.val = l.val; rw [h1]; omega
    rw [he]
    refine (out7_at μ c t.val t.isLt l).trans ?_
    rw [ht]
    exact sum_blocks _
  · have l0 : (i 0 : Nat) < 1 := (i 0).isLt
    have l1 : (i 1 : Nat) < 1024 := (i 1).isLt
    let t : Fin cfg0.N := ⟨15, by omega⟩
    refine ⟨t, (flush0_7 _).mpr (by dsimp only [t]), ?_⟩
    show i ∈ ((View.whole main_v4_2).slice (win0_7.rect t)).set
    rw [View.set_slice_whole, Rect.mem_set_unit]
    obtain ⟨h0, h1⟩ := idx7 t
    intro a
    match a with
    | ⟨0, _⟩ => show win0_7.index t 0 * 1 ≤ (i 0 : Nat) ∧ (i 0 : Nat) < win0_7.index t 0 * 1 + 1
                rw [h0]; omega
    | ⟨1, _⟩ => show win0_7.index t 1 * 1024 ≤ (i 1 : Nat) ∧ (i 1 : Nat) < win0_7.index t 1 * 1024 + 1024
                rw [h1]; omega
end

end Cert.NormQIdeal.Hand
end
-- ==== Proof.NormQRef.lean ====
module

public import proofs.«01_k».proof.Proof.NormQValue
public import proofs.«01_k».proof.Defs
public import proofs.«01_k».proof.Proof.Gen.NormQRefIdeal.Read
public import proofs.«01_k».proof.Proof.Silu

/-! The norm's backward kernel on the query product computes the reference's gradient. -/

@[expose] public section
set_option maxRecDepth 16384
noncomputable section
namespace Cert.NormQIdeal.Hand

/-! ## The reference, read at an index -/

section
open Cert.NormQRefIdeal Cert.NormQRefIdeal.Gen Cert.NormQRefIdeal.Read Idealize.ShloMosaic Idealize.ShloMosaic.TcCoe Idealize.SL.Sem Cert.Norm
variable (x0 : Vec Ideal S8192x1024 .f32) (x1 : Vec Ideal S1024 .f32) (x2 : Vec Ideal S1024x1024 .f32) (x3 x4 : Vec Ideal S8192x1024 .f32)

/-- The cotangent of the norm's output. -/
def uR (T : Fin 8192) (l : Fin 1024) : EReal := ∑ k, x3 (ix2 T k) * x2 (ix2 l k)
theorem ref_du (T : Fin 8192) (l : Fin 1024) : val_main_v24 x1 x2 x3 (ix2 T l) = uR x2 x3 T l * x1 (ix1 l) := by
  pointwise [val_main_v24, val_main_v23, val_main_v19, val_main_v14, val_main_v13]
  rfl
theorem ref_ms (T : Fin 8192) : val_main_v6 x0 (ix2 T 0) = msq (fun x => x0 (ix2 T x)) := by
  pointwise [val_main_v6, val_main_v5, val_main_v4, val_main_v3, val_main_v2, val_main_v1, val_main_v0, val_main_cst, val_main_cst_0, val_main_cst_1]
  rfl
theorem ref_rs (T : Fin 8192) : val_main_v7 x0 (ix2 T 0) = rsq (fun x => x0 (ix2 T x)) := by
  pointwise [val_main_v7]
  rw [ref_ms]
  rfl
theorem ref_dh (T : Fin 8192) (l : Fin 1024) : val_main_v40 x0 x1 x2 x3 x4 (ix2 T l) =
    dhRef (fun x => x0 (ix2 T x)) (fun x => x1 (ix1 x)) (uR x2 x3 T) (fun x => x4 (ix2 T x)) l := by
  pointwise [val_main_v40, val_main_v39, val_main_v38, val_main_v37, val_main_v36, val_main_v35, val_main_v34, val_main_v33, val_main_v32,
    val_main_v31, val_main_v30, val_main_v29, val_main_v28, val_main_v27, val_main_v26, val_main_cst_4, val_main_cst_5, val_main_cst_6, val_main_cst_7,
    val_main_v10, val_main_v9, val_main_v8, val_main_cst_2]
  simp only [Finset.univ_unique, Finset.sum_singleton]
  have e6 : val_main_v6 x0 (ix2 T default) = _ := ref_ms x0 T
  have d7 : val_main_v7 x0 (ix2 T default) = _ := ref_rs x0 T
  have e7 := ref_rs x0 T
  simp only [e6, e7, d7, ref_du]
  rfl
theorem ref_n (T : Fin 8192) (l : Fin 1024) : val_main_v54 x0 x1 (ix2 T l) = x0 (ix2 T l) * rsq (fun x => x0 (ix2 T x)) * x1 (ix1 l) := by
  pointwise [val_main_v54, val_main_v53, val_main_v52, val_main_v51, val_main_v50, val_main_v49, val_main_v48, val_main_v47, val_main_v46, val_main_v45,
    val_main_v44, val_main_v43, val_main_v42, val_main_v41, val_main_cst_8, val_main_cst_9, val_main_cst_10]
  rfl
theorem ref_dg (l : Fin 1024) : val_main_v55 x0 x2 x3 (ix2 0 l) = ∑ T, uR x2 x3 T l * (x0 (ix2 T l) * rsq (fun x => x0 (ix2 T x))) := by
  pointwise [val_main_v55, val_main_v25, val_main_cst_4, val_main_v22, val_main_v21, val_main_v20, val_main_v19, val_main_v12, val_main_v11, val_main_cst_3]
  simp only [Finset.univ_unique, Finset.sum_singleton]
  simp only [ref_rs]
  exact Finset.sum_congr rfl fun T _ => mul_comm _ _
end

/-! ## The claims -/

section
open Cert.NormQIdeal Cert.NormQIdeal.Gen Idealize.ShloMosaic Idealize.ShloMosaic.TcCoe Idealize.SL.Sem Cert.Util Cert.Norm

theorem pre_facts : Cert.Pre_pre_norm_q.Facts := ⟨by decide, by decide, by decide⟩

/-- The reference's frame: its run read at the arguments; it has no semaphore. -/
theorem frame_ref : Cert.quiescent_NormQRefIdeal (hNormQRefIdeal := Cert.NormQRefIdeal.Gen.facts) := fun m ρ _ =>
  (θ_run Cert.NormQRefIdeal.defs _ _).mono (fun r h => ⟨fun c => (h c).2.2.2, sem_eq_zero_of_no_sems (by decide) r.2⟩)
    (Cert.NormQRefIdeal.Value.run (F := Ideal) m ρ)

/-- Under the precondition the input's gradient is the chain rule's. -/
theorem dh_ref (m : (ℓ : Loc nD τ sig) → Buf (Elt Ideal) ℓ) (h : Cert.Pre_NormQIdeal_pre_norm_q (hPre_pre_norm_q := pre_facts) m) (c : Dev nD)
    (T : Fin 8192) (l : Fin 1024) : dhM m c T l = dhRef (hM m c T) (gM m c) (uM m c T) (rM m c T) l := by
  obtain ⟨h0, h1, h2, h3⟩ := h c
  refine dhRow_eq _ _ _ _ (fun k => real_of_finite (congrFun h0 (ix2 T k))) (fun k => real_of_finite (congrFun h1 (ix1 k))) (fun k => ?_) l
  exact real_dot _ _ (fun j => real_of_finite (congrFun h3 (ix2 T j))) (fun j => real_of_finite (congrFun h2 (ix2 k j)))

/-- The norm and the query product backward: the kernel's arrays are the reference's. -/
theorem algebraic : Cert.algebraic_NormQIdeal_NormQRefIdeal_pre_pre_norm_q (hNormQIdeal := Cert.NormQIdeal.Gen.facts)
    (hNormQRefIdeal := Cert.NormQRefIdeal.Gen.facts) (hPre_pre_norm_q := pre_facts) := by
  intro m g m' g' hpre hm
  refine ⟨dhArr m, nArr m, dgArr m, ?_, ?_⟩
  · refine (θ_run _ _ _).mono (fun r h c => ?_) (Cert.NormQIdeal.Value.run_blocks m g)
    obtain ⟨h0, h1, h2, h3⟩ := h c
    exact ⟨h0.trans (final_dh m c), h1.trans (final_n m c), h2.trans (final_dg m c), h3⟩
  · refine (θ_run _ _ _).mono (fun r h c => ?_) (Cert.NormQRefIdeal.Value.run m' g')
    obtain ⟨h0, h1, h2, h3⟩ := h c
    obtain ⟨a0, a1, a2, a3, a4⟩ := hm c
    refine ⟨h0.trans ?_, h1.trans ?_, h2.trans ?_, h3⟩
    · rw [Cert.NormQRefIdeal.Read.val_main_v40_eq, a0, a1, a2, a3, a4]
      funext j
      refine (congrArg _ (eq_ix2 j)).trans ((ref_dh _ _ _ _ _ (j 0) (j 1)).trans (dh_ref m hpre c (j 0) (j 1)).symm)
    · rw [Cert.NormQRefIdeal.Read.val_main_v54_eq, a0, a1]
      funext j
      exact (congrArg _ (eq_ix2 j)).trans (ref_n _ _ (j 0) (j 1))
    · rw [Cert.NormQRefIdeal.Read.val_main_v55_eq, a0, a2, a3]
      funext j
      obtain ⟨r, l, rfl⟩ : ∃ (r : Fin 1) (l : Fin 1024), j = ix2 r l := ⟨j 0, j 1, eq_ix2 j⟩
      obtain rfl : r = 0 := Subsingleton.elim _ _
      exact ref_dg _ _ _ l
end

end Cert.NormQIdeal.Hand
end
-- ==== Proof.NormKvValue.lean ====
module

public import proofs.«01_k».proof.Proof.Gen.NormKvIdeal.Value
public import proofs.«01_k».proof.Proof.NormMath
public import Idealize.ShloMosaic.Lib.Claim

/-! The norm's backward kernel on the key and value product: what a grid point computes, and the arrays its run leaves. -/

@[expose] public section
set_option maxRecDepth 16384
noncomputable section
namespace Cert.NormKvIdeal.Hand
open Cert.NormKvIdeal Cert.NormKvIdeal.Gen Idealize.ShloMosaic Idealize.ShloMosaic.TcCoe Idealize.SL.Sem Cert.Util Cert.Norm
open Idealize.ShloMosaic.Pipeline (Dat)

theorem hz : (![0, 0] : Fin 2 → Nat) = fun _ => 0 := funext fun a => by fin_cases a <;> rfl

/-! ## What a point computes -/

/-- A point's rows of the cotangent of the norm's output. -/
def uRow (x2 : Vec Ideal S1024x512 .bf16) (x3 : Vec Ideal S512x512 .bf16) (r : Fin 512) (l : Fin 1024) : EReal :=
  (∑ k : Fin 512, x3 (ix2 r k) * x2 (ix2 l k)) * Ideal.ofBits .f32 0x3F000000#32
/-- A point's part of the scale's gradient. -/
def gRows (x0 : Vec Ideal S512x1024 .f32) (x2 : Vec Ideal S1024x512 .bf16) (x3 : Vec Ideal S512x512 .bf16) (l : Fin 1024) : EReal :=
  ∑ x : Fin 512, uRow x2 x3 x l * (x0 (ix2 x l) * rsq (fun y => x0 (ix2 x y)))

section
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S512x512 .bf16) (harg5 : arg5.IsWhole) (arg6 : Memref sig .tc .vmem S512x1024 .f32) (harg6 : arg6.IsWhole) (arg8 : Memref sig .tc .vmem S512x1024 .f32) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S512x1024 .f32) (harg11 : arg11.IsWhole)
  (x0 : Vec Ideal S512x1024 .f32) (x1 : Vec Ideal S1x1024 .f32) (x2 : Vec Ideal S1024x512 .bf16) (x3 : Vec Ideal S512x512 .bf16) (x4 : Vec Ideal S512x1024 .f32) (xo7 : Vec Ideal S1x1024 .f32)

theorem outA5 (hc0 : cond0_0 i) (hc1 : cond0_1 i) (hc2 : cond0_2 i)
    (r : Fin 512) (l : Fin 1024) :
    out0_A_5 c i arg2 harg2 arg3 harg3 arg4 harg4 arg5 harg5 arg6 harg6 arg8 harg8 arg9 harg9 arg10 harg10 arg11 harg11 hc0 hc1 hc2 x0 x1 x2 x3 x4 (ix2 r l) =
      dhRow (fun x => x0 (ix2 r x)) (fun x => x1 (ix2 0 x)) (uRow x2 x3 r) (fun x => x4 (ix2 r x)) l := by
  unfold out0_A_5
  rw [View.read_writes_eq_canon _ _ _ (fun y => cover0_A_5 (y := y) ..)]
  unfold kernelRun0_A
  dsimp only
  sl_unfold_words
  simp only [View.canon_cons_unit_zero (S := S512x1024) hz, View.canon_unit_zero (S := S512x1024) hz]
  simp only [View.readAt_eq_ld, Memref.IsWhole.read_unread, View.readCov_cons_toLoadRect,
    View.ld_unit_zero (S := S512x1024) hz, View.ld_unit_zero (S := S1x1024) hz, View.ld_unit_zero (S := S512x512) hz, View.ld_unit_zero (S := S1024x512) hz]
  pointwise [k0_pay4, k0_pay12, k0_pay11, k0_pay3, k0_pay1, k0_pay9, k0_pay7, k0_pay6, k0_pay5]
  rfl

theorem outA6 (hc0 : cond0_0 i) (hc1 : cond0_1 i) (hc2 : cond0_2 i)
    (r : Fin 512) (l : Fin 1024) :
    out0_A_6 c i arg2 harg2 arg3 harg3 arg4 harg4 arg5 harg5 arg6 harg6 arg8 harg8 arg9 harg9 arg10 harg10 arg11 harg11 hc0 hc1 hc2 x0 x1 x2 x3 x4 (ix2 r l) =
      x0 (ix2 r l) * rsq (fun x => x0 (ix2 r x)) * x1 (ix2 0 l) := by
  unfold out0_A_6
  rw [View.read_writes_eq_canon _ _ _ (fun y => cover0_A_6 (y := y) ..)]
  unfold kernelRun0_A
  dsimp only
  sl_unfold_words
  simp only [View.canon_cons_unit_zero (S := S512x1024) hz, View.canon_unit_zero (S := S512x1024) hz]
  simp only [View.readAt_eq_ld, Memref.IsWhole.read_unread, View.readCov_cons_toLoadRect,
    View.ld_unit_zero (S := S512x1024) hz, View.ld_unit_zero (S := S1x1024) hz, View.ld_unit_zero (S := S512x512) hz, View.ld_unit_zero (S := S1024x512) hz]
  pointwise [k0_pay8, k0_pay7, k0_pay6, k0_pay5]
  rfl

theorem outA7 (hc0 : cond0_0 i) (hc1 : cond0_1 i) (hc2 : cond0_2 i)
    (r : Fin 1) (l : Fin 1024) :
    out0_A_7 c i arg2 harg2 arg3 harg3 arg4 harg4 arg5 harg5 arg6 harg6 arg8 harg8 arg9 harg9 arg10 harg10 arg11 harg11 hc0 hc1 hc2 x0 x1 x2 x3 x4 (ix2 r l) =
      0 + gRows x0 x2 x3 l := by
  unfold out0_A_7
  rw [View.read_writes_eq_canon _ _ _ (fun y => cover0_A_7 (y := y) ..)]
  unfold kernelRun0_A
  dsimp only
  sl_unfold_words
  simp only [View.canon_cons_unit_zero (S := S1x1024) hz, View.canon_unit_zero (S := S1x1024) hz]
  simp only [View.readAt_eq_ld, Memref.IsWhole.read_unread, View.readCov_cons_toLoadRect,
    View.ld_unit_zero (S := S512x1024) hz, View.ld_unit_zero (S := S1x1024) hz, View.ld_unit_zero (S := S512x512) hz, View.ld_unit_zero (S := S1024x512) hz]
  pointwise [k0_pay10, k0_pay3, k0_pay1, k0_pay9, k0_pay6, k0_pay5, k0_pay2]
  rfl

theorem outB5 (hc0 : cond0_0 i) (hc1 : ¬cond0_1 i) (hc2 : cond0_2 i)
    (r : Fin 512) (l : Fin 1024) :
    out0_B_5 c i arg2 harg2 arg3 harg3 arg4 harg4 arg5 harg5 arg6 harg6 arg8 harg8 arg9 harg9 arg10 harg10 arg11 harg11 hc0 hc1 hc2 x0 x1 x2 x3 x4 xo7 (ix2 r l) =
      dhRow (fun x => x0 (ix2 r x)) (fun x => x1 (ix2 0 x)) (uRow x2 x3 r) (fun x => x4 (ix2 r x)) l := by
  unfold out0_B_5
  rw [View.read_writes_eq_canon _ _ _ (fun y => cover0_B_5 (y := y) ..)]
  unfold kernelRun0_B
  dsimp only
  sl_unfold_words
  simp only [View.canon_cons_unit_zero (S := S512x1024) hz, View.canon_unit_zero (S := S512x1024) hz]
  simp only [View.readAt_eq_ld, Memref.IsWhole.read_unread, View.readCov_cons_toLoadRect,
    View.ld_unit_zero (S := S512x1024) hz, View.ld_unit_zero (S := S1x1024) hz, View.ld_unit_zero (S := S512x512) hz, View.ld_unit_zero (S := S1024x512) hz]
  pointwise [k0_pay4, k0_pay12, k0_pay11, k0_pay3, k0_pay1, k0_pay9, k0_pay7, k0_pay6, k0_pay5]
  rfl

theorem outB6 (hc0 : cond0_0 i) (hc1 : ¬cond0_1 i) (hc2 : cond0_2 i)
    (r : Fin 512) (l : Fin 1024) :
    out0_B_6 c i arg2 harg2 arg3 harg3 arg4 harg4 arg5 harg5 arg6 harg6 arg8 harg8 arg9 harg9 arg10 harg10 arg11 harg11 hc0 hc1 hc2 x0 x1 x2 x3 x4 xo7 (ix2 r l) =
      x0 (ix2 r l) * rsq (fun x => x0 (ix2 r x)) * x1 (ix2 0 l) := by
  unfold out0_B_6
  rw [View.read_writes_eq_canon _ _ _ (fun y => cover0_B_6 (y := y) ..)]
  unfold kernelRun0_B
  dsimp only
  sl_unfold_words
  simp only [View.canon_cons_unit_zero (S := S512x1024) hz, View.canon_unit_zero (S := S512x1024) hz]
  simp only [View.readAt_eq_ld, Memref.IsWhole.read_unread, View.readCov_cons_toLoadRect,
    View.ld_unit_zero (S := S512x1024) hz, View.ld_unit_zero (S := S1x1024) hz, View.ld_unit_zero (S := S512x512) hz, View.ld_unit_zero (S := S1024x512) hz]
  pointwise [k0_pay8, k0_pay7, k0_pay6, k0_pay5]
  rfl

theorem outB7 (hc0 : cond0_0 i) (hc1 : ¬cond0_1 i) (hc2 : cond0_2 i)
    (r : Fin 1) (l : Fin 1024) :
    out0_B_7 c i arg2 harg2 arg3 harg3 arg4 harg4 arg5 harg5 arg6 harg6 arg8 harg8 arg9 harg9 arg10 harg10 arg11 harg11 hc0 hc1 hc2 x0 x1 x2 x3 x4 xo7 (ix2 r l) =
      xo7 (ix2 r l) + gRows x0 x2 x3 l := by
  unfold out0_B_7
  rw [View.read_writes_eq_canon _ _ _ (fun y => cover0_B_7 (y := y) ..)]
  unfold kernelRun0_B
  dsimp only
  sl_unfold_words
  simp only [View.canon_cons_unit_zero (S := S1x1024) hz, View.canon_unit_zero (S := S1x1024) hz]
  simp only [View.readAt_eq_ld, Memref.IsWhole.read_unread, View.readCov_cons_toLoadRect,
    View.ld_unit_zero (S := S512x1024) hz, View.ld_unit_zero (S := S1x1024) hz, View.ld_unit_zero (S := S512x512) hz, View.ld_unit_zero (S := S1024x512) hz]
  pointwise [k0_pay10, k0_pay3, k0_pay1, k0_pay9, k0_pay6, k0_pay5, k0_pay2]
  rfl
end

/-! ## What each point reads -/

theorem V_v0 (μ : (ℓ : Loc nD τ sig) → Buf (Elt Ideal) ℓ) (c : Dev nD) : V μ c main_v0 =
    shapeCast S1x1024 (μ ((c : Thread nD τ).loc main_arg1)) shapeCasts_S1024_S1x1024 := by
  rfl
theorem V_w (μ : (ℓ : Loc nD τ sig) → Buf (Elt Ideal) ℓ) (c : Dev nD) (r : Fin 1024) (k : Fin 512) :
    V μ c main_v4 (ix2 r k) = μ ((c : Thread nD τ).loc main_arg2) (ix2 r (headCol k)) := by
  have e : V μ c main_v4 = (truncf .bf16 (shapeCast S1024x512 (broadcastInDim S1024x4x2x64 ![0, 1, 2, 3] bcast_S1024x4x1x64_S1024x4x2x64_0_1_2_3
    (shapeCast S1024x4x1x64 (μ ((c : Thread nD τ).loc main_arg2)) shapeCasts_S1024x256_S1024x4x1x64)) shapeCasts_S1024x4x2x64_S1024x512 : FVec Ideal S1024x512 .f32)
    bitsLt_bf16_f32 : FVec Ideal S1024x512 .bf16) := by rfl
  rw [e]
  pointwise []
theorem V_d (μ : (ℓ : Loc nD τ sig) → Buf (Elt Ideal) ℓ) (c : Dev nD) (r : Fin 8192) (k : Fin 512) :
    V μ c main_v8 (ix2 r k) = μ ((c : Thread nD τ).loc main_arg3) (ix2 r (headCol k)) := by
  have e : V μ c main_v8 = (truncf .bf16 (shapeCast S8192x512 (broadcastInDim S8192x4x2x64 ![0, 1, 2, 3] bcast_S8192x4x1x64_S8192x4x2x64_0_1_2_3
    (shapeCast S8192x4x1x64 (μ ((c : Thread nD τ).loc main_arg3)) shapeCasts_S8192x256_S8192x4x1x64)) shapeCasts_S8192x4x2x64_S8192x512 : FVec Ideal S8192x512 .f32)
    bitsLt_bf16_f32 : FVec Ideal S8192x512 .bf16) := by rfl
  rw [e]
  pointwise []

theorem lt16 (t : Fin cfg0.N) : t.val < 16 := lt_of_lt_of_eq t.isLt N_0
/-- A point's row `r` of the arrays. -/
abbrev row (t : Fin cfg0.N) (r : Fin 512) : Fin 8192 := ⟨512 * t.val + r.val, by have := lt16 t; omega⟩
theorem idx0 (t : Fin cfg0.N) : win0_0.index t 0 = t.val ∧ win0_0.index t 1 = 0 :=
  (by decide +kernel : ∀ t : Fin grid0.N, win0_0.index t 0 = t.val ∧ win0_0.index t 1 = 0) t
theorem idx3 (t : Fin cfg0.N) : win0_3.index t 0 = t.val ∧ win0_3.index t 1 = 0 :=
  (by decide +kernel : ∀ t : Fin grid0.N, win0_3.index t 0 = t.val ∧ win0_3.index t 1 = 0) t
theorem idx4 (t : Fin cfg0.N) : win0_4.index t 0 = t.val ∧ win0_4.index t 1 = 0 :=
  (by decide +kernel : ∀ t : Fin grid0.N, win0_4.index t 0 = t.val ∧ win0_4.index t 1 = 0) t
theorem idx5 (t : Fin cfg0.N) : win0_5.index t 0 = t.val ∧ win0_5.index t 1 = 0 :=
  (by decide +kernel : ∀ t : Fin grid0.N, win0_5.index t 0 = t.val ∧ win0_5.index t 1 = 0) t
theorem idx6 (t : Fin cfg0.N) : win0_6.index t 0 = t.val ∧ win0_6.index t 1 = 0 :=
  (by decide +kernel : ∀ t : Fin grid0.N, win0_6.index t 0 = t.val ∧ win0_6.index t 1 = 0) t
theorem idx1 (t : Fin cfg0.N) : win0_1.index t 0 = 0 ∧ win0_1.index t 1 = 0 :=
  (by decide +kernel : ∀ t : Fin grid0.N, win0_1.index t 0 = 0 ∧ win0_1.index t 1 = 0) t
theorem idx2 (t : Fin cfg0.N) : win0_2.index t 0 = 0 ∧ win0_2.index t 1 = 0 :=
  (by decide +kernel : ∀ t : Fin grid0.N, win0_2.index t 0 = 0 ∧ win0_2.index t 1 = 0) t
theorem idx7 (t : Fin cfg0.N) : win0_7.index t 0 = 0 ∧ win0_7.index t 1 = 0 :=
  (by decide +kernel : ∀ t : Fin grid0.N, win0_7.index t 0 = 0 ∧ win0_7.index t 1 = 0) t

section
variable (μ : (ℓ : Loc nD τ sig) → Buf (Elt Ideal) ℓ) (c : Dev nD) (t : Fin cfg0.N)
theorem iblk0_apply (r : Fin 512) (l : Fin 1024) :
    (iblk μ c 0 t : Vec Ideal S512x1024 .f32) (ix2 r l) = μ ((c : Thread nD τ).loc main_arg0) (ix2 (row t r) l) := by
  unfold iblk
  rw [View.read_apply]
  show V μ c main_arg0 _ = _
  rw [V_main_arg0]
  congr 1
  obtain ⟨h0, h1⟩ := idx0 t
  funext a
  apply Fin.ext
  match a with
  | ⟨0, _⟩ => show win0_0.index t 0 * 512 + 1 * r.val = 512 * t.val + r.val; rw [h0]; omega
  | ⟨1, _⟩ => show win0_0.index t 1 * 1024 + 1 * l.val = l.val; rw [h1]; omega
theorem iblk4_apply (r : Fin 512) (l : Fin 1024) :
    (iblk μ c 4 t : Vec Ideal S512x1024 .f32) (ix2 r l) = μ ((c : Thread nD τ).loc main_arg4) (ix2 (row t r) l) := by
  unfold iblk
  rw [View.read_apply]
  show V μ c main_arg4 _ = _
  rw [V_main_arg4]
  congr 1
  obtain ⟨h0, h1⟩ := idx4 t
  funext a
  apply Fin.ext
  match a with
  | ⟨0, _⟩ => show win0_4.index t 0 * 512 + 1 * r.val = 512 * t.val + r.val; rw [h0]; omega
  | ⟨1, _⟩ => show win0_4.index t 1 * 1024 + 1 * l.val = l.val; rw [h1]; omega
theorem iblk1_apply (l : Fin 1024) :
    (iblk μ c 1 t : Vec Ideal S1x1024 .f32) (ix2 0 l) = μ ((c : Thread nD τ).loc main_arg1) (ix1 l) := by
  unfold iblk
  rw [View.read_apply]
  show V μ c main_v0 _ = _
  rw [V_v0]
  have e : ((cfg0.win 1).blk t).view.emb (ix2 0 l) = (ix2 0 l : S1x1024.Idx) := by
    obtain ⟨h0, h1⟩ := idx1 t
    funext a
    apply Fin.ext
    match a with
    | ⟨0, _⟩ => show win0_1.index t 0 * 1 + 1 * 0 = 0; rw [h0]
    | ⟨1, _⟩ => show win0_1.index t 1 * 1024 + 1 * l.val = l.val; rw [h1]; omega
  refine (congrArg _ e).trans ?_
  pointwise []
theorem iblk2_apply (r : Fin 1024) (k : Fin 512) :
    (iblk μ c 2 t : Vec Ideal S1024x512 .bf16) (ix2 r k) = μ ((c : Thread nD τ).loc main_arg2) (ix2 r (headCol k)) := by
  unfold iblk
  rw [View.read_apply, ← V_w μ c]
  show V μ c main_v4 _ = V μ c main_v4 _
  congr 1
  obtain ⟨h0, h1⟩ := idx2 t
  funext a
  apply Fin.ext
  match a with
  | ⟨0, _⟩ => show win0_2.index t 0 * 1024 + 1 * r.val = r.val; rw [h0]; omega
  | ⟨1, _⟩ => show win0_2.index t 1 * 512 + 1 * k.val = k.val; rw [h1]; omega
theorem iblk3_apply (r k : Fin 512) :
    (iblk μ c 3 t : Vec Ideal S512x512 .bf16) (ix2 r k) = μ ((c : Thread nD τ).loc main_arg3) (ix2 (row t r) (headCol k)) := by
  unfold iblk
  rw [View.read_apply, ← V_d μ c]
  show V μ c main_v8 _ = V μ c main_v8 _
  congr 1
  obtain ⟨h0, h1⟩ := idx3 t
  funext a
  apply Fin.ext
  match a with
  | ⟨0, _⟩ => show win0_3.index t 0 * 512 + 1 * r.val = 512 * t.val + r.val; rw [h0]; omega
  | ⟨1, _⟩ => show win0_3.index t 1 * 512 + 1 * k.val = k.val; rw [h1]; omega

/-! ## The results, over the whole arrays -/

/-- Row `T` of the input. -/
abbrev hM (T : Fin 8192) (x : Fin 1024) : EReal := μ ((c : Thread nD τ).loc main_arg0) (ix2 T x)
/-- The norm's scale. -/
abbrev gM (x : Fin 1024) : EReal := μ ((c : Thread nD τ).loc main_arg1) (ix1 x)
/-- The product's cotangent. -/
abbrev dM (T : Fin 8192) (x : Fin 256) : EReal := μ ((c : Thread nD τ).loc main_arg3) (ix2 T x)
/-- The product's weights. -/
abbrev wM (x : Fin 1024) (k : Fin 256) : EReal := μ ((c : Thread nD τ).loc main_arg2) (ix2 x k)
/-- The cotangent of the norm's output: the product's cotangent times the transposed weights. -/
def uM (T : Fin 8192) (x : Fin 1024) : EReal := ∑ k : Fin 256, dM μ c T k * wM μ c x k
/-- The residual's cotangent. -/
abbrev rM (T : Fin 8192) (x : Fin 1024) : EReal := μ ((c : Thread nD τ).loc main_arg4) (ix2 T x)
/-- The norm's output. -/
def nM (T : Fin 8192) (l : Fin 1024) : EReal := hM μ c T l * rsq (hM μ c T) * gM μ c l
/-- The input's gradient. -/
def dhM (T : Fin 8192) (l : Fin 1024) : EReal := dhRow (hM μ c T) (gM μ c) (uM μ c T) (rM μ c T) l
/-- One row's part of the scale's gradient. -/
def gPart (l : Fin 1024) (T : Fin 8192) : EReal := uM μ c T l * (hM μ c T l * rsq (hM μ c T))

/-- The scale's gradient. -/
def dgM (l : Fin 1024) : EReal := ∑ T, gPart μ c l T

theorem uRow_eq (r : Fin 512) : uRow (iblk μ c 2 t) (iblk μ c 3 t) r = uM μ c (row t r) := by
  funext l
  unfold uRow uM
  rw [← half_add_self (∑ k : Fin 256, dM μ c (row t r) k * wM μ c l k), ← sum_headCol]
  congr 1
  refine Finset.sum_congr rfl fun k _ => ?_
  rw [iblk2_apply, iblk3_apply]
theorem h_eq (r : Fin 512) : (fun x => (iblk μ c 0 t : Vec Ideal S512x1024 .f32) (ix2 r x)) = hM μ c (row t r) :=
  funext fun x => iblk0_apply μ c t r x
theorem g_eq : (fun x => (iblk μ c 1 t : Vec Ideal S1x1024 .f32) (ix2 0 x)) = gM μ c :=
  funext fun x => iblk1_apply μ c t x
theorem r_eq (r : Fin 512) : (fun x => (iblk μ c 4 t : Vec Ideal S512x1024 .f32) (ix2 r x)) = rM μ c (row t r) :=
  funext fun x => iblk4_apply μ c t r x

/-- What a point leaves for the input's gradient. -/
theorem out5_at (r : Fin 512) (l : Fin 1024) : (outsAt0 μ c t.val t.isLt).1 (ix2 r l) = dhM μ c (row t r) l := by
  unfold dhM
  rw [← h_eq, ← g_eq μ c t, ← uRow_eq, ← r_eq]
  by_cases h : t.val % 16 = 0
  · rw [outsAt0_A μ c t h]; dsimp only; rw [outA5]
  · rw [outsAt0_B μ c t h]; dsimp only; rw [outB5]
/-- What a point leaves for the norm's output. -/
theorem out6_at (r : Fin 512) (l : Fin 1024) : (outsAt0 μ c t.val t.isLt).2.1 (ix2 r l) = nM μ c (row t r) l := by
  unfold nM
  rw [← h_eq, ← g_eq μ c t]
  by_cases h : t.val % 16 = 0
  · rw [outsAt0_A μ c t h]; dsimp only; rw [outA6]
  · rw [outsAt0_B μ c t h]; dsimp only; rw [outB6]
end

section
variable (μ : (ℓ : Loc nD τ sig) → Buf (Elt Ideal) ℓ) (c : Dev nD)

/-- Row `r` of the `s`-th block. -/
abbrev rowB (s : ℕ) (r : Fin 512) : Fin 8192 := ⟨(512 * s + r.val) % 8192, Nat.mod_lt _ (by norm_num)⟩
theorem part_eq (t : Fin cfg0.N) (l : Fin 1024) :
    gRows (iblk μ c 0 t) (iblk μ c 2 t) (iblk μ c 3 t) l = ∑ r : Fin 512, gPart μ c l (rowB t.val r) := by
  unfold gRows
  refine Finset.sum_congr rfl fun r _ => ?_
  rw [uRow_eq, h_eq, iblk0_apply]
  have e : row t r = rowB t.val r := by
    have := lt16 t
    exact Fin.ext (Nat.mod_eq_of_lt (by omega)).symm
  rw [e]; rfl
/-- After a point the scale's block holds the sum over the rows so far. -/
theorem out7_at : ∀ (n : ℕ) (h : n < cfg0.N) (l : Fin 1024), (outsAt0 μ c n h).2.2 (ix2 0 l) =
    ∑ s ∈ Finset.range (n + 1), ∑ r : Fin 512, gPart μ c l (rowB s r) := by
  intro n
  induction n with
  | zero =>
    intro h l
    rw [show outsAt0 μ c 0 h = _ from outsAt0_A μ c ⟨0, h⟩ rfl]
    dsimp only
    rw [outA7, part_eq, zero_add, Finset.sum_range_one]
  | succ n ih =>
    intro h l
    have hN : cfg0.N = 16 := N_0
    rw [show outsAt0 μ c (n + 1) h = _ from outsAt0_B μ c ⟨n + 1, h⟩ (by dsimp only; omega)]
    dsimp only
    rw [outB7, part_eq, Finset.sum_range_succ]
    exact congrArg (· + _) (ih (Nat.lt_of_succ_lt h) l)

/-! ## The final arrays -/

/-- The input's gradient array. -/
abbrev dhArr : Buf (Elt Ideal) ((c : Thread nD τ).loc main_v10_0) := fun i : S8192x1024.Idx => dhM μ c (i 0) (i 1)
/-- The norm's output array. -/
abbrev nArr : Buf (Elt Ideal) ((c : Thread nD τ).loc main_v10_1) := fun i : S8192x1024.Idx => nM μ c (i 0) (i 1)
/-- The scale's gradient array. -/
abbrev dgArr : Buf (Elt Ideal) ((c : Thread nD τ).loc main_v10_2) := fun i : S1x1024.Idx => dgM μ c (i 1)

theorem final_dh : (dats μ 0 c).arrAt 5 cfg0.N = dhArr μ c := by
  refine (dats μ 0 c).arrAt_eq_of_cover 5 (dhArr μ c) (fun t _ => ?_) fun i => ?_
  · rw [Value.flushed5]
    obtain ⟨h0, h1⟩ := idx5 t
    funext j
    rw [View.read_apply]
    obtain ⟨r, l, rfl⟩ : ∃ (r : Fin 512) (l : Fin 1024), j = ix2 r l := ⟨j 0, j 1, eq_ix2 j⟩
    have he : ((cfg0.win 5).blk t).view.emb (ix2 r l) = (ix2 (row t r) l : S8192x1024.Idx) := by
      funext a
      apply Fin.ext
      match a with
      | ⟨0, _⟩ => show win0_5.index t 0 * 512 + 1 * r.val = 512 * t.val + r.val; rw [h0]; omega
      | ⟨1, _⟩ => show win0_5.index t 1 * 1024 + 1 * l.val = l.val; rw [h1]; omega
    rw [he]
    exact out5_at μ c t r l
  · have l0 : (i 0 : Nat) < 8192 := (i 0).isLt
    have l1 : (i 1 : Nat) < 1024 := (i 1).isLt
    have hN : cfg0.N = 16 := N_0
    let t : Fin cfg0.N := ⟨(i 0 : Nat) / 512, by omega⟩
    refine ⟨t, flush0_5 t, ?_⟩
    show i ∈ ((View.whole main_v10_0).slice (win0_5.rect t)).set
    rw [View.set_slice_whole, Rect.mem_set_unit]
    obtain ⟨h0, h1⟩ := idx5 t
    intro a
    match a with
    | ⟨0, _⟩ => show win0_5.index t 0 * 512 ≤ (i 0 : Nat) ∧ (i 0 : Nat) < win0_5.index t 0 * 512 + 512
                rw [h0]; dsimp only [t]; omega
    | ⟨1, _⟩ => show win0_5.index t 1 * 1024 ≤ (i 1 : Nat) ∧ (i 1 : Nat) < win0_5.index t 1 * 1024 + 1024
                rw [h1]; omega

theorem final_n : (dats μ 0 c).arrAt 6 cfg0.N = nArr μ c := by
  refine (dats μ 0 c).arrAt_eq_of_cover 6 (nArr μ c) (fun t _ => ?_) fun i => ?_
  · rw [Value.flushed6]
    obtain ⟨h0, h1⟩ := idx6 t
    funext j
    rw [View.read_apply]
    obtain ⟨r, l, rfl⟩ : ∃ (r : Fin 512) (l : Fin 1024), j = ix2 r l := ⟨j 0, j 1, eq_ix2 j⟩
    have he : ((cfg0.win 6).blk t).view.emb (ix2 r l) = (ix2 (row t r) l : S8192x1024.Idx) := by
      funext a
      apply Fin.ext
      match a with
      | ⟨0, _⟩ => show win0_6.index t 0 * 512 + 1 * r.val = 512 * t.val + r.val; rw [h0]; omega
      | ⟨1, _⟩ => show win0_6.index t 1 * 1024 + 1 * l.val = l.val; rw [h1]; omega
    rw [he]
    exact out6_at μ c t r l
  · have l0 : (i 0 : Nat) < 8192 := (i 0).isLt
    have l1 : (i 1 : Nat) < 1024 := (i 1).isLt
    have hN : cfg0.N = 16 := N_0
    let t : Fin cfg0.N := ⟨(i 0 : Nat) / 512, by omega⟩
    refine ⟨t, flush0_6 t, ?_⟩
    show i ∈ ((View.whole main_v10_1).slice (win0_6.rect t)).set
    rw [View.set_slice_whole, Rect.mem_set_unit]
    obtain ⟨h0, h1⟩ := idx6 t
    intro a
    match a with
    | ⟨0, _⟩ => show win0_6.index t 0 * 512 ≤ (i 0 : Nat) ∧ (i 0 : Nat) < win0_6.index t 0 * 512 + 512
                rw [h0]; dsimp only [t]; omega
    | ⟨1, _⟩ => show win0_6.index t 1 * 1024 ≤ (i 1 : Nat) ∧ (i 1 : Nat) < win0_6.index t 1 * 1024 + 1024
                rw [h1]; omega

/-- The sum over the blocks is the sum over all rows. -/
theorem sum_blocks (f : Fin 8192 → EReal) : ∑ s ∈ Finset.range 16, ∑ r : Fin 512, f (rowB s r) = ∑ T : Fin 8192, f T := by
  rw [Fin.sum_univ_tiles 16 512 (by norm_num), Finset.sum_range]
  refine Finset.sum_congr rfl fun s _ => Finset.sum_congr rfl fun r _ => congrArg f (Fin.ext ?_)
  show (512 * s.val + r.val) % 8192 = _
  have := s.isLt
  dsimp only
  omega
theorem final_dg : (dats μ 0 c).arrAt 7 cfg0.N = dgArr μ c := by
  have hN : cfg0.N = 16 := N_0
  refine (dats μ 0 c).arrAt_eq_of_cover 7 (dgArr μ c) (fun t hf => ?_) fun i => ?_
  · have ht : t.val = 15 := by have := (flush0_7 t).mp hf; have := lt16 t; omega
    rw [Value.flushed7]
    obtain ⟨h0, h1⟩ := idx7 t
    funext j
    rw [View.read_apply]
    obtain ⟨r, l, rfl⟩ : ∃ (r : Fin 1) (l : Fin 1024), j = ix2 r l := ⟨j 0, j 1, eq_ix2 j⟩
    obtain rfl : r = 0 := Subsingleton.elim _ _
    have he : ((cfg0.win 7).blk t).view.emb (ix2 0 l) = (ix2 0 l : S1x1024.Idx) := by
      funext a
      apply Fin.ext
      match a with
      | ⟨0, _⟩ => show win0_7.index t 0 * 1 + 1 * 0 = 0; rw [h0]
      | ⟨1, _⟩ => show win0_7.index t 1 * 1024 + 1 * l.val = l.val; rw [h1]; omega
    rw [he]
    refine (out7_at μ c t.val t.isLt l).trans ?_
    rw [ht]
    exact sum_blocks _
  · have l0 : (i 0 : Nat) < 1 := (i 0).isLt
    have l1 : (i 1 : Nat) < 1024 := (i 1).isLt
    let t : Fin cfg0.N := ⟨15, by omega⟩
    refine ⟨t, (flush0_7 _).mpr (by dsimp only [t]), ?_⟩
    show i ∈ ((View.whole main_v10_2).slice (win0_7.rect t)).set
    rw [View.set_slice_whole, Rect.mem_set_unit]
    obtain ⟨h0, h1⟩ := idx7 t
    intro a
    match a with
    | ⟨0, _⟩ => show win0_7.index t 0 * 1 ≤ (i 0 : Nat) ∧ (i 0 : Nat) < win0_7.index t 0 * 1 + 1
                rw [h0]; omega
    | ⟨1, _⟩ => show win0_7.index t 1 * 1024 ≤ (i 1 : Nat) ∧ (i 1 : Nat) < win0_7.index t 1 * 1024 + 1024
                rw [h1]; omega
end

end Cert.NormKvIdeal.Hand
end
-- ==== Proof.NormKvRef.lean ====
module

public import proofs.«01_k».proof.Proof.NormKvValue
public import proofs.«01_k».proof.Defs
public import proofs.«01_k».proof.Proof.Gen.NormKvRefIdeal.Read
public import proofs.«01_k».proof.Proof.Silu

/-! The norm's backward kernel on the key and value product computes the reference's gradient. -/

@[expose] public section
set_option maxRecDepth 16384
noncomputable section
namespace Cert.NormKvIdeal.Hand

/-! ## The reference, read at an index -/

section
open Cert.NormKvRefIdeal Cert.NormKvRefIdeal.Gen Cert.NormKvRefIdeal.Read Idealize.ShloMosaic Idealize.ShloMosaic.TcCoe Idealize.SL.Sem Cert.Norm
variable (x0 : Vec Ideal S8192x1024 .f32) (x1 : Vec Ideal S1024 .f32) (x2 : Vec Ideal S1024x256 .f32) (x3 : Vec Ideal S8192x256 .f32) (x4 : Vec Ideal S8192x1024 .f32)

/-- The cotangent of the norm's output. -/
def uR (T : Fin 8192) (l : Fin 1024) : EReal := ∑ k, x3 (ix2 T k) * x2 (ix2 l k)
theorem ref_du (T : Fin 8192) (l : Fin 1024) : val_main_v24 x1 x2 x3 (ix2 T l) = uR x2 x3 T l * x1 (ix1 l) := by
  pointwise [val_main_v24, val_main_v23, val_main_v19, val_main_v14, val_main_v13]
  rfl
theorem ref_ms (T : Fin 8192) : val_main_v6 x0 (ix2 T 0) = msq (fun x => x0 (ix2 T x)) := by
  pointwise [val_main_v6, val_main_v5, val_main_v4, val_main_v3, val_main_v2, val_main_v1, val_main_v0, val_main_cst, val_main_cst_0, val_main_cst_1]
  rfl
theorem ref_rs (T : Fin 8192) : val_main_v7 x0 (ix2 T 0) = rsq (fun x => x0 (ix2 T x)) := by
  pointwise [val_main_v7]
  rw [ref_ms]
  rfl
theorem ref_dh (T : Fin 8192) (l : Fin 1024) : val_main_v40 x0 x1 x2 x3 x4 (ix2 T l) =
    dhRef (fun x => x0 (ix2 T x)) (fun x => x1 (ix1 x)) (uR x2 x3 T) (fun x => x4 (ix2 T x)) l := by
  pointwise [val_main_v40, val_main_v39, val_main_v38, val_main_v37, val_main_v36, val_main_v35, val_main_v34, val_main_v33, val_main_v32,
    val_main_v31, val_main_v30, val_main_v29, val_main_v28, val_main_v27, val_main_v26, val_main_cst_4, val_main_cst_5, val_main_cst_6, val_main_cst_7,
    val_main_v10, val_main_v9, val_main_v8, val_main_cst_2]
  simp only [Finset.univ_unique, Finset.sum_singleton]
  have e6 : val_main_v6 x0 (ix2 T default) = _ := ref_ms x0 T
  have d7 : val_main_v7 x0 (ix2 T default) = _ := ref_rs x0 T
  have e7 := ref_rs x0 T
  simp only [e6, e7, d7, ref_du]
  rfl
theorem ref_n (T : Fin 8192) (l : Fin 1024) : val_main_v54 x0 x1 (ix2 T l) = x0 (ix2 T l) * rsq (fun x => x0 (ix2 T x)) * x1 (ix1 l) := by
  pointwise [val_main_v54, val_main_v53, val_main_v52, val_main_v51, val_main_v50, val_main_v49, val_main_v48, val_main_v47, val_main_v46, val_main_v45,
    val_main_v44, val_main_v43, val_main_v42, val_main_v41, val_main_cst_8, val_main_cst_9, val_main_cst_10]
  rfl
theorem ref_dg (l : Fin 1024) : val_main_v55 x0 x2 x3 (ix2 0 l) = ∑ T, uR x2 x3 T l * (x0 (ix2 T l) * rsq (fun x => x0 (ix2 T x))) := by
  pointwise [val_main_v55, val_main_v25, val_main_cst_4, val_main_v22, val_main_v21, val_main_v20, val_main_v19, val_main_v12, val_main_v11, val_main_cst_3]
  simp only [Finset.univ_unique, Finset.sum_singleton]
  simp only [ref_rs]
  exact Finset.sum_congr rfl fun T _ => mul_comm _ _
end

/-! ## The claims -/

section
open Cert.NormKvIdeal Cert.NormKvIdeal.Gen Idealize.ShloMosaic Idealize.ShloMosaic.TcCoe Idealize.SL.Sem Cert.Util Cert.Norm

theorem pre_facts : Cert.Pre_pre_norm_kv.Facts := ⟨by decide, by decide, by decide, by decide⟩

/-- The reference's frame: its run read at the arguments; it has no semaphore. -/
theorem frame_ref : Cert.quiescent_NormKvRefIdeal (hNormKvRefIdeal := Cert.NormKvRefIdeal.Gen.facts) := fun m ρ _ =>
  (θ_run Cert.NormKvRefIdeal.defs _ _).mono (fun r h => ⟨fun c => (h c).2.2.2, sem_eq_zero_of_no_sems (by decide) r.2⟩)
    (Cert.NormKvRefIdeal.Value.run (F := Ideal) m ρ)

/-- Under the precondition the input's gradient is the chain rule's. -/
theorem dh_ref (m : (ℓ : Loc nD τ sig) → Buf (Elt Ideal) ℓ) (h : Cert.Pre_NormKvIdeal_pre_norm_kv (hPre_pre_norm_kv := pre_facts) m) (c : Dev nD)
    (T : Fin 8192) (l : Fin 1024) : dhM m c T l = dhRef (hM m c T) (gM m c) (uM m c T) (rM m c T) l := by
  obtain ⟨h0, h1, h2, h3⟩ := h c
  refine dhRow_eq _ _ _ _ (fun k => real_of_finite (congrFun h0 (ix2 T k))) (fun k => real_of_finite (congrFun h1 (ix1 k))) (fun k => ?_) l
  exact real_dot _ _ (fun j => real_of_finite (congrFun h3 (ix2 T j))) (fun j => real_of_finite (congrFun h2 (ix2 k j)))

/-- The norm and the key and value product backward: the kernel's arrays are the reference's. -/
theorem algebraic : Cert.algebraic_NormKvIdeal_NormKvRefIdeal_pre_pre_norm_kv (hNormKvIdeal := Cert.NormKvIdeal.Gen.facts)
    (hNormKvRefIdeal := Cert.NormKvRefIdeal.Gen.facts) (hPre_pre_norm_kv := pre_facts) := by
  intro m g m' g' hpre hm
  refine ⟨dhArr m, nArr m, dgArr m, ?_, ?_⟩
  · refine (θ_run _ _ _).mono (fun r h c => ?_) (Cert.NormKvIdeal.Value.run_blocks m g)
    obtain ⟨h0, h1, h2, h3⟩ := h c
    exact ⟨h0.trans (final_dh m c), h1.trans (final_n m c), h2.trans (final_dg m c), h3⟩
  · refine (θ_run _ _ _).mono (fun r h c => ?_) (Cert.NormKvRefIdeal.Value.run m' g')
    obtain ⟨h0, h1, h2, h3⟩ := h c
    obtain ⟨a0, a1, a2, a3, a4⟩ := hm c
    refine ⟨h0.trans ?_, h1.trans ?_, h2.trans ?_, h3⟩
    · rw [Cert.NormKvRefIdeal.Read.val_main_v40_eq, a0, a1, a2, a3, a4]
      funext j
      refine (congrArg _ (eq_ix2 j)).trans ((ref_dh _ _ _ _ _ (j 0) (j 1)).trans (dh_ref m hpre c (j 0) (j 1)).symm)
    · rw [Cert.NormKvRefIdeal.Read.val_main_v54_eq, a0, a1]
      funext j
      exact (congrArg _ (eq_ix2 j)).trans (ref_n _ _ (j 0) (j 1))
    · rw [Cert.NormKvRefIdeal.Read.val_main_v55_eq, a0, a2, a3]
      funext j
      obtain ⟨r, l, rfl⟩ : ∃ (r : Fin 1) (l : Fin 1024), j = ix2 r l := ⟨j 0, j 1, eq_ix2 j⟩
      obtain rfl : r = 0 := Subsingleton.elim _ _
      exact ref_dg _ _ _ l
end

end Cert.NormKvIdeal.Hand
end
-- ==== Proof.NormInValue.lean ====
module

public import proofs.«01_k».proof.Proof.Gen.NormInIdeal.Value
public import proofs.«01_k».proof.Proof.NormMath
public import Idealize.ShloMosaic.Lib.Claim

/-! The norm's backward kernel on the state-space input product: what a grid point computes, and the arrays its run leaves. -/

@[expose] public section
set_option maxRecDepth 16384
noncomputable section
namespace Cert.NormInIdeal.Hand
open Cert.NormInIdeal Cert.NormInIdeal.Gen Idealize.ShloMosaic Idealize.ShloMosaic.TcCoe Idealize.SL.Sem Cert.Util Cert.Norm
open Idealize.ShloMosaic.Pipeline (Dat)

theorem hz : (![0, 0] : Fin 2 → Nat) = fun _ => 0 := funext fun a => by fin_cases a <;> rfl

/-! ## What a point computes -/

/-- A point's part of the cotangent of the norm's output: the product over its columns of the weights. -/
def uPart (x2 : Vec Ideal S1024x1408 .bf16) (x3 : Vec Ideal S512x1408 .bf16) (r : Fin 512) (l : Fin 1024) : EReal :=
  ∑ k : Fin 1408, x3 (ix2 r k) * x2 (ix2 l k)
/-- The cotangent of the norm's output once a point's part is added. -/
def uAcc (A : Vec Ideal S512x1024 .f32) (x2 : Vec Ideal S1024x1408 .bf16) (x3 : Vec Ideal S512x1408 .bf16) (r : Fin 512) (l : Fin 1024) : EReal :=
  A (ix2 r l) + uPart x2 x3 r l
/-- A row block's part of the scale's gradient. -/
def gRows (x0 : Vec Ideal S512x1024 .f32) (u : Fin 512 → Fin 1024 → EReal) (l : Fin 1024) : EReal :=
  ∑ x : Fin 512, u x l * (x0 (ix2 x l) * rsq (fun y => x0 (ix2 x y)))

section
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S512x1408 .bf16) (harg5 : arg5.IsWhole) (arg6 : Memref sig .tc .vmem S512x1024 .f32) (harg6 : arg6.IsWhole) (arg8 : Memref sig .tc .vmem S512x1024 .f32) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S512x1024 .f32) (harg11 : arg11.IsWhole)
  (x0 : Vec Ideal S512x1024 .f32) (x1 : Vec Ideal S1x1024 .f32) (x2 : Vec Ideal S1024x1408 .bf16) (x3 : Vec Ideal S512x1408 .bf16) (x4 : Vec Ideal S512x1024 .f32) (xs0 : Vec Ideal S512x1024 .f32) (xo7 : Vec Ideal S1x1024 .f32)

theorem soutA (hc0 : cond0_0 i) (hc1 : cond0_1 i) (hc2 : ¬cond0_2 i)
    (r : Fin 512) (l : Fin 1024) :
    sout0_A_0 c i arg2 harg2 arg3 harg3 arg4 harg4 arg5 harg5 arg6 harg6 arg8 harg8 arg9 harg9 arg10 harg10 arg11 harg11 hc0 hc1 hc2 x0 x1 x2 x3 x4 (ix2 r l) =
      uPart x2 x3 r l := by
  unfold sout0_A_0
  rw [View.read_writes_eq_canon _ _ _ (fun y => scover0_A_0 (y := y) ..)]
  unfold kernelRun0_A
  dsimp only
  sl_unfold_words
  simp only [View.canon_cons_unit_zero (S := S512x1024) hz, View.canon_unit_zero (S := S512x1024) hz]
  simp only [View.readAt_eq_ld, Memref.IsWhole.read_unread, View.readCov_cons_toLoadRect,
    View.ld_unit_zero (S := S512x1024) hz, View.ld_unit_zero (S := S1x1024) hz, View.ld_unit_zero (S := S1024x1408) hz, View.ld_unit_zero (S := S512x1408) hz]
  pointwise [k0_pay3, k0_pay1]
  rfl

theorem soutD (hc0 : cond0_0 i) (hc1 : ¬cond0_1 i) (hc2 : ¬cond0_2 i)
    (r : Fin 512) (l : Fin 1024) :
    sout0_D_0 c i arg2 harg2 arg3 harg3 arg4 harg4 arg5 harg5 arg6 harg6 arg8 harg8 arg9 harg9 arg10 harg10 arg11 harg11 hc0 hc1 hc2 x0 x1 x2 x3 x4 (ix2 r l) =
      uPart x2 x3 r l := by
  unfold sout0_D_0
  rw [View.read_writes_eq_canon _ _ _ (fun y => scover0_D_0 (y := y) ..)]
  unfold kernelRun0_D
  dsimp only
  sl_unfold_words
  simp only [View.canon_cons_unit_zero (S := S512x1024) hz, View.canon_unit_zero (S := S512x1024) hz]
  simp only [View.readAt_eq_ld, Memref.IsWhole.read_unread, View.readCov_cons_toLoadRect,
    View.ld_unit_zero (S := S512x1024) hz, View.ld_unit_zero (S := S1x1024) hz, View.ld_unit_zero (S := S1024x1408) hz, View.ld_unit_zero (S := S512x1408) hz]
  pointwise [k0_pay3, k0_pay1]
  rfl

theorem soutB (hc0 : ¬cond0_0 i) (hc1 : ¬cond0_1 i) (hc2 : ¬cond0_2 i)
    (r : Fin 512) (l : Fin 1024) :
    sout0_B_0 c i arg2 harg2 arg3 harg3 arg4 harg4 arg5 harg5 arg6 harg6 arg8 harg8 arg9 harg9 arg10 harg10 arg11 harg11 hc0 hc1 hc2 x0 x1 x2 x3 x4 xs0 (ix2 r l) =
      uAcc xs0 x2 x3 r l := by
  unfold sout0_B_0
  rw [View.read_writes_eq_canon _ _ _ (fun y => scover0_B_0 (y := y) ..)]
  unfold kernelRun0_B
  dsimp only
  sl_unfold_words
  simp only [View.canon_cons_unit_zero (S := S512x1024) hz, View.canon_unit_zero (S := S512x1024) hz]
  simp only [View.readAt_eq_ld, Memref.IsWhole.read_unread, View.readCov_cons_toLoadRect,
    View.ld_unit_zero (S := S512x1024) hz, View.ld_unit_zero (S := S1x1024) hz, View.ld_unit_zero (S := S1024x1408) hz, View.ld_unit_zero (S := S512x1408) hz]
  pointwise [k0_pay3]
  rfl

theorem soutC (hc0 : ¬cond0_0 i) (hc1 : ¬cond0_1 i) (hc2 : cond0_2 i)
    (r : Fin 512) (l : Fin 1024) :
    sout0_C_0 c i arg2 harg2 arg3 harg3 arg4 harg4 arg5 harg5 arg6 harg6 arg8 harg8 arg9 harg9 arg10 harg10 arg11 harg11 hc0 hc1 hc2 x0 x1 x2 x3 x4 xo7 xs0 (ix2 r l) =
      uAcc xs0 x2 x3 r l := by
  unfold sout0_C_0
  rw [View.read_writes_eq_canon _ _ _ (fun y => scover0_C_0 (y := y) ..)]
  unfold kernelRun0_C
  dsimp only
  sl_unfold_words
  simp only [View.canon_cons_unit_zero (S := S512x1024) hz, View.canon_unit_zero (S := S512x1024) hz]
  simp only [View.readAt_eq_ld, Memref.IsWhole.read_unread, View.readCov_cons_toLoadRect,
    View.ld_unit_zero (S := S512x1024) hz, View.ld_unit_zero (S := S1x1024) hz, View.ld_unit_zero (S := S1024x1408) hz, View.ld_unit_zero (S := S512x1408) hz]
  pointwise [k0_pay3]
  rfl

theorem outC5 (hc0 : ¬cond0_0 i) (hc1 : ¬cond0_1 i) (hc2 : cond0_2 i)
    (r : Fin 512) (l : Fin 1024) :
    out0_C_5 c i arg2 harg2 arg3 harg3 arg4 harg4 arg5 harg5 arg6 harg6 arg8 harg8 arg9 harg9 arg10 harg10 arg11 harg11 hc0 hc1 hc2 x0 x1 x2 x3 x4 xo7 xs0 (ix2 r l) =
      dhRow (fun x => x0 (ix2 r x)) (fun x => x1 (ix2 0 x)) (uAcc xs0 x2 x3 r) (fun x => x4 (ix2 r x)) l := by
  unfold out0_C_5
  rw [View.read_writes_eq_canon _ _ _ (fun y => cover0_C_5 (y := y) ..)]
  unfold kernelRun0_C
  dsimp only
  sl_unfold_words
  simp only [View.canon_cons_unit_zero (S := S512x1024) hz, View.canon_unit_zero (S := S512x1024) hz]
  simp only [View.readAt_eq_ld, Memref.IsWhole.read_unread, View.readCov_cons_toLoadRect,
    View.ld_unit_zero (S := S512x1024) hz, View.ld_unit_zero (S := S1x1024) hz, View.ld_unit_zero (S := S1024x1408) hz, View.ld_unit_zero (S := S512x1408) hz]
  pointwise [k0_pay4, k0_pay12, k0_pay11, k0_pay3, k0_pay9, k0_pay7, k0_pay6, k0_pay5]
  rfl

theorem outC6 (hc0 : ¬cond0_0 i) (hc1 : ¬cond0_1 i) (hc2 : cond0_2 i)
    (r : Fin 512) (l : Fin 1024) :
    out0_C_6 c i arg2 harg2 arg3 harg3 arg4 harg4 arg5 harg5 arg6 harg6 arg8 harg8 arg9 harg9 arg10 harg10 arg11 harg11 hc0 hc1 hc2 x0 x1 x2 x3 x4 xo7 xs0 (ix2 r l) =
      x0 (ix2 r l) * rsq (fun x => x0 (ix2 r x)) * x1 (ix2 0 l) := by
  unfold out0_C_6
  rw [View.read_writes_eq_canon _ _ _ (fun y => cover0_C_6 (y := y) ..)]
  unfold kernelRun0_C
  dsimp only
  sl_unfold_words
  simp only [View.canon_cons_unit_zero (S := S512x1024) hz, View.canon_unit_zero (S := S512x1024) hz]
  simp only [View.readAt_eq_ld, Memref.IsWhole.read_unread, View.readCov_cons_toLoadRect,
    View.ld_unit_zero (S := S512x1024) hz, View.ld_unit_zero (S := S1x1024) hz, View.ld_unit_zero (S := S1024x1408) hz, View.ld_unit_zero (S := S512x1408) hz]
  pointwise [k0_pay8, k0_pay7, k0_pay6, k0_pay5]
  rfl

theorem outA7 (hc0 : cond0_0 i) (hc1 : cond0_1 i) (hc2 : ¬cond0_2 i)
    (r : Fin 1) (l : Fin 1024) :
    out0_A_7 c i arg2 harg2 arg3 harg3 arg4 harg4 arg5 harg5 arg6 harg6 arg8 harg8 arg9 harg9 arg10 harg10 arg11 harg11 hc0 hc1 hc2 x0 x1 x2 x3 x4 (ix2 r l) =
      0 := by
  unfold out0_A_7
  rw [View.read_writes_eq_canon _ _ _ (fun y => cover0_A_7 (y := y) ..)]
  unfold kernelRun0_A
  dsimp only
  sl_unfold_words
  simp only [View.canon_cons_unit_zero (S := S1x1024) hz, View.canon_unit_zero (S := S1x1024) hz]
  pointwise [k0_pay2]

theorem outC7 (hc0 : ¬cond0_0 i) (hc1 : ¬cond0_1 i) (hc2 : cond0_2 i)
    (r : Fin 1) (l : Fin 1024) :
    out0_C_7 c i arg2 harg2 arg3 harg3 arg4 harg4 arg5 harg5 arg6 harg6 arg8 harg8 arg9 harg9 arg10 harg10 arg11 harg11 hc0 hc1 hc2 x0 x1 x2 x3 x4 xo7 xs0 (ix2 r l) =
      xo7 (ix2 r l) + gRows x0 (uAcc xs0 x2 x3) l := by
  unfold out0_C_7
  rw [View.read_writes_eq_canon _ _ _ (fun y => cover0_C_7 (y := y) ..)]
  unfold kernelRun0_C
  dsimp only
  sl_unfold_words
  simp only [View.canon_cons_unit_zero (S := S1x1024) hz, View.canon_unit_zero (S := S1x1024) hz]
  simp only [View.readAt_eq_ld, Memref.IsWhole.read_unread, View.readCov_cons_toLoadRect,
    View.ld_unit_zero (S := S512x1024) hz, View.ld_unit_zero (S := S1x1024) hz, View.ld_unit_zero (S := S1024x1408) hz, View.ld_unit_zero (S := S512x1408) hz]
  pointwise [k0_pay10, k0_pay3, k0_pay9, k0_pay6, k0_pay5]
  rfl
end

/-! ## What each point reads -/

theorem V_v0 (μ : (ℓ : Loc nD τ sig) → Buf (Elt Ideal) ℓ) (c : Dev nD) : V μ c main_v0 =
    shapeCast S1x1024 (μ ((c : Thread nD τ).loc main_arg1)) shapeCasts_S1024_S1x1024 := by
  rfl
/-- The last 32 columns of the weights, set apart. -/
def headsW (w : Vec Ideal S1024x5152 .f32) : Vec Ideal S1024x512 .f32 :=
  shapeCast S1024x512 (pad S1024x4x128 ![0, 0, 0] ![0, 0, 120] ![0, 0, 0]
    (shapeCast S1024x4x8 (extractStridedSlice S1024x32 ![0, 5120] w slices_S1024x5152_S1024x32_0_5120) shapeCasts_S1024x32_S1024x4x8)
    (sitofp .f32 (constantI S_ 32 0#32) : FVec Ideal S_ .f32) pads_S1024x4x8_S1024x4x128_000_000_01200 h_S_) shapeCasts_S1024x4x128_S1024x512
/-- All the columns, the last 32 set apart. -/
def wideW (w : Vec Ideal S1024x5152 .f32) : Vec Ideal S1024x5632 .f32 :=
  concatenate S1024x5632 1 [⟨S1024x5120, extractStridedSlice S1024x5120 ![0, 0] w slices_S1024x5152_S1024x5120_0_0⟩, ⟨S1024x512, headsW w⟩]
    concatenates_S1024x5120_S1024x512_S1024x5632_d1
theorem headsW_apply (w : Vec Ideal S1024x5152 .f32) (r : Fin 1024) (k : Fin 512) : headsW w (ix2 r k) =
    if h : k.val % 128 < 8 then w (ix2 r ⟨5120 + (k.val / 128 * 8 + k.val % 128), by omega⟩) else 0 := by
  pointwise [headsW]
  have hz : FloatOps.sitofp (F := Ideal) .f32 0#32 = (0 : EReal) := by
    show (((0#32 : BitVec 32).toInt : ℝ) : EReal) = 0
    rw [show (0#32 : BitVec 32).toInt = 0 by decide, Int.cast_zero, EReal.coe_zero]
  by_cases h : k.val % 128 < 8
  · rw [dif_pos ⟨by omega, h⟩, dif_pos h]
  · rw [dif_neg (fun h' => h h'.2), dif_neg h]
    exact hz
theorem wideW_apply (w : Vec Ideal S1024x5152 .f32) (r : Fin 1024) (k : Fin 5632) : wideW w (ix2 r k) = spread (fun x => w (ix2 r x)) k := by
  pointwise [wideW]
  unfold spread
  by_cases h : k.val < 5120
  · rw [dif_pos h, dif_pos h]
  · rw [dif_neg h, dif_neg h, headsW_apply]
theorem V_w (μ : (ℓ : Loc nD τ sig) → Buf (Elt Ideal) ℓ) (c : Dev nD) (r : Fin 1024) (k : Fin 5632) :
    V μ c main_v7 (ix2 r k) = spread (fun x => μ ((c : Thread nD τ).loc main_arg2) (ix2 r x)) k := by
  have e : V μ c main_v7 = wideW (μ ((c : Thread nD τ).loc main_arg2)) := by rfl
  rw [e]
  exact wideW_apply _ r k

/-- The last 32 columns of the product's cotangent, set apart. -/
def headsD (w : Vec Ideal S8192x5152 .f32) : Vec Ideal S8192x512 .f32 :=
  shapeCast S8192x512 (pad S8192x4x128 ![0, 0, 0] ![0, 0, 120] ![0, 0, 0]
    (shapeCast S8192x4x8 (extractStridedSlice S8192x32 ![0, 5120] w slices_S8192x5152_S8192x32_0_5120) shapeCasts_S8192x32_S8192x4x8)
    (sitofp .f32 (constantI S_ 32 0#32) : FVec Ideal S_ .f32) pads_S8192x4x8_S8192x4x128_000_000_01200 h_S_) shapeCasts_S8192x4x128_S8192x512
/-- All the columns, the last 32 set apart. -/
def wideD (w : Vec Ideal S8192x5152 .f32) : Vec Ideal S8192x5632 .f32 :=
  concatenate S8192x5632 1 [⟨S8192x5120, extractStridedSlice S8192x5120 ![0, 0] w slices_S8192x5152_S8192x5120_0_0⟩, ⟨S8192x512, headsD w⟩]
    concatenates_S8192x5120_S8192x512_S8192x5632_d1
theorem headsD_apply (w : Vec Ideal S8192x5152 .f32) (r : Fin 8192) (k : Fin 512) : headsD w (ix2 r k) =
    if h : k.val % 128 < 8 then w (ix2 r ⟨5120 + (k.val / 128 * 8 + k.val % 128), by omega⟩) else 0 := by
  pointwise [headsD]
  have hz : FloatOps.sitofp (F := Ideal) .f32 0#32 = (0 : EReal) := by
    show (((0#32 : BitVec 32).toInt : ℝ) : EReal) = 0
    rw [show (0#32 : BitVec 32).toInt = 0 by decide, Int.cast_zero, EReal.coe_zero]
  by_cases h : k.val % 128 < 8
  · rw [dif_pos ⟨by omega, h⟩, dif_pos h]
  · rw [dif_neg (fun h' => h h'.2), dif_neg h]
    exact hz
theorem wideD_apply (w : Vec Ideal S8192x5152 .f32) (r : Fin 8192) (k : Fin 5632) : wideD w (ix2 r k) = spread (fun x => w (ix2 r x)) k := by
  pointwise [wideD]
  unfold spread
  by_cases h : k.val < 5120
  · rw [dif_pos h, dif_pos h]
  · rw [dif_neg h, dif_neg h, headsD_apply]
theorem V_d (μ : (ℓ : Loc nD τ sig) → Buf (Elt Ideal) ℓ) (c : Dev nD) (r : Fin 8192) (k : Fin 5632) :
    V μ c main_v14 (ix2 r k) = spread (fun x => μ ((c : Thread nD τ).loc main_arg3) (ix2 r x)) k := by
  have e : V μ c main_v14 = wideD (μ ((c : Thread nD τ).loc main_arg3)) := by rfl
  rw [e]
  exact wideD_apply _ r k

theorem lt64 (t : Fin cfg0.N) : t.val < 64 := lt_of_lt_of_eq t.isLt N_0
/-- A point's row `r` of the arrays. -/
abbrev row (t : Fin cfg0.N) (r : Fin 512) : Fin 8192 := ⟨512 * (t.val / 4) + r.val, by have := lt64 t; omega⟩
theorem idx0 (t : Fin cfg0.N) : win0_0.index t 0 = t.val / 4 ∧ win0_0.index t 1 = 0 :=
  (by decide +kernel : ∀ t : Fin grid0.N, win0_0.index t 0 = t.val / 4 ∧ win0_0.index t 1 = 0) t
theorem idx4 (t : Fin cfg0.N) : win0_4.index t 0 = t.val / 4 ∧ win0_4.index t 1 = 0 :=
  (by decide +kernel : ∀ t : Fin grid0.N, win0_4.index t 0 = t.val / 4 ∧ win0_4.index t 1 = 0) t
theorem idx5 (t : Fin cfg0.N) : win0_5.index t 0 = t.val / 4 ∧ win0_5.index t 1 = 0 :=
  (by decide +kernel : ∀ t : Fin grid0.N, win0_5.index t 0 = t.val / 4 ∧ win0_5.index t 1 = 0) t
theorem idx6 (t : Fin cfg0.N) : win0_6.index t 0 = t.val / 4 ∧ win0_6.index t 1 = 0 :=
  (by decide +kernel : ∀ t : Fin grid0.N, win0_6.index t 0 = t.val / 4 ∧ win0_6.index t 1 = 0) t
theorem idx1 (t : Fin cfg0.N) : win0_1.index t 0 = 0 ∧ win0_1.index t 1 = 0 :=
  (by decide +kernel : ∀ t : Fin grid0.N, win0_1.index t 0 = 0 ∧ win0_1.index t 1 = 0) t
theorem idx7 (t : Fin cfg0.N) : win0_7.index t 0 = 0 ∧ win0_7.index t 1 = 0 :=
  (by decide +kernel : ∀ t : Fin grid0.N, win0_7.index t 0 = 0 ∧ win0_7.index t 1 = 0) t
theorem idx2 (t : Fin cfg0.N) : win0_2.index t 0 = 0 ∧ win0_2.index t 1 = t.val % 4 :=
  (by decide +kernel : ∀ t : Fin grid0.N, win0_2.index t 0 = 0 ∧ win0_2.index t 1 = t.val % 4) t
theorem idx3 (t : Fin cfg0.N) : win0_3.index t 0 = t.val / 4 ∧ win0_3.index t 1 = t.val % 4 :=
  (by decide +kernel : ∀ t : Fin grid0.N, win0_3.index t 0 = t.val / 4 ∧ win0_3.index t 1 = t.val % 4) t

section
variable (μ : (ℓ : Loc nD τ sig) → Buf (Elt Ideal) ℓ) (c : Dev nD) (t : Fin cfg0.N)
theorem iblk0_apply (r : Fin 512) (l : Fin 1024) :
    (iblk μ c 0 t : Vec Ideal S512x1024 .f32) (ix2 r l) = μ ((c : Thread nD τ).loc main_arg0) (ix2 (row t r) l) := by
  unfold iblk
  rw [View.read_apply]
  show V μ c main_arg0 _ = _
  rw [V_main_arg0]
  congr 1
  obtain ⟨h0, h1⟩ := idx0 t
  funext a
  apply Fin.ext
  match a with
  | ⟨0, _⟩ => show win0_0.index t 0 * 512 + 1 * r.val = 512 * (t.val / 4) + r.val; rw [h0]; omega
  | ⟨1, _⟩ => show win0_0.index t 1 * 1024 + 1 * l.val = l.val; rw [h1]; omega
theorem iblk4_apply (r : Fin 512) (l : Fin 1024) :
    (iblk μ c 4 t : Vec Ideal S512x1024 .f32) (ix2 r l) = μ ((c : Thread nD τ).loc main_arg4) (ix2 (row t r) l) := by
  unfold iblk
  rw [View.read_apply]
  show V μ c main_arg4 _ = _
  rw [V_main_arg4]
  congr 1
  obtain ⟨h0, h1⟩ := idx4 t
  funext a
  apply Fin.ext
  match a with
  | ⟨0, _⟩ => show win0_4.index t 0 * 512 + 1 * r.val = 512 * (t.val / 4) + r.val; rw [h0]; omega
  | ⟨1, _⟩ => show win0_4.index t 1 * 1024 + 1 * l.val = l.val; rw [h1]; omega
theorem iblk1_apply (l : Fin 1024) :
    (iblk μ c 1 t : Vec Ideal S1x1024 .f32) (ix2 0 l) = μ ((c : Thread nD τ).loc main_arg1) (ix1 l) := by
  unfold iblk
  rw [View.read_apply]
  show V μ c main_v0 _ = _
  rw [V_v0]
  have e : ((cfg0.win 1).blk t).view.emb (ix2 0 l) = (ix2 0 l : S1x1024.Idx) := by
    obtain ⟨h0, h1⟩ := idx1 t
    funext a
    apply Fin.ext
    match a with
    | ⟨0, _⟩ => show win0_1.index t 0 * 1 + 1 * 0 = 0; rw [h0]
    | ⟨1, _⟩ => show win0_1.index t 1 * 1024 + 1 * l.val = l.val; rw [h1]; omega
  refine (congrArg _ e).trans ?_
  pointwise []
/-- A point's column `k` of the weights set apart. -/
abbrev colW (s : ℕ) (k : Fin 1408) : Fin 5632 := ⟨(1408 * s + k.val) % 5632, Nat.mod_lt _ (by norm_num)⟩
theorem iblk2_apply (r : Fin 1024) (k : Fin 1408) :
    (iblk μ c 2 t : Vec Ideal S1024x1408 .bf16) (ix2 r k) = spread (fun x => μ ((c : Thread nD τ).loc main_arg2) (ix2 r x)) (colW (t.val % 4) k) := by
  unfold iblk
  rw [View.read_apply, ← V_w μ c]
  show V μ c main_v7 _ = V μ c main_v7 _
  congr 1
  obtain ⟨h0, h1⟩ := idx2 t
  funext a
  apply Fin.ext
  match a with
  | ⟨0, _⟩ => show win0_2.index t 0 * 1024 + 1 * r.val = r.val; rw [h0]; omega
  | ⟨1, _⟩ => show win0_2.index t 1 * 1408 + 1 * k.val = (1408 * (t.val % 4) + k.val) % 5632; rw [h1]; omega
theorem iblk3_apply (r : Fin 512) (k : Fin 1408) :
    (iblk μ c 3 t : Vec Ideal S512x1408 .bf16) (ix2 r k) = spread (fun x => μ ((c : Thread nD τ).loc main_arg3) (ix2 (row t r) x)) (colW (t.val % 4) k) := by
  unfold iblk
  rw [View.read_apply, ← V_d μ c]
  show V μ c main_v14 _ = V μ c main_v14 _
  congr 1
  obtain ⟨h0, h1⟩ := idx3 t
  funext a
  apply Fin.ext
  match a with
  | ⟨0, _⟩ => show win0_3.index t 0 * 512 + 1 * r.val = 512 * (t.val / 4) + r.val; rw [h0]; omega
  | ⟨1, _⟩ => show win0_3.index t 1 * 1408 + 1 * k.val = (1408 * (t.val % 4) + k.val) % 5632; rw [h1]; omega

/-! ## The results, over the whole arrays -/

/-- Row `T` of the input. -/
abbrev hM (T : Fin 8192) (x : Fin 1024) : EReal := μ ((c : Thread nD τ).loc main_arg0) (ix2 T x)
/-- The norm's scale. -/
abbrev gM (x : Fin 1024) : EReal := μ ((c : Thread nD τ).loc main_arg1) (ix1 x)
/-- The product's cotangent. -/
abbrev dM (T : Fin 8192) (x : Fin 5152) : EReal := μ ((c : Thread nD τ).loc main_arg3) (ix2 T x)
/-- The product's weights. -/
abbrev wM (x : Fin 1024) (k : Fin 5152) : EReal := μ ((c : Thread nD τ).loc main_arg2) (ix2 x k)
/-- The cotangent of the norm's output: the product's cotangent times the transposed weights. -/
def uM (T : Fin 8192) (x : Fin 1024) : EReal := ∑ k : Fin 5152, dM μ c T k * wM μ c x k
/-- The residual's cotangent. -/
abbrev rM (T : Fin 8192) (x : Fin 1024) : EReal := μ ((c : Thread nD τ).loc main_arg4) (ix2 T x)
/-- The norm's output. -/
def nM (T : Fin 8192) (l : Fin 1024) : EReal := hM μ c T l * rsq (hM μ c T) * gM μ c l
/-- The input's gradient. -/
def dhM (T : Fin 8192) (l : Fin 1024) : EReal := dhRow (hM μ c T) (gM μ c) (uM μ c T) (rM μ c T) l
/-- One row's part of the scale's gradient. -/
def gPart (l : Fin 1024) (T : Fin 8192) : EReal := uM μ c T l * (hM μ c T l * rsq (hM μ c T))

/-- The scale's gradient. -/
def dgM (l : Fin 1024) : EReal := ∑ T, gPart μ c l T

/-- The part of a row's cotangent that the `s`-th columns of the weights give. -/
def uS (T : Fin 8192) (x : Fin 1024) (s : ℕ) : EReal := ∑ k : Fin 1408, spread (dM μ c T) (colW s k) * spread (wM μ c x) (colW s k)
theorem uPart_eq (r : Fin 512) (l : Fin 1024) : uPart (iblk μ c 2 t) (iblk μ c 3 t) r l = uS μ c (row t r) l (t.val % 4) := by
  unfold uPart uS
  refine Finset.sum_congr rfl fun k _ => ?_
  rw [iblk2_apply, iblk3_apply]
/-- The four parts together. -/
theorem uM_eq (T : Fin 8192) (x : Fin 1024) : ∑ s ∈ Finset.range 4, uS μ c T x s = uM μ c T x := by
  unfold uM
  rw [← sum_spread, Fin.sum_univ_tiles 4 1408 (by norm_num), Finset.sum_range]
  refine Finset.sum_congr rfl fun s _ => Finset.sum_congr rfl fun k _ => ?_
  have e : colW s.val k = ⟨s.val * 1408 + k.val, by omega⟩ := by
    apply Fin.ext; dsimp only; omega
  rw [e]
theorem h_eq (r : Fin 512) : (fun x => (iblk μ c 0 t : Vec Ideal S512x1024 .f32) (ix2 r x)) = hM μ c (row t r) :=
  funext fun x => iblk0_apply μ c t r x
theorem g_eq : (fun x => (iblk μ c 1 t : Vec Ideal S1x1024 .f32) (ix2 0 x)) = gM μ c :=
  funext fun x => iblk1_apply μ c t x
theorem r_eq (r : Fin 512) : (fun x => (iblk μ c 4 t : Vec Ideal S512x1024 .f32) (ix2 r x)) = rM μ c (row t r) :=
  funext fun x => iblk4_apply μ c t r x

end

section
variable (μ : (ℓ : Loc nD τ sig) → Buf (Elt Ideal) ℓ) (c : Dev nD)

/-- After a point the carried block holds the parts of its rows so far. -/
theorem scr_at : ∀ (n : ℕ) (h : n < cfg0.N) (r : Fin 512) (l : Fin 1024), (outsAt0 μ c n h).2.2.2 (ix2 r l) =
    ∑ s ∈ Finset.range (n % 4 + 1), uS μ c (row ⟨n, h⟩ r) l s := by
  intro n
  induction n with
  | zero =>
    intro h r l
    rw [show outsAt0 μ c 0 h = _ from outsAt0_A μ c ⟨0, h⟩ rfl rfl (show ¬0 % 4 = 3 by decide)]
    dsimp only
    rw [soutA, uPart_eq, Finset.sum_range_one]
    rfl
  | succ n ih =>
    intro h r l
    have hN : cfg0.N = 64 := N_0
    by_cases h0 : (n + 1) % 4 = 0
    · by_cases h1 : (n + 1) % 64 = 0
      · omega
      · rw [show outsAt0 μ c (n + 1) h = _ from outsAt0_D μ c ⟨n + 1, h⟩ h0 h1 (by dsimp only; omega)]
        dsimp only
        rw [soutD, uPart_eq, h0, Finset.sum_range_one]
    · have hr : row ⟨n + 1, h⟩ r = row ⟨n, Nat.lt_of_succ_lt h⟩ r := by apply Fin.ext; dsimp only; omega
      have hp := ih (Nat.lt_of_succ_lt h) r l
      by_cases h2 : (n + 1) % 4 = 3
      · rw [show outsAt0 μ c (n + 1) h = _ from outsAt0_C μ c ⟨n + 1, h⟩ h0 (by dsimp only; omega) h2]
        dsimp only
        rw [soutC, Finset.sum_range_succ]
        unfold uAcc
        rw [uPart_eq, hr]
        exact congrArg (· + _) (hp.trans (by rw [show n % 4 + 1 = (n + 1) % 4 by omega]))
      · rw [show outsAt0 μ c (n + 1) h = _ from outsAt0_B μ c ⟨n + 1, h⟩ h0 (by dsimp only; omega) h2]
        dsimp only
        rw [soutB, Finset.sum_range_succ]
        unfold uAcc
        rw [uPart_eq, hr]
        exact congrArg (· + _) (hp.trans (by rw [show n % 4 + 1 = (n + 1) % 4 by omega]))

/-- The point before. -/
abbrev pred (t : Fin cfg0.N) : Fin cfg0.N := ⟨t.val - 1, Nat.lt_of_le_of_lt (Nat.sub_le _ _) t.isLt⟩

/-- At a row block's last point the carried block and that point's part are the cotangent. -/
theorem uAcc_eq (t : Fin cfg0.N) (h : t.val % 4 = 3) (r : Fin 512) :
    uAcc (outsAt0 μ c (pred t).val (pred t).isLt).2.2.2 (iblk μ c 2 t) (iblk μ c 3 t) r = uM μ c (row t r) := by
  funext l
  unfold uAcc
  rw [scr_at, uPart_eq, ← uM_eq, h, show (pred t).val % 4 + 1 = 3 by dsimp only [pred]; omega, Finset.sum_range_succ _ 3]
  have hr : row ⟨(pred t).val, (pred t).isLt⟩ r = row t r := by apply Fin.ext; dsimp only [pred]; omega
  rw [hr]

/-- What a row block's last point leaves for the input's gradient. -/
theorem out5_at (t : Fin cfg0.N) (h : t.val % 4 = 3) (r : Fin 512) (l : Fin 1024) : (outsAt0 μ c t.val t.isLt).1 (ix2 r l) = dhM μ c (row t r) l := by
  unfold dhM
  rw [← h_eq, ← g_eq μ c t, ← uAcc_eq μ c t h, ← r_eq]
  rw [outsAt0_C μ c t (by omega) (by omega) h]; dsimp only; rw [outC5]
/-- What a row block's last point leaves for the norm's output. -/
theorem out6_at (t : Fin cfg0.N) (h : t.val % 4 = 3) (r : Fin 512) (l : Fin 1024) : (outsAt0 μ c t.val t.isLt).2.1 (ix2 r l) = nM μ c (row t r) l := by
  unfold nM
  rw [← h_eq, ← g_eq μ c t]
  rw [outsAt0_C μ c t (by omega) (by omega) h]; dsimp only; rw [outC6]

/-- Row `r` of the `s`-th block. -/
abbrev rowB (s : ℕ) (r : Fin 512) : Fin 8192 := ⟨(512 * s + r.val) % 8192, Nat.mod_lt _ (by norm_num)⟩
theorem part_eq (t : Fin cfg0.N) (h : t.val % 4 = 3) (l : Fin 1024) :
    gRows (iblk μ c 0 t) (uAcc (outsAt0 μ c (pred t).val (pred t).isLt).2.2.2 (iblk μ c 2 t) (iblk μ c 3 t)) l =
      ∑ r : Fin 512, gPart μ c l (rowB (t.val / 4) r) := by
  unfold gRows
  refine Finset.sum_congr rfl fun r _ => ?_
  rw [uAcc_eq μ c t h, h_eq, iblk0_apply]
  have e : row t r = rowB (t.val / 4) r := by
    have := lt64 t
    exact Fin.ext (Nat.mod_eq_of_lt (by omega)).symm
  rw [e]; rfl
/-- After a point the scale's block holds the sum over the row blocks that are done. -/
theorem out7_at : ∀ (n : ℕ) (h : n < cfg0.N) (l : Fin 1024), (outsAt0 μ c n h).2.2.1 (ix2 0 l) =
    ∑ s ∈ Finset.range ((n + 1) / 4), ∑ r : Fin 512, gPart μ c l (rowB s r) := by
  intro n
  induction n with
  | zero =>
    intro h l
    rw [show outsAt0 μ c 0 h = _ from outsAt0_A μ c ⟨0, h⟩ rfl rfl (show ¬0 % 4 = 3 by decide)]
    dsimp only
    rw [outA7]
    rfl
  | succ n ih =>
    intro h l
    have hN : cfg0.N = 64 := N_0
    have hp := ih (Nat.lt_of_succ_lt h) l
    by_cases h2 : (n + 1) % 4 = 3
    · rw [show outsAt0 μ c (n + 1) h = _ from outsAt0_C μ c ⟨n + 1, h⟩ (by dsimp only; omega) (by dsimp only; omega) h2]
      dsimp only
      rw [outC7, show (n + 1 + 1) / 4 = (n + 1) / 4 + 1 by omega, Finset.sum_range_succ]
      exact congrArg₂ (· + ·) hp (part_eq μ c ⟨n + 1, h⟩ h2 l)
    · rw [show (n + 1 + 1) / 4 = (n + 1) / 4 by omega, ← hp]
      by_cases h0 : (n + 1) % 4 = 0
      · rw [show outsAt0 μ c (n + 1) h = _ from outsAt0_D μ c ⟨n + 1, h⟩ h0 (by dsimp only; omega) h2]
        rfl
      · rw [show outsAt0 μ c (n + 1) h = _ from outsAt0_B μ c ⟨n + 1, h⟩ h0 (by dsimp only; omega) h2]
        rfl

/-! ## The final arrays -/

/-- The input's gradient array. -/
abbrev dhArr : Buf (Elt Ideal) ((c : Thread nD τ).loc main_v16_0) := fun i : S8192x1024.Idx => dhM μ c (i 0) (i 1)
/-- The norm's output array. -/
abbrev nArr : Buf (Elt Ideal) ((c : Thread nD τ).loc main_v16_1) := fun i : S8192x1024.Idx => nM μ c (i 0) (i 1)
/-- The scale's gradient array. -/
abbrev dgArr : Buf (Elt Ideal) ((c : Thread nD τ).loc main_v16_2) := fun i : S1x1024.Idx => dgM μ c (i 1)

theorem final_dh : (dats μ 0 c).arrAt 5 cfg0.N = dhArr μ c := by
  refine (dats μ 0 c).arrAt_eq_of_cover 5 (dhArr μ c) (fun t hf => ?_) fun i => ?_
  · have ht : t.val % 4 = 3 := (flush0_5 t).mp hf
    rw [Value.flushed5]
    obtain ⟨h0, h1⟩ := idx5 t
    funext j
    rw [View.read_apply]
    obtain ⟨r, l, rfl⟩ : ∃ (r : Fin 512) (l : Fin 1024), j = ix2 r l := ⟨j 0, j 1, eq_ix2 j⟩
    have he : ((cfg0.win 5).blk t).view.emb (ix2 r l) = (ix2 (row t r) l : S8192x1024.Idx) := by
      funext a
      apply Fin.ext
      match a with
      | ⟨0, _⟩ => show win0_5.index t 0 * 512 + 1 * r.val = 512 * (t.val / 4) + r.val; rw [h0]; omega
      | ⟨1, _⟩ => show win0_5.index t 1 * 1024 + 1 * l.val = l.val; rw [h1]; omega
    rw [he]
    exact out5_at μ c t ht r l
  · have l0 : (i 0 : Nat) < 8192 := (i 0).isLt
    have l1 : (i 1 : Nat) < 1024 := (i 1).isLt
    have hN : cfg0.N = 64 := N_0
    let t : Fin cfg0.N := ⟨4 * ((i 0 : Nat) / 512) + 3, by omega⟩
    refine ⟨t, (flush0_5 t).mpr (by dsimp only [t]; omega), ?_⟩
    show i ∈ ((View.whole main_v16_0).slice (win0_5.rect t)).set
    rw [View.set_slice_whole, Rect.mem_set_unit]
    obtain ⟨h0, h1⟩ := idx5 t
    intro a
    match a with
    | ⟨0, _⟩ => show win0_5.index t 0 * 512 ≤ (i 0 : Nat) ∧ (i 0 : Nat) < win0_5.index t 0 * 512 + 512
                rw [h0]; dsimp only [t]; omega
    | ⟨1, _⟩ => show win0_5.index t 1 * 1024 ≤ (i 1 : Nat) ∧ (i 1 : Nat) < win0_5.index t 1 * 1024 + 1024
                rw [h1]; omega

theorem final_n : (dats μ 0 c).arrAt 6 cfg0.N = nArr μ c := by
  refine (dats μ 0 c).arrAt_eq_of_cover 6 (nArr μ c) (fun t hf => ?_) fun i => ?_
  · have ht : t.val % 4 = 3 := (flush0_6 t).mp hf
    rw [Value.flushed6]
    obtain ⟨h0, h1⟩ := idx6 t
    funext j
    rw [View.read_apply]
    obtain ⟨r, l, rfl⟩ : ∃ (r : Fin 512) (l : Fin 1024), j = ix2 r l := ⟨j 0, j 1, eq_ix2 j⟩
    have he : ((cfg0.win 6).blk t).view.emb (ix2 r l) = (ix2 (row t r) l : S8192x1024.Idx) := by
      funext a
      apply Fin.ext
      match a with
      | ⟨0, _⟩ => show win0_6.index t 0 * 512 + 1 * r.val = 512 * (t.val / 4) + r.val; rw [h0]; omega
      | ⟨1, _⟩ => show win0_6.index t 1 * 1024 + 1 * l.val = l.val; rw [h1]; omega
    rw [he]
    exact out6_at μ c t ht r l
  · have l0 : (i 0 : Nat) < 8192 := (i 0).isLt
    have l1 : (i 1 : Nat) < 1024 := (i 1).isLt
    have hN : cfg0.N = 64 := N_0
    let t : Fin cfg0.N := ⟨4 * ((i 0 : Nat) / 512) + 3, by omega⟩
    refine ⟨t, (flush0_6 t).mpr (by dsimp only [t]; omega), ?_⟩
    show i ∈ ((View.whole main_v16_1).slice (win0_6.rect t)).set
    rw [View.set_slice_whole, Rect.mem_set_unit]
    obtain ⟨h0, h1⟩ := idx6 t
    intro a
    match a with
    | ⟨0, _⟩ => show win0_6.index t 0 * 512 ≤ (i 0 : Nat) ∧ (i 0 : Nat) < win0_6.index t 0 * 512 + 512
                rw [h0]; dsimp only [t]; omega
    | ⟨1, _⟩ => show win0_6.index t 1 * 1024 ≤ (i 1 : Nat) ∧ (i 1 : Nat) < win0_6.index t 1 * 1024 + 1024
                rw [h1]; omega

/-- The sum over the blocks is the sum over all rows. -/
theorem sum_blocks (f : Fin 8192 → EReal) : ∑ s ∈ Finset.range 16, ∑ r : Fin 512, f (rowB s r) = ∑ T : Fin 8192, f T := by
  rw [Fin.sum_univ_tiles 16 512 (by norm_num), Finset.sum_range]
  refine Finset.sum_congr rfl fun s _ => Finset.sum_congr rfl fun r _ => congrArg f (Fin.ext ?_)
  show (512 * s.val + r.val) % 8192 = _
  have := s.isLt
  dsimp only
  omega
theorem final_dg : (dats μ 0 c).arrAt 7 cfg0.N = dgArr μ c := by
  have hN : cfg0.N = 64 := N_0
  refine (dats μ 0 c).arrAt_eq_of_cover 7 (dgArr μ c) (fun t hf => ?_) fun i => ?_
  · have ht : t.val = 63 := by have := (flush0_7 t).mp hf; have := lt64 t; omega
    rw [Value.flushed7]
    obtain ⟨h0, h1⟩ := idx7 t
    funext j
    rw [View.read_apply]
    obtain ⟨r, l, rfl⟩ : ∃ (r : Fin 1) (l : Fin 1024), j = ix2 r l := ⟨j 0, j 1, eq_ix2 j⟩
    obtain rfl : r = 0 := Subsingleton.elim _ _
    have he : ((cfg0.win 7).blk t).view.emb (ix2 0 l) = (ix2 0 l : S1x1024.Idx) := by
      funext a
      apply Fin.ext
      match a with
      | ⟨0, _⟩ => show win0_7.index t 0 * 1 + 1 * 0 = 0; rw [h0]
      | ⟨1, _⟩ => show win0_7.index t 1 * 1024 + 1 * l.val = l.val; rw [h1]; omega
    rw [he]
    refine (out7_at μ c t.val t.isLt l).trans ?_
    rw [ht]
    exact sum_blocks _
  · have l0 : (i 0 : Nat) < 1 := (i 0).isLt
    have l1 : (i 1 : Nat) < 1024 := (i 1).isLt
    let t : Fin cfg0.N := ⟨63, by omega⟩
    refine ⟨t, (flush0_7 _).mpr (by dsimp only [t]), ?_⟩
    show i ∈ ((View.whole main_v16_2).slice (win0_7.rect t)).set
    rw [View.set_slice_whole, Rect.mem_set_unit]
    obtain ⟨h0, h1⟩ := idx7 t
    intro a
    match a with
    | ⟨0, _⟩ => show win0_7.index t 0 * 1 ≤ (i 0 : Nat) ∧ (i 0 : Nat) < win0_7.index t 0 * 1 + 1
                rw [h0]; omega
    | ⟨1, _⟩ => show win0_7.index t 1 * 1024 ≤ (i 1 : Nat) ∧ (i 1 : Nat) < win0_7.index t 1 * 1024 + 1024
                rw [h1]; omega
end

end Cert.NormInIdeal.Hand
end
-- ==== Proof.NormInRef.lean ====
module

public import proofs.«01_k».proof.Proof.NormInValue
public import proofs.«01_k».proof.Defs
public import proofs.«01_k».proof.Proof.Gen.NormInRefIdeal.Read
public import proofs.«01_k».proof.Proof.Silu

/-! The norm's backward kernel on the state-space input product computes the reference's gradient. -/

@[expose] public section
set_option maxRecDepth 16384
noncomputable section
namespace Cert.NormInIdeal.Hand

/-! ## The reference, read at an index -/

section
open Cert.NormInRefIdeal Cert.NormInRefIdeal.Gen Cert.NormInRefIdeal.Read Idealize.ShloMosaic Idealize.ShloMosaic.TcCoe Idealize.SL.Sem Cert.Norm
variable (x0 : Vec Ideal S8192x1024 .f32) (x1 : Vec Ideal S1024 .f32) (x2 : Vec Ideal S1024x5152 .f32) (x3 : Vec Ideal S8192x5152 .f32) (x4 : Vec Ideal S8192x1024 .f32)

/-- The cotangent of the norm's output. -/
def uR (T : Fin 8192) (l : Fin 1024) : EReal := ∑ k, x3 (ix2 T k) * x2 (ix2 l k)
theorem ref_du (T : Fin 8192) (l : Fin 1024) : val_main_v24 x1 x2 x3 (ix2 T l) = uR x2 x3 T l * x1 (ix1 l) := by
  pointwise [val_main_v24, val_main_v23, val_main_v19, val_main_v14, val_main_v13]
  rfl
theorem ref_ms (T : Fin 8192) : val_main_v6 x0 (ix2 T 0) = msq (fun x => x0 (ix2 T x)) := by
  pointwise [val_main_v6, val_main_v5, val_main_v4, val_main_v3, val_main_v2, val_main_v1, val_main_v0, val_main_cst, val_main_cst_0, val_main_cst_1]
  rfl
theorem ref_rs (T : Fin 8192) : val_main_v7 x0 (ix2 T 0) = rsq (fun x => x0 (ix2 T x)) := by
  pointwise [val_main_v7]
  rw [ref_ms]
  rfl
theorem ref_dh (T : Fin 8192) (l : Fin 1024) : val_main_v40 x0 x1 x2 x3 x4 (ix2 T l) =
    dhRef (fun x => x0 (ix2 T x)) (fun x => x1 (ix1 x)) (uR x2 x3 T) (fun x => x4 (ix2 T x)) l := by
  pointwise [val_main_v40, val_main_v39, val_main_v38, val_main_v37, val_main_v36, val_main_v35, val_main_v34, val_main_v33, val_main_v32,
    val_main_v31, val_main_v30, val_main_v29, val_main_v28, val_main_v27, val_main_v26, val_main_cst_4, val_main_cst_5, val_main_cst_6, val_main_cst_7,
    val_main_v10, val_main_v9, val_main_v8, val_main_cst_2]
  simp only [Finset.univ_unique, Finset.sum_singleton]
  have e6 : val_main_v6 x0 (ix2 T default) = _ := ref_ms x0 T
  have d7 : val_main_v7 x0 (ix2 T default) = _ := ref_rs x0 T
  have e7 := ref_rs x0 T
  simp only [e6, e7, d7, ref_du]
  rfl
theorem ref_n (T : Fin 8192) (l : Fin 1024) : val_main_v54 x0 x1 (ix2 T l) = x0 (ix2 T l) * rsq (fun x => x0 (ix2 T x)) * x1 (ix1 l) := by
  pointwise [val_main_v54, val_main_v53, val_main_v52, val_main_v51, val_main_v50, val_main_v49, val_main_v48, val_main_v47, val_main_v46, val_main_v45,
    val_main_v44, val_main_v43, val_main_v42, val_main_v41, val_main_cst_8, val_main_cst_9, val_main_cst_10]
  rfl
theorem ref_dg (l : Fin 1024) : val_main_v55 x0 x2 x3 (ix2 0 l) = ∑ T, uR x2 x3 T l * (x0 (ix2 T l) * rsq (fun x => x0 (ix2 T x))) := by
  pointwise [val_main_v55, val_main_v25, val_main_cst_4, val_main_v22, val_main_v21, val_main_v20, val_main_v19, val_main_v12, val_main_v11, val_main_cst_3]
  simp only [Finset.univ_unique, Finset.sum_singleton]
  simp only [ref_rs]
  exact Finset.sum_congr rfl fun T _ => mul_comm _ _
end

/-! ## The claims -/

section
open Cert.NormInIdeal Cert.NormInIdeal.Gen Idealize.ShloMosaic Idealize.ShloMosaic.TcCoe Idealize.SL.Sem Cert.Util Cert.Norm

theorem pre_facts : Cert.Pre_pre_norm_in.Facts := ⟨by decide, by decide, by decide, by decide⟩

/-- The reference's frame: its run read at the arguments; it has no semaphore. -/
theorem frame_ref : Cert.quiescent_NormInRefIdeal (hNormInRefIdeal := Cert.NormInRefIdeal.Gen.facts) := fun m ρ _ =>
  (θ_run Cert.NormInRefIdeal.defs _ _).mono (fun r h => ⟨fun c => (h c).2.2.2, sem_eq_zero_of_no_sems (by decide) r.2⟩)
    (Cert.NormInRefIdeal.Value.run (F := Ideal) m ρ)

/-- Under the precondition the input's gradient is the chain rule's. -/
theorem dh_ref (m : (ℓ : Loc nD τ sig) → Buf (Elt Ideal) ℓ) (h : Cert.Pre_NormInIdeal_pre_norm_in (hPre_pre_norm_in := pre_facts) m) (c : Dev nD)
    (T : Fin 8192) (l : Fin 1024) : dhM m c T l = dhRef (hM m c T) (gM m c) (uM m c T) (rM m c T) l := by
  obtain ⟨h0, h1, h2, h3⟩ := h c
  refine dhRow_eq _ _ _ _ (fun k => real_of_finite (congrFun h0 (ix2 T k))) (fun k => real_of_finite (congrFun h1 (ix1 k))) (fun k => ?_) l
  exact real_dot _ _ (fun j => real_of_finite (congrFun h3 (ix2 T j))) (fun j => real_of_finite (congrFun h2 (ix2 k j)))

/-- The norm and the state-space input product backward: the kernel's arrays are the reference's. -/
theorem algebraic : Cert.algebraic_NormInIdeal_NormInRefIdeal_pre_pre_norm_in (hNormInIdeal := Cert.NormInIdeal.Gen.facts)
    (hNormInRefIdeal := Cert.NormInRefIdeal.Gen.facts) (hPre_pre_norm_in := pre_facts) := by
  intro m g m' g' hpre hm
  refine ⟨dhArr m, nArr m, dgArr m, ?_, ?_⟩
  · refine (θ_run _ _ _).mono (fun r h c => ?_) (Cert.NormInIdeal.Value.run_blocks m g)
    obtain ⟨h0, h1, h2, h3⟩ := h c
    exact ⟨h0.trans (final_dh m c), h1.trans (final_n m c), h2.trans (final_dg m c), h3⟩
  · refine (θ_run _ _ _).mono (fun r h c => ?_) (Cert.NormInRefIdeal.Value.run m' g')
    obtain ⟨h0, h1, h2, h3⟩ := h c
    obtain ⟨a0, a1, a2, a3, a4⟩ := hm c
    refine ⟨h0.trans ?_, h1.trans ?_, h2.trans ?_, h3⟩
    · rw [Cert.NormInRefIdeal.Read.val_main_v40_eq, a0, a1, a2, a3, a4]
      funext j
      refine (congrArg _ (eq_ix2 j)).trans ((ref_dh _ _ _ _ _ (j 0) (j 1)).trans (dh_ref m hpre c (j 0) (j 1)).symm)
    · rw [Cert.NormInRefIdeal.Read.val_main_v54_eq, a0, a1]
      funext j
      exact (congrArg _ (eq_ix2 j)).trans (ref_n _ _ (j 0) (j 1))
    · rw [Cert.NormInRefIdeal.Read.val_main_v55_eq, a0, a2, a3]
      funext j
      obtain ⟨r, l, rfl⟩ : ∃ (r : Fin 1) (l : Fin 1024), j = ix2 r l := ⟨j 0, j 1, eq_ix2 j⟩
      obtain rfl : r = 0 := Subsingleton.elim _ _
      exact ref_dg _ _ _ l
end

end Cert.NormInIdeal.Hand
end
-- ==== Proof.AttnFwdBody.lean ====
module

public import proofs.«01_k».proof.Proof.Gen.AttnFwdIdeal.Value
public import proofs.«01_k».proof.Proof.NormMath
public import Idealize.ShloMosaic.Lib.Claim

/-! The attention block's body in its own parts: the norms, the scores of one group of eight heads, their softmax, the
output. -/

@[expose] public section
set_option maxRecDepth 16384
noncomputable section
namespace Cert.AttnFwdIdeal.Hand
open Cert.AttnFwdIdeal Cert.AttnFwdIdeal.Gen Idealize.ShloMosaic Idealize.ShloMosaic.TcCoe Idealize.SL.Sem Cert.Util Cert.Norm

theorem hz : (![0, 0] : Fin 2 → Nat) = fun _ => 0 := funext fun a => by fin_cases a <;> rfl

variable {F : FTy → Type} [FloatOps F] [Named F]

/-- Ones in the two diagonal blocks of 64 lanes. -/
def seg : FVec F S128x128 .bf16 := k0_pay13 (F := F) k0_pay9 k0_pay10 k0_pay11 k0_pay12
/-- The keys a query row sees at grid point `i`. -/
def valid (i : grid0.Coords) : IVec S1024x256 1 :=
  k0_pay17 (Scalar.cmpi .eq (BitVec.ofNat 32 (i 0).val) 0#32) (Scalar.select (Scalar.cmpi .eq 128#32 0#32) 1#32 128#32) k0_pay14 k0_pay15 k0_pay16 0#32

/-- The second and third of the three bf16 parts of a block are made from what the parts before leave. -/
def rest128 (x : FVec F S128x128 .f32) : FVec F S128x128 .f32 := subf x (extf .f32 (truncf .bf16 x bitsLt_bf16_f32) bitsLt_bf16_f32)
def rest256 (x : FVec F S256x128 .f32) : FVec F S256x128 .f32 := subf x (extf .f32 (truncf .bf16 x bitsLt_bf16_f32) bitsLt_bf16_f32)
/-- A block's rows summed in each of their two groups of 64 lanes. -/
def segSum128 (x : FVec F S128x128 .f32) : FVec F S128x128 .f32 :=
  addf (addf
    (matmul dot_S128x128_S128x128_S128x128_1_0_0_1_n_n none (truncf .bf16 x bitsLt_bf16_f32) seg (constant S128x128 .f32 0x00000000#32))
    (matmul dot_S128x128_S128x128_S128x128_1_0_0_1_n_n none (truncf .bf16 (rest128 x) bitsLt_bf16_f32) seg (constant S128x128 .f32 0x00000000#32)))
    (matmul dot_S128x128_S128x128_S128x128_1_0_0_1_n_n none (truncf .bf16 (rest128 (rest128 x)) bitsLt_bf16_f32) seg (constant S128x128 .f32 0x00000000#32))
def segSum256 (x : FVec F S256x128 .f32) : FVec F S256x128 .f32 :=
  addf (addf
    (matmul dot_S256x128_S128x128_S256x128_1_0_0_1_n_n none (truncf .bf16 x bitsLt_bf16_f32) seg (constant S256x128 .f32 0x00000000#32))
    (matmul dot_S256x128_S128x128_S256x128_1_0_0_1_n_n none (truncf .bf16 (rest256 x) bitsLt_bf16_f32) seg (constant S256x128 .f32 0x00000000#32)))
    (matmul dot_S256x128_S128x128_S256x128_1_0_0_1_n_n none (truncf .bf16 (rest256 (rest256 x)) bitsLt_bf16_f32) seg (constant S256x128 .f32 0x00000000#32))
/-- A block's norm in each group of 64 lanes, scaled. -/
def norm128 (g : FVec F S1x128 .f32) (x : FVec F S128x128 .f32) : FVec F S128x128 .f32 :=
  mulf (mulf x (rsqrt (addf (mulf (segSum128 (mulf x x)) (broadcast S128x128 (Scalar.ofBits .f32 0x3C800000#32)))
    (broadcast S128x128 (Scalar.ofBits .f32 0x358637BD#32))))) (broadcastTo S128x128 g broadcasts_S1x128_S128x128)
def norm256 (g : FVec F S1x128 .f32) (x : FVec F S256x128 .f32) : FVec F S256x128 .f32 :=
  mulf (mulf x (rsqrt (addf (mulf (segSum256 (mulf x x)) (broadcast S256x128 (Scalar.ofBits .f32 0x3C800000#32)))
    (broadcast S256x128 (Scalar.ofBits .f32 0x358637BD#32))))) (broadcastTo S256x128 g broadcasts_S1x128_S256x128)

/-- A pair of heads' queries: the first head's lanes alone, and the second's. -/
def lowHalf (x : FVec F S128x128 .f32) : FVec F S128x128 .f32 := select k0_pay18 x (broadcast S128x128 (Scalar.ofBits .f32 0x00000000#32))
def highHalf (x : FVec F S128x128 .f32) : FVec F S128x128 .f32 := select k0_pay18 (broadcast S128x128 (Scalar.ofBits .f32 0x00000000#32)) x
/-- The queries of a group's eight heads, one below the other. -/
def stack (a b c d : FVec F S128x128 .f32) : FVec F S1024x128 .f32 :=
  concatenate S1024x128 0 [⟨S128x128, lowHalf a⟩, ⟨S128x128, highHalf a⟩, ⟨S128x128, lowHalf b⟩, ⟨S128x128, highHalf b⟩, ⟨S128x128, lowHalf c⟩, ⟨S128x128, highHalf c⟩, ⟨S128x128, lowHalf d⟩, ⟨S128x128, highHalf d⟩] concatenates_S128x128_S128x128_S128x128_S128x128_S128x128_S128x128_S128x128_S128x128_S1024x128_d0
/-- A head's sink down its rows. -/
def sinkCol (x : FVec F S1x1 .f32) : FVec F S128x1 .f32 := broadcastTo S128x1 (shapeCast S1x1 x shapeCasts_S1x1_S1x1) broadcasts_S1x1_S128x1
def sinkStack (a b c d e f g h : FVec F S1x1 .f32) : FVec F S1024x1 .f32 :=
  concatenate S1024x1 0 [⟨S128x1, sinkCol a⟩, ⟨S128x1, sinkCol b⟩, ⟨S128x1, sinkCol c⟩, ⟨S128x1, sinkCol d⟩, ⟨S128x1, sinkCol e⟩, ⟨S128x1, sinkCol f⟩, ⟨S128x1, sinkCol g⟩, ⟨S128x1, sinkCol h⟩] concatenates_S128x1_S128x1_S128x1_S128x1_S128x1_S128x1_S128x1_S128x1_S1024x1_d0

/-- A group's scores. -/
def scores (ok : IVec S1024x256 1) (q : FVec F S1024x128 .f32) (k : FVec F S256x128 .f32) (b : FVec F S1024x256 .f32) : FVec F S1024x256 .f32 :=
  select ok (addf (mulf (matmul dot_S1024x128_S256x128_S1024x256_1_1_0_0_n_n none (truncf .bf16 q bitsLt_bf16_f32) (truncf .bf16 k bitsLt_bf16_f32)
    (constant S1024x256 .f32 0x00000000#32)) (broadcast S1024x256 (Scalar.ofBits .f32 0x3E000000#32))) b)
    (broadcast S1024x256 (Named.named κ "mask" 0xF149F2CA#32))
/-- The largest score of a row, and of its sink. -/
def top (s : FVec F S1024x256 .f32) (z : FVec F S1024x1 .f32) : FVec F S1024x1 .f32 :=
  maximumf (shapeCast S1024x1 (multiReduction .maximumf [1] S1024 s 0xFF800000#32 reduces_S1024x256_S1024 (.inl rfl) rfl) shapeCasts_S1024_S1024x1) z
def expo (s : FVec F S1024x256 .f32) (m : FVec F S1024x1 .f32) : FVec F S1024x256 .f32 :=
  exp (subf s (broadcastTo S1024x256 m broadcasts_S1024x1_S1024x256))
/-- The softmax's denominator. -/
def denom (p : FVec F S1024x256 .f32) (z m : FVec F S1024x1 .f32) : FVec F S1024x1 .f32 :=
  addf (shapeCast S1024x1 (multiReduction .add [1] S1024 p 0x00000000#32 reduces_S1024x256_S1024 (.inl rfl) rfl) shapeCasts_S1024_S1024x1) (exp (subf z m))
/-- The softmax's product with the values. -/
def mix (p : FVec F S1024x256 .f32) (d : FVec F S1024x1 .f32) (v : FVec F S256x128 .f32) : FVec F S1024x128 .f32 :=
  matmul dot_S1024x256_S256x128_S1024x128_1_0_0_1_n_n none
    (truncf .bf16 (mulf p (broadcastTo S1024x256 (divf (broadcast S1024x1 (Scalar.ofBits .f32 0x3F800000#32)) d) broadcasts_S1024x1_S1024x256)) bitsLt_bf16_f32)
    (truncf .bf16 v bitsLt_bf16_f32) (constant S1024x128 .f32 0x00000000#32)
def attend (s : FVec F S1024x256 .f32) (z : FVec F S1024x1 .f32) (v : FVec F S256x128 .f32) : FVec F S1024x128 .f32 :=
  mix (expo s (top s z)) (denom (expo s (top s z)) z (top s z)) v

/-- The two blocks of keys and values a point reads. -/
def kvCat (x2 x3 : FVec F S128x512 .f32) : FVec F S256x512 .f32 :=
  concatenate S256x512 0 [⟨S128x512, x2⟩, ⟨S128x512, x3⟩] concatenates_S128x512_S128x512_S256x512_d0
def q0 (x1 : FVec F S128x1024 .f32) : FVec F S128x128 .f32 := extractStridedSlice S128x128 ![0, 0] x1 slices_S128x1024_o0_0_S128x128
def q1 (x1 : FVec F S128x1024 .f32) : FVec F S128x128 .f32 := extractStridedSlice S128x128 ![0, 128] x1 slices_S128x1024_o0_128_S128x128
def q2 (x1 : FVec F S128x1024 .f32) : FVec F S128x128 .f32 := extractStridedSlice S128x128 ![0, 256] x1 slices_S128x1024_o0_256_S128x128
def q3 (x1 : FVec F S128x1024 .f32) : FVec F S128x128 .f32 := extractStridedSlice S128x128 ![0, 384] x1 slices_S128x1024_o0_384_S128x128
def q4 (x1 : FVec F S128x1024 .f32) : FVec F S128x128 .f32 := extractStridedSlice S128x128 ![0, 512] x1 slices_S128x1024_o0_512_S128x128
def q5 (x1 : FVec F S128x1024 .f32) : FVec F S128x128 .f32 := extractStridedSlice S128x128 ![0, 640] x1 slices_S128x1024_o0_640_S128x128
def q6 (x1 : FVec F S128x1024 .f32) : FVec F S128x128 .f32 := extractStridedSlice S128x128 ![0, 768] x1 slices_S128x1024_o0_768_S128x128
def q7 (x1 : FVec F S128x1024 .f32) : FVec F S128x128 .f32 := extractStridedSlice S128x128 ![0, 896] x1 slices_S128x1024_o0_896_S128x128
def sinks0 (x5 : FVec F S1x128 .f32) : FVec F S1024x1 .f32 :=
  sinkStack (extractStridedSlice S1x1 ![0, 0] x5 slices_S1x128_o0_0_S1x1) (extractStridedSlice S1x1 ![0, 1] x5 slices_S1x128_o0_1_S1x1)
    (extractStridedSlice S1x1 ![0, 2] x5 slices_S1x128_o0_2_S1x1) (extractStridedSlice S1x1 ![0, 3] x5 slices_S1x128_o0_3_S1x1)
    (extractStridedSlice S1x1 ![0, 4] x5 slices_S1x128_o0_4_S1x1) (extractStridedSlice S1x1 ![0, 5] x5 slices_S1x128_o0_5_S1x1)
    (extractStridedSlice S1x1 ![0, 6] x5 slices_S1x128_o0_6_S1x1) (extractStridedSlice S1x1 ![0, 7] x5 slices_S1x128_o0_7_S1x1)
def sinks1 (x5 : FVec F S1x128 .f32) : FVec F S1024x1 .f32 :=
  sinkStack (extractStridedSlice S1x1 ![0, 8] x5 slices_S1x128_o0_8_S1x1) (extractStridedSlice S1x1 ![0, 9] x5 slices_S1x128_o0_9_S1x1)
    (extractStridedSlice S1x1 ![0, 10] x5 slices_S1x128_o0_10_S1x1) (extractStridedSlice S1x1 ![0, 11] x5 slices_S1x128_o0_11_S1x1)
    (extractStridedSlice S1x1 ![0, 12] x5 slices_S1x128_o0_12_S1x1) (extractStridedSlice S1x1 ![0, 13] x5 slices_S1x128_o0_13_S1x1)
    (extractStridedSlice S1x1 ![0, 14] x5 slices_S1x128_o0_14_S1x1) (extractStridedSlice S1x1 ![0, 15] x5 slices_S1x128_o0_15_S1x1)
def keys0 (x7 : FVec F S1x128 .f32) (kv : FVec F S256x512 .f32) : FVec F S256x128 .f32 :=
  norm256 x7 (extractStridedSlice S256x128 ![0, 0] kv slices_S256x512_o0_0_S256x128)
def keys1 (x7 : FVec F S1x128 .f32) (kv : FVec F S256x512 .f32) : FVec F S256x128 .f32 :=
  norm256 x7 (extractStridedSlice S256x128 ![0, 128] kv slices_S256x512_o0_128_S256x128)
def group0 (i : grid0.Coords) (x1 : FVec F S128x1024 .f32) (kv : FVec F S256x512 .f32) (x4 : FVec F S2048x256 .f32) (x5 x6 x7 : FVec F S1x128 .f32) : FVec F S1024x128 .f32 :=
  attend (scores (valid i) (stack (norm128 x6 (q0 x1)) (norm128 x6 (q1 x1)) (norm128 x6 (q2 x1)) (norm128 x6 (q3 x1))) (keys0 x7 kv)
    (extractStridedSlice S1024x256 ![0, 0] x4 slices_S2048x256_o0_0_S1024x256)) (sinks0 x5) (extractStridedSlice S256x128 ![0, 256] kv slices_S256x512_o0_256_S256x128)
def group1 (i : grid0.Coords) (x1 : FVec F S128x1024 .f32) (kv : FVec F S256x512 .f32) (x4 : FVec F S2048x256 .f32) (x5 x6 x7 : FVec F S1x128 .f32) : FVec F S1024x128 .f32 :=
  attend (scores (valid i) (stack (norm128 x6 (q4 x1)) (norm128 x6 (q5 x1)) (norm128 x6 (q6 x1)) (norm128 x6 (q7 x1))) (keys1 x7 kv)
    (extractStridedSlice S1024x256 ![1024, 0] x4 slices_S2048x256_o1024_0_S1024x256)) (sinks1 x5) (extractStridedSlice S256x128 ![0, 384] kv slices_S256x512_o0_384_S256x128)
/-- The two heads of a pair side by side. -/
def pair0 (o : FVec F S1024x128 .f32) : FVec F S128x128 .f32 :=
  select k0_pay18 (extractStridedSlice S128x128 ![0, 0] o slices_S1024x128_o0_0_S128x128) (extractStridedSlice S128x128 ![128, 0] o slices_S1024x128_o128_0_S128x128)
def pair1 (o : FVec F S1024x128 .f32) : FVec F S128x128 .f32 :=
  select k0_pay18 (extractStridedSlice S128x128 ![256, 0] o slices_S1024x128_o256_0_S128x128) (extractStridedSlice S128x128 ![384, 0] o slices_S1024x128_o384_0_S128x128)
def pair2 (o : FVec F S1024x128 .f32) : FVec F S128x128 .f32 :=
  select k0_pay18 (extractStridedSlice S128x128 ![512, 0] o slices_S1024x128_o512_0_S128x128) (extractStridedSlice S128x128 ![640, 0] o slices_S1024x128_o640_0_S128x128)
def pair3 (o : FVec F S1024x128 .f32) : FVec F S128x128 .f32 :=
  select k0_pay18 (extractStridedSlice S128x128 ![768, 0] o slices_S1024x128_o768_0_S128x128) (extractStridedSlice S128x128 ![896, 0] o slices_S1024x128_o896_0_S128x128)
/-- All heads' outputs, side by side. -/
def heads (a b : FVec F S1024x128 .f32) : FVec F S128x1024 .f32 :=
  concatenate S128x1024 1 [⟨S128x128, pair0 a⟩, ⟨S128x128, pair1 a⟩, ⟨S128x128, pair2 a⟩, ⟨S128x128, pair3 a⟩, ⟨S128x128, pair0 b⟩, ⟨S128x128, pair1 b⟩, ⟨S128x128, pair2 b⟩, ⟨S128x128, pair3 b⟩] concatenates_S128x128_S128x128_S128x128_S128x128_S128x128_S128x128_S128x128_S128x128_S128x1024_d1
def block (x0 : FVec F S128x1024 .f32) (a b : FVec F S1024x128 .f32) (x8 : FVec F S1024x1024 .bf16) : FVec F S128x1024 .f32 :=
  addf x0 (matmul dot_S128x1024_S1024x1024_S128x1024_1_0_0_1_n_n none (truncf .bf16 (heads a b) bitsLt_bf16_f32) x8 (constant S128x1024 .f32 0x00000000#32))

/-- What a point writes, in these parts. -/
theorem out_eq (i : grid0.Coords) (x0 x1 : Vec F S128x1024 .f32) (x2 x3 : Vec F S128x512 .f32) (x4 : Vec F S2048x256 .f32) (x5 x6 x7 : Vec F S1x128 .f32) (x8 : Vec F S1024x1024 .bf16) :
    out0_9 i x0 x1 x2 x3 x4 x5 x6 x7 x8 = View.canon [⟨r0_0, block ((View.ld x0 r0_0))
      (group0 i (View.ld x1 r0_0) (kvCat (k0_pay2 (View.ld x2 r0_1)) (k0_pay3 (View.ld x3 r0_1))) (k0_pay4 (View.ld x4 r0_2)) (k0_pay5 (View.ld x5 r0_3)) (k0_pay6 (View.ld x6 r0_3)) (k0_pay7 (View.ld x7 r0_3)))
      (group1 i (View.ld x1 r0_0) (kvCat (k0_pay2 (View.ld x2 r0_1)) (k0_pay3 (View.ld x3 r0_1))) (k0_pay4 (View.ld x4 r0_2)) (k0_pay5 (View.ld x5 r0_3)) (k0_pay6 (View.ld x6 r0_3)) (k0_pay7 (View.ld x7 r0_3)))
      (k0_pay8 (View.ld x8 r0_4))⟩] := by
  rfl

end Cert.AttnFwdIdeal.Hand
end
-- ==== Proof.AttnMath.lean ====
module

public import proofs.«01_k».proof.Proof.NormMath
public import proofs.«01_k».proof.Proof.Silu

/-! A query row's attention over its 256 keys and its sink: the norms of 64 lanes, the score, the softmax in the two ways
it is computed, and the keys a row sees. -/

@[expose] public section
set_option maxRecDepth 16384
noncomputable section
namespace Cert.Attn
open Idealize.ShloMosaic Cert.Util Cert.Norm

/-! ## Constants -/

theorem bits_64 : Ideal.ofBits .f32 0x42800000#32 = ((64 : ℝ) : EReal) := by
  simp [Ideal.ofBits, Ideal.ieee]; rw [← EReal.coe_mul]; norm_num
theorem bits_inv64 : Ideal.ofBits .f32 0x3C800000#32 = ((1 / 64 : ℝ) : EReal) := by
  simp [Ideal.ofBits, Ideal.ieee]; rw [← EReal.coe_mul]; norm_num
theorem bits_eighth : Ideal.ofBits .f32 0x3E000000#32 = ((1 / 8 : ℝ) : EReal) := by
  simp [Ideal.ofBits, Ideal.ieee]; rw [← EReal.coe_mul]; norm_num
theorem bits_ninf : Ideal.ofBits .f32 0xFF800000#32 = ⊥ := by simp [Ideal.ofBits, Ideal.ieee]

/-- Dividing by 64 is multiplying by its reciprocal. -/
theorem div_64 (x : EReal) : Ideal.div x (Ideal.ofBits .f32 0x42800000#32) = x * Ideal.ofBits .f32 0x3C800000#32 := by
  rw [bits_64, bits_inv64, div_coe _ (by norm_num)]
  norm_num

/-! ## The norm of a head's 64 lanes -/

/-- The mean square of 64 lanes, and ε. -/
def hms (x : Fin 64 → EReal) : EReal := (∑ d, x d * x d) * Ideal.ofBits .f32 0x3C800000#32 + Ideal.ofBits .f32 0x358637BD#32
/-- The scaled norm. -/
def hn (x g : Fin 64 → EReal) (d : Fin 64) : EReal := x d * Ideal.rsqrt (hms x) * g d

theorem hms_real (x : Fin 64 → EReal) (hx : ∀ d, ∃ r : ℝ, x d = r) : ∃ m : ℝ, 0 < m ∧ hms x = m := by
  choose p hp using hx
  obtain ⟨e, he, hb⟩ := bits_eps
  refine ⟨(∑ d, p d * p d) * (1 / 64) + e, ?_, ?_⟩
  · have : 0 ≤ ∑ d, p d * p d := Finset.sum_nonneg fun d _ => _root_.mul_self_nonneg (p d)
    positivity
  · unfold hms
    rw [bits_inv64, hb, EReal.coe_add, EReal.coe_mul, coe_sum]
    simp only [hp, EReal.coe_mul]
theorem hn_real (x g : Fin 64 → EReal) (hx : ∀ d, ∃ r : ℝ, x d = r) (hg : ∀ d, ∃ r : ℝ, g d = r) (d : Fin 64) : ∃ r : ℝ, hn x g d = r := by
  obtain ⟨m, hm, em⟩ := hms_real x hx
  obtain ⟨p, hp⟩ := hx d
  obtain ⟨q, hq⟩ := hg d
  exact ⟨p * (√m)⁻¹ * q, by rw [hn, em, rsqrt_coe hm, hp, hq, EReal.coe_mul, EReal.coe_mul]⟩

/-! ## One row's softmax with a sink -/

/-- A query's score with a key. -/
def score (q k : Fin 64 → EReal) (b : EReal) : EReal := (∑ d, q d * k d) * Ideal.ofBits .f32 0x3E000000#32 + b
theorem score_real (q k : Fin 64 → EReal) (b : EReal) (hq : ∀ d, ∃ r : ℝ, q d = r) (hk : ∀ d, ∃ r : ℝ, k d = r) (hb : ∃ r : ℝ, b = r) :
    ∃ r : ℝ, score q k b = r := by
  obtain ⟨s, hs⟩ := real_dot q k hq hk
  obtain ⟨t, ht⟩ := hb
  exact ⟨s * (1 / 8) + t, by rw [score, hs, ht, bits_eighth, EReal.coe_add, EReal.coe_mul]⟩

/-- The largest score of a row and its sink. -/
def rowTop (s : Fin 256 → EReal) (z : EReal) : EReal := max (Finset.fold max ⊥ s Finset.univ) z
/-- The softmax's denominator. -/
def rowDen (s : Fin 256 → EReal) (z : EReal) : EReal := ∑ j, Ideal.exp (s j - rowTop s z) + Ideal.exp (z - rowTop s z)
/-- The row's output, the exponentials times the denominator's reciprocal. -/
def rowOut (s v : Fin 256 → EReal) (z : EReal) : EReal :=
  ∑ j, Ideal.exp (s j - rowTop s z) * Ideal.div 1 (rowDen s z) * v j
/-- The row's output by the softmax's quotients. -/
def rowRef (s v : Fin 256 → EReal) (z : EReal) : EReal := ∑ j, v j * Ideal.div (Ideal.exp (s j - rowTop s z)) (rowDen s z)

theorem exp_coe (x : ℝ) : Ideal.exp (x : EReal) = ((Real.exp x : ℝ) : EReal) := rfl
theorem exp_bot : Ideal.exp (⊥ : EReal) = 0 := rfl

theorem fold_real (s : Fin 256 → EReal) (hs : ∀ j, s j = ⊥ ∨ ∃ r : ℝ, s j = r) (t : Finset (Fin 256)) :
    Finset.fold max ⊥ s t = ⊥ ∨ ∃ r : ℝ, Finset.fold max ⊥ s t = r := by
  classical
  induction t using Finset.induction_on with
  | empty => exact Or.inl rfl
  | insert a t ha ih =>
    rw [Finset.fold_insert ha]
    rcases max_choice (s a) (Finset.fold max ⊥ s t) with h | h <;> rw [h]
    · exact hs a
    · exact ih
theorem top_real (s : Fin 256 → EReal) (hs : ∀ j, s j = ⊥ ∨ ∃ r : ℝ, s j = r) (z : EReal) (hz : ∃ r : ℝ, z = r) : ∃ r : ℝ, rowTop s z = r := by
  obtain ⟨z, rfl⟩ := hz
  unfold rowTop
  rcases fold_real s hs Finset.univ with h | ⟨r, h⟩ <;> rw [h]
  · exact ⟨z, max_eq_right bot_le⟩
  · exact ⟨max r z, (EReal.coe_strictMono.monotone.map_max).symm⟩
theorem exp_real (s : Fin 256 → EReal) (hs : ∀ j, s j = ⊥ ∨ ∃ r : ℝ, s j = r) (t : ℝ) (j : Fin 256) : ∃ p : ℝ, 0 ≤ p ∧ Ideal.exp (s j - (t : EReal)) = p := by
  rcases hs j with h | ⟨r, h⟩ <;> rw [h]
  · exact ⟨0, le_rfl, by rw [show (⊥ : EReal) - (t : EReal) = ⊥ from EReal.bot_sub _, exp_bot, EReal.coe_zero]⟩
  · exact ⟨Real.exp (r - t), (Real.exp_pos _).le, by rw [← EReal.coe_sub, exp_coe]⟩
theorem den_real (s : Fin 256 → EReal) (hs : ∀ j, s j = ⊥ ∨ ∃ r : ℝ, s j = r) (z : EReal) (hz : ∃ r : ℝ, z = r) : ∃ d : ℝ, 0 < d ∧ rowDen s z = d := by
  obtain ⟨t, ht⟩ := top_real s hs z hz
  obtain ⟨z, rfl⟩ := hz
  choose p hp0 hp using exp_real s hs t
  refine ⟨∑ j, p j + Real.exp (z - t), add_pos_of_nonneg_of_pos (Finset.sum_nonneg fun j _ => hp0 j) (Real.exp_pos _), ?_⟩
  unfold rowDen
  rw [ht, EReal.coe_add, coe_sum, ← EReal.coe_sub, exp_coe]
  simp only [hp]

/-- The two outputs agree where the values of the seen keys do. -/
theorem row_eq (s v w : Fin 256 → EReal) (z : EReal) (hs : ∀ j, s j = ⊥ ∨ ∃ r : ℝ, s j = r) (hz : ∃ r : ℝ, z = r)
    (hv : ∀ j, s j ≠ ⊥ → v j = w j) : rowOut s v z = rowRef s w z := by
  obtain ⟨d, hd, ed⟩ := den_real s hs z hz
  obtain ⟨t, ht⟩ := top_real s hs z hz
  unfold rowOut rowRef
  rw [ed, ht]
  refine Finset.sum_congr rfl fun j _ => ?_
  rw [div_coe _ hd.ne', div_coe _ hd.ne', one_mul]
  by_cases h : s j = ⊥
  · rw [h, show (⊥ : EReal) - (t : EReal) = ⊥ from EReal.bot_sub _, exp_bot]
    simp
  · rw [hv j h, mul_comm]

/-! ## Lanes -/

/-- Lane `d` of a pair's head `s`. -/
abbrev lane (s : Fin 2) (d : Fin 64) : Fin 128 := ⟨64 * s.val + d.val, by omega⟩
/-- A sum over a pair's lanes where one head's count alone. -/
theorem sum_lane (f : Fin 128 → EReal) (s : Fin 2) : (∑ x : Fin 128, if x.val / 64 = s.val then f x else 0) = ∑ d : Fin 64, f (lane s d) := by
  rw [Fin.sum_univ_tiles 2 64 (by norm_num), Finset.sum_eq_single s]
  · refine Finset.sum_congr rfl fun d _ => ?_
    rw [if_pos (by dsimp only; omega)]
    exact congrArg f (Fin.ext (by dsimp only; omega))
  · intro b _ hb
    refine Finset.sum_eq_zero fun d _ => ?_
    rw [if_neg]
    dsimp only
    intro h
    exact hb (Fin.ext (by omega))
  · intro h
    exact absurd (Finset.mem_univ s) h

/-! ## The keys a row sees -/

/-- Row `r` of block `b` sees key `j` of the block before and its own: 128 keys back, and none before the first. -/
def sees (b : ℕ) (r : Fin 128) (j : Fin 256) : Prop := (r.val < j.val ∧ j.val ≤ r.val + 128) ∧ (b ≠ 0 ∨ 128 ≤ j.val)
instance (b : ℕ) (r : Fin 128) (j : Fin 256) : Decidable (sees b r j) := by unfold sees; infer_instance

theorem near_pos : ∀ d : Fin 256, IntOp.andi (IntOp.cmpi .sge (BitVec.ofNat 32 d.val) 0#32) (IntOp.cmpi .slt (BitVec.ofNat 32 d.val) 128#32) =
    if d.val < 128 then 1#1 else 0#1 := by decide +kernel
theorem near_neg : ∀ d : Fin 256, d.val ≠ 0 → IntOp.andi (IntOp.cmpi .sge (-BitVec.ofNat 32 d.val) 0#32) (IntOp.cmpi .slt (-BitVec.ofNat 32 d.val) 128#32) = 0#1 := by
  decide +kernel
theorem near_eq (r : Fin 128) (j : Fin 256) :
    IntOp.andi (IntOp.cmpi .sge (IntOp.subi (IntOp.addi (BitVec.ofNat 32 r.val) 128#32) (BitVec.ofNat 32 j.val)) 0#32)
      (IntOp.cmpi .slt (IntOp.subi (IntOp.addi (BitVec.ofNat 32 r.val) 128#32) (BitVec.ofNat 32 j.val)) 128#32) =
      if r.val < j.val ∧ j.val ≤ r.val + 128 then 1#1 else 0#1 := by
  by_cases h : j.val ≤ r.val + 128
  · have e : IntOp.subi (IntOp.addi (BitVec.ofNat 32 r.val) 128#32) (BitVec.ofNat 32 j.val) = BitVec.ofNat 32 (r.val + 128 - j.val) := by
      show BitVec.ofNat 32 r.val + 128#32 - BitVec.ofNat 32 j.val = _
      rw [← BitVec.ofNat_sub_ofNat_of_le _ _ (by omega) h, BitVec.ofNat_add]
    rw [e, near_pos ⟨r.val + 128 - j.val, by omega⟩]
    exact if_congr (by dsimp only; omega) rfl rfl
  · have e : IntOp.subi (IntOp.addi (BitVec.ofNat 32 r.val) 128#32) (BitVec.ofNat 32 j.val) = -BitVec.ofNat 32 (j.val - (r.val + 128)) := by
      show BitVec.ofNat 32 r.val + 128#32 - BitVec.ofNat 32 j.val = _
      rw [← BitVec.ofNat_sub_ofNat_of_le j.val (r.val + 128) (by omega) (by omega), BitVec.neg_sub, BitVec.ofNat_add, BitVec.sub_eq_add_neg, BitVec.add_comm]
    rw [e, near_neg ⟨j.val - (r.val + 128), by omega⟩ (by dsimp only; omega), if_neg (by omega)]
theorem late_eq : ∀ j : Fin 256, IntOp.cmpi .sge (BitVec.ofNat 32 j.val) 128#32 = if 128 ≤ j.val then 1#1 else 0#1 := by decide +kernel
theorem select_sees (b : ℕ) (r : Fin 128) (j : Fin 256) (u v : BitVec 1) (x y : EReal) (hu : u = if r.val < j.val ∧ j.val ≤ r.val + 128 then 1#1 else 0#1)
    (hv : v = if b ≠ 0 ∨ 128 ≤ j.val then 1#1 else 0#1) : Scalar.select (IntOp.andi u v) x y = if sees b r j then x else y := by
  subst hu hv
  unfold sees
  by_cases h1 : r.val < j.val ∧ j.val ≤ r.val + 128 <;> by_cases h2 : b ≠ 0 ∨ 128 ≤ j.val <;> simp only [h1, h2] <;> rfl

/-- A head's score row. -/
def rowS (b : ℕ) (r : Fin 128) (q : Fin 64 → EReal) (k : Fin 256 → Fin 64 → EReal) (bias : Fin 256 → EReal) (j : Fin 256) : EReal :=
  if sees b r j then score q (k j) (bias j) else ⊥
theorem rowS_real (b : ℕ) (r : Fin 128) (q : Fin 64 → EReal) (k : Fin 256 → Fin 64 → EReal) (bias : Fin 256 → EReal) (hq : ∀ d, ∃ r : ℝ, q d = r)
    (hk : ∀ j, sees b r j → ∀ d, ∃ r : ℝ, k j d = r) (hb : ∀ j, ∃ r : ℝ, bias j = r) (j : Fin 256) : rowS b r q k bias j = ⊥ ∨ ∃ t : ℝ, rowS b r q k bias j = t := by
  unfold rowS
  by_cases h : sees b r j
  · rw [if_pos h]
    exact Or.inr (score_real _ _ _ hq (hk j h) (hb j))
  · exact Or.inl (if_neg h)
theorem rowS_congr (b : ℕ) (r : Fin 128) (q : Fin 64 → EReal) (k k' : Fin 256 → Fin 64 → EReal) (bias : Fin 256 → EReal)
    (h : ∀ j, sees b r j → k j = k' j) : rowS b r q k bias = rowS b r q k' bias := by
  funext j
  unfold rowS
  by_cases hj : sees b r j
  · rw [if_pos hj, if_pos hj, h j hj]
  · rw [if_neg hj, if_neg hj]
theorem rowS_seen (b : ℕ) (r : Fin 128) (q : Fin 64 → EReal) (k : Fin 256 → Fin 64 → EReal) (bias : Fin 256 → EReal) (j : Fin 256)
    (h : rowS b r q k bias j ≠ ⊥) : sees b r j := by
  by_contra hj
  exact h (if_neg hj)

end Cert.Attn
end
-- ==== Proof.AttnFwdPt.lean ====
module

public import proofs.«01_k».proof.Proof.AttnFwdBody
public import proofs.«01_k».proof.Proof.AttnMath

/-! The attention block's parts, entry by entry. -/

@[expose] public section
set_option maxRecDepth 16384
noncomputable section
namespace Cert.AttnFwdIdeal.Hand
open Cert.AttnFwdIdeal Cert.AttnFwdIdeal.Gen Idealize.ShloMosaic Idealize.ShloMosaic.TcCoe Idealize.SL.Sem Cert.Util Cert.Norm Cert.Attn

/-! ## The norms -/

theorem half_eq : ∀ a : Fin 128, Scalar.select
          (IntOp.andi
            (IntOp.cmpi CmpIPredicate.ne
              (IntOp.subi (BitVec.setWidth 32 (IntOp.cmpi CmpIPredicate.sgt (BitVec.ofNat 32 a.val) 0#32))
                (BitVec.setWidth 32 (IntOp.cmpi CmpIPredicate.slt (BitVec.ofNat 32 a.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 a.val) 64#32) 0#32))
          (IntOp.subi (IntOp.divsi ArithUnit.vector (BitVec.ofNat 32 a.val) 64#32) 1#32)
          (IntOp.divsi ArithUnit.vector (BitVec.ofNat 32 a.val) 64#32) = BitVec.ofNat 32 (a.val / 64) := by
  decide +kernel
theorem same_half : ∀ a b : Fin 2, IntOp.cmpi .eq (BitVec.ofNat 32 a.val) (BitVec.ofNat 32 b.val) = if a.val = b.val then 1#1 else 0#1 := by decide +kernel
theorem seg_apply (a b : Fin 128) : (seg (F := Ideal)) (ix2 a b) = if a.val / 64 = b.val / 64 then (1 : EReal) else 0 := by
  pointwise [seg, k0_pay13, k0_pay9, k0_pay10, k0_pay11, k0_pay12]
  rw [half_eq a, half_eq b, same_half ⟨a.val / 64, by omega⟩ ⟨b.val / 64, by omega⟩]
  by_cases h : a.val / 64 = b.val / 64
  · rw [if_pos h, if_pos h]; rfl
  · rw [if_neg h, if_neg h]; rfl
theorem sum_seg (f : Fin 128 → EReal) (s : Fin 2) (d : Fin 64) : ∑ x : Fin 128, f x * (seg (F := Ideal)) (ix2 x (lane s d)) = ∑ d : Fin 64, f (lane s d) := by
  rw [← sum_lane f s]
  refine Finset.sum_congr rfl fun x _ => ?_
  rw [seg_apply]
  have e : (lane s d).val / 64 = s.val := by dsimp only; omega
  rw [e]
  by_cases h : x.val / 64 = s.val
  · rw [if_pos h, if_pos h, mul_one]
  · rw [if_neg h, if_neg h, mul_zero]
theorem sub_self_real {x : EReal} (h : ∃ r : ℝ, x = r) : x - x = 0 := by
  obtain ⟨r, rfl⟩ := h
  rw [← EReal.coe_sub, sub_self, EReal.coe_zero]
theorem zz : (0 : EReal) - 0 = 0 := sub_self_real ⟨0, rfl⟩
theorem segSum128_apply (x : FVec Ideal S128x128 .f32) (r : Fin 128) (hx : ∀ l, ∃ t : ℝ, x (ix2 r l) = t) (s : Fin 2) (d : Fin 64) :
    segSum128 x (ix2 r (lane s d)) = ∑ d : Fin 64, x (ix2 r (lane s d)) := by
  pointwise [segSum128, rest128]
  have e : ∀ l, x (ix2 r l) - x (ix2 r l) = 0 := fun l => sub_self_real (hx l)
  simp only [e, zz, zero_mul, Finset.sum_const_zero, add_zero]
  exact sum_seg (fun l => x (ix2 r l)) s d
theorem segSum256_apply (x : FVec Ideal S256x128 .f32) (r : Fin 256) (hx : ∀ l, ∃ t : ℝ, x (ix2 r l) = t) (s : Fin 2) (d : Fin 64) :
    segSum256 x (ix2 r (lane s d)) = ∑ d : Fin 64, x (ix2 r (lane s d)) := by
  pointwise [segSum256, rest256]
  have e : ∀ l, x (ix2 r l) - x (ix2 r l) = 0 := fun l => sub_self_real (hx l)
  simp only [e, zz, zero_mul, Finset.sum_const_zero, add_zero]
  exact sum_seg (fun l => x (ix2 r l)) s d
theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩
theorem norm128_apply (g : FVec Ideal S1x128 .f32) (x : FVec Ideal S128x128 .f32) (r : Fin 128) (hx : ∀ l, ∃ t : ℝ, x (ix2 r l) = t) (s : Fin 2) (d : Fin 64) :
    norm128 g x (ix2 r (lane s d)) = hn (fun d => x (ix2 r (lane s d))) (fun d => g (ix2 0 (lane s d))) d := by
  pointwise [norm128]
  rw [segSum128_apply _ r (fun l => real_mul (hx l) (hx l)) s d]
  rfl
theorem norm256_apply (g : FVec Ideal S1x128 .f32) (x : FVec Ideal S256x128 .f32) (r : Fin 256) (hx : ∀ l, ∃ t : ℝ, x (ix2 r l) = t) (s : Fin 2) (d : Fin 64) :
    norm256 g x (ix2 r (lane s d)) = hn (fun d => x (ix2 r (lane s d))) (fun d => g (ix2 0 (lane s d))) d := by
  pointwise [norm256]
  rw [segSum256_apply _ r (fun l => real_mul (hx l) (hx l)) s d]
  rfl

/-! ## A group's queries, sinks and mask -/

/-- Row `r` of head `n` of a group. -/
abbrev hrow (n : Fin 8) (r : Fin 128) : Fin 1024 := ⟨128 * n.val + r.val, by omega⟩
theorem low_eq : ∀ l : Fin 128, IntOp.cmpi .slt (BitVec.ofNat 32 l.val) 64#32 = if l.val / 64 = 0 then 1#1 else 0#1 := by decide +kernel
theorem lowHalf_apply (x : FVec Ideal S128x128 .f32) (r l : Fin 128) : lowHalf x (ix2 r l) = if l.val / 64 = (0 : Fin 2).val then x (ix2 r l) else 0 := by
  pointwise [lowHalf, k0_pay18]
  rw [low_eq]
  by_cases h : l.val / 64 = 0
  · rw [if_pos h, if_pos h]; rfl
  · rw [if_neg h, if_neg h]; rfl
theorem highHalf_apply (x : FVec Ideal S128x128 .f32) (r l : Fin 128) : highHalf x (ix2 r l) = if l.val / 64 = (1 : Fin 2).val then x (ix2 r l) else 0 := by
  pointwise [highHalf, k0_pay18]
  rw [low_eq]
  by_cases h : l.val / 64 = 0
  · rw [if_pos h, if_neg (by rw [h]; decide)]; rfl
  · rw [if_neg h, if_pos (by show l.val / 64 = 1; omega)]; rfl
/-- The pair a head of a group belongs to. -/
def nth {α : Type} (a b c d : α) (n : Fin 8) : α := match n.val / 2 with | 0 => a | 1 => b | 2 => c | _ => d
abbrev par (n : Fin 8) : Fin 2 := ⟨n.val % 2, by omega⟩
theorem stack_apply (a b c d : FVec Ideal S128x128 .f32) (n : Fin 8) (r l : Fin 128) :
    stack a b c d (ix2 (hrow n r) l) = if l.val / 64 = (par n).val then nth a b c d n (ix2 r l) else 0 := by
  have hr := r.isLt
  fin_cases n <;>
  · pointwise [stack]
    simp (discharger := omega) only [dif_pos, dif_neg, not_false_eq_true, lowHalf_apply, highHalf_apply]
    exact if_congr Iff.rfl (congrArg _ (congrArg (fun z => ix2 z l) (Fin.ext (by first | rfl | (dsimp only; omega))))) rfl
theorem sinks0_apply (x5 : FVec Ideal S1x128 .f32) (n : Fin 8) (r : Fin 128) : sinks0 x5 (ix2 (hrow n r) 0) = x5 (ix2 0 ⟨n.val, by omega⟩) := by
  have hr := r.isLt
  fin_cases n <;>
  · pointwise [sinks0, sinkStack]
    try simp (discharger := omega) only [dif_pos, dif_neg, not_false_eq_true]
    pointwise [sinkCol]
    try rfl
theorem sinks1_apply (x5 : FVec Ideal S1x128 .f32) (n : Fin 8) (r : Fin 128) : sinks1 x5 (ix2 (hrow n r) 0) = x5 (ix2 0 ⟨8 + n.val, by omega⟩) := by
  have hr := r.isLt
  fin_cases n <;>
  · pointwise [sinks1, sinkStack]
    try simp (discharger := omega) only [dif_pos, dif_neg, not_false_eq_true]
    pointwise [sinkCol]
    try rfl
theorem mod_eq : ∀ a : Fin 1024, Scalar.select
                (IntOp.andi
                  (IntOp.xori
                    (IntOp.cmpi CmpIPredicate.slt
                      (IntOp.remsi ArithUnit.vector (BitVec.ofNat 32 a.val)
                        (Scalar.select (Scalar.cmpi CmpIPredicate.eq 128#32 0#32) 1#32 128#32))
                      0#32)
                    (Scalar.cmpi CmpIPredicate.slt
                      (Scalar.select (Scalar.cmpi CmpIPredicate.eq 128#32 0#32) 1#32 128#32) 0#32))
                  (IntOp.cmpi CmpIPredicate.ne
                    (IntOp.remsi ArithUnit.vector (BitVec.ofNat 32 a.val)
                      (Scalar.select (Scalar.cmpi CmpIPredicate.eq 128#32 0#32) 1#32 128#32))
                    0#32))
                (IntOp.addi
                  (IntOp.remsi ArithUnit.vector (BitVec.ofNat 32 a.val)
                    (Scalar.select (Scalar.cmpi CmpIPredicate.eq 128#32 0#32) 1#32 128#32))
                  (Scalar.select (Scalar.cmpi CmpIPredicate.eq 128#32 0#32) 1#32 128#32))
                (IntOp.remsi ArithUnit.vector (BitVec.ofNat 32 a.val)
                  (Scalar.select (Scalar.cmpi CmpIPredicate.eq 128#32 0#32) 1#32 128#32)) = BitVec.ofNat 32 (a.val % 128) := by
  decide +kernel
theorem first_eq : ∀ (b : Fin 64) (v : Fin 2), IntOp.ori (Scalar.xori (Scalar.cmpi .eq (BitVec.ofNat 32 b.val) 0#32) 1#1) (if v = 1 then 1#1 else 0#1) =
    if b.val ≠ 0 ∨ v = 1 then 1#1 else 0#1 := by decide +kernel
theorem valid_select (i : grid0.Coords) (n : Fin 8) (r : Fin 128) (j : Fin 256) (x y : EReal) :
    Scalar.select (valid i (ix2 (hrow n r) j)) x y = if sees (i 0).val r j then x else y := by
  pointwise [valid, k0_pay17, k0_pay14, k0_pay15, k0_pay16]
  rw [mod_eq (hrow n r)]
  have e : (hrow n r).val % 128 = r.val := by dsimp only; omega
  rw [e]
  refine select_sees _ _ _ _ _ _ _ (near_eq r j) ?_
  rw [late_eq]
  have h := first_eq ⟨(i 0).val, (i 0).isLt⟩ (if 128 ≤ j.val then 1 else 0)
  by_cases hj : 128 ≤ j.val
  · simp only [hj, if_true] at h ⊢
    exact h
  · simp only [hj, if_false, show ((0 : Fin 2) = 1) = False from eq_false (by decide)] at h ⊢
    exact h

/-! ## A group -/

theorem mask_eq : (Named.named κ "mask" 0xF149F2CA#32 : Ideal .f32) = (⊥ : EReal) := rfl
theorem nth_map {α β : Type} (f : α → β) (a b c d : α) (n : Fin 8) : nth (f a) (f b) (f c) (f d) n = f (nth a b c d n) := by
  unfold nth; split <;> rfl
theorem scores_apply (i : grid0.Coords) (g6 g7 : FVec Ideal S1x128 .f32) (a b c d : FVec Ideal S128x128 .f32) (k : FVec Ideal S256x128 .f32)
    (bias : FVec Ideal S1024x256 .f32) (n : Fin 8) (r : Fin 128) (j : Fin 256) (hq : ∀ l, ∃ t : ℝ, nth a b c d n (ix2 r l) = t)
    (hk : ∀ j l, ∃ t : ℝ, k (ix2 j l) = t) :
    scores (valid i) (stack (norm128 g6 a) (norm128 g6 b) (norm128 g6 c) (norm128 g6 d)) (norm256 g7 k) bias (ix2 (hrow n r) j) =
      rowS (i 0).val r (hn (fun d' => nth a b c d n (ix2 r (lane (par n) d'))) (fun d' => g6 (ix2 0 (lane (par n) d'))))
        (fun j => hn (fun d' => k (ix2 j (lane (par n) d'))) (fun d' => g7 (ix2 0 (lane (par n) d')))) (fun j => bias (ix2 (hrow n r) j)) j := by
  pointwise [scores]
  rw [valid_select, mask_eq]
  unfold rowS score
  refine if_congr Iff.rfl (congrArg (fun z : EReal => z * _ + _) ?_) rfl
  have e : ∀ x : Fin 128, stack (norm128 g6 a) (norm128 g6 b) (norm128 g6 c) (norm128 g6 d) (ix2 (hrow n r) x) * norm256 g7 k (ix2 j x) =
      if x.val / 64 = (par n).val then norm128 g6 (nth a b c d n) (ix2 r x) * norm256 g7 k (ix2 j x) else (0 : EReal) := fun x => by
    rw [stack_apply, nth_map]
    by_cases h : x.val / 64 = (par n).val
    · rw [if_pos h, if_pos h]
    · rw [if_neg h, if_neg h, zero_mul]
  refine (Finset.sum_congr rfl fun x _ => e x).trans ?_
  rw [sum_lane]
  refine Finset.sum_congr rfl fun x _ => ?_
  rw [norm128_apply _ _ _ hq, norm256_apply _ _ _ (hk j)]
theorem attend_apply (s : FVec Ideal S1024x256 .f32) (z : FVec Ideal S1024x1 .f32) (v : FVec Ideal S256x128 .f32) (R : Fin 1024) (l : Fin 128) :
    attend s z v (ix2 R l) = rowOut (fun j => s (ix2 R j)) (fun j => v (ix2 j l)) (z (ix2 R 0)) := by
  have et : top s z (ix2 R 0) = rowTop (fun j => s (ix2 R j)) (z (ix2 R 0)) := by
    pointwise [top]
    rw [bits_ninf]
    rfl
  have ee : ∀ j, expo s (top s z) (ix2 R j) = Ideal.exp (s (ix2 R j) - rowTop (fun j => s (ix2 R j)) (z (ix2 R 0))) := fun j => by
    pointwise [expo]
    rw [et]
  have ed : denom (expo s (top s z)) z (top s z) (ix2 R 0) = rowDen (fun j => s (ix2 R j)) (z (ix2 R 0)) := by
    pointwise [denom]
    simp only [ee, et]
    rfl
  unfold attend
  pointwise [mix]
  simp only [ee, ed]
  rfl

end Cert.AttnFwdIdeal.Hand
end
-- ==== Proof.AttnFwdBlock.lean ====
module

public import proofs.«01_k».proof.Proof.AttnFwdPt

/-! The attention block's rows as a function of its windows. -/

@[expose] public section
set_option maxRecDepth 16384
noncomputable section
namespace Cert.AttnFwdIdeal.Hand
open Cert.AttnFwdIdeal Cert.AttnFwdIdeal.Gen Idealize.ShloMosaic Idealize.ShloMosaic.TcCoe Idealize.SL.Sem Cert.Util Cert.Norm Cert.Attn

/-- Lane `d` of head `h`. -/
abbrev hcol (h : Fin 16) (d : Fin 64) : Fin 1024 := ⟨64 * h.val + d.val, by omega⟩
abbrev par16 (h : Fin 16) : Fin 2 := ⟨h.val % 2, by omega⟩
/-- Lane `d` of the keys of head `h`'s group, in the copy that stands under the head. -/
abbrev kcol (h : Fin 16) (d : Fin 64) : Fin 512 := ⟨128 * (h.val / 8) + 64 * (h.val % 2) + d.val, by omega⟩
abbrev vcol (h : Fin 16) (d : Fin 64) : Fin 512 := ⟨256 + 128 * (h.val / 8) + 64 * (h.val % 2) + d.val, by omega⟩
/-- Head `h`'s row of the bias, and its place among the sinks. -/
abbrev brow (h : Fin 16) (r : Fin 128) : Fin 2048 := ⟨128 * h.val + r.val, by omega⟩
abbrev scol (h : Fin 16) : Fin 128 := ⟨h.val, by omega⟩

section
variable (b : ℕ) (x1 : FVec Ideal S128x1024 .f32) (kv : FVec Ideal S256x512 .f32) (x4 : FVec Ideal S2048x256 .f32) (x5 x6 x7 : FVec Ideal S1x128 .f32)
/-- A head's score row at a block. -/
def bS (h : Fin 16) (r : Fin 128) : Fin 256 → EReal :=
  rowS b r (hn (fun d => x1 (ix2 r (hcol h d))) (fun d => x6 (ix2 0 (lane (par16 h) d))))
    (fun j => hn (fun d => kv (ix2 j (kcol h d))) (fun d => x7 (ix2 0 (lane (par16 h) d)))) (fun j => x4 (ix2 (brow h r) j))
/-- A head's output at a block. -/
def bAtt (h : Fin 16) (r : Fin 128) (d : Fin 64) : EReal :=
  rowOut (bS b x1 kv x4 x6 x7 h r) (fun j => kv (ix2 j (vcol h d))) (x5 (ix2 0 (scol h)))
end

theorem group0_apply (i : grid0.Coords) (x1 : FVec Ideal S128x1024 .f32) (kv : FVec Ideal S256x512 .f32) (x4 : FVec Ideal S2048x256 .f32) (x5 x6 x7 : FVec Ideal S1x128 .f32)
    (hq : ∀ r l, ∃ t : ℝ, x1 (ix2 r l) = t) (hk : ∀ j (l : Fin 512), l.val < 256 → ∃ t : ℝ, kv (ix2 j l) = t) (n : Fin 8) (r : Fin 128) (d : Fin 64) :
    group0 i x1 kv x4 x5 x6 x7 (ix2 (hrow n r) (lane (par n) d)) = bAtt (i 0).val x1 kv x4 x5 x6 x7 ⟨n.val, by omega⟩ r d := by
  have eq : ∀ l : Fin 128, nth (q0 x1) (q1 x1) (q2 x1) (q3 x1) n (ix2 r l) = x1 (ix2 r ⟨128 * (n.val / 2) + l.val, by omega⟩) := fun l => by
    fin_cases n <;>
    · unfold nth
      dsimp only
      pointwise [q0, q1, q2, q3]
      try exact congrArg x1 (congrArg (ix2 r) (Fin.ext (by first | rfl | (dsimp only; omega))))
  unfold group0 bAtt bS keys0
  rw [attend_apply]
  have es := fun j => scores_apply i x6 x7 (q0 x1) (q1 x1) (q2 x1) (q3 x1) (extractStridedSlice S256x128 ![0, 0] kv slices_S256x512_o0_0_S256x128)
    (extractStridedSlice S1024x256 ![0, 0] x4 slices_S2048x256_o0_0_S1024x256) n r j (fun l => by rw [eq]; exact hq _ _)
    (fun j l => by pointwise []; exact hk _ _ (by dsimp only; omega))
  simp only [es, eq]
  rw [sinks0_apply]
  pointwise []
  have c1 : ∀ d' : Fin 64, (⟨128 * (n.val / 2) + (64 * (n.val % 2) + d'.val), by omega⟩ : Fin 1024) = hcol ⟨n.val, by omega⟩ d' := fun d' => Fin.ext (by dsimp only; omega)
  have c2 : ∀ d' : Fin 64, (⟨64 * (n.val % 2) + d'.val, by omega⟩ : Fin 512) = kcol ⟨n.val, by omega⟩ d' := fun d' => Fin.ext (by dsimp only; omega)
  have c3 : ∀ d' : Fin 64, (⟨256 + (64 * (n.val % 2) + d'.val), by omega⟩ : Fin 512) = vcol ⟨n.val, by omega⟩ d' := fun d' => Fin.ext (by dsimp only; omega)
  have c4 : (⟨128 * n.val + r.val, by omega⟩ : Fin 2048) = brow ⟨n.val, by omega⟩ r := Fin.ext (by first | rfl | (dsimp only; omega))
  have c5 : par n = par16 ⟨n.val, by omega⟩ := Fin.ext (by first | rfl | (dsimp only; omega))
  simp only [c1, c2, c3, c4]
theorem group1_apply (i : grid0.Coords) (x1 : FVec Ideal S128x1024 .f32) (kv : FVec Ideal S256x512 .f32) (x4 : FVec Ideal S2048x256 .f32) (x5 x6 x7 : FVec Ideal S1x128 .f32)
    (hq : ∀ r l, ∃ t : ℝ, x1 (ix2 r l) = t) (hk : ∀ j (l : Fin 512), l.val < 256 → ∃ t : ℝ, kv (ix2 j l) = t) (n : Fin 8) (r : Fin 128) (d : Fin 64) :
    group1 i x1 kv x4 x5 x6 x7 (ix2 (hrow n r) (lane (par n) d)) = bAtt (i 0).val x1 kv x4 x5 x6 x7 ⟨8 + n.val, by omega⟩ r d := by
  have eq : ∀ l : Fin 128, nth (q4 x1) (q5 x1) (q6 x1) (q7 x1) n (ix2 r l) = x1 (ix2 r ⟨512 + (128 * (n.val / 2) + l.val), by omega⟩) := fun l => by
    fin_cases n <;>
    · unfold nth
      dsimp only
      pointwise [q4, q5, q6, q7]
      try exact congrArg x1 (congrArg (ix2 r) (Fin.ext (by first | rfl | (dsimp only; omega))))
  unfold group1 bAtt bS keys1
  rw [attend_apply]
  have es := fun j => scores_apply i x6 x7 (q4 x1) (q5 x1) (q6 x1) (q7 x1) (extractStridedSlice S256x128 ![0, 128] kv slices_S256x512_o0_128_S256x128)
    (extractStridedSlice S1024x256 ![1024, 0] x4 slices_S2048x256_o1024_0_S1024x256) n r j (fun l => by rw [eq]; exact hq _ _)
    (fun j l => by pointwise []; exact hk _ _ (by dsimp only; omega))
  simp only [es, eq]
  rw [sinks1_apply]
  pointwise []
  have c1 : ∀ d' : Fin 64, (⟨512 + (128 * (n.val / 2) + (64 * (n.val % 2) + d'.val)), by omega⟩ : Fin 1024) = hcol ⟨8 + n.val, by omega⟩ d' := fun d' => Fin.ext (by dsimp only; omega)
  have c2 : ∀ d' : Fin 64, (⟨128 + (64 * (n.val % 2) + d'.val), by omega⟩ : Fin 512) = kcol ⟨8 + n.val, by omega⟩ d' := fun d' => Fin.ext (by dsimp only; omega)
  have c3 : ∀ d' : Fin 64, (⟨384 + (64 * (n.val % 2) + d'.val), by omega⟩ : Fin 512) = vcol ⟨8 + n.val, by omega⟩ d' := fun d' => Fin.ext (by dsimp only; omega)
  have c4 : (⟨1024 + (128 * n.val + r.val), by omega⟩ : Fin 2048) = brow ⟨8 + n.val, by omega⟩ r := Fin.ext (by first | rfl | (dsimp only; omega))
  have c5 : par n = par16 ⟨8 + n.val, by omega⟩ := Fin.ext (by first | rfl | (dsimp only; omega))
  simp only [c1, c2, c3, c4]
  rw [c5]

/-! ## All heads -/

theorem sel_lo (v : ℕ) (h : v < 64) (x y : EReal) : Scalar.select (IntOp.cmpi .slt (BitVec.ofNat 32 v) 64#32) x y = x := by
  rw [low_eq ⟨v, by omega⟩, if_pos (by dsimp only; omega)]; rfl
theorem sel_hi (v : ℕ) (h : 64 ≤ v ∧ v < 128) (x y : EReal) : Scalar.select (IntOp.cmpi .slt (BitVec.ofNat 32 v) 64#32) x y = y := by
  rw [low_eq ⟨v, by omega⟩, if_neg (by dsimp only; omega)]; rfl
theorem ent (a : FVec Ideal S1024x128 .f32) {p p' : Fin 1024} {q q' : Fin 128} (hp : p.val = p'.val) (hq : q.val = q'.val) : a (ix2 p q) = a (ix2 p' q') := by
  rw [Fin.ext hp, Fin.ext hq]
set_option maxHeartbeats 2000000 in
theorem heads_apply (a b : FVec Ideal S1024x128 .f32) (h : Fin 16) (r : Fin 128) (d : Fin 64) :
    heads a b (ix2 r (hcol h d)) = if h.val < 8 then a (ix2 (hrow ⟨h.val % 8, by omega⟩ r) (lane (par16 h) d)) else b (ix2 (hrow ⟨h.val % 8, by omega⟩ r) (lane (par16 h) d)) := by
  have hd := d.isLt
  fin_cases h <;>
  · pointwise [heads]
    try simp (discharger := omega) only [dif_pos, dif_neg, not_false_eq_true]
    pointwise [pair0, pair1, pair2, pair3, k0_pay18]
    first | rw [sel_lo _ (by omega)] | rw [sel_hi _ (by omega)]
    exact ent _ (by first | rfl | (dsimp only; omega)) (by first | rfl | (dsimp only; omega))

/-- A point's rows. -/
theorem block_apply (x0 : FVec Ideal S128x1024 .f32) (a b : FVec Ideal S1024x128 .f32) (x8 : FVec Ideal S1024x1024 .bf16) (r : Fin 128) (l : Fin 1024) :
    block x0 a b x8 (ix2 r l) = x0 (ix2 r l) + ∑ k : Fin 1024, heads a b (ix2 r k) * x8 (ix2 k l) := by
  pointwise [block]
/-- Lane `k`'s head, and its place in it. -/
abbrev hd (k : Fin 1024) : Fin 16 := ⟨k.val / 64, by omega⟩
abbrev ln (k : Fin 1024) : Fin 64 := ⟨k.val % 64, by omega⟩
theorem kvCat_real (x2 x3 : FVec Ideal S128x512 .f32) (h2 : ∀ r (l : Fin 512), l.val < 256 → ∃ t : ℝ, x2 (ix2 r l) = t)
    (h3 : ∀ r (l : Fin 512), l.val < 256 → ∃ t : ℝ, x3 (ix2 r l) = t) (j : Fin 256) (l : Fin 512) (hl : l.val < 256) : ∃ t : ℝ, kvCat x2 x3 (ix2 j l) = t := by
  pointwise [kvCat]
  by_cases h : j.val < 128
  · rw [dif_pos h]; exact h2 _ _ hl
  · rw [dif_neg h]; exact h3 _ _ hl
theorem out_at (i : grid0.Coords) (x0 x1 : Vec Ideal S128x1024 .f32) (x2 x3 : Vec Ideal S128x512 .f32) (x4 : Vec Ideal S2048x256 .f32) (x5 x6 x7 : Vec Ideal S1x128 .f32) (x8 : Vec Ideal S1024x1024 .bf16)
    (hq : ∀ r l, ∃ t : ℝ, x1 (ix2 r l) = t) (h2 : ∀ r (l : Fin 512), l.val < 256 → ∃ t : ℝ, x2 (ix2 r l) = t)
    (h3 : ∀ r (l : Fin 512), l.val < 256 → ∃ t : ℝ, x3 (ix2 r l) = t) (r : Fin 128) (l : Fin 1024) :
    out0_9 i x0 x1 x2 x3 x4 x5 x6 x7 x8 (ix2 r l) =
      x0 (ix2 r l) + ∑ k : Fin 1024, bAtt (i 0).val x1 (kvCat x2 x3) x4 x5 x6 x7 (hd k) r (ln k) * x8 (ix2 k l) := by
  rw [out_eq, View.canon_unit_zero (S := S128x1024) hz]
  simp only [View.ld_unit_zero (S := S128x1024) hz, View.ld_unit_zero (S := S128x512) hz, View.ld_unit_zero (S := S2048x256) hz, View.ld_unit_zero (S := S1x128) hz,
    View.ld_unit_zero (S := S1024x1024) hz]
  unfold k0_pay2 k0_pay3 k0_pay4 k0_pay5 k0_pay6 k0_pay7 k0_pay8
  simp only [shapeCast_self]
  rw [block_apply]
  refine congrArg (fun z : EReal => x0 (ix2 r l) + z) (Finset.sum_congr rfl fun k _ => congrArg (fun z : EReal => z * _) ?_)
  have ek : k = hcol (hd k) (ln k) := Fin.ext (by dsimp only; omega)
  have hk := kvCat_real x2 x3 h2 h3
  conv_lhs => rw [ek]
  rw [heads_apply]
  have hh : (hd k).val < 16 := (hd k).isLt
  by_cases h : (hd k).val < 8
  · rw [if_pos h]
    have e := group0_apply i x1 (kvCat x2 x3) x4 x5 x6 x7 hq hk ⟨(hd k).val % 8, by omega⟩ r (ln k)
    have e1 : par ⟨(hd k).val % 8, by omega⟩ = par16 (hd k) := Fin.ext (by dsimp only; omega)
    rw [e1] at e
    exact e.trans (congrArg (fun z => bAtt _ _ _ _ _ _ _ z r (ln k)) (Fin.ext (by dsimp only at h ⊢; omega)))
  · rw [if_neg h]
    have e := group1_apply i x1 (kvCat x2 x3) x4 x5 x6 x7 hq hk ⟨(hd k).val % 8, by omega⟩ r (ln k)
    have e1 : par ⟨(hd k).val % 8, by omega⟩ = par16 (hd k) := Fin.ext (by dsimp only; omega)
    rw [e1] at e
    exact e.trans (congrArg (fun z => bAtt _ _ _ _ _ _ _ z r (ln k)) (Fin.ext (by dsimp only at h ⊢; omega)))

end Cert.AttnFwdIdeal.Hand
end
-- ==== Proof.AttnFwdValue.lean ====
module

public import proofs.«01_k».proof.Proof.AttnFwdBlock

/-! The attention block's output array. -/

@[expose] public section
set_option maxRecDepth 16384
noncomputable section
namespace Cert.AttnFwdIdeal.Hand
open Cert.AttnFwdIdeal Cert.AttnFwdIdeal.Gen Idealize.ShloMosaic Idealize.ShloMosaic.TcCoe Idealize.SL.Sem Cert.Util Cert.Norm Cert.Attn

/-! ## What each point reads -/

section
variable (μ : (ℓ : Loc nD τ sig) → Buf (Elt Ideal) ℓ) (c : Dev nD)
abbrev hM (T : Fin 8192) (l : Fin 1024) : EReal := μ ((c : Thread nD τ).loc main_arg0) (ix2 T l)
abbrev qM (T : Fin 8192) (l : Fin 1024) : EReal := μ ((c : Thread nD τ).loc main_arg1) (ix2 T l)
abbrev kvM (T : Fin 8192) (l : Fin 256) : EReal := μ ((c : Thread nD τ).loc main_arg2) (ix2 T l)
abbrev biasM (h : Fin 16) (r : Fin 128) (j : Fin 256) : EReal := μ ((c : Thread nD τ).loc main_arg3) (ix3 h r j)
abbrev sinkM (h : Fin 16) : EReal := μ ((c : Thread nD τ).loc main_arg4) (ix1 h)
abbrev qgM (d : Fin 64) : EReal := μ ((c : Thread nD τ).loc main_arg5) (ix1 d)
abbrev kgM (d : Fin 64) : EReal := μ ((c : Thread nD τ).loc main_arg6) (ix1 d)
abbrev wM (k l : Fin 1024) : EReal := μ ((c : Thread nD τ).loc main_arg7) (ix2 k l)

theorem V_kv (T : Fin 8192) (l : Fin 512) : V μ c main_v2 (ix2 T l) = kvM μ c T ⟨64 * (l.val / 128) + l.val % 64, by omega⟩ := by
  have e : V μ c main_v2 = shapeCast S8192x512 (concatenate S8192x4x2x64 2 [⟨S8192x4x1x64, (shapeCast S8192x4x1x64 (μ ((c : Thread nD τ).loc main_arg2) : FVec Ideal S8192x256 .f32) shapeCasts_S8192x256_S8192x4x1x64 : FVec Ideal S8192x4x1x64 .f32)⟩, ⟨S8192x4x1x64, (shapeCast S8192x4x1x64 (μ ((c : Thread nD τ).loc main_arg2) : FVec Ideal S8192x256 .f32) shapeCasts_S8192x256_S8192x4x1x64 : FVec Ideal S8192x4x1x64 .f32)⟩] concatenates_S8192x4x1x64_S8192x4x1x64_S8192x4x2x64_d2) shapeCasts_S8192x4x2x64_S8192x512 := by rfl
  rw [e]
  pointwise []
  have e1 : (⟨l.val / 128 * 64 + l.val % 64, by omega⟩ : Fin 256) = ⟨64 * (l.val / 128) + l.val % 64, by omega⟩ := Fin.ext (by dsimp only; omega)
  split <;> exact congrArg (fun z => kvM μ c T z) e1
theorem V_bias (h : Fin 16) (r : Fin 128) (j : Fin 256) : V μ c main_v3 (ix2 (brow h r) j) = biasM μ c h r j := by
  have e : V μ c main_v3 = shapeCast S2048x256 (μ ((c : Thread nD τ).loc main_arg3) : FVec Ideal S16x128x256 .f32) shapeCasts_S16x128x256_S2048x256 := by rfl
  rw [e]
  exact shapeCast_apply _ _ _ (ix3 h r j) (by rw [Shape.rowMajor_val_three, Shape.rowMajor_val_two]; show (h.val * 128 + r.val) * 256 + j.val = (128 * h.val + r.val) * 256 + j.val; omega)
theorem V_w : V μ c main_v10 = μ ((c : Thread nD τ).loc main_arg7) := by
  rfl
theorem V_qg (s : Fin 2) (d : Fin 64) : V μ c main_v7 (ix2 0 (lane s d)) = qgM μ c d := by
  have e : V μ c main_v7 = shapeCast S1x128 (concatenate S128 0 [⟨S64, (μ ((c : Thread nD τ).loc main_arg5) : FVec Ideal S64 .f32)⟩, ⟨S64, (μ ((c : Thread nD τ).loc main_arg5) : FVec Ideal S64 .f32)⟩] concatenates_S64_S64_S128_d0) shapeCasts_S128_S1x128 := by rfl
  rw [e]
  pointwise []
  by_cases h : 64 * s.val + d.val < 64
  · rw [dif_pos h]; exact congrArg (fun z => qgM μ c z) (Fin.ext (by dsimp only; omega))
  · rw [dif_neg h]; exact congrArg (fun z => qgM μ c z) (Fin.ext (by dsimp only; omega))
theorem V_kg (s : Fin 2) (d : Fin 64) : V μ c main_v9 (ix2 0 (lane s d)) = kgM μ c d := by
  have e : V μ c main_v9 = shapeCast S1x128 (concatenate S128 0 [⟨S64, (μ ((c : Thread nD τ).loc main_arg6) : FVec Ideal S64 .f32)⟩, ⟨S64, (μ ((c : Thread nD τ).loc main_arg6) : FVec Ideal S64 .f32)⟩] concatenates_S64_S64_S128_d0) shapeCasts_S128_S1x128 := by rfl
  rw [e]
  pointwise []
  by_cases h : 64 * s.val + d.val < 64
  · rw [dif_pos h]; exact congrArg (fun z => kgM μ c z) (Fin.ext (by dsimp only; omega))
  · rw [dif_neg h]; exact congrArg (fun z => kgM μ c z) (Fin.ext (by dsimp only; omega))
theorem V_sink (h : Fin 16) : V μ c main_v5 (ix2 0 (scol h)) = sinkM μ c h := by
  have e : V μ c main_v5 = pad S1x128 ![0, 0] ![0, 112] ![0, 0] (shapeCast S1x16 (μ ((c : Thread nD τ).loc main_arg4) : FVec Ideal S16 .f32) shapeCasts_S16_S1x16 : FVec Ideal S1x16 .f32)
    (sitofp .f32 (constantI S_ 32 0#32) : FVec Ideal S_ .f32) pads_S1x16_S1x128_000_01120 h_S_ := by rfl
  rw [e]
  pointwise []
end

/-! ## A point's blocks -/

theorem lt64 (t : Fin cfg0.N) : t.val < 64 := lt_of_lt_of_eq t.isLt N_0
abbrev pt (t : Fin cfg0.N) : Fin 64 := ⟨t.val, lt64 t⟩
/-- Row `r` of block `b`. -/
abbrev row (b : Fin 64) (r : Fin 128) : Fin 8192 := ⟨128 * b.val + r.val, by omega⟩
theorem crd (t : Fin cfg0.N) : (grid0.coords t 0).val = t.val :=
  (by decide +kernel : ∀ t : Fin grid0.N, (grid0.coords t 0).val = t.val) t
theorem idx0 (t : Fin cfg0.N) : win0_0.index t 0 = t.val ∧ win0_0.index t 1 = 0 :=
  (by decide +kernel : ∀ t : Fin grid0.N, win0_0.index t 0 = t.val ∧ win0_0.index t 1 = 0) t
theorem idx1 (t : Fin cfg0.N) : win0_1.index t 0 = t.val ∧ win0_1.index t 1 = 0 :=
  (by decide +kernel : ∀ t : Fin grid0.N, win0_1.index t 0 = t.val ∧ win0_1.index t 1 = 0) t
theorem idx2 (t : Fin cfg0.N) : win0_2.index t 0 = t.val - 1 ∧ win0_2.index t 1 = 0 :=
  (by decide +kernel : ∀ t : Fin grid0.N, win0_2.index t 0 = t.val - 1 ∧ win0_2.index t 1 = 0) t
theorem idx3 (t : Fin cfg0.N) : win0_3.index t 0 = t.val ∧ win0_3.index t 1 = 0 :=
  (by decide +kernel : ∀ t : Fin grid0.N, win0_3.index t 0 = t.val ∧ win0_3.index t 1 = 0) t
theorem idx9 (t : Fin cfg0.N) : win0_9.index t 0 = t.val ∧ win0_9.index t 1 = 0 :=
  (by decide +kernel : ∀ t : Fin grid0.N, win0_9.index t 0 = t.val ∧ win0_9.index t 1 = 0) t
theorem idx4 (t : Fin cfg0.N) : win0_4.index t 0 = 0 ∧ win0_4.index t 1 = 0 :=
  (by decide +kernel : ∀ t : Fin grid0.N, win0_4.index t 0 = 0 ∧ win0_4.index t 1 = 0) t
theorem idx5 (t : Fin cfg0.N) : win0_5.index t 0 = 0 ∧ win0_5.index t 1 = 0 :=
  (by decide +kernel : ∀ t : Fin grid0.N, win0_5.index t 0 = 0 ∧ win0_5.index t 1 = 0) t
theorem idx6 (t : Fin cfg0.N) : win0_6.index t 0 = 0 ∧ win0_6.index t 1 = 0 :=
  (by decide +kernel : ∀ t : Fin grid0.N, win0_6.index t 0 = 0 ∧ win0_6.index t 1 = 0) t
theorem idx7 (t : Fin cfg0.N) : win0_7.index t 0 = 0 ∧ win0_7.index t 1 = 0 :=
  (by decide +kernel : ∀ t : Fin grid0.N, win0_7.index t 0 = 0 ∧ win0_7.index t 1 = 0) t
theorem idx8 (t : Fin cfg0.N) : win0_8.index t 0 = 0 ∧ win0_8.index t 1 = 0 :=
  (by decide +kernel : ∀ t : Fin grid0.N, win0_8.index t 0 = 0 ∧ win0_8.index t 1 = 0) t

section
variable (μ : (ℓ : Loc nD τ sig) → Buf (Elt Ideal) ℓ) (c : Dev nD) (t : Fin cfg0.N)
theorem iblk0_apply (r : Fin 128) (l : Fin 1024) :
    (iblk μ c 0 t : Vec Ideal S128x1024 .f32) (ix2 r l) = V μ c main_arg0 (ix2 (row (pt t) r) l) := by
  unfold iblk
  rw [View.read_apply]
  show V μ c main_arg0 _ = _
  congr 1
  obtain ⟨h0, h1⟩ := idx0 t
  funext a
  apply Fin.ext
  match a with
  | ⟨0, _⟩ => show win0_0.index t 0 * 128 + 1 * r.val = 128 * t.val + r.val; rw [h0]; omega
  | ⟨1, _⟩ => show win0_0.index t 1 * 1024 + 1 * l.val = l.val; rw [h1]; omega
theorem iblk1_apply (r : Fin 128) (l : Fin 1024) :
    (iblk μ c 1 t : Vec Ideal S128x1024 .f32) (ix2 r l) = V μ c main_arg1 (ix2 (row (pt t) r) l) := by
  unfold iblk
  rw [View.read_apply]
  show V μ c main_arg1 _ = _
  congr 1
  obtain ⟨h0, h1⟩ := idx1 t
  funext a
  apply Fin.ext
  match a with
  | ⟨0, _⟩ => show win0_1.index t 0 * 128 + 1 * r.val = 128 * t.val + r.val; rw [h0]; omega
  | ⟨1, _⟩ => show win0_1.index t 1 * 1024 + 1 * l.val = l.val; rw [h1]; omega
theorem iblk2_apply (r : Fin 128) (l : Fin 512) :
    (iblk μ c 2 t : Vec Ideal S128x512 .f32) (ix2 r l) = V μ c main_v2 (ix2 (row ⟨t.val - 1, by have := lt64 t; omega⟩ r) l) := by
  unfold iblk
  rw [View.read_apply]
  show V μ c main_v2 _ = _
  congr 1
  obtain ⟨h0, h1⟩ := idx2 t
  funext a
  apply Fin.ext
  match a with
  | ⟨0, _⟩ => show win0_2.index t 0 * 128 + 1 * r.val = 128 * (t.val - 1) + r.val; rw [h0]; omega
  | ⟨1, _⟩ => show win0_2.index t 1 * 512 + 1 * l.val = l.val; rw [h1]; omega
theorem iblk3_apply (r : Fin 128) (l : Fin 512) :
    (iblk μ c 3 t : Vec Ideal S128x512 .f32) (ix2 r l) = V μ c main_v2 (ix2 (row (pt t) r) l) := by
  unfold iblk
  rw [View.read_apply]
  show V μ c main_v2 _ = _
  congr 1
  obtain ⟨h0, h1⟩ := idx3 t
  funext a
  apply Fin.ext
  match a with
  | ⟨0, _⟩ => show win0_3.index t 0 * 128 + 1 * r.val = 128 * t.val + r.val; rw [h0]; omega
  | ⟨1, _⟩ => show win0_3.index t 1 * 512 + 1 * l.val = l.val; rw [h1]; omega
theorem iblk4_apply (r : Fin 2048) (l : Fin 256) :
    (iblk μ c 4 t : Vec Ideal S2048x256 .f32) (ix2 r l) = V μ c main_v3 (ix2 r l) := by
  unfold iblk
  rw [View.read_apply]
  show V μ c main_v3 _ = _
  congr 1
  obtain ⟨h0, h1⟩ := idx4 t
  funext a
  apply Fin.ext
  match a with
  | ⟨0, _⟩ => show win0_4.index t 0 * 2048 + 1 * r.val = r.val; rw [h0]; omega
  | ⟨1, _⟩ => show win0_4.index t 1 * 256 + 1 * l.val = l.val; rw [h1]; omega
theorem iblk5_apply (r : Fin 1) (l : Fin 128) :
    (iblk μ c 5 t : Vec Ideal S1x128 .f32) (ix2 r l) = V μ c main_v5 (ix2 r l) := by
  unfold iblk
  rw [View.read_apply]
  show V μ c main_v5 _ = _
  congr 1
  obtain ⟨h0, h1⟩ := idx5 t
  funext a
  apply Fin.ext
  match a with
  | ⟨0, _⟩ => show win0_5.index t 0 * 1 + 1 * r.val = r.val; rw [h0]; omega
  | ⟨1, _⟩ => show win0_5.index t 1 * 128 + 1 * l.val = l.val; rw [h1]; omega
theorem iblk6_apply (r : Fin 1) (l : Fin 128) :
    (iblk μ c 6 t : Vec Ideal S1x128 .f32) (ix2 r l) = V μ c main_v7 (ix2 r l) := by
  unfold iblk
  rw [View.read_apply]
  show V μ c main_v7 _ = _
  congr 1
  obtain ⟨h0, h1⟩ := idx6 t
  funext a
  apply Fin.ext
  match a with
  | ⟨0, _⟩ => show win0_6.index t 0 * 1 + 1 * r.val = r.val; rw [h0]; omega
  | ⟨1, _⟩ => show win0_6.index t 1 * 128 + 1 * l.val = l.val; rw [h1]; omega
theorem iblk7_apply (r : Fin 1) (l : Fin 128) :
    (iblk μ c 7 t : Vec Ideal S1x128 .f32) (ix2 r l) = V μ c main_v9 (ix2 r l) := by
  unfold iblk
  rw [View.read_apply]
  show V μ c main_v9 _ = _
  congr 1
  obtain ⟨h0, h1⟩ := idx7 t
  funext a
  apply Fin.ext
  match a with
  | ⟨0, _⟩ => show win0_7.index t 0 * 1 + 1 * r.val = r.val; rw [h0]; omega
  | ⟨1, _⟩ => show win0_7.index t 1 * 128 + 1 * l.val = l.val; rw [h1]; omega
theorem iblk8_apply (r : Fin 1024) (l : Fin 1024) :
    (iblk μ c 8 t : Vec Ideal S1024x1024 .bf16) (ix2 r l) = V μ c main_v10 (ix2 r l) := by
  unfold iblk
  rw [View.read_apply]
  show V μ c main_v10 _ = _
  congr 1
  obtain ⟨h0, h1⟩ := idx8 t
  funext a
  apply Fin.ext
  match a with
  | ⟨0, _⟩ => show win0_8.index t 0 * 1024 + 1 * r.val = r.val; rw [h0]; omega
  | ⟨1, _⟩ => show win0_8.index t 1 * 1024 + 1 * l.val = l.val; rw [h1]; omega
end

/-! ## The formula of the whole block -/

/-- Key `j` of block `b`: the block before, then the block itself. -/
def key (b : Fin 64) (j : Fin 256) : Fin 8192 := ⟨if j.val < 128 then 128 * (b.val - 1) + j.val else 128 * b.val + (j.val - 128), by split <;> omega⟩
/-- The column of `kv` holding a head's key, and the one holding its value. -/
abbrev kc (h : Fin 16) (d : Fin 64) : Fin 256 := ⟨64 * (h.val / 8) + d.val, by omega⟩
abbrev vc (h : Fin 16) (d : Fin 64) : Fin 256 := ⟨128 + 64 * (h.val / 8) + d.val, by omega⟩
section
variable (hm q : Fin 8192 → Fin 1024 → EReal) (kv : Fin 8192 → Fin 256 → EReal) (bias : Fin 16 → Fin 128 → Fin 256 → EReal) (sink : Fin 16 → EReal)
  (qg kg : Fin 64 → EReal) (w : Fin 1024 → Fin 1024 → EReal)
/-- A head's scores at a row. -/
def headS (b : Fin 64) (h : Fin 16) (r : Fin 128) : Fin 256 → EReal :=
  rowS b.val r (hn (fun d => q (row b r) (hcol h d)) qg) (fun j => hn (fun d => kv (key b j) (kc h d)) kg) (bias h r)
/-- A head's output at a row. -/
def headOut (b : Fin 64) (h : Fin 16) (r : Fin 128) (d : Fin 64) : EReal :=
  rowOut (headS q kv bias qg kg b h r) (fun j => kv (key b j) (vc h d)) (sink h)
/-- The block's result. -/
def attSpec (b : Fin 64) (r : Fin 128) (l : Fin 1024) : EReal :=
  hm (row b r) l + ∑ k : Fin 1024, headOut q kv bias sink qg kg b (hd k) r (ln k) * w k l
end

/-! ## The final array -/

section
variable (μ : (ℓ : Loc nD τ sig) → Buf (Elt Ideal) ℓ) (c : Dev nD)
variable (hq : ∀ T l, ∃ t : ℝ, qM μ c T l = t) (hk : ∀ T (l : Fin 256), l.val < 128 → ∃ t : ℝ, kvM μ c T l = t)
abbrev xk (t : Fin cfg0.N) : FVec Ideal S256x512 .f32 := kvCat (iblk μ c 2 t : Vec Ideal S128x512 .f32) (iblk μ c 3 t : Vec Ideal S128x512 .f32)
theorem xk_apply (t : Fin cfg0.N) (j : Fin 256) (l : Fin 512) : xk μ c t (ix2 j l) = kvM μ c (key (pt t) j) ⟨64 * (l.val / 128) + l.val % 64, by omega⟩ := by
  rw [← V_kv μ c (key (pt t) j) l]
  unfold xk kvCat
  pointwise []
  by_cases h : j.val < 128
  · rw [dif_pos h]
    refine (iblk2_apply μ c t ⟨j.val, h⟩ l).trans (congrArg (fun z => V μ c main_v2 (ix2 z l)) (Fin.ext ?_))
    show 128 * (t.val - 1) + j.val = (if j.val < 128 then 128 * (t.val - 1) + j.val else 128 * t.val + (j.val - 128))
    rw [if_pos h]
  · rw [dif_neg h]
    refine (iblk3_apply μ c t ⟨j.val - 128, by omega⟩ l).trans (congrArg (fun z => V μ c main_v2 (ix2 z l)) (Fin.ext ?_))
    show 128 * t.val + (j.val - 128) = (if j.val < 128 then 128 * (t.val - 1) + j.val else 128 * t.val + (j.val - 128))
    rw [if_neg h]
theorem key_apply (t : Fin cfg0.N) (j : Fin 256) (h : Fin 16) (d : Fin 64) : xk μ c t (ix2 j (kcol h d)) = kvM μ c (key (pt t) j) (kc h d) :=
  (xk_apply μ c t j _).trans (congrArg (kvM μ c _) (Fin.ext (by dsimp only; omega)))
theorem val_apply (t : Fin cfg0.N) (j : Fin 256) (h : Fin 16) (d : Fin 64) : xk μ c t (ix2 j (vcol h d)) = kvM μ c (key (pt t) j) (vc h d) :=
  (xk_apply μ c t j _).trans (congrArg (kvM μ c _) (Fin.ext (by dsimp only; omega)))

/-- A head's output at a point. -/
theorem bAtt_eq (t : Fin cfg0.N) (h : Fin 16) (r : Fin 128) (d : Fin 64) :
    bAtt (grid0.coords t 0).val (iblk μ c 1 t : Vec Ideal S128x1024 .f32) (xk μ c t) (iblk μ c 4 t : Vec Ideal S2048x256 .f32) (iblk μ c 5 t : Vec Ideal S1x128 .f32)
      (iblk μ c 6 t : Vec Ideal S1x128 .f32) (iblk μ c 7 t : Vec Ideal S1x128 .f32) h r d =
    headOut (qM μ c) (kvM μ c) (biasM μ c) (sinkM μ c) (qgM μ c) (kgM μ c) (pt t) h r d := by
  have e1 : ∀ d : Fin 64, (iblk μ c 1 t : Vec Ideal S128x1024 .f32) (ix2 r (hcol h d)) = qM μ c (row (pt t) r) (hcol h d) := fun d => by
    rw [iblk1_apply, V_main_arg1]
  have e4 : ∀ j : Fin 256, (iblk μ c 4 t : Vec Ideal S2048x256 .f32) (ix2 (brow h r) j) = biasM μ c h r j := fun j => by
    rw [iblk4_apply, V_bias]
  have e5 : (iblk μ c 5 t : Vec Ideal S1x128 .f32) (ix2 0 (scol h)) = sinkM μ c h := by rw [iblk5_apply, V_sink]
  have e6 : ∀ d : Fin 64, (iblk μ c 6 t : Vec Ideal S1x128 .f32) (ix2 0 (lane (par16 h) d)) = qgM μ c d := fun d => by rw [iblk6_apply, V_qg]
  have e7 : ∀ d : Fin 64, (iblk μ c 7 t : Vec Ideal S1x128 .f32) (ix2 0 (lane (par16 h) d)) = kgM μ c d := fun d => by rw [iblk7_apply, V_kg]
  unfold bAtt bS headOut headS
  rw [crd]
  simp only [e1, e4, e5, e6, e7, key_apply, val_apply]

include hq hk in
/-- What a point writes back. -/
theorem out_entry (t : Fin cfg0.N) (r : Fin 128) (l : Fin 1024) :
    out0_9 (grid0.coords t) (iblk μ c 0 t) (iblk μ c 1 t) (iblk μ c 2 t) (iblk μ c 3 t) (iblk μ c 4 t) (iblk μ c 5 t) (iblk μ c 6 t) (iblk μ c 7 t) (iblk μ c 8 t) (ix2 r l) =
      attSpec (hM μ c) (qM μ c) (kvM μ c) (biasM μ c) (sinkM μ c) (qgM μ c) (kgM μ c) (wM μ c) (pt t) r l := by
  refine (out_at (grid0.coords t) (iblk μ c 0 t) (iblk μ c 1 t) (iblk μ c 2 t) (iblk μ c 3 t) (iblk μ c 4 t) (iblk μ c 5 t) (iblk μ c 6 t) (iblk μ c 7 t) (iblk μ c 8 t)
    (fun r l => ?_) (fun r l h => ?_) (fun r l h => ?_) r l).trans ?_
  · obtain ⟨z, hz⟩ := hq (row (pt t) r) l
    exact ⟨z, by rw [iblk1_apply, V_main_arg1]; exact hz⟩
  · rw [iblk2_apply, V_kv]
    exact hk _ _ (by dsimp only; omega)
  · rw [iblk3_apply, V_kv]
    exact hk _ _ (by dsimp only; omega)
  unfold attSpec
  rw [iblk0_apply, V_main_arg0]
  refine congrArg (fun z : EReal => hM μ c (row (pt t) r) l + z) (Finset.sum_congr rfl fun k _ => ?_)
  rw [bAtt_eq, iblk8_apply, V_w]

abbrev bk (T : Fin 8192) : Fin 64 := ⟨T.val / 128, by omega⟩
abbrev rr (T : Fin 8192) : Fin 128 := ⟨T.val % 128, by omega⟩
/-- The result array. -/
def arr : FVec Ideal S8192x1024 .f32 := fun i =>
  attSpec (hM μ c) (qM μ c) (kvM μ c) (biasM μ c) (sinkM μ c) (qgM μ c) (kgM μ c) (wM μ c) (bk (i 0)) (rr (i 0)) (i 1)
theorem arr_row (b : Fin 64) (r : Fin 128) (l : Fin 1024) : arr μ c (ix2 (row b r) l) =
    attSpec (hM μ c) (qM μ c) (kvM μ c) (biasM μ c) (sinkM μ c) (qgM μ c) (kgM μ c) (wM μ c) b r l := by
  unfold arr
  have e1 : bk (row b r) = b := Fin.ext (by dsimp only; omega)
  have e2 : rr (row b r) = r := Fin.ext (by dsimp only; omega)
  exact congrArg₂ (fun b r => attSpec (hM μ c) (qM μ c) (kvM μ c) (biasM μ c) (sinkM μ c) (qgM μ c) (kgM μ c) (wM μ c) b r l) e1 e2

include hq hk in
theorem final : (dats μ 0 c).arrAt 9 cfg0.N = arr μ c := by
  refine (dats μ 0 c).arrAt_eq_of_cover 9 (arr μ c) (fun t _ => ?_) fun i => ?_
  · rw [Value.flushed9]
    funext j
    rw [View.read_apply]
    obtain ⟨r, l, rfl⟩ := (⟨j 0, j 1, eq_ix2 j⟩ : ∃ (r : Fin 128) (l : Fin 1024), j = ix2 r l)
    have he : ((cfg0.win 9).blk t).view.emb (ix2 r l) = (ix2 (row (pt t) r) l : S8192x1024.Idx) := by
      obtain ⟨h0, h1⟩ := idx9 t
      funext a
      apply Fin.ext
      match a with
      | ⟨0, _⟩ => show win0_9.index t 0 * 128 + 1 * r.val = 128 * t.val + r.val; rw [h0]; omega
      | ⟨1, _⟩ => show win0_9.index t 1 * 1024 + 1 * l.val = l.val; rw [h1]; omega
    rw [he]
    exact (out_entry μ c hq hk t r l).trans (arr_row μ c (pt t) r l).symm
  · have hi0 : (i 0).val < 8192 := (i 0).isLt
    have hi1 : (i 1).val < 1024 := (i 1).isLt
    have h64 : (i 0).val / 128 < 64 := by omega
    obtain ⟨t, ht⟩ : ∃ t : Fin cfg0.N, t.val = (i 0).val / 128 := ⟨⟨(i 0).val / 128, lt_of_lt_of_eq h64 N_0.symm⟩, rfl⟩
    refine ⟨t, flush0_9 t, ?_⟩
    show i ∈ ((View.whole main_v11).slice (win0_9.rect t)).set
    rw [View.set_slice_whole, Rect.mem_set_unit]
    obtain ⟨h0, h1⟩ := idx9 t
    intro a
    match a with
    | ⟨0, _⟩ => exact ⟨by show win0_9.index t 0 * 128 ≤ (i 0).val; rw [h0]; omega, by show (i 0).val < win0_9.index t 0 * 128 + 128; rw [h0]; omega⟩
    | ⟨1, _⟩ => exact ⟨by show win0_9.index t 1 * 1024 ≤ (i 1).val; rw [h1]; omega, by show (i 1).val < win0_9.index t 1 * 1024 + 1024; rw [h1]; omega⟩
end

end Cert.AttnFwdIdeal.Hand
end
-- ==== Proof.AttnFwdRef.lean ====
module

public import proofs.«01_k».proof.Proof.AttnFwdValue
public import proofs.«01_k».proof.Defs
public import proofs.«01_k».proof.Proof.Gen.AttnFwdRefIdeal.Read
public import proofs.«01_k».proof.Proof.Silu

/-! The attention block computes the reference's formula. -/

@[expose] public section
set_option maxRecDepth 16384
noncomputable section
namespace Cert.AttnFwdIdeal.Hand

/-! ## The reference, read at an index -/

/-- A head of a group. -/
abbrev gh (g : Fin 2) (e : Fin 8) : Fin 16 := ⟨8 * g.val + e.val, by omega⟩
/-- A group's columns of keys, and of values. -/
abbrev gk (g : Fin 2) (d : Fin 64) : Fin 256 := ⟨64 * g.val + d.val, by omega⟩
abbrev gv (g : Fin 2) (d : Fin 64) : Fin 256 := ⟨128 + 64 * g.val + d.val, by omega⟩

section
open Cert.AttnFwdRefIdeal Cert.AttnFwdRefIdeal.Gen Cert.AttnFwdRefIdeal.Read Idealize.ShloMosaic Idealize.ShloMosaic.TcCoe Idealize.SL.Sem Cert.Norm Cert.Attn
variable (x0 x1 : Vec Ideal S8192x1024 .f32) (x2 : Vec Ideal S8192x256 .f32) (x3 : Vec Ideal S16x128x256 .f32) (x4 : Vec Ideal S16 .f32) (x5 x6 : Vec Ideal S64 .f32)
  (x7 : Vec Ideal S1024x1024 .f32)

theorem ref_q (T : Fin 8192) (h : Fin 16) (d : Fin 64) : val_main_v13 x1 x5 (ix3 T h d) = hn (fun d => x1 (ix2 T (hcol h d))) (fun d => x5 (ix1 d)) d := by
  pointwise [val_main_v13, val_main_v12, val_main_v11, val_main_v10, val_main_v9, val_main_v8, val_main_v7, val_main_v6, val_main_cst_1, val_main_v5, val_main_v4, val_main_cst_0,
    val_main_v3, val_main_v2, val_main_cst, val_main_v1, val_main_v0]
  have e : ∀ d : Fin 64, (⟨h.val * 64 + d.val, by omega⟩ : Fin 1024) = hcol h d := fun d => Fin.ext (by dsimp only; omega)
  simp only [e, div_64]
  rfl
theorem ref_q5 (b : Fin 64) (r : Fin 128) (g : Fin 2) (e : Fin 8) (d : Fin 64) : val_main_v14 x1 x5 (ix5 b r g e d) = val_main_v13 x1 x5 (ix3 (row b r) (gh g e) d) := by
  rw [val_main_v14_apply]
  refine congrArg _ ?_
  funext a
  apply Fin.ext
  match a with
  | ⟨0, _⟩ => show ((((b.val * 128 + r.val) * 2 + g.val) * 8 + e.val) * 64 + d.val) / 1024 = 128 * b.val + r.val; omega
  | ⟨1, _⟩ => show ((((b.val * 128 + r.val) * 2 + g.val) * 8 + e.val) * 64 + d.val) / 64 % 16 = 8 * g.val + e.val; omega
  | ⟨2, _⟩ => show ((((b.val * 128 + r.val) * 2 + g.val) * 8 + e.val) * 64 + d.val) % 64 = d.val; omega
theorem ref_k (T : Fin 8192) (g : Fin 2) (d : Fin 64) : val_main_v29 x2 x6 (ix3 T g d) = hn (fun d => x2 (ix2 T (gk g d))) (fun d => x6 (ix1 d)) d := by
  pointwise [val_main_v29, val_main_v28, val_main_v27, val_main_v26, val_main_v25, val_main_v24, val_main_v23, val_main_v22, val_main_cst_4, val_main_v21, val_main_v20, val_main_cst_3,
    val_main_v19, val_main_v18, val_main_cst_2, val_main_v17, val_main_v16, val_main_v15]
  have e : ∀ d : Fin 64, (⟨g.val * 64 + d.val, by omega⟩ : Fin 256) = gk g d := fun d => Fin.ext (by dsimp only; omega)
  simp only [e, div_64]
  rfl
theorem ref_v (T : Fin 8192) (g : Fin 2) (d : Fin 64) : val_main_v31 x2 (ix3 T g d) = x2 (ix2 T (gv g d)) := by
  pointwise [val_main_v31, val_main_v30]
  exact congrArg (fun z => x2 (ix2 T z)) (Fin.ext (by dsimp only; omega))
theorem later_eq : ∀ b : Fin 64, IntOp.cmpi .sgt (BitVec.ofNat 32 b.val) 0#32 = if b.val ≠ 0 then 1#1 else 0#1 := by decide +kernel
theorem ref_mask (b : Fin 64) (r : Fin 128) (j : Fin 256) : val_main_v59 (F := Ideal) (ix3 b r j) = if sees b.val r j then 1#1 else 0#1 := by
  pointwise [val_main_v59, val_main_v58, val_main_v57, val_main_v56, val_main_v55, val_main_v54, val_main_v53, val_main_v52, val_main_v51, val_main_v50, val_main_c_8,
    val_main_v49, val_main_v48, val_main_c_7, val_main_v47, val_main_v46, val_main_v45, val_main_v44, val_main_v43, val_main_c_6, val_main_v42, val_main_v41, val_main_c_5, val_main_v40,
    val_main_v39, val_main_v38, val_main_v37, val_main_v36, val_main_c, val_main_v35, val_main_v34, val_main_v33, val_main_v32]
  rw [near_eq, later_eq, late_eq]
  unfold sees
  by_cases h1 : r.val < j.val ∧ j.val ≤ r.val + 128 <;> by_cases h2 : b.val = 0 <;> by_cases h3 : 128 ≤ j.val <;> simp [h1, h2, h3] <;> rfl
theorem ref_kband (b : Fin 64) (j : Fin 256) (g : Fin 2) (d : Fin 64) (hs : b.val ≠ 0 ∨ 128 ≤ j.val) :
    val_main_v67 x2 x6 (ix4 b j g d) = val_main_v29 x2 x6 (ix3 (key b j) g d) := by
  pointwise [val_main_v67, val_main_v66, val_main_v65, val_main_v64, val_main_v63, val_main_v62, val_main_cst_9]
  by_cases h : j.val < 128
  · rw [dif_pos h, dif_neg (by omega)]
    exact congrArg (fun z => val_main_v29 x2 x6 (ix3 z g d)) (Fin.ext (by unfold key; dsimp only; rw [if_pos h]; omega))
  · rw [dif_neg h]
    exact congrArg (fun z => val_main_v29 x2 x6 (ix3 z g d)) (Fin.ext (by unfold key; dsimp only; rw [if_neg h]; omega))
theorem ref_vband (b : Fin 64) (j : Fin 256) (g : Fin 2) (d : Fin 64) (hs : b.val ≠ 0 ∨ 128 ≤ j.val) :
    val_main_v98 x2 (ix4 b j g d) = val_main_v31 x2 (ix3 (key b j) g d) := by
  pointwise [val_main_v98, val_main_v97, val_main_v96, val_main_v95, val_main_v94, val_main_v93, val_main_cst_14]
  by_cases h : j.val < 128
  · rw [dif_pos h, dif_neg (by omega)]
    exact congrArg (fun z => val_main_v31 x2 (ix3 z g d)) (Fin.ext (by unfold key; dsimp only; rw [if_pos h]; omega))
  · rw [dif_neg h]
    exact congrArg (fun z => val_main_v31 x2 (ix3 z g d)) (Fin.ext (by unfold key; dsimp only; rw [if_neg h]; omega))

/-- A head's scores, as the reference masks them. -/
abbrev rS (b : Fin 64) (g : Fin 2) (e : Fin 8) (r : Fin 128) : Fin 256 → EReal :=
  rowS b.val r (hn (fun d => x1 (ix2 (row b r) (hcol (gh g e) d))) (fun d => x5 (ix1 d))) (fun j d => val_main_v67 x2 x6 (ix4 b j g d)) (fun j => x3 (ix3 (gh g e) r j))
theorem ref_s (b : Fin 64) (g : Fin 2) (e : Fin 8) (r : Fin 128) (j : Fin 256) : val_main_v77 x1 x2 x3 x5 x6 (ix5 b g e r j) = rS x1 x2 x3 x5 x6 b g e r j := by
  pointwise [val_main_v77, val_main_call0_v2, val_main_call0_v1, val_main_call0_v0, val_main_cst_11, val_main_v76, val_main_v75, val_main_v74, val_main_v73, val_main_v72, val_main_v71, val_main_v70, val_main_cst_10,
    val_main_v69, val_main_v68]
  have eh : (⟨g.val * 8 + e.val, by omega⟩ : Fin 16) = gh g e := Fin.ext (by dsimp only; omega)
  simp only [ref_mask, ref_q5, ref_q, eh]
  rw [show (id (constant (F := Ideal) S_ .f32 0xFF800000#32) ix0 : EReal) = ⊥ from bits_ninf]
  unfold rS rowS score
  by_cases hs : sees b.val r j
  · rw [if_pos hs, if_pos hs]
    exact congrArg (fun z : EReal => z * _ + _) (Finset.sum_congr rfl fun d _ => mul_comm _ _)
  · rw [if_neg hs, if_neg hs]
    rfl
theorem max_read (x : FVec Ideal S64x2x8x128x256 .f32) (b : Fin 64) (g : Fin 2) (e : Fin 8) (r : Fin 128) :
    (Host.reduce FloatOps.maximumf x (constant S_ .f32 0xFF800000#32) reducesTo_S64x2x8x128x256_S64x2x8x128_d4 h_S_ : FVec Ideal S64x2x8x128 .f32) (ix4 b g e r) =
      Finset.fold max ⊥ (fun j => x (ix5 b g e r j)) Finset.univ := by
  rw [← bits_ninf]
  pointwise []
theorem ref_max (b : Fin 64) (g : Fin 2) (e : Fin 8) (r : Fin 128) : val_main_v78 x1 x2 x3 x5 x6 (ix4 b g e r) = Finset.fold max ⊥ (rS x1 x2 x3 x5 x6 b g e r) Finset.univ := by
  unfold val_main_v78 val_main_cst_12
  exact (max_read _ b g e r).trans (congrArg (fun f => Finset.fold max ⊥ f Finset.univ) (funext fun j => ref_s x1 x2 x3 x5 x6 b g e r j))
theorem ref_top0 (b : Fin 64) (g : Fin 2) (e : Fin 8) (r : Fin 128) : val_main_v79 x1 x2 x3 x5 x6 (ix5 b g e r 0) = val_main_v78 x1 x2 x3 x5 x6 (ix4 b g e r) := by
  rw [val_main_v79_apply]
  refine congrArg _ ?_
  funext a
  match a with
  | ⟨0, _⟩ => rfl
  | ⟨1, _⟩ => rfl
  | ⟨2, _⟩ => rfl
  | ⟨3, _⟩ => rfl
theorem ref_sink (b : Fin 64) (g : Fin 2) (e : Fin 8) (r : Fin 128) : val_main_v80 x4 (ix5 b g e r 0) = x4 (ix1 (gh g e)) := by
  pointwise [val_main_v80, val_main_v61, val_main_v60]
  exact congrArg (fun z => x4 (ix1 z)) (Fin.ext (by dsimp only; omega))
theorem ref_top (b : Fin 64) (g : Fin 2) (e : Fin 8) (r : Fin 128) : val_main_v81 x1 x2 x3 x4 x5 x6 (ix5 b g e r 0) = rowTop (rS x1 x2 x3 x5 x6 b g e r) (x4 (ix1 (gh g e))) :=
  (val_main_v81_apply x1 x2 x3 x4 x5 x6 _).trans (congrArg₂ (fun x y : EReal => max x y) ((ref_top0 x1 x2 x3 x5 x6 b g e r).trans (ref_max x1 x2 x3 x5 x6 b g e r)) (ref_sink x4 b g e r))
theorem ref_exp (b : Fin 64) (g : Fin 2) (e : Fin 8) (r : Fin 128) (j : Fin 256) : val_main_v84 x1 x2 x3 x4 x5 x6 (ix5 b g e r j) =
    Ideal.exp (rS x1 x2 x3 x5 x6 b g e r j - rowTop (rS x1 x2 x3 x5 x6 b g e r) (x4 (ix1 (gh g e)))) := by
  pointwise [val_main_v84, val_main_v83, val_main_v82]
  rw [ref_s, ref_top]
theorem ref_den (b : Fin 64) (g : Fin 2) (e : Fin 8) (r : Fin 128) : val_main_v90 x1 x2 x3 x4 x5 x6 (ix5 b g e r 0) = rowDen (rS x1 x2 x3 x5 x6 b g e r) (x4 (ix1 (gh g e))) := by
  pointwise [val_main_v90, val_main_v89, val_main_v88, val_main_v87, val_main_v86, val_main_v85, val_main_cst_13, val_main_v61, val_main_v60]
  simp only [ref_exp, ref_top]
  have eh : (⟨g.val * 8 + e.val, by omega⟩ : Fin 16) = gh g e := Fin.ext (by dsimp only; omega)
  rw [eh]
  rfl
theorem ref_p (b : Fin 64) (g : Fin 2) (e : Fin 8) (r : Fin 128) (j : Fin 256) : val_main_v92 x1 x2 x3 x4 x5 x6 (ix5 b g e r j) =
    Ideal.div (Ideal.exp (rS x1 x2 x3 x5 x6 b g e r j - rowTop (rS x1 x2 x3 x5 x6 b g e r) (x4 (ix1 (gh g e))))) (rowDen (rS x1 x2 x3 x5 x6 b g e r) (x4 (ix1 (gh g e)))) := by
  pointwise [val_main_v92, val_main_v91]
  rw [ref_exp, ref_den]
theorem ref_att (b : Fin 64) (g : Fin 2) (e : Fin 8) (r : Fin 128) (d : Fin 64) : val_main_v100 x1 x2 x3 x4 x5 x6 (ix5 b r g e d) =
    rowRef (rS x1 x2 x3 x5 x6 b g e r) (fun j => val_main_v98 x2 (ix4 b j g d)) (x4 (ix1 (gh g e))) := by
  pointwise [val_main_v100, val_main_v99]
  simp only [ref_p]
  rfl
theorem ref_out (b : Fin 64) (r : Fin 128) (l : Fin 1024) : val_main_v103 x0 x1 x2 x3 x4 x5 x6 x7 (ix2 (row b r) l) =
    x0 (ix2 (row b r) l) + ∑ k : Fin 1024, rowRef (rS x1 x2 x3 x5 x6 b ⟨k.val / 512, by omega⟩ ⟨k.val / 64 % 8, by omega⟩ r) (fun j => val_main_v98 x2 (ix4 b j ⟨k.val / 512, by omega⟩ (ln k))) (x4 (ix1 (hd k))) * x7 (ix2 k l) := by
  pointwise [val_main_v103, val_main_v102, val_main_v101]
  simp only [ref_att]
  have eb : (⟨(128 * b.val + r.val) / 128, by omega⟩ : Fin 64) = b := Fin.ext (by dsimp only; omega)
  have er : (⟨(128 * b.val + r.val) % 128, by omega⟩ : Fin 128) = r := Fin.ext (by dsimp only; omega)
  have eh : ∀ k : Fin 1024, gh ⟨k.val / 512, by omega⟩ ⟨k.val / 64 % 8, by omega⟩ = hd k := fun k => Fin.ext (by dsimp only; omega)
  simp only [eb, er, eh]

/-- A head's output is the reference's, where the arrays are finite. -/
theorem head_ref (hq : ∀ T l, ∃ t : ℝ, x1 (ix2 T l) = t) (hk : ∀ T (l : Fin 256), l.val < 128 → ∃ t : ℝ, x2 (ix2 T l) = t) (hb : ∀ h r j, ∃ t : ℝ, x3 (ix3 h r j) = t)
    (hz : ∀ h, ∃ t : ℝ, x4 (ix1 h) = t) (h5 : ∀ d, ∃ t : ℝ, x5 (ix1 d) = t) (h6 : ∀ d, ∃ t : ℝ, x6 (ix1 d) = t) (b : Fin 64) (g : Fin 2) (e : Fin 8) (r : Fin 128) (d : Fin 64) :
    headOut (fun T l => x1 (ix2 T l)) (fun T l => x2 (ix2 T l)) (fun h r j => x3 (ix3 h r j)) (fun h => x4 (ix1 h)) (fun d => x5 (ix1 d)) (fun d => x6 (ix1 d)) b (gh g e) r d =
      rowRef (rS x1 x2 x3 x5 x6 b g e r) (fun j => val_main_v98 x2 (ix4 b j g d)) (x4 (ix1 (gh g e))) := by
  have ek : ∀ d, kc (gh g e) d = gk g d := fun d => Fin.ext (by dsimp only; omega)
  have ev : vc (gh g e) d = gv g d := Fin.ext (by dsimp only; omega)
  have hS : headS (fun T l => x1 (ix2 T l)) (fun T l => x2 (ix2 T l)) (fun h r j => x3 (ix3 h r j)) (fun d => x5 (ix1 d)) (fun d => x6 (ix1 d)) b (gh g e) r = rS x1 x2 x3 x5 x6 b g e r := by
    refine rowS_congr _ _ _ _ _ _ fun j hj => ?_
    funext d
    rw [ref_kband _ _ _ _ _ _ hj.2, ref_k]
    simp only [ek]
  unfold headOut
  rw [hS]
  refine row_eq _ _ _ _ (fun j => ?_) (hz _) fun j hj => ?_
  · refine rowS_real _ _ _ _ _ (fun d => hn_real _ _ (fun d => hq _ _) (fun d => h5 d) d) (fun j hj d => ?_) (fun j => hb _ _ j) j
    rw [ref_kband _ _ _ _ _ _ hj.2, ref_k]
    exact hn_real _ _ (fun d => hk _ _ (by dsimp only; omega)) (fun d => h6 d) d
  · rw [ref_vband _ _ _ _ _ (rowS_seen _ _ _ _ _ _ hj).2, ref_v, ev]
end

/-! ## The claims -/

section
open Cert.AttnFwdIdeal Cert.AttnFwdIdeal.Gen Idealize.ShloMosaic Idealize.ShloMosaic.TcCoe Idealize.SL.Sem Cert.Util Cert.Norm Cert.Attn

theorem pre_facts : Cert.Pre_pre_attn_fwd.Facts := by constructor <;> decide

/-- The reference's frame: its run read at the arguments; it has no semaphore. -/
theorem frame_ref : Cert.quiescent_AttnFwdRefIdeal (hAttnFwdRefIdeal := Cert.AttnFwdRefIdeal.Gen.facts) := fun m ρ _ =>
  (θ_run Cert.AttnFwdRefIdeal.defs _ _).mono (fun r h => ⟨fun c => (h c).2, sem_eq_zero_of_no_sems (by decide) r.2⟩)
    (Cert.AttnFwdRefIdeal.Value.run (F := Ideal) m ρ)

/-- The attention block: the kernel's array is the reference's. -/
theorem algebraic : Cert.algebraic_AttnFwdIdeal_AttnFwdRefIdeal_pre_pre_attn_fwd (hAttnFwdIdeal := Cert.AttnFwdIdeal.Gen.facts)
    (hAttnFwdRefIdeal := Cert.AttnFwdRefIdeal.Gen.facts) (hPre_pre_attn_fwd := pre_facts) := by
  intro m g m' g' hpre hm
  have hq : ∀ c T l, ∃ t : ℝ, qM m c T l = t := fun c T l => real_of_finite (congrFun (hpre c).1 (ix2 T l))
  have hk : ∀ c T (l : Fin 256), l.val < 128 → ∃ t : ℝ, kvM m c T l = t := fun c T l hl => by
    have h := congrFun (hpre c).2.1 (ix2 T ⟨l.val, hl⟩)
    obtain ⟨t, ht⟩ := real_of_finite h
    refine ⟨t, Eq.trans (Eq.symm ?_) ht⟩
    pointwise []
  refine ⟨arr m, ?_, ?_⟩
  · refine (θ_run _ _ _).mono (fun r h c => ?_) (Cert.AttnFwdIdeal.Value.run_blocks m g)
    exact ⟨(h c).1.trans (final m c (hq c) (hk c)), (h c).2⟩
  · refine (θ_run _ _ _).mono (fun r h c => ?_) (Cert.AttnFwdRefIdeal.Value.run m' g')
    obtain ⟨a0, a1, a2, a3, a4, a5, a6, a7⟩ := hm c
    refine ⟨(h c).1.trans ?_, (h c).2⟩
    rw [Cert.AttnFwdRefIdeal.Read.val_main_v103_eq, a0, a1, a2, a3, a4, a5, a6, a7]
    funext j
    obtain ⟨T, l, rfl⟩ : ∃ (T : Fin 8192) (l : Fin 1024), j = ix2 T l := ⟨j 0, j 1, eq_ix2 j⟩
    obtain ⟨b, r, rfl⟩ : ∃ (b : Fin 64) (r : Fin 128), T = row b r := ⟨bk T, rr T, Fin.ext (by dsimp only; omega)⟩
    refine (ref_out _ _ _ _ _ _ _ _ b r l).trans (Eq.trans ?_ (arr_row m c b r l).symm)
    unfold attSpec
    refine congrArg (fun z : EReal => hM m c (row b r) l + z) (Finset.sum_congr rfl fun k _ => congrArg (fun z : EReal => z * wM m c k l) ?_)
    have ek : hd k = gh ⟨k.val / 512, by omega⟩ ⟨k.val / 64 % 8, by omega⟩ := Fin.ext (by dsimp only; omega)
    rw [ek]
    obtain ⟨-, -, p3, p4, p5, p6⟩ := hpre c
    exact (head_ref _ _ _ _ _ _ (hq c) (hk c) (fun h r j => real_of_finite (congrFun p3 (ix3 h r j))) (fun h => real_of_finite (congrFun p4 (ix1 h)))
      (fun d => real_of_finite (congrFun p5 (ix1 d))) (fun d => real_of_finite (congrFun p6 (ix1 d))) b _ _ r (ln k)).symm
end

end Cert.AttnFwdIdeal.Hand
end
-- ==== Proof.SsdMath.lean ====
module

public import proofs.«01_k».proof.Proof.NormMath
public import proofs.«01_k».proof.Proof.Silu
public import Idealize.ShloMosaic.Lib.WordCmp

/-! One head of the state-space recurrence over one chunk of 256 tokens: the decay's running sum, a token's output, the
state handed to the next chunk. -/

@[expose] public section
set_option maxRecDepth 16384
noncomputable section
namespace Cert.Ssd
open Idealize.ShloMosaic Cert.Util Cert.Norm

/-- `softplus`, as both programs compute it. -/
def softplus (z : EReal) : EReal := max z 0 + Ideal.log (1 + Ideal.exp (-(max z (-z))))
/-- The decay's exponent summed up to a token. -/
def acum (d : Fin 256 → EReal) (a : EReal) (l : Fin 256) : EReal := ∑ s : Fin 256, if s.val ≤ l.val then d s * a else 0
/-- The exponent from token `s` to token `l`: none, when `s` comes later. -/
def span (d : Fin 256 → EReal) (a : EReal) (l s : Fin 256) : EReal := if s.val ≤ l.val then acum d a l - acum d a s else ⊥
/-- A token's output at one lane of a head: its own chunk's tokens, the state before the chunk, the skip. -/
def out (x : Fin 256 → EReal) (b : Fin 256 → Fin 128 → EReal) (c : Fin 128 → EReal) (d : Fin 256 → EReal) (a skip : EReal)
    (st : Fin 128 → EReal) (l : Fin 256) : EReal :=
  (∑ s, (∑ n, c n * b s n) * Ideal.exp (span d a l s) * d s * x s) + (∑ n, c n * st n) * Ideal.exp (acum d a l) + skip * x l
/-- The state after the chunk at one lane of a head. -/
def next (x : Fin 256 → EReal) (b : Fin 256 → Fin 128 → EReal) (d : Fin 256 → EReal) (a : EReal) (st : Fin 128 → EReal)
    (n : Fin 128) : EReal :=
  st n * Ideal.exp (acum d a 255) + ∑ s, x s * (Ideal.exp (acum d a 255 - acum d a s) * d s) * b s n

theorem next_congr {x x' : Fin 256 → EReal} {b b' : Fin 256 → Fin 128 → EReal} {d d' : Fin 256 → EReal} {a a' : EReal} {st st' : Fin 128 → EReal} (n : Fin 128)
    (hx : ∀ s, x s = x' s) (hb : ∀ s n, b s n = b' s n) (hd : ∀ s, d s = d' s) (ha : a = a') (hs : ∀ n, st n = st' n) : next x b d a st n = next x' b' d' a' st' n := by
  rw [funext hx, funext fun s => funext (hb s), funext hd, ha, funext hs]
theorem out_congr {x x' : Fin 256 → EReal} {b b' : Fin 256 → Fin 128 → EReal} {v v' : Fin 128 → EReal} {d d' : Fin 256 → EReal} {a a' k k' : EReal} {st st' : Fin 128 → EReal} (l : Fin 256)
    (hx : ∀ s, x s = x' s) (hb : ∀ s n, b s n = b' s n) (hv : ∀ n, v n = v' n) (hd : ∀ s, d s = d' s) (ha : a = a') (hk : k = k') (hs : ∀ n, st n = st' n) :
    out x b v d a k st l = out x' b' v' d' a' k' st' l := by
  rw [funext hx, funext fun s => funext (hb s), funext hv, funext hd, ha, hk, funext hs]

/-- The bit a comparison of two positions gives. -/
theorem sge_eq {a b : ℕ} (ha : a < 2 ^ 31) (hb : b < 2 ^ 31) : IntOp.cmpi .sge (BitVec.ofNat 32 a) (BitVec.ofNat 32 b) = if b ≤ a then 1#1 else 0#1 := by
  rw [WordCmp.cmpi_sge_ofNat (w := 32) ha hb]
  by_cases h : b ≤ a <;> simp [h]
theorem slt_eq {a b : ℕ} (ha : a < 2 ^ 31) (hb : b < 2 ^ 31) : IntOp.cmpi .slt (BitVec.ofNat 32 a) (BitVec.ofNat 32 b) = if a < b then 1#1 else 0#1 := by
  rw [WordCmp.cmpi_slt_ofNat (w := 32) ha hb]
  by_cases h : a < b <;> simp [h]

/-- A finite token step and decay rate give finite exponents. -/
theorem softplus_real (z : EReal) (hz : ∃ r : ℝ, z = r) : ∃ r : ℝ, softplus z = r := by
  obtain ⟨r, rfl⟩ := hz
  refine ⟨max r 0 + Real.log (1 + Real.exp (-(max r (-r)))), ?_⟩
  have hp : (0 : ℝ) < 1 + Real.exp (-(max r (-r))) := by positivity
  have h0 : max (r : EReal) 0 = ((max r 0 : ℝ) : EReal) := (EReal.coe_strictMono.monotone.map_max (a := r) (b := 0)).symm
  have h1 : max (r : EReal) (-(r : EReal)) = ((max r (-r) : ℝ) : EReal) := by
    rw [← EReal.coe_neg]; exact (EReal.coe_strictMono.monotone.map_max (a := r) (b := -r)).symm
  unfold softplus
  rw [h0, h1, ← EReal.coe_neg]
  show ((max r 0 : ℝ) : EReal) + Ideal.log (1 + ((Real.exp (-(max r (-r))) : ℝ) : EReal)) = _
  rw [show (1 : EReal) = ((1 : ℝ) : EReal) from rfl, ← EReal.coe_add, EReal.coe_add]
  exact congrArg _ ((if_neg (not_le.mpr hp) : (if 1 + Real.exp (-(max r (-r))) ≤ 0 then ⊥ else (Real.log (1 + Real.exp (-(max r (-r)))) : EReal)) = _))

/-- The running sum by a product with ones below the diagonal, the factors split in three bf16 parts. -/
theorem acum_split (w : Fin 256 → EReal) (hw : ∀ s, ∃ r : ℝ, w s = r) (l : Fin 256) :
    (∑ s : Fin 256, (if s.val ≤ l.val then (1 : EReal) else 0) * w s) + (∑ s : Fin 256, (if s.val ≤ l.val then (1 : EReal) else 0) * (w s - w s))
      + (∑ s : Fin 256, (if s.val ≤ l.val then (1 : EReal) else 0) * (w s - w s - (w s - w s)))
    = ∑ s : Fin 256, if s.val ≤ l.val then w s else 0 := by
  have h0 : ∀ s, w s - w s = 0 := fun s => by
    obtain ⟨r, e⟩ := hw s
    rw [e, ← EReal.coe_sub, sub_self, EReal.coe_zero]
  simp only [h0, sub_zero, mul_zero, Finset.sum_const_zero, add_zero]
  exact Finset.sum_congr rfl fun s _ => by split <;> simp

/-- The host's running sum down the first axis of three. -/
theorem cumsum_apply {N M C D : ℕ} (hN : M + 1 = N) (x : (⟨3, ![N, C, D]⟩ : Shape).Idx → EReal) (h) (hu : 0 < (⟨0, ![]⟩ : Shape).numel) (l : Fin N) (g : Fin C) (r : Fin D) :
    Host.reduceWindow (s := ⟨3, ![N, C, D]⟩) (t := ⟨3, ![N, C, D]⟩) (· + ·) ![N, 1, 1] ![1, 1, 1] ![M, 0, 0] ![0, 0, 0] x (fun _ : (⟨0, ![]⟩ : Shape).Idx => (0 : EReal)) h hu (ix3 l g r)
      = ∑ s : Fin N, if s.val ≤ l.val then x (ix3 s g r) else 0 := by
  have fold : ∀ {n : ℕ} (f : Fin n → EReal), (List.finRange n).foldl (fun r k => r + f k) 0 = ∑ k, f k := by
    intro n f
    rw [← List.sum_ofFn, List.ofFn_eq_map, List.sum_eq_foldl, List.foldl_map]
  unfold Host.reduceWindow
  refine (fold _).trans ?_
  rw [← Equiv.sum_comp (Shape.rowMajor (⟨3, ![N, 1, 1]⟩ : Shape))]
  simp only [Equiv.symm_apply_apply]
  rw [sum_idx3]
  simp only [Finset.univ_unique, Finset.sum_singleton]
  have e : ∀ w : Fin N, M ≤ l.val + w.val → l.val + w.val - M < N := fun w _ => by omega
  refine (Finset.sum_congr rfl fun w _ => (?_ : _ = if hk : M ≤ l.val + w.val then x (ix3 ⟨l.val + w.val - M, e w hk⟩ g r) else 0)).trans ?_
  · by_cases hk : M ≤ l.val + w.val
    · rw [dif_pos hk, dif_pos]
      · refine congrArg x (funext fun a => Fin.ext ?_)
        match a with
        | ⟨0, _⟩ => show l.val * 1 + w.val - M = l.val + w.val - M; omega
        | ⟨1, _⟩ => show g.val * 1 + 0 - 0 = g.val; omega
        | ⟨2, _⟩ => show r.val * 1 + 0 - 0 = r.val; omega
      · intro a
        match a with
        | ⟨0, _⟩ => exact (show M ≤ l.val * 1 + w.val ∧ l.val * 1 + w.val - M < N by omega)
        | ⟨1, _⟩ => exact (show 0 ≤ g.val * 1 + 0 ∧ g.val * 1 + 0 - 0 < C by omega)
        | ⟨2, _⟩ => exact (show 0 ≤ r.val * 1 + 0 ∧ r.val * 1 + 0 - 0 < D by omega)
    · rw [dif_neg hk, dif_neg]
      intro hin
      have h0 : M ≤ l.val * 1 + w.val := (hin 0).1
      omega
  · rw [← Finset.sum_filter, ← Finset.sum_filter_add_sum_filter_not Finset.univ (fun w : Fin N => M ≤ l.val + w.val)]
    rw [Finset.sum_eq_zero (s := Finset.univ.filter fun w : Fin N => ¬ M ≤ l.val + w.val) (fun w hw => dif_neg (Finset.mem_filter.mp hw).2), add_zero]
    refine Finset.sum_bij' (fun w hw => ⟨l.val + w.val - M, e w (Finset.mem_filter.mp hw).2⟩) (fun s hs => ⟨M + s.val - l.val, by have := (Finset.mem_filter.mp hs).2; omega⟩) ?_ ?_ ?_ ?_ ?_
    · intro w hw; exact Finset.mem_filter.mpr ⟨Finset.mem_univ _, (show l.val + w.val - M ≤ l.val by omega)⟩
    · intro s hs
      have := (Finset.mem_filter.mp hs).2
      exact Finset.mem_filter.mpr ⟨Finset.mem_univ _, (show M ≤ l.val + (M + s.val - l.val) by omega)⟩
    · intro w hw
      have := (Finset.mem_filter.mp hw).2
      exact Fin.ext (show M + (l.val + w.val - M) - l.val = w.val by omega)
    · intro s hs
      have := (Finset.mem_filter.mp hs).2
      exact Fin.ext (show l.val + (M + s.val - l.val) - M = s.val by omega)
    · intro w hw
      rw [dif_pos (Finset.mem_filter.mp hw).2]
/-! ## The whole sequence, chunk by chunk -/

/-- Token `s` of chunk `j`. -/
abbrev tok (j : ℕ) (s : Fin 256) : Fin 8192 := ⟨(256 * j + s.val) % 8192, Nat.mod_lt _ (by decide)⟩
/-- The head and the columns a column of the sequence belongs to. -/
abbrev headOf (k : Fin 2048) : Fin 32 := ⟨k.val / 64, by omega⟩
abbrev xCol (k : Fin 2048) : Fin 3072 := ⟨k.val, by omega⟩
abbrev bCol (k : Fin 2048) (n : Fin 128) : Fin 3072 := ⟨2048 + 128 * (k.val / 512) + n.val, by omega⟩
abbrev cCol (k : Fin 2048) (n : Fin 128) : Fin 3072 := ⟨2560 + 128 * (k.val / 512) + n.val, by omega⟩
section
variable (xc : Fin 8192 → Fin 3072 → EReal) (dt : Fin 8192 → Fin 32 → EReal) (bias alog dsk : Fin 32 → EReal)
/-- The state before chunk `j`. -/
def state : ℕ → Fin 2048 → Fin 128 → EReal
  | 0, _, _ => 0
  | j + 1, k, n => next (fun s => xc (tok j s) (xCol k)) (fun s n => xc (tok j s) (bCol k n)) (fun s => softplus (dt (tok j s) (headOf k) + bias (headOf k)))
      (-Ideal.exp (alog (headOf k))) (state j k) n
/-- The output of token `l` of chunk `j`. -/
def y (j : ℕ) (l : Fin 256) (k : Fin 2048) : EReal :=
  out (fun s => xc (tok j s) (xCol k)) (fun s n => xc (tok j s) (bCol k n)) (fun n => xc (tok j l) (cCol k n)) (fun s => softplus (dt (tok j s) (headOf k) + bias (headOf k)))
    (-Ideal.exp (alog (headOf k))) (dsk (headOf k)) (state xc dt bias alog j k) l
end
end Cert.Ssd
-- ==== Proof.SsdFwdRefStep.lean ====
module

public import proofs.«01_k».proof.Proof.Gen.SsdFwdRefIdeal.Run
public import proofs.«01_k».proof.Proof.SsdMath

/-! The plain scan's step, on one chunk: the decay's running sum, the chunk's output, the next state, and how a chunk is
read and written. -/

@[expose] public section
set_option maxRecDepth 16384
noncomputable section
namespace Cert.SsdFwdRefIdeal.Hand
open Cert.SsdFwdRefIdeal Cert.SsdFwdRefIdeal.Gen Idealize.ShloMosaic Idealize.ShloMosaic.TcCoe Cert.Util Cert.Norm Cert.Ssd

abbrev AX := FVec Ideal S256x4x8x64 .f32
abbrev AD := FVec Ideal S256x4x8 .f32
abbrev AB := FVec Ideal S256x4x128 .f32
abbrev AA := FVec Ideal S4x8 .f32
abbrev AM := IVec S256x256x1x1 1
abbrev AS := FVec Ideal S4x8x64x128 .f32

/-- The running sum of the decays. -/
def cum (d : AD) (a : AA) : AD := Host.reduceWindowAdd ![256, 1, 1] ![1, 1, 1] ![255, 0, 0] ![0, 0, 0] (mulf d (broadcastInDim S256x4x8 ![0, 1, 2] bcast_S1x4x8_S256x4x8_0_1_2 (broadcastInDim S1x4x8 ![1, 2] bcast_S4x8_S1x4x8_1_2 a))) (broadcastInDim S_ ![] bcast_S_S_ (constant (F := Ideal) S_ .f32 0x00000000#32)) reduceWindows_S256x4x8_S256x4x8_w256s1p255_0_w1s1p0_0_w1s1p0_0 h_S_
/-- The state after the chunk. -/
def nextS (x : AX) (d : AD) (b : AB) (a : AA) (S : AS) : AS := addf (mulf S (broadcastInDim S4x8x64x128 ![0, 1, 2, 3] bcast_S4x8x1x1_S4x8x64x128_0_1_2_3 (broadcastInDim S4x8x1x1 ![0, 1] bcast_S4x8_S4x8x1x1_0_1 (Host.exp (shapeCast S4x8 (extractStridedSlice S1x4x8 ![255, 0, 0] (cum d a) slices_S256x4x8_S1x4x8_255_0_0) shapeCasts_S1x4x8_S4x8))))) (Host.dotGeneral dot_S256x4x8x64_S256x4x128_S4x8x64x128_0_0_23_2_1_1 none (mulf (broadcastInDim S256x4x8x64 ![0, 1, 2, 3] bcast_S256x4x8x1_S256x4x8x64_0_1_2_3 (broadcastInDim S256x4x8x1 ![0, 1, 2] bcast_S256x4x8_S256x4x8x1_0_1_2 (mulf (Host.exp (subf (broadcastInDim S256x4x8 ![0, 1, 2] bcast_S1x4x8_S256x4x8_0_1_2 (extractStridedSlice S1x4x8 ![255, 0, 0] (cum d a) slices_S256x4x8_S1x4x8_255_0_0)) (cum d a))) d))) x) b)
/-- The chunk's output. -/
def coreY (x : AX) (d : AD) (b c : AB) (a : AA) (M : AM) (S : AS) : AX := addf (transpose S256x4x8x64 [3, 0, 1, 2] (Host.dotGeneral dot_S256x4x8x64_S256x256x4x8_S4x8x64x256_0_1_3_0_12_23 none x (mulf (mulf (broadcastInDim S256x256x4x8 ![0, 1, 2, 3] bcast_S256x256x4x1_S256x256x4x8_0_1_2_3 (broadcastInDim S256x256x4x1 ![0, 1, 2] bcast_S256x256x4_S256x256x4x1_0_1_2 (transpose S256x256x4 [2, 1, 0] (Host.dotGeneral dot_S256x4x128_S256x4x128_S4x256x256_2_2_0_0_1_1 none b c) transposes_S4x256x256_S256x256x4_2_1_0))) (Host.exp (select (broadcastInDim S256x256x4x8 ![0, 1, 2, 3] bcast_S256x256x1x1_S256x256x4x8_0_1_2_3 M) (subf (broadcastInDim S256x256x4x8 ![0, 1, 2, 3] bcast_S256x1x4x8_S256x256x4x8_0_1_2_3 (broadcastInDim S256x1x4x8 ![0, 2, 3] bcast_S256x4x8_S256x1x4x8_0_2_3 (cum d a))) (broadcastInDim S256x256x4x8 ![0, 1, 2, 3] bcast_S1x256x4x8_S256x256x4x8_0_1_2_3 (broadcastInDim S1x256x4x8 ![1, 2, 3] bcast_S256x4x8_S1x256x4x8_1_2_3 (cum d a)))) (broadcastInDim S256x256x4x8 ![] bcast_S_S256x256x4x8 (id (constant (F := Ideal) S_ .f32 0xFF800000#32)))))) (broadcastInDim S256x256x4x8 ![0, 1, 2, 3] bcast_S1x256x4x8_S256x256x4x8_0_1_2_3 (broadcastInDim S1x256x4x8 ![1, 2, 3] bcast_S256x4x8_S1x256x4x8_1_2_3 d)))) transposes_S4x8x64x256_S256x4x8x64_3_0_1_2) (mulf (transpose S256x4x8x64 [3, 0, 1, 2] (Host.dotGeneral dot_S4x8x64x128_S256x4x128_S4x8x64x256_3_2_12_0_0_1 none S c) transposes_S4x8x64x256_S256x4x8x64_3_0_1_2) (broadcastInDim S256x4x8x64 ![0, 1, 2, 3] bcast_S256x4x8x1_S256x4x8x64_0_1_2_3 (broadcastInDim S256x4x8x1 ![0, 1, 2] bcast_S256x4x8_S256x4x8x1_0_1_2 (Host.exp (cum d a)))))

abbrev W := (⟨S_, .i32⟩ : BufTy).Contents (Elt Ideal)
/-- The chunk the counter names, of the heads' lanes, of the time steps, of the two bands. -/
def readX (X : FVec Ideal S32x256x4x8x64 .f32) (w : W) : AX := shapeCast S256x4x8x64 (Host.dynamicSlice S1x256x4x8x64 X (fun k => (((![w, constantI S_ 32 0#32, constantI S_ 32 0#32, constantI S_ 32 0#32, constantI S_ 32 0#32] : Fin 5 → (⟨S_, .i32⟩ : BufTy).Contents (Elt Ideal))) k (Shape.Idx.first h_S_)).toInt) sliceFits_S32x256x4x8x64_S1x256x4x8x64) shapeCasts_S1x256x4x8x64_S256x4x8x64
def readD (X : FVec Ideal S32x256x4x8 .f32) (w : W) : AD := shapeCast S256x4x8 (Host.dynamicSlice S1x256x4x8 X (fun k => (((![w, constantI S_ 32 0#32, constantI S_ 32 0#32, constantI S_ 32 0#32] : Fin 4 → (⟨S_, .i32⟩ : BufTy).Contents (Elt Ideal))) k (Shape.Idx.first h_S_)).toInt) sliceFits_S32x256x4x8_S1x256x4x8) shapeCasts_S1x256x4x8_S256x4x8
def readB (X : FVec Ideal S32x256x4x128 .f32) (w : W) : AB := shapeCast S256x4x128 (Host.dynamicSlice S1x256x4x128 X (fun k => (((![w, constantI S_ 32 0#32, constantI S_ 32 0#32, constantI S_ 32 0#32] : Fin 4 → (⟨S_, .i32⟩ : BufTy).Contents (Elt Ideal))) k (Shape.Idx.first h_S_)).toInt) sliceFits_S32x256x4x128_S1x256x4x128) shapeCasts_S1x256x4x128_S256x4x128
/-- The chunk the counter names written, of the outputs and of the states. -/
def putY (X : FVec Ideal S32x256x4x8x64 .f32) (w : W) (U : AX) : FVec Ideal S32x256x4x8x64 .f32 := Host.dynamicUpdateSlice X (broadcastInDim S1x256x4x8x64 ![1, 2, 3, 4] bcast_S256x4x8x64_S1x256x4x8x64_1_2_3_4 U) (fun k => (((![w, constantI S_ 32 0#32, constantI S_ 32 0#32, constantI S_ 32 0#32, constantI S_ 32 0#32] : Fin 5 → (⟨S_, .i32⟩ : BufTy).Contents (Elt Ideal))) k (Shape.Idx.first h_S_)).toInt) updateFits_S32x256x4x8x64_S1x256x4x8x64
def putS (X : FVec Ideal S32x4x8x64x128 .f32) (w : W) (U : AS) : FVec Ideal S32x4x8x64x128 .f32 := Host.dynamicUpdateSlice X (broadcastInDim S1x4x8x64x128 ![1, 2, 3, 4] bcast_S4x8x64x128_S1x4x8x64x128_1_2_3_4 U) (fun k => (((![w, constantI S_ 32 0#32, constantI S_ 32 0#32, constantI S_ 32 0#32, constantI S_ 32 0#32] : Fin 5 → (⟨S_, .i32⟩ : BufTy).Contents (Elt Ideal))) k (Shape.Idx.first h_S_)).toInt) updateFits_S32x4x8x64x128_S1x4x8x64x128

theorem cum_apply (d : AD) (a : AA) (l : Fin 256) (g : Fin 4) (r : Fin 8) :
    cum d a (ix3 l g r) = acum (fun s => d (ix3 s g r)) (a (ix2 g r)) l := by
  have z : (broadcastInDim S_ ![] bcast_S_S_ (constant (F := Ideal) S_ .f32 0x00000000#32) : FVec Ideal S_ .f32) = fun _ => (0 : EReal) := by
    funext i; pointwise []
  unfold cum acum
  rw [z]
  refine (cumsum_apply (M := 255) (N := 256) (C := 4) (D := 8) rfl _ reduceWindows_S256x4x8_S256x4x8_w256s1p255_0_w1s1p0_0_w1s1p0_0 h_S_ l g r).trans ?_
  refine Finset.sum_congr rfl fun s _ => ?_
  split
  · pointwise []
  · rfl

theorem nextS_apply (x : AX) (d : AD) (b : AB) (a : AA) (S : AS) (g : Fin 4) (r : Fin 8) (p : Fin 64) (n : Fin 128) :
    nextS x d b a S (ix4 g r p n)
      = next (fun s => x (ix4 s g r p)) (fun s n => b (ix3 s g n)) (fun s => d (ix3 s g r)) (a (ix2 g r)) (fun n => S (ix4 g r p n)) n := by
  unfold nextS next
  pointwise [cum_apply]
  exact congrArg (fun z : EReal => _ + z) (Finset.sum_congr rfl fun s _ => by rw [mul_comm (x (ix4 s g r p))])

theorem coreY_apply (x : AX) (d : AD) (b c : AB) (a : AA) (M : AM) (S : AS) (hM : ∀ l s, M (ix4 l s 0 0) = if s.val ≤ l.val then 1#1 else 0#1)
    (l : Fin 256) (g : Fin 4) (r : Fin 8) (p : Fin 64) :
    coreY x d b c a M S (ix4 l g r p)
      = (∑ s, (∑ n, c (ix3 l g n) * b (ix3 s g n)) * Ideal.exp (span (fun s => d (ix3 s g r)) (a (ix2 g r)) l s) * d (ix3 s g r) * x (ix4 s g r p))
        + (∑ n, c (ix3 l g n) * S (ix4 g r p n)) * Ideal.exp (acum (fun s => d (ix3 s g r)) (a (ix2 g r)) l) := by
  unfold coreY
  pointwise [cum_apply, hM]
  refine congrArg₂ (fun a b : EReal => a + b) (Finset.sum_congr rfl fun s _ => ?_)
    (congrArg (fun z : EReal => z * _) (Finset.sum_congr rfl fun n _ => mul_comm _ _))
  rw [mul_comm (x (ix4 s g r p))]
  refine congrArg (fun z : EReal => z * d (ix3 s g r) * x (ix4 s g r p)) (congrArg₂ (fun a b : EReal => a * b) (Finset.sum_congr rfl fun n _ => mul_comm _ _)
    (congrArg Ideal.exp ?_))
  unfold span
  by_cases h : s.val ≤ l.val
  · simp only [if_pos h]; rfl
  · simp only [if_neg h]
    exact (show (id (constant (F := Ideal) S_ .f32 0xFF800000#32) ix0 : EReal) = ⊥ from by
      show Ideal.ofBits .f32 0xFF800000#32 = ⊥
      simp [Ideal.ofBits, Ideal.ieee])

theorem coreY_out (x : AX) (d : AD) (b c : AB) (a : AA) (M : AM) (S : AS) (hM : ∀ l s, M (ix4 l s 0 0) = if s.val ≤ l.val then 1#1 else 0#1)
    (l : Fin 256) (g : Fin 4) (r : Fin 8) (p : Fin 64) (k : EReal) :
    coreY x d b c a M S (ix4 l g r p) + k * x (ix4 l g r p)
      = out (fun s => x (ix4 s g r p)) (fun s n => b (ix3 s g n)) (fun n => c (ix3 l g n)) (fun s => d (ix3 s g r)) (a (ix2 g r)) k (fun n => S (ix4 g r p n)) l := by
  rw [coreY_apply x d b c a M S hM]; rfl

/-- The loop's counter as the starts of a chunk: the chunk's number, then zeros. -/
theorem start_eq {N : ℕ} (v : Fin N → W) (k : Fin N → ℕ) (h : ∀ a, v a (Shape.Idx.first h_S_) = BitVec.ofNat 32 (k a)) (hk : ∀ a, k a < 2 ^ 31) (a : Fin N) :
    (v a (Shape.Idx.first h_S_)).toInt = (k a : ℤ) := by
  rw [h a]; exact WordCmp.toInt_ofNat_of_lt (hk a)
theorem iv_eq (n : ℕ) : Scf.iv 0#32 1#32 n = BitVec.ofNat 32 n := by
  induction n with
  | zero => rw [Scf.iv_zero]
  | succ n ih => rw [Scf.iv_succ, ih]; exact (BitVec.ofNat_add _ _).symm

theorem readX_apply (X) {n : ℕ} (hn : n < 32) (s : Fin 256) (g : Fin 4) (r : Fin 8) (p : Fin 64) :
    readX X (fun _ => Scf.iv 0#32 1#32 n) (ix4 s g r p) = X (ix5 ⟨n, hn⟩ s g r p) := by
  unfold readX
  rw [WordCmp.dynamicSlice_eq_extract _ _ _ _ ![n, 0, 0, 0, 0] (by refine ⟨rfl, fun a => ?_⟩; fin_cases a <;> simp <;> omega)
    (start_eq _ _ (fun a => by fin_cases a <;> first | exact iv_eq n | rfl) (fun a => by fin_cases a <;> simp; omega))]
  pointwise []

theorem readD_apply (X) {n : ℕ} (hn : n < 32) (s : Fin 256) (g : Fin 4) (r : Fin 8) :
    readD X (fun _ => Scf.iv 0#32 1#32 n) (ix3 s g r) = X (ix4 ⟨n, hn⟩ s g r) := by
  unfold readD
  rw [WordCmp.dynamicSlice_eq_extract _ _ _ _ ![n, 0, 0, 0] (by refine ⟨rfl, fun a => ?_⟩; fin_cases a <;> simp <;> omega)
    (start_eq _ _ (fun a => by fin_cases a <;> first | exact iv_eq n | rfl) (fun a => by fin_cases a <;> simp; omega))]
  pointwise []

theorem readB_apply (X) {n : ℕ} (hn : n < 32) (s : Fin 256) (g : Fin 4) (k : Fin 128) :
    readB X (fun _ => Scf.iv 0#32 1#32 n) (ix3 s g k) = X (ix4 ⟨n, hn⟩ s g k) := by
  unfold readB
  rw [WordCmp.dynamicSlice_eq_extract _ _ _ _ ![n, 0, 0, 0] (by refine ⟨rfl, fun a => ?_⟩; fin_cases a <;> simp <;> omega)
    (start_eq _ _ (fun a => by fin_cases a <;> first | exact iv_eq n | rfl) (fun a => by fin_cases a <;> simp; omega))]
  pointwise []

/-- A chunk written is the new one at its own number, the old one elsewhere. -/
theorem putY_apply (X U) {n : ℕ} (hn : n < 32) (j : Fin 32) (s : Fin 256) (g : Fin 4) (r : Fin 8) (p : Fin 64) :
    putY X (fun _ => Scf.iv 0#32 1#32 n) U (ix5 j s g r p) = if j.val = n then U (ix4 s g r p) else X (ix5 j s g r p) := by
  unfold putY
  rw [WordCmp.dynamicUpdateSlice_eq_update _ _ _ _ ![n, 0, 0, 0, 0] (by refine ⟨rfl, fun a => ?_⟩; fin_cases a <;> simp <;> omega)
    (start_eq _ _ (fun a => by fin_cases a <;> first | exact iv_eq n | rfl) (fun a => by fin_cases a <;> simp; omega))]
  pointwise []
  exact (dite_eq_ite ..).trans (if_congr (by omega) rfl rfl)
theorem putS_apply (X U) {n : ℕ} (hn : n < 32) (j : Fin 32) (g : Fin 4) (r : Fin 8) (p : Fin 64) (k : Fin 128) :
    putS X (fun _ => Scf.iv 0#32 1#32 n) U (ix5 j g r p k) = if j.val = n then U (ix4 g r p k) else X (ix5 j g r p k) := by
  unfold putS
  rw [WordCmp.dynamicUpdateSlice_eq_update _ _ _ _ ![n, 0, 0, 0, 0] (by refine ⟨rfl, fun a => ?_⟩; fin_cases a <;> simp <;> omega)
    (start_eq _ _ (fun a => by fin_cases a <;> first | exact iv_eq n | rfl) (fun a => by fin_cases a <;> simp; omega))]
  pointwise []
  exact (dite_eq_ite ..).trans (if_congr (by omega) rfl rfl)
end Cert.SsdFwdRefIdeal.Hand
end
-- ==== Proof.SsdFwdRefLoop.lean ====
module

public import proofs.«01_k».proof.Proof.SsdFwdRefStep

/-! The plain scan's loop: the carried arrays before each chunk, by induction on the chunks done. -/

@[expose] public section
set_option maxRecDepth 16384
noncomputable section
namespace Cert.SsdFwdRefIdeal.Hand
open Cert.SsdFwdRefIdeal Cert.SsdFwdRefIdeal.Gen Cert.SsdFwdRefIdeal.Value Idealize.ShloMosaic Idealize.ShloMosaic.TcCoe Idealize.ShloMosaic.StableHlo Idealize.SL.Sem Cert.Util Cert.Norm Cert.Ssd

/-- A lane of the 2048: band, head of the band, lane of the head. -/
abbrev col (g : Fin 4) (r : Fin 8) (p : Fin 64) : Fin 2048 := ⟨512 * g.val + 64 * r.val + p.val, by omega⟩
abbrev hd (g : Fin 4) (r : Fin 8) : Fin 32 := ⟨8 * g.val + r.val, by omega⟩
theorem headOf_col (g : Fin 4) (r : Fin 8) (p : Fin 64) : headOf (col g r p) = hd g r := Fin.ext (by dsimp only; omega)

abbrev Val := Valuation τ sig (Elt Ideal)
abbrev it (E : Val) (k : ℕ) : Val := STEP^[k] E

theorem it_keeps (E : Val) (b : Ref sig .tc) (h : ∀ V : Val, STEP V (Proc.devRef .tc b) = V (Proc.devRef .tc b)) (k : ℕ) : it E k (Proc.devRef .tc b) = E (Proc.devRef .tc b) := by
  induction k with
  | zero => rfl
  | succ k ih => exact (congrFun (Function.iterate_succ_apply' STEP k E) _).trans ((h _).trans ih)

/-- The carried arrays. -/
abbrev vX (E : Val) : FVec Ideal S32x256x4x8x64 .f32 := E (Proc.devRef .tc main_v33_0)
abbrev vD (E : Val) : FVec Ideal S32x256x4x8 .f32 := E (Proc.devRef .tc main_v33_1)
abbrev vB (E : Val) : FVec Ideal S32x256x4x128 .f32 := E (Proc.devRef .tc main_v33_2)
abbrev vC (E : Val) : FVec Ideal S32x256x4x128 .f32 := E (Proc.devRef .tc main_v33_3)
abbrev vA (E : Val) : AA := E (Proc.devRef .tc main_v33_4)
abbrev vM (E : Val) : AM := E (Proc.devRef .tc main_v33_5)
abbrev vS (E : Val) : AS := E (Proc.devRef .tc main_v33_7)
abbrev vY (E : Val) : FVec Ideal S32x256x4x8x64 .f32 := E (Proc.devRef .tc main_v33_8)
abbrev vZ (E : Val) : FVec Ideal S32x4x8x64x128 .f32 := E (Proc.devRef .tc main_v33_9)

/-- One trip round the loop, on the carried arrays. -/
theorem step_S (V : Val) (w : W) (hw : V (Proc.devRef .tc main_v33_6) = w) :
    vS (STEP V) = nextS (readX (vX V) w) (readD (vD V) w) (readB (vB V) w) (vA V) (vS V) := by
  subst hw; exact STEP_main_v33_7 V
theorem step_Z (V : Val) (w : W) (hw : V (Proc.devRef .tc main_v33_6) = w) : vZ (STEP V) = putS (vZ V) w (vS V) := by
  subst hw; exact STEP_main_v33_9 V
theorem step_Y (V : Val) (w : W) (hw : V (Proc.devRef .tc main_v33_6) = w) :
    vY (STEP V) = putY (vY V) w (coreY (readX (vX V) w) (readD (vD V) w) (readB (vB V) w) (readB (vC V) w) (vA V) (vM V) (vS V)) := by
  subst hw; exact STEP_main_v33_8 V

section
variable (E : Val) (xc : Fin 8192 → Fin 3072 → EReal) (dt : Fin 8192 → Fin 32 → EReal) (bias alog dsk : Fin 32 → EReal)
  (hctr : ∀ k, it E k (Proc.devRef .tc main_v33_6) = fun _ => Scf.iv 0#32 1#32 k)
  (hX : ∀ (j : Fin 32) (s : Fin 256) g r p, (vX E (ix5 j s g r p) : EReal) = xc (tok j s) (xCol (col g r p)))
  (hD : ∀ (j : Fin 32) (s : Fin 256) g r, (vD E (ix4 j s g r) : EReal) = softplus (dt (tok j s) (hd g r) + bias (hd g r)))
  (hB : ∀ (j : Fin 32) (s : Fin 256) g r p n, (vB E (ix4 j s g n) : EReal) = xc (tok j s) (bCol (col g r p) n))
  (hC : ∀ (j : Fin 32) (s : Fin 256) g r p n, (vC E (ix4 j s g n) : EReal) = xc (tok j s) (cCol (col g r p) n))
  (hA : ∀ g r, (vA E (ix2 g r) : EReal) = -Ideal.exp (alog (hd g r)))
  (hM : ∀ (l s : Fin 256), (vM E) (ix4 l s 0 0) = if s.val ≤ l.val then 1#1 else 0#1)
  (h0 : ∀ g r p n, (vS E (ix4 g r p n) : EReal) = 0)
include hctr hX hD hB hA h0
/-- Before chunk `k` the carried state is the recurrence's. -/
theorem it_state (k : ℕ) (hk : k ≤ 32) (g : Fin 4) (r : Fin 8) (p : Fin 64) (n : Fin 128) :
    (vS (it E k) (ix4 g r p n) : EReal) = state xc dt bias alog k (col g r p) n := by
  induction k generalizing n with
  | zero => exact h0 g r p n
  | succ k ih =>
    have e : (vS (it E (k + 1))) = nextS (readX (vX E) (fun _ => Scf.iv 0#32 1#32 k))
        (readD (vD E) (fun _ => Scf.iv 0#32 1#32 k)) (readB (vB E) (fun _ => Scf.iv 0#32 1#32 k))
        (vA E) (vS (it E k)) := by
      refine (congrArg vS (Function.iterate_succ_apply' STEP k E)).trans ((step_S _ _ (hctr k)).trans ?_)
      rw [(show vX (it E k) = vX E from it_keeps E main_v33_0 STEP_main_v33_0 k), (show vD (it E k) = vD E from it_keeps E main_v33_1 STEP_main_v33_1 k), (show vB (it E k) = vB E from it_keeps E main_v33_2 STEP_main_v33_2 k), (show vA (it E k) = vA E from it_keeps E main_v33_4 STEP_main_v33_4 k)]
      rfl
    rw [e, nextS_apply]
    refine next_congr n (fun s => ?_) (fun s n => ?_) (fun s => ?_) ?_ (fun n => ih (by omega) n)
    · exact (readX_apply _ (by omega) s g r p).trans (hX _ _ _ _ _)
    · exact (readB_apply _ (by omega) s g n).trans (hB _ _ _ r p _)
    · rw [headOf_col]; exact (readD_apply _ (by omega) s g r).trans (hD _ _ _ _)
    · rw [headOf_col]; exact hA g r

/-- The states written so far. -/
theorem it_states (k : ℕ) (hk : k ≤ 32) (j : Fin 32) (hj : j.val < k) (g : Fin 4) (r : Fin 8) (p : Fin 64) (n : Fin 128) :
    (vZ (it E k) (ix5 j g r p n) : EReal) = state xc dt bias alog j (col g r p) n := by
  induction k with
  | zero => omega
  | succ k ih =>
    have e : (vZ (it E (k + 1))) = putS (vZ (it E k)) (fun _ => Scf.iv 0#32 1#32 k)
        (vS (it E k)) := by
      refine (congrArg vZ (Function.iterate_succ_apply' STEP k E)).trans ((step_Z _ _ (hctr k)).trans ?_)
      rfl
    rw [e, putS_apply _ _ (by omega)]
    by_cases h : j.val = k
    · rw [if_pos h, h]; exact it_state E xc dt bias alog hctr hX hD hB hA h0 k (by omega) g r p n
    · rw [if_neg h]; exact ih (by omega) (by omega)

include hC hM
/-- The outputs written so far, the skip left out. -/
theorem it_outs (k : ℕ) (hk : k ≤ 32) (j : Fin 32) (hj : j.val < k) (l : Fin 256) (g : Fin 4) (r : Fin 8) (p : Fin 64) :
    (vY (it E k) (ix5 j l g r p) : EReal) + dsk (hd g r) * xc (tok j l) (xCol (col g r p))
      = y xc dt bias alog dsk j l (col g r p) := by
  induction k with
  | zero => omega
  | succ k ih =>
    have e : (vY (it E (k + 1))) = putY (vY (it E k)) (fun _ => Scf.iv 0#32 1#32 k)
        (coreY (readX (vX E) (fun _ => Scf.iv 0#32 1#32 k))
        (readD (vD E) (fun _ => Scf.iv 0#32 1#32 k)) (readB (vB E) (fun _ => Scf.iv 0#32 1#32 k))
        (readB (vC E) (fun _ => Scf.iv 0#32 1#32 k))
        (vA E) (vM E) (vS (it E k))) := by
      refine (congrArg vY (Function.iterate_succ_apply' STEP k E)).trans ((step_Y _ _ (hctr k)).trans ?_)
      rw [(show vX (it E k) = vX E from it_keeps E main_v33_0 STEP_main_v33_0 k), (show vD (it E k) = vD E from it_keeps E main_v33_1 STEP_main_v33_1 k), (show vB (it E k) = vB E from it_keeps E main_v33_2 STEP_main_v33_2 k), (show vC (it E k) = vC E from it_keeps E main_v33_3 STEP_main_v33_3 k), (show vA (it E k) = vA E from it_keeps E main_v33_4 STEP_main_v33_4 k), (show vM (it E k) = vM E from it_keeps E main_v33_5 STEP_main_v33_5 k)]
      rfl
    rw [e, putY_apply _ _ (by omega)]
    by_cases h : j.val = k
    · rw [if_pos h]
      subst h
      rw [← (readX_apply (vX E) j.isLt l g r p).trans (hX j l g r p), coreY_out _ _ _ _ _ _ _ hM]
      unfold y
      refine out_congr l (fun s => ?_) (fun s n => ?_) (fun n => ?_) (fun s => ?_) ?_ ?_ fun n => it_state E xc dt bias alog hctr hX hD hB hA h0 j (by omega) g r p n
      · exact (readX_apply _ j.isLt s g r p).trans (hX _ _ _ _ _)
      · exact (readB_apply _ j.isLt s g n).trans (hB _ _ _ r p _)
      · exact (readB_apply _ j.isLt l g n).trans (hC _ _ _ r p _)
      · rw [headOf_col]; exact (readD_apply _ j.isLt s g r).trans (hD _ _ _ _)
      · rw [headOf_col]; exact hA g r
      · rw [headOf_col]
    · rw [if_neg h]; exact ih (by omega) (by omega)
end
end Cert.SsdFwdRefIdeal.Hand
end
-- ==== Proof.SsdFwdBody.lean ====
module

public import proofs.«01_k».proof.Proof.Gen.SsdFwdIdeal.Value
public import proofs.«01_k».proof.Proof.SsdMath
public import Idealize.ShloMosaic.Lib.Claim
public import Idealize.ShloMosaic.Lib.Pipeline.ReadBack

/-! The chunk's body in its own parts: one group of eight heads, two heads to a block of 128 lanes. -/

@[expose] public section
set_option maxRecDepth 16384
noncomputable section
namespace Cert.SsdFwdIdeal.Hand
open Cert.SsdFwdIdeal Cert.SsdFwdIdeal.Gen Idealize.ShloMosaic Idealize.ShloMosaic.TcCoe Idealize.SL.Sem Cert.Util

variable {F : FTy → Type} [FloatOps F] [Named F]

abbrev zeroB (S : Shape) : FVec F S .f32 := broadcast S (Scalar.ofBits .f32 0x00000000#32)
abbrev oneB (S : Shape) : FVec F S .f32 := broadcast S (Scalar.ofBits .f32 0x3F800000#32)

/-- Which earlier tokens a token sees. -/
def causal : IVec S256x256 1 := cmpi .sge (iota .tc S256x256 32 [0] iota_S256x256_d0_w32) (iota .tc S256x256 32 [1] iota_S256x256_d1_w32)
/-- Ones on and below the diagonal. -/
def tril : FVec F S256x256 .bf16 := truncf .bf16 (select causal (oneB S256x256) (zeroB S256x256)) bitsLt_bf16_f32
/-- The step sizes of a group's heads, one head a lane. -/
def step (dtraw : Vec F S256x128 .f32) (bias : Vec F S1x128 .f32) : FVec F S256x128 .f32 :=
  addf (maximumf (addf (shapeCast S256x128 dtraw shapeCasts_S256x128_S256x128) (broadcastTo S256x128 (shapeCast S1x128 bias shapeCasts_S1x128_S1x128) broadcasts_S1x128_S256x128)) (zeroB S256x128))
    (log (addf (oneB S256x128) (exp (subf (zeroB S256x128) (absf (addf (shapeCast S256x128 dtraw shapeCasts_S256x128_S256x128) (broadcastTo S256x128 (shapeCast S1x128 bias shapeCasts_S1x128_S1x128) broadcasts_S1x128_S256x128)))))))
/-- The exponent of each token's decay. -/
def rate (dt : FVec F S256x128 .f32) (alog : Vec F S1x128 .f32) : FVec F S256x128 .f32 :=
  mulf dt (broadcastTo S256x128 (subf (zeroB S1x128) (exp (shapeCast S1x128 alog shapeCasts_S1x128_S1x128))) broadcasts_S1x128_S256x128)
/-- What a block's first bf16 part leaves. -/
def rest (x : FVec F S256x128 .f32) : FVec F S256x128 .f32 := subf x (extf .f32 (truncf .bf16 x bitsLt_bf16_f32) bitsLt_bf16_f32)
/-- The exponents summed down the chunk. -/
def run (w : FVec F S256x128 .f32) : FVec F S256x128 .f32 :=
  addf (addf
    (matmul dot_S256x256_S256x128_S256x128_1_0_0_1_n_n none tril (truncf .bf16 w bitsLt_bf16_f32) (constant S256x128 .f32 0x00000000#32))
    (matmul dot_S256x256_S256x128_S256x128_1_0_0_1_n_n none tril (truncf .bf16 (rest w) bitsLt_bf16_f32) (constant S256x128 .f32 0x00000000#32)))
    (matmul dot_S256x256_S256x128_S256x128_1_0_0_1_n_n none tril (truncf .bf16 (rest (rest w)) bitsLt_bf16_f32) (constant S256x128 .f32 0x00000000#32))
/-- Each token's product with each other's. -/
def cross (cg bg : Vec F S256x128 .f32) : FVec F S256x256 .f32 :=
  matmul dot_S256x128_S256x128_S256x256_1_1_0_0_n_n none (truncf .bf16 cg bitsLt_bf16_f32) (truncf .bf16 bg bitsLt_bf16_f32) (constant S256x256 .f32 0x00000000#32)

/-- The lanes, or rows, of a pair's first head. -/
def lo : IVec S256x128 1 := cmpi .slt (iota .tc S256x128 32 [1] iota_S256x128_d1_w32) (broadcast S256x128 64#32)
def loRow : IVec S1x128 1 := cmpi .slt (iota .tc S1x128 32 [1] iota_S1x128_d1_w32) (broadcast S1x128 64#32)
def loCol : IVec S128x1 1 := cmpi .slt (iota .tc S128x1 32 [0] iota_S128x1_d0_w32) (broadcast S128x1 64#32)

theorem colFits : ∀ r : Fin 8, S256x128.Slices ![0, r.val] S256x1 := by decide
theorem rowFits : ∀ r : Fin 8, S128x256.Slices ![r.val, 0] S1x256 := by decide
theorem cellFits : ∀ r : Fin 8, S1x128.Slices ![0, r.val] S1x1 := by decide
theorem laneFits : ∀ q : Fin 4, S256x512.Slices ![0, 128 * q.val] S256x128 := by decide
theorem stateFits : ∀ q : Fin 4, S512x128.Slices ![128 * q.val, 0] S128x128 := by decide

/-- One head's column, its row in the transposed block, its cell in a row of numbers. -/
def col (r : Fin 8) (x : FVec F S256x128 .f32) : FVec F S256x1 .f32 := extractStridedSlice S256x1 ![0, r.val] x (colFits r)
def row (r : Fin 8) (x : FVec F S128x256 .f32) : FVec F S1x256 .f32 := extractStridedSlice S1x256 ![r.val, 0] x (rowFits r)
def cell (r : Fin 8) (x : FVec F S1x128 .f32) : FVec F S1x1 .f32 := extractStridedSlice S1x1 ![0, r.val] x (cellFits r)
def turn (x : FVec F S256x128 .f32) : FVec F S128x256 .f32 := transpose S128x256 [1, 0] x transposes_S256x128_p1_0_S128x256
def last (ac : FVec F S256x128 .f32) : FVec F S1x128 .f32 := extractStridedSlice S1x128 ![255, 0] ac slices_S256x128_o255_0_S1x128
def lanes (q : Fin 4) (xs : Vec F S256x512 .f32) : FVec F S256x128 .f32 := extractStridedSlice S256x128 ![0, 128 * q.val] xs (laneFits q)
def before (q : Fin 4) (s0 : Vec F S1x512x128 .f32) : FVec F S128x128 .f32 :=
  extractStridedSlice S128x128 ![128 * q.val, 0] (shapeCast S512x128 s0 shapeCasts_S1x512x128_S512x128) (stateFits q)
/-- A pair's two heads. -/
abbrev hd (q : Fin 4) (j : Fin 2) : Fin 8 := ⟨2 * q.val + j.val, by omega⟩
/-- Two columns, each over its head's lanes. -/
def both (a b : FVec F S256x1 .f32) : FVec F S256x128 .f32 :=
  select lo (broadcastTo S256x128 (shapeCast S256x1 a shapeCasts_S256x1_S256x1) broadcasts_S256x1_S256x128)
    (broadcastTo S256x128 (shapeCast S256x1 b shapeCasts_S256x1_S256x1) broadcasts_S256x1_S256x128)

/-- One head's output from its own chunk. -/
def within (r : Fin 8) (cb : FVec F S256x256 .f32) (dt ac : FVec F S256x128 .f32) (xp : FVec F S256x128 .f32) : FVec F S256x128 .f32 :=
  matmul dot_S256x256_S256x128_S256x128_1_0_0_1_n_n none
    (truncf .bf16 (mulf (mulf cb (exp (select causal (subf (broadcastTo S256x256 (col r ac) broadcasts_S256x1_S256x256) (broadcastTo S256x256 (row r (turn ac)) broadcasts_S1x256_S256x256))
      (broadcast S256x256 (Named.named κ "mask" 0xF149F2CA#32))))) (broadcastTo S256x256 (row r (turn dt)) broadcasts_S1x256_S256x256)) bitsLt_bf16_f32)
    (truncf .bf16 xp bitsLt_bf16_f32) (constant S256x128 .f32 0x00000000#32)
/-- What a head's tokens weigh in the state after the chunk. -/
def weight (r : Fin 8) (dt ac : FVec F S256x128 .f32) : FVec F S256x1 .f32 :=
  mulf (exp (subf (broadcastTo S256x1 (cell r (last ac)) broadcasts_S1x1_S256x1) (col r ac))) (col r dt)

/-- A pair's output. -/
def pairOut (q : Fin 4) (dt ac : FVec F S256x128 .f32) (xs : Vec F S256x512 .f32) (bg cg : Vec F S256x128 .f32) (s0 : Vec F S1x512x128 .f32)
    (dsk : Vec F S1x128 .f32) : FVec F S256x128 .f32 :=
  addf (addf (select lo (within (hd q 0) (cross cg bg) dt ac (lanes q xs)) (within (hd q 1) (cross cg bg) dt ac (lanes q xs)))
    (mulf (matmul dot_S256x128_S128x128_S256x128_1_1_0_0_n_n none (truncf .bf16 cg bitsLt_bf16_f32) (truncf .bf16 (before q s0) bitsLt_bf16_f32) (constant S256x128 .f32 0x00000000#32))
      (both (exp (col (hd q 0) ac)) (exp (col (hd q 1) ac)))))
    (mulf (broadcastTo S256x128 (select loRow
      (broadcastTo S1x128 (shapeCast S1x1 (cell (hd q 0) (shapeCast S1x128 dsk shapeCasts_S1x128_S1x128)) shapeCasts_S1x1_S1x1) broadcasts_S1x1_S1x128)
      (broadcastTo S1x128 (shapeCast S1x1 (cell (hd q 1) (shapeCast S1x128 dsk shapeCasts_S1x128_S1x128)) shapeCasts_S1x1_S1x1) broadcasts_S1x1_S1x128)) broadcasts_S1x128_S256x128) (lanes q xs))
/-- A pair's state after the chunk. -/
def pairNext (q : Fin 4) (dt ac : FVec F S256x128 .f32) (xs : Vec F S256x512 .f32) (bg : Vec F S256x128 .f32) (s0 : Vec F S1x512x128 .f32) : FVec F S128x128 .f32 :=
  addf (mulf (before q s0) (broadcastTo S128x128 (select loCol
      (broadcastTo S128x1 (shapeCast S1x1 (exp (cell (hd q 0) (last ac))) shapeCasts_S1x1_S1x1) broadcasts_S1x1_S128x1)
      (broadcastTo S128x1 (shapeCast S1x1 (exp (cell (hd q 1) (last ac))) shapeCasts_S1x1_S1x1) broadcasts_S1x1_S128x1)) broadcasts_S128x1_S128x128))
    (matmul dot_S256x128_S256x128_S128x128_0_0_1_1_n_n none
      (truncf .bf16 (mulf (lanes q xs) (both (weight (hd q 0) dt ac) (weight (hd q 1) dt ac))) bitsLt_bf16_f32)
      (truncf .bf16 bg bitsLt_bf16_f32) (constant S128x128 .f32 0x00000000#32))

/-- A group's output. -/
def groupOut (dtraw : Vec F S256x128 .f32) (bias alog dsk : Vec F S1x128 .f32) (xs : Vec F S256x512 .f32) (bg cg : Vec F S256x128 .f32)
    (s0 : Vec F S1x512x128 .f32) : FVec F S256x512 .f32 :=
  let dt := step dtraw bias
  let ac := run (rate dt alog)
  concatenate S256x512 1 [⟨S256x128, pairOut 0 dt ac xs bg cg s0 dsk⟩, ⟨S256x128, pairOut 1 dt ac xs bg cg s0 dsk⟩,
    ⟨S256x128, pairOut 2 dt ac xs bg cg s0 dsk⟩, ⟨S256x128, pairOut 3 dt ac xs bg cg s0 dsk⟩] concatenates_S256x128_S256x128_S256x128_S256x128_S256x512_d1
/-- A group's state after the chunk. -/
def groupNext (dtraw : Vec F S256x128 .f32) (bias alog : Vec F S1x128 .f32) (xs : Vec F S256x512 .f32) (bg : Vec F S256x128 .f32)
    (s0 : Vec F S1x512x128 .f32) : FVec F S1x512x128 .f32 :=
  let dt := step dtraw bias
  let ac := run (rate dt alog)
  shapeCast S1x512x128 (concatenate S512x128 0 [⟨S128x128, pairNext 0 dt ac xs bg s0⟩, ⟨S128x128, pairNext 1 dt ac xs bg s0⟩,
    ⟨S128x128, pairNext 2 dt ac xs bg s0⟩, ⟨S128x128, pairNext 3 dt ac xs bg s0⟩] concatenates_S128x128_S128x128_S128x128_S128x128_S512x128_d0) shapeCasts_S512x128_S1x512x128

/-! ## The four groups -/

theorem xFits : ∀ g : Fin 4, ∀ a : Fin 2, (![0, 512 * g.val] : Fin 2 → ℕ) a + S256x512.size a ≤ S256x2048.size a := by decide
theorem gFits : ∀ g : Fin 4, ∀ a : Fin 2, (![0, 128 * g.val] : Fin 2 → ℕ) a + S256x128.size a ≤ S256x512.size a := by decide
theorem rFits : ∀ g : Fin 4, ∀ a : Fin 2, (![0, 128 * g.val] : Fin 2 → ℕ) a + S1x128.size a ≤ S1x512.size a := by decide
theorem sFits : ∀ g : Fin 4, ∀ a : Fin 3, (![g.val, 0, 0] : Fin 3 → ℕ) a + S1x512x128.size a ≤ S4x512x128.size a := by decide
theorem tFits : ∀ g : Fin 4, ∀ a : Fin 4, (![0, g.val, 0, 0] : Fin 4 → ℕ) a + S1x1x512x128.size a ≤ S1x4x512x128.size a := by decide

abbrev xRect (g : Fin 4) : Rect S256x2048 := Rect.unit ![0, 512 * g.val] S256x512.size (xFits g)
abbrev gRect (g : Fin 4) : Rect S256x512 := Rect.unit ![0, 128 * g.val] S256x128.size (gFits g)
abbrev rRect (g : Fin 4) : Rect S1x512 := Rect.unit ![0, 128 * g.val] S1x128.size (rFits g)
abbrev sRect (g : Fin 4) : Rect S4x512x128 := Rect.unit ![g.val, 0, 0] S1x512x128.size (sFits g)
abbrev tRect (g : Fin 4) : Rect S1x4x512x128 := Rect.unit ![0, g.val, 0, 0] S1x1x512x128.size (tFits g)

/-- Group `g`'s output, next state, and the state before it as it is written out. -/
def outOf (x0 : Vec F S256x2048 .f32) (x1 x2 x3 : Vec F S256x512 .f32) (x4 x5 x6 : Vec F S1x512 .f32) (s : Vec F S4x512x128 .f32) (g : Fin 4) : FVec F S256x512 .f32 :=
  groupOut (View.ld x3 (gRect g)) (View.ld x4 (rRect g)) (View.ld x5 (rRect g)) (View.ld x6 (rRect g)) (View.ld x0 (xRect g)) (View.ld x1 (gRect g)) (View.ld x2 (gRect g)) (View.ld s (sRect g))
def nextOf (x0 : Vec F S256x2048 .f32) (x1 x3 : Vec F S256x512 .f32) (x4 x5 : Vec F S1x512 .f32) (s : Vec F S4x512x128 .f32) (g : Fin 4) : FVec F S1x512x128 .f32 :=
  groupNext (View.ld x3 (gRect g)) (View.ld x4 (rRect g)) (View.ld x5 (rRect g)) (View.ld x0 (xRect g)) (View.ld x1 (gRect g)) (View.ld s (sRect g))
def keptOf (s : Vec F S4x512x128 .f32) (g : Fin 4) : FVec F S1x1x512x128 .f32 :=
  shapeCast S1x1x512x128 (shapeCast S512x128 (View.ld s (sRect g)) shapeCasts_S1x512x128_S512x128) shapeCasts_S512x128_S1x1x512x128

/-- The stores into each result, last first. -/
def outPieces (x0 : Vec F S256x2048 .f32) (x1 x2 x3 : Vec F S256x512 .f32) (x4 x5 x6 : Vec F S1x512 .f32) (s : Vec F S4x512x128 .f32) : List (View.Piece (Elt F) S256x2048 .f32) :=
  [⟨xRect 3, outOf x0 x1 x2 x3 x4 x5 x6 s 3⟩, ⟨xRect 2, outOf x0 x1 x2 x3 x4 x5 x6 s 2⟩, ⟨xRect 1, outOf x0 x1 x2 x3 x4 x5 x6 s 1⟩, ⟨xRect 0, outOf x0 x1 x2 x3 x4 x5 x6 s 0⟩]
def nextPieces (x0 : Vec F S256x2048 .f32) (x1 x3 : Vec F S256x512 .f32) (x4 x5 : Vec F S1x512 .f32) (s : Vec F S4x512x128 .f32) : List (View.Piece (Elt F) S4x512x128 .f32) :=
  [⟨sRect 3, nextOf x0 x1 x3 x4 x5 s 3⟩, ⟨sRect 2, nextOf x0 x1 x3 x4 x5 s 2⟩, ⟨sRect 1, nextOf x0 x1 x3 x4 x5 s 1⟩, ⟨sRect 0, nextOf x0 x1 x3 x4 x5 s 0⟩]
def keptPieces (s : Vec F S4x512x128 .f32) : List (View.Piece (Elt F) S1x4x512x128 .f32) :=
  [⟨tRect 3, keptOf s 3⟩, ⟨tRect 2, keptOf s 2⟩, ⟨tRect 1, keptOf s 1⟩, ⟨tRect 0, keptOf s 0⟩]

section
variable (c : Dev nD) (i : grid0.Coords) (a1 : Memref sig .tc .vmem S256x2048 .f32) (h1 : a1.IsWhole) (a2 : Memref sig .tc .vmem S256x512 .f32) (h2 : a2.IsWhole)
  (a3 : Memref sig .tc .vmem S256x512 .f32) (h3 : a3.IsWhole) (a4 : Memref sig .tc .vmem S256x512 .f32) (h4 : a4.IsWhole)
  (a5 : Memref sig .tc .vmem S1x512 .f32) (h5 : a5.IsWhole) (a6 : Memref sig .tc .vmem S1x512 .f32) (h6 : a6.IsWhole) (a7 : Memref sig .tc .vmem S1x512 .f32) (h7 : a7.IsWhole)
  (a8 : Memref sig .tc .vmem S256x2048 .f32) (h8 : a8.IsWhole) (a9 : Memref sig .tc .vmem S1x4x512x128 .f32) (h9 : a9.IsWhole) (a10 : Memref sig .tc .vmem S4x512x128 .f32) (h10 : a10.IsWhole)
  (x0 : Vec F S256x2048 .f32) (x1 x2 x3 : Vec F S256x512 .f32) (x4 x5 x6 : Vec F S1x512 .f32) (s : Vec F S4x512x128 .f32)

theorem outB (hc : ¬cond0_0 i) : (kernelRun0_B c i a1 h1 a2 h2 a3 h3 a4 h4 a5 h5 a6 h6 a7 h7 a8 h8 a9 h9 a10 h10 hc x0 x1 x2 x3 x4 x5 x6 s).1 = outPieces x0 x1 x2 x3 x4 x5 x6 s := by
  unfold kernelRun0_B
  dsimp only
  sl_unfold_words
  simp only [View.readAt_eq_ld, Memref.IsWhole.read_unread]
  rfl
theorem nextB (hc : ¬cond0_0 i) : (kernelRun0_B c i a1 h1 a2 h2 a3 h3 a4 h4 a5 h5 a6 h6 a7 h7 a8 h8 a9 h9 a10 h10 hc x0 x1 x2 x3 x4 x5 x6 s).2.2.1 = nextPieces x0 x1 x3 x4 x5 s := by
  unfold kernelRun0_B
  dsimp only
  sl_unfold_words
  simp only [View.readAt_eq_ld, Memref.IsWhole.read_unread]
  rfl
theorem keptB (hc : ¬cond0_0 i) : (kernelRun0_B c i a1 h1 a2 h2 a3 h3 a4 h4 a5 h5 a6 h6 a7 h7 a8 h8 a9 h9 a10 h10 hc x0 x1 x2 x3 x4 x5 x6 s).2.1 = keptPieces s := by
  unfold kernelRun0_B
  dsimp only
  sl_unfold_words
  simp only [View.readAt_eq_ld, h10.read_unread]
  rfl
theorem outA (hc : cond0_0 i) : (kernelRun0_A c i a1 h1 a2 h2 a3 h3 a4 h4 a5 h5 a6 h6 a7 h7 a8 h8 a9 h9 a10 h10 hc x0 x1 x2 x3 x4 x5 x6).1 = outPieces x0 x1 x2 x3 x4 x5 x6 (zeroB S4x512x128) := by
  unfold kernelRun0_A
  dsimp only
  sl_unfold_words
  simp only [View.readAt_eq_ld, Memref.IsWhole.read_unread]
  simp (discharger := decide) only [View.readCov_skip, View.readCov_fill]
  rfl
theorem keptA (hc : cond0_0 i) : (kernelRun0_A c i a1 h1 a2 h2 a3 h3 a4 h4 a5 h5 a6 h6 a7 h7 a8 h8 a9 h9 a10 h10 hc x0 x1 x2 x3 x4 x5 x6).2.1 = keptPieces (zeroB S4x512x128) := by
  unfold kernelRun0_A
  dsimp only
  sl_unfold_words
  simp only [View.readAt_eq_ld, Memref.IsWhole.read_unread]
  simp (discharger := decide) only [View.readCov_skip, View.readCov_fill]
  rfl
theorem nextA (hc : cond0_0 i) : (kernelRun0_A c i a1 h1 a2 h2 a3 h3 a4 h4 a5 h5 a6 h6 a7 h7 a8 h8 a9 h9 a10 h10 hc x0 x1 x2 x3 x4 x5 x6).2.2.1 = nextPieces x0 x1 x3 x4 x5 (zeroB S4x512x128) ++ [⟨Rect.unit ![0, 0, 0] S4x512x128.size inb_S4x512x128_S4x512x128_0_0_0, zeroB S4x512x128⟩] := by
  unfold kernelRun0_A
  dsimp only
  sl_unfold_words
  simp only [View.readAt_eq_ld, Memref.IsWhole.read_unread]
  simp (discharger := decide) only [View.readCov_skip, View.readCov_fill]
  rfl
end

/-! ## What a point leaves, as whole blocks -/

/-- Four groups side by side. -/
def outs (f : Fin 4 → FVec F S256x512 .f32) : Vec F S256x2048 .f32 := fun y =>
  f ⟨(y 1).val / 512, Nat.div_lt_of_lt_mul (y 1).isLt⟩ (ix2 ⟨(y 0).val, (y 0).isLt⟩ ⟨(y 1).val % 512, Nat.mod_lt _ (by decide)⟩)
def nexts (f : Fin 4 → FVec F S1x512x128 .f32) : Vec F S4x512x128 .f32 := fun y =>
  f ⟨(y 0).val, (y 0).isLt⟩ (ix3 0 ⟨(y 1).val, (y 1).isLt⟩ ⟨(y 2).val, (y 2).isLt⟩)
def kepts (f : Fin 4 → FVec F S1x1x512x128 .f32) : Vec F S1x4x512x128 .f32 := fun y =>
  f ⟨(y 1).val, (y 1).isLt⟩ (ix4 0 0 ⟨(y 2).val, (y 2).isLt⟩ ⟨(y 3).val, (y 3).isLt⟩)
theorem outs_piece (f : Fin 4 → FVec F S256x512 .f32) (g : Fin 4) (x : S256x512.Idx) : f g x = outs f ((xRect g).emb x) := by
  have h1 : (x 1).val < 512 := (x 1).isLt
  have eg : (⟨(((xRect g).emb x) 1).val / 512, Nat.div_lt_of_lt_mul (((xRect g).emb x) 1).isLt⟩ : Fin 4) = g :=
    Fin.ext (by show (512 * g.val + 1 * (x 1).val) / 512 = g.val; omega)
  have ex : (ix2 ⟨(((xRect g).emb x) 0).val, (((xRect g).emb x) 0).isLt⟩ ⟨(((xRect g).emb x) 1).val % 512, Nat.mod_lt _ (by decide)⟩ : S256x512.Idx) = x := by
    funext a
    match a with
    | ⟨0, _⟩ => exact Fin.ext (by show 0 + 1 * (x 0).val = (x 0).val; omega)
    | ⟨1, _⟩ => exact Fin.ext (by show (512 * g.val + 1 * (x 1).val) % 512 = (x 1).val; omega)
  show _ = f _ _
  rw [eg, ex]
theorem nexts_piece (f : Fin 4 → FVec F S1x512x128 .f32) (g : Fin 4) (x : S1x512x128.Idx) : f g x = nexts f ((sRect g).emb x) := by
  have h0 : (x 0).val < 1 := (x 0).isLt
  have eg : (⟨(((sRect g).emb x) 0).val, (((sRect g).emb x) 0).isLt⟩ : Fin 4) = g :=
    Fin.ext (by show g.val + 1 * (x 0).val = g.val; omega)
  have ex : (ix3 0 ⟨(((sRect g).emb x) 1).val, (((sRect g).emb x) 1).isLt⟩ ⟨(((sRect g).emb x) 2).val, (((sRect g).emb x) 2).isLt⟩ : S1x512x128.Idx) = x := by
    funext a
    match a with
    | ⟨0, _⟩ => exact Fin.ext (by show 0 = (x 0).val; omega)
    | ⟨1, _⟩ => exact Fin.ext (by show 0 + 1 * (x 1).val = (x 1).val; omega)
    | ⟨2, _⟩ => exact Fin.ext (by show 0 + 1 * (x 2).val = (x 2).val; omega)
  show _ = f _ _
  rw [eg, ex]
theorem kepts_piece (f : Fin 4 → FVec F S1x1x512x128 .f32) (g : Fin 4) (x : S1x1x512x128.Idx) : f g x = kepts f ((tRect g).emb x) := by
  have h0 : (x 0).val < 1 := (x 0).isLt
  have h1 : (x 1).val < 1 := (x 1).isLt
  have eg : (⟨(((tRect g).emb x) 1).val, (((tRect g).emb x) 1).isLt⟩ : Fin 4) = g :=
    Fin.ext (by show g.val + 1 * (x 1).val = g.val; omega)
  have ex : (ix4 0 0 ⟨(((tRect g).emb x) 2).val, (((tRect g).emb x) 2).isLt⟩ ⟨(((tRect g).emb x) 3).val, (((tRect g).emb x) 3).isLt⟩ : S1x1x512x128.Idx) = x := by
    funext a
    match a with
    | ⟨0, _⟩ => exact Fin.ext (by show 0 = (x 0).val; omega)
    | ⟨1, _⟩ => exact Fin.ext (by show 0 = (x 1).val; omega)
    | ⟨2, _⟩ => exact Fin.ext (by show 0 + 1 * (x 2).val = (x 2).val; omega)
    | ⟨3, _⟩ => exact Fin.ext (by show 0 + 1 * (x 3).val = (x 3).val; omega)
  show _ = f _ _
  rw [eg, ex]

section
variable (x0 : Vec F S256x2048 .f32) (x1 x2 x3 : Vec F S256x512 .f32) (x4 x5 x6 : Vec F S1x512 .f32) (s : Vec F S4x512x128 .f32)
theorem outs_of : View.PiecesOf (outs (outOf x0 x1 x2 x3 x4 x5 x6 s)) (outPieces x0 x1 x2 x3 x4 x5 x6 s) :=
  ⟨outs_piece (outOf x0 x1 x2 x3 x4 x5 x6 s) 3, outs_piece (outOf x0 x1 x2 x3 x4 x5 x6 s) 2, outs_piece (outOf x0 x1 x2 x3 x4 x5 x6 s) 1, outs_piece (outOf x0 x1 x2 x3 x4 x5 x6 s) 0, trivial⟩
theorem nexts_of : View.PiecesOf (nexts (nextOf x0 x1 x3 x4 x5 s)) (nextPieces x0 x1 x3 x4 x5 s) :=
  ⟨nexts_piece (nextOf x0 x1 x3 x4 x5 s) 3, nexts_piece (nextOf x0 x1 x3 x4 x5 s) 2, nexts_piece (nextOf x0 x1 x3 x4 x5 s) 1, nexts_piece (nextOf x0 x1 x3 x4 x5 s) 0, trivial⟩
theorem kepts_of : View.PiecesOf (kepts (keptOf s)) (keptPieces s) :=
  ⟨kepts_piece (keptOf s) 3, kepts_piece (keptOf s) 2, kepts_piece (keptOf s) 1, kepts_piece (keptOf s) 0, trivial⟩
theorem next_cover (y : S4x512x128.Idx) : ∃ p ∈ nextPieces x0 x1 x3 x4 x5 s, y ∈ p.1.set :=
  View.cover_of_tiledL (nextPieces x0 x1 x3 x4 x5 s) S1x512x128.size (by sl_kernel_rfl) y
end

section
variable (c : Dev nD) (i : grid0.Coords) (a1 : Memref sig .tc .vmem S256x2048 .f32) (h1 : a1.IsWhole) (a2 : Memref sig .tc .vmem S256x512 .f32) (h2 : a2.IsWhole)
  (a3 : Memref sig .tc .vmem S256x512 .f32) (h3 : a3.IsWhole) (a4 : Memref sig .tc .vmem S256x512 .f32) (h4 : a4.IsWhole)
  (a5 : Memref sig .tc .vmem S1x512 .f32) (h5 : a5.IsWhole) (a6 : Memref sig .tc .vmem S1x512 .f32) (h6 : a6.IsWhole) (a7 : Memref sig .tc .vmem S1x512 .f32) (h7 : a7.IsWhole)
  (a8 : Memref sig .tc .vmem S256x2048 .f32) (h8 : a8.IsWhole) (a9 : Memref sig .tc .vmem S1x4x512x128 .f32) (h9 : a9.IsWhole) (a10 : Memref sig .tc .vmem S4x512x128 .f32) (h10 : a10.IsWhole)
  (x0 : Vec F S256x2048 .f32) (x1 x2 x3 : Vec F S256x512 .f32) (x4 x5 x6 : Vec F S1x512 .f32) (s : Vec F S4x512x128 .f32)

theorem outBlockA (hc : cond0_0 i) : out0_A_7 c i a1 h1 a2 h2 a3 h3 a4 h4 a5 h5 a6 h6 a7 h7 a8 h8 a9 h9 a10 h10 hc x0 x1 x2 x3 x4 x5 x6 = outs (outOf x0 x1 x2 x3 x4 x5 x6 (zeroB S4x512x128)) := by
  unfold out0_A_7
  rw [View.read_writes_eq_canon _ _ _ (fun y => cover0_A_7 (y := y) ..), outA]
  exact funext fun y => View.canon_apply_of_pieces _ _ (View.PiecesOf.mem (outs_of x0 x1 x2 x3 x4 x5 x6 (zeroB S4x512x128))) y (by rw [← outA c i a1 h1 a2 h2 a3 h3 a4 h4 a5 h5 a6 h6 a7 h7 a8 h8 a9 h9 a10 h10 x0 x1 x2 x3 x4 x5 x6 hc]; exact cover0_A_7 c i a1 h1 a2 h2 a3 h3 a4 h4 a5 h5 a6 h6 a7 h7 a8 h8 a9 h9 a10 h10 hc x0 x1 x2 x3 x4 x5 x6 y)
theorem keptBlockA (hc : cond0_0 i) : out0_A_8 c i a1 h1 a2 h2 a3 h3 a4 h4 a5 h5 a6 h6 a7 h7 a8 h8 a9 h9 a10 h10 hc x0 x1 x2 x3 x4 x5 x6 = kepts (keptOf (zeroB S4x512x128)) := by
  unfold out0_A_8
  rw [View.read_writes_eq_canon _ _ _ (fun y => cover0_A_8 (y := y) ..), keptA]
  exact funext fun y => View.canon_apply_of_pieces _ _ (View.PiecesOf.mem (kepts_of (zeroB S4x512x128))) y (by rw [← keptA c i a1 h1 a2 h2 a3 h3 a4 h4 a5 h5 a6 h6 a7 h7 a8 h8 a9 h9 a10 h10 x0 x1 x2 x3 x4 x5 x6 hc]; exact cover0_A_8 c i a1 h1 a2 h2 a3 h3 a4 h4 a5 h5 a6 h6 a7 h7 a8 h8 a9 h9 a10 h10 hc x0 x1 x2 x3 x4 x5 x6 y)
theorem nextBlockA (hc : cond0_0 i) : sout0_A_0 c i a1 h1 a2 h2 a3 h3 a4 h4 a5 h5 a6 h6 a7 h7 a8 h8 a9 h9 a10 h10 hc x0 x1 x2 x3 x4 x5 x6 = nexts (nextOf x0 x1 x3 x4 x5 (zeroB S4x512x128)) := by
  unfold sout0_A_0
  rw [View.read_writes_eq_canon _ _ _ (fun y => scover0_A_0 (y := y) ..), nextA]
  exact funext fun y => View.canon_append_of_piecesOf _ _ _ (nexts_of x0 x1 x3 x4 x5 (zeroB S4x512x128)) y (next_cover x0 x1 x3 x4 x5 (zeroB S4x512x128) y)
theorem outBlockB (hc : ¬cond0_0 i) : out0_B_7 c i a1 h1 a2 h2 a3 h3 a4 h4 a5 h5 a6 h6 a7 h7 a8 h8 a9 h9 a10 h10 hc x0 x1 x2 x3 x4 x5 x6 s = outs (outOf x0 x1 x2 x3 x4 x5 x6 s) := by
  unfold out0_B_7
  rw [View.read_writes_eq_canon _ _ _ (fun y => cover0_B_7 (y := y) ..), outB]
  exact funext fun y => View.canon_apply_of_pieces _ _ (View.PiecesOf.mem (outs_of x0 x1 x2 x3 x4 x5 x6 s)) y (by rw [← outB c i a1 h1 a2 h2 a3 h3 a4 h4 a5 h5 a6 h6 a7 h7 a8 h8 a9 h9 a10 h10 x0 x1 x2 x3 x4 x5 x6 s hc]; exact cover0_B_7 c i a1 h1 a2 h2 a3 h3 a4 h4 a5 h5 a6 h6 a7 h7 a8 h8 a9 h9 a10 h10 hc x0 x1 x2 x3 x4 x5 x6 s y)
theorem keptBlockB (hc : ¬cond0_0 i) : out0_B_8 c i a1 h1 a2 h2 a3 h3 a4 h4 a5 h5 a6 h6 a7 h7 a8 h8 a9 h9 a10 h10 hc x0 x1 x2 x3 x4 x5 x6 s = kepts (keptOf s) := by
  unfold out0_B_8
  rw [View.read_writes_eq_canon _ _ _ (fun y => cover0_B_8 (y := y) ..), keptB]
  exact funext fun y => View.canon_apply_of_pieces _ _ (View.PiecesOf.mem (kepts_of s)) y (by rw [← keptB c i a1 h1 a2 h2 a3 h3 a4 h4 a5 h5 a6 h6 a7 h7 a8 h8 a9 h9 a10 h10 x0 x1 x2 x3 x4 x5 x6 s hc]; exact cover0_B_8 c i a1 h1 a2 h2 a3 h3 a4 h4 a5 h5 a6 h6 a7 h7 a8 h8 a9 h9 a10 h10 hc x0 x1 x2 x3 x4 x5 x6 s y)
theorem nextBlockB (hc : ¬cond0_0 i) : sout0_B_0 c i a1 h1 a2 h2 a3 h3 a4 h4 a5 h5 a6 h6 a7 h7 a8 h8 a9 h9 a10 h10 hc x0 x1 x2 x3 x4 x5 x6 s = nexts (nextOf x0 x1 x3 x4 x5 s) := by
  unfold sout0_B_0
  rw [View.read_writes_eq_canon _ _ _ (fun y => scover0_B_0 (y := y) ..), nextB]
  exact funext fun y => View.canon_apply_of_pieces _ _ (View.PiecesOf.mem (nexts_of x0 x1 x3 x4 x5 s)) y (by rw [← nextB c i a1 h1 a2 h2 a3 h3 a4 h4 a5 h5 a6 h6 a7 h7 a8 h8 a9 h9 a10 h10 x0 x1 x2 x3 x4 x5 x6 s hc]; exact scover0_B_0 c i a1 h1 a2 h2 a3 h3 a4 h4 a5 h5 a6 h6 a7 h7 a8 h8 a9 h9 a10 h10 hc x0 x1 x2 x3 x4 x5 x6 s y)
end

section
variable (m : (l : Loc nD τ sig) → Buf (Elt F) l)
/-- The state a point starts from. -/
def start (n : ℕ) (s : Vec F S4x512x128 .f32) : Vec F S4x512x128 .f32 := if n = 0 then zeroB S4x512x128 else s
abbrev pointOut (c : Dev nD) (t : Fin cfg0.N) (s : Vec F S4x512x128 .f32) : Vec F S256x2048 .f32 :=
  outs (outOf (Gen.X0_0 m c t) (Gen.iblk m c 1 t) (Gen.iblk m c 2 t) (Gen.iblk m c 3 t) (Gen.iblk m c 4 t) (Gen.iblk m c 5 t) (Gen.iblk m c 6 t) s)
abbrev pointNext (c : Dev nD) (t : Fin cfg0.N) (s : Vec F S4x512x128 .f32) : Vec F S4x512x128 .f32 :=
  nexts (nextOf (Gen.X0_0 m c t) (Gen.iblk m c 1 t) (Gen.iblk m c 3 t) (Gen.iblk m c 4 t) (Gen.iblk m c 5 t) s)

theorem stAt0_eq (c : Dev nD) (t : Fin cfg0.N) (acc : Vec F S256x2048 .f32 × Vec F S1x4x512x128 .f32 × Vec F S4x512x128 .f32) :
    Value.stAt0 m c t.val t.isLt acc = (pointOut m c t (start t.val acc.2.2), kepts (keptOf (start t.val acc.2.2)), pointNext m c t (start t.val acc.2.2)) := by
  have hN := lt_of_lt_of_eq t.isLt (show cfg0.N = 32 from N_0)
  by_cases h0 : t.val % 32 = 0
  · have hz : t.val = 0 := by omega
    rw [Value.stAt0_A m c t acc h0, outBlockA, keptBlockA, nextBlockA]
    unfold start
    rw [if_pos hz]
  · have hz : ¬t.val = 0 := by omega
    rw [Value.stAt0_B m c t acc h0, outBlockB, keptBlockB, nextBlockB]
    unfold start
    rw [if_neg hz]
end
end Cert.SsdFwdIdeal.Hand
-- ==== Proof.SsdFwdPt.lean ====
module

public import proofs.«01_k».proof.Proof.SsdFwdBody

/-! A chunk's parts, entry by entry. -/

@[expose] public section
set_option maxRecDepth 16384
noncomputable section
namespace Cert.SsdFwdIdeal.Hand
open Cert.SsdFwdIdeal Cert.SsdFwdIdeal.Gen Idealize.ShloMosaic Idealize.ShloMosaic.TcCoe Idealize.SL.Sem Cert.Util Cert.Norm

/-- The head of a pair a lane belongs to. -/
abbrev half (l : Fin 128) : Fin 2 := ⟨l.val / 64, by omega⟩
/-- A pair's lane among its group's. -/
abbrev wide (q : Fin 4) (l : Fin 128) : Fin 512 := ⟨128 * q.val + l.val, by omega⟩
/-- A head's lane among the 128. -/
abbrev at8 (r : Fin 8) : Fin 128 := ⟨r.val, by omega⟩

theorem zero_sub' (x : EReal) : 0 - x = -x := by rw [sub_eq_add_neg, zero_add]
theorem step_apply (x : FVec Ideal S256x128 .f32) (b : FVec Ideal S1x128 .f32) (t : Fin 256) (r : Fin 128) :
    step (F := Ideal) x b (ix2 t r) = Ssd.softplus (x (ix2 t r) + b (ix2 0 r)) := by
  pointwise [step]
  simp only [zero_sub']
  rfl
theorem rate_apply (d : FVec Ideal S256x128 .f32) (al : FVec Ideal S1x128 .f32) (t : Fin 256) (r : Fin 128) :
    rate d al (ix2 t r) = d (ix2 t r) * -(Ideal.exp (al (ix2 0 r))) := by
  pointwise [rate]
  simp only [zero_sub']
theorem causal_select (l s : Fin 256) (x y : EReal) : Scalar.select (causal (ix2 l s)) x y = if s.val ≤ l.val then x else y := by
  pointwise [causal]
  rw [Ssd.sge_eq (by omega) (by omega)]
  by_cases h : s.val ≤ l.val
  · rw [if_pos h, if_pos h]; rfl
  · rw [if_neg h, if_neg h]; rfl
theorem tril_apply (l s : Fin 256) : (tril (F := Ideal)) (ix2 l s) = if s.val ≤ l.val then (1 : EReal) else 0 := by
  pointwise [tril]
  exact causal_select l s 1 0
theorem run_apply (w : FVec Ideal S256x128 .f32) (t : Fin 256) (r : Fin 128) (hw : ∀ s, ∃ x : ℝ, w (ix2 s r) = x) :
    run w (ix2 t r) = ∑ s : Fin 256, if s.val ≤ t.val then w (ix2 s r) else 0 := by
  pointwise [run, rest]
  simp only [tril_apply]
  exact Ssd.acum_split (fun s => w (ix2 s r)) hw t
theorem cross_apply (cg bg : FVec Ideal S256x128 .f32) (l s : Fin 256) : cross cg bg (ix2 l s) = ∑ n : Fin 128, cg (ix2 l n) * bg (ix2 s n) := by
  pointwise [cross]
theorem low_select (l : Fin 128) (f : Fin 2 → EReal) : Scalar.select (IntOp.cmpi .slt (BitVec.ofNat 32 l.val) 64#32) (f 0) (f 1) = f (half l) := by
  have e : IntOp.cmpi .slt (BitVec.ofNat 32 l.val) 64#32 = if l.val < 64 then 1#1 else 0#1 := Ssd.slt_eq (a := l.val) (b := 64) (by omega) (by omega)
  rw [e]
  by_cases h : l.val < 64
  · rw [if_pos h, show half l = 0 from Fin.ext (by show l.val / 64 = 0; omega)]; rfl
  · rw [if_neg h, show half l = 1 from Fin.ext (by show l.val / 64 = 1; omega)]; rfl
theorem lo_select (t : Fin 256) (l : Fin 128) (f : Fin 2 → EReal) : Scalar.select (lo (ix2 t l)) (f 0) (f 1) = f (half l) := by
  pointwise [lo]
  exact low_select l f
theorem loRow_select (l : Fin 128) (f : Fin 2 → EReal) : Scalar.select (loRow (ix2 0 l)) (f 0) (f 1) = f (half l) := by
  pointwise [loRow]
  exact low_select l f
theorem loCol_select (l : Fin 128) (f : Fin 2 → EReal) : Scalar.select (loCol (ix2 l 0)) (f 0) (f 1) = f (half l) := by
  pointwise [loCol]
  exact low_select l f
theorem col_apply (r : Fin 8) (x : FVec Ideal S256x128 .f32) (t : Fin 256) : col r x (ix2 t 0) = x (ix2 t (at8 r)) := by
  fin_cases r <;> (pointwise [col]; try rfl)
theorem row_apply (r : Fin 8) (x : FVec Ideal S256x128 .f32) (t : Fin 256) : row r (turn x) (ix2 0 t) = x (ix2 t (at8 r)) := by
  fin_cases r <;> (pointwise [row, turn]; try rfl)
theorem cell_apply (r : Fin 8) (x : FVec Ideal S1x128 .f32) : cell r x (ix2 0 0) = x (ix2 0 (at8 r)) := by
  fin_cases r <;> (pointwise [cell]; try rfl)
theorem last_apply (x : FVec Ideal S256x128 .f32) (l : Fin 128) : last x (ix2 0 l) = x (ix2 255 l) := by
  pointwise [last]
  try rfl
theorem lanes_apply (q : Fin 4) (x : FVec Ideal S256x512 .f32) (t : Fin 256) (l : Fin 128) : lanes q x (ix2 t l) = x (ix2 t (wide q l)) := by
  fin_cases q <;> (pointwise [lanes]; first | rfl | exact congrArg (fun z => x (ix2 t z)) (Fin.ext (by show l.val = 128 * 0 + l.val; omega)))
theorem before_apply (q : Fin 4) (x : FVec Ideal S1x512x128 .f32) (p n : Fin 128) : before q x (ix2 p n) = x (ix3 0 (wide q p) n) := by
  fin_cases q <;> (pointwise [before]; first | rfl | exact congrArg (fun z => x (ix3 0 z n)) (Fin.ext (by show p.val = 128 * 0 + p.val; omega)))
theorem within_apply (r : Fin 8) (cb : FVec Ideal S256x256 .f32) (dt ac xp : FVec Ideal S256x128 .f32) (t : Fin 256) (l : Fin 128) :
    within r cb dt ac xp (ix2 t l) = ∑ s : Fin 256, cb (ix2 t s) * Ideal.exp (if s.val ≤ t.val then ac (ix2 t (at8 r)) - ac (ix2 s (at8 r)) else ⊥) * dt (ix2 s (at8 r)) * xp (ix2 s l) := by
  pointwise [within]
  simp only [causal_select, col_apply, row_apply]
  rfl
theorem weight_apply (r : Fin 8) (dt ac : FVec Ideal S256x128 .f32) (t : Fin 256) :
    weight r dt ac (ix2 t 0) = Ideal.exp (ac (ix2 255 (at8 r)) - ac (ix2 t (at8 r))) * dt (ix2 t (at8 r)) := by
  pointwise [weight]
  simp only [cell_apply, col_apply, last_apply]
theorem both_apply (q : Fin 4) (f : Fin 8 → FVec Ideal S256x1 .f32) (t : Fin 256) (l : Fin 128) :
    both (f (hd q 0)) (f (hd q 1)) (ix2 t l) = f (hd q (half l)) (ix2 t 0) := by
  pointwise [both]
  exact lo_select t l fun j => f (hd q j) (ix2 t 0)

/-- A pair's output, lane by lane. -/
theorem pairOut_apply (q : Fin 4) (dt ac : FVec Ideal S256x128 .f32) (xs : FVec Ideal S256x512 .f32) (bg cg : FVec Ideal S256x128 .f32) (s0 : FVec Ideal S1x512x128 .f32)
    (dsk : FVec Ideal S1x128 .f32) (a : Fin 8 → EReal) (ha : ∀ t r, ac (ix2 t (at8 r)) = Ssd.acum (fun s => dt (ix2 s (at8 r))) (a r) t) (t : Fin 256) (l : Fin 128) :
    pairOut q dt ac xs bg cg s0 dsk (ix2 t l) = Ssd.out (fun s => xs (ix2 s (wide q l))) (fun s n => bg (ix2 s n)) (fun n => cg (ix2 t n))
      (fun s => dt (ix2 s (at8 (hd q (half l))))) (a (hd q (half l))) (dsk (ix2 0 (at8 (hd q (half l))))) (fun n => s0 (ix3 0 (wide q l) n)) t := by
  pointwise [pairOut]
  rw [lo_select t l fun j => within (hd q j) (cross cg bg) dt ac (lanes q xs) (ix2 t l),
    loRow_select l fun j => cell (hd q j) dsk (ix2 0 0),
    both_apply q (fun r => exp (col r ac))]
  pointwise []
  simp only [within_apply, cross_apply, lanes_apply, before_apply, cell_apply, col_apply, ha]
  rfl
/-- A pair's next state, lane by lane. -/
theorem pairNext_apply (q : Fin 4) (dt ac : FVec Ideal S256x128 .f32) (xs : FVec Ideal S256x512 .f32) (bg : FVec Ideal S256x128 .f32) (s0 : FVec Ideal S1x512x128 .f32)
    (a : Fin 8 → EReal) (ha : ∀ t r, ac (ix2 t (at8 r)) = Ssd.acum (fun s => dt (ix2 s (at8 r))) (a r) t) (p n : Fin 128) :
    pairNext q dt ac xs bg s0 (ix2 p n) = Ssd.next (fun s => xs (ix2 s (wide q p))) (fun s n => bg (ix2 s n))
      (fun s => dt (ix2 s (at8 (hd q (half p))))) (a (hd q (half p))) (fun n => s0 (ix3 0 (wide q p) n)) n := by
  pointwise [pairNext]
  rw [loCol_select p fun j => Ideal.exp (cell (hd q j) (last ac) (ix2 0 0))]
  simp only [both_apply q (fun r => weight r dt ac), weight_apply, lanes_apply, before_apply, cell_apply, last_apply, ha]
  rfl

/-- The exponents of a group's heads are the running sums of step times rate, all finite. -/
theorem run_eq (dtraw : FVec Ideal S256x128 .f32) (bias alog : FVec Ideal S1x128 .f32)
    (hz : ∀ s (r : Fin 8), ∃ x : ℝ, dtraw (ix2 s (at8 r)) + bias (ix2 0 (at8 r)) = x) (ha : ∀ r : Fin 8, ∃ x : ℝ, alog (ix2 0 (at8 r)) = x) (t : Fin 256) (r : Fin 8) :
    run (F := Ideal) (rate (step dtraw bias) alog) (ix2 t (at8 r)) = Ssd.acum (fun s => step (F := Ideal) dtraw bias (ix2 s (at8 r))) (-Ideal.exp (alog (ix2 0 (at8 r)))) t := by
  rw [run_apply]
  · unfold Ssd.acum
    simp only [rate_apply]
  · intro s
    obtain ⟨x, hx⟩ := Ssd.softplus_real _ (hz s r)
    obtain ⟨y, hy⟩ := ha r
    refine ⟨x * -(Real.exp y), ?_⟩
    rw [rate_apply, step_apply, hx, hy, EReal.coe_mul, EReal.coe_neg]
    rfl
/-- A group's lane, by pair. -/
theorem groupOut_apply (dtraw : FVec Ideal S256x128 .f32) (bias alog dsk : FVec Ideal S1x128 .f32) (xs : FVec Ideal S256x512 .f32) (bg cg : FVec Ideal S256x128 .f32)
    (s0 : FVec Ideal S1x512x128 .f32) (hz : ∀ s (r : Fin 8), ∃ x : ℝ, dtraw (ix2 s (at8 r)) + bias (ix2 0 (at8 r)) = x) (ha : ∀ r : Fin 8, ∃ x : ℝ, alog (ix2 0 (at8 r)) = x)
    (q : Fin 4) (t : Fin 256) (l : Fin 128) :
    groupOut (F := Ideal) dtraw bias alog dsk xs bg cg s0 (ix2 t (wide q l)) = Ssd.out (fun s => xs (ix2 s (wide q l))) (fun s n => bg (ix2 s n)) (fun n => cg (ix2 t n))
      (fun s => Ssd.softplus (dtraw (ix2 s (at8 (hd q (half l)))) + bias (ix2 0 (at8 (hd q (half l)))))) (-Ideal.exp (alog (ix2 0 (at8 (hd q (half l)))))) (dsk (ix2 0 (at8 (hd q (half l)))))
      (fun n => s0 (ix3 0 (wide q l) n)) t := by
  have e : groupOut (F := Ideal) dtraw bias alog dsk xs bg cg s0 (ix2 t (wide q l))
      = pairOut (F := Ideal) q (step dtraw bias) (run (rate (step dtraw bias) alog)) xs bg cg s0 dsk (ix2 t l) := by
    have hl := l.isLt
    fin_cases q <;>
    · pointwise [groupOut]
      try simp (discharger := omega) only [dif_pos, dif_neg, not_false_eq_true]
      try exact congrArg (fun z => pairOut (F := Ideal) _ _ _ xs bg cg s0 dsk (ix2 t z)) (Fin.ext (by dsimp only; omega))
  rw [e, pairOut_apply q _ _ xs bg cg s0 dsk (fun r => -Ideal.exp (alog (ix2 0 (at8 r)))) (run_eq dtraw bias alog hz ha) t l]
  simp only [step_apply]
/-- A group's next state, by pair. -/
theorem groupNext_apply (dtraw : FVec Ideal S256x128 .f32) (bias alog : FVec Ideal S1x128 .f32) (xs : FVec Ideal S256x512 .f32) (bg : FVec Ideal S256x128 .f32)
    (s0 : FVec Ideal S1x512x128 .f32) (hz : ∀ s (r : Fin 8), ∃ x : ℝ, dtraw (ix2 s (at8 r)) + bias (ix2 0 (at8 r)) = x) (ha : ∀ r : Fin 8, ∃ x : ℝ, alog (ix2 0 (at8 r)) = x)
    (q : Fin 4) (p n : Fin 128) :
    groupNext (F := Ideal) dtraw bias alog xs bg s0 (ix3 0 (wide q p) n) = Ssd.next (fun s => xs (ix2 s (wide q p))) (fun s n => bg (ix2 s n))
      (fun s => Ssd.softplus (dtraw (ix2 s (at8 (hd q (half p)))) + bias (ix2 0 (at8 (hd q (half p)))))) (-Ideal.exp (alog (ix2 0 (at8 (hd q (half p))))))
      (fun n => s0 (ix3 0 (wide q p) n)) n := by
  have e : groupNext (F := Ideal) dtraw bias alog xs bg s0 (ix3 0 (wide q p) n)
      = pairNext (F := Ideal) q (step dtraw bias) (run (rate (step dtraw bias) alog)) xs bg s0 (ix2 p n) := by
    have hl := p.isLt
    fin_cases q <;>
    · pointwise [groupNext]
      try simp (discharger := omega) only [dif_pos, dif_neg, not_false_eq_true]
      try exact congrArg (fun z => pairNext (F := Ideal) _ _ _ xs bg s0 (ix2 z n)) (Fin.ext (by dsimp only; omega))
  rw [e, pairNext_apply q _ _ xs bg s0 (fun r => -Ideal.exp (alog (ix2 0 (at8 r)))) (run_eq dtraw bias alog hz ha) p n]
  simp only [step_apply]
end Cert.SsdFwdIdeal.Hand
-- ==== Proof.SsdFwdValue.lean ====
module

public import proofs.«01_k».proof.Proof.SsdFwdPt

/-! What the scan leaves: the output and the states before the chunks, entry by entry. -/

@[expose] public section
set_option maxRecDepth 16384
noncomputable section
namespace Cert.SsdFwdIdeal.Hand
open Cert.SsdFwdIdeal Cert.SsdFwdIdeal.Gen Idealize.ShloMosaic Idealize.ShloMosaic.TcCoe Idealize.SL.Sem Cert.Util Cert.Norm

/-- A group's head, the lane it has in a row of four groups of 128, a group's column. -/
abbrev head (g : Fin 4) (r : Fin 8) : Fin 32 := ⟨8 * g.val + r.val, by omega⟩
abbrev slot (g : Fin 4) (l : Fin 128) : Fin 512 := ⟨128 * g.val + l.val, by omega⟩
abbrev gcol (g : Fin 4) (k : Fin 512) : Fin 2048 := ⟨512 * g.val + k.val, by omega⟩

section
variable (μ : (ℓ : Loc nD τ sig) → Buf (Elt Ideal) ℓ) (c : Dev nD)
abbrev xcM (T : Fin 8192) (k : Fin 3072) : EReal := μ ((c : Thread nD τ).loc main_arg0) (ix2 T k)
abbrev dtM (T : Fin 8192) (h : Fin 32) : EReal := μ ((c : Thread nD τ).loc main_arg1) (ix2 T h)
abbrev biasM (h : Fin 32) : EReal := μ ((c : Thread nD τ).loc main_arg2) (ix1 h)
abbrev alogM (h : Fin 32) : EReal := μ ((c : Thread nD τ).loc main_arg3) (ix1 h)
abbrev dskM (h : Fin 32) : EReal := μ ((c : Thread nD τ).loc main_arg4) (ix1 h)

theorem pad_row (x : FVec Ideal S32 .f32) (z : FVec Ideal S_ .f32) (g : Fin 4) (r : Fin 8) :
    (shapeCast S1x512 (pad S1x4x128 ![0, 0, 0] ![0, 0, 120] ![0, 0, 0] (shapeCast S1x4x8 (shapeCast S1x32 x shapeCasts_S32_S1x32 : FVec Ideal S1x32 .f32) shapeCasts_S1x32_S1x4x8 : FVec Ideal S1x4x8 .f32)
      z pads_S1x4x8_S1x4x128_000_000_01200 h_S_ : FVec Ideal S1x4x128 .f32) shapeCasts_S1x4x128_S1x512 : FVec Ideal S1x512 .f32) (ix2 0 (slot g (at8 r))) = x (ix1 (head g r)) := by
  fin_cases g <;> fin_cases r <;> (pointwise []; try rfl)
theorem V_dt (T : Fin 8192) (g : Fin 4) (r : Fin 8) : V μ c main_v2 (ix2 T (slot g (at8 r))) = dtM μ c T (head g r) := by
  have e : V μ c main_v2 = shapeCast S8192x512 (pad S8192x4x128 ![0, 0, 0] ![0, 0, 120] ![0, 0, 0] (shapeCast S8192x4x8 (μ ((c : Thread nD τ).loc main_arg1) : FVec Ideal S8192x32 .f32) shapeCasts_S8192x32_S8192x4x8 : FVec Ideal S8192x4x8 .f32)
      (sitofp .f32 (constantI S_ 32 0#32) : FVec Ideal S_ .f32) pads_S8192x4x8_S8192x4x128_000_000_01200 h_S_ : FVec Ideal S8192x4x128 .f32) shapeCasts_S8192x4x128_S8192x512 := by rfl
  rw [e]
  fin_cases g <;> fin_cases r <;> (pointwise []; try rfl)
theorem V_bias (g : Fin 4) (r : Fin 8) : V μ c main_v6 (ix2 0 (slot g (at8 r))) = biasM μ c (head g r) :=
  pad_row (μ ((c : Thread nD τ).loc main_arg2)) (sitofp .f32 (constantI S_ 32 0#32)) g r
theorem V_alog (g : Fin 4) (r : Fin 8) : V μ c main_v10 (ix2 0 (slot g (at8 r))) = alogM μ c (head g r) :=
  pad_row (μ ((c : Thread nD τ).loc main_arg3)) (sitofp .f32 (constantI S_ 32 0#32)) g r
theorem V_dsk (g : Fin 4) (r : Fin 8) : V μ c main_v14 (ix2 0 (slot g (at8 r))) = dskM μ c (head g r) :=
  pad_row (μ ((c : Thread nD τ).loc main_arg4)) (sitofp .f32 (constantI S_ 32 0#32)) g r
end

/-! ## A point's blocks -/

theorem lt32 (t : Fin cfg0.N) : t.val < 32 := lt_of_lt_of_eq t.isLt N_0
theorem idx0 (t : Fin cfg0.N) : win0_0.index t 0 = t.val ∧ win0_0.index t 1 = 0 :=
  (by decide +kernel : ∀ t : Fin grid0.N, win0_0.index t 0 = t.val ∧ win0_0.index t 1 = 0) t
theorem idx1 (t : Fin cfg0.N) : win0_1.index t 0 = t.val ∧ win0_1.index t 1 = 4 :=
  (by decide +kernel : ∀ t : Fin grid0.N, win0_1.index t 0 = t.val ∧ win0_1.index t 1 = 4) t
theorem idx2 (t : Fin cfg0.N) : win0_2.index t 0 = t.val ∧ win0_2.index t 1 = 5 :=
  (by decide +kernel : ∀ t : Fin grid0.N, win0_2.index t 0 = t.val ∧ win0_2.index t 1 = 5) t
theorem idx3 (t : Fin cfg0.N) : win0_3.index t 0 = t.val ∧ win0_3.index t 1 = 0 :=
  (by decide +kernel : ∀ t : Fin grid0.N, win0_3.index t 0 = t.val ∧ win0_3.index t 1 = 0) t
theorem idx4 (t : Fin cfg0.N) : win0_4.index t 0 = 0 ∧ win0_4.index t 1 = 0 :=
  (by decide +kernel : ∀ t : Fin grid0.N, win0_4.index t 0 = 0 ∧ win0_4.index t 1 = 0) t
theorem idx5 (t : Fin cfg0.N) : win0_5.index t 0 = 0 ∧ win0_5.index t 1 = 0 :=
  (by decide +kernel : ∀ t : Fin grid0.N, win0_5.index t 0 = 0 ∧ win0_5.index t 1 = 0) t
theorem idx6 (t : Fin cfg0.N) : win0_6.index t 0 = 0 ∧ win0_6.index t 1 = 0 :=
  (by decide +kernel : ∀ t : Fin grid0.N, win0_6.index t 0 = 0 ∧ win0_6.index t 1 = 0) t

section
variable (μ : (ℓ : Loc nD τ sig) → Buf (Elt Ideal) ℓ) (c : Dev nD) (t : Fin cfg0.N)
theorem x_apply (s : Fin 256) (k : Fin 2048) : (Gen.X0_0 μ c t : Vec Ideal S256x2048 .f32) (ix2 s k) = xcM μ c (Ssd.tok t.val s) (Ssd.xCol k) := by
  unfold Gen.X0_0 Pipeline.Window.fill
  rw [dif_pos (moved0_0 t (ix2 s k))]
  unfold iblk
  rw [View.read_apply]
  show V μ c main_arg0 _ = _
  rw [V_main_arg0]
  congr 1
  obtain ⟨h0, h1⟩ := idx0 t
  have ht := lt32 t
  funext a
  apply Fin.ext
  match a with
  | ⟨0, _⟩ => show win0_0.index t 0 * 256 + 1 * s.val = (256 * t.val + s.val) % 8192; rw [h0]; omega
  | ⟨1, _⟩ => show win0_0.index t 1 * 2048 + 1 * k.val = k.val; rw [h1]; omega
theorem b_apply (s : Fin 256) (k : Fin 512) : (Gen.iblk μ c 1 t : Vec Ideal S256x512 .f32) (ix2 s k) = xcM μ c (Ssd.tok t.val s) ⟨2048 + k.val, by omega⟩ := by
  unfold iblk
  rw [View.read_apply]
  show V μ c main_arg0 _ = _
  rw [V_main_arg0]
  congr 1
  obtain ⟨h0, h1⟩ := idx1 t
  have ht := lt32 t
  funext a
  apply Fin.ext
  match a with
  | ⟨0, _⟩ => show win0_1.index t 0 * 256 + 1 * s.val = (256 * t.val + s.val) % 8192; rw [h0]; omega
  | ⟨1, _⟩ => show win0_1.index t 1 * 512 + 1 * k.val = 2048 + k.val; rw [h1]; omega
theorem c_apply (s : Fin 256) (k : Fin 512) : (Gen.iblk μ c 2 t : Vec Ideal S256x512 .f32) (ix2 s k) = xcM μ c (Ssd.tok t.val s) ⟨2560 + k.val, by omega⟩ := by
  unfold iblk
  rw [View.read_apply]
  show V μ c main_arg0 _ = _
  rw [V_main_arg0]
  congr 1
  obtain ⟨h0, h1⟩ := idx2 t
  have ht := lt32 t
  funext a
  apply Fin.ext
  match a with
  | ⟨0, _⟩ => show win0_2.index t 0 * 256 + 1 * s.val = (256 * t.val + s.val) % 8192; rw [h0]; omega
  | ⟨1, _⟩ => show win0_2.index t 1 * 512 + 1 * k.val = 2560 + k.val; rw [h1]; omega
theorem dt_apply (s : Fin 256) (k : Fin 512) : (Gen.iblk μ c 3 t : Vec Ideal S256x512 .f32) (ix2 s k) = V μ c main_v2 (ix2 (Ssd.tok t.val s) k) := by
  unfold iblk
  rw [View.read_apply]
  show V μ c main_v2 _ = _
  congr 1
  obtain ⟨h0, h1⟩ := idx3 t
  have ht := lt32 t
  funext a
  apply Fin.ext
  match a with
  | ⟨0, _⟩ => show win0_3.index t 0 * 256 + 1 * s.val = (256 * t.val + s.val) % 8192; rw [h0]; omega
  | ⟨1, _⟩ => show win0_3.index t 1 * 512 + 1 * k.val = k.val; rw [h1]; omega
theorem bias_apply (k : Fin 512) : (Gen.iblk μ c 4 t : Vec Ideal S1x512 .f32) (ix2 0 k) = V μ c main_v6 (ix2 0 k) := by
  unfold iblk
  rw [View.read_apply]
  show V μ c main_v6 _ = _
  congr 1
  obtain ⟨h0, h1⟩ := idx4 t
  have ht := lt32 t
  funext a
  apply Fin.ext
  match a with
  | ⟨0, _⟩ => show win0_4.index t 0 * 1 + 1 * 0 = 0; rw [h0]
  | ⟨1, _⟩ => show win0_4.index t 1 * 512 + 1 * k.val = k.val; rw [h1]; omega
theorem alog_apply (k : Fin 512) : (Gen.iblk μ c 5 t : Vec Ideal S1x512 .f32) (ix2 0 k) = V μ c main_v10 (ix2 0 k) := by
  unfold iblk
  rw [View.read_apply]
  show V μ c main_v10 _ = _
  congr 1
  obtain ⟨h0, h1⟩ := idx5 t
  have ht := lt32 t
  funext a
  apply Fin.ext
  match a with
  | ⟨0, _⟩ => show win0_5.index t 0 * 1 + 1 * 0 = 0; rw [h0]
  | ⟨1, _⟩ => show win0_5.index t 1 * 512 + 1 * k.val = k.val; rw [h1]; omega
theorem dsk_apply (k : Fin 512) : (Gen.iblk μ c 6 t : Vec Ideal S1x512 .f32) (ix2 0 k) = V μ c main_v14 (ix2 0 k) := by
  unfold iblk
  rw [View.read_apply]
  show V μ c main_v14 _ = _
  congr 1
  obtain ⟨h0, h1⟩ := idx6 t
  have ht := lt32 t
  funext a
  apply Fin.ext
  match a with
  | ⟨0, _⟩ => show win0_6.index t 0 * 1 + 1 * 0 = 0; rw [h0]
  | ⟨1, _⟩ => show win0_6.index t 1 * 512 + 1 * k.val = k.val; rw [h1]; omega
end
/-! ## The groups' parts of a point's blocks -/

theorem ld_x (x : Vec Ideal S256x2048 .f32) (g : Fin 4) (s : Fin 256) (k : Fin 512) : View.ld x (xRect g) (ix2 s k) = x (ix2 s (gcol g k)) := by
  show x _ = _
  congr 1
  funext a
  apply Fin.ext
  match a with
  | ⟨0, _⟩ => show 0 + 1 * s.val = s.val; omega
  | ⟨1, _⟩ => show 512 * g.val + 1 * k.val = 512 * g.val + k.val; omega
theorem ld_g (x : Vec Ideal S256x512 .f32) (g : Fin 4) (s : Fin 256) (l : Fin 128) : View.ld x (gRect g) (ix2 s l) = x (ix2 s (slot g l)) := by
  show x _ = _
  congr 1
  funext a
  apply Fin.ext
  match a with
  | ⟨0, _⟩ => show 0 + 1 * s.val = s.val; omega
  | ⟨1, _⟩ => show 128 * g.val + 1 * l.val = 128 * g.val + l.val; omega
theorem ld_r (x : Vec Ideal S1x512 .f32) (g : Fin 4) (l : Fin 128) : View.ld x (rRect g) (ix2 0 l) = x (ix2 0 (slot g l)) := by
  show x _ = _
  congr 1
  funext a
  apply Fin.ext
  match a with
  | ⟨0, _⟩ => show 0 + 1 * 0 = 0; rfl
  | ⟨1, _⟩ => show 128 * g.val + 1 * l.val = 128 * g.val + l.val; omega
theorem ld_s (x : Vec Ideal S4x512x128 .f32) (g : Fin 4) (k : Fin 512) (n : Fin 128) : View.ld x (sRect g) (ix3 0 k n) = x (ix3 g k n) := by
  show x _ = _
  congr 1
  funext a
  apply Fin.ext
  match a with
  | ⟨0, _⟩ => show g.val + 1 * 0 = g.val; omega
  | ⟨1, _⟩ => show 0 + 1 * k.val = k.val; omega
  | ⟨2, _⟩ => show 0 + 1 * n.val = n.val; omega

section
variable (μ : (ℓ : Loc nD τ sig) → Buf (Elt Ideal) ℓ) (c : Dev nD)
/-- The state before point `n`, as the scratch holds it. -/
def held (n : ℕ) : Vec Ideal S4x512x128 .f32 := fun i =>
  Ssd.state (xcM μ c) (dtM μ c) (biasM μ c) (alogM μ c) n (gcol ⟨(i 0).val, (i 0).isLt⟩ ⟨(i 1).val, (i 1).isLt⟩) ⟨(i 2).val, (i 2).isLt⟩
variable (hdt : ∀ T h, ∃ x : ℝ, dtM μ c T h = x) (hb : ∀ h, ∃ x : ℝ, biasM μ c h = x) (ha : ∀ h, ∃ x : ℝ, alogM μ c h = x)
theorem sum_real {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩
theorem head_of (g q : Fin 4) (l : Fin 128) : head g (hd q (half l)) = Ssd.headOf (gcol g (wide q l)) :=
  Fin.ext (by show 8 * g.val + (2 * q.val + l.val / 64) = (512 * g.val + (128 * q.val + l.val)) / 64; omega)
theorem b_of (g q : Fin 4) (l n : Fin 128) : (⟨2048 + (slot g n).val, by omega⟩ : Fin 3072) = Ssd.bCol (gcol g (wide q l)) n :=
  Fin.ext (by show 2048 + (128 * g.val + n.val) = 2048 + 128 * ((512 * g.val + (128 * q.val + l.val)) / 512) + n.val; omega)
theorem c_of (g q : Fin 4) (l n : Fin 128) : (⟨2560 + (slot g n).val, by omega⟩ : Fin 3072) = Ssd.cCol (gcol g (wide q l)) n :=
  Fin.ext (by show 2560 + (128 * g.val + n.val) = 2560 + 128 * ((512 * g.val + (128 * q.val + l.val)) / 512) + n.val; omega)
theorem split_col (k : Fin 512) : k = wide ⟨k.val / 128, by omega⟩ ⟨k.val % 128, by omega⟩ :=
  Fin.ext (by show k.val = 128 * (k.val / 128) + k.val % 128; omega)
theorem x_at (t : Fin cfg0.N) (s : Fin 256) (g : Fin 4) (k : Fin 512) : View.ld (Gen.X0_0 μ c t : Vec Ideal S256x2048 .f32) (xRect g) (ix2 s k) = xcM μ c (Ssd.tok t.val s) (Ssd.xCol (gcol g k)) :=
  (ld_x _ g s k).trans (x_apply μ c t s _)
theorem b_at (t : Fin cfg0.N) (s : Fin 256) (g q : Fin 4) (l n : Fin 128) :
    View.ld (Gen.iblk μ c 1 t : Vec Ideal S256x512 .f32) (gRect g) (ix2 s n) = xcM μ c (Ssd.tok t.val s) (Ssd.bCol (gcol g (wide q l)) n) :=
  (ld_g _ g s n).trans ((b_apply μ c t s _).trans (congrArg _ (b_of g q l n)))
theorem c_at (t : Fin cfg0.N) (s : Fin 256) (g q : Fin 4) (l n : Fin 128) :
    View.ld (Gen.iblk μ c 2 t : Vec Ideal S256x512 .f32) (gRect g) (ix2 s n) = xcM μ c (Ssd.tok t.val s) (Ssd.cCol (gcol g (wide q l)) n) :=
  (ld_g _ g s n).trans ((c_apply μ c t s _).trans (congrArg _ (c_of g q l n)))
theorem dt_at (t : Fin cfg0.N) (s : Fin 256) (g : Fin 4) (r : Fin 8) : View.ld (Gen.iblk μ c 3 t : Vec Ideal S256x512 .f32) (gRect g) (ix2 s (at8 r)) = dtM μ c (Ssd.tok t.val s) (head g r) :=
  (ld_g _ g s _).trans ((dt_apply μ c t s _).trans (V_dt μ c _ g r))
theorem bias_at (t : Fin cfg0.N) (g : Fin 4) (r : Fin 8) : View.ld (Gen.iblk μ c 4 t : Vec Ideal S1x512 .f32) (rRect g) (ix2 0 (at8 r)) = biasM μ c (head g r) :=
  (ld_r _ g _).trans ((bias_apply μ c t _).trans (V_bias μ c g r))
theorem alog_at (t : Fin cfg0.N) (g : Fin 4) (r : Fin 8) : View.ld (Gen.iblk μ c 5 t : Vec Ideal S1x512 .f32) (rRect g) (ix2 0 (at8 r)) = alogM μ c (head g r) :=
  (ld_r _ g _).trans ((alog_apply μ c t _).trans (V_alog μ c g r))
theorem dsk_at (t : Fin cfg0.N) (g : Fin 4) (r : Fin 8) : View.ld (Gen.iblk μ c 6 t : Vec Ideal S1x512 .f32) (rRect g) (ix2 0 (at8 r)) = dskM μ c (head g r) :=
  (ld_r _ g _).trans ((dsk_apply μ c t _).trans (V_dsk μ c g r))
/-- A token's entry in the step's block, and the head's bias. -/
abbrev rawAt (t : Fin cfg0.N) (s : Fin 256) (g : Fin 4) (r : Fin 8) : EReal := View.ld (Gen.iblk μ c 3 t : Vec Ideal S256x512 .f32) (gRect g) (ix2 s (at8 r))
abbrev addAt (t : Fin cfg0.N) (g : Fin 4) (r : Fin 8) : EReal := View.ld (Gen.iblk μ c 4 t : Vec Ideal S1x512 .f32) (rRect g) (ix2 0 (at8 r))
theorem sum_at (t : Fin cfg0.N) (s : Fin 256) (g : Fin 4) (r : Fin 8) : rawAt μ c t s g r + addAt μ c t g r = dtM μ c (Ssd.tok t.val s) (head g r) + biasM μ c (head g r) :=
  congrArg₂ (fun (a b : EReal) => a + b) (dt_at μ c t s g r) (bias_at μ c t g r)
theorem step_at (t : Fin cfg0.N) (s : Fin 256) (g q : Fin 4) (l : Fin 128) :
    Ssd.softplus (rawAt μ c t s g (hd q (half l)) + addAt μ c t g (hd q (half l)))
      = Ssd.softplus (dtM μ c (Ssd.tok t.val s) (Ssd.headOf (gcol g (wide q l))) + biasM μ c (Ssd.headOf (gcol g (wide q l)))) := by
  rw [← head_of g q l]
  exact congrArg Ssd.softplus (sum_at μ c t s g _)
include hdt hb ha
theorem next_at (t : Fin cfg0.N) (g q : Fin 4) (l n : Fin 128) :
    (nextOf (F := Ideal) (Gen.X0_0 μ c t) (Gen.iblk μ c 1 t) (Gen.iblk μ c 3 t) (Gen.iblk μ c 4 t) (Gen.iblk μ c 5 t) (held μ c t.val) g) (ix3 0 (wide q l) n)
      = Ssd.state (xcM μ c) (dtM μ c) (biasM μ c) (alogM μ c) (t.val + 1) (gcol g (wide q l)) n := by
  unfold nextOf
  rw [groupNext_apply]
  · refine Ssd.next_congr n (fun s => x_at μ c t s g _) (fun s n => b_at μ c t s g q l n) (fun s => step_at μ c t s g q l) ?_ (fun n => ld_s _ g _ n)
    rw [← head_of g q l]
    exact congrArg (fun z => -Ideal.exp z) (alog_at μ c t g _)
  · intro s r
    obtain ⟨x, hx⟩ := sum_real (hdt (Ssd.tok t.val s) (head g r)) (hb (head g r))
    exact ⟨x, (sum_at μ c t s g r).trans hx⟩
  · intro r
    obtain ⟨x, hx⟩ := ha (head g r)
    exact ⟨x, (alog_at μ c t g r).trans hx⟩
theorem out_at (t : Fin cfg0.N) (s : Fin 256) (g q : Fin 4) (l : Fin 128) :
    (outOf (F := Ideal) (Gen.X0_0 μ c t) (Gen.iblk μ c 1 t) (Gen.iblk μ c 2 t) (Gen.iblk μ c 3 t) (Gen.iblk μ c 4 t) (Gen.iblk μ c 5 t) (Gen.iblk μ c 6 t) (held μ c t.val) g) (ix2 s (wide q l))
      = Ssd.y (xcM μ c) (dtM μ c) (biasM μ c) (alogM μ c) (dskM μ c) t.val s (gcol g (wide q l)) := by
  unfold outOf
  rw [groupOut_apply]
  · refine Ssd.out_congr s (fun s => x_at μ c t s g _) (fun s n => b_at μ c t s g q l n) (fun n => c_at μ c t s g q l n) (fun s => step_at μ c t s g q l) ?_ ?_ (fun n => ld_s _ g _ n)
    · rw [← head_of g q l]
      exact congrArg (fun z => -Ideal.exp z) (alog_at μ c t g _)
    · rw [← head_of g q l]
      exact dsk_at μ c t g _
  · intro s r
    obtain ⟨x, hx⟩ := sum_real (hdt (Ssd.tok t.val s) (head g r)) (hb (head g r))
    exact ⟨x, (sum_at μ c t s g r).trans hx⟩
  · intro r
    obtain ⟨x, hx⟩ := ha (head g r)
    exact ⟨x, (alog_at μ c t g r).trans hx⟩
theorem pointNext_eq (t : Fin cfg0.N) : pointNext (F := Ideal) μ c t (held μ c t.val) = held μ c (t.val + 1) := by
  funext i
  show nextOf (F := Ideal) _ _ _ _ _ _ _ (ix3 0 _ _) = _
  rw [split_col ⟨(i 1).val, (i 1).isLt⟩, next_at μ c hdt hb ha, ← split_col ⟨(i 1).val, (i 1).isLt⟩]
  rfl
theorem start_eq (n : ℕ) : start n (held μ c n) = held μ c n := by
  unfold start
  split
  · rename_i h
    subst h
    funext i
    exact Ideal.ofBits_zero_f32
  · rfl
/-- What the points leave: the output, the state before, the state after. -/
theorem outsAt_eq (n : ℕ) (hn : n < cfg0.N) : Pipeline.accAt (fun n h => Value.stAt0 μ c n h Value.junk0) (Value.stAt0 μ c) 0 n (by omega)
    = (pointOut μ c ⟨n, hn⟩ (held μ c n), kepts (keptOf (held μ c n)), held μ c (n + 1)) := by
  rw [← Value.outsAt0_sweep μ c n hn]
  induction n with
  | zero =>
    rw [Value.outsAt0_zero, stAt0_eq μ c ⟨0, hn⟩]
    have e : start 0 (Value.junk0 (F := Ideal)).2.2 = held μ c 0 := start_eq μ c hdt hb ha 0
    show (pointOut μ c ⟨0, hn⟩ (start 0 _), kepts (keptOf (start 0 _)), pointNext μ c ⟨0, hn⟩ (start 0 _)) = _
    rw [e]
    exact congrArg (fun z => (_, _, z)) (pointNext_eq μ c hdt hb ha ⟨0, hn⟩)
  | succ n ih =>
    rw [Value.outsAt0_succ, stAt0_eq μ c ⟨n + 1, hn⟩, ih (Nat.lt_of_succ_lt hn)]
    have e : start (n + 1) (held μ c (n + 1)) = held μ c (n + 1) := start_eq μ c hdt hb ha (n + 1)
    show (pointOut μ c ⟨n + 1, hn⟩ (start (n + 1) _), kepts (keptOf (start (n + 1) _)), pointNext μ c ⟨n + 1, hn⟩ (start (n + 1) _)) = _
    rw [e]
    exact congrArg (fun z => (_, _, z)) (pointNext_eq μ c hdt hb ha ⟨n + 1, hn⟩)

/-! ## The arrays left -/

theorem out_at' (t : Fin cfg0.N) (s : Fin 256) (g : Fin 4) (k : Fin 512) :
    (outOf (F := Ideal) (Gen.X0_0 μ c t) (Gen.iblk μ c 1 t) (Gen.iblk μ c 2 t) (Gen.iblk μ c 3 t) (Gen.iblk μ c 4 t) (Gen.iblk μ c 5 t) (Gen.iblk μ c 6 t) (held μ c t.val) g) (ix2 s k)
      = Ssd.y (xcM μ c) (dtM μ c) (biasM μ c) (alogM μ c) (dskM μ c) t.val s (gcol g k) := by
  have h := out_at μ c hdt hb ha t s g ⟨k.val / 128, by omega⟩ ⟨k.val % 128, by omega⟩
  rwa [← split_col k] at h
omit hdt hb ha in
theorem keep_apply (x : FVec Ideal S1x512x128 .f32) (k : Fin 512) (l : Fin 128) :
    (shapeCast S1x1x512x128 (shapeCast S512x128 x shapeCasts_S1x512x128_S512x128 : FVec Ideal S512x128 .f32) shapeCasts_S512x128_S1x1x512x128 : FVec Ideal S1x1x512x128 .f32) (ix4 0 0 k l) = x (ix3 0 k l) := by
  pointwise []
omit hdt hb ha in
theorem keptOf_apply (s : FVec Ideal S4x512x128 .f32) (g : Fin 4) (k : Fin 512) (l : Fin 128) : keptOf (F := Ideal) s g (ix4 0 0 k l) = s (ix3 g k l) := by
  unfold keptOf
  have h := keep_apply (fun i : S1x512x128.Idx => (View.ld (Val := Elt Ideal) (e' := .f32) s (sRect g) i : EReal)) k l
  exact h.trans (ld_s s g k l)
theorem kept_at (n : ℕ) (g : Fin 4) (k : Fin 512) (l : Fin 128) :
    kepts (F := Ideal) (keptOf (held μ c n)) (ix4 0 g k l) = Ssd.state (xcM μ c) (dtM μ c) (biasM μ c) (alogM μ c) n (gcol g k) l := by
  exact keptOf_apply (held μ c n) g k l
theorem G7_apply (T : Fin 8192) (k : Fin 2048) :
    Value.G7 (F := Ideal) μ c (ix2 T k) = Ssd.y (xcM μ c) (dtM μ c) (biasM μ c) (alogM μ c) (dskM μ c) (T.val / 256) ⟨T.val % 256, by omega⟩ k := by
  have hp : Value.pt7Of (ix2 T k) = T.val / 256 := by
    show 1 * (T.val / 256 - 0) + 1 * (k.val / 2048 - 0) = _
    omega
  have hn : T.val / 256 < cfg0.N := lt_of_lt_of_eq (by omega) N_0.symm
  have hl : Value.loc7Of (ix2 T k) = ix2 ⟨T.val % 256, by omega⟩ k := by
    funext a
    match a with
    | ⟨0, _⟩ => rfl
    | ⟨1, _⟩ => exact Fin.ext (by show k.val % 2048 = k.val; omega)
  unfold Value.G7
  rw [dif_pos (by rw [hp]; exact hn), hl, Value.fold0_congr μ c _ _ (T.val / 256) (by omega) hp, outsAt_eq μ c hdt hb ha (T.val / 256) hn]
  refine (out_at' μ c hdt hb ha ⟨T.val / 256, hn⟩ ⟨T.val % 256, by omega⟩ ⟨k.val / 512, by omega⟩ ⟨k.val % 512, by omega⟩).trans ?_
  exact congrArg _ (Fin.ext (by show 512 * (k.val / 512) + k.val % 512 = k.val; omega))
theorem G8_apply (j : Fin 32) (g : Fin 4) (k : Fin 512) (l : Fin 128) :
    Value.G8 (F := Ideal) μ c (ix4 j g k l) = Ssd.state (xcM μ c) (dtM μ c) (biasM μ c) (alogM μ c) j.val (gcol g k) l := by
  have hp : Value.pt8Of (ix4 j g k l) = j.val := by
    show 1 * (j.val / 1 - 0) + 1 * (g.val / 4 - 0) + 1 * (k.val / 512 - 0) + 1 * (l.val / 128 - 0) = _
    omega
  have hn : j.val < cfg0.N := lt_of_lt_of_eq (by omega) N_0.symm
  have hl : Value.loc8Of (ix4 j g k l) = ix4 0 g k l := by
    funext a
    match a with
    | ⟨0, _⟩ => exact Fin.ext (by show j.val % 1 = 0; omega)
    | ⟨1, _⟩ => exact Fin.ext (by show g.val % 4 = g.val; omega)
    | ⟨2, _⟩ => exact Fin.ext (by show k.val % 512 = k.val; omega)
    | ⟨3, _⟩ => exact Fin.ext (by show l.val % 128 = l.val; omega)
  unfold Value.G8
  rw [dif_pos (by rw [hp]; exact hn), hl, Value.fold0_congr μ c _ _ j.val (by omega) hp, outsAt_eq μ c hdt hb ha j.val hn]
  exact kept_at μ c hdt hb ha j.val g k l
end
end Cert.SsdFwdIdeal.Hand
-- ==== Proof.SsdFwdRef.lean ====
module

public import proofs.«01_k».proof.Defs
public import proofs.«01_k».proof.Proof.SsdFwdRefLoop
public import proofs.«01_k».proof.Proof.SsdFwdValue

/-! The plain scan's results, and the claims about the state-space recurrence. -/

@[expose] public section
set_option maxRecDepth 16384
noncomputable section
namespace Cert.SsdFwdRefIdeal.Hand
open Cert.SsdFwdRefIdeal Cert.SsdFwdRefIdeal.Gen Cert.SsdFwdRefIdeal.Value Idealize.ShloMosaic Idealize.ShloMosaic.TcCoe Idealize.ShloMosaic.StableHlo Idealize.SL.Sem Cert.Util Cert.Norm Cert.Ssd

section
variable (m : (ℓ : Loc nD τ sig) → Buf (Elt Ideal) ℓ) (c : Dev nD)

/-! ## The arrays the loop starts from -/
abbrev E0 : Val := entryContents preI m c
abbrev aXc : FVec Ideal S8192x3072 .f32 := m ((c : Thread nD τ).loc main_arg0)
abbrev aDt : FVec Ideal S8192x32 .f32 := m ((c : Thread nD τ).loc main_arg1)
abbrev aBias : FVec Ideal S32 .f32 := m ((c : Thread nD τ).loc main_arg2)
abbrev aLog : FVec Ideal S32 .f32 := m ((c : Thread nD τ).loc main_arg3)
abbrev aSkip : FVec Ideal S32 .f32 := m ((c : Thread nD τ).loc main_arg4)

theorem entry_X : vX (E0 m c) = shapeCast S32x256x4x8x64 (shapeCast S8192x4x8x64 (extractStridedSlice S8192x2048 ![0, 0] (aXc m c) slices_S8192x3072_S8192x2048_0_0) shapeCasts_S8192x2048_S8192x4x8x64) shapeCasts_S8192x4x8x64_S32x256x4x8x64 := by
  unfold vX E0 entryContents
  simp only [afterL_cons, afterL_nil]
  after_results
  rfl
theorem entry_B : vB (E0 m c) = shapeCast S32x256x4x128 (shapeCast S8192x4x128 (extractStridedSlice S8192x512 ![0, 2048] (aXc m c) slices_S8192x3072_S8192x512_0_2048) shapeCasts_S8192x512_S8192x4x128) shapeCasts_S8192x4x128_S32x256x4x128 := by
  unfold vB E0 entryContents
  simp only [afterL_cons, afterL_nil]
  after_results
  rfl
theorem entry_C : vC (E0 m c) = shapeCast S32x256x4x128 (shapeCast S8192x4x128 (extractStridedSlice S8192x512 ![0, 2560] (aXc m c) slices_S8192x3072_S8192x512_0_2560) shapeCasts_S8192x512_S8192x4x128) shapeCasts_S8192x4x128_S32x256x4x128 := by
  unfold vC E0 entryContents
  simp only [afterL_cons, afterL_nil]
  after_results
  rfl
/-- The time steps. -/
def steps : FVec Ideal S8192x32 .f32 :=
  addf (maximumf (addf (aDt m c) (broadcastInDim S8192x32 ![0, 1] bcast_S1x32_S8192x32_0_1 (broadcastInDim S1x32 ![1] bcast_S32_S1x32_1 (aBias m c)))) (broadcastInDim S8192x32 ![] bcast_S_S8192x32 (constant (F := Ideal) S_ .f32 0x00000000#32)))
    (Host.log1p (Host.exp (Host.negf (Host.absf (addf (aDt m c) (broadcastInDim S8192x32 ![0, 1] bcast_S1x32_S8192x32_0_1 (broadcastInDim S1x32 ![1] bcast_S32_S1x32_1 (aBias m c))))))))
theorem entry_D : vD (E0 m c) = shapeCast S32x256x4x8 (shapeCast S8192x4x8 (steps m c) shapeCasts_S8192x32_S8192x4x8) shapeCasts_S8192x4x8_S32x256x4x8 := by
  unfold vD E0 entryContents
  simp only [afterL_cons, afterL_nil]
  after_results
  rfl
theorem entry_A : vA (E0 m c) = Host.negf (shapeCast S4x8 (Host.exp (aLog m c)) shapeCasts_S32_S4x8) := by
  unfold vA E0 entryContents
  simp only [afterL_cons, afterL_nil]
  after_results
  rfl
theorem entry_M : vM (E0 m c) = broadcastInDim S256x256x1x1 ![0, 1] bcast_S256x256_S256x256x1x1_0_1 (select (cmpi .sge (addi (iotaInDim S256x256 32 0) (broadcastInDim S256x256 ![] bcast_S_S256x256 (constantI S_ 32 0#32))) (iotaInDim S256x256 32 1)) (broadcastInDim S256x256 ![] bcast_S_S256x256 (constantI S_ 1 1#1)) (broadcastInDim S256x256 ![] bcast_S_S256x256 (constantI S_ 1 0#1))) := by
  unfold vM E0 entryContents
  simp only [afterL_cons, afterL_nil]
  after_results
  rfl
theorem entry_S : vS (E0 m c) = broadcastInDim S4x8x64x128 ![] bcast_S_S4x8x64x128 (constant (F := Ideal) S_ .f32 0x00000000#32) := by
  unfold vS E0 entryContents
  simp only [afterL_cons, afterL_nil]
  after_results
  rfl

theorem tok_eq (j : Fin 32) (s : Fin 256) (h : j.val * 256 + s.val < 8192) : (⟨j.val * 256 + s.val, h⟩ : Fin 8192) = tok j s := Fin.ext (by dsimp only; omega)
theorem hd_eq (g : Fin 4) (r : Fin 8) (h : g.val * 8 + r.val < 32) : (⟨g.val * 8 + r.val, h⟩ : Fin 32) = hd g r := Fin.ext (by dsimp only; omega)
theorem X_apply (j : Fin 32) (s : Fin 256) (g : Fin 4) (r : Fin 8) (p : Fin 64) : (vX (E0 m c) (ix5 j s g r p) : EReal) = aXc m c (ix2 (tok j s) (xCol (col g r p))) := by
  rw [entry_X]
  pointwise []
  exact congrArg₂ (fun T k => aXc m c (ix2 T k)) (tok_eq j s _) (Fin.ext (by dsimp only; omega))
theorem B_apply (j : Fin 32) (s : Fin 256) (g : Fin 4) (r : Fin 8) (p : Fin 64) (n : Fin 128) : (vB (E0 m c) (ix4 j s g n) : EReal) = aXc m c (ix2 (tok j s) (bCol (col g r p) n)) := by
  rw [entry_B]
  pointwise []
  exact congrArg₂ (fun T k => aXc m c (ix2 T k)) (tok_eq j s _) (Fin.ext (by dsimp only; omega))
theorem C_apply (j : Fin 32) (s : Fin 256) (g : Fin 4) (r : Fin 8) (p : Fin 64) (n : Fin 128) : (vC (E0 m c) (ix4 j s g n) : EReal) = aXc m c (ix2 (tok j s) (cCol (col g r p) n)) := by
  rw [entry_C]
  pointwise []
  exact congrArg₂ (fun T k => aXc m c (ix2 T k)) (tok_eq j s _) (Fin.ext (by dsimp only; omega))
theorem D_apply (j : Fin 32) (s : Fin 256) (g : Fin 4) (r : Fin 8) : (vD (E0 m c) (ix4 j s g r) : EReal) = softplus (aDt m c (ix2 (tok j s) (hd g r)) + aBias m c (ix1 (hd g r))) := by
  rw [entry_D, ← tok_eq j s (by omega), ← hd_eq g r (by omega)]
  unfold steps softplus
  pointwise []
  rfl
theorem A_apply (g : Fin 4) (r : Fin 8) : (vA (E0 m c) (ix2 g r) : EReal) = -Ideal.exp (aLog m c (ix1 (hd g r))) := by
  rw [entry_A, ← hd_eq g r (by omega)]
  pointwise []
theorem M_apply (l s : Fin 256) : vM (E0 m c) (ix4 l s 0 0) = if s.val ≤ l.val then 1#1 else 0#1 := by
  rw [entry_M]
  pointwise []
  rw [show IntOp.addi (BitVec.ofNat 32 l.val) 0#32 = BitVec.ofNat 32 l.val from BitVec.add_zero _, sge_eq (by omega) (by omega)]
  by_cases h : s.val ≤ l.val <;> simp only [h, if_true, if_false] <;> rfl
theorem S_apply (g : Fin 4) (r : Fin 8) (p : Fin 64) (n : Fin 128) : (vS (E0 m c) (ix4 g r p n) : EReal) = 0 := by
  rw [entry_S]
  pointwise []

theorem ctr (k : ℕ) : it (E0 m c) k (Proc.devRef .tc main_v33_6) = fun _ => Scf.iv 0#32 1#32 k :=
  (atK_agree m c k main_v33_6 (by decide)).symm.trans (atK_ctr m c k)

/-! ## What the loop leaves, and the results -/

/-- What the loop writes, stretch by stretch. -/
abbrev loopW : List (List (Ref sig .tc)) := [condOps_W, while0Ops0_W, while0Ops0_1_W, while0Ops0_2_W, while0Ops0_3_W, while0Ops0_4_W, while0Ops0_5_W, while0Ops0_6_W,
  while0Ops0_7_W, while0Ops0_8_W, while0Ops0_9_W, while0Ops0_10_W, while0Ops0_11_W]
/-- Before the `k`-th trip a buffer the loop does not write is as before the loop. -/
theorem atK_keeps (b : Ref sig .tc) (h : ∀ W ∈ loopW, b ∉ W) : ∀ k, atK m k c (Proc.devRef .tc b) = E0 m c (Proc.devRef .tc b)
  | 0 => rfl
  | k + 1 => by
    rw [show atK m (k + 1) c = afterL bodyI (after condOps (atK m k c)) from rfl]
    simp only [afterL_cons, afterL_nil]
    rw [after_of_writes_sub _ _ while0Ops0_11_writes (h _ (by simp)), after_of_writes_sub _ _ while0Ops0_10_writes (h _ (by simp)), after_of_writes_sub _ _ while0Ops0_9_writes (h _ (by simp)),
      after_of_writes_sub _ _ while0Ops0_8_writes (h _ (by simp)), after_of_writes_sub _ _ while0Ops0_7_writes (h _ (by simp)), after_of_writes_sub _ _ while0Ops0_6_writes (h _ (by simp)),
      after_of_writes_sub _ _ while0Ops0_5_writes (h _ (by simp)), after_of_writes_sub _ _ while0Ops0_4_writes (h _ (by simp)), after_of_writes_sub _ _ while0Ops0_3_writes (h _ (by simp)),
      after_of_writes_sub _ _ while0Ops0_2_writes (h _ (by simp)), after_of_writes_sub _ _ while0Ops0_1_writes (h _ (by simp)), after_of_writes_sub _ _ while0Ops0_writes (h _ (by simp)),
      after_of_writes_sub _ _ condOps_writes (h _ (by simp))]
    exact atK_keeps b h k

abbrev V32 : Val := after condOps (atK m 32 c)
abbrev fin : Val := finalContents condOps preI bodyI postI 32 m c
abbrev postW : List (Ref sig .tc) := [main_v34, main_v35, main_v36, main_v37, main_v38, main_v39, main_v40, main_v41, main_v42]
theorem post_writes : (hostOps0_3 : List (HloOp τ sig (Elt Ideal))).Forall fun op => op.writes ⊆ (postW.map (Proc.devRef (τ := τ) .tc)).toFinset := by decide +kernel
/-- A buffer nothing writes ends as it began. -/
theorem fin_keeps (b : Ref sig .tc) (h : ∀ W ∈ loopW, b ∉ W) (hp : ∀ W ∈ [hostOps0_W, hostOps0_1_W, hostOps0_2_W, postW], b ∉ W) :
    fin m c (Proc.devRef .tc b) = m ((c : Thread nD τ).loc b) := by
  unfold fin finalContents
  simp only [afterL_cons, afterL_nil]
  rw [after_of_writes_sub _ _ post_writes (hp _ (by simp)), after_of_writes_sub _ _ condOps_writes (h _ (by simp))]
  refine (atK_keeps m c b h 32).trans ?_
  unfold E0 entryContents
  simp only [afterL_cons, afterL_nil]
  rw [after_of_writes_sub _ _ hostOps0_2_writes (hp _ (by simp)), after_of_writes_sub _ _ hostOps0_1_writes (hp _ (by simp)), after_of_writes_sub _ _ hostOps0_writes (hp _ (by simp))]

theorem V32_x : (V32 m c (Proc.devRef .tc main_v0) : FVec Ideal S8192x2048 .f32) = extractStridedSlice S8192x2048 ![0, 0] (aXc m c) slices_S8192x3072_S8192x2048_0_0 := by
  rw [V32, after_of_writes_sub _ _ condOps_writes (by decide +kernel), atK_keeps m c main_v0 (by decide +kernel)]
  unfold E0 entryContents
  simp only [afterL_cons, afterL_nil]
  after_results
theorem V32_skip : (V32 m c (Proc.devRef .tc main_arg4) : FVec Ideal S32 .f32) = aSkip m c := by
  rw [V32, after_of_writes_sub _ _ condOps_writes (by decide +kernel), atK_keeps m c main_arg4 (by decide +kernel)]
  unfold E0 entryContents
  simp only [afterL_cons, afterL_nil]
  after_results

theorem fin_args : fin m c (Proc.devRef .tc main_arg0) = m ((c : Thread nD τ).loc main_arg0) ∧ fin m c (Proc.devRef .tc main_arg1) = m ((c : Thread nD τ).loc main_arg1)
    ∧ fin m c (Proc.devRef .tc main_arg2) = m ((c : Thread nD τ).loc main_arg2) ∧ fin m c (Proc.devRef .tc main_arg3) = m ((c : Thread nD τ).loc main_arg3)
    ∧ fin m c (Proc.devRef .tc main_arg4) = m ((c : Thread nD τ).loc main_arg4) :=
  ⟨fin_keeps m c _ (by decide +kernel) (by decide +kernel), fin_keeps m c _ (by decide +kernel) (by decide +kernel), fin_keeps m c _ (by decide +kernel) (by decide +kernel),
    fin_keeps m c _ (by decide +kernel) (by decide +kernel), fin_keeps m c _ (by decide +kernel) (by decide +kernel)⟩
/-- The run's end at the arguments. -/
theorem kept {mem : (ℓ : Loc nD τ sig) → Buf (Elt Ideal) ℓ}
    (h : ∀ (b : Ref sig .tc), (Proc.devRef .tc b : DevRef τ sig).isScoped = false → mem ((c : Thread nD τ).loc b) = fin m c (Proc.devRef .tc b)) :
    mem ((c : Thread nD τ).loc main_arg0) = m ((c : Thread nD τ).loc main_arg0) ∧ mem ((c : Thread nD τ).loc main_arg1) = m ((c : Thread nD τ).loc main_arg1)
    ∧ mem ((c : Thread nD τ).loc main_arg2) = m ((c : Thread nD τ).loc main_arg2) ∧ mem ((c : Thread nD τ).loc main_arg3) = m ((c : Thread nD τ).loc main_arg3)
    ∧ mem ((c : Thread nD τ).loc main_arg4) = m ((c : Thread nD τ).loc main_arg4) :=
  have ⟨a, b, d, e, f⟩ := fin_args m c
  ⟨(h _ (by decide)).trans a, (h _ (by decide)).trans b, (h _ (by decide)).trans d, (h _ (by decide)).trans e, (h _ (by decide)).trans f⟩

theorem post_y (X : Val) : (afterL postI X (Proc.devRef .tc main_v41) : FVec Ideal S8192x2048 .f32)
    = addf (shapeCast S8192x2048 (vY X) shapeCasts_S32x256x4x8x64_S8192x2048)
        (shapeCast S8192x2048 (mulf (broadcastInDim S8192x32x64 ![0, 1, 2] bcast_S1x32x1_S8192x32x64_0_1_2 (broadcastInDim S1x32x1 ![1, 2] bcast_S32x1_S1x32x1_1_2
            (broadcastInDim S32x1 ![0] bcast_S32_S32x1_0 (X (Proc.devRef .tc main_arg4) : FVec Ideal S32 .f32))))
          (shapeCast S8192x32x64 (X (Proc.devRef .tc main_v0) : FVec Ideal S8192x2048 .f32) shapeCasts_S8192x2048_S8192x32x64)) shapeCasts_S8192x32x64_S8192x2048) := by
  unfold vY
  simp only [afterL_cons, afterL_nil]
  after_results
  rfl
theorem post_z (X : Val) : (afterL postI X (Proc.devRef .tc main_v42) : FVec Ideal S32x4x512x128 .f32) = shapeCast S32x4x512x128 (vZ X) shapeCasts_S32x4x8x64x128_S32x4x512x128 := by
  unfold vZ
  simp only [afterL_cons, afterL_nil]
  after_results
  rfl

theorem V32_y : vY (V32 m c) = vY (it (E0 m c) 32) := (cond_keeps _ main_v33_8 (by decide)).trans (atK_agree m c 32 main_v33_8 (by decide))
theorem V32_z : vZ (V32 m c) = vZ (it (E0 m c) 32) := (cond_keeps _ main_v33_9 (by decide)).trans (atK_agree m c 32 main_v33_9 (by decide))

theorem fin_z (j : Fin 32) (g : Fin 4) (r : Fin 8) (p : Fin 64) (n : Fin 128) :
    ((fin m c (Proc.devRef .tc main_v42) : FVec Ideal S32x4x512x128 .f32) (ix4 j g ⟨64 * r.val + p.val, by omega⟩ n) : EReal)
      = state (fun T k => aXc m c (ix2 T k)) (fun T h => aDt m c (ix2 T h)) (fun h => aBias m c (ix1 h)) (fun h => aLog m c (ix1 h)) j (col g r p) n := by
  refine (congrFun (post_z (V32 m c)) _).trans ?_
  rw [V32_z]
  refine Eq.trans ?_ (it_states (E0 m c) _ _ _ _ (ctr m c) (X_apply m c) (D_apply m c) (B_apply m c) (A_apply m c) (S_apply m c) 32 le_rfl j j.isLt g r p n)
  pointwise []

theorem at5 {a b c d e : ℕ} {α : Type} (f : (⟨5, ![a, b, c, d, e]⟩ : Shape).Idx → α) {j j' : Fin a} {s s' : Fin b} {g g' : Fin c} {r r' : Fin d} {p p' : Fin e}
    (h1 : j.val = j'.val) (h2 : s.val = s'.val) (h3 : g.val = g'.val) (h4 : r.val = r'.val) (h5 : p.val = p'.val) : f (ix5 j s g r p) = f (ix5 j' s' g' r' p') := by
  rw [Fin.ext h1, Fin.ext h2, Fin.ext h3, Fin.ext h4, Fin.ext h5]
theorem fin_y (j : Fin 32) (l : Fin 256) (g : Fin 4) (r : Fin 8) (p : Fin 64) :
    ((fin m c (Proc.devRef .tc main_v41) : FVec Ideal S8192x2048 .f32) (ix2 (tok j l) (col g r p)) : EReal)
      = y (fun T k => aXc m c (ix2 T k)) (fun T h => aDt m c (ix2 T h)) (fun h => aBias m c (ix1 h)) (fun h => aLog m c (ix1 h)) (fun h => aSkip m c (ix1 h)) j l (col g r p) := by
  refine (congrFun (post_y (V32 m c)) _).trans ?_
  rw [V32_y, V32_skip, V32_x]
  refine Eq.trans ?_ (it_outs (E0 m c) _ _ _ _ _ (ctr m c) (X_apply m c) (D_apply m c) (B_apply m c) (C_apply m c) (A_apply m c) (M_apply m c) (S_apply m c) 32 le_rfl j j.isLt l g r p)
  pointwise []
  refine congrArg₂ (fun a b : EReal => a + b) (at5 (vY (it (E0 m c) 32)) (by dsimp only; omega) (by dsimp only; omega) (by dsimp only; omega) (by dsimp only; omega) (by dsimp only; omega)) ?_
  exact congrArg₂ (fun a b : EReal => a * b) (congrArg (fun h => aSkip m c (ix1 h)) (Fin.ext (by dsimp only; omega)))
    (congrArg₂ (fun T k => aXc m c (ix2 T k)) (Fin.ext (by dsimp only)) (Fin.ext (by dsimp only; omega)))
end
end Cert.SsdFwdRefIdeal.Hand

/-! ## The claims -/
namespace Cert.SsdFwdIdeal.Hand
section
open Cert.SsdFwdIdeal Cert.SsdFwdIdeal.Gen Idealize.ShloMosaic Idealize.ShloMosaic.TcCoe Idealize.SL.Sem Cert.Util Cert.Norm Cert.Ssd

theorem pre_facts : Cert.Pre_pre_ssd_fwd.Facts := by constructor <;> decide

/-- The reference's frame: its run read at the arguments; it has no semaphore. -/
theorem frame_ref : Cert.quiescent_SsdFwdRefIdeal (hSsdFwdRefIdeal := Cert.SsdFwdRefIdeal.Gen.facts) := fun m ρ _ =>
  (θ_run Cert.SsdFwdRefIdeal.defs _ _).mono (fun r h => ⟨fun c => Cert.SsdFwdRefIdeal.Hand.kept m c (h c), sem_eq_zero_of_no_sems (by decide) r.2⟩)
    (Cert.SsdFwdRefIdeal.Value.run_fold (F := Ideal) m ρ)

/-- The recurrence's forward pass: the kernel's output and carried states are the plain scan's. -/
theorem algebraic : Cert.algebraic_SsdFwdIdeal_SsdFwdRefIdeal_pre_pre_ssd_fwd (hSsdFwdIdeal := Cert.SsdFwdIdeal.Gen.facts)
    (hSsdFwdRefIdeal := Cert.SsdFwdRefIdeal.Gen.facts) (hPre_pre_ssd_fwd := pre_facts) := by
  intro m g m' g' hpre hm
  have hdt : ∀ c T h, ∃ t : ℝ, dtM m c T h = t := fun c T h => real_of_finite (congrFun (hpre c).1 (ix2 T h))
  have hb : ∀ c h, ∃ t : ℝ, biasM m c h = t := fun c h => real_of_finite (congrFun (hpre c).2.1 (ix1 h))
  have ha : ∀ c h, ∃ t : ℝ, alogM m c h = t := fun c h => real_of_finite (congrFun (hpre c).2.2 (ix1 h))
  refine ⟨Value.G7 (F := Ideal) m, Value.G8 (F := Ideal) m, Cert.SsdFwdIdeal.Value.run m g, ?_⟩
  refine (θ_run _ _ _).mono (fun r h c => ?_) (Cert.SsdFwdRefIdeal.Value.run_fold (F := Ideal) m' g')
  obtain ⟨a0, a1, a2, a3, a4⟩ := hm c
  refine ⟨?_, ?_, Cert.SsdFwdRefIdeal.Hand.kept m' c (h c)⟩
  · refine (h c Cert.SsdFwdRefIdeal.main_v41 (by decide)).trans (funext fun i => ?_)
    obtain ⟨T, k, rfl⟩ : ∃ (T : Fin 8192) (k : Fin 2048), i = ix2 T k := ⟨i 0, i 1, eq_ix2 i⟩
    obtain ⟨j, l, rfl⟩ : ∃ (j : Fin 32) (l : Fin 256), T = tok j l := ⟨⟨T.val / 256, by omega⟩, ⟨T.val % 256, by omega⟩, Fin.ext (by dsimp only; omega)⟩
    obtain ⟨b, r, p, rfl⟩ : ∃ (b : Fin 4) (r : Fin 8) (p : Fin 64), k = Cert.SsdFwdRefIdeal.Hand.col b r p :=
      ⟨⟨k.val / 512, by omega⟩, ⟨k.val / 64 % 8, by omega⟩, ⟨k.val % 64, by omega⟩, Fin.ext (by dsimp only; omega)⟩
    refine (Cert.SsdFwdRefIdeal.Hand.fin_y m' c j l b r p).trans (Eq.trans ?_ (G7_apply m c (hdt c) (hb c) (ha c) _ _).symm)
    unfold Cert.SsdFwdRefIdeal.Hand.aXc Cert.SsdFwdRefIdeal.Hand.aDt Cert.SsdFwdRefIdeal.Hand.aBias Cert.SsdFwdRefIdeal.Hand.aLog Cert.SsdFwdRefIdeal.Hand.aSkip
    rw [a0, a1, a2, a3, a4]
    have e1 : (tok j l).val / 256 = j.val := by dsimp only; omega
    have e2 : (⟨(tok j l).val % 256, Nat.mod_lt _ (by norm_num)⟩ : Fin 256) = l := Fin.ext (by dsimp only; omega)
    rw [e1, e2]
  · refine (h c Cert.SsdFwdRefIdeal.main_v42 (by decide)).trans (funext fun i => ?_)
    obtain ⟨j, b, k, n, rfl⟩ : ∃ (j : Fin 32) (b : Fin 4) (k : Fin 512) (n : Fin 128), i = ix4 j b k n := ⟨i 0, i 1, i 2, i 3, eq_ix4 i⟩
    obtain ⟨r, p, rfl⟩ : ∃ (r : Fin 8) (p : Fin 64), k = ⟨64 * r.val + p.val, by omega⟩ := ⟨⟨k.val / 64, by omega⟩, ⟨k.val % 64, by omega⟩, Fin.ext (by dsimp only; omega)⟩
    refine (Cert.SsdFwdRefIdeal.Hand.fin_z m' c j b r p n).trans (Eq.trans ?_ (G8_apply m c (hdt c) (hb c) (ha c) _ _ _ _).symm)
    unfold Cert.SsdFwdRefIdeal.Hand.aXc Cert.SsdFwdRefIdeal.Hand.aDt Cert.SsdFwdRefIdeal.Hand.aBias Cert.SsdFwdRefIdeal.Hand.aLog
    rw [a0, a1, a2, a3]
    exact congrArg (fun q => state _ _ _ _ j.val q n) (Fin.ext (by dsimp only; omega))
end
end Cert.SsdFwdIdeal.Hand
end
-- ==== Proof.GateMath.lean ====
module

public import proofs.«01_k».proof.Proof.Silu

/-! The gated norm of one row and its gradient: four groups of 512 columns, over the extended reals. -/

@[expose] public section
noncomputable section
namespace Cert.Gate
open Idealize.ShloMosaic Cert.Util

/-- Column `j` of group `q`. -/
abbrev col (q : Fin 4) (j : Fin 512) : Fin 2048 := ⟨512 * q.val + j.val, by omega⟩
/-- Every column lies in a group. -/
theorem exists_col (l : Fin 2048) : ∃ (q : Fin 4) (j : Fin 512), l = col q j :=
  ⟨⟨l.val / 512, by omega⟩, ⟨l.val % 512, by omega⟩, Fin.ext (by dsimp only; omega)⟩

/-- The group of a column. -/
abbrev grpOf (l : Fin 2048) : Fin 4 := ⟨l.val / 512, by omega⟩
/-- The place of a column in its group. -/
abbrev plc (l : Fin 2048) : Fin 512 := ⟨l.val % 512, by omega⟩
theorem grpOf_col (q : Fin 4) (j : Fin 512) : grpOf (col q j) = q := Fin.ext (by dsimp only; omega)
theorem plc_col (q : Fin 4) (j : Fin 512) : plc (col q j) = j := Fin.ext (by dsimp only; omega)

/-- The gated row. -/
def gated (y z : Fin 2048 → EReal) (l : Fin 2048) : EReal := y l * (z l * sig (z l))
/-- A group's mean square, with the small constant added. -/
def gms (x : Fin 512 → EReal) : EReal :=
  Ideal.div (∑ j, x j * x j) (Ideal.ofBits .f32 0x44000000#32) + Ideal.ofBits .f32 0x358637BD#32
/-- A group's scale. -/
def grs (x : Fin 512 → EReal) : EReal := Ideal.rsqrt (gms x)
/-- The derivative of the scale. -/
def gdr (x : Fin 512 → EReal) : EReal := Ideal.ofBits .f32 0xBF000000#32 * Ideal.div (grs x) (gms x)
/-- The gradient through a group's mean square, of scale `rs` and derivative `dr`. -/
def gmm (dr : EReal) (x u : Fin 512 → EReal) : EReal :=
  Ideal.div ((∑ j, x j * u j) * dr) (Ideal.ofBits .f32 0x44000000#32)
/-- A group's input gradient from its output's cotangent `u`. -/
def gdx (rs dr : EReal) (x u : Fin 512 → EReal) (j : Fin 512) : EReal :=
  u j * rs + x j * gmm dr x u + gmm dr x u * x j

/-- The normed row before its scale `gn`. -/
def nrow (x : Fin 2048 → EReal) (q : Fin 4) (j : Fin 512) : EReal := x (col q j) * grs (fun k => x (col q k))
/-- The gated row's gradient. -/
def dgate (x u : Fin 2048 → EReal) (q : Fin 4) (j : Fin 512) : EReal :=
  gdx (grs fun k => x (col q k)) (gdr fun k => x (col q k)) (fun k => x (col q k)) (fun k => u (col q k)) j

/-- The gate's gradient as the reference writes it: `t` the cotangent times the other factor. -/
def dsilu (t z : EReal) : EReal := t * sig z + z * t * (sig z * (1 - sig z))

/-- The derivative of `1 / (1 + exp (-z))` as the kernel's transpose writes it, times a cotangent: it is the reference's, at every
argument. -/
theorem logistic_grad (u z : EReal) :
    0 - (0 - u * Ideal.div 1 ((1 + Ideal.exp (-z)) * (1 + Ideal.exp (-z))) * 1) * Ideal.exp (-z) = u * (sig z * (1 - sig z)) := by
  induction z with
  | coe z =>
    have hp : (0 : ℝ) < 1 + Real.exp (-z) := by positivity
    have e : Ideal.exp (-(z : EReal)) = ((Real.exp (-z) : ℝ) : EReal) := by rw [← EReal.coe_neg]; rfl
    rw [e, sig_coe, ← EReal.coe_one, ← EReal.coe_add, ← EReal.coe_mul, coe_div_coe _ (mul_pos hp hp).ne', ← EReal.coe_sub, ← EReal.coe_mul,
      EReal.coe_one, mul_one, zero_sub, zero_sub, EReal.neg_mul, neg_neg, mul_assoc, ← EReal.coe_mul]
    congr 2
    field_simp
    ring
  | top =>
    rw [sig_top, EReal.neg_top]
    show 0 - (0 - u * Ideal.div 1 ((1 + 0) * (1 + 0)) * 1) * 0 = _
    rw [show (1 : EReal) - 1 = 0 by rw [← EReal.coe_one, ← EReal.coe_sub, sub_self]; rfl]
    simp
  | bot =>
    rw [sig_bot, EReal.neg_bot]
    show 0 - (0 - u * Ideal.div 1 ((1 + ⊤) * (1 + ⊤)) * 1) * ⊤ = _
    rw [show (1 : EReal) + ⊤ = ⊤ from EReal.add_top_of_ne_bot (by decide), EReal.top_mul_top]
    unfold Ideal.div
    rw [if_neg EReal.top_ne_zero, EReal.inv_top]
    simp

end Cert.Gate
end
-- ==== Proof.GateBody.lean ====
module

public import proofs.«01_k».proof.Proof.Gen.GateIdeal.Value
public import proofs.«01_k».proof.Proof.GateMath
public import Idealize.ShloMosaic.Lib.Claim

/-! The output gate's backward kernel: the values of one grid point, read at an index. -/

@[expose] public section
set_option maxRecDepth 16384
noncomputable section
namespace Cert.GateIdeal.Hand
open Cert.GateIdeal Cert.GateIdeal.Gen Idealize.ShloMosaic Idealize.ShloMosaic.TcCoe Idealize.SL.Sem Cert.Util Cert.Gate

variable (y z : FVec Ideal S256x2048 .f32) (gn : FVec Ideal S1x2048 .f32) (dy : FVec Ideal S256x1024 .f32) (w : FVec Ideal S2048x1024 .bf16)

/-- Row `r` of an array of a point. -/
abbrev rowOf (a : FVec Ideal S256x2048 .f32) (r : Fin 256) (l : Fin 2048) : EReal := a (ix2 r l)
/-- Row `r` of the gated array. -/
abbrev gRow (r : Fin 256) : Fin 2048 → EReal := gated (rowOf y r) (rowOf z r)
/-- Row `r` of the cotangent of the normed array. -/
def dynRow (r : Fin 256) (l : Fin 2048) : EReal := ∑ k : Fin 1024, dy (ix2 r k) * w (ix2 l k)

theorem pay9_apply (r : Fin 256) (l : Fin 2048) : k0_pay9 (F := Ideal) z (ix2 r l) = z (ix2 r l) * Cert.Util.sig (z (ix2 r l)) := by
  pointwise [k0_pay9, k0_pay7, k0_pay6, k0_pay5]
  simp only [zero_sub]
  rfl
theorem pay10_apply (r : Fin 256) (l : Fin 2048) : k0_pay10 (F := Ideal) y z (ix2 r l) = gRow y z r l := by
  pointwise [k0_pay10]
  exact congrArg (fun t : EReal => y (ix2 r l) * t) (pay9_apply z r l)

/-! ## The four groups: their columns, scales and derivatives -/

theorem pay11_apply (r : Fin 256) (j : Fin 512) : k0_pay11 (F := Ideal) y z (ix2 r j) = gRow y z r (col 0 j) := by
  refine Eq.trans ?_ (pay10_apply y z r _)
  pointwise [k0_pay11]
  congr 2; apply Fin.ext; simp
theorem pay16_apply (r : Fin 256) (j : Fin 512) : k0_pay16 (F := Ideal) y z (ix2 r j) = gRow y z r (col 1 j) := by
  refine Eq.trans ?_ (pay10_apply y z r _)
  pointwise [k0_pay16]
  congr 2
theorem pay21_apply (r : Fin 256) (j : Fin 512) : k0_pay21 (F := Ideal) (k0_pay10 y z) (ix2 r j) = gRow y z r (col 2 j) := by
  refine Eq.trans ?_ (pay10_apply y z r _)
  pointwise [k0_pay21]
  congr 2
theorem pay25_apply (r : Fin 256) (j : Fin 512) : k0_pay25 (F := Ideal) (k0_pay10 y z) (ix2 r j) = gRow y z r (col 3 j) := by
  refine Eq.trans ?_ (pay10_apply y z r _)
  pointwise [k0_pay25]
  congr 2

/-- The small constant. -/
abbrev eps : EReal := Ideal.ofBits .f32 0x358637BD#32
/-- A group's columns of a row. -/
abbrev grp (r : Fin 256) (q : Fin 4) (k : Fin 512) : EReal := gRow y z r (col q k)

theorem pay12_apply (r : Fin 256) : k0_pay12 (F := Ideal) y z (ix2 r 0) = gms (grp y z r 0) := by
  pointwise [k0_pay12]
  simp only [pay11_apply]
  rfl
theorem pay18_apply (r : Fin 256) : k0_pay18 (F := Ideal) (k0_pay17 y z) eps (ix2 r 0) = gms (grp y z r 1) := by
  pointwise [k0_pay18, k0_pay17]
  simp only [pay16_apply]
  rfl
theorem pay22_apply (r : Fin 256) : k0_pay22 (F := Ideal) (k0_pay10 y z) (ix2 r 0) = gms (grp y z r 2) := by
  pointwise [k0_pay22]
  simp only [pay21_apply]
  rfl
theorem pay26_apply (r : Fin 256) : k0_pay26 (F := Ideal) (k0_pay10 y z) (ix2 r 0) = gms (grp y z r 3) := by
  pointwise [k0_pay26]
  simp only [pay25_apply]
  rfl
theorem pay13_apply (r : Fin 256) : k0_pay13 (F := Ideal) y z (ix2 r 0) = grs (grp y z r 0) := by
  pointwise [k0_pay13]
  rw [pay12_apply]; rfl
theorem pay19_apply (r : Fin 256) : k0_pay19 (F := Ideal) (k0_pay17 y z) eps (ix2 r 0) = grs (grp y z r 1) := by
  pointwise [k0_pay19]
  rw [pay18_apply]; rfl
theorem pay23_apply (r : Fin 256) : k0_pay23 (F := Ideal) (k0_pay10 y z) (ix2 r 0) = grs (grp y z r 2) := by
  pointwise [k0_pay23]
  rw [pay22_apply]; rfl
theorem pay27_apply (r : Fin 256) : k0_pay27 (F := Ideal) (k0_pay10 y z) (ix2 r 0) = grs (grp y z r 3) := by
  pointwise [k0_pay27]
  rw [pay26_apply]; rfl
theorem pay14_apply (r : Fin 256) : k0_pay14 (F := Ideal) y z (ix2 r 0) = gdr (grp y z r 0) := by
  pointwise [k0_pay14]
  rw [pay12_apply, pay13_apply]; rfl
theorem pay20_apply (r : Fin 256) : k0_pay20 (F := Ideal) (k0_pay17 y z) eps (ix2 r 0) = gdr (grp y z r 1) := by
  pointwise [k0_pay20]
  rw [pay18_apply, pay19_apply]; rfl
theorem pay24_apply (r : Fin 256) : k0_pay24 (F := Ideal) (k0_pay10 y z) (ix2 r 0) = gdr (grp y z r 2) := by
  pointwise [k0_pay24]
  rw [pay22_apply, pay23_apply]; rfl
theorem pay28_apply (r : Fin 256) : k0_pay28 (F := Ideal) (k0_pay10 y z) (ix2 r 0) = gdr (grp y z r 3) := by
  pointwise [k0_pay28]
  rw [pay26_apply, pay27_apply]; rfl

/-! ## The normed array and its cotangent -/

/-- The normed array before its scale, as the body joins it. -/
abbrev normed : FVec Ideal S256x2048 .f32 := k0_pay29 (F := Ideal) (k0_pay10 y z) (k0_pay15 y z) (k0_pay16 y z) (k0_pay17 y z) eps
theorem normed_apply (r : Fin 256) (q : Fin 4) (j : Fin 512) : normed y z (ix2 r (col q j)) = nrow (gRow y z r) q j := by
  have hj := j.isLt
  unfold normed nrow
  match q with
  | 0 =>
    pointwise [k0_pay29, k0_pay15]
    rw [pay11_apply, pay13_apply]
  | 1 =>
    pointwise [k0_pay29, k0_pay15]
    rw [pay16_apply, pay19_apply]
  | 2 =>
    pointwise [k0_pay29, k0_pay15]
    rw [dif_neg (by omega), dif_neg (by omega), dif_pos (by omega), pay23_apply]
    simp only [show 1024 + j.val - 512 - 512 = j.val by omega, Fin.eta, pay21_apply]
  | 3 =>
    pointwise [k0_pay29, k0_pay15]
    rw [dif_neg (by omega), dif_neg (by omega), dif_neg (by omega), pay27_apply]
    simp only [show 1536 + j.val - 512 - 512 - 512 = j.val by omega, Fin.eta, pay25_apply]

/-- The cotangent of the normed array. -/
abbrev dyn : FVec Ideal S256x2048 .f32 := k0_pay31 (F := Ideal) dy w
theorem dyn_apply (r : Fin 256) (l : Fin 2048) : dyn dy w (ix2 r l) = dynRow dy w r l := by
  pointwise [dyn, k0_pay31]
  rfl
/-- Row `r` of the cotangent of the normed array before its scale. -/
def uRow (gn : FVec Ideal S1x2048 .f32) (d : FVec Ideal S256x2048 .f32) (r : Fin 256) (l : Fin 2048) : EReal := d (ix2 r l) * gn (ix2 0 l)
theorem pay34_apply (d : FVec Ideal S256x2048 .f32) (r : Fin 256) (l : Fin 2048) : k0_pay34 (F := Ideal) gn d (ix2 r l) = uRow gn d r l := by
  pointwise [k0_pay34]
  rfl
theorem pay35_apply (d : FVec Ideal S256x2048 .f32) (r : Fin 256) (j : Fin 512) : k0_pay35 (F := Ideal) gn d (ix2 r j) = uRow gn d r (col 0 j) := by
  refine Eq.trans ?_ (pay34_apply gn d r _)
  pointwise [k0_pay35]
  congr 2; apply Fin.ext; simp
theorem pay36_apply (d : FVec Ideal S256x2048 .f32) (r : Fin 256) (j : Fin 512) : k0_pay36 (F := Ideal) gn d (ix2 r j) = uRow gn d r (col 1 j) := by
  refine Eq.trans ?_ (pay34_apply gn d r _)
  pointwise [k0_pay36]
  congr 2

/-! ## The gated array's gradient -/

section
variable (d : FVec Ideal S256x2048 .f32) (v47 v61 : FVec Ideal S256x512 .f32) (v55 v58 v69 v72 : FVec Ideal S256x1 .f32)
/-- The last two groups' gradients, the first two groups' columns zero. -/
theorem pay37_apply (r : Fin 256) (q : Fin 4) (j : Fin 512) : k0_pay37 (F := Ideal) gn v47 v55 v58 v61 v69 v72 d (ix2 r (col q j)) =
    (match q with
    | 0 => 0
    | 1 => 0
    | 2 => gdx (v55 (ix2 r 0)) (v58 (ix2 r 0)) (fun k => v47 (ix2 r k)) (fun k => uRow gn d r (col 2 k)) j
    | 3 => gdx (v69 (ix2 r 0)) (v72 (ix2 r 0)) (fun k => v61 (ix2 r k)) (fun k => uRow gn d r (col 3 k)) j : EReal) := by
  have hj := j.isLt
  match q with
  | 0 =>
    pointwise [k0_pay37]
    rw [dif_pos (by omega), dif_pos (by omega), dif_pos (by omega), add_zero]
  | 1 =>
    pointwise [k0_pay37]
    rw [dif_pos (by omega), dif_pos (by omega), dif_pos (by omega), add_zero]
  | 2 =>
    pointwise [k0_pay37]
    rw [dif_pos (by omega), dif_pos (by omega), zero_add]
    simp only [Finset.univ_unique, Finset.sum_singleton, pay34_apply]
    rfl
  | 3 =>
    pointwise [k0_pay37]
    simp only [add_zero, Finset.univ_unique, Finset.sum_singleton, pay34_apply]
    rfl
end

section
variable (v19 v33 v88 v89 : FVec Ideal S256x512 .f32) (v27 v30 v41 v44 : FVec Ideal S256x1 .f32) (v128 : FVec Ideal S256x2048 .f32) (d : FVec Ideal S256x2048 .f32)
/-- The first two groups' gradients added to the last two's. -/
theorem pay40_apply (r : Fin 256) (q : Fin 4) (j : Fin 512) :
    k0_pay40 (F := Ideal) v19 v27 v30 v33 (k0_pay35 gn d) v128 (k0_pay38 gn v41 d) (k0_pay39 gn v33 v44 d) (ix2 r (col q j)) =
    v128 (ix2 r (col q j)) + (match q with
    | 0 => gdx (v27 (ix2 r 0)) (v30 (ix2 r 0)) (fun k => v19 (ix2 r k)) (fun k => uRow gn d r (col 0 k)) j
    | 1 => gdx (v41 (ix2 r 0)) (v44 (ix2 r 0)) (fun k => v33 (ix2 r k)) (fun k => uRow gn d r (col 1 k)) j
    | 2 => 0
    | 3 => 0 : EReal) := by
  have hj := j.isLt
  match q with
  | 0 =>
    pointwise [k0_pay40, k0_pay38, k0_pay39]
    rw [dif_pos (by omega), add_zero]
    simp only [Finset.univ_unique, Finset.sum_singleton, pay35_apply]
    rfl
  | 1 =>
    pointwise [k0_pay40, k0_pay38, k0_pay39]
    rw [dif_pos (by omega)]
    simp only [Finset.univ_unique, Finset.sum_singleton, pay36_apply]
    rfl
  | 2 =>
    pointwise [k0_pay40, k0_pay38, k0_pay39]
    rw [dif_neg (by omega), add_zero]
  | 3 =>
    pointwise [k0_pay40, k0_pay38, k0_pay39]
    rw [dif_neg (by omega), add_zero, dif_neg (by omega), add_zero]
end

section
variable (d : FVec Ideal S256x2048 .f32)
/-- The gated array's gradient, as the body builds it. -/
abbrev dGated : FVec Ideal S256x2048 .f32 :=
  k0_pay40 (F := Ideal) (k0_pay11 y z) (k0_pay13 y z) (k0_pay14 y z) (k0_pay16 y z) (k0_pay35 gn d)
    (k0_pay37 gn (k0_pay21 (k0_pay10 y z)) (k0_pay23 (k0_pay10 y z)) (k0_pay24 (k0_pay10 y z)) (k0_pay25 (k0_pay10 y z)) (k0_pay27 (k0_pay10 y z))
      (k0_pay28 (k0_pay10 y z)) d)
    (k0_pay38 gn (k0_pay19 (k0_pay17 y z) eps) d) (k0_pay39 gn (k0_pay16 y z) (k0_pay20 (k0_pay17 y z) eps) d)
theorem dGated_apply (r : Fin 256) (q : Fin 4) (j : Fin 512) : dGated y z gn d (ix2 r (col q j)) = dgate (gRow y z r) (uRow gn d r) q j := by
  refine (pay40_apply gn _ _ _ _ _ _ _ d r q j).trans ?_
  rw [pay37_apply]
  match q with
  | 0 => exact (zero_add _).trans (by simp only [pay13_apply, pay14_apply, pay11_apply]; rfl)
  | 1 => exact (zero_add _).trans (by simp only [pay19_apply, pay20_apply, pay16_apply]; rfl)
  | 2 => exact (add_zero _).trans (by simp only [pay23_apply, pay24_apply, pay21_apply]; rfl)
  | 3 => exact (add_zero _).trans (by simp only [pay27_apply, pay28_apply, pay25_apply]; rfl)

/-- The gate's own gradient, for any gradient `g` of the gated array. -/
theorem dz_apply (v19 v33 v88 v133 : FVec Ideal S256x512 .f32) (v27 v30 v134 : FVec Ideal S256x1 .f32) (v128 : FVec Ideal S256x2048 .f32) (r : Fin 256) (l : Fin 2048) :
    k0_pay1 (F := Ideal) (k0_pay42 y z (k0_pay5 z) (k0_pay7 z) (k0_pay8 z) v19 v27 v30 v33 v88 v128 v133 v134) (ix2 r l) =
      dsilu (y (ix2 r l) * k0_pay40 (F := Ideal) v19 v27 v30 v33 v88 v128 v133 v134 (ix2 r l)) (z (ix2 r l)) := by
  unfold dsilu
  rw [← logistic_grad]
  pointwise [k0_pay1, k0_pay42, k0_pay5, k0_pay7, k0_pay8, k0_pay6]
  simp only [zero_sub]
  rfl

/-- A point's part of the scale's gradient. -/
theorem dgn_apply (q : Fin 4) (j : Fin 512) :
    k0_pay33 (F := Ideal) (k0_pay32 (k0_pay10 y z) (k0_pay15 y z) (k0_pay16 y z) (k0_pay17 y z) eps dy w) (ix2 0 (col q j)) =
      ∑ r : Fin 256, nrow (gRow y z r) q j * dynRow dy w r (col q j) := by
  pointwise [k0_pay33, k0_pay32]
  exact Finset.sum_congr rfl fun r _ => congrArg₂ (fun (a b : EReal) => a * b) (normed_apply y z r q j) (dyn_apply dy w r _)

/-- The normed array. -/
theorem yn_apply (r : Fin 256) (q : Fin 4) (j : Fin 512) :
    k0_pay43 (F := Ideal) (k0_pay30 gn (k0_pay10 y z) (k0_pay15 y z) (k0_pay16 y z) (k0_pay17 y z) eps) (ix2 r (col q j)) =
      nrow (gRow y z r) q j * gn (ix2 0 (col q j)) := by
  pointwise [k0_pay43, k0_pay30]
  exact congrArg (fun a : EReal => a * gn (ix2 0 (col q j))) (normed_apply y z r q j)
end
end Cert.GateIdeal.Hand
end
-- ==== Proof.GateValue.lean ====
module

public import proofs.«01_k».proof.Proof.GateBody

/-! The output gate's backward kernel: the arrays its run leaves. -/

@[expose] public section
set_option maxRecDepth 16384
noncomputable section
namespace Cert.GateIdeal.Hand
open Cert.GateIdeal Cert.GateIdeal.Gen Idealize.ShloMosaic Idealize.ShloMosaic.TcCoe Idealize.SL.Sem Cert.Util Cert.Gate
open Idealize.ShloMosaic.Pipeline (Dat)

theorem hz : (![0, 0] : Fin 2 → Nat) = fun _ => 0 := funext fun a => by fin_cases a <;> rfl

/-! ## What a point leaves -/

section
variable (c : Dev nD) (i : grid0.Coords) (arg1 : Memref sig .tc .vmem S256x1024 .f32) (harg1 : arg1.IsWhole) (arg2 : Memref sig .tc .vmem S256x2048 .f32) (harg2 : arg2.IsWhole)
  (arg3 : Memref sig .tc .vmem S256x2048 .f32) (harg3 : arg3.IsWhole) (arg4 : Memref sig .tc .vmem S1x2048 .f32) (harg4 : arg4.IsWhole)
  (arg5 : Memref sig .tc .vmem S2048x1024 .bf16) (harg5 : arg5.IsWhole) (arg7 : Memref sig .tc .vmem S256x2048 .bf16) (harg7 : arg7.IsWhole)
  (arg8 : Memref sig .tc .vmem S256x2048 .f32) (harg8 : arg8.IsWhole) (arg9 : Memref sig .tc .vmem S256x2048 .bf16) (harg9 : arg9.IsWhole)
  (arg10 : Memref sig .tc .vmem S1x2048 .f32) (harg10 : arg10.IsWhole)
  (x0 : Vec Ideal S256x1024 .f32) (x1 x2 : Vec Ideal S256x2048 .f32) (x3 : Vec Ideal S1x2048 .f32) (x4 : Vec Ideal S2048x1024 .bf16)

/-- The gate's gradient over a point's rows. -/
abbrev dzBlk : FVec Ideal S256x2048 .bf16 :=
  k0_pay1 (F := Ideal) (k0_pay42 x1 x2 (k0_pay5 x2) (k0_pay7 x2) (k0_pay8 x2) (k0_pay11 x1 x2) (k0_pay13 x1 x2) (k0_pay14 x1 x2) (k0_pay16 x1 x2)
    (k0_pay35 (k0_pay4 x3) (k0_pay31 x0 x4))
    (k0_pay37 (k0_pay4 x3) (k0_pay21 (k0_pay10 x1 x2)) (k0_pay23 (k0_pay10 x1 x2)) (k0_pay24 (k0_pay10 x1 x2)) (k0_pay25 (k0_pay10 x1 x2))
      (k0_pay27 (k0_pay10 x1 x2)) (k0_pay28 (k0_pay10 x1 x2)) (k0_pay31 x0 x4))
    (k0_pay38 (k0_pay4 x3) (k0_pay19 (k0_pay17 x1 x2) eps) (k0_pay31 x0 x4))
    (k0_pay39 (k0_pay4 x3) (k0_pay16 x1 x2) (k0_pay20 (k0_pay17 x1 x2) eps) (k0_pay31 x0 x4)))
/-- The first factor's gradient over a point's rows. -/
abbrev dysBlk : FVec Ideal S256x2048 .f32 := mulf (dGated x1 x2 (k0_pay4 x3) (k0_pay31 x0 x4)) (k0_pay9 x2)
/-- The normed array over a point's rows. -/
abbrev ynBlk : FVec Ideal S256x2048 .bf16 :=
  k0_pay43 (F := Ideal) (k0_pay30 (k0_pay4 x3) (k0_pay10 x1 x2) (k0_pay15 x1 x2) (k0_pay16 x1 x2) (k0_pay17 x1 x2) eps)
/-- A point's part of the scale's gradient. -/
abbrev dgnBlk : FVec Ideal S1x2048 .f32 :=
  k0_pay33 (F := Ideal) (k0_pay32 (k0_pay10 x1 x2) (k0_pay15 x1 x2) (k0_pay16 x1 x2) (k0_pay17 x1 x2) eps x0 x4)

section
variable (hc0 : cond0_0 i)
theorem outA5 : out0_A_5 c i arg1 harg1 arg2 harg2 arg3 harg3 arg4 harg4 arg5 harg5 arg7 harg7 arg8 harg8 arg9 harg9 arg10 harg10 hc0 x0 x1 x2 x3 x4 = dzBlk x0 x1 x2 x3 x4 := by
  unfold out0_A_5
  rw [View.read_writes_eq_canon _ _ _ (fun y => cover0_A_5 (y := y) ..)]
  unfold kernelRun0_A
  dsimp only
  sl_unfold_words
  simp only [View.canon_cons_unit_zero (S := S256x2048) hz, View.canon_unit_zero (S := S256x2048) hz]
  simp only [View.readAt_eq_ld, Memref.IsWhole.read_unread, View.readCov_cons_toLoadRect,
    View.ld_unit_zero (S := S256x2048) hz, View.ld_unit_zero (S := S1x2048) hz, View.ld_unit_zero (S := S256x1024) hz, View.ld_unit_zero (S := S2048x1024) hz]
  rfl
theorem outA6 : out0_A_6 c i arg1 harg1 arg2 harg2 arg3 harg3 arg4 harg4 arg5 harg5 arg7 harg7 arg8 harg8 arg9 harg9 arg10 harg10 hc0 x0 x1 x2 x3 x4 = dysBlk x0 x1 x2 x3 x4 := by
  unfold out0_A_6
  rw [View.read_writes_eq_canon _ _ _ (fun y => cover0_A_6 (y := y) ..)]
  unfold kernelRun0_A
  dsimp only
  sl_unfold_words
  simp only [View.canon_cons_unit_zero (S := S256x2048) hz, View.canon_unit_zero (S := S256x2048) hz]
  simp only [View.readAt_eq_ld, Memref.IsWhole.read_unread, View.readCov_cons_toLoadRect,
    View.ld_unit_zero (S := S256x2048) hz, View.ld_unit_zero (S := S1x2048) hz, View.ld_unit_zero (S := S256x1024) hz, View.ld_unit_zero (S := S2048x1024) hz]
  rfl
theorem outA7 : out0_A_7 c i arg1 harg1 arg2 harg2 arg3 harg3 arg4 harg4 arg5 harg5 arg7 harg7 arg8 harg8 arg9 harg9 arg10 harg10 hc0 x0 x1 x2 x3 x4 = ynBlk x1 x2 x3 := by
  unfold out0_A_7
  rw [View.read_writes_eq_canon _ _ _ (fun y => cover0_A_7 (y := y) ..)]
  unfold kernelRun0_A
  dsimp only
  sl_unfold_words
  simp only [View.canon_cons_unit_zero (S := S256x2048) hz, View.canon_unit_zero (S := S256x2048) hz]
  simp only [View.readAt_eq_ld, Memref.IsWhole.read_unread, View.readCov_cons_toLoadRect,
    View.ld_unit_zero (S := S256x2048) hz, View.ld_unit_zero (S := S1x2048) hz, View.ld_unit_zero (S := S256x1024) hz, View.ld_unit_zero (S := S2048x1024) hz]
  rfl
theorem outA8 : out0_A_8 c i arg1 harg1 arg2 harg2 arg3 harg3 arg4 harg4 arg5 harg5 arg7 harg7 arg8 harg8 arg9 harg9 arg10 harg10 hc0 x0 x1 x2 x3 x4 = k0_pay2 (F := Ideal) (dgnBlk x0 x1 x2 x4) (k0_pay3 (F := Ideal)) := by
  unfold out0_A_8
  rw [View.read_writes_eq_canon _ _ _ (fun y => cover0_A_8 (y := y) ..)]
  unfold kernelRun0_A
  dsimp only
  sl_unfold_words
  simp only [View.canon_cons_unit_zero (S := S1x2048) hz, View.canon_unit_zero (S := S1x2048) hz]
  simp only [View.readAt_eq_ld, Memref.IsWhole.read_unread, View.readCov_cons_toLoadRect,
    View.ld_unit_zero (S := S256x2048) hz, View.ld_unit_zero (S := S1x2048) hz, View.ld_unit_zero (S := S256x1024) hz, View.ld_unit_zero (S := S2048x1024) hz]
  rfl
end
section
variable (hc0 : ¬cond0_0 i) (xo8 : Vec Ideal S1x2048 .f32)
theorem outB5 : out0_B_5 c i arg1 harg1 arg2 harg2 arg3 harg3 arg4 harg4 arg5 harg5 arg7 harg7 arg8 harg8 arg9 harg9 arg10 harg10 hc0 x0 x1 x2 x3 x4 xo8 = dzBlk x0 x1 x2 x3 x4 := by
  unfold out0_B_5
  rw [View.read_writes_eq_canon _ _ _ (fun y => cover0_B_5 (y := y) ..)]
  unfold kernelRun0_B
  dsimp only
  sl_unfold_words
  simp only [View.canon_cons_unit_zero (S := S256x2048) hz, View.canon_unit_zero (S := S256x2048) hz]
  simp only [View.readAt_eq_ld, Memref.IsWhole.read_unread, View.readCov_cons_toLoadRect,
    View.ld_unit_zero (S := S256x2048) hz, View.ld_unit_zero (S := S1x2048) hz, View.ld_unit_zero (S := S256x1024) hz, View.ld_unit_zero (S := S2048x1024) hz]
  rfl
theorem outB6 : out0_B_6 c i arg1 harg1 arg2 harg2 arg3 harg3 arg4 harg4 arg5 harg5 arg7 harg7 arg8 harg8 arg9 harg9 arg10 harg10 hc0 x0 x1 x2 x3 x4 xo8 = dysBlk x0 x1 x2 x3 x4 := by
  unfold out0_B_6
  rw [View.read_writes_eq_canon _ _ _ (fun y => cover0_B_6 (y := y) ..)]
  unfold kernelRun0_B
  dsimp only
  sl_unfold_words
  simp only [View.canon_cons_unit_zero (S := S256x2048) hz, View.canon_unit_zero (S := S256x2048) hz]
  simp only [View.readAt_eq_ld, Memref.IsWhole.read_unread, View.readCov_cons_toLoadRect,
    View.ld_unit_zero (S := S256x2048) hz, View.ld_unit_zero (S := S1x2048) hz, View.ld_unit_zero (S := S256x1024) hz, View.ld_unit_zero (S := S2048x1024) hz]
  rfl
theorem outB7 : out0_B_7 c i arg1 harg1 arg2 harg2 arg3 harg3 arg4 harg4 arg5 harg5 arg7 harg7 arg8 harg8 arg9 harg9 arg10 harg10 hc0 x0 x1 x2 x3 x4 xo8 = ynBlk x1 x2 x3 := by
  unfold out0_B_7
  rw [View.read_writes_eq_canon _ _ _ (fun y => cover0_B_7 (y := y) ..)]
  unfold kernelRun0_B
  dsimp only
  sl_unfold_words
  simp only [View.canon_cons_unit_zero (S := S256x2048) hz, View.canon_unit_zero (S := S256x2048) hz]
  simp only [View.readAt_eq_ld, Memref.IsWhole.read_unread, View.readCov_cons_toLoadRect,
    View.ld_unit_zero (S := S256x2048) hz, View.ld_unit_zero (S := S1x2048) hz, View.ld_unit_zero (S := S256x1024) hz, View.ld_unit_zero (S := S2048x1024) hz]
  rfl
theorem outB8 : out0_B_8 c i arg1 harg1 arg2 harg2 arg3 harg3 arg4 harg4 arg5 harg5 arg7 harg7 arg8 harg8 arg9 harg9 arg10 harg10 hc0 x0 x1 x2 x3 x4 xo8 = k0_pay2 (F := Ideal) (dgnBlk x0 x1 x2 x4) xo8 := by
  unfold out0_B_8
  rw [View.read_writes_eq_canon _ _ _ (fun y => cover0_B_8 (y := y) ..)]
  unfold kernelRun0_B
  dsimp only
  sl_unfold_words
  simp only [View.canon_cons_unit_zero (S := S1x2048) hz, View.canon_unit_zero (S := S1x2048) hz]
  simp only [View.readAt_eq_ld, Memref.IsWhole.read_unread, View.readCov_cons_toLoadRect,
    View.ld_unit_zero (S := S256x2048) hz, View.ld_unit_zero (S := S1x2048) hz, View.ld_unit_zero (S := S256x1024) hz, View.ld_unit_zero (S := S2048x1024) hz]
  rfl
end
end

/-! ## What each point reads -/

theorem V_v0 (μ : (ℓ : Loc nD τ sig) → Buf (Elt Ideal) ℓ) (c : Dev nD) : V μ c main_v0 =
    shapeCast S1x2048 (μ ((c : Thread nD τ).loc main_arg3)) shapeCasts_S2048_S1x2048 := by
  rfl
theorem V_v1 (μ : (ℓ : Loc nD τ sig) → Buf (Elt Ideal) ℓ) (c : Dev nD) : V μ c main_v1 = μ ((c : Thread nD τ).loc main_arg4) := by
  rfl

theorem lt32 (t : Fin cfg0.N) : t.val < 32 := lt_of_lt_of_eq t.isLt N_0
/-- Row `r` of the `s`-th block. -/
abbrev tok (s : ℕ) (r : Fin 256) : Fin 8192 := ⟨(256 * s + r.val) % 8192, Nat.mod_lt _ (by norm_num)⟩
theorem idx0 (t : Fin cfg0.N) : win0_0.index t 0 = t.val ∧ win0_0.index t 1 = 0 :=
  (by decide +kernel : ∀ t : Fin grid0.N, win0_0.index t 0 = t.val ∧ win0_0.index t 1 = 0) t
theorem idx1 (t : Fin cfg0.N) : win0_1.index t 0 = t.val ∧ win0_1.index t 1 = 0 :=
  (by decide +kernel : ∀ t : Fin grid0.N, win0_1.index t 0 = t.val ∧ win0_1.index t 1 = 0) t
theorem idx2 (t : Fin cfg0.N) : win0_2.index t 0 = t.val ∧ win0_2.index t 1 = 0 :=
  (by decide +kernel : ∀ t : Fin grid0.N, win0_2.index t 0 = t.val ∧ win0_2.index t 1 = 0) t
theorem idx3 (t : Fin cfg0.N) : win0_3.index t 0 = 0 ∧ win0_3.index t 1 = 0 :=
  (by decide +kernel : ∀ t : Fin grid0.N, win0_3.index t 0 = 0 ∧ win0_3.index t 1 = 0) t
theorem idx4 (t : Fin cfg0.N) : win0_4.index t 0 = 0 ∧ win0_4.index t 1 = 0 :=
  (by decide +kernel : ∀ t : Fin grid0.N, win0_4.index t 0 = 0 ∧ win0_4.index t 1 = 0) t
theorem idx5 (t : Fin cfg0.N) : win0_5.index t 0 = t.val ∧ win0_5.index t 1 = 0 :=
  (by decide +kernel : ∀ t : Fin grid0.N, win0_5.index t 0 = t.val ∧ win0_5.index t 1 = 0) t
theorem idx6 (t : Fin cfg0.N) : win0_6.index t 0 = t.val ∧ win0_6.index t 1 = 0 :=
  (by decide +kernel : ∀ t : Fin grid0.N, win0_6.index t 0 = t.val ∧ win0_6.index t 1 = 0) t
theorem idx7 (t : Fin cfg0.N) : win0_7.index t 0 = t.val ∧ win0_7.index t 1 = 0 :=
  (by decide +kernel : ∀ t : Fin grid0.N, win0_7.index t 0 = t.val ∧ win0_7.index t 1 = 0) t
theorem idx8 (t : Fin cfg0.N) : win0_8.index t 0 = 0 ∧ win0_8.index t 1 = 0 :=
  (by decide +kernel : ∀ t : Fin grid0.N, win0_8.index t 0 = 0 ∧ win0_8.index t 1 = 0) t

section
variable (μ : (ℓ : Loc nD τ sig) → Buf (Elt Ideal) ℓ) (c : Dev nD) (t : Fin cfg0.N)
theorem blk0_apply (r : Fin 256) (l : Fin 1024) :
    (iblk μ c 0 t : Vec Ideal S256x1024 .f32) (ix2 r l) = μ ((c : Thread nD τ).loc main_arg0) (ix2 (tok t.val r) l) := by
  unfold iblk
  rw [View.read_apply]
  show V μ c main_arg0 _ = _
  rw [V_main_arg0]
  congr 1
  obtain ⟨h0, h1⟩ := idx0 t
  have ht := lt32 t
  funext a
  apply Fin.ext
  match a with
  | ⟨0, _⟩ => show win0_0.index t 0 * 256 + 1 * r.val = (256 * t.val + r.val) % 8192; rw [h0]; omega
  | ⟨1, _⟩ => show win0_0.index t 1 * 1024 + 1 * l.val = l.val; rw [h1]; omega
theorem blk1_apply (r : Fin 256) (l : Fin 2048) :
    (iblk μ c 1 t : Vec Ideal S256x2048 .f32) (ix2 r l) = μ ((c : Thread nD τ).loc main_arg1) (ix2 (tok t.val r) l) := by
  unfold iblk
  rw [View.read_apply]
  show V μ c main_arg1 _ = _
  rw [V_main_arg1]
  congr 1
  obtain ⟨h0, h1⟩ := idx1 t
  have ht := lt32 t
  funext a
  apply Fin.ext
  match a with
  | ⟨0, _⟩ => show win0_1.index t 0 * 256 + 1 * r.val = (256 * t.val + r.val) % 8192; rw [h0]; omega
  | ⟨1, _⟩ => show win0_1.index t 1 * 2048 + 1 * l.val = l.val; rw [h1]; omega
theorem blk2_apply (r : Fin 256) (l : Fin 2048) :
    (X0_2 μ c t : Vec Ideal S256x2048 .f32) (ix2 r l) = μ ((c : Thread nD τ).loc main_arg2) (ix2 (tok t.val r) ⟨l.val, by omega⟩) := by
  unfold Gen.X0_2 Pipeline.Window.fill
  rw [dif_pos (moved0_2 t (ix2 r l))]
  unfold iblk
  rw [View.read_apply]
  show V μ c main_arg2 _ = _
  rw [V_main_arg2]
  congr 1
  obtain ⟨h0, h1⟩ := idx2 t
  have ht := lt32 t
  funext a
  apply Fin.ext
  match a with
  | ⟨0, _⟩ => show win0_2.index t 0 * 256 + 1 * r.val = (256 * t.val + r.val) % 8192; rw [h0]; omega
  | ⟨1, _⟩ => show win0_2.index t 1 * 2048 + 1 * l.val = l.val; rw [h1]; omega
theorem blk4_apply (r : Fin 2048) (l : Fin 1024) :
    (iblk μ c 4 t : Vec Ideal S2048x1024 .bf16) (ix2 r l) = μ ((c : Thread nD τ).loc main_arg4) (ix2 r l) := by
  unfold iblk
  rw [View.read_apply]
  show V μ c main_v1 _ = _
  rw [V_v1]
  congr 1
  obtain ⟨h0, h1⟩ := idx4 t
  have ht := lt32 t
  funext a
  apply Fin.ext
  match a with
  | ⟨0, _⟩ => show win0_4.index t 0 * 2048 + 1 * r.val = r.val; rw [h0]; omega
  | ⟨1, _⟩ => show win0_4.index t 1 * 1024 + 1 * l.val = l.val; rw [h1]; omega
theorem blk3_apply (l : Fin 2048) : (iblk μ c 3 t : Vec Ideal S1x2048 .f32) (ix2 0 l) = μ ((c : Thread nD τ).loc main_arg3) (ix1 l) := by
  unfold iblk
  rw [View.read_apply]
  show V μ c main_v0 _ = _
  rw [V_v0]
  have e : ((cfg0.win 3).blk t).view.emb (ix2 0 l) = (ix2 0 l : S1x2048.Idx) := by
    obtain ⟨h0, h1⟩ := idx3 t
    funext a
    apply Fin.ext
    match a with
    | ⟨0, _⟩ => show win0_3.index t 0 * 1 + 1 * 0 = 0; rw [h0]
    | ⟨1, _⟩ => show win0_3.index t 1 * 2048 + 1 * l.val = l.val; rw [h1]; omega
  refine (congrArg _ e).trans ?_
  pointwise []

/-! ## The results, over the whole arrays -/

/-- Row `T` of the first factor. -/
abbrev yM (T : Fin 8192) (l : Fin 2048) : EReal := μ ((c : Thread nD τ).loc main_arg1) (ix2 T l)
/-- Row `T` of the gate. -/
abbrev zM (T : Fin 8192) (l : Fin 2048) : EReal := μ ((c : Thread nD τ).loc main_arg2) (ix2 T ⟨l.val, by omega⟩)
/-- The norm's scale. -/
abbrev gnM (l : Fin 2048) : EReal := μ ((c : Thread nD τ).loc main_arg3) (ix1 l)
/-- Row `T` of the gated array. -/
abbrev gM (T : Fin 8192) : Fin 2048 → EReal := gated (yM μ c T) (zM μ c T)
/-- The output's cotangent. -/
abbrev dM (T : Fin 8192) (k : Fin 1024) : EReal := μ ((c : Thread nD τ).loc main_arg0) (ix2 T k)
/-- The output's weights. -/
abbrev wM (l : Fin 2048) (k : Fin 1024) : EReal := μ ((c : Thread nD τ).loc main_arg4) (ix2 l k)
/-- The cotangent of the normed array: the output's cotangent times the transposed weights. -/
def dynM (T : Fin 8192) (l : Fin 2048) : EReal :=
  ∑ k : Fin 1024, dM μ c T k * wM μ c l k
/-- The same before the norm's scale. -/
abbrev uM (T : Fin 8192) (l : Fin 2048) : EReal := dynM μ c T l * gnM μ c l
/-- The gated array's gradient. -/
def dgM (T : Fin 8192) (l : Fin 2048) : EReal := dgate (gM μ c T) (uM μ c T) (grpOf l) (plc l)
/-- The gate's gradient. -/
def dzM (T : Fin 8192) (l : Fin 2048) : EReal := dsilu (yM μ c T l * dgM μ c T l) (zM μ c T l)
/-- The first factor's gradient. -/
def dysM (T : Fin 8192) (l : Fin 2048) : EReal := dgM μ c T l * (zM μ c T l * Cert.Util.sig (zM μ c T l))
/-- The normed array. -/
def ynM (T : Fin 8192) (l : Fin 2048) : EReal := nrow (gM μ c T) (grpOf l) (plc l) * gnM μ c l
/-- One row's part of the scale's gradient. -/
def gPart (l : Fin 2048) (T : Fin 8192) : EReal := nrow (gM μ c T) (grpOf l) (plc l) * dynM μ c T l
/-- The scale's gradient. -/
def dgnM (l : Fin 2048) : EReal := ∑ T, gPart μ c l T

theorem y_eq (r : Fin 256) : rowOf (iblk μ c 1 t) r = yM μ c (tok t.val r) := funext fun l => blk1_apply μ c t r l
theorem z_eq (r : Fin 256) : rowOf (X0_2 μ c t) r = zM μ c (tok t.val r) := funext fun l => blk2_apply μ c t r l
theorem g_eq (r : Fin 256) : gRow (iblk μ c 1 t) (X0_2 μ c t) r = gM μ c (tok t.val r) := by
  unfold gRow gM
  rw [y_eq, z_eq]
theorem dyn_eq (r : Fin 256) (l : Fin 2048) : dynRow (iblk μ c 0 t) (iblk μ c 4 t) r l = dynM μ c (tok t.val r) l := by
  unfold dynRow dynM
  refine Finset.sum_congr rfl fun k _ => ?_
  rw [blk0_apply, blk4_apply]
theorem gn_eq (l : Fin 2048) : k0_pay4 (F := Ideal) (iblk μ c 3 t) (ix2 0 l) = gnM μ c l := by
  refine Eq.trans ?_ (blk3_apply μ c t l)
  pointwise [k0_pay4]
theorem u_eq (r : Fin 256) : uRow (k0_pay4 (F := Ideal) (iblk μ c 3 t)) (k0_pay31 (iblk μ c 0 t) (iblk μ c 4 t)) r = uM μ c (tok t.val r) :=
  funext fun l => congrArg₂ (fun (a b : EReal) => a * b) ((dyn_apply _ _ r l).trans (dyn_eq μ c t r l)) (gn_eq μ c t l)
theorem dGated_eq (r : Fin 256) (l : Fin 2048) :
    dGated (iblk μ c 1 t) (X0_2 μ c t) (k0_pay4 (iblk μ c 3 t)) (k0_pay31 (iblk μ c 0 t) (iblk μ c 4 t)) (ix2 r l) = dgM μ c (tok t.val r) l := by
  obtain ⟨q, j, rfl⟩ := exists_col l
  unfold dgM
  rw [grpOf_col, plc_col, ← g_eq, ← u_eq μ c t]
  exact dGated_apply _ _ _ _ r q j

/-- What a point leaves for the gate's gradient. -/
theorem out5_at (r : Fin 256) (l : Fin 2048) : (outsAt0 μ c t.val t.isLt).1 (ix2 r l) = dzM μ c (tok t.val r) l := by
  have e : dzBlk (iblk μ c 0 t) (iblk μ c 1 t) (X0_2 μ c t) (iblk μ c 3 t) (iblk μ c 4 t) (ix2 r l) = dzM μ c (tok t.val r) l := by
    refine (dz_apply _ _ _ _ _ _ _ _ _ _ r l).trans ?_
    exact congrArg₂ dsilu (congrArg₂ (fun (a b : EReal) => a * b) (blk1_apply μ c t r l) (dGated_eq μ c t r l)) (blk2_apply μ c t r l)
  by_cases h : t.val % 32 = 0
  · rw [outsAt0_A μ c t h]; dsimp only; rw [outA5]; exact e
  · rw [outsAt0_B μ c t h]; dsimp only; rw [outB5]; exact e
/-- What a point leaves for the first factor's gradient. -/
theorem out6_at (r : Fin 256) (l : Fin 2048) : (outsAt0 μ c t.val t.isLt).2.1 (ix2 r l) = dysM μ c (tok t.val r) l := by
  have e : dysBlk (iblk μ c 0 t) (iblk μ c 1 t) (X0_2 μ c t) (iblk μ c 3 t) (iblk μ c 4 t) (ix2 r l) = dysM μ c (tok t.val r) l :=
    congrArg₂ (fun (a b : EReal) => a * b) (dGated_eq μ c t r l)
      ((pay9_apply _ r l).trans (congrArg (fun a : EReal => a * Cert.Util.sig a) (blk2_apply μ c t r l)))
  by_cases h : t.val % 32 = 0
  · rw [outsAt0_A μ c t h]; dsimp only; rw [outA6]; exact e
  · rw [outsAt0_B μ c t h]; dsimp only; rw [outB6]; exact e
/-- What a point leaves for the normed array. -/
theorem out7_at (r : Fin 256) (l : Fin 2048) : (outsAt0 μ c t.val t.isLt).2.2.1 (ix2 r l) = ynM μ c (tok t.val r) l := by
  have e : ynBlk (iblk μ c 1 t) (X0_2 μ c t) (iblk μ c 3 t) (ix2 r l) = ynM μ c (tok t.val r) l := by
    obtain ⟨q, j, rfl⟩ := exists_col l
    unfold ynM
    rw [grpOf_col, plc_col, ← g_eq, ← gn_eq μ c t]
    exact yn_apply _ _ _ r q j
  by_cases h : t.val % 32 = 0
  · rw [outsAt0_A μ c t h]; dsimp only; rw [outA7]; exact e
  · rw [outsAt0_B μ c t h]; dsimp only; rw [outB7]; exact e
/-- A point's part of the scale's gradient. -/
theorem part_eq (l : Fin 2048) : dgnBlk (iblk μ c 0 t) (iblk μ c 1 t) (X0_2 μ c t) (iblk μ c 4 t) (ix2 0 l) = ∑ r : Fin 256, gPart μ c l (tok t.val r) := by
  obtain ⟨q, j, rfl⟩ := exists_col l
  refine (dgn_apply _ _ _ _ q j).trans (Finset.sum_congr rfl fun r _ => ?_)
  unfold gPart
  rw [g_eq, dyn_eq, grpOf_col, plc_col]
theorem pay2_apply (a b : FVec Ideal S1x2048 .f32) (l : Fin 2048) : k0_pay2 (F := Ideal) a b (ix2 0 l) = (b (ix2 0 l) + a (ix2 0 l) : EReal) := by
  pointwise [k0_pay2]
end

section
variable (μ : (ℓ : Loc nD τ sig) → Buf (Elt Ideal) ℓ) (c : Dev nD)

/-- After a point the scale's block holds the sum over the rows so far. -/
theorem out8_at : ∀ (n : ℕ) (h : n < cfg0.N) (l : Fin 2048), (outsAt0 μ c n h).2.2.2 (ix2 0 l) =
    ∑ s ∈ Finset.range (n + 1), ∑ r : Fin 256, gPart μ c l (tok s r) := by
  intro n
  induction n with
  | zero =>
    intro h l
    rw [show outsAt0 μ c 0 h = _ from outsAt0_A μ c ⟨0, h⟩ rfl]
    dsimp only
    rw [outA8, pay2_apply, part_eq, Finset.sum_range_one]
    exact (congrArg (fun a : EReal => a + _) (by pointwise [k0_pay3])).trans (zero_add _)
  | succ n ih =>
    intro h l
    have hN : cfg0.N = 32 := N_0
    rw [show outsAt0 μ c (n + 1) h = _ from outsAt0_B μ c ⟨n + 1, h⟩ (by dsimp only; omega)]
    dsimp only
    rw [outB8, pay2_apply, part_eq, Finset.sum_range_succ]
    exact congrArg (fun a : EReal => a + _) (ih (Nat.lt_of_succ_lt h) l)

/-! ## The final arrays -/

/-- The gate's gradient array. -/
abbrev dzArr : Buf (Elt Ideal) ((c : Thread nD τ).loc main_v3_0) := fun i : S8192x2048.Idx => dzM μ c (i 0) (i 1)
/-- The first factor's gradient array. -/
abbrev dysArr : Buf (Elt Ideal) ((c : Thread nD τ).loc main_v3_1) := fun i : S8192x2048.Idx => dysM μ c (i 0) (i 1)
/-- The normed array. -/
abbrev ynArr : Buf (Elt Ideal) ((c : Thread nD τ).loc main_v3_2) := fun i : S8192x2048.Idx => ynM μ c (i 0) (i 1)
/-- The scale's gradient array. -/
abbrev dgnArr : Buf (Elt Ideal) ((c : Thread nD τ).loc main_v3_3) := fun i : S1x2048.Idx => dgnM μ c (i 1)

theorem final_dz : (dats μ 0 c).arrAt 5 cfg0.N = dzArr μ c := by
  refine (dats μ 0 c).arrAt_eq_of_cover 5 (dzArr μ c) (fun t _ => ?_) fun i => ?_
  · rw [Value.flushed5]
    obtain ⟨h0, h1⟩ := idx5 t
    have ht := lt32 t
    funext j
    rw [View.read_apply]
    obtain ⟨r, l, rfl⟩ : ∃ (r : Fin 256) (l : Fin 2048), j = ix2 r l := ⟨j 0, j 1, eq_ix2 j⟩
    have he : ((cfg0.win 5).blk t).view.emb (ix2 r l) = (ix2 (tok t.val r) l : S8192x2048.Idx) := by
      funext a
      apply Fin.ext
      match a with
      | ⟨0, _⟩ => show win0_5.index t 0 * 256 + 1 * r.val = (256 * t.val + r.val) % 8192; rw [h0]; omega
      | ⟨1, _⟩ => show win0_5.index t 1 * 2048 + 1 * l.val = l.val; rw [h1]; omega
    rw [he]
    exact out5_at μ c t r l
  · have l0 : (i 0 : Nat) < 8192 := (i 0).isLt
    have l1 : (i 1 : Nat) < 2048 := (i 1).isLt
    have hN : cfg0.N = 32 := N_0
    let t : Fin cfg0.N := ⟨(i 0 : Nat) / 256, by omega⟩
    refine ⟨t, flush0_5 t, ?_⟩
    show i ∈ ((View.whole main_v3_0).slice (win0_5.rect t)).set
    rw [View.set_slice_whole, Rect.mem_set_unit]
    obtain ⟨h0, h1⟩ := idx5 t
    intro a
    match a with
    | ⟨0, _⟩ => show win0_5.index t 0 * 256 ≤ (i 0 : Nat) ∧ (i 0 : Nat) < win0_5.index t 0 * 256 + 256
                rw [h0]; dsimp only [t]; omega
    | ⟨1, _⟩ => show win0_5.index t 1 * 2048 ≤ (i 1 : Nat) ∧ (i 1 : Nat) < win0_5.index t 1 * 2048 + 2048
                rw [h1]; omega

theorem final_dys : (dats μ 0 c).arrAt 6 cfg0.N = dysArr μ c := by
  refine (dats μ 0 c).arrAt_eq_of_cover 6 (dysArr μ c) (fun t _ => ?_) fun i => ?_
  · rw [Value.flushed6]
    obtain ⟨h0, h1⟩ := idx6 t
    have ht := lt32 t
    funext j
    rw [View.read_apply]
    obtain ⟨r, l, rfl⟩ : ∃ (r : Fin 256) (l : Fin 2048), j = ix2 r l := ⟨j 0, j 1, eq_ix2 j⟩
    have he : ((cfg0.win 6).blk t).view.emb (ix2 r l) = (ix2 (tok t.val r) l : S8192x2048.Idx) := by
      funext a
      apply Fin.ext
      match a with
      | ⟨0, _⟩ => show win0_6.index t 0 * 256 + 1 * r.val = (256 * t.val + r.val) % 8192; rw [h0]; omega
      | ⟨1, _⟩ => show win0_6.index t 1 * 2048 + 1 * l.val = l.val; rw [h1]; omega
    rw [he]
    exact out6_at μ c t r l
  · have l0 : (i 0 : Nat) < 8192 := (i 0).isLt
    have l1 : (i 1 : Nat) < 2048 := (i 1).isLt
    have hN : cfg0.N = 32 := N_0
    let t : Fin cfg0.N := ⟨(i 0 : Nat) / 256, by omega⟩
    refine ⟨t, flush0_6 t, ?_⟩
    show i ∈ ((View.whole main_v3_1).slice (win0_6.rect t)).set
    rw [View.set_slice_whole, Rect.mem_set_unit]
    obtain ⟨h0, h1⟩ := idx6 t
    intro a
    match a with
    | ⟨0, _⟩ => show win0_6.index t 0 * 256 ≤ (i 0 : Nat) ∧ (i 0 : Nat) < win0_6.index t 0 * 256 + 256
                rw [h0]; dsimp only [t]; omega
    | ⟨1, _⟩ => show win0_6.index t 1 * 2048 ≤ (i 1 : Nat) ∧ (i 1 : Nat) < win0_6.index t 1 * 2048 + 2048
                rw [h1]; omega

theorem final_yn : (dats μ 0 c).arrAt 7 cfg0.N = ynArr μ c := by
  refine (dats μ 0 c).arrAt_eq_of_cover 7 (ynArr μ c) (fun t _ => ?_) fun i => ?_
  · rw [Value.flushed7]
    obtain ⟨h0, h1⟩ := idx7 t
    have ht := lt32 t
    funext j
    rw [View.read_apply]
    obtain ⟨r, l, rfl⟩ : ∃ (r : Fin 256) (l : Fin 2048), j = ix2 r l := ⟨j 0, j 1, eq_ix2 j⟩
    have he : ((cfg0.win 7).blk t).view.emb (ix2 r l) = (ix2 (tok t.val r) l : S8192x2048.Idx) := by
      funext a
      apply Fin.ext
      match a with
      | ⟨0, _⟩ => show win0_7.index t 0 * 256 + 1 * r.val = (256 * t.val + r.val) % 8192; rw [h0]; omega
      | ⟨1, _⟩ => show win0_7.index t 1 * 2048 + 1 * l.val = l.val; rw [h1]; omega
    rw [he]
    exact out7_at μ c t r l
  · have l0 : (i 0 : Nat) < 8192 := (i 0).isLt
    have l1 : (i 1 : Nat) < 2048 := (i 1).isLt
    have hN : cfg0.N = 32 := N_0
    let t : Fin cfg0.N := ⟨(i 0 : Nat) / 256, by omega⟩
    refine ⟨t, flush0_7 t, ?_⟩
    show i ∈ ((View.whole main_v3_2).slice (win0_7.rect t)).set
    rw [View.set_slice_whole, Rect.mem_set_unit]
    obtain ⟨h0, h1⟩ := idx7 t
    intro a
    match a with
    | ⟨0, _⟩ => show win0_7.index t 0 * 256 ≤ (i 0 : Nat) ∧ (i 0 : Nat) < win0_7.index t 0 * 256 + 256
                rw [h0]; dsimp only [t]; omega
    | ⟨1, _⟩ => show win0_7.index t 1 * 2048 ≤ (i 1 : Nat) ∧ (i 1 : Nat) < win0_7.index t 1 * 2048 + 2048
                rw [h1]; omega

/-- The sum over the blocks is the sum over all rows. -/
theorem sum_blocks (f : Fin 8192 → EReal) : ∑ s ∈ Finset.range 32, ∑ r : Fin 256, f (tok s r) = ∑ T : Fin 8192, f T := by
  rw [Fin.sum_univ_tiles 32 256 (by norm_num), Finset.sum_range]
  refine Finset.sum_congr rfl fun s _ => Finset.sum_congr rfl fun r _ => congrArg f (Fin.ext ?_)
  show (256 * s.val + r.val) % 8192 = _
  have := s.isLt
  dsimp only
  omega
theorem final_dgn : (dats μ 0 c).arrAt 8 cfg0.N = dgnArr μ c := by
  have hN : cfg0.N = 32 := N_0
  refine (dats μ 0 c).arrAt_eq_of_cover 8 (dgnArr μ c) (fun t hf => ?_) fun i => ?_
  · have ht : t.val = 31 := by have := (flush0_8 t).mp hf; have := lt32 t; omega
    rw [Value.flushed8]
    obtain ⟨h0, h1⟩ := idx8 t
    funext j
    rw [View.read_apply]
    obtain ⟨r, l, rfl⟩ : ∃ (r : Fin 1) (l : Fin 2048), j = ix2 r l := ⟨j 0, j 1, eq_ix2 j⟩
    obtain rfl : r = 0 := Subsingleton.elim _ _
    have he : ((cfg0.win 8).blk t).view.emb (ix2 0 l) = (ix2 0 l : S1x2048.Idx) := by
      funext a
      apply Fin.ext
      match a with
      | ⟨0, _⟩ => show win0_8.index t 0 * 1 + 1 * 0 = 0; rw [h0]
      | ⟨1, _⟩ => show win0_8.index t 1 * 2048 + 1 * l.val = l.val; rw [h1]; omega
    rw [he]
    refine (out8_at μ c t.val t.isLt l).trans ?_
    rw [ht]
    exact sum_blocks _
  · have l0 : (i 0 : Nat) < 1 := (i 0).isLt
    have l1 : (i 1 : Nat) < 2048 := (i 1).isLt
    let t : Fin cfg0.N := ⟨31, by omega⟩
    refine ⟨t, (flush0_8 _).mpr (by dsimp only [t]), ?_⟩
    show i ∈ ((View.whole main_v3_3).slice (win0_8.rect t)).set
    rw [View.set_slice_whole, Rect.mem_set_unit]
    obtain ⟨h0, h1⟩ := idx8 t
    intro a
    match a with
    | ⟨0, _⟩ => show win0_8.index t 0 * 1 ≤ (i 0 : Nat) ∧ (i 0 : Nat) < win0_8.index t 0 * 1 + 1
                rw [h0]; omega
    | ⟨1, _⟩ => show win0_8.index t 1 * 2048 ≤ (i 1 : Nat) ∧ (i 1 : Nat) < win0_8.index t 1 * 2048 + 2048
                rw [h1]; omega
end

end Cert.GateIdeal.Hand
end
-- ==== Proof.GateRef.lean ====
module

public import proofs.«01_k».proof.Proof.GateValue
public import proofs.«01_k».proof.Defs
public import proofs.«01_k».proof.Proof.Gen.GateRefIdeal.Read

/-! The output gate's backward kernel computes the reference's gradients. -/

@[expose] public section
set_option maxRecDepth 16384
noncomputable section
namespace Cert.GateIdeal.Hand

/-! ## The reference, read at an index -/

section
open Cert.GateRefIdeal Cert.GateRefIdeal.Gen Cert.GateRefIdeal.Read Idealize.ShloMosaic Idealize.ShloMosaic.TcCoe Idealize.SL.Sem Cert.Gate
variable (x0 : FVec Ideal S8192x1024 .f32) (x1 : FVec Ideal S8192x2048 .f32) (x2 : FVec Ideal S8192x5632 .f32) (x3 : FVec Ideal S2048 .f32) (x4 : FVec Ideal S2048x1024 .f32)

/-- Row `T` of the gate. -/
abbrev zR (T : Fin 8192) (l : Fin 2048) : EReal := x2 (ix2 T ⟨l.val, by omega⟩)
/-- Row `T` of the gated array. -/
abbrev gR (T : Fin 8192) : Fin 2048 → EReal := gated (fun l => x1 (ix2 T l)) (zR x2 T)
/-- A group of it. -/
abbrev grR (T : Fin 8192) (q : Fin 4) (k : Fin 512) : EReal := gR x1 x2 T (col q k)
/-- The cotangent of the normed array. -/
def dynR (T : Fin 8192) (l : Fin 2048) : EReal := ∑ k : Fin 1024, x0 (ix2 T k) * x4 (ix2 l k)
/-- The same before the scale. -/
abbrev uR (T : Fin 8192) (l : Fin 2048) : EReal := dynR x0 x4 T l * x3 (ix1 l)

theorem col_eq (q : Fin 4) (j : Fin 512) : (⟨q.val * 512 + j.val, by omega⟩ : Fin 2048) = col q j := Fin.ext (by dsimp only; omega)
theorem ref_sig (T : Fin 8192) (l : Fin 2048) : val_main_v1_2 (F := Ideal) x2 (ix2 T l) = Cert.Util.sig (zR x2 T l) := by
  pointwise [val_main_v1_2, val_main_call0_v4, val_main_call0_cst_0, val_main_call0_v3, val_main_call0_v2, val_main_call0_cst, val_main_call0_v1, val_main_call0_v0, val_main_v0]
  rfl
theorem ref_silu (T : Fin 8192) (l : Fin 2048) : val_main_v1_0 (F := Ideal) x2 (ix2 T l) = zR x2 T l * Cert.Util.sig (zR x2 T l) := by
  pointwise [val_main_v1_0, val_main_v0]
  rw [ref_sig]
theorem ref_g2 (T : Fin 8192) (l : Fin 2048) : val_main_v2 (F := Ideal) x1 x2 (ix2 T l) = gR x1 x2 T l := by
  pointwise [val_main_v2]
  rw [ref_silu]; rfl
theorem ref_g (T : Fin 8192) (q : Fin 4) (j : Fin 512) : val_main_v3 (F := Ideal) x1 x2 (ix3 T q j) = gR x1 x2 T (col q j) := by
  rw [← ref_g2]
  pointwise [val_main_v3]
  exact congrArg (fun l => val_main_v2 (F := Ideal) x1 x2 (ix2 T l)) (col_eq q j)
theorem ref_ms (T : Fin 8192) (q : Fin 4) : val_main_v10 (F := Ideal) x1 x2 (ix3 T q 0) = gms (grR x1 x2 T q) := by
  pointwise [val_main_v10, val_main_v9, val_main_v8, val_main_v7, val_main_v6, val_main_v5, val_main_v4, val_main_cst, val_main_cst_0, val_main_cst_1]
  simp only [ref_g]
  rfl
theorem ref_rs (T : Fin 8192) (q : Fin 4) : val_main_v11 (F := Ideal) x1 x2 (ix3 T q 0) = grs (grR x1 x2 T q) := by
  pointwise [val_main_v11]
  rw [ref_ms]; rfl
theorem ref_dr (T : Fin 8192) (q : Fin 4) : val_main_v14 (F := Ideal) x1 x2 (ix3 T q 0) = gdr (grR x1 x2 T q) := by
  pointwise [val_main_v14, val_main_v13, val_main_v12, val_main_cst_2]
  rw [ref_ms, ref_rs]; rfl
theorem ref_n (T : Fin 8192) (q : Fin 4) (j : Fin 512) : val_main_v16 (F := Ideal) x1 x2 (ix3 T q j) = nrow (gR x1 x2 T) q j := by
  pointwise [val_main_v16, val_main_v15]
  rw [ref_g, ref_rs]; rfl
theorem ref_gn (q : Fin 4) (j : Fin 512) : val_main_v18 (F := Ideal) x3 (ix3 0 q j) = x3 (ix1 (col q j)) := by
  pointwise [val_main_v18, val_main_v17]
  exact congrArg (fun l => x3 (ix1 l)) (col_eq q j)
theorem ref_dyn (T : Fin 8192) (q : Fin 4) (j : Fin 512) : val_main_v24 (F := Ideal) x0 x4 (ix3 T q j) = dynR x0 x4 T (col q j) := by
  have e : val_main_v23 (F := Ideal) x0 x4 (ix2 T (col q j)) = dynR x0 x4 T (col q j) := by
    pointwise [val_main_v23]
    rfl
  rw [← e]
  pointwise [val_main_v24]
  exact congrArg (fun l => val_main_v23 (F := Ideal) x0 x4 (ix2 T l)) (col_eq q j)
theorem ref_u (T : Fin 8192) (q : Fin 4) (j : Fin 512) : val_main_v29 (F := Ideal) x0 x3 x4 (ix3 T q j) = uR x0 x3 x4 T (col q j) := by
  pointwise [val_main_v29, val_main_v28]
  rw [ref_dyn, ref_gn]
theorem ref_mm (T : Fin 8192) (q : Fin 4) : val_main_v40 (F := Ideal) x0 x1 x2 x3 x4 (ix2 T q) =
    gmm (gdr (grR x1 x2 T q)) (grR x1 x2 T q) (fun k => uR x0 x3 x4 T (col q k)) := by
  pointwise [val_main_v40, val_main_v39, val_main_v38, val_main_v37, val_main_v34, val_main_v33, val_main_v32, val_main_cst_5, val_main_cst_6, val_main_cst_7]
  simp only [Finset.univ_unique, Finset.sum_singleton, ref_g, ref_u]
  have e := ref_dr x1 x2 T q
  have d : val_main_v14 (F := Ideal) x1 x2 (ix3 T q default) = _ := e
  rw [d]
  rfl
theorem ref_dg3 (T : Fin 8192) (q : Fin 4) (j : Fin 512) : val_main_v45 (F := Ideal) x0 x1 x2 x3 x4 (ix3 T q j) = dgate (gR x1 x2 T) (uR x0 x3 x4 T) q j := by
  pointwise [val_main_v45, val_main_v44, val_main_v43, val_main_v42, val_main_v41, val_main_v36, val_main_v35]
  rw [ref_mm, ref_g, ref_rs, ref_u]
  rfl
theorem ref_dg (T : Fin 8192) (q : Fin 4) (j : Fin 512) : val_main_v46 (F := Ideal) x0 x1 x2 x3 x4 (ix2 T (col q j)) = dgate (gR x1 x2 T) (uR x0 x3 x4 T) q j := by
  rw [← ref_dg3]
  pointwise [val_main_v46]
  exact congrArg₂ (fun (a : Fin 4) (b : Fin 512) => val_main_v45 (F := Ideal) x0 x1 x2 x3 x4 (ix3 T a b)) (grpOf_col q j) (plc_col q j)
theorem ref_yn (T : Fin 8192) (q : Fin 4) (j : Fin 512) : val_main_v51 (F := Ideal) x1 x2 x3 (ix2 T (col q j)) = nrow (gR x1 x2 T) q j * x3 (ix1 (col q j)) := by
  have e : val_main_v20 (F := Ideal) x1 x2 x3 (ix3 T q j) = nrow (gR x1 x2 T) q j * x3 (ix1 (col q j)) := by
    pointwise [val_main_v20, val_main_v19]
    rw [ref_n, ref_gn]
  rw [← e]
  pointwise [val_main_v51, val_main_v21]
  exact congrArg₂ (fun (a : Fin 4) (b : Fin 512) => val_main_v20 (F := Ideal) x1 x2 x3 (ix3 T a b)) (grpOf_col q j) (plc_col q j)
theorem ref_dys (T : Fin 8192) (q : Fin 4) (j : Fin 512) : val_main_v48 (F := Ideal) x0 x1 x2 x3 x4 (ix2 T (col q j)) =
    dgate (gR x1 x2 T) (uR x0 x3 x4 T) q j * (zR x2 T (col q j) * Cert.Util.sig (zR x2 T (col q j))) := by
  pointwise [val_main_v48]
  rw [ref_dg, ref_silu]
theorem ref_dz (T : Fin 8192) (q : Fin 4) (j : Fin 512) : val_main_v50 (F := Ideal) x0 x1 x2 x3 x4 (ix2 T (col q j)) =
    dsilu (x1 (ix2 T (col q j)) * dgate (gR x1 x2 T) (uR x0 x3 x4 T) q j) (zR x2 T (col q j)) := by
  pointwise [val_main_v50, val_main_v49, val_main_call1_v2, val_main_call1_v1, val_main_call1_v0, val_main_v47, val_main_v1_1, val_main_call0_v7, val_main_call0_v6, val_main_call0_cst_1, val_main_v0]
  rw [ref_dg, ref_sig]
  rfl
theorem ref_dgn (q : Fin 4) (j : Fin 512) : val_main_v52 (F := Ideal) x0 x1 x2 x4 (ix2 0 (col q j)) = ∑ T, nrow (gR x1 x2 T) q j * dynR x0 x4 T (col q j) := by
  have e : val_main_v26 (F := Ideal) x0 x1 x2 x4 (ix2 q j) = ∑ T, nrow (gR x1 x2 T) q j * dynR x0 x4 T (col q j) := by
    pointwise [val_main_v26, val_main_v25, val_main_cst_3]
    simp only [ref_n, ref_dyn]
  rw [← e]
  pointwise [val_main_v52, val_main_v31, val_main_v30, val_main_v27, val_main_cst_4]
  simp only [Finset.univ_unique, Finset.sum_singleton]
  exact congrArg₂ (fun (a : Fin 4) (b : Fin 512) => val_main_v26 (F := Ideal) x0 x1 x2 x4 (ix2 a b)) (grpOf_col q j) (plc_col q j)
end

/-! ## The claims -/

section
open Cert.GateIdeal Cert.GateIdeal.Gen Idealize.ShloMosaic Idealize.ShloMosaic.TcCoe Idealize.SL.Sem Cert.Util Cert.Gate

/-- The reference's frame: its run read at the arguments; it has no semaphore. -/
theorem frame_ref : Cert.quiescent_GateRefIdeal (hGateRefIdeal := Cert.GateRefIdeal.Gen.facts) := fun m ρ _ =>
  (θ_run Cert.GateRefIdeal.defs _ _).mono (fun r h => ⟨fun c => (h c).2.2.2.2, sem_eq_zero_of_no_sems (by decide) r.2⟩)
    (Cert.GateRefIdeal.Value.run (F := Ideal) m ρ)

/-- The output gate backward: the kernel's arrays are the reference's. -/
theorem algebraic : Cert.algebraic_GateIdeal_GateRefIdeal (hGateIdeal := Cert.GateIdeal.Gen.facts)
    (hGateRefIdeal := Cert.GateRefIdeal.Gen.facts) := by
  intro m g m' g' _ hm
  refine ⟨dzArr m, dysArr m, ynArr m, dgnArr m, ?_, ?_⟩
  · refine (θ_run _ _ _).mono (fun r h c => ?_) (Cert.GateIdeal.Value.run_blocks m g)
    obtain ⟨h0, h1, h2, h3, h4⟩ := h c
    exact ⟨h0.trans (final_dz m c), h1.trans (final_dys m c), h2.trans (final_yn m c), h3.trans (final_dgn m c), h4⟩
  · refine (θ_run _ _ _).mono (fun r h c => ?_) (Cert.GateRefIdeal.Value.run m' g')
    obtain ⟨h0, h1, h2, h3, h4⟩ := h c
    obtain ⟨a0, a1, a2, a3, a4⟩ := hm c
    refine ⟨h0.trans ?_, h1.trans ?_, h2.trans ?_, h3.trans ?_, h4⟩
    · rw [Cert.GateRefIdeal.Read.val_main_v50_eq, a0, a1, a2, a3, a4]
      funext i
      obtain ⟨T, l, rfl⟩ : ∃ (T : Fin 8192) (l : Fin 2048), i = ix2 T l := ⟨i 0, i 1, eq_ix2 i⟩
      obtain ⟨q, j, rfl⟩ := exists_col l
      refine (ref_dz _ _ _ _ _ T q j).trans ?_
      show _ = dzM m c T (col q j)
      unfold dzM dgM
      rw [grpOf_col, plc_col]
      rfl
    · rw [Cert.GateRefIdeal.Read.val_main_v48_eq, a0, a1, a2, a3, a4]
      funext i
      obtain ⟨T, l, rfl⟩ : ∃ (T : Fin 8192) (l : Fin 2048), i = ix2 T l := ⟨i 0, i 1, eq_ix2 i⟩
      obtain ⟨q, j, rfl⟩ := exists_col l
      refine (ref_dys _ _ _ _ _ T q j).trans ?_
      show _ = dysM m c T (col q j)
      unfold dysM dgM
      rw [grpOf_col, plc_col]
      rfl
    · rw [Cert.GateRefIdeal.Read.val_main_v51_eq, a1, a2, a3]
      funext i
      obtain ⟨T, l, rfl⟩ : ∃ (T : Fin 8192) (l : Fin 2048), i = ix2 T l := ⟨i 0, i 1, eq_ix2 i⟩
      obtain ⟨q, j, rfl⟩ := exists_col l
      refine (ref_yn _ _ _ T q j).trans ?_
      show _ = ynM m c T (col q j)
      unfold ynM
      rw [grpOf_col, plc_col]
    · rw [Cert.GateRefIdeal.Read.val_main_v52_eq, a0, a1, a2, a4]
      funext i
      obtain ⟨r, l, rfl⟩ : ∃ (r : Fin 1) (l : Fin 2048), i = ix2 r l := ⟨i 0, i 1, eq_ix2 i⟩
      obtain rfl : r = 0 := Subsingleton.elim _ _
      obtain ⟨q, j, rfl⟩ := exists_col l
      refine (ref_dgn _ _ _ _ q j).trans ?_
      show _ = dgnM m c (col q j)
      unfold dgnM gPart
      rw [grpOf_col, plc_col]
      rfl
end

end Cert.GateIdeal.Hand
end
-- ==== Proof.GateFwdRef.lean ====
module

public import proofs.«01_k».proof.Proof.GateMath
public import proofs.«01_k».proof.Defs
public import proofs.«01_k».proof.Proof.Gen.GateFwdIdeal.Value
public import proofs.«01_k».proof.Proof.Gen.GateFwdRefIdeal.Run
public import proofs.«01_k».proof.Proof.Gen.GateFwdRefIdeal.Read
public import Idealize.ShloMosaic.Lib.Claim

/-! The output gate's forward kernel computes the reference's array. -/

@[expose] public section
set_option maxRecDepth 16384
noncomputable section
namespace Cert.GateFwdIdeal.Hand

/-- One entry of the output: the residual plus the scaled, normed, gated row times a column of the weights. -/
def gateOut (h : EReal) (y z gn w : Fin 2048 → EReal) : EReal :=
  h + ∑ l, Cert.Gate.nrow (Cert.Gate.gated y z) (Cert.Gate.grpOf l) (Cert.Gate.plc l) * gn l * w l

/-! ## The kernel's values at a point, read at an index -/

section
open Cert.GateFwdIdeal Cert.GateFwdIdeal.Gen Idealize.ShloMosaic Idealize.ShloMosaic.TcCoe Idealize.SL.Sem Cert.Util Cert.Gate
open Idealize.ShloMosaic.Pipeline (Dat)

section
variable (y z : FVec Ideal S256x2048 .f32) (gn : FVec Ideal S1x2048 .f32) (h : FVec Ideal S256x1024 .f32) (w : FVec Ideal S2048x1024 .bf16)
/-- Row `r` of the gated array. -/
abbrev gRow (r : Fin 256) : Fin 2048 → EReal := gated (fun l => y (ix2 r l)) (fun l => z (ix2 r l))
/-- The gated array. -/
theorem pay3_apply (r : Fin 256) (l : Fin 2048) : k0_pay3 (F := Ideal) y z (ix2 r l) = gRow y z r l := by
  pointwise [k0_pay3]
  simp only [zero_sub]
  rfl
/-- The first group, normed. -/
theorem pay4_apply (r : Fin 256) (j : Fin 512) : k0_pay4 (F := Ideal) y z (ix2 r j) = nrow (gRow y z r) 0 j := by
  have e (k : Fin 512) : k0_pay3 (F := Ideal) y z (ix2 r ⟨k.val, by omega⟩) = gRow y z r (col 0 k) :=
    (pay3_apply y z r _).trans (congrArg _ (Fin.ext (by simp)))
  pointwise [k0_pay4]
  simp only [e]
  rfl
/-- The second group, normed. -/
theorem pay5_apply (r : Fin 256) (j : Fin 512) : k0_pay5 (F := Ideal) y z (ix2 r j) = nrow (gRow y z r) 1 j := by
  pointwise [k0_pay5]
  simp only [pay3_apply]
  rfl
/-- The third group. -/
theorem pay6_apply (r : Fin 256) (j : Fin 512) : k0_pay6 (F := Ideal) y z (ix2 r j) = gRow y z r (col 2 j) := by
  pointwise [k0_pay6]
  exact pay3_apply y z r _
/-- The third group's mean square. -/
theorem pay7_apply (r : Fin 256) :
    k0_pay7 (F := Ideal) y z (ix2 r 0) = Ideal.div (∑ j, gRow y z r (col 2 j) * gRow y z r (col 2 j)) (Ideal.ofBits .f32 0x44000000#32) := by
  pointwise [k0_pay7]
  simp only [pay6_apply]
/-- What the body computes of its blocks. -/
abbrev outBlk : FVec Ideal S256x1024 .f32 :=
  k0_pay1 (F := Ideal) (k0_pay2 gn) (k0_pay3 y z) (k0_pay4 y z) (k0_pay5 y z) (k0_pay6 y z) (k0_pay7 y z) (Ideal.ofBits .f32 0x358637BD#32) h w
theorem outBlk_apply (r : Fin 256) (k : Fin 1024) :
    outBlk y z gn h w (ix2 r k) = gateOut (h (ix2 r k)) (fun l => y (ix2 r l)) (fun l => z (ix2 r l)) (fun l => gn (ix2 0 l)) (fun l => w (ix2 l k)) := by
  unfold outBlk gateOut
  pointwise [k0_pay1, k0_pay2]
  refine congrArg (fun t : EReal => h (ix2 r k) + t) (Finset.sum_congr rfl fun l _ => congrArg (fun t : EReal => t * gn (ix2 0 l) * w (ix2 l k)) ?_)
  obtain ⟨q, j, rfl⟩ := exists_col l
  rw [grpOf_col, plc_col]
  have hj := j.isLt
  match q with
  | 0 =>
    rw [dif_pos (by simp)]
    exact (congrArg (fun i => k0_pay4 (F := Ideal) y z (ix2 r i)) (Fin.ext (by simp))).trans (pay4_apply y z r j)
  | 1 =>
    rw [dif_neg (by simp), dif_pos (by simp)]
    exact (congrArg (fun i => k0_pay5 (F := Ideal) y z (ix2 r i)) (Fin.ext (by simp))).trans (pay5_apply y z r j)
  | 2 =>
    rw [dif_neg (by simp; omega), dif_neg (by simp; omega), dif_pos (by simp; omega), pay7_apply]
    refine (congrArg (fun t : EReal => t * _) ((congrArg (fun i => k0_pay6 (F := Ideal) y z (ix2 r i)) (Fin.ext ?_)).trans (pay6_apply y z r j)))
    simp; omega
  | 3 =>
    rw [dif_neg (by simp; omega), dif_neg (by simp; omega), dif_neg (by simp; omega)]
    simp only [pay3_apply]
    refine (congrArg (fun t : EReal => t * _) (congrArg (gRow y z r) (Fin.ext ?_)))
    simp; omega
end

theorem hz : (![0, 0] : Fin 2 → Nat) = fun _ => 0 := funext fun a => by fin_cases a <;> rfl
theorem outA (c : Dev nD) (i : grid0.Coords) (arg1 : Memref sig .tc .vmem S256x1024 .f32) (harg1 : arg1.IsWhole) (arg2 : Memref sig .tc .vmem S256x2048 .f32) (harg2 : arg2.IsWhole)
    (arg3 : Memref sig .tc .vmem S256x2048 .f32) (harg3 : arg3.IsWhole) (arg4 : Memref sig .tc .vmem S1x2048 .f32) (harg4 : arg4.IsWhole)
    (arg5 : Memref sig .tc .vmem S2048x1024 .bf16) (harg5 : arg5.IsWhole) (arg6 : Memref sig .tc .vmem S256x1024 .f32) (harg6 : arg6.IsWhole)
    (x0 : Vec Ideal S256x1024 .f32) (x1 x2 : Vec Ideal S256x2048 .f32) (x3 : Vec Ideal S1x2048 .f32) (x4 : Vec Ideal S2048x1024 .bf16) :
    out0_A_5 c i arg1 harg1 arg2 harg2 arg3 harg3 arg4 harg4 arg5 harg5 arg6 harg6 x0 x1 x2 x3 x4 = outBlk x1 x2 x3 x0 x4 := by
  unfold out0_A_5
  rw [View.read_writes_eq_canon _ _ _ (fun y => cover0_A_5 (y := y) ..)]
  unfold kernelRun0_A
  dsimp only
  sl_unfold_words
  simp only [View.canon_cons_unit_zero (S := S256x1024) hz, View.canon_unit_zero (S := S256x1024) hz]
  simp only [View.readAt_eq_ld, Memref.IsWhole.read_unread, View.readCov_cons_toLoadRect,
    View.ld_unit_zero (S := S256x2048) hz, View.ld_unit_zero (S := S1x2048) hz, View.ld_unit_zero (S := S256x1024) hz, View.ld_unit_zero (S := S2048x1024) hz]
  rfl

/-! ## The blocks a point reads, and the array it leaves -/

theorem lt32 (t : Fin cfg0.N) : t.val < 32 := lt_of_lt_of_eq t.isLt N_0
/-- Row `r` of block `s`. -/
abbrev tok (s : ℕ) (r : Fin 256) : Fin 8192 := ⟨(256 * s + r.val) % 8192, Nat.mod_lt _ (by norm_num)⟩
/-- Which block each window holds at a point. -/
theorem idxs (t : Fin cfg0.N) : (win0_0.index t 0 = t.val ∧ win0_0.index t 1 = 0) ∧ (win0_1.index t 0 = t.val ∧ win0_1.index t 1 = 0) ∧
    (win0_2.index t 0 = t.val ∧ win0_2.index t 1 = 0) ∧ (win0_3.index t 0 = 0 ∧ win0_3.index t 1 = 0) ∧ (win0_4.index t 0 = 0 ∧ win0_4.index t 1 = 0) ∧
    win0_5.index t 0 = t.val ∧ win0_5.index t 1 = 0 :=
  (by decide +kernel : ∀ t : Fin grid0.N, (win0_0.index t 0 = t.val ∧ win0_0.index t 1 = 0) ∧ (win0_1.index t 0 = t.val ∧ win0_1.index t 1 = 0) ∧
    (win0_2.index t 0 = t.val ∧ win0_2.index t 1 = 0) ∧ (win0_3.index t 0 = 0 ∧ win0_3.index t 1 = 0) ∧ (win0_4.index t 0 = 0 ∧ win0_4.index t 1 = 0) ∧
    win0_5.index t 0 = t.val ∧ win0_5.index t 1 = 0) t

section
variable (μ : (ℓ : Loc nD τ sig) → Buf (Elt Ideal) ℓ) (c : Dev nD) (t : Fin cfg0.N)
theorem V_v0 : V μ c main_v0 = shapeCast S1x2048 (μ ((c : Thread nD τ).loc main_arg3)) shapeCasts_S2048_S1x2048 := by rfl
theorem V_v1 : V μ c main_v1 = μ ((c : Thread nD τ).loc main_arg4) := by rfl
theorem blk0 (r : Fin 256) (l : Fin 1024) : (iblk μ c 0 t : Vec Ideal S256x1024 .f32) (ix2 r l) = μ ((c : Thread nD τ).loc main_arg0) (ix2 (tok t.val r) l) := by
  unfold iblk
  rw [View.read_apply]
  show V μ c main_arg0 _ = _
  rw [V_main_arg0]
  obtain ⟨h0, h1⟩ := (idxs t).1
  have ht := lt32 t
  congr 1; funext a; apply Fin.ext
  match a with
  | ⟨0, _⟩ => show win0_0.index t 0 * 256 + 1 * r.val = (256 * t.val + r.val) % 8192; rw [h0]; omega
  | ⟨1, _⟩ => show win0_0.index t 1 * 1024 + 1 * l.val = l.val; rw [h1]; omega
theorem blk1 (r : Fin 256) (l : Fin 2048) : (iblk μ c 1 t : Vec Ideal S256x2048 .f32) (ix2 r l) = μ ((c : Thread nD τ).loc main_arg1) (ix2 (tok t.val r) l) := by
  unfold iblk
  rw [View.read_apply]
  show V μ c main_arg1 _ = _
  rw [V_main_arg1]
  obtain ⟨h0, h1⟩ := (idxs t).2.1
  have ht := lt32 t
  congr 1; funext a; apply Fin.ext
  match a with
  | ⟨0, _⟩ => show win0_1.index t 0 * 256 + 1 * r.val = (256 * t.val + r.val) % 8192; rw [h0]; omega
  | ⟨1, _⟩ => show win0_1.index t 1 * 2048 + 1 * l.val = l.val; rw [h1]; omega
theorem blk2 (r : Fin 256) (l : Fin 2048) :
    (X0_2 μ c t : Vec Ideal S256x2048 .f32) (ix2 r l) = μ ((c : Thread nD τ).loc main_arg2) (ix2 (tok t.val r) ⟨l.val, by omega⟩) := by
  unfold Gen.X0_2 Pipeline.Window.fill
  rw [dif_pos (moved0_2 t (ix2 r l))]
  unfold iblk
  rw [View.read_apply]
  show V μ c main_arg2 _ = _
  rw [V_main_arg2]
  obtain ⟨h0, h1⟩ := (idxs t).2.2.1
  have ht := lt32 t
  congr 1; funext a; apply Fin.ext
  match a with
  | ⟨0, _⟩ => show win0_2.index t 0 * 256 + 1 * r.val = (256 * t.val + r.val) % 8192; rw [h0]; omega
  | ⟨1, _⟩ => show win0_2.index t 1 * 2048 + 1 * l.val = l.val; rw [h1]; omega
theorem blk3 (l : Fin 2048) : (iblk μ c 3 t : Vec Ideal S1x2048 .f32) (ix2 0 l) = μ ((c : Thread nD τ).loc main_arg3) (ix1 l) := by
  unfold iblk
  rw [View.read_apply]
  show V μ c main_v0 _ = _
  rw [V_v0]
  have e : ((cfg0.win 3).blk t).view.emb (ix2 0 l) = (ix2 0 l : S1x2048.Idx) := by
    obtain ⟨h0, h1⟩ := (idxs t).2.2.2.1
    funext a; apply Fin.ext
    match a with
    | ⟨0, _⟩ => show win0_3.index t 0 * 1 + 1 * 0 = 0; rw [h0]
    | ⟨1, _⟩ => show win0_3.index t 1 * 2048 + 1 * l.val = l.val; rw [h1]; omega
  refine (congrArg _ e).trans ?_
  pointwise []
theorem blk4 (r : Fin 2048) (l : Fin 1024) : (iblk μ c 4 t : Vec Ideal S2048x1024 .bf16) (ix2 r l) = μ ((c : Thread nD τ).loc main_arg4) (ix2 r l) := by
  unfold iblk
  rw [View.read_apply]
  show V μ c main_v1 _ = _
  rw [V_v1]
  obtain ⟨h0, h1⟩ := (idxs t).2.2.2.2.1
  congr 1; funext a; apply Fin.ext
  match a with
  | ⟨0, _⟩ => show win0_4.index t 0 * 2048 + 1 * r.val = r.val; rw [h0]; omega
  | ⟨1, _⟩ => show win0_4.index t 1 * 1024 + 1 * l.val = l.val; rw [h1]; omega

/-- An entry of the output in terms of the arguments. -/
def outM (T : Fin 8192) (k : Fin 1024) : EReal :=
  gateOut (μ ((c : Thread nD τ).loc main_arg0) (ix2 T k)) (fun l => μ ((c : Thread nD τ).loc main_arg1) (ix2 T l))
    (fun l => μ ((c : Thread nD τ).loc main_arg2) (ix2 T ⟨l.val, by omega⟩)) (fun l => μ ((c : Thread nD τ).loc main_arg3) (ix1 l))
    (fun l => μ ((c : Thread nD τ).loc main_arg4) (ix2 l k))
/-- The output array. -/
def outArr : FVec Ideal S8192x1024 .f32 := fun i => outM μ c (i 0) (i 1)
/-- What a point leaves. -/
theorem out_at (r : Fin 256) (k : Fin 1024) : outsAt0 μ c t (ix2 r k) = outM μ c (tok t.val r) k := by
  unfold outsAt0
  rw [outA]
  refine (outBlk_apply _ _ _ _ _ r k).trans ?_
  unfold outM
  congr 1
  · exact blk0 μ c t r k
  · exact funext fun l => blk1 μ c t r l
  · exact funext fun l => blk2 μ c t r l
  · exact funext fun l => blk3 μ c t l
  · exact funext fun l => blk4 μ c t l k
/-- The array the run leaves. -/
theorem final : (dats μ 0 c).arrAt 5 cfg0.N = outArr μ c := by
  refine (dats μ 0 c).arrAt_eq_of_cover 5 (outArr μ c) (fun t _ => ?_) fun i => ?_
  · rw [Value.flushed5]
    obtain ⟨h0, h1⟩ := (idxs t).2.2.2.2.2
    have ht := lt32 t
    funext j
    rw [View.read_apply]
    obtain ⟨r, l, rfl⟩ : ∃ (r : Fin 256) (l : Fin 1024), j = ix2 r l := ⟨j 0, j 1, eq_ix2 j⟩
    have he : ((cfg0.win 5).blk t).view.emb (ix2 r l) = (ix2 (tok t.val r) l : S8192x1024.Idx) := by
      funext a; apply Fin.ext
      match a with
      | ⟨0, _⟩ => show win0_5.index t 0 * 256 + 1 * r.val = (256 * t.val + r.val) % 8192; rw [h0]; omega
      | ⟨1, _⟩ => show win0_5.index t 1 * 1024 + 1 * l.val = l.val; rw [h1]; omega
    rw [he]
    exact out_at μ c t r l
  · have l0 : (i 0 : Nat) < 8192 := (i 0).isLt
    have l1 : (i 1 : Nat) < 1024 := (i 1).isLt
    have hN : cfg0.N = 32 := N_0
    let t : Fin cfg0.N := ⟨(i 0 : Nat) / 256, by omega⟩
    refine ⟨t, flush0_5 t, ?_⟩
    show i ∈ ((View.whole main_v2).slice (win0_5.rect t)).set
    rw [View.set_slice_whole, Rect.mem_set_unit]
    obtain ⟨h0, h1⟩ := (idxs t).2.2.2.2.2
    intro a
    match a with
    | ⟨0, _⟩ => show win0_5.index t 0 * 256 ≤ (i 0 : Nat) ∧ (i 0 : Nat) < win0_5.index t 0 * 256 + 256
                rw [h0]; dsimp only [t]; omega
    | ⟨1, _⟩ => show win0_5.index t 1 * 1024 ≤ (i 1 : Nat) ∧ (i 1 : Nat) < win0_5.index t 1 * 1024 + 1024
                rw [h1]; omega
end
end

/-! ## The reference, read at an index -/

section
open Cert.GateFwdRefIdeal Cert.GateFwdRefIdeal.Gen Cert.GateFwdRefIdeal.Read Idealize.ShloMosaic Idealize.ShloMosaic.TcCoe Idealize.SL.Sem Cert.Gate
variable (x0 : FVec Ideal S8192x1024 .f32) (x1 : FVec Ideal S8192x2048 .f32) (x2 : FVec Ideal S8192x5632 .f32) (x3 : FVec Ideal S2048 .f32) (x4 : FVec Ideal S2048x1024 .f32)
/-- Row `T` of the gated array. -/
abbrev gR (T : Fin 8192) : Fin 2048 → EReal := gated (fun l => x1 (ix2 T l)) (fun l => x2 (ix2 T ⟨l.val, by omega⟩))
theorem col_eq (q : Fin 4) (j : Fin 512) : (⟨q.val * 512 + j.val, by omega⟩ : Fin 2048) = col q j := Fin.ext (by dsimp only; omega)
theorem ref_g2 (T : Fin 8192) (l : Fin 2048) : val_main_v2 (F := Ideal) x1 x2 (ix2 T l) = gR x1 x2 T l := by
  pointwise [val_main_v2, val_main_v1, val_main_v0, val_main_call0_v5, val_main_call0_v4, val_main_call0_cst_0, val_main_call0_v3, val_main_call0_v2, val_main_call0_cst, val_main_call0_v1, val_main_call0_v0]
  rfl
theorem ref_g (T : Fin 8192) (q : Fin 4) (j : Fin 512) : val_main_v3 (F := Ideal) x1 x2 (ix3 T q j) = gR x1 x2 T (col q j) := by
  rw [← ref_g2]
  pointwise [val_main_v3]
  exact congrArg (fun l => val_main_v2 (F := Ideal) x1 x2 (ix2 T l)) (col_eq q j)
theorem ref_n (T : Fin 8192) (q : Fin 4) (j : Fin 512) : val_main_v13 (F := Ideal) x1 x2 (ix3 T q j) = nrow (gR x1 x2 T) q j := by
  pointwise [val_main_v13, val_main_v12, val_main_v11, val_main_v10, val_main_v9, val_main_v8, val_main_v7, val_main_v6, val_main_v5, val_main_v4, val_main_cst, val_main_cst_0, val_main_cst_1]
  simp only [ref_g]
  rfl
theorem ref_yn (T : Fin 8192) (q : Fin 4) (j : Fin 512) : val_main_v18 (F := Ideal) x1 x2 x3 (ix2 T (col q j)) = nrow (gR x1 x2 T) q j * x3 (ix1 (col q j)) := by
  have e : val_main_v17 (F := Ideal) x1 x2 x3 (ix3 T q j) = nrow (gR x1 x2 T) q j * x3 (ix1 (col q j)) := by
    pointwise [val_main_v17, val_main_v16, val_main_v15, val_main_v14]
    rw [ref_n]
    exact congrArg (fun l => nrow (gR x1 x2 T) q j * x3 (ix1 l)) (col_eq q j)
  rw [← e]
  pointwise [val_main_v18]
  exact congrArg₂ (fun (a : Fin 4) (b : Fin 512) => val_main_v17 (F := Ideal) x1 x2 x3 (ix3 T a b)) (grpOf_col q j) (plc_col q j)
theorem ref_out (T : Fin 8192) (k : Fin 1024) : val_main_v20 (F := Ideal) x0 x1 x2 x3 x4 (ix2 T k) =
    gateOut (x0 (ix2 T k)) (fun l => x1 (ix2 T l)) (fun l => x2 (ix2 T ⟨l.val, by omega⟩)) (fun l => x3 (ix1 l)) (fun l => x4 (ix2 l k)) := by
  unfold gateOut
  pointwise [val_main_v20, val_main_v19]
  refine congrArg (fun t : EReal => x0 (ix2 T k) + t) (Finset.sum_congr rfl fun l _ => congrArg (fun t : EReal => t * x4 (ix2 l k)) ?_)
  obtain ⟨q, j, rfl⟩ := exists_col l
  rw [ref_yn, grpOf_col, plc_col]
end

/-! ## The claims -/

section
open Cert.GateFwdIdeal Cert.GateFwdIdeal.Gen Idealize.ShloMosaic Idealize.ShloMosaic.TcCoe Idealize.SL.Sem Cert.Util Cert.Gate
/-- The reference's frame: its run read at the arguments; it has no semaphore. -/
theorem frame_ref : Cert.quiescent_GateFwdRefIdeal (hGateFwdRefIdeal := Cert.GateFwdRefIdeal.Gen.facts) := fun m ρ _ =>
  (θ_run Cert.GateFwdRefIdeal.defs _ _).mono (fun r h => ⟨fun c => (h c).2, sem_eq_zero_of_no_sems (by decide) r.2⟩)
    (Cert.GateFwdRefIdeal.Value.run (F := Ideal) m ρ)

/-- The output gate forward: the kernel's array is the reference's. -/
theorem algebraic : Cert.algebraic_GateFwdIdeal_GateFwdRefIdeal (hGateFwdIdeal := Cert.GateFwdIdeal.Gen.facts)
    (hGateFwdRefIdeal := Cert.GateFwdRefIdeal.Gen.facts) := by
  intro m g m' g' _ hm
  refine ⟨outArr m, ?_, ?_⟩
  · exact (θ_run _ _ _).mono (fun r h c => ⟨(h c).1.trans (final m c), (h c).2⟩) (Cert.GateFwdIdeal.Value.run_blocks m g)
  · refine (θ_run _ _ _).mono (fun r h c => ⟨(h c).1.trans ?_, (h c).2⟩) (Cert.GateFwdRefIdeal.Value.run m' g')
    obtain ⟨a0, a1, a2, a3, a4⟩ := hm c
    rw [Cert.GateFwdRefIdeal.Read.val_main_v20_eq, a0, a1, a2, a3, a4]
    funext i
    obtain ⟨T, k, rfl⟩ : ∃ (T : Fin 8192) (k : Fin 1024), i = ix2 T k := ⟨i 0, i 1, eq_ix2 i⟩
    exact ref_out _ _ _ _ _ T k
end

end Cert.GateFwdIdeal.Hand
end
-- ==== Proof.NormFwdQValue.lean ====
module

public import proofs.«01_k».proof.Proof.NormMath
public import proofs.«01_k».proof.Defs
public import proofs.«01_k».proof.Proof.Gen.NormFwdQIdeal.Value
public import proofs.«01_k».proof.Proof.Gen.NormFwdQRefIdeal.Run
public import proofs.«01_k».proof.Proof.Gen.NormFwdQRefIdeal.Read
public import Idealize.ShloMosaic.Lib.Claim

/-! The norm and its product, the queries: the kernel computes the reference's array. -/

@[expose] public section
set_option maxRecDepth 16384
noncomputable section
namespace Cert.NormFwdQIdeal.Hand

section
open Cert.NormFwdQIdeal Cert.NormFwdQIdeal.Gen Idealize.ShloMosaic Idealize.ShloMosaic.TcCoe Idealize.SL.Sem Cert.Norm
open Idealize.ShloMosaic.Pipeline (Dat)

/-! ## What a point computes -/

section
variable (h : FVec Ideal S1024x1024 .f32) (g : FVec Ideal S1x1024 .f32) (u : FVec Ideal S1024x1024 .bf16) (w : FVec Ideal S1024x1024 .bf16)
theorem pay1_apply (r l : Fin 1024) : k0_pay1 (F := Ideal) h g (ix2 r l) = normRow (fun k => h (ix2 r k)) (fun k => g (ix2 0 k)) l := by
  pointwise [k0_pay1]
  rfl
theorem pay2_apply (r : Fin 1024) (k : Fin 1024) : k0_pay2 (F := Ideal) u w (ix2 r k) = (∑ l : Fin 1024, u (ix2 r l) * w (ix2 l k) : EReal) := by
  pointwise [k0_pay2]
end

theorem hz : (![0, 0] : Fin 2 → Nat) = fun _ => 0 := funext fun a => by fin_cases a <;> rfl
section
variable (c : Dev nD) (i : grid0.Coords) (arg2 : Memref sig .tc .vmem S1024x1024 .f32) (harg2 : arg2.IsWhole) (arg3 : Memref sig .tc .vmem S1x1024 .f32) (harg3 : arg3.IsWhole)
  (arg4 : Memref sig .tc .vmem S1024x1024 .bf16) (harg4 : arg4.IsWhole) (arg5 : Memref sig .tc .vmem S1024x1024 .f32) (harg5 : arg5.IsWhole)
  (arg6 : Memref sig .tc .vmem S1024x1024 .bf16) (harg6 : arg6.IsWhole)
  (x0 : Vec Ideal S1024x1024 .f32) (x1 : Vec Ideal S1x1024 .f32) (x2 : Vec Ideal S1024x1024 .bf16) (xs0 : Vec Ideal S1024x1024 .bf16)
theorem outA (hc0 : cond0_0 i) : out0_A_3 c i arg2 harg2 arg3 harg3 arg4 harg4 arg5 harg5 arg6 harg6 hc0 x0 x1 x2 = k0_pay2 (F := Ideal) (k0_pay1 x0 x1) x2 := by
  unfold out0_A_3
  rw [View.read_writes_eq_canon _ _ _ (fun y => cover0_A_3 (y := y) ..)]
  unfold kernelRun0_A
  dsimp only
  sl_unfold_words
  simp only [View.canon_cons_unit_zero (S := S1024x1024) hz, View.canon_unit_zero (S := S1024x1024) hz]
  simp only [View.readAt_eq_ld, Memref.IsWhole.read_unread, View.readCov_cons_toLoadRect,
    View.ld_unit_zero (S := S1024x1024) hz, View.ld_unit_zero (S := S1x1024) hz]
end

/-! ## The blocks a point reads, and the array it leaves -/

theorem ltN (t : Fin cfg0.N) : t.val < 8 := lt_of_lt_of_eq t.isLt N_0
/-- Row `r` of the arrays at a point. -/
abbrev row (t : ℕ) (r : Fin 1024) : Fin 8192 := ⟨(1024 * (t) + r.val) % 8192, Nat.mod_lt _ (by norm_num)⟩
/-- Which block each window holds at a point. -/
theorem idxs (t : Fin cfg0.N) : (win0_0.index t 0 = t.val ∧ win0_0.index t 1 = 0) ∧ (win0_1.index t 0 = 0 ∧ win0_1.index t 1 = 0) ∧
    (win0_2.index t 0 = 0 ∧ win0_2.index t 1 = 0) ∧ win0_3.index t 0 = t.val ∧ win0_3.index t 1 = 0 :=
  (by decide +kernel : ∀ t : Fin grid0.N, (win0_0.index t 0 = t.val ∧ win0_0.index t 1 = 0) ∧ (win0_1.index t 0 = 0 ∧ win0_1.index t 1 = 0) ∧
    (win0_2.index t 0 = 0 ∧ win0_2.index t 1 = 0) ∧ win0_3.index t 0 = t.val ∧ win0_3.index t 1 = 0) t

section
variable (μ : (ℓ : Loc nD τ sig) → Buf (Elt Ideal) ℓ) (c : Dev nD) (t : Fin cfg0.N)
theorem V_g : V μ c main_v0 = shapeCast S1x1024 (μ ((c : Thread nD τ).loc main_arg1)) shapeCasts_S1024_S1x1024 := by rfl
theorem V_w (l k : Fin 1024) : V μ c main_v1 (ix2 l k) = μ ((c : Thread nD τ).loc main_arg2) (ix2 l k) := by rfl
/-- Column `k` of the array at a point. -/
abbrev colAt (t : ℕ) (k : Fin 1024) : Fin 1024 := k
theorem blk0 (r l : Fin 1024) : (iblk μ c 0 t : Vec Ideal S1024x1024 .f32) (ix2 r l) = μ ((c : Thread nD τ).loc main_arg0) (ix2 (row t.val r) l) := by
  unfold iblk
  rw [View.read_apply]
  show V μ c main_arg0 _ = _
  rw [V_main_arg0]
  obtain ⟨h0, h1⟩ := (idxs t).1
  have ht := ltN t
  congr 1; funext a; apply Fin.ext
  match a with
  | ⟨0, _⟩ => show win0_0.index t 0 * 1024 + 1 * r.val = (1024 * (t.val) + r.val) % 8192; rw [h0]; omega
  | ⟨1, _⟩ => show win0_0.index t 1 * 1024 + 1 * l.val = l.val; rw [h1]; omega
theorem blk1 (l : Fin 1024) : (iblk μ c 1 t : Vec Ideal S1x1024 .f32) (ix2 0 l) = μ ((c : Thread nD τ).loc main_arg1) (ix1 l) := by
  unfold iblk
  rw [View.read_apply]
  show V μ c main_v0 _ = _
  rw [V_g]
  have e : ((cfg0.win 1).blk t).view.emb (ix2 0 l) = (ix2 0 l : S1x1024.Idx) := by
    obtain ⟨h0, h1⟩ := (idxs t).2.1
    funext a; apply Fin.ext
    match a with
    | ⟨0, _⟩ => show win0_1.index t 0 * 1 + 1 * 0 = 0; rw [h0]
    | ⟨1, _⟩ => show win0_1.index t 1 * 1024 + 1 * l.val = l.val; rw [h1]; omega
  refine (congrArg _ e).trans ?_
  pointwise []
/-- Column `k` of the weights. -/
def wCol (k : Fin 1024) (l : Fin 1024) : EReal := μ ((c : Thread nD τ).loc main_arg2) (ix2 l k)
theorem blk2 (l : Fin 1024) (k : Fin 1024) : (iblk μ c 2 t : Vec Ideal S1024x1024 .bf16) (ix2 l k) = wCol μ c (colAt t.val k) l := by
  unfold iblk
  rw [View.read_apply]
  show V μ c main_v1 _ = _
  have e : ((cfg0.win 2).blk t).view.emb (ix2 l k) = (ix2 l (colAt t.val k) : S1024x1024.Idx) := by
    obtain ⟨h0, h1⟩ := (idxs t).2.2.1
    funext a; apply Fin.ext
    match a with
    | ⟨0, _⟩ => show win0_2.index t 0 * 1024 + 1 * l.val = l.val; rw [h0]; omega
    | ⟨1, _⟩ => show win0_2.index t 1 * 1024 + 1 * k.val = (colAt t.val k).val; rw [h1]; dsimp only [colAt]; omega
  refine (congrArg _ e).trans ?_
  exact V_w μ c l _

/-- Row `T` of the norm's output. -/
abbrev uM (T : Fin 8192) : Fin 1024 → EReal :=
  normRow (fun l => μ ((c : Thread nD τ).loc main_arg0) (ix2 T l)) (fun l => μ ((c : Thread nD τ).loc main_arg1) (ix1 l))
/-- An entry of the product. -/
def outM (T : Fin 8192) (k : Fin 1024) : EReal := ∑ l, uM μ c T l * wCol μ c k l
/-- The product. -/
def outArr : FVec Ideal S8192x1024 .f32 := fun i => outM μ c (i 0) (i 1)
theorem u_at (r l : Fin 1024) : k0_pay1 (F := Ideal) (iblk μ c 0 t) (iblk μ c 1 t) (ix2 r l) = uM μ c (row t.val r) l := by
  refine (pay1_apply _ _ r l).trans ?_
  unfold uM
  congr 1
  · exact funext fun k => blk0 μ c t r k
  · exact funext fun k => blk1 μ c t k
/-- What a point leaves. -/
theorem out_at (r : Fin 1024) (k : Fin 1024) : outsAt0 μ c t (ix2 r k) = outM μ c (row t.val r) (colAt t.val k) := by
  unfold outsAt0
  rw [outA]
  refine (pay2_apply _ _ r k).trans ?_
  unfold outM
  exact Finset.sum_congr rfl fun l _ => congrArg₂ (fun (a b : EReal) => a * b) (u_at μ c t r l) (blk2 μ c t l k)

/-- The array the run leaves. -/
theorem final : (dats μ 0 c).arrAt 3 cfg0.N = outArr μ c := by
  refine (dats μ 0 c).arrAt_eq_of_cover 3 (outArr μ c) (fun t _ => ?_) fun i => ?_
  · rw [Value.flushed3]
    obtain ⟨h0, h1⟩ := (idxs t).2.2.2
    have ht := ltN t
    funext j
    rw [View.read_apply]
    obtain ⟨r, k, rfl⟩ : ∃ (r : Fin 1024) (k : Fin 1024), j = ix2 r k := ⟨j 0, j 1, eq_ix2 j⟩
    have he : ((cfg0.win 3).blk t).view.emb (ix2 r k) = (ix2 (row t.val r) (colAt t.val k) : S8192x1024.Idx) := by
      funext a; apply Fin.ext
      match a with
      | ⟨0, _⟩ => show win0_3.index t 0 * 1024 + 1 * r.val = (1024 * (t.val) + r.val) % 8192; rw [h0]; omega
      | ⟨1, _⟩ => show win0_3.index t 1 * 1024 + 1 * k.val = (colAt t.val k).val; rw [h1]; dsimp only [colAt]; omega
    rw [he]
    exact out_at μ c t r k
  · have l0 : (i 0 : Nat) < 8192 := (i 0).isLt
    have l1 : (i 1 : Nat) < 1024 := (i 1).isLt
    have hN : cfg0.N = 8 := N_0
    let t : Fin cfg0.N := ⟨(i 0 : Nat) / 1024, by omega⟩
    refine ⟨t, flush0_3 t, ?_⟩
    show i ∈ ((View.whole main_v2).slice (win0_3.rect t)).set
    rw [View.set_slice_whole, Rect.mem_set_unit]
    obtain ⟨h0, h1⟩ := (idxs t).2.2.2
    intro a
    match a with
    | ⟨0, _⟩ => show win0_3.index t 0 * 1024 ≤ (i 0 : Nat) ∧ (i 0 : Nat) < win0_3.index t 0 * 1024 + 1024
                rw [h0]; dsimp only [t]; omega
    | ⟨1, _⟩ => show win0_3.index t 1 * 1024 ≤ (i 1 : Nat) ∧ (i 1 : Nat) < win0_3.index t 1 * 1024 + 1024
                rw [h1]; omega
end
end

/-! ## The reference, read at an index -/

section
open Cert.NormFwdQRefIdeal Cert.NormFwdQRefIdeal.Gen Cert.NormFwdQRefIdeal.Read Idealize.ShloMosaic Idealize.ShloMosaic.TcCoe Idealize.SL.Sem Cert.Norm
variable (x0 : FVec Ideal S8192x1024 .f32) (x1 : FVec Ideal S1024 .f32) (x2 : FVec Ideal S1024x1024 .f32)
theorem ref_u (T : Fin 8192) (l : Fin 1024) : val_main_v12 (F := Ideal) x0 x1 (ix2 T l) = normRow (fun k => x0 (ix2 T k)) (fun k => x1 (ix1 k)) l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl
theorem ref_dot (T : Fin 8192) (k : Fin 1024) : val_main_v13 (F := Ideal) x0 x1 x2 (ix2 T k) = ∑ l, normRow (fun k => x0 (ix2 T k)) (fun k => x1 (ix1 k)) l * x2 (ix2 l k) := by
  pointwise [val_main_v13]
  exact Finset.sum_congr rfl fun l _ => congrArg (fun a : EReal => a * x2 (ix2 l k)) (ref_u x0 x1 T l)
theorem ref_out (T : Fin 8192) (k : Fin 1024) : val_main_v13 (F := Ideal) x0 x1 x2 (ix2 T k) = ∑ l, normRow (fun k => x0 (ix2 T k)) (fun k => x1 (ix1 k)) l * x2 (ix2 l k) :=
  ref_dot x0 x1 x2 T k
end

/-! ## The claims -/

section
open Cert.NormFwdQIdeal Cert.NormFwdQIdeal.Gen Idealize.ShloMosaic Idealize.ShloMosaic.TcCoe Idealize.SL.Sem Cert.Norm
/-- The reference's frame: its run read at the arguments; it has no semaphore. -/
theorem frame_ref : Cert.quiescent_NormFwdQRefIdeal (hNormFwdQRefIdeal := Cert.NormFwdQRefIdeal.Gen.facts) := fun m ρ _ =>
  (θ_run Cert.NormFwdQRefIdeal.defs _ _).mono (fun r h => ⟨fun c => (h c).2, sem_eq_zero_of_no_sems (by decide) r.2⟩)
    (Cert.NormFwdQRefIdeal.Value.run (F := Ideal) m ρ)

/-- The norm and its product, the queries: the kernel's array is the reference's. -/
theorem algebraic : Cert.algebraic_NormFwdQIdeal_NormFwdQRefIdeal (hNormFwdQIdeal := Cert.NormFwdQIdeal.Gen.facts)
    (hNormFwdQRefIdeal := Cert.NormFwdQRefIdeal.Gen.facts) := by
  intro m g m' g' _ hm
  refine ⟨outArr m, ?_, ?_⟩
  · exact (θ_run _ _ _).mono (fun r h c => ⟨(h c).1.trans (final m c), (h c).2⟩) (Cert.NormFwdQIdeal.Value.run_blocks m g)
  · refine (θ_run _ _ _).mono (fun r h c => ⟨(h c).1.trans ?_, (h c).2⟩) (Cert.NormFwdQRefIdeal.Value.run m' g')
    obtain ⟨a0, a1, a2⟩ := hm c
    rw [Cert.NormFwdQRefIdeal.Read.val_main_v13_eq, a0, a1, a2]
    funext i
    obtain ⟨T, k, rfl⟩ : ∃ (T : Fin 8192) (k : Fin 1024), i = ix2 T k := ⟨i 0, i 1, eq_ix2 i⟩
    exact ref_out _ _ _ T k
end

end Cert.NormFwdQIdeal.Hand
end
-- ==== Proof.NormFwdKvValue.lean ====
module

public import proofs.«01_k».proof.Proof.NormMath
public import proofs.«01_k».proof.Defs
public import proofs.«01_k».proof.Proof.Gen.NormFwdKvIdeal.Value
public import proofs.«01_k».proof.Proof.Gen.NormFwdKvRefIdeal.Run
public import proofs.«01_k».proof.Proof.Gen.NormFwdKvRefIdeal.Read
public import Idealize.ShloMosaic.Lib.Claim

/-! The norm and its product, the keys and values, each head twice: the kernel computes the reference's array. -/

@[expose] public section
set_option maxRecDepth 16384
noncomputable section
namespace Cert.NormFwdKvIdeal.Hand

section
open Cert.NormFwdKvIdeal Cert.NormFwdKvIdeal.Gen Idealize.ShloMosaic Idealize.ShloMosaic.TcCoe Idealize.SL.Sem Cert.Norm
open Idealize.ShloMosaic.Pipeline (Dat)

/-! ## What a point computes -/

section
variable (h : FVec Ideal S1024x1024 .f32) (g : FVec Ideal S1x1024 .f32) (u : FVec Ideal S1024x1024 .bf16) (w : FVec Ideal S1024x512 .bf16)
theorem pay1_apply (r l : Fin 1024) : k0_pay1 (F := Ideal) h g (ix2 r l) = normRow (fun k => h (ix2 r k)) (fun k => g (ix2 0 k)) l := by
  pointwise [k0_pay1]
  rfl
theorem pay2_apply (r : Fin 1024) (k : Fin 512) : k0_pay2 (F := Ideal) u w (ix2 r k) = (∑ l : Fin 1024, u (ix2 r l) * w (ix2 l k) : EReal) := by
  pointwise [k0_pay2]
end

theorem hz : (![0, 0] : Fin 2 → Nat) = fun _ => 0 := funext fun a => by fin_cases a <;> rfl
section
variable (c : Dev nD) (i : grid0.Coords) (arg2 : Memref sig .tc .vmem S1024x1024 .f32) (harg2 : arg2.IsWhole) (arg3 : Memref sig .tc .vmem S1x1024 .f32) (harg3 : arg3.IsWhole)
  (arg4 : Memref sig .tc .vmem S1024x512 .bf16) (harg4 : arg4.IsWhole) (arg5 : Memref sig .tc .vmem S1024x512 .f32) (harg5 : arg5.IsWhole)
  (arg6 : Memref sig .tc .vmem S1024x1024 .bf16) (harg6 : arg6.IsWhole)
  (x0 : Vec Ideal S1024x1024 .f32) (x1 : Vec Ideal S1x1024 .f32) (x2 : Vec Ideal S1024x512 .bf16) (xs0 : Vec Ideal S1024x1024 .bf16)
theorem outA (hc0 : cond0_0 i) : out0_A_3 c i arg2 harg2 arg3 harg3 arg4 harg4 arg5 harg5 arg6 harg6 hc0 x0 x1 x2 = k0_pay2 (F := Ideal) (k0_pay1 x0 x1) x2 := by
  unfold out0_A_3
  rw [View.read_writes_eq_canon _ _ _ (fun y => cover0_A_3 (y := y) ..)]
  unfold kernelRun0_A
  dsimp only
  sl_unfold_words
  simp only [View.canon_cons_unit_zero (S := S1024x512) hz, View.canon_unit_zero (S := S1024x512) hz]
  simp only [View.readAt_eq_ld, Memref.IsWhole.read_unread, View.readCov_cons_toLoadRect,
    View.ld_unit_zero (S := S1024x1024) hz, View.ld_unit_zero (S := S1x1024) hz, View.ld_unit_zero (S := S1024x512) hz]
end

/-! ## The blocks a point reads, and the array it leaves -/

theorem ltN (t : Fin cfg0.N) : t.val < 8 := lt_of_lt_of_eq t.isLt N_0
/-- Row `r` of the arrays at a point. -/
abbrev row (t : ℕ) (r : Fin 1024) : Fin 8192 := ⟨(1024 * (t) + r.val) % 8192, Nat.mod_lt _ (by norm_num)⟩
/-- Which block each window holds at a point. -/
theorem idxs (t : Fin cfg0.N) : (win0_0.index t 0 = t.val ∧ win0_0.index t 1 = 0) ∧ (win0_1.index t 0 = 0 ∧ win0_1.index t 1 = 0) ∧
    (win0_2.index t 0 = 0 ∧ win0_2.index t 1 = 0) ∧ win0_3.index t 0 = t.val ∧ win0_3.index t 1 = 0 :=
  (by decide +kernel : ∀ t : Fin grid0.N, (win0_0.index t 0 = t.val ∧ win0_0.index t 1 = 0) ∧ (win0_1.index t 0 = 0 ∧ win0_1.index t 1 = 0) ∧
    (win0_2.index t 0 = 0 ∧ win0_2.index t 1 = 0) ∧ win0_3.index t 0 = t.val ∧ win0_3.index t 1 = 0) t

section
variable (μ : (ℓ : Loc nD τ sig) → Buf (Elt Ideal) ℓ) (c : Dev nD) (t : Fin cfg0.N)
theorem V_g : V μ c main_v0 = shapeCast S1x1024 (μ ((c : Thread nD τ).loc main_arg1)) shapeCasts_S1024_S1x1024 := by rfl
theorem V_w (l : Fin 1024) (k : Fin 512) : V μ c main_v4 (ix2 l k) = μ ((c : Thread nD τ).loc main_arg2) (ix2 l (headCol k)) := by
  have e : V μ c main_v4 = (truncf .bf16 (shapeCast S1024x512 (broadcastInDim S1024x4x2x64 ![0, 1, 2, 3] bcast_S1024x4x1x64_S1024x4x2x64_0_1_2_3
    (shapeCast S1024x4x1x64 (μ ((c : Thread nD τ).loc main_arg2)) shapeCasts_S1024x256_S1024x4x1x64)) shapeCasts_S1024x4x2x64_S1024x512 : FVec Ideal S1024x512 .f32)
    bitsLt_bf16_f32 : FVec Ideal S1024x512 .bf16) := by rfl
  rw [e]
  pointwise []
/-- Column `k` of the array at a point. -/
abbrev colAt (t : ℕ) (k : Fin 512) : Fin 512 := k
theorem blk0 (r l : Fin 1024) : (iblk μ c 0 t : Vec Ideal S1024x1024 .f32) (ix2 r l) = μ ((c : Thread nD τ).loc main_arg0) (ix2 (row t.val r) l) := by
  unfold iblk
  rw [View.read_apply]
  show V μ c main_arg0 _ = _
  rw [V_main_arg0]
  obtain ⟨h0, h1⟩ := (idxs t).1
  have ht := ltN t
  congr 1; funext a; apply Fin.ext
  match a with
  | ⟨0, _⟩ => show win0_0.index t 0 * 1024 + 1 * r.val = (1024 * (t.val) + r.val) % 8192; rw [h0]; omega
  | ⟨1, _⟩ => show win0_0.index t 1 * 1024 + 1 * l.val = l.val; rw [h1]; omega
theorem blk1 (l : Fin 1024) : (iblk μ c 1 t : Vec Ideal S1x1024 .f32) (ix2 0 l) = μ ((c : Thread nD τ).loc main_arg1) (ix1 l) := by
  unfold iblk
  rw [View.read_apply]
  show V μ c main_v0 _ = _
  rw [V_g]
  have e : ((cfg0.win 1).blk t).view.emb (ix2 0 l) = (ix2 0 l : S1x1024.Idx) := by
    obtain ⟨h0, h1⟩ := (idxs t).2.1
    funext a; apply Fin.ext
    match a with
    | ⟨0, _⟩ => show win0_1.index t 0 * 1 + 1 * 0 = 0; rw [h0]
    | ⟨1, _⟩ => show win0_1.index t 1 * 1024 + 1 * l.val = l.val; rw [h1]; omega
  refine (congrArg _ e).trans ?_
  pointwise []
/-- Column `k` of the weights. -/
def wCol (k : Fin 512) (l : Fin 1024) : EReal := μ ((c : Thread nD τ).loc main_arg2) (ix2 l (headCol k))
theorem blk2 (l : Fin 1024) (k : Fin 512) : (iblk μ c 2 t : Vec Ideal S1024x512 .bf16) (ix2 l k) = wCol μ c (colAt t.val k) l := by
  unfold iblk
  rw [View.read_apply]
  show V μ c main_v4 _ = _
  have e : ((cfg0.win 2).blk t).view.emb (ix2 l k) = (ix2 l (colAt t.val k) : S1024x512.Idx) := by
    obtain ⟨h0, h1⟩ := (idxs t).2.2.1
    funext a; apply Fin.ext
    match a with
    | ⟨0, _⟩ => show win0_2.index t 0 * 1024 + 1 * l.val = l.val; rw [h0]; omega
    | ⟨1, _⟩ => show win0_2.index t 1 * 512 + 1 * k.val = (colAt t.val k).val; rw [h1]; dsimp only [colAt]; omega
  refine (congrArg _ e).trans ?_
  exact V_w μ c l _

/-- Row `T` of the norm's output. -/
abbrev uM (T : Fin 8192) : Fin 1024 → EReal :=
  normRow (fun l => μ ((c : Thread nD τ).loc main_arg0) (ix2 T l)) (fun l => μ ((c : Thread nD τ).loc main_arg1) (ix1 l))
/-- An entry of the product. -/
def outM (T : Fin 8192) (k : Fin 512) : EReal := ∑ l, uM μ c T l * wCol μ c k l
/-- The product. -/
def outArr : FVec Ideal S8192x512 .f32 := fun i => outM μ c (i 0) (i 1)
theorem u_at (r l : Fin 1024) : k0_pay1 (F := Ideal) (iblk μ c 0 t) (iblk μ c 1 t) (ix2 r l) = uM μ c (row t.val r) l := by
  refine (pay1_apply _ _ r l).trans ?_
  unfold uM
  congr 1
  · exact funext fun k => blk0 μ c t r k
  · exact funext fun k => blk1 μ c t k
/-- What a point leaves. -/
theorem out_at (r : Fin 1024) (k : Fin 512) : outsAt0 μ c t (ix2 r k) = outM μ c (row t.val r) (colAt t.val k) := by
  unfold outsAt0
  rw [outA]
  refine (pay2_apply _ _ r k).trans ?_
  unfold outM
  exact Finset.sum_congr rfl fun l _ => congrArg₂ (fun (a b : EReal) => a * b) (u_at μ c t r l) (blk2 μ c t l k)

/-- The array the run leaves. -/
theorem final : (dats μ 0 c).arrAt 3 cfg0.N = outArr μ c := by
  refine (dats μ 0 c).arrAt_eq_of_cover 3 (outArr μ c) (fun t _ => ?_) fun i => ?_
  · rw [Value.flushed3]
    obtain ⟨h0, h1⟩ := (idxs t).2.2.2
    have ht := ltN t
    funext j
    rw [View.read_apply]
    obtain ⟨r, k, rfl⟩ : ∃ (r : Fin 1024) (k : Fin 512), j = ix2 r k := ⟨j 0, j 1, eq_ix2 j⟩
    have he : ((cfg0.win 3).blk t).view.emb (ix2 r k) = (ix2 (row t.val r) (colAt t.val k) : S8192x512.Idx) := by
      funext a; apply Fin.ext
      match a with
      | ⟨0, _⟩ => show win0_3.index t 0 * 1024 + 1 * r.val = (1024 * (t.val) + r.val) % 8192; rw [h0]; omega
      | ⟨1, _⟩ => show win0_3.index t 1 * 512 + 1 * k.val = (colAt t.val k).val; rw [h1]; dsimp only [colAt]; omega
    rw [he]
    exact out_at μ c t r k
  · have l0 : (i 0 : Nat) < 8192 := (i 0).isLt
    have l1 : (i 1 : Nat) < 512 := (i 1).isLt
    have hN : cfg0.N = 8 := N_0
    let t : Fin cfg0.N := ⟨(i 0 : Nat) / 1024, by omega⟩
    refine ⟨t, flush0_3 t, ?_⟩
    show i ∈ ((View.whole main_v5).slice (win0_3.rect t)).set
    rw [View.set_slice_whole, Rect.mem_set_unit]
    obtain ⟨h0, h1⟩ := (idxs t).2.2.2
    intro a
    match a with
    | ⟨0, _⟩ => show win0_3.index t 0 * 1024 ≤ (i 0 : Nat) ∧ (i 0 : Nat) < win0_3.index t 0 * 1024 + 1024
                rw [h0]; dsimp only [t]; omega
    | ⟨1, _⟩ => show win0_3.index t 1 * 512 ≤ (i 1 : Nat) ∧ (i 1 : Nat) < win0_3.index t 1 * 512 + 512
                rw [h1]; omega
end
end

/-! ## The reference, read at an index -/

section
open Cert.NormFwdKvRefIdeal Cert.NormFwdKvRefIdeal.Gen Cert.NormFwdKvRefIdeal.Read Idealize.ShloMosaic Idealize.ShloMosaic.TcCoe Idealize.SL.Sem Cert.Norm
variable (x0 : FVec Ideal S8192x1024 .f32) (x1 : FVec Ideal S1024 .f32) (x2 : FVec Ideal S1024x256 .f32)
theorem ref_u (T : Fin 8192) (l : Fin 1024) : val_main_v12 (F := Ideal) x0 x1 (ix2 T l) = normRow (fun k => x0 (ix2 T k)) (fun k => x1 (ix1 k)) l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl
theorem ref_dot (T : Fin 8192) (k : Fin 256) : val_main_v13 (F := Ideal) x0 x1 x2 (ix2 T k) = ∑ l, normRow (fun k => x0 (ix2 T k)) (fun k => x1 (ix1 k)) l * x2 (ix2 l k) := by
  pointwise [val_main_v13]
  exact Finset.sum_congr rfl fun l _ => congrArg (fun a : EReal => a * x2 (ix2 l k)) (ref_u x0 x1 T l)
theorem ref_out (T : Fin 8192) (k : Fin 512) : val_main_v16 (F := Ideal) x0 x1 x2 (ix2 T k) = ∑ l, normRow (fun k => x0 (ix2 T k)) (fun k => x1 (ix1 k)) l * x2 (ix2 l (headCol k)) := by
  rw [← ref_dot]
  pointwise [val_main_v16, val_main_v15, val_main_v14]
end

/-! ## The claims -/

section
open Cert.NormFwdKvIdeal Cert.NormFwdKvIdeal.Gen Idealize.ShloMosaic Idealize.ShloMosaic.TcCoe Idealize.SL.Sem Cert.Norm
/-- The reference's frame: its run read at the arguments; it has no semaphore. -/
theorem frame_ref : Cert.quiescent_NormFwdKvRefIdeal (hNormFwdKvRefIdeal := Cert.NormFwdKvRefIdeal.Gen.facts) := fun m ρ _ =>
  (θ_run Cert.NormFwdKvRefIdeal.defs _ _).mono (fun r h => ⟨fun c => (h c).2, sem_eq_zero_of_no_sems (by decide) r.2⟩)
    (Cert.NormFwdKvRefIdeal.Value.run (F := Ideal) m ρ)

/-- The norm and its product, the keys and values, each head twice: the kernel's array is the reference's. -/
theorem algebraic : Cert.algebraic_NormFwdKvIdeal_NormFwdKvRefIdeal (hNormFwdKvIdeal := Cert.NormFwdKvIdeal.Gen.facts)
    (hNormFwdKvRefIdeal := Cert.NormFwdKvRefIdeal.Gen.facts) := by
  intro m g m' g' _ hm
  refine ⟨outArr m, ?_, ?_⟩
  · exact (θ_run _ _ _).mono (fun r h c => ⟨(h c).1.trans (final m c), (h c).2⟩) (Cert.NormFwdKvIdeal.Value.run_blocks m g)
  · refine (θ_run _ _ _).mono (fun r h c => ⟨(h c).1.trans ?_, (h c).2⟩) (Cert.NormFwdKvRefIdeal.Value.run m' g')
    obtain ⟨a0, a1, a2⟩ := hm c
    rw [Cert.NormFwdKvRefIdeal.Read.val_main_v16_eq, a0, a1, a2]
    funext i
    obtain ⟨T, k, rfl⟩ : ∃ (T : Fin 8192) (k : Fin 512), i = ix2 T k := ⟨i 0, i 1, eq_ix2 i⟩
    exact ref_out _ _ _ T k
end

end Cert.NormFwdKvIdeal.Hand
end
-- ==== Proof.NormFwdInValue.lean ====
module

public import proofs.«01_k».proof.Proof.NormMath
public import proofs.«01_k».proof.Defs
public import proofs.«01_k».proof.Proof.Gen.NormFwdInIdeal.Value
public import proofs.«01_k».proof.Proof.Gen.NormFwdInRefIdeal.Run
public import Idealize.ShloMosaic.Lib.Claim

/-! The norm and its product, the state-space input: the kernel computes the reference's array. -/

@[expose] public section
set_option maxRecDepth 16384
noncomputable section
namespace Cert.NormFwdInIdeal.Hand

section
open Cert.NormFwdInIdeal Cert.NormFwdInIdeal.Gen Idealize.ShloMosaic Idealize.ShloMosaic.TcCoe Idealize.SL.Sem Cert.Norm
open Idealize.ShloMosaic.Pipeline (Dat)

/-! ## What a point computes -/

section
variable (h : FVec Ideal S1024x1024 .f32) (g : FVec Ideal S1x1024 .f32) (u : FVec Ideal S1024x1024 .bf16) (w : FVec Ideal S1024x1408 .bf16)
theorem pay1_apply (r l : Fin 1024) : k0_pay1 (F := Ideal) h g (ix2 r l) = normRow (fun k => h (ix2 r k)) (fun k => g (ix2 0 k)) l := by
  pointwise [k0_pay1]
  rfl
theorem pay2_apply (r : Fin 1024) (k : Fin 1408) : k0_pay2 (F := Ideal) u w (ix2 r k) = (∑ l : Fin 1024, u (ix2 r l) * w (ix2 l k) : EReal) := by
  pointwise [k0_pay2]
end

theorem hz : (![0, 0] : Fin 2 → Nat) = fun _ => 0 := funext fun a => by fin_cases a <;> rfl
section
variable (c : Dev nD) (i : grid0.Coords) (arg2 : Memref sig .tc .vmem S1024x1024 .f32) (harg2 : arg2.IsWhole) (arg3 : Memref sig .tc .vmem S1x1024 .f32) (harg3 : arg3.IsWhole)
  (arg4 : Memref sig .tc .vmem S1024x1408 .bf16) (harg4 : arg4.IsWhole) (arg5 : Memref sig .tc .vmem S1024x1408 .f32) (harg5 : arg5.IsWhole)
  (arg6 : Memref sig .tc .vmem S1024x1024 .bf16) (harg6 : arg6.IsWhole)
  (x0 : Vec Ideal S1024x1024 .f32) (x1 : Vec Ideal S1x1024 .f32) (x2 : Vec Ideal S1024x1408 .bf16) (xs0 : Vec Ideal S1024x1024 .bf16)
theorem outA (hc0 : cond0_0 i) : out0_A_3 c i arg2 harg2 arg3 harg3 arg4 harg4 arg5 harg5 arg6 harg6 hc0 x0 x1 x2 = k0_pay2 (F := Ideal) (k0_pay1 x0 x1) x2 := by
  unfold out0_A_3
  rw [View.read_writes_eq_canon _ _ _ (fun y => cover0_A_3 (y := y) ..)]
  unfold kernelRun0_A
  dsimp only
  sl_unfold_words
  simp only [View.canon_cons_unit_zero (S := S1024x1408) hz, View.canon_unit_zero (S := S1024x1408) hz]
  simp only [View.readAt_eq_ld, Memref.IsWhole.read_unread, View.readCov_cons_toLoadRect,
    View.ld_unit_zero (S := S1024x1024) hz, View.ld_unit_zero (S := S1x1024) hz, View.ld_unit_zero (S := S1024x1408) hz]
theorem scrA (hc0 : cond0_0 i) : sout0_A_0 c i arg2 harg2 arg3 harg3 arg4 harg4 arg5 harg5 arg6 harg6 hc0 x0 x1 x2 = k0_pay1 (F := Ideal) x0 x1 := by
  unfold sout0_A_0
  rw [View.read_writes_eq_canon _ _ _ (fun y => scover0_A_0 (y := y) ..)]
  unfold kernelRun0_A
  dsimp only
  sl_unfold_words
  simp only [View.canon_cons_unit_zero (S := S1024x1024) hz, View.canon_unit_zero (S := S1024x1024) hz]
  simp only [View.readAt_eq_ld, Memref.IsWhole.read_unread, View.readCov_cons_toLoadRect,
    View.ld_unit_zero (S := S1024x1024) hz, View.ld_unit_zero (S := S1x1024) hz]
theorem outB (hc0 : ¬cond0_0 i) : out0_B_3 c i arg2 harg2 arg3 harg3 arg4 harg4 arg5 harg5 arg6 harg6 hc0 x0 x1 x2 xs0 = k0_pay2 (F := Ideal) xs0 x2 := by
  unfold out0_B_3
  rw [View.read_writes_eq_canon _ _ _ (fun y => cover0_B_3 (y := y) ..)]
  unfold kernelRun0_B
  dsimp only
  sl_unfold_words
  simp only [View.canon_cons_unit_zero (S := S1024x1408) hz, View.canon_unit_zero (S := S1024x1408) hz]
  simp only [View.readAt_eq_ld, Memref.IsWhole.read_unread, View.readCov_cons_toLoadRect,
    View.ld_unit_zero (S := S1024x1024) hz, View.ld_unit_zero (S := S1024x1408) hz]
end

/-! ## The blocks a point reads, and the array it leaves -/

theorem ltN (t : Fin cfg0.N) : t.val < 32 := lt_of_lt_of_eq t.isLt N_0
/-- Row `r` of the arrays at a point. -/
abbrev row (t : ℕ) (r : Fin 1024) : Fin 8192 := ⟨(1024 * (t / 4) + r.val) % 8192, Nat.mod_lt _ (by norm_num)⟩
/-- Which block each window holds at a point. -/
theorem idxs (t : Fin cfg0.N) : (win0_0.index t 0 = t.val / 4 ∧ win0_0.index t 1 = 0) ∧ (win0_1.index t 0 = 0 ∧ win0_1.index t 1 = 0) ∧
    (win0_2.index t 0 = 0 ∧ win0_2.index t 1 = t.val % 4) ∧ win0_3.index t 0 = t.val / 4 ∧ win0_3.index t 1 = t.val % 4 :=
  (by decide +kernel : ∀ t : Fin grid0.N, (win0_0.index t 0 = t.val / 4 ∧ win0_0.index t 1 = 0) ∧ (win0_1.index t 0 = 0 ∧ win0_1.index t 1 = 0) ∧
    (win0_2.index t 0 = 0 ∧ win0_2.index t 1 = t.val % 4) ∧ win0_3.index t 0 = t.val / 4 ∧ win0_3.index t 1 = t.val % 4) t

section
variable (μ : (ℓ : Loc nD τ sig) → Buf (Elt Ideal) ℓ) (c : Dev nD) (t : Fin cfg0.N)
theorem V_g : V μ c main_v3 = shapeCast S1x1024 (μ ((c : Thread nD τ).loc main_arg1)) shapeCasts_S1024_S1x1024 := by rfl
/-- The last 32 columns of the weights, set apart. -/
def headsW (w : Vec Ideal S1024x5152 .f32) : Vec Ideal S1024x512 .f32 :=
  shapeCast S1024x512 (pad S1024x4x128 ![0, 0, 0] ![0, 0, 120] ![0, 0, 0]
    (shapeCast S1024x4x8 (extractStridedSlice S1024x32 ![0, 5120] w slices_S1024x5152_S1024x32_0_5120) shapeCasts_S1024x32_S1024x4x8)
    (sitofp .f32 (constantI S_ 32 0#32) : FVec Ideal S_ .f32) pads_S1024x4x8_S1024x4x128_000_000_01200 h_S_) shapeCasts_S1024x4x128_S1024x512
/-- All the columns, the last 32 set apart. -/
def wideW (w : Vec Ideal S1024x5152 .f32) : Vec Ideal S1024x5632 .f32 :=
  concatenate S1024x5632 1 [⟨S1024x5120, extractStridedSlice S1024x5120 ![0, 0] w slices_S1024x5152_S1024x5120_0_0⟩, ⟨S1024x512, headsW w⟩]
    concatenates_S1024x5120_S1024x512_S1024x5632_d1
theorem headsW_apply (w : Vec Ideal S1024x5152 .f32) (r : Fin 1024) (k : Fin 512) : headsW w (ix2 r k) =
    if h : k.val % 128 < 8 then w (ix2 r ⟨5120 + (k.val / 128 * 8 + k.val % 128), by omega⟩) else 0 := by
  pointwise [headsW]
  have hz : FloatOps.sitofp (F := Ideal) .f32 0#32 = (0 : EReal) := by
    show (((0#32 : BitVec 32).toInt : ℝ) : EReal) = 0
    rw [show (0#32 : BitVec 32).toInt = 0 by decide, Int.cast_zero, EReal.coe_zero]
  by_cases h : k.val % 128 < 8
  · rw [dif_pos ⟨by omega, h⟩, dif_pos h]
  · rw [dif_neg (fun h' => h h'.2), dif_neg h]
    exact hz
theorem wideW_apply (w : Vec Ideal S1024x5152 .f32) (r : Fin 1024) (k : Fin 5632) : wideW w (ix2 r k) = spread (fun x => w (ix2 r x)) k := by
  pointwise [wideW]
  unfold spread
  by_cases h : k.val < 5120
  · rw [dif_pos h, dif_pos h]
  · rw [dif_neg h, dif_neg h, headsW_apply]
theorem V_w (l : Fin 1024) (k : Fin 5632) : V μ c main_v7 (ix2 l k) = spread (fun x => μ ((c : Thread nD τ).loc main_arg2) (ix2 l x)) k := by
  have e : V μ c main_v7 = wideW (μ ((c : Thread nD τ).loc main_arg2)) := by rfl
  rw [e]
  exact wideW_apply _ l k
/-- Column `k` of the array at a point. -/
abbrev colAt (t : ℕ) (k : Fin 1408) : Fin 5632 := ⟨1408 * (t % 4) + k.val, by omega⟩
theorem blk0 (r l : Fin 1024) : (iblk μ c 0 t : Vec Ideal S1024x1024 .f32) (ix2 r l) = μ ((c : Thread nD τ).loc main_arg0) (ix2 (row t.val r) l) := by
  unfold iblk
  rw [View.read_apply]
  show V μ c main_arg0 _ = _
  rw [V_main_arg0]
  obtain ⟨h0, h1⟩ := (idxs t).1
  have ht := ltN t
  congr 1; funext a; apply Fin.ext
  match a with
  | ⟨0, _⟩ => show win0_0.index t 0 * 1024 + 1 * r.val = (1024 * (t.val / 4) + r.val) % 8192; rw [h0]; omega
  | ⟨1, _⟩ => show win0_0.index t 1 * 1024 + 1 * l.val = l.val; rw [h1]; omega
theorem blk1 (l : Fin 1024) : (iblk μ c 1 t : Vec Ideal S1x1024 .f32) (ix2 0 l) = μ ((c : Thread nD τ).loc main_arg1) (ix1 l) := by
  unfold iblk
  rw [View.read_apply]
  show V μ c main_v3 _ = _
  rw [V_g]
  have e : ((cfg0.win 1).blk t).view.emb (ix2 0 l) = (ix2 0 l : S1x1024.Idx) := by
    obtain ⟨h0, h1⟩ := (idxs t).2.1
    funext a; apply Fin.ext
    match a with
    | ⟨0, _⟩ => show win0_1.index t 0 * 1 + 1 * 0 = 0; rw [h0]
    | ⟨1, _⟩ => show win0_1.index t 1 * 1024 + 1 * l.val = l.val; rw [h1]; omega
  refine (congrArg _ e).trans ?_
  pointwise []
/-- Column `k` of the weights. -/
def wCol (k : Fin 5632) (l : Fin 1024) : EReal := spread (fun x => μ ((c : Thread nD τ).loc main_arg2) (ix2 l x)) k
theorem blk2 (l : Fin 1024) (k : Fin 1408) : (iblk μ c 2 t : Vec Ideal S1024x1408 .bf16) (ix2 l k) = wCol μ c (colAt t.val k) l := by
  unfold iblk
  rw [View.read_apply]
  show V μ c main_v7 _ = _
  have e : ((cfg0.win 2).blk t).view.emb (ix2 l k) = (ix2 l (colAt t.val k) : S1024x5632.Idx) := by
    obtain ⟨h0, h1⟩ := (idxs t).2.2.1
    funext a; apply Fin.ext
    match a with
    | ⟨0, _⟩ => show win0_2.index t 0 * 1024 + 1 * l.val = l.val; rw [h0]; omega
    | ⟨1, _⟩ => show win0_2.index t 1 * 1408 + 1 * k.val = (colAt t.val k).val; rw [h1]; dsimp only [colAt]; omega
  refine (congrArg _ e).trans ?_
  exact V_w μ c l _

/-- Row `T` of the norm's output. -/
abbrev uM (T : Fin 8192) : Fin 1024 → EReal :=
  normRow (fun l => μ ((c : Thread nD τ).loc main_arg0) (ix2 T l)) (fun l => μ ((c : Thread nD τ).loc main_arg1) (ix1 l))
/-- An entry of the product. -/
def outM (T : Fin 8192) (k : Fin 5632) : EReal := ∑ l, uM μ c T l * wCol μ c k l
/-- The product. -/
def outArr : FVec Ideal S8192x5632 .f32 := fun i => outM μ c (i 0) (i 1)
theorem u_at (r l : Fin 1024) : k0_pay1 (F := Ideal) (iblk μ c 0 t) (iblk μ c 1 t) (ix2 r l) = uM μ c (row t.val r) l := by
  refine (pay1_apply _ _ r l).trans ?_
  unfold uM
  congr 1
  · exact funext fun k => blk0 μ c t r k
  · exact funext fun k => blk1 μ c t k
/-- The norm's output stays in the scratch while the columns' blocks pass. -/
theorem scr_at : ∀ (n : ℕ) (hn : n < cfg0.N) (r l : Fin 1024), (outsAt0 μ c n hn).2 (ix2 r l) = uM μ c (row n r) l
  | 0, hn, r, l => by
    rw [outsAt0_A μ c ⟨0, hn⟩ (Nat.zero_mod _)]
    dsimp only
    rw [scrA]
    exact u_at μ c ⟨0, hn⟩ r l
  | n + 1, hn, r, l => by
    by_cases h : (n + 1) % 4 = 0
    · rw [outsAt0_A μ c ⟨n + 1, hn⟩ h]
      dsimp only
      rw [scrA]
      exact u_at μ c ⟨n + 1, hn⟩ r l
    · rw [outsAt0_B μ c ⟨n + 1, hn⟩ h]
      dsimp only [sout0_B_0]
      simp only [Nat.add_sub_cancel]
      refine (scr_at n (Nat.lt_of_succ_lt hn) r l).trans ?_
      refine congrArg (fun T => uM μ c T l) (Fin.ext ?_)
      show (1024 * (n / 4) + r.val) % 8192 = (1024 * ((n + 1) / 4) + r.val) % 8192
      rw [show n / 4 = (n + 1) / 4 by omega]
/-- What a point leaves. -/
theorem out_at (r : Fin 1024) (k : Fin 1408) : (outsAt0 μ c t.val t.isLt).1 (ix2 r k) = outM μ c (row t.val r) (colAt t.val k) := by
  have e (u : FVec Ideal S1024x1024 .bf16) (hu : ∀ l : Fin 1024, u (ix2 r l) = uM μ c (row t.val r) l) :
      k0_pay2 (F := Ideal) u (iblk μ c 2 t) (ix2 r k) = outM μ c (row t.val r) (colAt t.val k) := by
    refine (pay2_apply _ _ r k).trans ?_
    unfold outM
    exact Finset.sum_congr rfl fun l _ => congrArg₂ (fun (a b : EReal) => a * b) (hu l) (blk2 μ c t l k)
  by_cases h : t.val % 4 = 0
  · rw [outsAt0_A μ c t h]
    dsimp only
    rw [outA]
    exact e _ fun l => u_at μ c t r l
  · rw [outsAt0_B μ c t h]
    dsimp only
    rw [outB]
    refine e _ fun l => (scr_at μ c (t.val - 1) _ r l).trans (congrArg (fun T => uM μ c T l) (Fin.ext ?_))
    show (1024 * ((t.val - 1) / 4) + r.val) % 8192 = (1024 * (t.val / 4) + r.val) % 8192
    rw [show (t.val - 1) / 4 = t.val / 4 by omega]

/-- The array the run leaves. -/
theorem final : (dats μ 0 c).arrAt 3 cfg0.N = outArr μ c := by
  refine (dats μ 0 c).arrAt_eq_of_cover 3 (outArr μ c) (fun t _ => ?_) fun i => ?_
  · rw [Value.flushed3]
    obtain ⟨h0, h1⟩ := (idxs t).2.2.2
    have ht := ltN t
    funext j
    rw [View.read_apply]
    obtain ⟨r, k, rfl⟩ : ∃ (r : Fin 1024) (k : Fin 1408), j = ix2 r k := ⟨j 0, j 1, eq_ix2 j⟩
    have he : ((cfg0.win 3).blk t).view.emb (ix2 r k) = (ix2 (row t.val r) (colAt t.val k) : S8192x5632.Idx) := by
      funext a; apply Fin.ext
      match a with
      | ⟨0, _⟩ => show win0_3.index t 0 * 1024 + 1 * r.val = (1024 * (t.val / 4) + r.val) % 8192; rw [h0]; omega
      | ⟨1, _⟩ => show win0_3.index t 1 * 1408 + 1 * k.val = (colAt t.val k).val; rw [h1]; dsimp only [colAt]; omega
    rw [he]
    exact out_at μ c t r k
  · have l0 : (i 0 : Nat) < 8192 := (i 0).isLt
    have l1 : (i 1 : Nat) < 5632 := (i 1).isLt
    have hN : cfg0.N = 32 := N_0
    let t : Fin cfg0.N := ⟨4 * ((i 0 : Nat) / 1024) + (i 1 : Nat) / 1408, by omega⟩
    refine ⟨t, flush0_3 t, ?_⟩
    show i ∈ ((View.whole main_v8).slice (win0_3.rect t)).set
    rw [View.set_slice_whole, Rect.mem_set_unit]
    obtain ⟨h0, h1⟩ := (idxs t).2.2.2
    intro a
    match a with
    | ⟨0, _⟩ => show win0_3.index t 0 * 1024 ≤ (i 0 : Nat) ∧ (i 0 : Nat) < win0_3.index t 0 * 1024 + 1024
                rw [h0]; dsimp only [t]; omega
    | ⟨1, _⟩ => show win0_3.index t 1 * 1408 ≤ (i 1 : Nat) ∧ (i 1 : Nat) < win0_3.index t 1 * 1408 + 1408
                rw [h1]; dsimp only [t]; omega
end
end

/-! ## The reference, read at an index -/

section
open Cert.NormFwdInRefIdeal Cert.NormFwdInRefIdeal.Gen Idealize.ShloMosaic Idealize.ShloMosaic.TcCoe Idealize.SL.Sem Cert.Norm
variable (x0 : FVec Ideal S8192x1024 .f32) (x1 : FVec Ideal S1024 .f32) (x2 : FVec Ideal S1024x5152 .f32)
/-- The product, before its last columns are set apart. -/
def dotR : FVec Ideal S8192x5152 .f32 :=
  Host.dotGeneral dot_S8192x1024_S1024x5152_S8192x5152_1_0_0_1_n_n none (mulf (mulf x0 (broadcastInDim S8192x1024 ![0, 1] bcast_S8192x1_S8192x1024_0_1
    (Host.rsqrt (addf (Host.divf (broadcastInDim S8192x1 ![0] bcast_S8192_S8192x1_0 (Host.reduceAdd (mulf x0 x0) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x358637BD#32)))))) (broadcastInDim S8192x1024 ![0, 1] bcast_S1x1024_S8192x1024_0_1
    (broadcastInDim S1x1024 ![1] bcast_S1024_S1x1024_1 x1))) x2
theorem dotR_apply (T : Fin 8192) (k : Fin 5152) : dotR x0 x1 x2 (ix2 T k) = ∑ l, normRow (fun k => x0 (ix2 T k)) (fun k => x1 (ix1 k)) l * x2 (ix2 l k) := by
  pointwise [dotR]
  rfl
/-- The last 32 columns of a product, set apart. -/
def headsR (w : Vec Ideal S8192x5152 .f32) : Vec Ideal S8192x512 .f32 :=
  shapeCast S8192x512 (pad S8192x4x128 ![0, 0, 0] ![0, 0, 120] ![0, 0, 0]
    (shapeCast S8192x4x8 (extractStridedSlice S8192x32 ![0, 5120] w slices_S8192x5152_S8192x32_0_5120) shapeCasts_S8192x32_S8192x4x8)
    (sitofp .f32 (constantI S_ 32 0#32) : FVec Ideal S_ .f32) pads_S8192x4x8_S8192x4x128_000_000_01200 h_S_) shapeCasts_S8192x4x128_S8192x512
/-- All its columns, the last 32 set apart. -/
def wideR (w : Vec Ideal S8192x5152 .f32) : Vec Ideal S8192x5632 .f32 :=
  concatenate S8192x5632 1 [⟨S8192x5120, extractStridedSlice S8192x5120 ![0, 0] w slices_S8192x5152_S8192x5120_0_0⟩, ⟨S8192x512, headsR w⟩]
    concatenates_S8192x5120_S8192x512_S8192x5632_d1
theorem headsR_apply (w : Vec Ideal S8192x5152 .f32) (r : Fin 8192) (k : Fin 512) : headsR w (ix2 r k) =
    if h : k.val % 128 < 8 then w (ix2 r ⟨5120 + (k.val / 128 * 8 + k.val % 128), by omega⟩) else 0 := by
  pointwise [headsR]
  have hz : FloatOps.sitofp (F := Ideal) .f32 0#32 = (0 : EReal) := by
    show (((0#32 : BitVec 32).toInt : ℝ) : EReal) = 0
    rw [show (0#32 : BitVec 32).toInt = 0 by decide, Int.cast_zero, EReal.coe_zero]
  by_cases h : k.val % 128 < 8
  · rw [dif_pos ⟨by omega, h⟩, dif_pos h]
  · rw [dif_neg (fun h' => h h'.2), dif_neg h]
    exact hz
theorem wideR_apply (w : Vec Ideal S8192x5152 .f32) (r : Fin 8192) (k : Fin 5632) : wideR w (ix2 r k) = spread (fun x => w (ix2 r x)) k := by
  pointwise [wideR]
  unfold spread
  by_cases h : k.val < 5120
  · rw [dif_pos h, dif_pos h]
  · rw [dif_neg h, dif_neg h, headsR_apply]
theorem ref_out (T : Fin 8192) (k : Fin 5632) :
    wideR (dotR x0 x1 x2) (ix2 T k) = ∑ l, normRow (fun k => x0 (ix2 T k)) (fun k => x1 (ix1 k)) l * spread (fun x => x2 (ix2 l x)) k := by
  rw [wideR_apply]
  simp only [dotR_apply]
  exact spread_dot _ _ k
end

/-! ## The claims -/

section
open Cert.NormFwdInIdeal Cert.NormFwdInIdeal.Gen Idealize.ShloMosaic Idealize.ShloMosaic.TcCoe Idealize.SL.Sem Cert.Norm
/-- The reference's frame: its run read at the arguments; it has no semaphore. -/
theorem frame_ref : Cert.quiescent_NormFwdInRefIdeal (hNormFwdInRefIdeal := Cert.NormFwdInRefIdeal.Gen.facts) := fun m ρ _ =>
  (θ_run Cert.NormFwdInRefIdeal.defs _ _).mono (fun r h => ⟨fun c => (h c).2, sem_eq_zero_of_no_sems (by decide) r.2⟩)
    (Cert.NormFwdInRefIdeal.Value.run (F := Ideal) m ρ)

/-- The norm and its product, the state-space input: the kernel's array is the reference's. -/
theorem algebraic : Cert.algebraic_NormFwdInIdeal_NormFwdInRefIdeal (hNormFwdInIdeal := Cert.NormFwdInIdeal.Gen.facts)
    (hNormFwdInRefIdeal := Cert.NormFwdInRefIdeal.Gen.facts) := by
  intro m g m' g' _ hm
  refine ⟨outArr m, ?_, ?_⟩
  · exact (θ_run _ _ _).mono (fun r h c => ⟨(h c).1.trans (final m c), (h c).2⟩) (Cert.NormFwdInIdeal.Value.run_blocks m g)
  · refine (θ_run _ _ _).mono (fun r h c => ⟨(h c).1.trans ?_, (h c).2⟩) (Cert.NormFwdInRefIdeal.Value.run m' g')
    obtain ⟨a0, a1, a2⟩ := hm c
    rw [a0, a1, a2]
    funext i
    obtain ⟨T, k, rfl⟩ : ∃ (T : Fin 8192) (k : Fin 5632), i = ix2 T k := ⟨i 0, i 1, eq_ix2 i⟩
    exact ref_out _ _ _ T k
end

end Cert.NormFwdInIdeal.Hand
end
-- ==== Proof.FfnFwdRef.lean ====
module

public import proofs.«01_k».proof.Proof.NormMath
public import proofs.«01_k».proof.Proof.Silu
public import proofs.«01_k».proof.Defs
public import proofs.«01_k».proof.Proof.Gen.FfnFwdIdeal.Value
public import proofs.«01_k».proof.Proof.Gen.FfnFwdRefIdeal.Run
public import proofs.«01_k».proof.Proof.Gen.FfnFwdRefIdeal.Read
public import Idealize.ShloMosaic.Lib.Claim

/-! The gated feed-forward: the forward kernel computes the reference's arrays. -/

@[expose] public section
set_option maxRecDepth 16384
noncomputable section
namespace Cert.FfnFwdIdeal.Hand

/-- Column `j` of block `k` of the hidden columns. -/
abbrev fcol (k : Fin 4) (j : Fin 704) : Fin 2816 := ⟨704 * k.val + j.val, by omega⟩
/-- A sum over the hidden columns, block by block. -/
theorem sum_fcol (f : Fin 2816 → EReal) : ∑ x, f x = ∑ k : Fin 4, ∑ j : Fin 704, f (fcol k j) := by
  rw [← Fintype.sum_prod_type', ← (finProdFinEquiv (m := 4) (n := 704)).sum_comp f]
  exact Finset.sum_congr rfl fun p _ => congrArg f (Fin.ext (by simp [finProdFinEquiv, Nat.add_comm]))
/-- The gate: `silu` of the one times the other. -/
def gate (a b : EReal) : EReal := a * Cert.Util.sig a * b

section
open Cert.FfnFwdIdeal Cert.FfnFwdIdeal.Gen Idealize.ShloMosaic Idealize.ShloMosaic.TcCoe Idealize.SL.Sem Cert.Norm
open Idealize.ShloMosaic.Pipeline (Dat)

/-! ## What a point computes -/

section
variable (h : FVec Ideal S1024x1024 .f32) (g : FVec Ideal S1x1024 .f32) (u : FVec Ideal S1024x1024 .bf16) (w w' : FVec Ideal S1x1x1024x704 .bf16)
  (s : FVec Ideal S1024x704 .bf16) (w2 : FVec Ideal S1x1x704x1024 .bf16) (a : FVec Ideal S1024x1024 .f32)
theorem pay3_apply (r l : Fin 1024) : k0_pay3 (F := Ideal) h g (ix2 r l) = normRow (fun k => h (ix2 r k)) (fun k => g (ix2 0 k)) l := by
  pointwise [k0_pay3]
  rfl
theorem pay5_apply (r : Fin 1024) (j : Fin 704) : k0_pay5 (F := Ideal) u w (ix2 r j) = (∑ l : Fin 1024, u (ix2 r l) * w (ix4 0 0 l j) : EReal) := by
  pointwise [k0_pay5]
theorem pay6_apply (r : Fin 1024) (j : Fin 704) : k0_pay6 (F := Ideal) u w (ix2 r j) = (∑ l : Fin 1024, u (ix2 r l) * w (ix4 0 0 l j) : EReal) := by
  pointwise [k0_pay6]
theorem pay7_apply (r : Fin 1024) (j : Fin 704) : k0_pay7 (F := Ideal) u w (ix3 0 r j) = (∑ l : Fin 1024, u (ix2 r l) * w (ix4 0 0 l j) : EReal) := by
  rw [← pay5_apply]
  pointwise [k0_pay7]
theorem pay8_apply (r : Fin 1024) (j : Fin 704) : k0_pay8 (F := Ideal) u w (ix3 0 r j) = (∑ l : Fin 1024, u (ix2 r l) * w (ix4 0 0 l j) : EReal) := by
  rw [← pay6_apply]
  pointwise [k0_pay8]
theorem pay9_apply (r : Fin 1024) (j : Fin 704) : k0_pay9 (F := Ideal) u w w' (ix2 r j) =
    gate (∑ l : Fin 1024, u (ix2 r l) * w (ix4 0 0 l j)) (∑ l : Fin 1024, u (ix2 r l) * w' (ix4 0 0 l j)) := by
  pointwise [k0_pay9]
  simp only [zero_sub, pay5_apply, pay6_apply]
  rfl
theorem pay1_apply (r k : Fin 1024) : k0_pay1 (F := Ideal) a s w2 (ix2 r k) = a (ix2 r k) + (∑ j : Fin 704, s (ix2 r j) * w2 (ix4 0 0 j k) : EReal) := by
  pointwise [k0_pay1]
theorem pay4_apply (r k : Fin 1024) : k0_pay4 (F := Ideal) (ix2 r k) = (0 : EReal) := by
  pointwise [k0_pay4]
theorem pay2_apply (r k : Fin 1024) : k0_pay2 (F := Ideal) h a (ix2 r k) = h (ix2 r k) + Ideal.ofBits .f32 0x3F000000#32 * a (ix2 r k) := by
  pointwise [k0_pay2]
end

theorem hz : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
section
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024x704 .bf16) (harg4 : arg4.IsWhole) (arg5 : Memref sig .tc .vmem S1x1x1024x704 .bf16) (harg5 : arg5.IsWhole) (arg6 : Memref sig .tc .vmem S1x1x704x1024 .bf16) (harg6 : arg6.IsWhole) (arg8 : Memref sig .tc .vmem S1024x1024 .f32) (harg8 : arg8.IsWhole) (arg9 : Memref sig .tc .vmem S1x1024x704 .bf16) (harg9 : arg9.IsWhole) (arg10 : Memref sig .tc .vmem S1x1024x704 .bf16) (harg10 : arg10.IsWhole) (arg11 : Memref sig .tc .vmem S1024x1024 .bf16) (harg11 : arg11.IsWhole) (arg12 : Memref sig .tc .vmem S1024x1024 .f32) (harg12 : arg12.IsWhole)
  (x0 : Vec Ideal S1024x1024 .f32) (x1 : Vec Ideal S1x1024 .f32) (x2 x3 : Vec Ideal S1x1x1024x704 .bf16) (x4 : Vec Ideal S1x1x704x1024 .bf16)
  (xs0 : Vec Ideal S1024x1024 .bf16) (xs1 : Vec Ideal S1024x1024 .f32)
/-- What the body leaves at a row block's first point, … -/
theorem bodyA (hc0 : cond0_0 i) (hc1 : ¬cond0_1 i) :
    out0_A_6 c i arg2 harg2 arg3 harg3 arg4 harg4 arg5 harg5 arg6 harg6 arg8 harg8 arg9 harg9 arg10 harg10 arg11 harg11 arg12 harg12 hc0 hc1 x0 x1 x2 x3 x4 = k0_pay7 (F := Ideal) (k0_pay3 x0 x1) x2
    ∧ out0_A_7 c i arg2 harg2 arg3 harg3 arg4 harg4 arg5 harg5 arg6 harg6 arg8 harg8 arg9 harg9 arg10 harg10 arg11 harg11 arg12 harg12 hc0 hc1 x0 x1 x2 x3 x4 = k0_pay8 (F := Ideal) (k0_pay3 x0 x1) x3
    ∧ sout0_A_0 c i arg2 harg2 arg3 harg3 arg4 harg4 arg5 harg5 arg6 harg6 arg8 harg8 arg9 harg9 arg10 harg10 arg11 harg11 arg12 harg12 hc0 hc1 x0 x1 x2 x3 x4 = k0_pay3 (F := Ideal) x0 x1
    ∧ sout0_A_1 c i arg2 harg2 arg3 harg3 arg4 harg4 arg5 harg5 arg6 harg6 arg8 harg8 arg9 harg9 arg10 harg10 arg11 harg11 arg12 harg12 hc0 hc1 x0 x1 x2 x3 x4 = k0_pay1 (F := Ideal) (k0_pay4 (F := Ideal)) (k0_pay9 (k0_pay3 x0 x1) x2 x3) x4 := by
  refine ⟨(View.read_writes_eq_canon _ _ _ (fun y => cover0_A_6 (y := y) ..)).trans ?_,
    (View.read_writes_eq_canon _ _ _ (fun y => cover0_A_7 (y := y) ..)).trans ?_,
    (View.read_writes_eq_canon _ _ _ (fun y => scover0_A_0 (y := y) ..)).trans ?_,
    (View.read_writes_eq_canon _ _ _ (fun y => scover0_A_1 (y := y) ..)).trans ?_⟩
  all_goals
    unfold kernelRun0_A
    dsimp only
    sl_unfold_words
    simp only [View.canon_cons_unit_zero (S := S1024x1024) hz, View.canon_unit_zero (S := S1024x1024) hz, View.canon_cons_unit_zero (S := S1x1024x704) hz3, View.canon_unit_zero (S := S1x1024x704) hz3]
    simp only [View.readAt_eq_ld, Memref.IsWhole.read_unread, View.readCov_cons_toLoadRect,
      View.ld_unit_zero (S := S1024x1024) hz, View.ld_unit_zero (S := S1x1024) hz, View.ld_unit_zero (S := S1x1x1024x704) hz4, View.ld_unit_zero (S := S1x1x704x1024) hz4]
/-- … at a middle one, … -/
theorem bodyB (hc0 : ¬cond0_0 i) (hc1 : ¬cond0_1 i) :
    out0_B_6 c i arg2 harg2 arg3 harg3 arg4 harg4 arg5 harg5 arg6 harg6 arg8 harg8 arg9 harg9 arg10 harg10 arg11 harg11 arg12 harg12 hc0 hc1 x0 x1 x2 x3 x4 xs0 xs1 = k0_pay7 (F := Ideal) xs0 x2
    ∧ out0_B_7 c i arg2 harg2 arg3 harg3 arg4 harg4 arg5 harg5 arg6 harg6 arg8 harg8 arg9 harg9 arg10 harg10 arg11 harg11 arg12 harg12 hc0 hc1 x0 x1 x2 x3 x4 xs0 xs1 = k0_pay8 (F := Ideal) xs0 x3
    ∧ sout0_B_1 c i arg2 harg2 arg3 harg3 arg4 harg4 arg5 harg5 arg6 harg6 arg8 harg8 arg9 harg9 arg10 harg10 arg11 harg11 arg12 harg12 hc0 hc1 x0 x1 x2 x3 x4 xs0 xs1 = k0_pay1 (F := Ideal) xs1 (k0_pay9 xs0 x2 x3) x4 := by
  refine ⟨(View.read_writes_eq_canon _ _ _ (fun y => cover0_B_6 (y := y) ..)).trans ?_,
    (View.read_writes_eq_canon _ _ _ (fun y => cover0_B_7 (y := y) ..)).trans ?_,
    (View.read_writes_eq_canon _ _ _ (fun y => scover0_B_1 (y := y) ..)).trans ?_⟩
  all_goals
    unfold kernelRun0_B
    dsimp only
    sl_unfold_words
    simp only [View.canon_cons_unit_zero (S := S1024x1024) hz, View.canon_unit_zero (S := S1024x1024) hz, View.canon_cons_unit_zero (S := S1x1024x704) hz3, View.canon_unit_zero (S := S1x1024x704) hz3]
    simp only [View.readAt_eq_ld, Memref.IsWhole.read_unread, View.readCov_cons_toLoadRect,
      View.ld_unit_zero (S := S1024x1024) hz, View.ld_unit_zero (S := S1x1024) hz, View.ld_unit_zero (S := S1x1x1024x704) hz4, View.ld_unit_zero (S := S1x1x704x1024) hz4]
/-- … and at its last. -/
theorem bodyC (hc0 : ¬cond0_0 i) (hc1 : cond0_1 i) :
    out0_C_5 c i arg2 harg2 arg3 harg3 arg4 harg4 arg5 harg5 arg6 harg6 arg8 harg8 arg9 harg9 arg10 harg10 arg11 harg11 arg12 harg12 hc0 hc1 x0 x1 x2 x3 x4 xs0 xs1 = k0_pay2 (F := Ideal) x0 (k0_pay1 xs1 (k0_pay9 xs0 x2 x3) x4)
    ∧ out0_C_6 c i arg2 harg2 arg3 harg3 arg4 harg4 arg5 harg5 arg6 harg6 arg8 harg8 arg9 harg9 arg10 harg10 arg11 harg11 arg12 harg12 hc0 hc1 x0 x1 x2 x3 x4 xs0 xs1 = k0_pay7 (F := Ideal) xs0 x2
    ∧ out0_C_7 c i arg2 harg2 arg3 harg3 arg4 harg4 arg5 harg5 arg6 harg6 arg8 harg8 arg9 harg9 arg10 harg10 arg11 harg11 arg12 harg12 hc0 hc1 x0 x1 x2 x3 x4 xs0 xs1 = k0_pay8 (F := Ideal) xs0 x3
    ∧ sout0_C_1 c i arg2 harg2 arg3 harg3 arg4 harg4 arg5 harg5 arg6 harg6 arg8 harg8 arg9 harg9 arg10 harg10 arg11 harg11 arg12 harg12 hc0 hc1 x0 x1 x2 x3 x4 xs0 xs1 = k0_pay1 (F := Ideal) xs1 (k0_pay9 xs0 x2 x3) x4 := by
  refine ⟨(View.read_writes_eq_canon _ _ _ (fun y => cover0_C_5 (y := y) ..)).trans ?_,
    (View.read_writes_eq_canon _ _ _ (fun y => cover0_C_6 (y := y) ..)).trans ?_,
    (View.read_writes_eq_canon _ _ _ (fun y => cover0_C_7 (y := y) ..)).trans ?_,
    (View.read_writes_eq_canon _ _ _ (fun y => scover0_C_1 (y := y) ..)).trans ?_⟩
  all_goals
    unfold kernelRun0_C
    dsimp only
    sl_unfold_words
    simp only [View.canon_cons_unit_zero (S := S1024x1024) hz, View.canon_unit_zero (S := S1024x1024) hz, View.canon_cons_unit_zero (S := S1x1024x704) hz3, View.canon_unit_zero (S := S1x1024x704) hz3]
    simp only [View.readAt_eq_ld, Memref.IsWhole.read_unread, View.readCov_cons_toLoadRect,
      View.ld_unit_zero (S := S1024x1024) hz, View.ld_unit_zero (S := S1x1024) hz, View.ld_unit_zero (S := S1x1x1024x704) hz4, View.ld_unit_zero (S := S1x1x704x1024) hz4]
end

/-! ## The blocks a point reads -/

theorem lt32 (t : Fin cfg0.N) : t.val < 32 := lt_of_lt_of_eq t.isLt N_0
/-- Row `r` of the arrays at a point. -/
abbrev row (t : ℕ) (r : Fin 1024) : Fin 8192 := ⟨(1024 * (t / 4) + r.val) % 8192, Nat.mod_lt _ (by norm_num)⟩
/-- The block of hidden columns at a point. -/
abbrev kk (t : ℕ) : Fin 4 := ⟨t % 4, Nat.mod_lt _ (by norm_num)⟩
/-- Which block each window holds at a point. -/
theorem idxs (t : Fin cfg0.N) : (win0_0.index t 0 = t.val / 4 ∧ win0_0.index t 1 = 0) ∧
    (win0_1.index t 0 = 0 ∧ win0_1.index t 1 = 0) ∧
    (win0_2.index t 0 = t.val % 4 ∧ win0_2.index t 1 = 0 ∧ win0_2.index t 2 = 0 ∧ win0_2.index t 3 = 0) ∧
    (win0_3.index t 0 = t.val % 4 ∧ win0_3.index t 1 = 0 ∧ win0_3.index t 2 = 0 ∧ win0_3.index t 3 = 0) ∧
    (win0_4.index t 0 = t.val % 4 ∧ win0_4.index t 1 = 0 ∧ win0_4.index t 2 = 0 ∧ win0_4.index t 3 = 0) ∧
    (win0_5.index t 0 = t.val / 4 ∧ win0_5.index t 1 = 0) ∧
    (win0_6.index t 0 = t.val % 4 ∧ win0_6.index t 1 = t.val / 4 ∧ win0_6.index t 2 = 0) ∧
    (win0_7.index t 0 = t.val % 4 ∧ win0_7.index t 1 = t.val / 4 ∧ win0_7.index t 2 = 0) :=
  (by decide +kernel : ∀ t : Fin grid0.N, (win0_0.index t 0 = t.val / 4 ∧ win0_0.index t 1 = 0) ∧
    (win0_1.index t 0 = 0 ∧ win0_1.index t 1 = 0) ∧
    (win0_2.index t 0 = t.val % 4 ∧ win0_2.index t 1 = 0 ∧ win0_2.index t 2 = 0 ∧ win0_2.index t 3 = 0) ∧
    (win0_3.index t 0 = t.val % 4 ∧ win0_3.index t 1 = 0 ∧ win0_3.index t 2 = 0 ∧ win0_3.index t 3 = 0) ∧
    (win0_4.index t 0 = t.val % 4 ∧ win0_4.index t 1 = 0 ∧ win0_4.index t 2 = 0 ∧ win0_4.index t 3 = 0) ∧
    (win0_5.index t 0 = t.val / 4 ∧ win0_5.index t 1 = 0) ∧
    (win0_6.index t 0 = t.val % 4 ∧ win0_6.index t 1 = t.val / 4 ∧ win0_6.index t 2 = 0) ∧
    (win0_7.index t 0 = t.val % 4 ∧ win0_7.index t 1 = t.val / 4 ∧ win0_7.index t 2 = 0)) t

section
variable (μ : (ℓ : Loc nD τ sig) → Buf (Elt Ideal) ℓ) (c : Dev nD) (t : Fin cfg0.N)
theorem V_g : V μ c main_v0 = shapeCast S1x1024 (μ ((c : Thread nD τ).loc main_arg1)) shapeCasts_S1024_S1x1024 := by rfl
theorem V_w2 (k : Fin 4) (r : Fin 1024) (l : Fin 704) : V μ c main_v4 (ix4 k 0 r l) = μ ((c : Thread nD τ).loc main_arg2) (ix2 r (fcol k l)) := by
  have e : V μ c main_v4 = (shapeCast S4x1x1024x704 (transpose S4x1024x704 [1, 0, 2] (shapeCast S1024x4x704 (truncf .bf16 (μ ((c : Thread nD τ).loc main_arg2) : FVec Ideal S1024x2816 .f32) bitsLt_bf16_f32 : FVec Ideal S1024x2816 .bf16) shapeCasts_S1024x2816_S1024x4x704)
    transposes_S1024x4x704_S4x1024x704_1_0_2) shapeCasts_S4x1024x704_S4x1x1024x704 : FVec Ideal S4x1x1024x704 .bf16) := by rfl
  rw [e]
  pointwise []
  refine congrArg (fun i => μ ((c : Thread nD τ).loc main_arg2) (ix2 r i)) (Fin.ext ?_)
  simp; omega
theorem V_w3 (k : Fin 4) (r : Fin 1024) (l : Fin 704) : V μ c main_v8 (ix4 k 0 r l) = μ ((c : Thread nD τ).loc main_arg3) (ix2 r (fcol k l)) := by
  have e : V μ c main_v8 = (shapeCast S4x1x1024x704 (transpose S4x1024x704 [1, 0, 2] (shapeCast S1024x4x704 (truncf .bf16 (μ ((c : Thread nD τ).loc main_arg3) : FVec Ideal S1024x2816 .f32) bitsLt_bf16_f32 : FVec Ideal S1024x2816 .bf16) shapeCasts_S1024x2816_S1024x4x704)
    transposes_S1024x4x704_S4x1024x704_1_0_2) shapeCasts_S4x1024x704_S4x1x1024x704 : FVec Ideal S4x1x1024x704 .bf16) := by rfl
  rw [e]
  pointwise []
  refine congrArg (fun i => μ ((c : Thread nD τ).loc main_arg3) (ix2 r i)) (Fin.ext ?_)
  simp; omega
theorem V_w4 (k : Fin 4) (j : Fin 704) (l : Fin 1024) : V μ c main_v10 (ix4 k 0 j l) = μ ((c : Thread nD τ).loc main_arg4) (ix2 (fcol k j) l) := by
  have e : V μ c main_v10 = (shapeCast S4x1x704x1024 (truncf .bf16 (μ ((c : Thread nD τ).loc main_arg4) : FVec Ideal S2816x1024 .f32) bitsLt_bf16_f32 : FVec Ideal S2816x1024 .bf16)
    shapeCasts_S2816x1024_S4x1x704x1024 : FVec Ideal S4x1x704x1024 .bf16) := by rfl
  rw [e]
  pointwise []
  refine congrArg (fun i => μ ((c : Thread nD τ).loc main_arg4) (ix2 i l)) (Fin.ext ?_)
  simp; omega
theorem blk0 (r l : Fin 1024) : (iblk μ c 0 t : Vec Ideal S1024x1024 .f32) (ix2 r l) = μ ((c : Thread nD τ).loc main_arg0) (ix2 (row t.val r) l) := by
  unfold iblk
  rw [View.read_apply]
  show V μ c main_arg0 _ = _
  rw [V_main_arg0]
  obtain ⟨h0, h1⟩ := (idxs t).1
  have ht := lt32 t
  congr 1; funext a; apply Fin.ext
  match a with
  | ⟨0, _⟩ => show win0_0.index t 0 * 1024 + 1 * r.val = (1024 * (t.val / 4) + r.val) % 8192; rw [h0]; omega
  | ⟨1, _⟩ => show win0_0.index t 1 * 1024 + 1 * l.val = l.val; rw [h1]; omega
theorem blk1 (l : Fin 1024) : (iblk μ c 1 t : Vec Ideal S1x1024 .f32) (ix2 0 l) = μ ((c : Thread nD τ).loc main_arg1) (ix1 l) := by
  unfold iblk
  rw [View.read_apply]
  show V μ c main_v0 _ = _
  rw [V_g]
  have e : ((cfg0.win 1).blk t).view.emb (ix2 0 l) = (ix2 0 l : S1x1024.Idx) := by
    obtain ⟨h0, h1⟩ := (idxs t).2.1
    funext a; apply Fin.ext
    match a with
    | ⟨0, _⟩ => show win0_1.index t 0 * 1 + 1 * 0 = 0; rw [h0]
    | ⟨1, _⟩ => show win0_1.index t 1 * 1024 + 1 * l.val = l.val; rw [h1]; omega
  refine (congrArg _ e).trans ?_
  pointwise []
theorem blk2 (r : Fin 1024) (l : Fin 704) : (iblk μ c 2 t : Vec Ideal S1x1x1024x704 .bf16) (ix4 0 0 r l) = μ ((c : Thread nD τ).loc main_arg2) (ix2 r (fcol (kk t.val) l)) := by
  unfold iblk
  rw [View.read_apply]
  show V μ c main_v4 _ = _
  have e : ((cfg0.win 2).blk t).view.emb (ix4 0 0 r l) = (ix4 (kk t.val) 0 r l : S4x1x1024x704.Idx) := by
    obtain ⟨h0, h1, h2, h3⟩ := (idxs t).2.2.1
    have ht := lt32 t
    funext a; apply Fin.ext
    match a with
    | ⟨0, _⟩ => show win0_2.index t 0 * 1 + 1 * 0 = t.val % 4; rw [h0]; omega
    | ⟨1, _⟩ => show win0_2.index t 1 * 1 + 1 * 0 = 0; rw [h1]
    | ⟨2, _⟩ => show win0_2.index t 2 * 1024 + 1 * r.val = r.val; rw [h2]; omega
    | ⟨3, _⟩ => show win0_2.index t 3 * 704 + 1 * l.val = l.val; rw [h3]; omega
  refine (congrArg _ e).trans ?_
  exact V_w2 μ c _ r l
theorem blk3 (r : Fin 1024) (l : Fin 704) : (iblk μ c 3 t : Vec Ideal S1x1x1024x704 .bf16) (ix4 0 0 r l) = μ ((c : Thread nD τ).loc main_arg3) (ix2 r (fcol (kk t.val) l)) := by
  unfold iblk
  rw [View.read_apply]
  show V μ c main_v8 _ = _
  have e : ((cfg0.win 3).blk t).view.emb (ix4 0 0 r l) = (ix4 (kk t.val) 0 r l : S4x1x1024x704.Idx) := by
    obtain ⟨h0, h1, h2, h3⟩ := (idxs t).2.2.2.1
    have ht := lt32 t
    funext a; apply Fin.ext
    match a with
    | ⟨0, _⟩ => show win0_3.index t 0 * 1 + 1 * 0 = t.val % 4; rw [h0]; omega
    | ⟨1, _⟩ => show win0_3.index t 1 * 1 + 1 * 0 = 0; rw [h1]
    | ⟨2, _⟩ => show win0_3.index t 2 * 1024 + 1 * r.val = r.val; rw [h2]; omega
    | ⟨3, _⟩ => show win0_3.index t 3 * 704 + 1 * l.val = l.val; rw [h3]; omega
  refine (congrArg _ e).trans ?_
  exact V_w3 μ c _ r l
theorem blk4 (r : Fin 704) (l : Fin 1024) : (iblk μ c 4 t : Vec Ideal S1x1x704x1024 .bf16) (ix4 0 0 r l) = μ ((c : Thread nD τ).loc main_arg4) (ix2 (fcol (kk t.val) r) l) := by
  unfold iblk
  rw [View.read_apply]
  show V μ c main_v10 _ = _
  have e : ((cfg0.win 4).blk t).view.emb (ix4 0 0 r l) = (ix4 (kk t.val) 0 r l : S4x1x704x1024.Idx) := by
    obtain ⟨h0, h1, h2, h3⟩ := (idxs t).2.2.2.2.1
    have ht := lt32 t
    funext a; apply Fin.ext
    match a with
    | ⟨0, _⟩ => show win0_4.index t 0 * 1 + 1 * 0 = t.val % 4; rw [h0]; omega
    | ⟨1, _⟩ => show win0_4.index t 1 * 1 + 1 * 0 = 0; rw [h1]
    | ⟨2, _⟩ => show win0_4.index t 2 * 704 + 1 * r.val = r.val; rw [h2]; omega
    | ⟨3, _⟩ => show win0_4.index t 3 * 1024 + 1 * l.val = l.val; rw [h3]; omega
  refine (congrArg _ e).trans ?_
  exact V_w4 μ c _ r l

/-! ## The arrays in terms of the arguments -/

/-- Row `T` of the norm's output. -/
abbrev uM (T : Fin 8192) : Fin 1024 → EReal :=
  normRow (fun l => μ ((c : Thread nD τ).loc main_arg0) (ix2 T l)) (fun l => μ ((c : Thread nD τ).loc main_arg1) (ix1 l))
/-- Entry of the first product. -/
def aM (T : Fin 8192) (x : Fin 2816) : EReal := ∑ l, uM μ c T l * μ ((c : Thread nD τ).loc main_arg2) (ix2 l x)
/-- Entry of the second product. -/
def bM (T : Fin 8192) (x : Fin 2816) : EReal := ∑ l, uM μ c T l * μ ((c : Thread nD τ).loc main_arg3) (ix2 l x)
/-- A block's part of the third product. -/
def part (T : Fin 8192) (k : Fin 1024) (q : Fin 4) : EReal :=
  ∑ j : Fin 704, gate (aM μ c T (fcol q j)) (bM μ c T (fcol q j)) * μ ((c : Thread nD τ).loc main_arg4) (ix2 (fcol q j) k)
/-- Entry of the residual. -/
abbrev hM (T : Fin 8192) (k : Fin 1024) : EReal := μ ((c : Thread nD τ).loc main_arg0) (ix2 T k)
/-- Entry of the output. -/
def outM (T : Fin 8192) (k : Fin 1024) : EReal := hM μ c T k + Ideal.ofBits .f32 0x3F000000#32 * ∑ q, part μ c T k q
/-- The output. -/
def outArr : FVec Ideal S8192x1024 .f32 := fun i => outM μ c (i 0) (i 1)
/-- The first product, its columns in blocks. -/
def aArr : FVec Ideal S4x8192x704 .bf16 := fun i => aM μ c (i 1) (fcol (i 0) (i 2))
/-- The second product, its columns in blocks. -/
def bArr : FVec Ideal S4x8192x704 .bf16 := fun i => bM μ c (i 1) (fcol (i 0) (i 2))

theorem u_at (r l : Fin 1024) : k0_pay3 (F := Ideal) (iblk μ c 0 t) (iblk μ c 1 t) (ix2 r l) = uM μ c (row t.val r) l := by
  refine (pay3_apply _ _ r l).trans ?_
  unfold uM
  congr 1
  · exact funext fun k => blk0 μ c t r k
  · exact funext fun k => blk1 μ c t k
section
variable (u : FVec Ideal S1024x1024 .bf16) (r : Fin 1024) (hu : ∀ l : Fin 1024, u (ix2 r l) = uM μ c (row t.val r) l)
include hu
theorem sumA (j : Fin 704) : (∑ l : Fin 1024, u (ix2 r l) * (iblk μ c 2 t : Vec Ideal S1x1x1024x704 .bf16) (ix4 0 0 l j) : EReal) = aM μ c (row t.val r) (fcol (kk t.val) j) :=
  Finset.sum_congr rfl fun l _ => congrArg₂ (fun (a b : EReal) => a * b) (hu l) (blk2 μ c t l j)
theorem sumB (j : Fin 704) : (∑ l : Fin 1024, u (ix2 r l) * (iblk μ c 3 t : Vec Ideal S1x1x1024x704 .bf16) (ix4 0 0 l j) : EReal) = bM μ c (row t.val r) (fcol (kk t.val) j) :=
  Finset.sum_congr rfl fun l _ => congrArg₂ (fun (a b : EReal) => a * b) (hu l) (blk3 μ c t l j)
theorem a_at (j : Fin 704) : k0_pay7 (F := Ideal) u (iblk μ c 2 t) (ix3 0 r j) = aM μ c (row t.val r) (fcol (kk t.val) j) :=
  (pay7_apply _ _ r j).trans (sumA μ c t u r hu j)
theorem b_at (j : Fin 704) : k0_pay8 (F := Ideal) u (iblk μ c 3 t) (ix3 0 r j) = bM μ c (row t.val r) (fcol (kk t.val) j) :=
  (pay8_apply _ _ r j).trans (sumB μ c t u r hu j)
theorem acc_at (a : FVec Ideal S1024x1024 .f32) (k : Fin 1024) :
    k0_pay1 (F := Ideal) a (k0_pay9 u (iblk μ c 2 t) (iblk μ c 3 t)) (iblk μ c 4 t) (ix2 r k) = a (ix2 r k) + part μ c (row t.val r) k (kk t.val) := by
  refine (pay1_apply _ _ _ r k).trans (congrArg (fun x : EReal => a (ix2 r k) + x) ?_)
  unfold part
  refine Finset.sum_congr rfl fun j _ => congrArg₂ (fun (a b : EReal) => a * b) ?_ (blk4 μ c t j k)
  refine (pay9_apply _ _ _ r j).trans ?_
  rw [sumA μ c t u r hu j, sumB μ c t u r hu j]
end

/-! ## What the points leave -/

/-- What the scratch holds after a point: the norm's output, and the parts summed so far. -/
def Held (n : ℕ) (u : FVec Ideal S1024x1024 .bf16) (a : FVec Ideal S1024x1024 .f32) : Prop :=
  ∀ r : Fin 1024, (∀ l : Fin 1024, u (ix2 r l) = uM μ c (row n r) l) ∧
    ∀ k : Fin 1024, a (ix2 r k) = ∑ q ∈ Finset.univ.filter (fun q : Fin 4 => q.val ≤ n % 4), part μ c (row n r) k q
theorem row_pred (h : ¬t.val % 4 = 0) (r : Fin 1024) : row (t.val - 1) r = row t.val r := by
  refine Fin.ext ?_
  show (1024 * ((t.val - 1) / 4) + r.val) % 8192 = (1024 * (t.val / 4) + r.val) % 8192
  rw [show (t.val - 1) / 4 = t.val / 4 by omega]
theorem held_first (h : t.val % 4 = 0) :
    Held μ c t.val (k0_pay3 (F := Ideal) (iblk μ c 0 t) (iblk μ c 1 t))
      (k0_pay1 (F := Ideal) (k0_pay4 (F := Ideal)) (k0_pay9 (k0_pay3 (iblk μ c 0 t) (iblk μ c 1 t)) (iblk μ c 2 t) (iblk μ c 3 t)) (iblk μ c 4 t)) := fun r =>
  ⟨fun l => u_at μ c t r l, fun k => by
    rw [acc_at μ c t _ r (fun l => u_at μ c t r l), pay4_apply, zero_add]
    have e : Finset.univ.filter (fun q : Fin 4 => q.val ≤ t.val % 4) = {kk t.val} := by
      ext q
      simp only [Finset.mem_filter, Finset.mem_univ, true_and, Finset.mem_singleton, Fin.ext_iff]
      omega
    rw [e, Finset.sum_singleton]⟩
theorem held_next (h : ¬t.val % 4 = 0) (u : FVec Ideal S1024x1024 .bf16) (a : FVec Ideal S1024x1024 .f32) (H : Held μ c (t.val - 1) u a) :
    Held μ c t.val u (k0_pay1 (F := Ideal) a (k0_pay9 u (iblk μ c 2 t) (iblk μ c 3 t)) (iblk μ c 4 t)) := fun r => by
  obtain ⟨h1, h2⟩ := H r
  rw [row_pred t h r] at h1 h2
  refine ⟨h1, fun k => ?_⟩
  rw [acc_at μ c t u r h1, h2 k, add_comm]
  have e : Finset.univ.filter (fun q : Fin 4 => q.val ≤ t.val % 4) = insert (kk t.val) (Finset.univ.filter (fun q : Fin 4 => q.val ≤ (t.val - 1) % 4)) := by
    ext q
    simp only [Finset.mem_filter, Finset.mem_univ, true_and, Finset.mem_insert, Fin.ext_iff]
    omega
  rw [e, Finset.sum_insert (by simp only [Finset.mem_filter, Finset.mem_univ, true_and]; omega)]
theorem scr_at : ∀ (n : ℕ) (hn : n < cfg0.N), Held μ c n (outsAt0 μ c n hn).2.2.2.1 (outsAt0 μ c n hn).2.2.2.2
  | 0, hn => by
    rw [outsAt0_A μ c ⟨0, hn⟩ (Nat.zero_mod _) (by dsimp only; omega)]
    dsimp only
    rw [(bodyA ..).2.2.1, (bodyA ..).2.2.2]
    exact held_first μ c ⟨0, hn⟩ (Nat.zero_mod _)
  | n + 1, hn => by
    by_cases h : (n + 1) % 4 = 0
    · rw [outsAt0_A μ c ⟨n + 1, hn⟩ h (by dsimp only; omega)]
      dsimp only
      rw [(bodyA ..).2.2.1, (bodyA ..).2.2.2]
      exact held_first μ c ⟨n + 1, hn⟩ h
    · have H := held_next μ c ⟨n + 1, hn⟩ h _ _ (scr_at n (Nat.lt_of_succ_lt hn))
      by_cases h1 : (n + 1) % 4 = 3
      · rw [outsAt0_C μ c ⟨n + 1, hn⟩ h h1]
        dsimp only [sout0_C_0]
        rw [(bodyC ..).2.2.2]
        exact H
      · rw [outsAt0_B μ c ⟨n + 1, hn⟩ h h1]
        dsimp only [sout0_B_0]
        rw [(bodyB ..).2.2]
        exact H
theorem ab_at (r : Fin 1024) (j : Fin 704) :
    (outsAt0 μ c t.val t.isLt).2.1 (ix3 0 r j) = aM μ c (row t.val r) (fcol (kk t.val) j) ∧ (outsAt0 μ c t.val t.isLt).2.2.1 (ix3 0 r j) = bM μ c (row t.val r) (fcol (kk t.val) j) := by
  by_cases h : t.val % 4 = 0
  · rw [outsAt0_A μ c t h (by omega)]
    dsimp only
    rw [(bodyA ..).1, (bodyA ..).2.1]
    exact ⟨a_at μ c t _ r (fun l => u_at μ c t r l) j, b_at μ c t _ r (fun l => u_at μ c t r l) j⟩
  · have H := (scr_at μ c (t.val - 1) (Nat.lt_of_le_of_lt (Nat.sub_le _ _) t.isLt) r).1
    rw [row_pred t h r] at H
    by_cases h1 : t.val % 4 = 3
    · rw [outsAt0_C μ c t h h1]
      dsimp only
      rw [(bodyC ..).2.1, (bodyC ..).2.2.1]
      exact ⟨a_at μ c t _ r H j, b_at μ c t _ r H j⟩
    · rw [outsAt0_B μ c t h h1]
      dsimp only
      rw [(bodyB ..).1, (bodyB ..).2.1]
      exact ⟨a_at μ c t _ r H j, b_at μ c t _ r H j⟩
theorem out_at (h1 : t.val % 4 = 3) (r k : Fin 1024) : (outsAt0 μ c t.val t.isLt).1 (ix2 r k) = outM μ c (row t.val r) k := by
  have h : ¬t.val % 4 = 0 := by omega
  have H := ((held_next μ c t h _ _ (scr_at μ c (t.val - 1) (Nat.lt_of_le_of_lt (Nat.sub_le _ _) t.isLt))) r).2 k
  rw [outsAt0_C μ c t h h1]
  dsimp only
  rw [(bodyC ..).1]
  refine (pay2_apply _ _ r k).trans ?_
  rw [H, Finset.filter_true_of_mem (fun q _ => by omega)]
  exact congrArg (fun x : EReal => x + _) (blk0 μ c t r k)

/-- The arrays the run leaves. -/
theorem final6 : (dats μ 0 c).arrAt 6 cfg0.N = aArr μ c := by
  refine (dats μ 0 c).arrAt_eq_of_cover 6 (aArr μ c) (fun t _ => ?_) fun i => ?_
  · rw [Value.flushed6]
    obtain ⟨h0, h1, h2⟩ := (idxs t).2.2.2.2.2.2.1
    have ht := lt32 t
    funext j
    rw [View.read_apply]
    obtain ⟨z, r, l, rfl⟩ : ∃ (z : Fin 1) (r : Fin 1024) (l : Fin 704), j = ix3 z r l := ⟨j 0, j 1, j 2, eq_ix3 j⟩
    obtain rfl : z = 0 := Subsingleton.elim _ _
    have he : ((cfg0.win 6).blk t).view.emb (ix3 0 r l) = (ix3 (kk t.val) (row t.val r) l : S4x8192x704.Idx) := by
      funext a; apply Fin.ext
      match a with
      | ⟨0, _⟩ => show win0_6.index t 0 * 1 + 1 * 0 = t.val % 4; rw [h0]; omega
      | ⟨1, _⟩ => show win0_6.index t 1 * 1024 + 1 * r.val = (1024 * (t.val / 4) + r.val) % 8192; rw [h1]; omega
      | ⟨2, _⟩ => show win0_6.index t 2 * 704 + 1 * l.val = l.val; rw [h2]; omega
    rw [he]
    exact (ab_at μ c t r l).1
  · have l0 : (i 0 : Nat) < 4 := (i 0).isLt
    have l1 : (i 1 : Nat) < 8192 := (i 1).isLt
    have l2 : (i 2 : Nat) < 704 := (i 2).isLt
    have hN : cfg0.N = 32 := N_0
    let t : Fin cfg0.N := ⟨4 * ((i 1 : Nat) / 1024) + (i 0 : Nat), by omega⟩
    refine ⟨t, flush0_6 t, ?_⟩
    show i ∈ ((View.whole main_v12_1).slice (win0_6.rect t)).set
    rw [View.set_slice_whole, Rect.mem_set_unit]
    obtain ⟨h0, h1, h2⟩ := (idxs t).2.2.2.2.2.2.1
    intro a
    match a with
    | ⟨0, _⟩ => show win0_6.index t 0 * 1 ≤ (i 0 : Nat) ∧ (i 0 : Nat) < win0_6.index t 0 * 1 + 1
                rw [h0]; dsimp only [t]; omega
    | ⟨1, _⟩ => show win0_6.index t 1 * 1024 ≤ (i 1 : Nat) ∧ (i 1 : Nat) < win0_6.index t 1 * 1024 + 1024
                rw [h1]; dsimp only [t]; omega
    | ⟨2, _⟩ => show win0_6.index t 2 * 704 ≤ (i 2 : Nat) ∧ (i 2 : Nat) < win0_6.index t 2 * 704 + 704
                rw [h2]; omega
theorem final7 : (dats μ 0 c).arrAt 7 cfg0.N = bArr μ c := by
  refine (dats μ 0 c).arrAt_eq_of_cover 7 (bArr μ c) (fun t _ => ?_) fun i => ?_
  · rw [Value.flushed7]
    obtain ⟨h0, h1, h2⟩ := (idxs t).2.2.2.2.2.2.2
    have ht := lt32 t
    funext j
    rw [View.read_apply]
    obtain ⟨z, r, l, rfl⟩ : ∃ (z : Fin 1) (r : Fin 1024) (l : Fin 704), j = ix3 z r l := ⟨j 0, j 1, j 2, eq_ix3 j⟩
    obtain rfl : z = 0 := Subsingleton.elim _ _
    have he : ((cfg0.win 7).blk t).view.emb (ix3 0 r l) = (ix3 (kk t.val) (row t.val r) l : S4x8192x704.Idx) := by
      funext a; apply Fin.ext
      match a with
      | ⟨0, _⟩ => show win0_7.index t 0 * 1 + 1 * 0 = t.val % 4; rw [h0]; omega
      | ⟨1, _⟩ => show win0_7.index t 1 * 1024 + 1 * r.val = (1024 * (t.val / 4) + r.val) % 8192; rw [h1]; omega
      | ⟨2, _⟩ => show win0_7.index t 2 * 704 + 1 * l.val = l.val; rw [h2]; omega
    rw [he]
    exact (ab_at μ c t r l).2
  · have l0 : (i 0 : Nat) < 4 := (i 0).isLt
    have l1 : (i 1 : Nat) < 8192 := (i 1).isLt
    have l2 : (i 2 : Nat) < 704 := (i 2).isLt
    have hN : cfg0.N = 32 := N_0
    let t : Fin cfg0.N := ⟨4 * ((i 1 : Nat) / 1024) + (i 0 : Nat), by omega⟩
    refine ⟨t, flush0_7 t, ?_⟩
    show i ∈ ((View.whole main_v12_2).slice (win0_7.rect t)).set
    rw [View.set_slice_whole, Rect.mem_set_unit]
    obtain ⟨h0, h1, h2⟩ := (idxs t).2.2.2.2.2.2.2
    intro a
    match a with
    | ⟨0, _⟩ => show win0_7.index t 0 * 1 ≤ (i 0 : Nat) ∧ (i 0 : Nat) < win0_7.index t 0 * 1 + 1
                rw [h0]; dsimp only [t]; omega
    | ⟨1, _⟩ => show win0_7.index t 1 * 1024 ≤ (i 1 : Nat) ∧ (i 1 : Nat) < win0_7.index t 1 * 1024 + 1024
                rw [h1]; dsimp only [t]; omega
    | ⟨2, _⟩ => show win0_7.index t 2 * 704 ≤ (i 2 : Nat) ∧ (i 2 : Nat) < win0_7.index t 2 * 704 + 704
                rw [h2]; omega
theorem final5 : (dats μ 0 c).arrAt 5 cfg0.N = outArr μ c := by
  refine (dats μ 0 c).arrAt_eq_of_cover 5 (outArr μ c) (fun t hf => ?_) fun i => ?_
  · rw [Value.flushed5]
    obtain ⟨h0, h1⟩ := (idxs t).2.2.2.2.2.1
    have ht := lt32 t
    funext j
    rw [View.read_apply]
    obtain ⟨r, l, rfl⟩ : ∃ (r l : Fin 1024), j = ix2 r l := ⟨j 0, j 1, eq_ix2 j⟩
    have he : ((cfg0.win 5).blk t).view.emb (ix2 r l) = (ix2 (row t.val r) l : S8192x1024.Idx) := by
      funext a; apply Fin.ext
      match a with
      | ⟨0, _⟩ => show win0_5.index t 0 * 1024 + 1 * r.val = (1024 * (t.val / 4) + r.val) % 8192; rw [h0]; omega
      | ⟨1, _⟩ => show win0_5.index t 1 * 1024 + 1 * l.val = l.val; rw [h1]; omega
    rw [he]
    exact out_at μ c t ((flush0_5 t).mp hf) r l
  · have l0 : (i 0 : Nat) < 8192 := (i 0).isLt
    have l1 : (i 1 : Nat) < 1024 := (i 1).isLt
    have hN : cfg0.N = 32 := N_0
    let t : Fin cfg0.N := ⟨4 * ((i 0 : Nat) / 1024) + 3, by omega⟩
    refine ⟨t, (flush0_5 t).mpr (by dsimp only [t]; omega), ?_⟩
    show i ∈ ((View.whole main_v12_0).slice (win0_5.rect t)).set
    rw [View.set_slice_whole, Rect.mem_set_unit]
    obtain ⟨h0, h1⟩ := (idxs t).2.2.2.2.2.1
    intro a
    match a with
    | ⟨0, _⟩ => show win0_5.index t 0 * 1024 ≤ (i 0 : Nat) ∧ (i 0 : Nat) < win0_5.index t 0 * 1024 + 1024
                rw [h0]; dsimp only [t]; omega
    | ⟨1, _⟩ => show win0_5.index t 1 * 1024 ≤ (i 1 : Nat) ∧ (i 1 : Nat) < win0_5.index t 1 * 1024 + 1024
                rw [h1]; omega
end
end

/-! ## The reference, read at an index -/

section
open Cert.FfnFwdRefIdeal Cert.FfnFwdRefIdeal.Gen Cert.FfnFwdRefIdeal.Read Idealize.ShloMosaic Idealize.ShloMosaic.TcCoe Idealize.SL.Sem Cert.Norm
variable (x0 : FVec Ideal S8192x1024 .f32) (x1 : FVec Ideal S1024 .f32) (x2 x3 : FVec Ideal S1024x2816 .f32) (x4 : FVec Ideal S2816x1024 .f32)
/-- Row `T` of the norm's output. -/
abbrev uR (T : Fin 8192) : Fin 1024 → EReal := normRow (fun k => x0 (ix2 T k)) (fun k => x1 (ix1 k))
theorem ref_u (T : Fin 8192) (l : Fin 1024) : val_main_v12 (F := Ideal) x0 x1 (ix2 T l) = uR x0 x1 T l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl
theorem ref_a (T : Fin 8192) (x : Fin 2816) : val_main_v13 (F := Ideal) x0 x1 x2 (ix2 T x) = ∑ l, uR x0 x1 T l * x2 (ix2 l x) := by
  pointwise [val_main_v13]
  exact Finset.sum_congr rfl fun l _ => congrArg (fun a : EReal => a * x2 (ix2 l x)) (ref_u x0 x1 T l)
theorem ref_b (T : Fin 8192) (x : Fin 2816) : val_main_v14 (F := Ideal) x0 x1 x3 (ix2 T x) = ∑ l, uR x0 x1 T l * x3 (ix2 l x) := by
  pointwise [val_main_v14]
  exact Finset.sum_congr rfl fun l _ => congrArg (fun a : EReal => a * x3 (ix2 l x)) (ref_u x0 x1 T l)
theorem ref_A (q : Fin 4) (T : Fin 8192) (j : Fin 704) : val_main_v23 (F := Ideal) x0 x1 x2 (ix3 q T j) = ∑ l, uR x0 x1 T l * x2 (ix2 l (fcol q j)) := by
  rw [← ref_a]
  pointwise [val_main_v23, val_main_v22, val_main_v21]
  refine congrArg (fun i => val_main_v13 (F := Ideal) x0 x1 x2 (ix2 T i)) (Fin.ext ?_)
  simp; omega
theorem ref_B (q : Fin 4) (T : Fin 8192) (j : Fin 704) : val_main_v26 (F := Ideal) x0 x1 x3 (ix3 q T j) = ∑ l, uR x0 x1 T l * x3 (ix2 l (fcol q j)) := by
  rw [← ref_b]
  pointwise [val_main_v26, val_main_v25, val_main_v24]
  refine congrArg (fun i => val_main_v14 (F := Ideal) x0 x1 x3 (ix2 T i)) (Fin.ext ?_)
  simp; omega
theorem ref_s (T : Fin 8192) (x : Fin 2816) : val_main_v16 (F := Ideal) x0 x1 x2 x3 (ix2 T x) =
    gate (∑ l, uR x0 x1 T l * x2 (ix2 l x)) (∑ l, uR x0 x1 T l * x3 (ix2 l x)) := by
  rw [← ref_a, ← ref_b]
  pointwise [val_main_v16, val_main_v15, val_main_call0_v5, val_main_call0_v4, val_main_call0_cst_0, val_main_call0_v3, val_main_call0_v2, val_main_call0_cst, val_main_call0_v1, val_main_call0_v0]
  rfl
theorem ref_out (T : Fin 8192) (k : Fin 1024) : val_main_v20 (F := Ideal) x0 x1 x2 x3 x4 (ix2 T k) = x0 (ix2 T k) + Ideal.ofBits .f32 0x3F000000#32 *
    ∑ x, gate (∑ l, uR x0 x1 T l * x2 (ix2 l x)) (∑ l, uR x0 x1 T l * x3 (ix2 l x)) * x4 (ix2 x k) := by
  pointwise [val_main_v20, val_main_v19, val_main_v18, val_main_v17, val_main_cst_2]
  refine congrArg (fun s : EReal => x0 (ix2 T k) + Ideal.ofBits .f32 0x3F000000#32 * s) (Finset.sum_congr rfl fun x _ => ?_)
  exact congrArg (fun a : EReal => a * x4 (ix2 x k)) (ref_s x0 x1 x2 x3 T x)
end

/-! ## The claims -/

section
open Cert.FfnFwdIdeal Cert.FfnFwdIdeal.Gen Idealize.ShloMosaic Idealize.ShloMosaic.TcCoe Idealize.SL.Sem Cert.Norm
/-- The reference's frame: its run read at the arguments; it has no semaphore. -/
theorem frame_ref : Cert.quiescent_FfnFwdRefIdeal (hFfnFwdRefIdeal := Cert.FfnFwdRefIdeal.Gen.facts) := fun m ρ _ =>
  (θ_run Cert.FfnFwdRefIdeal.defs _ _).mono (fun r h => ⟨fun c => (h c).2.2.2, sem_eq_zero_of_no_sems (by decide) r.2⟩)
    (Cert.FfnFwdRefIdeal.Value.run (F := Ideal) m ρ)

/-- The gated feed-forward: the kernel's three arrays are the reference's. -/
theorem algebraic : Cert.algebraic_FfnFwdIdeal_FfnFwdRefIdeal (hFfnFwdIdeal := Cert.FfnFwdIdeal.Gen.facts)
    (hFfnFwdRefIdeal := Cert.FfnFwdRefIdeal.Gen.facts) := by
  intro m g m' g' _ hm
  refine ⟨outArr m, aArr m, bArr m, ?_, ?_⟩
  · exact (θ_run _ _ _).mono (fun r h c => ⟨(h c).1.trans (final5 m c), (h c).2.1.trans (final6 m c), (h c).2.2.1.trans (final7 m c), (h c).2.2.2⟩)
      (Cert.FfnFwdIdeal.Value.run_blocks m g)
  · refine (θ_run _ _ _).mono (fun r h c => ⟨(h c).1.trans ?_, (h c).2.1.trans ?_, (h c).2.2.1.trans ?_, (h c).2.2.2⟩) (Cert.FfnFwdRefIdeal.Value.run m' g')
    all_goals obtain ⟨a0, a1, a2, a3, a4⟩ := hm c
    · rw [Cert.FfnFwdRefIdeal.Read.val_main_v20_eq, a0, a1, a2, a3, a4]
      funext i
      obtain ⟨T, k, rfl⟩ : ∃ (T : Fin 8192) (k : Fin 1024), i = ix2 T k := ⟨i 0, i 1, eq_ix2 i⟩
      refine (ref_out _ _ _ _ _ T k).trans ?_
      rw [sum_fcol]
      rfl
    · rw [Cert.FfnFwdRefIdeal.Read.val_main_v23_eq, a0, a1, a2]
      funext i
      obtain ⟨q, T, j, rfl⟩ : ∃ (q : Fin 4) (T : Fin 8192) (j : Fin 704), i = ix3 q T j := ⟨i 0, i 1, i 2, eq_ix3 i⟩
      exact ref_A _ _ _ q T j
    · rw [Cert.FfnFwdRefIdeal.Read.val_main_v26_eq, a0, a1, a3]
      funext i
      obtain ⟨q, T, j, rfl⟩ : ∃ (q : Fin 4) (T : Fin 8192) (j : Fin 704), i = ix3 q T j := ⟨i 0, i 1, i 2, eq_ix3 i⟩
      exact ref_B _ _ _ q T j
end

end Cert.FfnFwdIdeal.Hand
end
-- ==== Proof.ConvFwdRef.lean ====
module

public import proofs.«01_k».proof.Proof.Gen.ConvFwdIdeal.Value
public import proofs.«01_k».proof.Proof.Gen.ConvFwdRefIdeal.Run
public import proofs.«01_k».proof.Defs
public import proofs.«01_k».proof.Proof.Rows

/-! The convolution's forward kernel computes the reference's convolution under `silu`. A block of 1024 rows is
worked through in 16 chunks of 64; a scratch keeps the block with the eight rows before it. -/

@[expose] public section
set_option maxRecDepth 16384
noncomputable section
namespace Cert.ConvFwdIdeal.Hand

section
open Cert.ConvFwdIdeal Cert.ConvFwdIdeal.Gen Idealize.ShloMosaic Idealize.ShloMosaic.TcCoe Idealize.SL.Sem

/-! ## The stores, stated once for all chunks -/

section
variable {F : FTy → Type} [FloatOps F]

/-- A window of 64 rows of a buffer of 1032 rows, by its first row. -/
abbrev Win (F : FTy → Type) := (o : Nat) → o + 64 ≤ 1032 → Vec F S64x512 .f32

theorem inbW {n : Nat} (o : Nat) (h : o + 64 ≤ n) :
    ∀ a, (![o, 0] : Fin 2 → Nat) a + S64x512.size a ≤ (⟨2, ![n, 512]⟩ : Shape).size a := by
  intro a
  match a with
  | ⟨0, _⟩ => exact h
  | ⟨1, _⟩ => exact Nat.le_refl 512

/-- Chunk `k` of the output: `W` are the rows of the input with the eight rows before it. -/
def yC (w : FVec F S8x512 .f32) (b : Vec F S1x512 .f32) (W : Win F) (k : Nat) (h : k < 16) : FVec F S64x512 .f32 :=
  k0_pay15 w b (W (5 + 64 * k) (by omega)) (W (6 + 64 * k) (by omega)) (W (7 + 64 * k) (by omega)) (W (8 + 64 * k) (by omega))

/-- The first `n` chunks of the output, last store first. -/
def oPieces (w : FVec F S8x512 .f32) (b : Vec F S1x512 .f32) (W : Win F) : (n : Nat) → n ≤ 16 → List (View.Piece (Elt F) S1024x512 .f32)
  | 0, _ => []
  | n + 1, h => ⟨Rect.unit (s := S1024x512) ![64 * n, 0] S64x512.size (inbW (64 * n) (by omega)), yC w b W n (by omega)⟩ :: oPieces w b W n (by omega)

variable (c : Dev nD) (i : grid0.Coords) (arg2 : Memref sig .tc .vmem S1024x512 .f32) (harg2 : arg2.IsWhole) (arg3 : Memref sig .tc .vmem S8x512 .f32) (harg3 : arg3.IsWhole)
  (arg4 : Memref sig .tc .vmem S1x512 .f32) (harg4 : arg4.IsWhole) (arg5 : Memref sig .tc .vmem S1024x512 .f32) (harg5 : arg5.IsWhole) (arg6 : Memref sig .tc .vmem S1032x512 .f32) (harg6 : arg6.IsWhole)
  (x0 : Vec F S1024x512 .f32) (x1 : Vec F S8x512 .f32) (x2 : Vec F S1x512 .f32) (xs0 : Vec F S1032x512 .f32)

/-- The block as it is stored in the scratch, below the first eight rows. -/
abbrev xP : View.Piece (Elt F) S1032x512 .f32 := ⟨Rect.unit ![8, 0] S1024x512.size inb_S1032x512_S1024x512_8_0,
  k0_pay4 (View.readAt (Elt F) arg2.view (Rect.unit ![0, 0] S1024x512.size inb_S1024x512_S1024x512_0_0).toLoadRect (harg2.unread x0))⟩
/-- Zeros in the first eight rows. -/
abbrev zP : View.Piece (Elt F) S1032x512 .f32 := ⟨Rect.unit ![0, 0] S8x512.size inb_S1032x512_S8x512_0_0, k0_pay3⟩
abbrev wV : FVec F S8x512 .f32 :=
  k0_pay5 (View.readAt (Elt F) arg3.view (Rect.unit ![0, 0] S8x512.size inb_S8x512_S8x512_0_0).toLoadRect (harg3.unread x1))
abbrev bV : Vec F S1x512 .f32 :=
  View.readAt (Elt F) arg4.view (Rect.unit ![0, 0] S1x512.size inb_S1x512_S1x512_0_0).toLoadRect (harg4.unread x2)
/-- The windows of a scratch's contents. -/
abbrev win (v : View sig .tc .vmem S1032x512 .f32) (f : v.ty.Contents (Elt F)) : Win F :=
  fun o h => View.readAt (Elt F) v (Rect.unit (s := S1032x512) ![o, 0] S64x512.size (inbW o h)).toLoadRect f
/-- The scratch's contents in the first time block, and in a later one. -/
abbrev fA := arg6.view.writes (Elt F) arg6.view.junk [xP arg2 harg2 x0, zP (F := F)]
abbrev fB := arg6.view.writes (Elt F) (harg6.unread xs0) [xP arg2 harg2 x0]
/-- The block alone: rows from the eighth on do not depend on the earlier contents. -/
abbrev fX := arg6.view.writes (Elt F) arg6.view.junk [xP arg2 harg2 x0]
abbrev winB : Win F := fun o h => if 8 ≤ o then win arg6.view (fX arg2 harg2 arg6 x0) o h else win arg6.view (fB arg2 harg2 arg6 harg6 x0 xs0) o h
/-- The block's last eight rows, stored as the first eight for the next block. -/
abbrev tP (v : View sig .tc .vmem S1032x512 .f32) (f : v.ty.Contents (Elt F)) : View.Piece (Elt F) S1032x512 .f32 :=
  ⟨Rect.unit ![0, 0] S8x512.size inb_S1032x512_S8x512_0_0,
    k0_pay2 (View.readAt (Elt F) v (Rect.unit (s := S1032x512) ![1024, 0] S8x512.size inb_S1032x512_S8x512_1024_0).toLoadRect f)⟩

theorem runA (hc0 : cond0_0 i) : out0_A_3 c i arg2 harg2 arg3 harg3 arg4 harg4 arg5 harg5 arg6 harg6 hc0 x0 x1 x2 =
    VO0_3.read (Elt F) (VO0_3.writes (Elt F) VO0_3.junk (oPieces (wV arg3 harg3 x1) (bV arg4 harg4 x2) (win arg6.view (fA arg2 harg2 arg6 x0)) 16 (Nat.le_refl 16))) := by
  unfold out0_A_3 kernelRun0_A
  rfl
theorem runB (hc0 : ¬cond0_0 i) : out0_B_3 c i arg2 harg2 arg3 harg3 arg4 harg4 arg5 harg5 arg6 harg6 hc0 x0 x1 x2 xs0 =
    VO0_3.read (Elt F) (VO0_3.writes (Elt F) VO0_3.junk (oPieces (wV arg3 harg3 x1) (bV arg4 harg4 x2) (winB arg2 harg2 arg6 harg6 x0 xs0) 16 (Nat.le_refl 16))) := by
  unfold out0_B_3 kernelRun0_B
  rfl
theorem runAs (hc0 : cond0_0 i) : sout0_A_0 c i arg2 harg2 arg3 harg3 arg4 harg4 arg5 harg5 arg6 harg6 hc0 x0 x1 x2 =
    VS0_0.read (Elt F) (VS0_0.writes (Elt F) VS0_0.junk [tP arg6.view (fA arg2 harg2 arg6 x0), xP arg2 harg2 x0, zP (F := F)]) := by
  unfold sout0_A_0 kernelRun0_A
  rfl
theorem runBs (hc0 : ¬cond0_0 i) : sout0_B_0 c i arg2 harg2 arg3 harg3 arg4 harg4 arg5 harg5 arg6 harg6 hc0 x0 x1 x2 xs0 =
    VS0_0.read (Elt F) (VS0_0.writes (Elt F) VS0_0.junk [tP arg6.view (fX arg2 harg2 arg6 x0), xP arg2 harg2 x0]) := by
  unfold sout0_B_0 kernelRun0_B
  rfl
end

/-! ## One grid point, read at an index -/

/-- `silu` as the kernel computes it. -/
def act (y : EReal) : EReal := y * Ideal.div 1 (1 + Ideal.exp (0 - y))
/-- The pre-activation from the bias, the four taps and the four rows they read. -/
def pre4 (b w0 w1 w2 w3 e0 e1 e2 e3 : EReal) : EReal := b + w0 * e0 + w1 * e1 + w2 * e2 + w3 * e3
/-- A row of the output from the rows of the input, numbered from eight before the block. -/
def rowY (w : Vec Ideal S8x512 .f32) (b : Vec Ideal S1x512 .f32) (Y : ℕ → EReal) (r : ℕ) (l : Fin 512) : EReal :=
  act (pre4 (b (ix2 0 l)) (w (ix2 0 l)) (w (ix2 1 l)) (w (ix2 2 l)) (w (ix2 3 l)) (Y (5 + r)) (Y (6 + r)) (Y (7 + r)) (Y (8 + r)))

theorem yC_at (w : FVec Ideal S8x512 .f32) (b : Vec Ideal S1x512 .f32) (W : Win Ideal) (k : Nat) (h : k < 16) (r : Fin 64) (l : Fin 512) :
    yC w b W k h (ix2 r l) = act (pre4 (b (ix2 0 l)) (w (ix2 0 l)) (w (ix2 1 l)) (w (ix2 2 l)) (w (ix2 3 l))
      (W (5 + 64 * k) (by omega) (ix2 r l)) (W (6 + 64 * k) (by omega) (ix2 r l)) (W (7 + 64 * k) (by omega) (ix2 r l)) (W (8 + 64 * k) (by omega) (ix2 r l))) := by
  unfold yC
  pointwise [k0_pay15]
  rfl

theorem oPieces_at (v : View sig .tc .vmem S1024x512 .f32) (f : v.ty.Contents (Elt Ideal)) (w : FVec Ideal S8x512 .f32) (b : Vec Ideal S1x512 .f32)
    (W : Win Ideal) (Y : ℕ → EReal) (r : Fin 1024) (l : Fin 512) (hW : ∀ (o : Nat) (h : o + 64 ≤ 1032) (q : Fin 64), W o h (ix2 q l) = Y (o + q.val)) :
    ∀ (n : Nat) (h : n ≤ 16), v.read (Elt Ideal) (v.writes (Elt Ideal) f (oPieces w b W n h)) (ix2 r l) =
      if r.val < 64 * n then rowY w b Y r.val l else v.read (Elt Ideal) f (ix2 r l)
  | 0, _ => by unfold oPieces; rw [if_neg (by omega)]; rfl
  | n + 1, h => by
    unfold oPieces
    refine (Rows.read_cons v f (64 * n) _ _ _ r l).trans ?_
    by_cases hr : 64 * n ≤ r.val ∧ r.val < 64 * n + 64
    · rw [dif_pos hr, if_pos (by omega), yC_at]
      have e : ∀ j : Nat, j + 64 * n + (r.val - 64 * n) = j + r.val := fun j => by omega
      unfold rowY
      simp only [hW, e]
    · rw [dif_neg hr, oPieces_at v f w b W Y r l hW n (by omega)]
      by_cases h2 : r.val < 64 * n
      · rw [if_pos h2, if_pos (by omega)]
      · rw [if_neg h2, if_neg (by omega)]

section
variable (c : Dev nD) (i : grid0.Coords) (arg2 : Memref sig .tc .vmem S1024x512 .f32) (harg2 : arg2.IsWhole) (arg3 : Memref sig .tc .vmem S8x512 .f32) (harg3 : arg3.IsWhole)
  (arg4 : Memref sig .tc .vmem S1x512 .f32) (harg4 : arg4.IsWhole) (arg5 : Memref sig .tc .vmem S1024x512 .f32) (harg5 : arg5.IsWhole) (arg6 : Memref sig .tc .vmem S1032x512 .f32) (harg6 : arg6.IsWhole)
  (x0 : Vec Ideal S1024x512 .f32) (x1 : Vec Ideal S8x512 .f32) (x2 : Vec Ideal S1x512 .f32) (xs0 : Vec Ideal S1032x512 .f32)
  (Y : ℕ → EReal) (l : Fin 512) (hx : ∀ q : Fin 1024, x0 (ix2 q l) = Y (8 + q.val))

theorem wV_at (r : Fin 8) : wV arg3 harg3 x1 (ix2 r l) = x1 (ix2 r l) := by
  unfold wV k0_pay5
  dsimp only
  rw [shapeCast_self, Rows.readAt_rows arg3.view _ 0 _ r l (by omega), harg3.read_unread]
  congr 2; apply Fin.ext; show 0 + r.val = r.val; omega
theorem bV_at : bV arg4 harg4 x2 (ix2 0 l) = x2 (ix2 0 l) := by
  unfold bV
  rw [Rows.readAt_rows arg4.view _ 0 _ 0 l (by decide), harg4.read_unread]
  rfl
theorem rowV (r : ℕ) : rowY (wV arg3 harg3 x1) (bV arg4 harg4 x2) Y r l = rowY x1 x2 Y r l := by
  unfold rowY
  rw [wV_at, wV_at, wV_at, wV_at, bV_at]

include hx
/-- The scratch, once the block is stored over contents whose first eight rows are the rows before it. -/
theorem ext_at (f : arg6.view.ty.Contents (Elt Ideal)) (q : Fin 1032) (hf : q.val < 8 → arg6.view.read (Elt Ideal) f (ix2 q l) = Y q.val) :
    arg6.view.read (Elt Ideal) (arg6.view.writes (Elt Ideal) f [xP arg2 harg2 x0]) (ix2 q l) = Y q.val := by
  refine (Rows.read_cons arg6.view f 8 _ _ _ q l).trans ?_
  by_cases h8 : q.val < 8
  · rw [dif_neg (by omega)]
    exact hf h8
  · rw [dif_pos (by omega)]
    unfold k0_pay4
    dsimp only
    rw [shapeCast_self, Rows.readAt_rows arg2.view _ 0 _ _ l (by show 0 + (q.val - 8) < 1024; omega), harg2.read_unread, hx]
    congr 1; show 8 + (0 + (q.val - 8)) = q.val; omega

theorem fA_at (hz : ∀ q, q < 8 → Y q = 0) (q : Fin 1032) : arg6.view.read (Elt Ideal) (fA arg2 harg2 arg6 x0) (ix2 q l) = Y q.val := by
  refine ext_at arg2 harg2 arg6 x0 Y l hx (arg6.view.writes (Elt Ideal) arg6.view.junk [zP (F := Ideal)]) q fun h8 => ?_
  refine (Rows.read_cons arg6.view _ 0 _ _ _ q l).trans ?_
  rw [dif_pos (by omega), hz _ h8]
  pointwise [k0_pay3]

omit hx in
/-- The output from windows whose rows are known. -/
theorem out_of (W : Win Ideal) (hW : ∀ (o : Nat) (h : o + 64 ≤ 1032) (q : Fin 64), W o h (ix2 q l) = Y (o + q.val)) (r : Fin 1024) :
    VO0_3.read (Elt Ideal) (VO0_3.writes (Elt Ideal) VO0_3.junk (oPieces (wV arg3 harg3 x1) (bV arg4 harg4 x2) W 16 (Nat.le_refl 16))) (ix2 r l) =
      rowY x1 x2 Y r.val l :=
  ((oPieces_at VO0_3 _ _ _ _ Y r l hW 16 (Nat.le_refl 16)).trans (if_pos r.isLt)).trans (rowV arg3 harg3 arg4 harg4 x1 x2 Y l r.val)

omit hx in
/-- The scratch's first eight rows after the point. -/
theorem tail_of (f : arg6.view.ty.Contents (Elt Ideal)) (hf : ∀ q : Fin 1032, 8 ≤ q.val → arg6.view.read (Elt Ideal) f (ix2 q l) = Y q.val)
    (L : List (View.Piece (Elt Ideal) S1032x512 .f32)) (q : Fin 1032) (h8 : q.val < 8) :
    VS0_0.read (Elt Ideal) (VS0_0.writes (Elt Ideal) VS0_0.junk (tP arg6.view f :: L)) (ix2 q l) = Y (1024 + q.val) := by
  refine (Rows.read_cons VS0_0 _ 0 _ _ _ q l).trans ?_
  rw [dif_pos (by omega)]
  unfold k0_pay2
  dsimp only
  rw [shapeCast_self, Rows.readAt_rows arg6.view _ 1024 _ _ l (by show 1024 + (q.val - 0) < 1032; omega), hf _ (by show 8 ≤ 1024 + (q.val - 0); omega)]
  rfl

/-- The first time block. -/
theorem outA (hc0 : cond0_0 i) (hz : ∀ q, q < 8 → Y q = 0) (r : Fin 1024) :
    out0_A_3 c i arg2 harg2 arg3 harg3 arg4 harg4 arg5 harg5 arg6 harg6 hc0 x0 x1 x2 (ix2 r l) = rowY x1 x2 Y r.val l := by
  rw [runA]
  exact out_of arg3 harg3 arg4 harg4 x1 x2 Y l _ (fun o h q => (Rows.readAt_rows arg6.view _ o _ q l (by omega)).trans (fA_at arg2 harg2 arg6 x0 Y l hx hz _)) r
theorem scrA (hc0 : cond0_0 i) (hz : ∀ q, q < 8 → Y q = 0) (q : Fin 1032) (h8 : q.val < 8) :
    sout0_A_0 c i arg2 harg2 arg3 harg3 arg4 harg4 arg5 harg5 arg6 harg6 hc0 x0 x1 x2 (ix2 q l) = Y (1024 + q.val) := by
  rw [runAs]
  exact tail_of arg6 Y l _ (fun q _ => fA_at arg2 harg2 arg6 x0 Y l hx hz q) _ q h8
/-- A later time block. -/
theorem outB (hc0 : ¬cond0_0 i) (hs : ∀ q : Fin 1032, q.val < 8 → xs0 (ix2 q l) = Y q.val) (r : Fin 1024) :
    out0_B_3 c i arg2 harg2 arg3 harg3 arg4 harg4 arg5 harg5 arg6 harg6 hc0 x0 x1 x2 xs0 (ix2 r l) = rowY x1 x2 Y r.val l := by
  rw [runB]
  refine out_of arg3 harg3 arg4 harg4 x1 x2 Y l _ (fun o h q => ?_) r
  by_cases h8 : 8 ≤ o
  · rw [winB, if_pos h8]
    exact (Rows.readAt_rows arg6.view _ o _ q l (by omega)).trans (ext_at arg2 harg2 arg6 x0 Y l hx _ _ fun h' => absurd h' (by show ¬ o + q.val < 8; omega))
  · rw [winB, if_neg h8]
    exact (Rows.readAt_rows arg6.view _ o _ q l (by omega)).trans (ext_at arg2 harg2 arg6 x0 Y l hx _ _ fun h' => by rw [harg6.read_unread]; exact hs _ h')
theorem scrB (hc0 : ¬cond0_0 i) (q : Fin 1032) (h8 : q.val < 8) :
    sout0_B_0 c i arg2 harg2 arg3 harg3 arg4 harg4 arg5 harg5 arg6 harg6 hc0 x0 x1 x2 xs0 (ix2 q l) = Y (1024 + q.val) := by
  rw [runBs]
  exact tail_of arg6 Y l _ (fun q h => ext_at arg2 harg2 arg6 x0 Y l hx _ q fun h' => absurd h' (by omega)) _ q h8
end

/-! ## The array the run leaves -/

section
variable (μ : (ℓ : Loc nD τ sig) → Buf (Elt Ideal) ℓ) (c : Dev nD) (t : Fin cfg0.N)

/-- Row `T` of a column of the convolution's input, numbered from eight rows before the first, which are zero. -/
def xe (X : Vec Ideal S8192x5632 .f32) (k : Fin 3072) (T : ℕ) : EReal :=
  if h : 8 ≤ T ∧ T < 8200 then X (ix2 ⟨T - 8, by omega⟩ ⟨2048 + k.val, by omega⟩) else 0
/-- The convolution under `silu`. -/
def conv (X : Vec Ideal S8192x5632 .f32) (W : Vec Ideal S1x4x3072 .f32) (b : Vec Ideal S1x3072 .f32) (T : Fin 8192) (k : Fin 3072) : EReal :=
  act (pre4 (b (ix2 0 k)) (W (ix3 0 0 k)) (W (ix3 0 1 k)) (W (ix3 0 2 k)) (W (ix3 0 3 k))
    (xe X k (5 + T.val)) (xe X k (6 + T.val)) (xe X k (7 + T.val)) (xe X k (8 + T.val)))
abbrev aX : Vec Ideal S8192x5632 .f32 := μ ((c : Thread nD τ).loc main_arg0)
abbrev aW : Vec Ideal S1x4x3072 .f32 := μ ((c : Thread nD τ).loc main_arg1)
abbrev aB : Vec Ideal S1x3072 .f32 := μ ((c : Thread nD τ).loc main_arg2)
def outArr : Buf (Elt Ideal) ((c : Thread nD τ).loc main_v2) := fun i => conv (aX μ c) (aW μ c) (aB μ c) (i 0) (i 1)

theorem ltN : t.val < 48 := lt_of_lt_of_eq t.isLt N_0
/-- The rows and columns of a point's block. -/
abbrev row (n : ℕ) (r : Fin 1024) : Fin 8192 := ⟨1024 * (n % 8) + r.val, by omega⟩
abbrev col (n : ℕ) (l : Fin 512) : Fin 3072 := ⟨(512 * (n / 8) + l.val) % 3072, by omega⟩
theorem idxs : (win0_0.index t 0 = t.val % 8 ∧ win0_0.index t 1 = 4 + t.val / 8) ∧ (win0_1.index t 0 = 0 ∧ win0_1.index t 1 = t.val / 8) ∧
    (win0_2.index t 0 = 0 ∧ win0_2.index t 1 = t.val / 8) ∧ win0_3.index t 0 = t.val % 8 ∧ win0_3.index t 1 = t.val / 8 :=
  (by decide +kernel : ∀ t : Fin cfg0.N, (win0_0.index t 0 = t.val % 8 ∧ win0_0.index t 1 = 4 + t.val / 8) ∧ (win0_1.index t 0 = 0 ∧ win0_1.index t 1 = t.val / 8) ∧
    (win0_2.index t 0 = 0 ∧ win0_2.index t 1 = t.val / 8) ∧ win0_3.index t 0 = t.val % 8 ∧ win0_3.index t 1 = t.val / 8) t

/-- The rows a point reads. -/
abbrev Yt (n : ℕ) (l : Fin 512) : ℕ → EReal := fun q => xe (aX μ c) (col n l) (1024 * (n % 8) + q)

theorem blk0 (r : Fin 1024) (l : Fin 512) : (iblk μ c 0 t : Vec Ideal S1024x512 .f32) (ix2 r l) = Yt μ c t.val l (8 + r.val) := by
  have ht := ltN t
  obtain ⟨h0, h1⟩ := (idxs t).1
  unfold Yt xe
  rw [dif_pos (by omega)]
  unfold iblk
  rw [View.read_apply]
  show V μ c main_arg0 _ = _
  refine congrArg (aX μ c) (funext fun a => Fin.ext ?_)
  match a with
  | ⟨0, _⟩ => show win0_0.index t 0 * 1024 + 1 * r.val = 1024 * (t.val % 8) + (8 + r.val) - 8; rw [h0]; omega
  | ⟨1, _⟩ => show win0_0.index t 1 * 512 + 1 * l.val = 2048 + (512 * (t.val / 8) + l.val) % 3072; rw [h1]; omega
/-- The taps, padded to eight rows before the kernel runs. -/
theorem taps : V μ c main_v1 = pad S8x3072 ![0, 0] ![4, 0] ![0, 0] (shapeCast S4x3072 (aW μ c) shapeCasts_S1x4x3072_S4x3072)
    (sitofp .f32 (constantI S_ 32 0#32) : FVec Ideal S_ .f32) pads_S4x3072_S8x3072_040_000 h_S_ := by
  rfl
theorem pad_at (W : Vec Ideal S1x4x3072 .f32) (z : Vec Ideal S_ .f32) (j : Fin 4) (k : Fin 3072) :
    pad S8x3072 ![0, 0] ![4, 0] ![0, 0] (shapeCast S4x3072 W shapeCasts_S1x4x3072_S4x3072) z pads_S4x3072_S8x3072_040_000 h_S_
      (ix2 ⟨j.val, by omega⟩ k) = W (ix3 0 j k) := by
  pointwise []
theorem blk1 (j : Fin 4) (l : Fin 512) : (iblk μ c 1 t : Vec Ideal S8x512 .f32) (ix2 ⟨j.val, by omega⟩ l) = aW μ c (ix3 0 j (col t.val l)) := by
  have ht := ltN t
  obtain ⟨h0, h1⟩ := (idxs t).2.1
  unfold iblk
  rw [View.read_apply]
  show V μ c main_v1 _ = _
  rw [taps, ← pad_at (aW μ c) (sitofp .f32 (constantI S_ 32 0#32) : FVec Ideal S_ .f32)]
  congr 1
  funext a
  apply Fin.ext
  match a with
  | ⟨0, _⟩ => show win0_1.index t 0 * 8 + 1 * j.val = j.val; rw [h0]; omega
  | ⟨1, _⟩ => show win0_1.index t 1 * 512 + 1 * l.val = (512 * (t.val / 8) + l.val) % 3072; rw [h1]; omega
theorem blk2 (l : Fin 512) : (iblk μ c 2 t : Vec Ideal S1x512 .f32) (ix2 0 l) = aB μ c (ix2 0 (col t.val l)) := by
  have ht := ltN t
  obtain ⟨h0, h1⟩ := (idxs t).2.2.1
  unfold iblk
  rw [View.read_apply]
  show V μ c main_arg2 _ = _
  refine congrArg (aB μ c) (funext fun a => Fin.ext ?_)
  match a with
  | ⟨0, _⟩ => show win0_2.index t 0 * 1 + 1 * 0 = 0; rw [h0]
  | ⟨1, _⟩ => show win0_2.index t 1 * 512 + 1 * l.val = (512 * (t.val / 8) + l.val) % 3072; rw [h1]; omega

/-- A first time block has zeros before it. -/
theorem first (n : ℕ) (l : Fin 512) (h : n % 8 = 0) (q : ℕ) (hq : q < 8) : Yt μ c n l q = 0 := by
  unfold Yt xe
  rw [h, dif_neg (by omega)]
/-- What a point leaves for the next one. -/
theorem scr_at (q : Fin 1032) (h8 : q.val < 8) (l : Fin 512) : (outsAt0 μ c t.val t.isLt).2 (ix2 q l) = Yt μ c t.val l (1024 + q.val) := by
  by_cases h : t.val % 8 = 0
  · rw [outsAt0_A μ c t h]
    dsimp only
    exact scrA c _ _ _ _ _ _ _ _ _ _ _ _ _ _ (Yt μ c t.val l) l (fun r => blk0 μ c t r l) _ (fun q hq => first μ c t.val l h q hq) q h8
  · rw [outsAt0_B μ c t h]
    dsimp only
    exact scrB c _ _ _ _ _ _ _ _ _ _ _ _ _ _ _ (Yt μ c t.val l) l (fun r => blk0 μ c t r l) _ q h8
/-- What a point leaves in the output. -/
theorem out_at (r : Fin 1024) (l : Fin 512) : (outsAt0 μ c t.val t.isLt).1 (ix2 r l) = conv (aX μ c) (aW μ c) (aB μ c) (row t.val r) (col t.val l) := by
  have e : rowY (iblk μ c 1 t) (iblk μ c 2 t) (Yt μ c t.val l) r.val l = conv (aX μ c) (aW μ c) (aB μ c) (row t.val r) (col t.val l) := by
    have s : ∀ j : ℕ, 1024 * (t.val % 8) + (j + r.val) = j + (1024 * (t.val % 8) + r.val) := fun j => by omega
    unfold rowY conv Yt
    rw [blk2 μ c t l, show (iblk μ c 1 t : Vec Ideal S8x512 .f32) (ix2 0 l) = _ from blk1 μ c t 0 l, show (iblk μ c 1 t : Vec Ideal S8x512 .f32) (ix2 1 l) = _ from blk1 μ c t 1 l,
      show (iblk μ c 1 t : Vec Ideal S8x512 .f32) (ix2 2 l) = _ from blk1 μ c t 2 l, show (iblk μ c 1 t : Vec Ideal S8x512 .f32) (ix2 3 l) = _ from blk1 μ c t 3 l]
    simp only [s]
  by_cases h : t.val % 8 = 0
  · rw [outsAt0_A μ c t h]
    dsimp only
    exact (outA c _ _ _ _ _ _ _ _ _ _ _ _ _ _ (Yt μ c t.val l) l (fun r => blk0 μ c t r l) _ (fun q hq => first μ c t.val l h q hq) r).trans e
  · rw [outsAt0_B μ c t h]
    dsimp only
    refine (outB c _ _ _ _ _ _ _ _ _ _ _ _ _ _ _ (Yt μ c t.val l) l (fun r => blk0 μ c t r l) _ (fun q h8 => ?_) r).trans e
    have ht := ltN t
    refine (scr_at μ c ⟨t.val - 1, by omega⟩ q h8 l).trans ?_
    unfold Yt
    dsimp only
    congr 1
    · apply Fin.ext; show (512 * ((t.val - 1) / 8) + l.val) % 3072 = (512 * (t.val / 8) + l.val) % 3072; rw [show (t.val - 1) / 8 = t.val / 8 by omega]
    · omega

theorem final : (dats μ 0 c).arrAt 3 cfg0.N = outArr μ c := by
  refine (dats μ 0 c).arrAt_eq_of_cover 3 (outArr μ c) (fun t _ => ?_) fun i => ?_
  · rw [Value.flushed3]
    obtain ⟨h0, h1⟩ := (idxs t).2.2.2
    have ht := ltN t
    funext j
    rw [View.read_apply]
    obtain ⟨r, k, rfl⟩ : ∃ (r : Fin 1024) (k : Fin 512), j = ix2 r k := ⟨j 0, j 1, eq_ix2 j⟩
    have he : ((cfg0.win 3).blk t).view.emb (ix2 r k) = (ix2 (row t.val r) (col t.val k) : S8192x3072.Idx) := by
      funext a; apply Fin.ext
      match a with
      | ⟨0, _⟩ => show win0_3.index t 0 * 1024 + 1 * r.val = 1024 * (t.val % 8) + r.val; rw [h0]; omega
      | ⟨1, _⟩ => show win0_3.index t 1 * 512 + 1 * k.val = (512 * (t.val / 8) + k.val) % 3072; rw [h1]; omega
    rw [he]
    exact out_at μ c t r k
  · have l0 : (i 0 : Nat) < 8192 := (i 0).isLt
    have l1 : (i 1 : Nat) < 3072 := (i 1).isLt
    have hN : cfg0.N = 48 := N_0
    let t : Fin cfg0.N := ⟨8 * ((i 1 : Nat) / 512) + (i 0 : Nat) / 1024, by omega⟩
    refine ⟨t, flush0_3 t, ?_⟩
    show i ∈ ((View.whole main_v2).slice (win0_3.rect t)).set
    rw [View.set_slice_whole, Rect.mem_set_unit]
    obtain ⟨h0, h1⟩ := (idxs t).2.2.2
    intro a
    match a with
    | ⟨0, _⟩ => show win0_3.index t 0 * 1024 ≤ (i 0 : Nat) ∧ (i 0 : Nat) < win0_3.index t 0 * 1024 + 1024
                rw [h0]; dsimp only [t]; omega
    | ⟨1, _⟩ => show win0_3.index t 1 * 512 ≤ (i 1 : Nat) ∧ (i 1 : Nat) < win0_3.index t 1 * 512 + 512
                rw [h1]; dsimp only [t]; omega
end
end

/-! ## The reference, read at an index -/

section
open Cert.ConvFwdRefIdeal Cert.ConvFwdRefIdeal.Gen Idealize.ShloMosaic Idealize.ShloMosaic.TcCoe Idealize.SL.Sem
variable (X : Vec Ideal S8192x5632 .f32) (W : Vec Ideal S1x4x3072 .f32) (b : Vec Ideal S1x3072 .f32)
/-- The input under three rows of zeros. -/
def padR : Vec Ideal S8195x3072 .f32 :=
  concatenate S8195x3072 0 [⟨S3x3072, (broadcastInDim S3x3072 ![] bcast_S_S3x3072 (constant S_ .f32 0x00000000#32 : FVec Ideal S_ .f32))⟩, ⟨S8192x3072, (extractStridedSlice S8192x3072 ![0, 2048] X slices_S8192x5632_S8192x3072_0_2048)⟩] concatenates_S3x3072_S8192x3072_S8195x3072_d0
/-- The reference's pre-activation. -/
def preR : FVec Ideal S8192x3072 .f32 := addf (broadcastInDim S8192x3072 ![0, 1] bcast_S1x3072_S8192x3072_0_1 (broadcastInDim S1x3072 ![1] bcast_S3072_S1x3072_1 (shapeCast _ b shapeCasts_S1x3072_S3072))) (addf (addf (addf (addf (broadcastInDim S8192x3072 ![] bcast_S_S8192x3072 (constant S_ .f32 0x00000000#32))
    (mulf (broadcastInDim S8192x3072 ![0, 1] bcast_S1x3072_S8192x3072_0_1 (broadcastInDim S1x3072 ![1] bcast_S3072_S1x3072_1 (shapeCast _ (extractStridedSlice S1x1x3072 ![0, 0, 0] W slices_S1x4x3072_S1x1x3072_0_0_0) shapeCasts_S1x1x3072_S3072))) (extractStridedSlice S8192x3072 ![0, 0] (padR X) slices_S8195x3072_S8192x3072_0_0)))
    (mulf (broadcastInDim S8192x3072 ![0, 1] bcast_S1x3072_S8192x3072_0_1 (broadcastInDim S1x3072 ![1] bcast_S3072_S1x3072_1 (shapeCast _ (extractStridedSlice S1x1x3072 ![0, 1, 0] W slices_S1x4x3072_S1x1x3072_0_1_0) shapeCasts_S1x1x3072_S3072))) (extractStridedSlice S8192x3072 ![1, 0] (padR X) slices_S8195x3072_S8192x3072_1_0)))
    (mulf (broadcastInDim S8192x3072 ![0, 1] bcast_S1x3072_S8192x3072_0_1 (broadcastInDim S1x3072 ![1] bcast_S3072_S1x3072_1 (shapeCast _ (extractStridedSlice S1x1x3072 ![0, 2, 0] W slices_S1x4x3072_S1x1x3072_0_2_0) shapeCasts_S1x1x3072_S3072))) (extractStridedSlice S8192x3072 ![2, 0] (padR X) slices_S8195x3072_S8192x3072_2_0)))
    (mulf (broadcastInDim S8192x3072 ![0, 1] bcast_S1x3072_S8192x3072_0_1 (broadcastInDim S1x3072 ![1] bcast_S3072_S1x3072_1 (shapeCast _ (extractStridedSlice S1x1x3072 ![0, 3, 0] W slices_S1x4x3072_S1x1x3072_0_3_0) shapeCasts_S1x1x3072_S3072))) (extractStridedSlice S8192x3072 ![3, 0] (padR X) slices_S8195x3072_S8192x3072_3_0)))
def outR : FVec Ideal S8192x3072 .f32 := mulf (preR X W b) (Host.divf (broadcastInDim S8192x3072 ![] bcast_S_S8192x3072 (constant S_ .f32 0x3F800000#32))
  (addf (broadcastInDim S8192x3072 ![] bcast_S_S8192x3072 (constant S_ .f32 0x3F800000#32)) (Host.exp (Host.negf (preR X W b)))))
theorem padR_apply (T : Fin 8195) (k : Fin 3072) : padR X (ix2 T k) = xe X k (5 + T.val) := by
  pointwise [padR]
  unfold xe
  by_cases h : T.val < 3
  · rw [dif_pos h, dif_neg (by omega)]
  · rw [dif_neg h, dif_pos (by omega)]
    congr 2; apply Fin.ext; dsimp only; omega
theorem preR_apply (T : Fin 8192) (k : Fin 3072) : preR X W b (ix2 T k) =
    pre4 (b (ix2 0 k)) (W (ix3 0 0 k)) (W (ix3 0 1 k)) (W (ix3 0 2 k)) (W (ix3 0 3 k)) (xe X k (5 + T.val)) (xe X k (6 + T.val)) (xe X k (7 + T.val)) (xe X k (8 + T.val)) := by
  pointwise [preR]
  unfold pre4
  have s1 : 5 + (1 + T.val) = 6 + T.val := by omega
  have s2 : 5 + (2 + T.val) = 7 + T.val := by omega
  have s3 : 5 + (3 + T.val) = 8 + T.val := by omega
  simp only [padR_apply, s1, s2, s3]
  simp only [add_assoc]
theorem outR_apply (T : Fin 8192) (k : Fin 3072) : outR X W b (ix2 T k) = conv X W b T k := by
  pointwise [outR]
  unfold conv act
  rw [preR_apply, zero_sub]
end

/-! ## The claims -/

section
open Cert.ConvFwdIdeal Cert.ConvFwdIdeal.Gen Idealize.ShloMosaic Idealize.ShloMosaic.TcCoe Idealize.SL.Sem
/-- The reference's frame: its run read at the arguments; it has no semaphore. -/
theorem frame_ref : Cert.quiescent_ConvFwdRefIdeal (hConvFwdRefIdeal := Cert.ConvFwdRefIdeal.Gen.facts) := fun m ρ _ =>
  (θ_run Cert.ConvFwdRefIdeal.defs _ _).mono (fun r h => ⟨fun c => (h c).2, sem_eq_zero_of_no_sems (by decide) r.2⟩)
    (Cert.ConvFwdRefIdeal.Value.run (F := Ideal) m ρ)

/-- The convolution under `silu`: the kernel's array is the reference's. -/
theorem algebraic : Cert.algebraic_ConvFwdIdeal_ConvFwdRefIdeal (hConvFwdIdeal := Cert.ConvFwdIdeal.Gen.facts)
    (hConvFwdRefIdeal := Cert.ConvFwdRefIdeal.Gen.facts) := by
  intro m g m' g' _ hm
  refine ⟨outArr m, ?_, ?_⟩
  · exact (θ_run _ _ _).mono (fun r h c => ⟨(h c).1.trans (final m c), (h c).2⟩) (Cert.ConvFwdIdeal.Value.run_blocks m g)
  · refine (θ_run _ _ _).mono (fun r h c => ⟨(h c).1.trans ?_, (h c).2⟩) (Cert.ConvFwdRefIdeal.Value.run m' g')
    obtain ⟨a0, a1, a2⟩ := hm c
    unfold Cert.ConvFwdRefIdeal.Value.res_main_v42
    rw [a0, a1, a2]
    funext i
    obtain ⟨T, k, rfl⟩ : ∃ (T : Fin 8192) (k : Fin 3072), i = ix2 T k := ⟨i 0, i 1, eq_ix2 i⟩
    exact outR_apply _ _ _ T k
end
end Cert.ConvFwdIdeal.Hand
end
-- ==== Proof.WgradMath.lean ====
module

public import Idealize.ShloMosaic.Lib.Pointwise
public import Idealize.ShloMosaic.Lib.Tactic

/-! Sums over the tokens, taken in four blocks. -/

@[expose] public section
noncomputable section
namespace Cert.Wgrad4

/-- Token `k` of block `j`. -/
abbrev tok (j : ℕ) (k : Fin 2048) : Fin 8192 := ⟨2048 * (j % 4) + k.val, by omega⟩
/-- Column `x` of block `q`, of four blocks of `n`. -/
abbrev col {n : ℕ} (q : ℕ) (x : Fin n) : Fin (4 * n) := ⟨n * (q % 4) + x.val, by
  have := x.isLt; have : n * (q % 4) ≤ n * 3 := Nat.mul_le_mul_left _ (by omega); omega⟩
/-- A sum over the tokens, block by block. -/
theorem sum_tok (f : Fin 8192 → EReal) : ∑ T, f T = ∑ j : Fin 4, ∑ k : Fin 2048, f (tok j.val k) := by
  rw [← Fintype.sum_prod_type', ← (finProdFinEquiv (m := 4) (n := 2048)).sum_comp f]
  exact Finset.sum_congr rfl fun p _ => congrArg f (Fin.ext (by have := p.1.isLt; simp [finProdFinEquiv]; omega))

/-- What starts afresh at every fourth point and grows by the point's addend at the others is the sum of the addends so far. -/
theorem run_sum {N : ℕ} (J : ℕ) (f : (n : ℕ) → n < N → EReal) (M : ℕ → EReal) (h0 : ∀ n h, n % 4 = 0 → f n h = M n)
    (hs : ∀ n (h : n + 1 < N), (n + 1) % 4 ≠ 0 → (n + 1) % 4 ≤ J → f (n + 1) h = f n (Nat.lt_of_succ_lt h) + M (n + 1)) :
    ∀ n (h : n < N), n % 4 ≤ J → f n h = ∑ s ∈ Finset.range (n % 4 + 1), M (4 * (n / 4) + s)
  | 0, h, _ => by rw [h0 0 h rfl]; simp
  | n + 1, h, hJ => by
    by_cases e : (n + 1) % 4 = 0
    · rw [h0 _ h e, e, Finset.sum_range_one, show 4 * ((n + 1) / 4) + 0 = n + 1 from by omega]
    · rw [hs n h e hJ, run_sum J f M h0 hs n _ (by omega), show (n + 1) % 4 = n % 4 + 1 from by omega, Finset.sum_range_succ _ (n % 4 + 1),
        show (n + 1) / 4 = n / 4 from by omega, show 4 * (n / 4) + (n % 4 + 1) = n + 1 from by omega]

/-- The addends of the four points of a run are the whole sum. -/
theorem sum_run (q : ℕ) (F : Fin 8192 → EReal) :
    ∑ s ∈ Finset.range 4, (∑ k : Fin 2048, F (tok (4 * q + s) k)) = ∑ T, F T := by
  rw [sum_tok, Finset.sum_range]
  refine Finset.sum_congr rfl fun j _ => Finset.sum_congr rfl fun k _ => congrArg F (Fin.ext ?_)
  show 2048 * ((4 * q + j.val) % 4) + k.val = 2048 * (j.val % 4) + k.val
  omega

end Cert.Wgrad4
end
-- ==== Proof.WgradRef.lean ====
module

public import proofs.«01_k».proof.Proof.WgradMath
public import proofs.«01_k».proof.Defs
public import proofs.«01_k».proof.Proof.Gen.WgradIdeal.Value
public import proofs.«01_k».proof.Proof.Gen.WgradRefIdeal.Run
public import Idealize.ShloMosaic.Lib.Claim
public import Idealize.ShloMosaic.Lib.Pointwise
public import Idealize.ShloMosaic.Lib.Tactic

/-! The weight gradient: the kernel's sum over four blocks of tokens is the reference's product. -/

@[expose] public section
set_option maxRecDepth 16384
noncomputable section
namespace Cert.WgradIdeal.Hand

open Cert.WgradIdeal Cert.WgradIdeal.Gen Idealize.ShloMosaic Idealize.ShloMosaic.TcCoe Idealize.SL.Sem Cert.Wgrad4

theorem lt16 (t : Fin cfg0.N) : t.val < 16 := lt_of_lt_of_eq t.isLt (show cfg0.N = 16 from N_0)
theorem idxs (t : Fin cfg0.N) : (win0_0.index t 0 = t.val % 4 ∧ win0_0.index t 1 = 0) ∧ (win0_1.index t 0 = t.val % 4 ∧ win0_1.index t 1 = t.val / 4) :=
  (by decide +kernel : ∀ t : Fin grid0.N, (win0_0.index t 0 = t.val % 4 ∧ win0_0.index t 1 = 0) ∧ (win0_1.index t 0 = t.val % 4 ∧ win0_1.index t 1 = t.val / 4)) t

/-- What a point adds to the block. -/
theorem pay2_apply (o : FVec Ideal S1024x1408 .f32) (u : FVec Ideal S2048x1024 .bf16) (z : FVec Ideal S2048x1408 .bf16) (a : Fin 1024) (x : Fin 1408) :
    k0_pay2 (F := Ideal) o u z (ix2 a x) = o (ix2 a x) + (∑ k : Fin 2048, u (ix2 k a) * z (ix2 k x) : EReal) := by
  pointwise [k0_pay2]
theorem pay1_apply (a : Fin 1024) (x : Fin 1408) : k0_pay1 (F := Ideal) (ix2 a x) = (0 : EReal) := by
  pointwise [k0_pay1]

section
variable (μ : (ℓ : Loc nD τ sig) → Buf (Elt Ideal) ℓ) (c : Dev nD)

theorem blk0 (t : Fin cfg0.N) (k : Fin 2048) (a : Fin 1024) :
    (iblk μ c 0 t : Vec Ideal S2048x1024 .bf16) (ix2 k a) = μ ((c : Thread nD τ).loc main_arg0) (ix2 (tok t.val k) a) := by
  unfold iblk
  rw [View.read_apply]
  show V μ c main_v0 _ = _
  have e : ((cfg0.win 0).blk t).view.emb (ix2 k a) = (ix2 (tok t.val k) a : S8192x1024.Idx) := by
    obtain ⟨h0, h1⟩ := (idxs t).1
    funext b; apply Fin.ext
    match b with
    | ⟨0, _⟩ => show win0_0.index t 0 * 2048 + 1 * k.val = 2048 * (t.val % 4) + k.val; rw [h0]; omega
    | ⟨1, _⟩ => show win0_0.index t 1 * 1024 + 1 * a.val = a.val; rw [h1]; omega
  exact congrArg (V μ c main_v0) e
theorem blk1 (t : Fin cfg0.N) (k : Fin 2048) (x : Fin 1408) :
    (iblk μ c 1 t : Vec Ideal S2048x1408 .bf16) (ix2 k x) = μ ((c : Thread nD τ).loc main_arg1) (ix2 (tok t.val k) (col (n := 1408) (t.val / 4) x)) := by
  unfold iblk
  rw [View.read_apply]
  show V μ c main_v1 _ = _
  have e : ((cfg0.win 1).blk t).view.emb (ix2 k x) = (ix2 (tok t.val k) (col (n := 1408) (t.val / 4) x) : S8192x5632.Idx) := by
    obtain ⟨h0, h1⟩ := (idxs t).2
    have ht := lt16 t
    funext b; apply Fin.ext
    match b with
    | ⟨0, _⟩ => show win0_1.index t 0 * 2048 + 1 * k.val = 2048 * (t.val % 4) + k.val; rw [h0]; omega
    | ⟨1, _⟩ => show win0_1.index t 1 * 1408 + 1 * x.val = 1408 * (t.val / 4 % 4) + x.val; rw [h1]; omega
  exact congrArg (V μ c main_v1) e

/-- The two arguments. -/
abbrev uA : S8192x1024.Idx → EReal := μ ((c : Thread nD τ).loc main_arg0)
abbrev zA : S8192x5632.Idx → EReal := μ ((c : Thread nD τ).loc main_arg1)

/-- A point's addend: the product over its block of tokens. -/
def addend (n : ℕ) (i : S1024x1408.Idx) : EReal :=
  ∑ k : Fin 2048, uA μ c (ix2 (tok n k) (i 0)) * zA μ c (ix2 (tok n k) (col (n := 1408) (n / 4) (i 1)))

theorem step_apply (n : ℕ) (h : n < cfg0.N) (acc : S1024x1408.Idx → EReal) (i : S1024x1408.Idx) :
    k0_pay2 (F := Ideal) acc (iblk μ c 0 ⟨n, h⟩) (iblk μ c 1 ⟨n, h⟩) i = acc i + addend μ c n i := by
  obtain ⟨a, x, rfl⟩ : ∃ (a : Fin 1024) (x : Fin 1408), i = ix2 a x := ⟨i 0, i 1, eq_ix2 i⟩
  refine (pay2_apply _ _ _ a x).trans (congrArg (fun s : EReal => acc (ix2 a x) + s) (Finset.sum_congr rfl fun k _ => ?_))
  exact congrArg₂ (fun p q : EReal => p * q) (blk0 μ c ⟨n, h⟩ k a) (blk1 μ c ⟨n, h⟩ k x)

/-- The array the run leaves is the whole product. -/
theorem G2_apply (a : Fin 1024) (x : Fin 5632) : Value.G2 μ c (ix2 a x) =
    (∑ T : Fin 8192, uA μ c (ix2 T a) * zA μ c (ix2 T x) : EReal) := by
  have hr : Value.run2Of (ix2 a x) = x.val / 1408 := by
    show 4 * (a.val / 1024 - 0) + 1 * (x.val / 1408 - 0) = _
    omega
  have hN : cfg0.N = 16 := N_0
  unfold Value.G2
  rw [dif_pos (by rw [hr]; omega)]
  refine (Pipeline.accAt_add_apply (ι := S1024x1408.Idx) (β := EReal) (Value.reset2 μ c) (Value.step2 μ c) (fun _ => 0) (addend μ c)
    (4 * Value.run2Of (ix2 a x)) 3 (fun h i => (step_apply μ c _ h _ i).trans
      (congrArg (fun s : EReal => s + addend μ c (4 * Value.run2Of (ix2 a x)) i) (by rw [eq_ix2 i]; exact pay1_apply _ _)))
    (fun n h acc i _ _ => step_apply μ c n h acc i) 3 le_rfl (by rw [hr]; omega) (Value.loc2Of (ix2 a x))).trans ?_
  rw [hr, zero_add]
  refine Eq.trans (Finset.sum_congr rfl fun s hs => ?_) (sum_run (x.val / 1408) fun T => uA μ c (ix2 T a) * zA μ c (ix2 T x))
  have hs := Finset.mem_range.mp hs
  have e2 : col (n := 1408) ((4 * (x.val / 1408) + s) / 4) (Value.loc2Of (ix2 a x) 1) = x :=
    Fin.ext (by show 1408 * ((4 * (x.val / 1408) + s) / 4 % 4) + x.val % 1408 = x.val; omega)
  have e3 : Value.loc2Of (ix2 a x) 0 = a := Fin.ext (by show a.val % 1024 = a.val; omega)
  unfold addend
  rw [e2, e3]
end

theorem frame_ref : Cert.quiescent_WgradRefIdeal (hWgradRefIdeal := Cert.WgradRefIdeal.Gen.facts) := fun m ρ _ =>
  (θ_run Cert.WgradRefIdeal.defs _ _).mono (fun r h => ⟨fun c => (h c).2, sem_eq_zero_of_no_sems (by decide) r.2⟩)
    (Cert.WgradRefIdeal.Value.run (F := Ideal) m ρ)

/-- The weight gradient: the kernel's array is the reference's. -/
theorem algebraic : Cert.algebraic_WgradIdeal_WgradRefIdeal (hWgradIdeal := Cert.WgradIdeal.Gen.facts)
    (hWgradRefIdeal := Cert.WgradRefIdeal.Gen.facts) := by
  intro m g m' g' _ hm
  refine ⟨_, Cert.WgradIdeal.Value.run (F := Ideal) m g, ?_⟩
  refine (θ_run _ _ _).mono (fun r h c => ⟨(h c).1.trans ?_, (h c).2⟩) (Cert.WgradRefIdeal.Value.run m' g')
  obtain ⟨a0, a1⟩ := hm c
  rw [a0, a1]
  funext i
  obtain ⟨a, x, rfl⟩ : ∃ (a : Fin 1024) (x : Fin 5632), i = ix2 a x := ⟨i 0, i 1, eq_ix2 i⟩
  refine Eq.trans ?_ (G2_apply m c a x).symm
  pointwise []
  exact Finset.sum_congr rfl fun T _ => mul_comm _ _

end Cert.WgradIdeal.Hand
end
-- ==== Proof.AdamwRef.lean ====
module

public import proofs.«01_k».proof.Defs
public import proofs.«01_k».proof.Proof.Gen.AdamwIdeal.Value
public import proofs.«01_k».proof.Proof.Gen.AdamwRefIdeal.Run
public import proofs.«01_k».proof.Proof.Gen.AdamwRefIdeal.Read
public import Idealize.ShloMosaic.Lib.Claim
public import Idealize.ShloMosaic.Lib.Pointwise
public import Idealize.ShloMosaic.Lib.Tactic

/-! The optimiser's step: the kernel's three arrays are the reference's, entry by entry. -/

@[expose] public section
set_option maxRecDepth 16384
noncomputable section
namespace Cert.AdamwIdeal.Hand

open Cert.AdamwIdeal Cert.AdamwIdeal.Gen Idealize.ShloMosaic Idealize.ShloMosaic.TcCoe Idealize.SL.Sem

/-! ## One entry -/

/-- The first moment. -/
def mom1 (g m : EReal) : EReal := Ideal.ofBits .f32 0x3F666666#32 * m + Ideal.ofBits .f32 0x3DCCCCCD#32 * g
/-- The second moment. -/
def mom2 (g v : EReal) : EReal := Ideal.ofBits .f32 0x3F7FBE77#32 * v + Ideal.ofBits .f32 0x3A83126F#32 * (g * g)
/-- The weight's change. -/
def delta (w g m v : EReal) : EReal := Ideal.ofBits .f32 0xBA83126F#32 *
  (Ideal.div (Ideal.div (mom1 g m) (Ideal.ofBits .f32 0x3F26BD02#32))
    (Ideal.sqrt (Ideal.div (mom2 g v) (Ideal.ofBits .f32 0x3C231ACC#32)) + Ideal.ofBits .f32 0x322BCC77#32) + Ideal.ofBits .f32 0x3C23D70A#32 * w)

theorem hz : (![0, 0] : Fin 2 → Nat) = fun _ => 0 := funext fun a => by fin_cases a <;> rfl

section
variable (w g m v : FVec Ideal S256x704 .f32) (i : S256x704.Idx)
theorem out4_apply : out0_4 (F := Ideal) w g m v i = delta (w i) (g i) (m i) (v i) := by
  unfold out0_4
  rw [View.canon_unit_zero hz]
  simp only [View.ld_unit_zero (S := S256x704) hz]
  rfl
theorem out5_apply : out0_5 (F := Ideal) w g m v i = mom1 (g i) (m i) := by
  unfold out0_5
  rw [View.canon_unit_zero hz]
  simp only [View.ld_unit_zero (S := S256x704) hz]
  rfl
theorem out6_apply : out0_6 (F := Ideal) w g m v i = mom2 (g i) (v i) := by
  unfold out0_6
  rw [View.canon_unit_zero hz]
  simp only [View.ld_unit_zero (S := S256x704) hz]
  rfl
end

/-! ## The arrays -/

theorem idxs (t : Fin cfg0.N) : win0_4.index t = ![t.val, 0] ∧ win0_5.index t = ![t.val, 0] ∧ win0_6.index t = ![t.val, 0] :=
  (by decide +kernel : ∀ t : Fin grid0.N, win0_4.index t = ![t.val, 0] ∧ win0_5.index t = ![t.val, 0] ∧ win0_6.index t = ![t.val, 0]) t

section
variable (μ : (ℓ : Loc nD τ sig) → Buf (Elt Ideal) ℓ) (c : Dev nD)
/-- The four arguments. -/
abbrev wA : S4096x704.Idx → EReal := μ ((c : Thread nD τ).loc main_arg0)
abbrev gA : S4096x704.Idx → EReal := μ ((c : Thread nD τ).loc main_arg1)
abbrev mA : S4096x704.Idx → EReal := μ ((c : Thread nD τ).loc main_arg2)
abbrev vA : S4096x704.Idx → EReal := μ ((c : Thread nD τ).loc main_arg3)
/-- The three arrays the run leaves. -/
def dArr : Buf (Elt Ideal) ((c : Thread nD τ).loc main_v0_0) := fun i : S4096x704.Idx => delta (wA μ c i) (gA μ c i) (mA μ c i) (vA μ c i)
def m1Arr : Buf (Elt Ideal) ((c : Thread nD τ).loc main_v0_1) := fun i : S4096x704.Idx => mom1 (gA μ c i) (mA μ c i)
def m2Arr : Buf (Elt Ideal) ((c : Thread nD τ).loc main_v0_2) := fun i : S4096x704.Idx => mom2 (gA μ c i) (vA μ c i)

/-- The point whose block holds an entry. -/
abbrev pt (i : S4096x704.Idx) : Fin cfg0.N := ⟨(i 0).val / 256, by have h : (i 0).val < 4096 := (i 0).isLt; rw [show cfg0.N = 16 from N_0]; omega⟩

theorem covers (i : S4096x704.Idx) {off : Fin 2 → ℕ} (h : off = ![(pt i).val, 0]) (a : Fin 2) :
    off a * S256x704.size a ≤ (i a).val ∧ (i a).val < off a * S256x704.size a + S256x704.size a := by
  have h0 : (i 0).val < 4096 := (i 0).isLt
  have h1 : (i 1).val < 704 := (i 1).isLt
  rw [h]
  match a with
  | ⟨0, _⟩ => show (i 0).val / 256 * 256 ≤ (i 0).val ∧ (i 0).val < (i 0).val / 256 * 256 + 256; omega
  | ⟨1, _⟩ => show 0 * 704 ≤ (i 1).val ∧ (i 1).val < 0 * 704 + 704; omega
theorem final4 : (dats μ 0 c).arrAt 4 cfg0.N = dArr μ c := by
  refine (dats μ 0 c).arrAt_eq_of_cover 4 (dArr μ c) (fun t _ => ?_) fun i => ⟨pt i, flush0_4 _, ?_⟩
  · rw [Value.flushed4]
    exact funext fun j => out4_apply _ _ _ _ _
  · show i ∈ ((View.whole main_v0_0).slice (win0_4.rect (pt i))).set
    rw [View.set_slice_whole, Rect.mem_set_unit]
    exact covers i (idxs (pt i)).1
theorem final5 : (dats μ 0 c).arrAt 5 cfg0.N = m1Arr μ c := by
  refine (dats μ 0 c).arrAt_eq_of_cover 5 (m1Arr μ c) (fun t _ => ?_) fun i => ⟨pt i, flush0_5 _, ?_⟩
  · rw [Value.flushed5]
    exact funext fun j => out5_apply _ _ _ _ _
  · show i ∈ ((View.whole main_v0_1).slice (win0_5.rect (pt i))).set
    rw [View.set_slice_whole, Rect.mem_set_unit]
    exact covers i (idxs (pt i)).2.1
theorem final6 : (dats μ 0 c).arrAt 6 cfg0.N = m2Arr μ c := by
  refine (dats μ 0 c).arrAt_eq_of_cover 6 (m2Arr μ c) (fun t _ => ?_) fun i => ⟨pt i, flush0_6 _, ?_⟩
  · rw [Value.flushed6]
    exact funext fun j => out6_apply _ _ _ _ _
  · show i ∈ ((View.whole main_v0_2).slice (win0_6.rect (pt i))).set
    rw [View.set_slice_whole, Rect.mem_set_unit]
    exact covers i (idxs (pt i)).2.2
end

theorem frame_ref : Cert.quiescent_AdamwRefIdeal (hAdamwRefIdeal := Cert.AdamwRefIdeal.Gen.facts) := fun m ρ _ =>
  (θ_run Cert.AdamwRefIdeal.defs _ _).mono (fun r h => ⟨fun c => (h c).2.2.2, sem_eq_zero_of_no_sems (by decide) r.2⟩)
    (Cert.AdamwRefIdeal.Value.run (F := Ideal) m ρ)

/-- The optimiser: the kernel's three arrays are the reference's. -/
theorem algebraic : Cert.algebraic_AdamwIdeal_AdamwRefIdeal (hAdamwIdeal := Cert.AdamwIdeal.Gen.facts)
    (hAdamwRefIdeal := Cert.AdamwRefIdeal.Gen.facts) := by
  intro m g m' g' _ hm
  refine ⟨dArr m, m1Arr m, m2Arr m, ?_, ?_⟩
  · exact (θ_run _ _ _).mono (fun r h c => ⟨(h c).1.trans (final4 m c), (h c).2.1.trans (final5 m c), (h c).2.2.1.trans (final6 m c), (h c).2.2.2⟩)
      (Cert.AdamwIdeal.Value.run_blocks m g)
  · refine (θ_run _ _ _).mono (fun r h c => ⟨(h c).1.trans ?_, (h c).2.1.trans ?_, (h c).2.2.1.trans ?_, (h c).2.2.2⟩) (Cert.AdamwRefIdeal.Value.run m' g')
    all_goals obtain ⟨a0, a1, a2, a3⟩ := hm c
    · rw [a0, a1, a2, a3]
      rfl
    · rw [a1, a2]
      rfl
    · rw [a1, a3]
      rfl

end Cert.AdamwIdeal.Hand
end
-- ==== Proof.WgradBRef.lean ====
module

public import proofs.«01_k».proof.Proof.WgradMath
public import proofs.«01_k».proof.Defs
public import proofs.«01_k».proof.Proof.Gen.WgradBIdeal.Value
public import proofs.«01_k».proof.Proof.Gen.WgradBRefIdeal.Run
public import proofs.«01_k».proof.Proof.Gen.WgradBRefIdeal.Read
public import Idealize.ShloMosaic.Lib.Claim

/-! The weight gradient with its columns in four blocks: the kernel's array is the reference's. -/

@[expose] public section
set_option maxRecDepth 16384
noncomputable section
namespace Cert.WgradBIdeal.Hand

open Cert.WgradBIdeal Cert.WgradBIdeal.Gen Idealize.ShloMosaic Idealize.ShloMosaic.TcCoe Idealize.SL.Sem Cert.Wgrad4

theorem hz : (![0, 0] : Fin 2 → Nat) = fun _ => 0 := funext fun a => by fin_cases a <;> rfl
theorem hz3 : (![0, 0, 0] : Fin 3 → Nat) = fun _ => 0 := funext fun a => by fin_cases a <;> rfl

/-! ## What a point computes -/

theorem pay2_apply (o : FVec Ideal S1x1024x704 .f32) (u : FVec Ideal S2048x1024 .bf16) (z : FVec Ideal S1x2048x704 .bf16) (a : Fin 1024) (x : Fin 704) :
    k0_pay2 (F := Ideal) o u z (ix3 0 a x) = o (ix3 0 a x) + (∑ k : Fin 2048, u (ix2 k a) * z (ix3 0 k x) : EReal) := by
  pointwise [k0_pay2]
theorem pay1_apply (a : Fin 1024) (x : Fin 704) : k0_pay1 (F := Ideal) (ix3 0 a x) = (0 : EReal) := by
  pointwise [k0_pay1]

section
variable (c : Dev nD) (i : grid0.Coords) (arg2 : Memref sig .tc .vmem S2048x1024 .bf16) (harg2 : arg2.IsWhole)
  (arg3 : Memref sig .tc .vmem S1x2048x704 .bf16) (harg3 : arg3.IsWhole) (arg5 : Memref sig .tc .vmem S1x1024x704 .f32) (harg5 : arg5.IsWhole)
  (x0 : Vec Ideal S2048x1024 .bf16) (x1 : Vec Ideal S1x2048x704 .bf16) (xo : Vec Ideal S1x1024x704 .f32)
/-- A run's first point, … -/
theorem bodyA (hc0 : cond0_0 i) : out0_A_2 c i arg2 harg2 arg3 harg3 arg5 harg5 hc0 x0 x1 = k0_pay2 (F := Ideal) (k0_pay1 (F := Ideal)) x0 x1 := by
  refine (View.read_writes_eq_canon _ _ _ (cover0_A_2 c i arg2 harg2 arg3 harg3 arg5 harg5 hc0 x0 x1)).trans ?_
  unfold kernelRun0_A
  dsimp only
  sl_unfold_words
  rw [View.canon_cons_unit_zero (S := S1x1024x704) hz3, View.readCov_unit_zero (S := S1x1024x704) _ hz3]
  simp only [View.readAt_eq_ld, Memref.IsWhole.read_unread, View.ld_unit_zero (S := S2048x1024) hz, View.ld_unit_zero (S := S1x2048x704) hz3]
/-- … and a later one. -/
theorem bodyB (hc0 : ¬cond0_0 i) : out0_B_2 c i arg2 harg2 arg3 harg3 arg5 harg5 hc0 x0 x1 xo = k0_pay2 (F := Ideal) xo x0 x1 := by
  refine (View.read_writes_eq_canon _ _ _ (cover0_B_2 c i arg2 harg2 arg3 harg3 arg5 harg5 hc0 x0 x1 xo)).trans ?_
  unfold kernelRun0_B
  dsimp only
  sl_unfold_words
  rw [View.canon_unit_zero (S := S1x1024x704) hz3]
  simp only [View.readAt_eq_ld, Memref.IsWhole.read_unread, View.ld_unit_zero (S := S2048x1024) hz, View.ld_unit_zero (S := S1x2048x704) hz3,
    View.ld_unit_zero (S := S1x1024x704) hz3]
end

/-! ## The blocks -/

theorem lt16 (t : Fin cfg0.N) : t.val < 16 := lt_of_lt_of_eq t.isLt (show cfg0.N = 16 from N_0)
theorem idxs (t : Fin cfg0.N) : win0_0.index t = ![t.val % 4, 0] ∧ win0_1.index t = ![t.val / 4, t.val % 4, 0] ∧ win0_2.index t = ![t.val / 4, 0, 0] :=
  (by decide +kernel : ∀ t : Fin grid0.N, win0_0.index t = ![t.val % 4, 0] ∧ win0_1.index t = ![t.val / 4, t.val % 4, 0] ∧ win0_2.index t = ![t.val / 4, 0, 0]) t

section
variable (μ : (ℓ : Loc nD τ sig) → Buf (Elt Ideal) ℓ) (c : Dev nD)
/-- The two arguments. -/
abbrev uA : S8192x1024.Idx → EReal := μ ((c : Thread nD τ).loc main_arg0)
abbrev zA : S8192x2816.Idx → EReal := μ ((c : Thread nD τ).loc main_arg1)

theorem V_z (q : ℕ) (T : Fin 8192) (x : Fin 704) : (V μ c main_v2 : S4x8192x704.Idx → EReal) (ix3 ⟨q % 4, by omega⟩ T x) = zA μ c (ix2 T (col q x)) := by
  have e : V μ c main_v2 = (transpose S4x8192x704 [1, 0, 2] (shapeCast S8192x4x704 (truncf .bf16 (μ ((c : Thread nD τ).loc main_arg1) : FVec Ideal S8192x2816 .f32) bitsLt_bf16_f32 : FVec Ideal S8192x2816 .bf16)
    shapeCasts_S8192x2816_S8192x4x704) transposes_S8192x4x704_S4x8192x704_1_0_2 : FVec Ideal S4x8192x704 .bf16) := by rfl
  rw [e]
  pointwise []
  refine congrArg (fun i => μ ((c : Thread nD τ).loc main_arg1) (ix2 T i)) (Fin.ext ?_)
  simp; omega
theorem blk0 (t : Fin cfg0.N) (k : Fin 2048) (a : Fin 1024) : (iblk μ c 0 t : Vec Ideal S2048x1024 .bf16) (ix2 k a) = uA μ c (ix2 (tok t.val k) a) := by
  unfold iblk
  rw [View.read_apply]
  show V μ c main_v3 _ = _
  have e : ((cfg0.win 0).blk t).view.emb (ix2 k a) = (ix2 (tok t.val k) a : S8192x1024.Idx) := by
    funext b; apply Fin.ext
    match b with
    | ⟨0, _⟩ => show win0_0.index t 0 * 2048 + 1 * k.val = 2048 * (t.val % 4) + k.val; rw [(idxs t).1]; simp; omega
    | ⟨1, _⟩ => show win0_0.index t 1 * 1024 + 1 * a.val = a.val; rw [(idxs t).1]; simp
  exact congrArg (V μ c main_v3) e
theorem blk1 (t : Fin cfg0.N) (k : Fin 2048) (x : Fin 704) : (iblk μ c 1 t : Vec Ideal S1x2048x704 .bf16) (ix3 0 k x) = zA μ c (ix2 (tok t.val k) (col (t.val / 4) x)) := by
  unfold iblk
  rw [View.read_apply]
  show V μ c main_v2 _ = _
  have e : ((cfg0.win 1).blk t).view.emb (ix3 0 k x) = (ix3 ⟨t.val / 4 % 4, by omega⟩ (tok t.val k) x : S4x8192x704.Idx) := by
    have ht := lt16 t
    funext b; apply Fin.ext
    match b with
    | ⟨0, _⟩ => show win0_1.index t 0 * 1 + 1 * 0 = t.val / 4 % 4; rw [(idxs t).2.1]; simp; omega
    | ⟨1, _⟩ => show win0_1.index t 1 * 2048 + 1 * k.val = 2048 * (t.val % 4) + k.val; rw [(idxs t).2.1]; simp; omega
    | ⟨2, _⟩ => show win0_1.index t 2 * 704 + 1 * x.val = x.val; rw [(idxs t).2.1]; simp
  exact (congrArg (V μ c main_v2) e).trans (V_z μ c _ _ x)

/-- A point's addend: the product over its block of tokens. -/
def addend (a : Fin 1024) (x : Fin 704) (n : ℕ) : EReal := ∑ k : Fin 2048, uA μ c (ix2 (tok n k) a) * zA μ c (ix2 (tok n k) (col (n / 4) x))
theorem step_apply (t : Fin cfg0.N) (acc : Vec Ideal S1x1024x704 .f32) (a : Fin 1024) (x : Fin 704) :
    k0_pay2 (F := Ideal) acc (iblk μ c 0 t) (iblk μ c 1 t) (ix3 0 a x) = acc (ix3 0 a x) + addend μ c a x t.val :=
  (pay2_apply _ _ _ a x).trans (congrArg (fun s : EReal => acc (ix3 0 a x) + s) (Finset.sum_congr rfl fun k _ =>
    congrArg₂ (fun p q : EReal => p * q) (blk0 μ c t k a) (blk1 μ c t k x)))

/-- What the output's buffer holds after a point. -/
theorem outs_at (a : Fin 1024) (x : Fin 704) (n : ℕ) (h : n < cfg0.N) :
    (outsAt0 μ c n h (ix3 0 a x) : EReal) = ∑ s ∈ Finset.range (n % 4 + 1), addend μ c a x (4 * (n / 4) + s) := by
  refine run_sum 3 (fun n h => outsAt0 μ c n h (ix3 0 a x)) _ (fun n h e => ?_) (fun n h e _ => ?_) n h (by omega)
  · rw [outsAt0_A μ c ⟨n, h⟩ e, bodyA, step_apply, pay1_apply, zero_add]
  · rw [outsAt0_B μ c ⟨n + 1, h⟩ e, bodyB, step_apply]
    rfl

/-- The array the run leaves. -/
def gArr : Buf (Elt Ideal) ((c : Thread nD τ).loc main_v5) := fun i : S4x1024x704.Idx =>
  (∑ T : Fin 8192, uA μ c (ix2 T (i 1)) * zA μ c (ix2 T (col (i 0).val (i 2))) : EReal)

theorem final2 : (dats μ 0 c).arrAt 2 cfg0.N = gArr μ c := by
  refine (dats μ 0 c).arrAt_eq_of_cover 2 (gArr μ c) (fun t hf => ?_) fun i => ?_
  · rw [Value.flushed2]
    have ht := lt16 t
    have hm : t.val % 4 = 3 := (flush0_2 t).mp hf
    funext j
    rw [View.read_apply]
    obtain ⟨z, a, x, rfl⟩ : ∃ (z : Fin 1) (a : Fin 1024) (x : Fin 704), j = ix3 z a x := ⟨j 0, j 1, j 2, eq_ix3 j⟩
    obtain rfl : z = 0 := Subsingleton.elim _ _
    have he : ((cfg0.win 2).blk t).view.emb (ix3 0 a x) = (ix3 ⟨t.val / 4, by omega⟩ a x : S4x1024x704.Idx) := by
      funext b; apply Fin.ext
      match b with
      | ⟨0, _⟩ => show win0_2.index t 0 * 1 + 1 * 0 = t.val / 4; rw [(idxs t).2.2]; simp
      | ⟨1, _⟩ => show win0_2.index t 1 * 1024 + 1 * a.val = a.val; rw [(idxs t).2.2]; simp
      | ⟨2, _⟩ => show win0_2.index t 2 * 704 + 1 * x.val = x.val; rw [(idxs t).2.2]; simp
    rw [he]
    refine (outs_at μ c a x t.val t.isLt).trans ?_
    rw [hm]
    refine Eq.trans (Finset.sum_congr rfl fun s hs => ?_) (sum_run (t.val / 4) fun T => uA μ c (ix2 T a) * zA μ c (ix2 T (col (t.val / 4) x)))
    have hs := Finset.mem_range.mp hs
    unfold addend
    rw [show (4 * (t.val / 4) + s) / 4 = t.val / 4 from by omega]
  · have l0 : (i 0 : Nat) < 4 := (i 0).isLt
    have l1 : (i 1 : Nat) < 1024 := (i 1).isLt
    have l2 : (i 2 : Nat) < 704 := (i 2).isLt
    have hN : cfg0.N = 16 := N_0
    let t : Fin cfg0.N := ⟨4 * (i 0 : Nat) + 3, by omega⟩
    refine ⟨t, (flush0_2 t).mpr (by dsimp only [t]; omega), ?_⟩
    show i ∈ ((View.whole main_v5).slice (win0_2.rect t)).set
    rw [View.set_slice_whole, Rect.mem_set_unit]
    intro b
    show win0_2.index t b * S1x1024x704.size b ≤ (i b).val ∧ (i b).val < win0_2.index t b * S1x1024x704.size b + S1x1024x704.size b
    rw [(idxs t).2.2]
    match b with
    | ⟨0, _⟩ => show t.val / 4 * 1 ≤ (i 0 : Nat) ∧ (i 0 : Nat) < t.val / 4 * 1 + 1; dsimp only [t]; omega
    | ⟨1, _⟩ => show 0 * 1024 ≤ (i 1 : Nat) ∧ (i 1 : Nat) < 0 * 1024 + 1024; omega
    | ⟨2, _⟩ => show 0 * 704 ≤ (i 2 : Nat) ∧ (i 2 : Nat) < 0 * 704 + 704; omega
end

theorem frame_ref : Cert.quiescent_WgradBRefIdeal (hWgradBRefIdeal := Cert.WgradBRefIdeal.Gen.facts) := fun m ρ _ =>
  (θ_run Cert.WgradBRefIdeal.defs _ _).mono (fun r h => ⟨fun c => (h c).2, sem_eq_zero_of_no_sems (by decide) r.2⟩)
    (Cert.WgradBRefIdeal.Value.run (F := Ideal) m ρ)

/-- The weight gradient by blocks of columns: the kernel's array is the reference's. -/
theorem algebraic : Cert.algebraic_WgradBIdeal_WgradBRefIdeal (hWgradBIdeal := Cert.WgradBIdeal.Gen.facts)
    (hWgradBRefIdeal := Cert.WgradBRefIdeal.Gen.facts) := by
  intro m g m' g' _ hm
  refine ⟨gArr m, ?_, ?_⟩
  · exact (θ_run _ _ _).mono (fun r h c => ⟨(h c).1.trans (final2 m c), (h c).2⟩) (Cert.WgradBIdeal.Value.run_blocks m g)
  · refine (θ_run _ _ _).mono (fun r h c => ⟨(h c).1.trans ?_, (h c).2⟩) (Cert.WgradBRefIdeal.Value.run m' g')
    obtain ⟨a0, a1⟩ := hm c
    rw [Cert.WgradBRefIdeal.Read.val_main_v5_eq, a0, a1]
    funext i
    obtain ⟨q, a, x, rfl⟩ : ∃ (q : Fin 4) (a : Fin 1024) (x : Fin 704), i = ix3 q a x := ⟨i 0, i 1, i 2, eq_ix3 i⟩
    pointwise [Cert.WgradBRefIdeal.Read.val_main_v5, Cert.WgradBRefIdeal.Read.val_main_v4, Cert.WgradBRefIdeal.Read.val_main_v3, Cert.WgradBRefIdeal.Read.val_main_v2]
    show _ = (∑ T : Fin 8192, uA m c (ix2 T a) * zA m c (ix2 T (col q.val x)) : EReal)
    refine Finset.sum_congr rfl fun T _ => (mul_comm _ _).trans (congrArg (fun y => uA m c (ix2 T a) * zA m c (ix2 T y)) (Fin.ext ?_))
    simp; omega

end Cert.WgradBIdeal.Hand
end
-- ==== Proof.lean ====
/- The claims, assembled: the frames of every kernel and of its idealization are the generated ones, the frames of the
   references and the value claims are proved in the hand-written modules. -/
module

public import proofs.«01_k».proof.Defs
public import proofs.«01_k».proof.Proof.Gen.Loss.Frame
public import proofs.«01_k».proof.Proof.LossValue
public import proofs.«01_k».proof.Proof.Gen.Conv.Frame
public import proofs.«01_k».proof.Proof.ConvRef
public import proofs.«01_k».proof.Proof.Gen.NormQ.Frame
public import proofs.«01_k».proof.Proof.NormQRef
public import proofs.«01_k».proof.Proof.Gen.NormKv.Frame
public import proofs.«01_k».proof.Proof.NormKvRef
public import proofs.«01_k».proof.Proof.Gen.NormIn.Frame
public import proofs.«01_k».proof.Proof.NormInRef
public import proofs.«01_k».proof.Proof.Gen.AttnFwd.Frame
public import proofs.«01_k».proof.Proof.AttnFwdRef
public import proofs.«01_k».proof.Proof.Gen.SsdFwd.Frame
public import proofs.«01_k».proof.Proof.SsdFwdRef
public import proofs.«01_k».proof.Proof.Gen.Gate.Frame
public import proofs.«01_k».proof.Proof.GateRef
public import proofs.«01_k».proof.Proof.Gen.GateFwd.Frame
public import proofs.«01_k».proof.Proof.GateFwdRef
public import proofs.«01_k».proof.Proof.Gen.NormFwdQ.Frame
public import proofs.«01_k».proof.Proof.NormFwdQValue
public import proofs.«01_k».proof.Proof.Gen.NormFwdKv.Frame
public import proofs.«01_k».proof.Proof.NormFwdKvValue
public import proofs.«01_k».proof.Proof.Gen.NormFwdIn.Frame
public import proofs.«01_k».proof.Proof.NormFwdInValue
public import proofs.«01_k».proof.Proof.Gen.FfnFwd.Frame
public import proofs.«01_k».proof.Proof.FfnFwdRef
public import proofs.«01_k».proof.Proof.Gen.ConvFwd.Frame
public import proofs.«01_k».proof.Proof.ConvFwdRef
public import proofs.«01_k».proof.Proof.Gen.Wgrad.Frame
public import proofs.«01_k».proof.Proof.WgradRef
public import proofs.«01_k».proof.Proof.Gen.Adamw.Frame
public import proofs.«01_k».proof.Proof.AdamwRef
public import proofs.«01_k».proof.Proof.Gen.WgradB.Frame
public import proofs.«01_k».proof.Proof.WgradBRef

@[expose] public section

noncomputable section

namespace Cert.Proof

open Idealize.ShloMosaic Idealize.SL.Sem

/-- All the claims of this certificate. -/
theorem claim : Cert.Claim :=
  ⟨Cert.Loss.Gen.facts, Cert.LossIdeal.Gen.facts, Cert.LossRefIdeal.Gen.facts,
    Cert.Conv.Gen.facts, Cert.ConvIdeal.Gen.facts, Cert.ConvRefIdeal.Gen.facts,
    Cert.NormQ.Gen.facts, Cert.NormQIdeal.Gen.facts, Cert.NormQRefIdeal.Gen.facts,
    Cert.NormKv.Gen.facts, Cert.NormKvIdeal.Gen.facts, Cert.NormKvRefIdeal.Gen.facts,
    Cert.NormIn.Gen.facts, Cert.NormInIdeal.Gen.facts, Cert.NormInRefIdeal.Gen.facts,
    Cert.AttnFwd.Gen.facts, Cert.AttnFwdIdeal.Gen.facts, Cert.AttnFwdRefIdeal.Gen.facts,
    Cert.SsdFwd.Gen.facts, Cert.SsdFwdIdeal.Gen.facts, Cert.SsdFwdRefIdeal.Gen.facts,
    Cert.Gate.Gen.facts, Cert.GateIdeal.Gen.facts, Cert.GateRefIdeal.Gen.facts,
    Cert.GateFwd.Gen.facts, Cert.GateFwdIdeal.Gen.facts, Cert.GateFwdRefIdeal.Gen.facts,
    Cert.NormFwdQ.Gen.facts, Cert.NormFwdQIdeal.Gen.facts, Cert.NormFwdQRefIdeal.Gen.facts,
    Cert.NormFwdKv.Gen.facts, Cert.NormFwdKvIdeal.Gen.facts, Cert.NormFwdKvRefIdeal.Gen.facts,
    Cert.NormFwdIn.Gen.facts, Cert.NormFwdInIdeal.Gen.facts, Cert.NormFwdInRefIdeal.Gen.facts,
    Cert.FfnFwd.Gen.facts, Cert.FfnFwdIdeal.Gen.facts, Cert.FfnFwdRefIdeal.Gen.facts,
    Cert.ConvFwd.Gen.facts, Cert.ConvFwdIdeal.Gen.facts, Cert.ConvFwdRefIdeal.Gen.facts,
    Cert.Wgrad.Gen.facts, Cert.WgradIdeal.Gen.facts, Cert.WgradRefIdeal.Gen.facts,
    Cert.Adamw.Gen.facts, Cert.AdamwIdeal.Gen.facts, Cert.AdamwRefIdeal.Gen.facts,
    Cert.WgradB.Gen.facts, Cert.WgradBIdeal.Gen.facts, Cert.WgradBRefIdeal.Gen.facts,
    Cert.ConvIdeal.Hand.pre_facts, Cert.NormQIdeal.Hand.pre_facts, Cert.NormKvIdeal.Hand.pre_facts,
    Cert.NormInIdeal.Hand.pre_facts, Cert.AttnFwdIdeal.Hand.pre_facts, Cert.SsdFwdIdeal.Hand.pre_facts,
    fun m ρ _ => Cert.Loss.Gen.frame m ρ,
    fun m ρ _ => Cert.LossIdeal.Gen.frame m ρ,
    Cert.LossIdeal.Hand.frame_ref,
    fun m ρ _ => Cert.Conv.Gen.frame m ρ,
    fun m ρ _ => Cert.ConvIdeal.Gen.frame m ρ,
    fun m ρ _ => Cert.ConvIdeal.Gen.frame m ρ,
    Cert.ConvIdeal.Hand.frame_ref,
    fun m ρ _ => Cert.ConvIdeal.Hand.frame_ref m ρ trivial,
    fun m ρ _ => Cert.NormQ.Gen.frame m ρ,
    fun m ρ _ => Cert.NormQIdeal.Gen.frame m ρ,
    fun m ρ _ => Cert.NormQIdeal.Gen.frame m ρ,
    Cert.NormQIdeal.Hand.frame_ref,
    fun m ρ _ => Cert.NormQIdeal.Hand.frame_ref m ρ trivial,
    fun m ρ _ => Cert.NormKv.Gen.frame m ρ,
    fun m ρ _ => Cert.NormKvIdeal.Gen.frame m ρ,
    fun m ρ _ => Cert.NormKvIdeal.Gen.frame m ρ,
    Cert.NormKvIdeal.Hand.frame_ref,
    fun m ρ _ => Cert.NormKvIdeal.Hand.frame_ref m ρ trivial,
    fun m ρ _ => Cert.NormIn.Gen.frame m ρ,
    fun m ρ _ => Cert.NormInIdeal.Gen.frame m ρ,
    fun m ρ _ => Cert.NormInIdeal.Gen.frame m ρ,
    Cert.NormInIdeal.Hand.frame_ref,
    fun m ρ _ => Cert.NormInIdeal.Hand.frame_ref m ρ trivial,
    fun m ρ _ => Cert.AttnFwd.Gen.frame m ρ,
    fun m ρ _ => Cert.AttnFwdIdeal.Gen.frame m ρ,
    fun m ρ _ => Cert.AttnFwdIdeal.Gen.frame m ρ,
    Cert.AttnFwdIdeal.Hand.frame_ref,
    fun m ρ _ => Cert.AttnFwdIdeal.Hand.frame_ref m ρ trivial,
    fun m ρ _ => Cert.SsdFwd.Gen.frame m ρ,
    fun m ρ _ => Cert.SsdFwdIdeal.Gen.frame m ρ,
    fun m ρ _ => Cert.SsdFwdIdeal.Gen.frame m ρ,
    Cert.SsdFwdIdeal.Hand.frame_ref,
    fun m ρ _ => Cert.SsdFwdIdeal.Hand.frame_ref m ρ trivial,
    fun m ρ _ => Cert.Gate.Gen.frame m ρ,
    fun m ρ _ => Cert.GateIdeal.Gen.frame m ρ,
    Cert.GateIdeal.Hand.frame_ref,
    fun m ρ _ => Cert.GateFwd.Gen.frame m ρ,
    fun m ρ _ => Cert.GateFwdIdeal.Gen.frame m ρ,
    Cert.GateFwdIdeal.Hand.frame_ref,
    fun m ρ _ => Cert.NormFwdQ.Gen.frame m ρ,
    fun m ρ _ => Cert.NormFwdQIdeal.Gen.frame m ρ,
    Cert.NormFwdQIdeal.Hand.frame_ref,
    fun m ρ _ => Cert.NormFwdKv.Gen.frame m ρ,
    fun m ρ _ => Cert.NormFwdKvIdeal.Gen.frame m ρ,
    Cert.NormFwdKvIdeal.Hand.frame_ref,
    fun m ρ _ => Cert.NormFwdIn.Gen.frame m ρ,
    fun m ρ _ => Cert.NormFwdInIdeal.Gen.frame m ρ,
    Cert.NormFwdInIdeal.Hand.frame_ref,
    fun m ρ _ => Cert.FfnFwd.Gen.frame m ρ,
    fun m ρ _ => Cert.FfnFwdIdeal.Gen.frame m ρ,
    Cert.FfnFwdIdeal.Hand.frame_ref,
    fun m ρ _ => Cert.ConvFwd.Gen.frame m ρ,
    fun m ρ _ => Cert.ConvFwdIdeal.Gen.frame m ρ,
    Cert.ConvFwdIdeal.Hand.frame_ref,
    fun m ρ _ => Cert.Wgrad.Gen.frame m ρ,
    fun m ρ _ => Cert.WgradIdeal.Gen.frame m ρ,
    Cert.WgradIdeal.Hand.frame_ref,
    fun m ρ _ => Cert.Adamw.Gen.frame m ρ,
    fun m ρ _ => Cert.AdamwIdeal.Gen.frame m ρ,
    Cert.AdamwIdeal.Hand.frame_ref,
    fun m ρ _ => Cert.WgradB.Gen.frame m ρ,
    fun m ρ _ => Cert.WgradBIdeal.Gen.frame m ρ,
    Cert.WgradBIdeal.Hand.frame_ref,
    trivial,
    Cert.LossIdeal.Hand.algebraic,
    trivial,
    Cert.ConvIdeal.Hand.algebraic,
    trivial,
    Cert.NormQIdeal.Hand.algebraic,
    trivial,
    Cert.NormKvIdeal.Hand.algebraic,
    trivial,
    Cert.NormInIdeal.Hand.algebraic,
    IdealRules.named_const.statement _ _ _ _ _ rfl,
    Cert.AttnFwdIdeal.Hand.algebraic,
    IdealRules.named_const.statement _ _ _ _ _ rfl,
    Cert.SsdFwdIdeal.Hand.algebraic,
    trivial,
    Cert.GateIdeal.Hand.algebraic,
    trivial,
    Cert.GateFwdIdeal.Hand.algebraic,
    trivial,
    Cert.NormFwdQIdeal.Hand.algebraic,
    trivial,
    Cert.NormFwdKvIdeal.Hand.algebraic,
    trivial,
    Cert.NormFwdInIdeal.Hand.algebraic,
    trivial,
    Cert.FfnFwdIdeal.Hand.algebraic,
    trivial,
    Cert.ConvFwdIdeal.Hand.algebraic,
    trivial,
    Cert.WgradIdeal.Hand.algebraic,
    trivial,
    Cert.AdamwIdeal.Hand.algebraic,
    trivial,
    Cert.WgradBIdeal.Hand.algebraic⟩

end Cert.Proof

end
